-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailReferenceIdeal (m : (ℓ : Loc Cert.TailReferenceIdeal.nD Cert.TailReferenceIdeal.τ Cert.TailReferenceIdeal.sig) → Buf (Elt Ideal) ℓ) : Prop :=
  True

def Pre_State (m : (ℓ : Loc Cert.State.nD Cert.State.τ Cert.State.sig) → Buf (Elt Bits) ℓ) : Prop :=
  True

def Pre_StateIdeal (m : (ℓ : Loc Cert.StateIdeal.nD Cert.StateIdeal.τ Cert.StateIdeal.sig) → Buf (Elt Ideal) ℓ) : Prop :=
  True

def Pre_StateReferenceIdeal (m : (ℓ : Loc Cert.StateReferenceIdeal.nD Cert.StateReferenceIdeal.τ Cert.StateReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
      ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3)
      ∧ r.2.mem ((c.tc : Thread Cert.DownReferenceIdeal.nD Cert.DownReferenceIdeal.τ).loc Cert.DownReferenceIdeal.main_arg4) = m ((c.tc : Thread Cert.DownReferenceIdeal.nD Cert.DownReferenceIdeal.τ).loc Cert.DownReferenceIdeal.main_arg4))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
      ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4))
      ∧ r.2.sem = fun _ => 0)

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3)
      ∧ r.2.mem ((c.tc : Thread Cert.Tail.nD Cert.Tail.τ).loc Cert.Tail.main_arg4) = m ((c.tc : Thread Cert.Tail.nD Cert.Tail.τ).loc Cert.Tail.main_arg4)
      ∧ r.2.mem ((c.tc : Thread Cert.Tail.nD Cert.Tail.τ).loc Cert.Tail.main_arg5) = m ((c.tc : Thread Cert.Tail.nD Cert.Tail.τ).loc Cert.Tail.main_arg5)
      ∧ r.2.mem ((c.tc : Thread Cert.Tail.nD Cert.Tail.τ).loc Cert.Tail.main_arg6) = m ((c.tc : Thread Cert.Tail.nD Cert.Tail.τ).loc Cert.Tail.main_arg6))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6))
      ∧ r.2.sem = fun _ => 0)

def quiescent_TailReferenceIdeal [hTailReferenceIdeal : Cert.TailReferenceIdeal.Facts] : Prop :=
  ∀ (m : (ℓ : Loc Cert.TailReferenceIdeal.nD Cert.TailReferenceIdeal.τ Cert.TailReferenceIdeal.sig) → Buf (Elt Ideal) ℓ) (g : Dev Cert.TailReferenceIdeal.nD → PrngReg), Pre_TailReferenceIdeal m →
    θ_run (Cert.TailReferenceIdeal.defs (F := Ideal)) (onTc (τ := Cert.TailReferenceIdeal.τ) (Cert.TailReferenceIdeal.main (F := Ideal))) ⟨m, fun _ => 0, g⟩ (fun r => (∀ c : Dev Cert.TailReferenceIdeal.nD,
      r.2.mem ((c.tc : Thread Cert.TailReferenceIdeal.nD Cert.TailReferenceIdeal.τ).loc Cert.TailReferenceIdeal.main_arg0) = m ((c.tc : Thread Cert.TailReferenceIdeal.nD Cert.TailReferenceIdeal.τ).loc Cert.TailReferenceIdeal.main_arg0)
      ∧ r.2.mem ((c.tc : Thread Cert.TailReferenceIdeal.nD Cert.TailReferenceIdeal.τ).loc Cert.TailReferenceIdeal.main_arg1) = m ((c.tc : Thread Cert.TailReferenceIdeal.nD Cert.TailReferenceIdeal.τ).loc Cert.TailReferenceIdeal.main_arg1)
      ∧ r.2.mem ((c.tc : Thread Cert.TailReferenceIdeal.nD Cert.TailReferenceIdeal.τ).loc Cert.TailReferenceIdeal.main_arg2) = m ((c.tc : Thread Cert.TailReferenceIdeal.nD Cert.TailReferenceIdeal.τ).loc Cert.TailReferenceIdeal.main_arg2)
      ∧ r.2.mem ((c.tc : Thread Cert.TailReferenceIdeal.nD Cert.TailReferenceIdeal.τ).loc Cert.TailReferenceIdeal.main_arg3) = m ((c.tc : Thread Cert.TailReferenceIdeal.nD Cert.TailReferenceIdeal.τ).loc Cert.TailReferenceIdeal.main_arg3)
      ∧ r.2.mem ((c.tc : Thread Cert.TailReferenceIdeal.nD Cert.TailReferenceIdeal.τ).loc Cert.TailReferenceIdeal.main_arg4) = m ((c.tc : Thread Cert.TailReferenceIdeal.nD Cert.TailReferenceIdeal.τ).loc Cert.TailReferenceIdeal.main_arg4)
      ∧ r.2.mem ((c.tc : Thread Cert.TailReferenceIdeal.nD Cert.TailReferenceIdeal.τ).loc Cert.TailReferenceIdeal.main_arg5) = m ((c.tc : Thread Cert.TailReferenceIdeal.nD Cert.TailReferenceIdeal.τ).loc Cert.TailReferenceIdeal.main_arg5)
      ∧ r.2.mem ((c.tc : Thread Cert.TailReferenceIdeal.nD Cert.TailReferenceIdeal.τ).loc Cert.TailReferenceIdeal.main_arg6) = m ((c.tc : Thread Cert.TailReferenceIdeal.nD Cert.TailReferenceIdeal.τ).loc Cert.TailReferenceIdeal.main_arg6))
      ∧ r.2.sem = fun _ => 0)

def quiescent_State [hState : Cert.State.Facts] : Prop :=
  ∀ (m : (ℓ : Loc Cert.State.nD Cert.State.τ Cert.State.sig) → Buf (Elt Bits) ℓ) (g : Dev Cert.State.nD → PrngReg), Pre_State m →
    θ_run (Cert.State.defs (F := Bits)) (onTc (τ := Cert.State.τ) (Cert.State.main (F := Bits))) ⟨m, fun _ => 0, g⟩ (fun r => (∀ c : Dev Cert.State.nD,
      r.2.mem ((c.tc : Thread Cert.State.nD Cert.State.τ).loc Cert.State.main_arg0) = m ((c.tc : Thread Cert.State.nD Cert.State.τ).loc Cert.State.main_arg0)
      ∧ r.2.mem ((c.tc : Thread Cert.State.nD Cert.State.τ).loc Cert.State.main_arg1) = m ((c.tc : Thread Cert.State.nD Cert.State.τ).loc Cert.State.main_arg1)
      ∧ r.2.mem ((c.tc : Thread Cert.State.nD Cert.State.τ).loc Cert.State.main_arg2) = m ((c.tc : Thread Cert.State.nD Cert.State.τ).loc Cert.State.main_arg2)
      ∧ r.2.mem ((c.tc : Thread Cert.State.nD Cert.State.τ).loc Cert.State.main_arg3) = m ((c.tc : Thread Cert.State.nD Cert.State.τ).loc Cert.State.main_arg3)
      ∧ r.2.mem ((c.tc : Thread Cert.State.nD Cert.State.τ).loc Cert.State.main_arg4) = m ((c.tc : Thread Cert.State.nD Cert.State.τ).loc Cert.State.main_arg4)
      ∧ r.2.mem ((c.tc : Thread Cert.State.nD Cert.State.τ).loc Cert.State.main_arg5) = m ((c.tc : Thread Cert.State.nD Cert.State.τ).loc Cert.State.main_arg5)
      ∧ r.2.mem ((c.tc : Thread Cert.State.nD Cert.State.τ).loc Cert.State.main_arg6) = m ((c.tc : Thread Cert.State.nD Cert.State.τ).loc Cert.State.main_arg6))
      ∧ r.2.sem = fun _ => 0)

def quiescent_StateIdeal [hStateIdeal : Cert.StateIdeal.Facts] : Prop :=
  ∀ (m : (ℓ : Loc Cert.StateIdeal.nD Cert.StateIdeal.τ Cert.StateIdeal.sig) → Buf (Elt Ideal) ℓ) (g : Dev Cert.StateIdeal.nD → PrngReg), Pre_StateIdeal m →
    θ_run (Cert.StateIdeal.defs (F := Ideal)) (onTc (τ := Cert.StateIdeal.τ) (Cert.StateIdeal.main (F := Ideal))) ⟨m, fun _ => 0, g⟩ (fun r => (∀ c : Dev Cert.StateIdeal.nD,
      r.2.mem ((c.tc : Thread Cert.StateIdeal.nD Cert.StateIdeal.τ).loc Cert.StateIdeal.main_arg0) = m ((c.tc : Thread Cert.StateIdeal.nD Cert.StateIdeal.τ).loc Cert.StateIdeal.main_arg0)
      ∧ r.2.mem ((c.tc : Thread Cert.StateIdeal.nD Cert.StateIdeal.τ).loc Cert.StateIdeal.main_arg1) = m ((c.tc : Thread Cert.StateIdeal.nD Cert.StateIdeal.τ).loc Cert.StateIdeal.main_arg1)
      ∧ r.2.mem ((c.tc : Thread Cert.StateIdeal.nD Cert.StateIdeal.τ).loc Cert.StateIdeal.main_arg2) = m ((c.tc : Thread Cert.StateIdeal.nD Cert.StateIdeal.τ).loc Cert.StateIdeal.main_arg2)
      ∧ r.2.mem ((c.tc : Thread Cert.StateIdeal.nD Cert.StateIdeal.τ).loc Cert.StateIdeal.main_arg3) = m ((c.tc : Thread Cert.StateIdeal.nD Cert.StateIdeal.τ).loc Cert.StateIdeal.main_arg3)
      ∧ r.2.mem ((c.tc : Thread Cert.StateIdeal.nD Cert.StateIdeal.τ).loc Cert.StateIdeal.main_arg4) = m ((c.tc : Thread Cert.StateIdeal.nD Cert.StateIdeal.τ).loc Cert.StateIdeal.main_arg4)
      ∧ r.2.mem ((c.tc : Thread Cert.StateIdeal.nD Cert.StateIdeal.τ).loc Cert.StateIdeal.main_arg5) = m ((c.tc : Thread Cert.StateIdeal.nD Cert.StateIdeal.τ).loc Cert.StateIdeal.main_arg5)
      ∧ r.2.mem ((c.tc : Thread Cert.StateIdeal.nD Cert.StateIdeal.τ).loc Cert.StateIdeal.main_arg6) = m ((c.tc : Thread Cert.StateIdeal.nD Cert.StateIdeal.τ).loc Cert.StateIdeal.main_arg6))
      ∧ r.2.sem = fun _ => 0)

def quiescent_StateReferenceIdeal [hStateReferenceIdeal : Cert.StateReferenceIdeal.Facts] : Prop :=
  ∀ (m : (ℓ : Loc Cert.StateReferenceIdeal.nD Cert.StateReferenceIdeal.τ Cert.StateReferenceIdeal.sig) → Buf (Elt Ideal) ℓ) (g : Dev Cert.StateReferenceIdeal.nD → PrngReg), Pre_StateReferenceIdeal m →
    θ_run (Cert.StateReferenceIdeal.defs (F := Ideal)) (onTc (τ := Cert.StateReferenceIdeal.τ) (Cert.StateReferenceIdeal.main (F := Ideal))) ⟨m, fun _ => 0, g⟩ (fun r => (∀ c : Dev Cert.StateReferenceIdeal.nD,
      r.2.mem ((c.tc : Thread Cert.StateReferenceIdeal.nD Cert.StateReferenceIdeal.τ).loc Cert.StateReferenceIdeal.main_arg0) = m ((c.tc : Thread Cert.StateReferenceIdeal.nD Cert.StateReferenceIdeal.τ).loc Cert.StateReferenceIdeal.main_arg0)
      ∧ r.2.mem ((c.tc : Thread Cert.StateReferenceIdeal.nD Cert.StateReferenceIdeal.τ).loc Cert.StateReferenceIdeal.main_arg1) = m ((c.tc : Thread Cert.StateReferenceIdeal.nD Cert.StateReferenceIdeal.τ).loc Cert.StateReferenceIdeal.main_arg1)
      ∧ r.2.mem ((c.tc : Thread Cert.StateReferenceIdeal.nD Cert.StateReferenceIdeal.τ).loc Cert.StateReferenceIdeal.main_arg2) = m ((c.tc : Thread Cert.StateReferenceIdeal.nD Cert.StateReferenceIdeal.τ).loc Cert.StateReferenceIdeal.main_arg2)
      ∧ r.2.mem ((c.tc : Thread Cert.StateReferenceIdeal.nD Cert.StateReferenceIdeal.τ).loc Cert.StateReferenceIdeal.main_arg3) = m ((c.tc : Thread Cert.StateReferenceIdeal.nD Cert.StateReferenceIdeal.τ).loc Cert.StateReferenceIdeal.main_arg3)
      ∧ r.2.mem ((c.tc : Thread Cert.StateReferenceIdeal.nD Cert.StateReferenceIdeal.τ).loc Cert.StateReferenceIdeal.main_arg4) = m ((c.tc : Thread Cert.StateReferenceIdeal.nD Cert.StateReferenceIdeal.τ).loc Cert.StateReferenceIdeal.main_arg4)
      ∧ r.2.mem ((c.tc : Thread Cert.StateReferenceIdeal.nD Cert.StateReferenceIdeal.τ).loc Cert.StateReferenceIdeal.main_arg5) = m ((c.tc : Thread Cert.StateReferenceIdeal.nD Cert.StateReferenceIdeal.τ).loc Cert.StateReferenceIdeal.main_arg5)
      ∧ r.2.mem ((c.tc : Thread Cert.StateReferenceIdeal.nD Cert.StateReferenceIdeal.τ).loc Cert.StateReferenceIdeal.main_arg6) = m ((c.tc : Thread Cert.StateReferenceIdeal.nD Cert.StateReferenceIdeal.τ).loc Cert.StateReferenceIdeal.main_arg6))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)) (v2 : (c : Dev Cert.KernelIdeal.nD) → Buf (Elt Ideal) ((c.tc : Thread Cert.KernelIdeal.nD Cert.KernelIdeal.τ).loc Cert.KernelIdeal.main_v9_2)) (v3 : (c : Dev Cert.KernelIdeal.nD) → Buf (Elt Ideal) ((c.tc : Thread Cert.KernelIdeal.nD Cert.KernelIdeal.τ).loc Cert.KernelIdeal.main_v9_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_v9_2) = v2 c
          ∧ r.2.mem ((c.tc : Thread Cert.KernelIdeal.nD Cert.KernelIdeal.τ).loc Cert.KernelIdeal.main_v9_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_v53) = v1 c
          ∧ r.2.mem ((c.tc : Thread Cert.ReferenceIdeal.nD Cert.ReferenceIdeal.τ).loc Cert.ReferenceIdeal.main_v57) = v2 c
          ∧ r.2.mem ((c.tc : Thread Cert.ReferenceIdeal.nD Cert.ReferenceIdeal.τ).loc Cert.ReferenceIdeal.main_v59) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Up_UpIdeal : Prop :=
  True

def algebraic_UpIdeal_UpReferenceIdeal [hUpIdeal : Cert.UpIdeal.Facts] [hUpReferenceIdeal : Cert.UpReferenceIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpIdeal m →
    (∀ c : Dev Cert.UpIdeal.nD,
      m' ((c.tc : Thread Cert.UpReferenceIdeal.nD Cert.UpReferenceIdeal.τ).loc Cert.UpReferenceIdeal.main_arg0) = m ((c.tc : Thread Cert.UpIdeal.nD Cert.UpIdeal.τ).loc Cert.UpIdeal.main_arg0)
      ∧ m' ((c.tc : Thread Cert.UpReferenceIdeal.nD Cert.UpReferenceIdeal.τ).loc Cert.UpReferenceIdeal.main_arg1) = m ((c.tc : Thread Cert.UpIdeal.nD Cert.UpIdeal.τ).loc Cert.UpIdeal.main_arg1)
      ∧ m' ((c.tc : Thread Cert.UpReferenceIdeal.nD Cert.UpReferenceIdeal.τ).loc Cert.UpReferenceIdeal.main_arg2) = m ((c.tc : Thread Cert.UpIdeal.nD Cert.UpIdeal.τ).loc Cert.UpIdeal.main_arg2)) →
    ∃ (v0 : (c : Dev Cert.UpIdeal.nD) → Buf (Elt Ideal) ((c.tc : Thread Cert.UpIdeal.nD Cert.UpIdeal.τ).loc Cert.UpIdeal.main_v1_0)) (v1 : (c : Dev Cert.UpIdeal.nD) → Buf (Elt Ideal) ((c.tc : Thread Cert.UpIdeal.nD Cert.UpIdeal.τ).loc Cert.UpIdeal.main_v1_1)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v1_0) = v0 c
          ∧ r.2.mem ((c.tc : Thread Cert.UpIdeal.nD Cert.UpIdeal.τ).loc Cert.UpIdeal.main_v1_1) = v1 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v6) = v0 c
          ∧ r.2.mem ((c.tc : Thread Cert.UpReferenceIdeal.nD Cert.UpReferenceIdeal.τ).loc Cert.UpReferenceIdeal.main_v8) = v1 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1)
          ∧ r.2.mem ((c.tc : Thread Cert.UpReferenceIdeal.nD Cert.UpReferenceIdeal.τ).loc Cert.UpReferenceIdeal.main_arg2) = m' ((c.tc : Thread Cert.UpReferenceIdeal.nD Cert.UpReferenceIdeal.τ).loc Cert.UpReferenceIdeal.main_arg2))

def preserves_Down_DownIdeal : Prop :=
  True

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)
      ∧ m' ((c.tc : Thread Cert.DownReferenceIdeal.nD Cert.DownReferenceIdeal.τ).loc Cert.DownReferenceIdeal.main_arg2) = m ((c.tc : Thread Cert.DownIdeal.nD Cert.DownIdeal.τ).loc Cert.DownIdeal.main_arg2)
      ∧ m' ((c.tc : Thread Cert.DownReferenceIdeal.nD Cert.DownReferenceIdeal.τ).loc Cert.DownReferenceIdeal.main_arg3) = m ((c.tc : Thread Cert.DownIdeal.nD Cert.DownIdeal.τ).loc Cert.DownIdeal.main_arg3)
      ∧ m' ((c.tc : Thread Cert.DownReferenceIdeal.nD Cert.DownReferenceIdeal.τ).loc Cert.DownReferenceIdeal.main_arg4) = m ((c.tc : Thread Cert.DownIdeal.nD Cert.DownIdeal.τ).loc Cert.DownIdeal.main_arg4)) →
    ∃ (v0 : (c : Dev Cert.DownIdeal.nD) → Buf (Elt Ideal) ((c.tc : Thread Cert.DownIdeal.nD Cert.DownIdeal.τ).loc Cert.DownIdeal.main_v3_0)) (v1 : (c : Dev Cert.DownIdeal.nD) → Buf (Elt Ideal) ((c.tc : Thread Cert.DownIdeal.nD Cert.DownIdeal.τ).loc Cert.DownIdeal.main_v3_1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v3_0) = v0 c
          ∧ r.2.mem ((c.tc : Thread Cert.DownIdeal.nD Cert.DownIdeal.τ).loc Cert.DownIdeal.main_v3_1) = v1 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v32) = v0 c
          ∧ r.2.mem ((c.tc : Thread Cert.DownReferenceIdeal.nD Cert.DownReferenceIdeal.τ).loc Cert.DownReferenceIdeal.main_v33) = v1 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2)
          ∧ r.2.mem ((c.tc : Thread Cert.DownReferenceIdeal.nD Cert.DownReferenceIdeal.τ).loc Cert.DownReferenceIdeal.main_arg3) = m' ((c.tc : Thread Cert.DownReferenceIdeal.nD Cert.DownReferenceIdeal.τ).loc Cert.DownReferenceIdeal.main_arg3)
          ∧ r.2.mem ((c.tc : Thread Cert.DownReferenceIdeal.nD Cert.DownReferenceIdeal.τ).loc Cert.DownReferenceIdeal.main_arg4) = m' ((c.tc : Thread Cert.DownReferenceIdeal.nD Cert.DownReferenceIdeal.τ).loc Cert.DownReferenceIdeal.main_arg4))

def preserves_Mix_MixIdeal : Prop :=
  True

def algebraic_MixIdeal_MixReferenceIdeal [hMixIdeal : Cert.MixIdeal.Facts] [hMixReferenceIdeal : Cert.MixReferenceIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixIdeal m →
    (∀ c : Dev Cert.MixIdeal.nD,
      m' ((c.tc : Thread Cert.MixReferenceIdeal.nD Cert.MixReferenceIdeal.τ).loc Cert.MixReferenceIdeal.main_arg0) = m ((c.tc : Thread Cert.MixIdeal.nD Cert.MixIdeal.τ).loc Cert.MixIdeal.main_arg0)
      ∧ m' ((c.tc : Thread Cert.MixReferenceIdeal.nD Cert.MixReferenceIdeal.τ).loc Cert.MixReferenceIdeal.main_arg1) = m ((c.tc : Thread Cert.MixIdeal.nD Cert.MixIdeal.τ).loc Cert.MixIdeal.main_arg1)
      ∧ m' ((c.tc : Thread Cert.MixReferenceIdeal.nD Cert.MixReferenceIdeal.τ).loc Cert.MixReferenceIdeal.main_arg2) = m ((c.tc : Thread Cert.MixIdeal.nD Cert.MixIdeal.τ).loc Cert.MixIdeal.main_arg2)
      ∧ m' ((c.tc : Thread Cert.MixReferenceIdeal.nD Cert.MixReferenceIdeal.τ).loc Cert.MixReferenceIdeal.main_arg3) = m ((c.tc : Thread Cert.MixIdeal.nD Cert.MixIdeal.τ).loc Cert.MixIdeal.main_arg3)
      ∧ m' ((c.tc : Thread Cert.MixReferenceIdeal.nD Cert.MixReferenceIdeal.τ).loc Cert.MixReferenceIdeal.main_arg4) = m ((c.tc : Thread Cert.MixIdeal.nD Cert.MixIdeal.τ).loc Cert.MixIdeal.main_arg4)) →
    ∃ (v0 : (c : Dev Cert.MixIdeal.nD) → Buf (Elt Ideal) ((c.tc : Thread Cert.MixIdeal.nD Cert.MixIdeal.τ).loc Cert.MixIdeal.main_v11_0)) (v1 : (c : Dev Cert.MixIdeal.nD) → Buf (Elt Ideal) ((c.tc : Thread Cert.MixIdeal.nD Cert.MixIdeal.τ).loc Cert.MixIdeal.main_v11_1)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v11_0) = v0 c
          ∧ r.2.mem ((c.tc : Thread Cert.MixIdeal.nD Cert.MixIdeal.τ).loc Cert.MixIdeal.main_v11_1) = v1 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v49) = v0 c
          ∧ r.2.mem ((c.tc : Thread Cert.MixReferenceIdeal.nD Cert.MixReferenceIdeal.τ).loc Cert.MixReferenceIdeal.main_v50) = v1 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4))

def preserves_Out_OutIdeal : Prop :=
  True

def algebraic_OutIdeal_OutReferenceIdeal [hOutIdeal : Cert.OutIdeal.Facts] [hOutReferenceIdeal : Cert.OutReferenceIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)
      ∧ m' ((c.tc : Thread Cert.OutReferenceIdeal.nD Cert.OutReferenceIdeal.τ).loc Cert.OutReferenceIdeal.main_arg2) = m ((c.tc : Thread Cert.OutIdeal.nD Cert.OutIdeal.τ).loc Cert.OutIdeal.main_arg2)
      ∧ m' ((c.tc : Thread Cert.OutReferenceIdeal.nD Cert.OutReferenceIdeal.τ).loc Cert.OutReferenceIdeal.main_arg3) = m ((c.tc : Thread Cert.OutIdeal.nD Cert.OutIdeal.τ).loc Cert.OutIdeal.main_arg3)
      ∧ m' ((c.tc : Thread Cert.OutReferenceIdeal.nD Cert.OutReferenceIdeal.τ).loc Cert.OutReferenceIdeal.main_arg4) = m ((c.tc : Thread Cert.OutIdeal.nD Cert.OutIdeal.τ).loc Cert.OutIdeal.main_arg4)) →
    ∃ (v0 : (c : Dev Cert.OutIdeal.nD) → Buf (Elt Ideal) ((c.tc : Thread Cert.OutIdeal.nD Cert.OutIdeal.τ).loc Cert.OutIdeal.main_v5_0)) (v1 : (c : Dev Cert.OutIdeal.nD) → Buf (Elt Ideal) ((c.tc : Thread Cert.OutIdeal.nD Cert.OutIdeal.τ).loc Cert.OutIdeal.main_v5_1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v5_0) = v0 c
          ∧ r.2.mem ((c.tc : Thread Cert.OutIdeal.nD Cert.OutIdeal.τ).loc Cert.OutIdeal.main_v5_1) = v1 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v30) = v0 c
          ∧ r.2.mem ((c.tc : Thread Cert.OutReferenceIdeal.nD Cert.OutReferenceIdeal.τ).loc Cert.OutReferenceIdeal.main_v31) = v1 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3)
          ∧ r.2.mem ((c.tc : Thread Cert.OutReferenceIdeal.nD Cert.OutReferenceIdeal.τ).loc Cert.OutReferenceIdeal.main_arg4) = m' ((c.tc : Thread Cert.OutReferenceIdeal.nD Cert.OutReferenceIdeal.τ).loc Cert.OutReferenceIdeal.main_arg4))

def preserves_Tail_TailIdeal : Prop :=
  True

def algebraic_TailIdeal_TailReferenceIdeal [hTailIdeal : Cert.TailIdeal.Facts] [hTailReferenceIdeal : Cert.TailReferenceIdeal.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailReferenceIdeal.nD Cert.TailReferenceIdeal.τ Cert.TailReferenceIdeal.sig) → Buf (Elt Ideal) ℓ) (g' : Dev Cert.TailReferenceIdeal.nD → PrngReg), Pre_TailIdeal m →
    (∀ c : Dev Cert.TailIdeal.nD,
      m' ((c.tc : Thread Cert.TailReferenceIdeal.nD Cert.TailReferenceIdeal.τ).loc Cert.TailReferenceIdeal.main_arg0) = m ((c.tc : Thread Cert.TailIdeal.nD Cert.TailIdeal.τ).loc Cert.TailIdeal.main_arg0)
      ∧ m' ((c.tc : Thread Cert.TailReferenceIdeal.nD Cert.TailReferenceIdeal.τ).loc Cert.TailReferenceIdeal.main_arg1) = m ((c.tc : Thread Cert.TailIdeal.nD Cert.TailIdeal.τ).loc Cert.TailIdeal.main_arg1)
      ∧ m' ((c.tc : Thread Cert.TailReferenceIdeal.nD Cert.TailReferenceIdeal.τ).loc Cert.TailReferenceIdeal.main_arg2) = m ((c.tc : Thread Cert.TailIdeal.nD Cert.TailIdeal.τ).loc Cert.TailIdeal.main_arg2)
      ∧ m' ((c.tc : Thread Cert.TailReferenceIdeal.nD Cert.TailReferenceIdeal.τ).loc Cert.TailReferenceIdeal.main_arg3) = m ((c.tc : Thread Cert.TailIdeal.nD Cert.TailIdeal.τ).loc Cert.TailIdeal.main_arg3)
      ∧ m' ((c.tc : Thread Cert.TailReferenceIdeal.nD Cert.TailReferenceIdeal.τ).loc Cert.TailReferenceIdeal.main_arg4) = m ((c.tc : Thread Cert.TailIdeal.nD Cert.TailIdeal.τ).loc Cert.TailIdeal.main_arg4)
      ∧ m' ((c.tc : Thread Cert.TailReferenceIdeal.nD Cert.TailReferenceIdeal.τ).loc Cert.TailReferenceIdeal.main_arg5) = m ((c.tc : Thread Cert.TailIdeal.nD Cert.TailIdeal.τ).loc Cert.TailIdeal.main_arg5)
      ∧ m' ((c.tc : Thread Cert.TailReferenceIdeal.nD Cert.TailReferenceIdeal.τ).loc Cert.TailReferenceIdeal.main_arg6) = m ((c.tc : Thread Cert.TailIdeal.nD Cert.TailIdeal.τ).loc Cert.TailIdeal.main_arg6)) →
    ∃ (v0 : (c : Dev Cert.TailIdeal.nD) → Buf (Elt Ideal) ((c.tc : Thread Cert.TailIdeal.nD Cert.TailIdeal.τ).loc Cert.TailIdeal.main_v18)) (v1 : (c : Dev Cert.TailIdeal.nD) → Buf (Elt Ideal) ((c.tc : Thread Cert.TailIdeal.nD Cert.TailIdeal.τ).loc Cert.TailIdeal.main_v19)) (v2 : (c : Dev Cert.TailIdeal.nD) → Buf (Elt Ideal) ((c.tc : Thread Cert.TailIdeal.nD Cert.TailIdeal.τ).loc Cert.TailIdeal.main_v21)) (v3 : (c : Dev Cert.TailIdeal.nD) → Buf (Elt Ideal) ((c.tc : Thread Cert.TailIdeal.nD Cert.TailIdeal.τ).loc Cert.TailIdeal.main_v25)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v18) = v0 c
          ∧ r.2.mem ((c.tc : Thread Cert.TailIdeal.nD Cert.TailIdeal.τ).loc Cert.TailIdeal.main_v19) = v1 c
          ∧ r.2.mem ((c.tc : Thread Cert.TailIdeal.nD Cert.TailIdeal.τ).loc Cert.TailIdeal.main_v21) = v2 c
          ∧ r.2.mem ((c.tc : Thread Cert.TailIdeal.nD Cert.TailIdeal.τ).loc Cert.TailIdeal.main_v25) = v3 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
          ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
          ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
          ∧ r.2.mem ((c.tc : Thread Cert.TailIdeal.nD Cert.TailIdeal.τ).loc Cert.TailIdeal.main_arg6) = m ((c.tc : Thread Cert.TailIdeal.nD Cert.TailIdeal.τ).loc Cert.TailIdeal.main_arg6))
      ∧ θ_run (Cert.TailReferenceIdeal.defs (F := Ideal)) (onTc (τ := Cert.TailReferenceIdeal.τ) (Cert.TailReferenceIdeal.main (F := Ideal))) ⟨m', fun _ => 0, g'⟩ (fun r => ∀ c : Dev Cert.TailReferenceIdeal.nD,
          r.2.mem ((c.tc : Thread Cert.TailReferenceIdeal.nD Cert.TailReferenceIdeal.τ).loc Cert.TailReferenceIdeal.main_v102) = v0 c
          ∧ r.2.mem ((c.tc : Thread Cert.TailReferenceIdeal.nD Cert.TailReferenceIdeal.τ).loc Cert.TailReferenceIdeal.main_v103) = v1 c
          ∧ r.2.mem ((c.tc : Thread Cert.TailReferenceIdeal.nD Cert.TailReferenceIdeal.τ).loc Cert.TailReferenceIdeal.main_v101) = v2 c
          ∧ r.2.mem ((c.tc : Thread Cert.TailReferenceIdeal.nD Cert.TailReferenceIdeal.τ).loc Cert.TailReferenceIdeal.main_v104) = v3 c
          ∧ r.2.mem ((c.tc : Thread Cert.TailReferenceIdeal.nD Cert.TailReferenceIdeal.τ).loc Cert.TailReferenceIdeal.main_arg0) = m' ((c.tc : Thread Cert.TailReferenceIdeal.nD Cert.TailReferenceIdeal.τ).loc Cert.TailReferenceIdeal.main_arg0)
          ∧ r.2.mem ((c.tc : Thread Cert.TailReferenceIdeal.nD Cert.TailReferenceIdeal.τ).loc Cert.TailReferenceIdeal.main_arg1) = m' ((c.tc : Thread Cert.TailReferenceIdeal.nD Cert.TailReferenceIdeal.τ).loc Cert.TailReferenceIdeal.main_arg1)
          ∧ r.2.mem ((c.tc : Thread Cert.TailReferenceIdeal.nD Cert.TailReferenceIdeal.τ).loc Cert.TailReferenceIdeal.main_arg2) = m' ((c.tc : Thread Cert.TailReferenceIdeal.nD Cert.TailReferenceIdeal.τ).loc Cert.TailReferenceIdeal.main_arg2)
          ∧ r.2.mem ((c.tc : Thread Cert.TailReferenceIdeal.nD Cert.TailReferenceIdeal.τ).loc Cert.TailReferenceIdeal.main_arg3) = m' ((c.tc : Thread Cert.TailReferenceIdeal.nD Cert.TailReferenceIdeal.τ).loc Cert.TailReferenceIdeal.main_arg3)
          ∧ r.2.mem ((c.tc : Thread Cert.TailReferenceIdeal.nD Cert.TailReferenceIdeal.τ).loc Cert.TailReferenceIdeal.main_arg4) = m' ((c.tc : Thread Cert.TailReferenceIdeal.nD Cert.TailReferenceIdeal.τ).loc Cert.TailReferenceIdeal.main_arg4)
          ∧ r.2.mem ((c.tc : Thread Cert.TailReferenceIdeal.nD Cert.TailReferenceIdeal.τ).loc Cert.TailReferenceIdeal.main_arg5) = m' ((c.tc : Thread Cert.TailReferenceIdeal.nD Cert.TailReferenceIdeal.τ).loc Cert.TailReferenceIdeal.main_arg5)
          ∧ r.2.mem ((c.tc : Thread Cert.TailReferenceIdeal.nD Cert.TailReferenceIdeal.τ).loc Cert.TailReferenceIdeal.main_arg6) = m' ((c.tc : Thread Cert.TailReferenceIdeal.nD Cert.TailReferenceIdeal.τ).loc Cert.TailReferenceIdeal.main_arg6))

def preserves_State_StateIdeal : Prop :=
  True

def algebraic_StateIdeal_StateReferenceIdeal [hStateIdeal : Cert.StateIdeal.Facts] [hStateReferenceIdeal : Cert.StateReferenceIdeal.Facts] : Prop :=
  ∀ (m : (ℓ : Loc Cert.StateIdeal.nD Cert.StateIdeal.τ Cert.StateIdeal.sig) → Buf (Elt Ideal) ℓ) (g : Dev Cert.StateIdeal.nD → PrngReg)
    (m' : (ℓ : Loc Cert.StateReferenceIdeal.nD Cert.StateReferenceIdeal.τ Cert.StateReferenceIdeal.sig) → Buf (Elt Ideal) ℓ) (g' : Dev Cert.StateReferenceIdeal.nD → PrngReg), Pre_StateIdeal m →
    (∀ c : Dev Cert.StateIdeal.nD,
      m' ((c.tc : Thread Cert.StateReferenceIdeal.nD Cert.StateReferenceIdeal.τ).loc Cert.StateReferenceIdeal.main_arg0) = m ((c.tc : Thread Cert.StateIdeal.nD Cert.StateIdeal.τ).loc Cert.StateIdeal.main_arg0)
      ∧ m' ((c.tc : Thread Cert.StateReferenceIdeal.nD Cert.StateReferenceIdeal.τ).loc Cert.StateReferenceIdeal.main_arg1) = m ((c.tc : Thread Cert.StateIdeal.nD Cert.StateIdeal.τ).loc Cert.StateIdeal.main_arg1)
      ∧ m' ((c.tc : Thread Cert.StateReferenceIdeal.nD Cert.StateReferenceIdeal.τ).loc Cert.StateReferenceIdeal.main_arg2) = m ((c.tc : Thread Cert.StateIdeal.nD Cert.StateIdeal.τ).loc Cert.StateIdeal.main_arg2)
      ∧ m' ((c.tc : Thread Cert.StateReferenceIdeal.nD Cert.StateReferenceIdeal.τ).loc Cert.StateReferenceIdeal.main_arg3) = m ((c.tc : Thread Cert.StateIdeal.nD Cert.StateIdeal.τ).loc Cert.StateIdeal.main_arg3)
      ∧ m' ((c.tc : Thread Cert.StateReferenceIdeal.nD Cert.StateReferenceIdeal.τ).loc Cert.StateReferenceIdeal.main_arg4) = m ((c.tc : Thread Cert.StateIdeal.nD Cert.StateIdeal.τ).loc Cert.StateIdeal.main_arg4)
      ∧ m' ((c.tc : Thread Cert.StateReferenceIdeal.nD Cert.StateReferenceIdeal.τ).loc Cert.StateReferenceIdeal.main_arg5) = m ((c.tc : Thread Cert.StateIdeal.nD Cert.StateIdeal.τ).loc Cert.StateIdeal.main_arg5)
      ∧ m' ((c.tc : Thread Cert.StateReferenceIdeal.nD Cert.StateReferenceIdeal.τ).loc Cert.StateReferenceIdeal.main_arg6) = m ((c.tc : Thread Cert.StateIdeal.nD Cert.StateIdeal.τ).loc Cert.StateIdeal.main_arg6)) →
    ∃ (v0 : (c : Dev Cert.StateIdeal.nD) → Buf (Elt Ideal) ((c.tc : Thread Cert.StateIdeal.nD Cert.StateIdeal.τ).loc Cert.StateIdeal.main_v13_2)),
      θ_run (Cert.StateIdeal.defs (F := Ideal)) (onTc (τ := Cert.StateIdeal.τ) (Cert.StateIdeal.main (F := Ideal))) ⟨m, fun _ => 0, g⟩ (fun r => ∀ c : Dev Cert.StateIdeal.nD,
          r.2.mem ((c.tc : Thread Cert.StateIdeal.nD Cert.StateIdeal.τ).loc Cert.StateIdeal.main_v13_2) = v0 c
          ∧ r.2.mem ((c.tc : Thread Cert.StateIdeal.nD Cert.StateIdeal.τ).loc Cert.StateIdeal.main_arg0) = m ((c.tc : Thread Cert.StateIdeal.nD Cert.StateIdeal.τ).loc Cert.StateIdeal.main_arg0)
          ∧ r.2.mem ((c.tc : Thread Cert.StateIdeal.nD Cert.StateIdeal.τ).loc Cert.StateIdeal.main_arg1) = m ((c.tc : Thread Cert.StateIdeal.nD Cert.StateIdeal.τ).loc Cert.StateIdeal.main_arg1)
          ∧ r.2.mem ((c.tc : Thread Cert.StateIdeal.nD Cert.StateIdeal.τ).loc Cert.StateIdeal.main_arg2) = m ((c.tc : Thread Cert.StateIdeal.nD Cert.StateIdeal.τ).loc Cert.StateIdeal.main_arg2)
          ∧ r.2.mem ((c.tc : Thread Cert.StateIdeal.nD Cert.StateIdeal.τ).loc Cert.StateIdeal.main_arg3) = m ((c.tc : Thread Cert.StateIdeal.nD Cert.StateIdeal.τ).loc Cert.StateIdeal.main_arg3)
          ∧ r.2.mem ((c.tc : Thread Cert.StateIdeal.nD Cert.StateIdeal.τ).loc Cert.StateIdeal.main_arg4) = m ((c.tc : Thread Cert.StateIdeal.nD Cert.StateIdeal.τ).loc Cert.StateIdeal.main_arg4)
          ∧ r.2.mem ((c.tc : Thread Cert.StateIdeal.nD Cert.StateIdeal.τ).loc Cert.StateIdeal.main_arg5) = m ((c.tc : Thread Cert.StateIdeal.nD Cert.StateIdeal.τ).loc Cert.StateIdeal.main_arg5)
          ∧ r.2.mem ((c.tc : Thread Cert.StateIdeal.nD Cert.StateIdeal.τ).loc Cert.StateIdeal.main_arg6) = m ((c.tc : Thread Cert.StateIdeal.nD Cert.StateIdeal.τ).loc Cert.StateIdeal.main_arg6))
      ∧ θ_run (Cert.StateReferenceIdeal.defs (F := Ideal)) (onTc (τ := Cert.StateReferenceIdeal.τ) (Cert.StateReferenceIdeal.main (F := Ideal))) ⟨m', fun _ => 0, g'⟩ (fun r => ∀ c : Dev Cert.StateReferenceIdeal.nD,
          r.2.mem ((c.tc : Thread Cert.StateReferenceIdeal.nD Cert.StateReferenceIdeal.τ).loc Cert.StateReferenceIdeal.main_v24) = v0 c
          ∧ r.2.mem ((c.tc : Thread Cert.StateReferenceIdeal.nD Cert.StateReferenceIdeal.τ).loc Cert.StateReferenceIdeal.main_arg0) = m' ((c.tc : Thread Cert.StateReferenceIdeal.nD Cert.StateReferenceIdeal.τ).loc Cert.StateReferenceIdeal.main_arg0)
          ∧ r.2.mem ((c.tc : Thread Cert.StateReferenceIdeal.nD Cert.StateReferenceIdeal.τ).loc Cert.StateReferenceIdeal.main_arg1) = m' ((c.tc : Thread Cert.StateReferenceIdeal.nD Cert.StateReferenceIdeal.τ).loc Cert.StateReferenceIdeal.main_arg1)
          ∧ r.2.mem ((c.tc : Thread Cert.StateReferenceIdeal.nD Cert.StateReferenceIdeal.τ).loc Cert.StateReferenceIdeal.main_arg2) = m' ((c.tc : Thread Cert.StateReferenceIdeal.nD Cert.StateReferenceIdeal.τ).loc Cert.StateReferenceIdeal.main_arg2)
          ∧ r.2.mem ((c.tc : Thread Cert.StateReferenceIdeal.nD Cert.StateReferenceIdeal.τ).loc Cert.StateReferenceIdeal.main_arg3) = m' ((c.tc : Thread Cert.StateReferenceIdeal.nD Cert.StateReferenceIdeal.τ).loc Cert.StateReferenceIdeal.main_arg3)
          ∧ r.2.mem ((c.tc : Thread Cert.StateReferenceIdeal.nD Cert.StateReferenceIdeal.τ).loc Cert.StateReferenceIdeal.main_arg4) = m' ((c.tc : Thread Cert.StateReferenceIdeal.nD Cert.StateReferenceIdeal.τ).loc Cert.StateReferenceIdeal.main_arg4)
          ∧ r.2.mem ((c.tc : Thread Cert.StateReferenceIdeal.nD Cert.StateReferenceIdeal.τ).loc Cert.StateReferenceIdeal.main_arg5) = m' ((c.tc : Thread Cert.StateReferenceIdeal.nD Cert.StateReferenceIdeal.τ).loc Cert.StateReferenceIdeal.main_arg5)
          ∧ r.2.mem ((c.tc : Thread Cert.StateReferenceIdeal.nD Cert.StateReferenceIdeal.τ).loc Cert.StateReferenceIdeal.main_arg6) = m' ((c.tc : Thread Cert.StateReferenceIdeal.nD Cert.StateReferenceIdeal.τ).loc Cert.StateReferenceIdeal.main_arg6))

def Claim : Prop :=
  ∃ (hKernel : Cert.Kernel.Facts) (hKernelIdeal : Cert.KernelIdeal.Facts) (hReferenceIdeal : Cert.ReferenceIdeal.Facts) (hUp : Cert.Up.Facts) (hUpIdeal : Cert.UpIdeal.Facts) (hUpReferenceIdeal : Cert.UpReferenceIdeal.Facts) (hDown : Cert.Down.Facts) (hDownIdeal : Cert.DownIdeal.Facts) (hDownReferenceIdeal : Cert.DownReferenceIdeal.Facts) (hMix : Cert.Mix.Facts) (hMixIdeal : Cert.MixIdeal.Facts) (hMixReferenceIdeal : Cert.MixReferenceIdeal.Facts) (hOut : Cert.Out.Facts) (hOutIdeal : Cert.OutIdeal.Facts) (hOutReferenceIdeal : Cert.OutReferenceIdeal.Facts) (hTail : Cert.Tail.Facts) (hTailIdeal : Cert.TailIdeal.Facts) (hTailReferenceIdeal : Cert.TailReferenceIdeal.Facts) (hState : Cert.State.Facts) (hStateIdeal : Cert.StateIdeal.Facts) (hStateReferenceIdeal : Cert.StateReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Up (hUp := hUp)
    ∧ quiescent_UpIdeal (hUpIdeal := hUpIdeal)
    ∧ quiescent_UpReferenceIdeal (hUpReferenceIdeal := hUpReferenceIdeal)
    ∧ quiescent_Down (hDown := hDown)
    ∧ quiescent_DownIdeal (hDownIdeal := hDownIdeal)
    ∧ quiescent_DownReferenceIdeal (hDownReferenceIdeal := hDownReferenceIdeal)
    ∧ quiescent_Mix (hMix := hMix)
    ∧ quiescent_MixIdeal (hMixIdeal := hMixIdeal)
    ∧ quiescent_MixReferenceIdeal (hMixReferenceIdeal := hMixReferenceIdeal)
    ∧ quiescent_Out (hOut := hOut)
    ∧ quiescent_OutIdeal (hOutIdeal := hOutIdeal)
    ∧ quiescent_OutReferenceIdeal (hOutReferenceIdeal := hOutReferenceIdeal)
    ∧ quiescent_Tail (hTail := hTail)
    ∧ quiescent_TailIdeal (hTailIdeal := hTailIdeal)
    ∧ quiescent_TailReferenceIdeal (hTailReferenceIdeal := hTailReferenceIdeal)
    ∧ quiescent_State (hState := hState)
    ∧ quiescent_StateIdeal (hStateIdeal := hStateIdeal)
    ∧ quiescent_StateReferenceIdeal (hStateReferenceIdeal := hStateReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Up_UpIdeal
    ∧ algebraic_UpIdeal_UpReferenceIdeal (hUpIdeal := hUpIdeal) (hUpReferenceIdeal := hUpReferenceIdeal)
    ∧ preserves_Down_DownIdeal
    ∧ algebraic_DownIdeal_DownReferenceIdeal (hDownIdeal := hDownIdeal) (hDownReferenceIdeal := hDownReferenceIdeal)
    ∧ preserves_Mix_MixIdeal
    ∧ algebraic_MixIdeal_MixReferenceIdeal (hMixIdeal := hMixIdeal) (hMixReferenceIdeal := hMixReferenceIdeal)
    ∧ preserves_Out_OutIdeal
    ∧ algebraic_OutIdeal_OutReferenceIdeal (hOutIdeal := hOutIdeal) (hOutReferenceIdeal := hOutReferenceIdeal)
    ∧ preserves_Tail_TailIdeal
    ∧ algebraic_TailIdeal_TailReferenceIdeal (hTailIdeal := hTailIdeal) (hTailReferenceIdeal := hTailReferenceIdeal)
    ∧ preserves_State_StateIdeal
    ∧ algebraic_StateIdeal_StateReferenceIdeal (hStateIdeal := hStateIdeal) (hStateReferenceIdeal := hStateReferenceIdeal)
-- ==== Pre_finite.lean ====
abbrev S1x8192x2048 : Shape := ⟨3, ![1, 8192, 2048]⟩
abbrev S1x8192x1024 : Shape := ⟨3, ![1, 8192, 1024]⟩
abbrev S1x4x256x512 : Shape := ⟨4, ![1, 4, 256, 512]⟩
abbrev S1x2048x16400 : Shape := ⟨3, ![1, 2048, 16400]⟩
abbrev S1x2048 : Shape := ⟨2, ![1, 2048]⟩
abbrev S1x2048x2048 : Shape := ⟨3, ![1, 2048, 2048]⟩
abbrev S_ : Shape := ⟨0, ![]⟩

class Facts : Prop where
  bcast_S_S1x8192x2048 : S_.BroadcastsInDim S1x8192x2048 (![] : Fin 0 → Fin S1x8192x2048.rank)
  reducesTo_S1x8192x2048_S_d0_1_2 : S1x8192x2048.ReducesTo [0, 1, 2] S_
  h_S_ : 0 < S_.numel
  bcast_S_S1x8192x1024 : S_.BroadcastsInDim S1x8192x1024 (![] : Fin 0 → Fin S1x8192x1024.rank)
  reducesTo_S1x8192x1024_S_d0_1_2 : S1x8192x1024.ReducesTo [0, 1, 2] S_
  bcast_S_S1x4x256x512 : S_.BroadcastsInDim S1x4x256x512 (![] : Fin 0 → Fin S1x4x256x512.rank)
  reducesTo_S1x4x256x512_S_d0_1_2_3 : S1x4x256x512.ReducesTo [0, 1, 2, 3] S_
  bcast_S_S1x2048x16400 : S_.BroadcastsInDim S1x2048x16400 (![] : Fin 0 → Fin S1x2048x16400.rank)
  reducesTo_S1x2048x16400_S_d0_1_2 : S1x2048x16400.ReducesTo [0, 1, 2] S_

variable [Facts]

def fn_part1 {F : FTy → Type} [FloatOps F] (main_v13 : IVec S_ 1) (main_v16 : IVec S1x2048x16400 1) : IVec S_ 1 :=
  let main_c_5 : IVec S_ 1 := constantI S_ 1 1#1
  let main_v17 : IVec S_ 1 := (fun x v => Host.reduce IntOp.andi x v reducesTo_S1x2048x16400_S_d0_1_2 h_S_) main_v16 main_c_5
  let main_v18 : IVec S_ 1 := andi main_v13 main_v17
  main_v18

def fn {F : FTy → Type} [FloatOps F] (main_arg0 : FVec F S1x8192x2048 .f32) (main_arg1 : FVec F S1x8192x1024 .f32) (main_arg2 : FVec F S1x4x256x512 .f32) (main_arg3 : FVec F S1x2048x16400 .f32) (main_arg4 : FVec F S1x2048 .f32) (main_arg5 : FVec F S1x2048x2048 .f32) : IVec S_ 1 :=
  let main_v0 : FVec F S1x8192x2048 .f32 := Host.absf main_arg0
  let main_cst : FVec F S_ .f32 := constant S_ .f32 0x7F800000#32
  let main_v1 : FVec F S1x8192x2048 .f32 := broadcastInDim S1x8192x2048 ![] bcast_S_S1x8192x2048 main_cst
  let main_v2 : IVec S1x8192x2048 1 := cmpf .olt main_v0 main_v1
  let main_c : IVec S_ 1 := constantI S_ 1 1#1
  let main_v3 : IVec S_ 1 := (fun x v => Host.reduce IntOp.andi x v reducesTo_S1x8192x2048_S_d0_1_2 h_S_) main_v2 main_c
  let main_v4 : FVec F S1x8192x1024 .f32 := Host.absf main_arg1
  let main_cst_0 : FVec F S_ .f32 := constant S_ .f32 0x7F800000#32
  let main_v5 : FVec F S1x8192x1024 .f32 := broadcastInDim S1x8192x1024 ![] bcast_S_S1x8192x1024 main_cst_0
  let main_v6 : IVec S1x8192x1024 1 := cmpf .olt main_v4 main_v5
  let main_c_1 : IVec S_ 1 := constantI S_ 1 1#1
  let main_v7 : IVec S_ 1 := (fun x v => Host.reduce IntOp.andi x v reducesTo_S1x8192x1024_S_d0_1_2 h_S_) main_v6 main_c_1
  let main_v8 : IVec S_ 1 := andi main_v3 main_v7
  let main_v9 : FVec F S1x4x256x512 .f32 := Host.absf main_arg2
  let main_cst_2 : FVec F S_ .f32 := constant S_ .f32 0x7F800000#32
  let main_v10 : FVec F S1x4x256x512 .f32 := broadcastInDim S1x4x256x512 ![] bcast_S_S1x4x256x512 main_cst_2
  let main_v11 : IVec S1x4x256x512 1 := cmpf .olt main_v9 main_v10
  let main_c_3 : IVec S_ 1 := constantI S_ 1 1#1
  let main_v12 : IVec S_ 1 := (fun x v => Host.reduce IntOp.andi x v reducesTo_S1x4x256x512_S_d0_1_2_3 h_S_) main_v11 main_c_3
  let main_v13 : IVec S_ 1 := andi main_v8 main_v12
  let main_v14 : FVec F S1x2048x16400 .f32 := Host.absf main_arg3
  let main_cst_4 : FVec F S_ .f32 := constant S_ .f32 0x7F800000#32
  let main_v15 : FVec F S1x2048x16400 .f32 := broadcastInDim S1x2048x16400 ![] bcast_S_S1x2048x16400 main_cst_4
  let main_v16 : IVec S1x2048x16400 1 := cmpf .olt main_v14 main_v15
  fn_part1 (F := F) main_v13 main_v16
-- ==== Kernel.lean ====
abbrev S1x8192x2048 : Shape := ⟨3, ![1, 8192, 2048]⟩
abbrev S1x8192x1024 : Shape := ⟨3, ![1, 8192, 1024]⟩
abbrev S1x4x256x512 : Shape := ⟨4, ![1, 4, 256, 512]⟩
abbrev S1x2048x16400 : Shape := ⟨3, ![1, 2048, 16400]⟩
abbrev S1x2048 : Shape := ⟨2, ![1, 2048]⟩
abbrev S1x2048x2048 : Shape := ⟨3, ![1, 2048, 2048]⟩
abbrev S8192x2048 : Shape := ⟨2, ![8192, 2048]⟩
abbrev S_ : Shape := ⟨0, ![]⟩
abbrev S8704x2048 : Shape := ⟨2, ![8704, 2048]⟩
abbrev S8192x1024 : Shape := ⟨2, ![8192, 1024]⟩
abbrev S8704x1024 : Shape := ⟨2, ![8704, 1024]⟩
abbrev S1x16400x2048 : Shape := ⟨3, ![1, 16400, 2048]⟩
abbrev S2048 : Shape := ⟨1, ![2048]⟩
abbrev S4x256x512 : Shape := ⟨3, ![4, 256, 512]⟩
abbrev S10240x2048 : Shape := ⟨2, ![10240, 2048]⟩
abbrev S2048x2048 : Shape := ⟨2, ![2048, 2048]⟩
abbrev S512x2048 : Shape := ⟨2, ![512, 2048]⟩
abbrev S1x256x2048 : Shape := ⟨3, ![1, 256, 2048]⟩
abbrev S1x512x2048 : Shape := ⟨3, ![1, 512, 2048]⟩
abbrev S512x256 : Shape := ⟨2, ![512, 256]⟩
abbrev S1x512 : Shape := ⟨2, ![1, 512]⟩
abbrev S1x256x512 : Shape := ⟨3, ![1, 256, 512]⟩
abbrev S1x160x2048 : Shape := ⟨3, ![1, 160, 2048]⟩
abbrev S1x32x2048 : Shape := ⟨3, ![1, 32, 2048]⟩
abbrev S512x512 : Shape := ⟨2, ![512, 512]⟩
abbrev S160x2048 : Shape := ⟨2, ![160, 2048]⟩
abbrev S32x2048 : Shape := ⟨2, ![32, 2048]⟩
abbrev S1536x2048 : Shape := ⟨2, ![1536, 2048]⟩
abbrev S256x512 : Shape := ⟨2, ![256, 512]⟩
abbrev S256x2048 : Shape := ⟨2, ![256, 2048]⟩
abbrev S256x256 : Shape := ⟨2, ![256, 256]⟩
abbrev S1024x2048 : Shape := ⟨2, ![1024, 2048]⟩
abbrev S512x1024 : Shape := ⟨2, ![512, 1024]⟩
abbrev S2x256x256 : Shape := ⟨3, ![2, 256, 256]⟩
abbrev S2x1x256 : Shape := ⟨3, ![2, 1, 256]⟩
abbrev S4x128x256 : Shape := ⟨3, ![4, 128, 256]⟩
abbrev S4x1x256 : Shape := ⟨3, ![4, 1, 256]⟩
abbrev S8x64x256 : Shape := ⟨3, ![8, 64, 256]⟩
abbrev S8x1x256 : Shape := ⟨3, ![8, 1, 256]⟩
abbrev S16x32x256 : Shape := ⟨3, ![16, 32, 256]⟩
abbrev S16x1x256 : Shape := ⟨3, ![16, 1, 256]⟩
abbrev S32x16x256 : Shape := ⟨3, ![32, 16, 256]⟩
abbrev S32x1x256 : Shape := ⟨3, ![32, 1, 256]⟩
abbrev S64x8x256 : Shape := ⟨3, ![64, 8, 256]⟩
abbrev S64x1x256 : Shape := ⟨3, ![64, 1, 256]⟩
abbrev S1x256 : Shape := ⟨2, ![1, 256]⟩
abbrev S128x256 : Shape := ⟨2, ![128, 256]⟩
abbrev S256x128 : Shape := ⟨2, ![256, 128]⟩
abbrev S512 : Shape := ⟨1, ![512]⟩
abbrev S512x1 : Shape := ⟨2, ![512, 1]⟩

abbrev nBuf : Space → Nat
  | .hbm => 23
  | .vmem => 30
  | .smem => 0
  | _ => 0

abbrev bufTy : (tb : Table) → Fin (tcTables nBuf tb) → BufTy
  | .hbm, ⟨0, _⟩ => ⟨S1x8192x2048, .f32⟩
  | .hbm, ⟨1, _⟩ => ⟨S1x8192x1024, .f32⟩
  | .hbm, ⟨2, _⟩ => ⟨S1x4x256x512, .f32⟩
  | .hbm, ⟨3, _⟩ => ⟨S1x2048x16400, .f32⟩
  | .hbm, ⟨4, _⟩ => ⟨S1x2048, .f32⟩
  | .hbm, ⟨5, _⟩ => ⟨S1x2048x2048, .f32⟩
  | .hbm, ⟨6, _⟩ => ⟨S8192x2048, .f32⟩
  | .hbm, ⟨7, _⟩ => ⟨S_, .i32⟩
  | .hbm, ⟨8, _⟩ => ⟨S_, .f32⟩
  | .hbm, ⟨9, _⟩ => ⟨S8704x2048, .f32⟩
  | .hbm, ⟨10, _⟩ => ⟨S8704x2048, .bf16⟩
  | .hbm, ⟨11, _⟩ => ⟨S8192x1024, .f32⟩
  | .hbm, ⟨12, _⟩ => ⟨S_, .i32⟩
  | .hbm, ⟨13, _⟩ => ⟨S_, .f32⟩
  | .hbm, ⟨14, _⟩ => ⟨S8704x1024, .f32⟩
  | .hbm, ⟨15, _⟩ => ⟨S1x16400x2048, .f32⟩
  | .hbm, ⟨16, _⟩ => ⟨S2048, .f32⟩
  | .hbm, ⟨17, _⟩ => ⟨S1x2048, .f32⟩
  | .hbm, ⟨18, _⟩ => ⟨S4x256x512, .f32⟩
  | .hbm, ⟨19, _⟩ => ⟨S8192x2048, .f32⟩
  | .hbm, ⟨20, _⟩ => ⟨S4x256x512, .f32⟩
  | .hbm, ⟨21, _⟩ => ⟨S10240x2048, .bf16⟩
  | .hbm, ⟨22, _⟩ => ⟨S2048x2048, .bf16⟩
  | .local _ .vmem, ⟨0, _⟩ => ⟨S512x2048, .bf16⟩
  | .local _ .vmem, ⟨1, _⟩ => ⟨S512x2048, .bf16⟩
  | .local _ .vmem, ⟨2, _⟩ => ⟨S1x256x2048, .f32⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | .local _ .vmem, ⟨6, _⟩ => ⟨S1x512x2048, .f32⟩
  | .local _ .vmem, ⟨7, _⟩ => ⟨S1x512x2048, .f32⟩
  | .local _ .vmem, ⟨8, _⟩ => ⟨S1x512x2048, .f32⟩
  | .local _ .vmem, ⟨9, _⟩ => ⟨S1x512x2048, .f32⟩
  | .local _ .vmem, ⟨10, _⟩ => ⟨S512x256, .f32⟩
  | .local _ .vmem, ⟨11, _⟩ => ⟨S512x256, .f32⟩
  | .local _ .vmem, ⟨12, _⟩ => ⟨S1x512, .f32⟩
  | .local _ .vmem, ⟨13, _⟩ => ⟨S1x512, .f32⟩
  | .local _ .vmem, ⟨14, _⟩ => ⟨S1x256x512, .f32⟩
  | .local _ .vmem, ⟨15, _⟩ => ⟨S1x256x512, .f32⟩
  | .local _ .vmem, ⟨16, _⟩ => ⟨S1x160x2048, .f32⟩
  | .local _ .vmem, ⟨17, _⟩ => ⟨S1x160x2048, .f32⟩
  | .local _ .vmem, ⟨18, _⟩ => ⟨S1x32x2048, .f32⟩
  | .local _ .vmem, ⟨19, _⟩ => ⟨S1x32x2048, .f32⟩
  | .local _ .vmem, ⟨20, _⟩ => ⟨S512x512, .f32⟩
  | .local _ .vmem, ⟨21, _⟩ => ⟨S512x512, .f32⟩
  | .local _ .vmem, ⟨22, _⟩ => ⟨S1x256x512, .f32⟩
  | .local _ .vmem, ⟨23, _⟩ => ⟨S1x256x512, .f32⟩
  | .local _ .vmem, ⟨24, _⟩ => ⟨S160x2048, .bf16⟩
  | .local _ .vmem, ⟨25, _⟩ => ⟨S160x2048, .bf16⟩
  | .local _ .vmem, ⟨26, _⟩ => ⟨S32x2048, .bf16⟩
  | .local _ .vmem, ⟨27, _⟩ => ⟨S32x2048, .bf16⟩
  | .local _ .vmem, ⟨28, _⟩ => ⟨S1536x2048, .bf16⟩
  | .local _ .vmem, ⟨29, _⟩ => ⟨S256x512, .f32⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_call1_v0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9_0 : Ref sig .tc := ⟨.hbm, 19, rfl⟩
abbrev main_v9_1 : Ref sig .tc := ⟨.hbm, 20, rfl⟩
abbrev main_v9_2 : Ref sig .tc := ⟨.hbm, 21, rfl⟩
abbrev main_v9_3 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_scratch1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![4, 16], ![false, false]⟩

def k0_mult1 (i : grid0.Coords) : BitVec 32 :=
  let c6160_i32 : BitVec 32 := 6160#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c160_i32 : BitVec 32 := 160#32
  let v2 : BitVec 32 := Scalar.muli v1 c160_i32
  let v3 : BitVec 32 := Scalar.addi c6160_i32 v2
  v3
def k0_cond2 (i : grid0.Coords) : BitVec 1 :=
  let arg1 : BitVec 32 := BitVec.ofNat 32 (i 1).val
  let c15_i32_136 : BitVec 32 := 15#32
  let v484 : BitVec 1 := Scalar.cmpi .eq arg1 c15_i32_136
  let v485 : BitVec 32 := Scalar.extui v484
  let c0_i32_137 : BitVec 32 := 0#32
  let v486 : BitVec 1 := Scalar.cmpi .ne v485 c0_i32_137
  v486

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  let c0_i32_1 : BitVec 32 := 0#32
  ![c0_i32.toNat, v0.toNat, c0_i32_0.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  let c0_i32_1 : BitVec 32 := 0#32
  ![c0_i32.toNat, v0.toNat, c0_i32_0.toNat]

def cc0_transform_4 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  let c0_i32_1 : BitVec 32 := 0#32
  ![c0_i32.toNat, v0.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c160_i32 : BitVec 32 := 160#32
  let v2 : BitVec 32 := Scalar.muli v1 c160_i32
  let c6160_i32 : BitVec 32 := 6160#32
  let v3 : BitVec 32 := Scalar.addi c6160_i32 v2
  let v4 : BitVec 32 := v3
  let c0_i32 : BitVec 32 := 0#32
  let c0_i32_0 : BitVec 32 := 0#32
  let c0_i32_1 : BitVec 32 := 0#32
  ![c0_i32.toNat, v4.toNat, c0_i32_0.toNat]

def cc0_transform_9 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x160x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x32x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S160x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S32x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== ReferenceIdeal.lean ====
abbrev S1x8192x2048 : Shape := ⟨3, ![1, 8192, 2048]⟩
abbrev S1x8192x1024 : Shape := ⟨3, ![1, 8192, 1024]⟩
abbrev S1x4x256x512 : Shape := ⟨4, ![1, 4, 256, 512]⟩
abbrev S1x2048x16400 : Shape := ⟨3, ![1, 2048, 16400]⟩
abbrev S1x2048 : Shape := ⟨2, ![1, 2048]⟩
abbrev S1x2048x2048 : Shape := ⟨3, ![1, 2048, 2048]⟩
abbrev S1x2048x1024 : Shape := ⟨3, ![1, 2048, 1024]⟩
abbrev S2048x1024 : Shape := ⟨2, ![2048, 1024]⟩
abbrev S2048x2048 : Shape := ⟨2, ![2048, 2048]⟩
abbrev S_ : Shape := ⟨0, ![]⟩
abbrev S1x8192x4x256 : Shape := ⟨4, ![1, 8192, 4, 256]⟩
abbrev S1x4x8192x256 : Shape := ⟨4, ![1, 4, 8192, 256]⟩
abbrev S1x8192x4x512 : Shape := ⟨4, ![1, 8192, 4, 512]⟩
abbrev S1x4x8192x512 : Shape := ⟨4, ![1, 4, 8192, 512]⟩
abbrev S1x4x128x64x256 : Shape := ⟨5, ![1, 4, 128, 64, 256]⟩
abbrev S128x1x4x64x256 : Shape := ⟨5, ![128, 1, 4, 64, 256]⟩
abbrev S1x4x128x64x512 : Shape := ⟨5, ![1, 4, 128, 64, 512]⟩
abbrev S128x1x4x64x512 : Shape := ⟨5, ![128, 1, 4, 64, 512]⟩
abbrev S1x1x4x64x256 : Shape := ⟨5, ![1, 1, 4, 64, 256]⟩
abbrev S1x4x64x256 : Shape := ⟨4, ![1, 4, 64, 256]⟩
abbrev S1x1x4x64x512 : Shape := ⟨5, ![1, 1, 4, 64, 512]⟩
abbrev S1x4x64x512 : Shape := ⟨4, ![1, 4, 64, 512]⟩
abbrev S64x64 : Shape := ⟨2, ![64, 64]⟩
abbrev S1x4x64x1x256 : Shape := ⟨5, ![1, 4, 64, 1, 256]⟩
abbrev S1x4x1x64x256 : Shape := ⟨5, ![1, 4, 1, 64, 256]⟩
abbrev S1x4x64x64x256 : Shape := ⟨5, ![1, 4, 64, 64, 256]⟩
abbrev S1x1x64x64x1 : Shape := ⟨5, ![1, 1, 64, 64, 1]⟩
abbrev S1x4x64x64 : Shape := ⟨4, ![1, 4, 64, 64]⟩
abbrev S1x4x1x256 : Shape := ⟨4, ![1, 4, 1, 256]⟩
abbrev S1x4x256 : Shape := ⟨3, ![1, 4, 256]⟩
abbrev S1x4x256x1 : Shape := ⟨4, ![1, 4, 256, 1]⟩
abbrev S1x4x8192 : Shape := ⟨3, ![1, 4, 8192]⟩
abbrev S1x4x8192x1 : Shape := ⟨4, ![1, 4, 8192, 1]⟩
abbrev S2048 : Shape := ⟨1, ![2048]⟩
abbrev S1x1x2048 : Shape := ⟨3, ![1, 1, 2048]⟩
abbrev S8192x2048 : Shape := ⟨2, ![8192, 2048]⟩
abbrev S4x256x512 : Shape := ⟨3, ![4, 256, 512]⟩
abbrev S1x2048x10240 : Shape := ⟨3, ![1, 2048, 10240]⟩
abbrev S2048x10240 : Shape := ⟨2, ![2048, 10240]⟩
abbrev S10240x2048 : Shape := ⟨2, ![10240, 2048]⟩

abbrev nBuf : Space → Nat
  | .hbm => 171
  | .vmem => 0
  | .smem => 0
  | _ => 0

abbrev hbmTy0_0 (i : Nat) : BufTy := match i % 128 with
  | 0 => ⟨S1x8192x2048, .f32⟩
  | 1 => ⟨S1x8192x1024, .f32⟩
  | 2 => ⟨S1x4x256x512, .f32⟩
  | 3 => ⟨S1x2048x16400, .f32⟩
  | 4 => ⟨S1x2048, .f32⟩
  | 5 => ⟨S1x2048x2048, .f32⟩
  | 6 => ⟨S1x2048x1024, .f32⟩
  | 7 => ⟨S2048x1024, .f32⟩
  | 8 => ⟨S1x8192x1024, .f32⟩
  | 9 => ⟨S1x2048x1024, .f32⟩
  | 10 => ⟨S2048x1024, .f32⟩
  | 11 => ⟨S1x8192x1024, .f32⟩
  | 12 => ⟨S1x2048x2048, .f32⟩
  | 13 => ⟨S2048x2048, .f32⟩
  | 14 => ⟨S1x8192x2048, .f32⟩
  | 15 => ⟨S_, .f32⟩
  | 16 => ⟨S1x8192x1024, .f32⟩
  | 17 => ⟨S1x8192x1024, .f32⟩
  | 18 => ⟨S1x8192x4x256, .f32⟩
  | 19 => ⟨S1x4x8192x256, .f32⟩
  | 20 => ⟨S1x8192x4x256, .f32⟩
  | 21 => ⟨S1x4x8192x256, .f32⟩
  | 22 => ⟨S1x8192x4x512, .f32⟩
  | 23 => ⟨S1x4x8192x512, .f32⟩
  | 24 => ⟨S1x8192x4x256, .f32⟩
  | 25 => ⟨S1x4x8192x256, .f32⟩
  | 26 => ⟨S1x4x128x64x256, .f32⟩
  | 27 => ⟨S128x1x4x64x256, .f32⟩
  | 28 => ⟨S1x4x128x64x256, .f32⟩
  | 29 => ⟨S128x1x4x64x256, .f32⟩
  | 30 => ⟨S1x4x128x64x512, .f32⟩
  | 31 => ⟨S128x1x4x64x512, .f32⟩
  | 32 => ⟨S1x4x128x64x256, .f32⟩
  | 33 => ⟨S128x1x4x64x256, .f32⟩
  | 34 => ⟨S_, .f32⟩
  | 35 => ⟨S128x1x4x64x512, .f32⟩
  | 36 => ⟨S_, .i32⟩
  | 37 => ⟨S128x1x4x64x256, .f32⟩
  | 38 => ⟨S128x1x4x64x256, .f32⟩
  | 39 => ⟨S128x1x4x64x512, .f32⟩
  | 40 => ⟨S128x1x4x64x256, .f32⟩
  | 41 => ⟨S_, .i32⟩
  | 42 => ⟨S1x4x256x512, .f32⟩
  | 43 => ⟨S128x1x4x64x512, .f32⟩
  | 44 => ⟨S_, .i32⟩
  | 45 => ⟨S_, .i1⟩
  | 46 => ⟨S_, .i32⟩
  | 47 => ⟨S_, .i32⟩
  | 48 => ⟨S_, .i32⟩
  | 49 => ⟨S_, .i32⟩
  | 50 => ⟨S1x1x4x64x256, .f32⟩
  | 51 => ⟨S1x4x64x256, .f32⟩
  | 52 => ⟨S_, .i32⟩
  | 53 => ⟨S_, .i32⟩
  | 54 => ⟨S_, .i32⟩
  | 55 => ⟨S_, .i32⟩
  | 56 => ⟨S1x1x4x64x256, .f32⟩
  | 57 => ⟨S1x4x64x256, .f32⟩
  | 58 => ⟨S_, .i32⟩
  | 59 => ⟨S_, .i32⟩
  | 60 => ⟨S_, .i32⟩
  | 61 => ⟨S_, .i32⟩
  | 62 => ⟨S1x1x4x64x512, .f32⟩
  | 63 => ⟨S1x4x64x512, .f32⟩
  | 64 => ⟨S_, .i32⟩
  | 65 => ⟨S_, .i32⟩
  | 66 => ⟨S_, .i32⟩
  | 67 => ⟨S_, .i32⟩
  | 68 => ⟨S1x1x4x64x256, .f32⟩
  | 69 => ⟨S1x4x64x256, .f32⟩
  | 70 => ⟨S_, .f32⟩
  | 71 => ⟨S_, .f32⟩
  | 72 => ⟨S1x4x64x256, .f32⟩
  | 73 => ⟨S_, .i1⟩
  | 74 => ⟨S64x64, .i1⟩
  | 75 => ⟨S64x64, .i32⟩
  | 76 => ⟨S_, .i32⟩
  | 77 => ⟨S64x64, .i32⟩
  | 78 => ⟨S64x64, .i32⟩
  | 79 => ⟨S64x64, .i32⟩
  | 80 => ⟨S64x64, .i1⟩
  | 81 => ⟨S_, .i1⟩
  | 82 => ⟨S64x64, .i1⟩
  | 83 => ⟨S64x64, .i1⟩
  | 84 => ⟨S1x4x64x1x256, .f32⟩
  | 85 => ⟨S1x4x1x64x256, .f32⟩
  | 86 => ⟨S1x4x64x64x256, .f32⟩
  | 87 => ⟨S1x4x64x64x256, .f32⟩
  | 88 => ⟨S1x4x64x64x256, .f32⟩
  | 89 => ⟨S1x1x64x64x1, .i1⟩
  | 90 => ⟨S_, .f32⟩
  | 91 => ⟨S_, .f32⟩
  | 92 => ⟨S1x4x64x64x256, .i1⟩
  | 93 => ⟨S1x4x64x64x256, .f32⟩
  | 94 => ⟨S1x4x64x64x256, .f32⟩
  | 95 => ⟨S1x4x64x64x256, .f32⟩
  | 96 => ⟨S1x4x64x1x256, .f32⟩
  | 97 => ⟨S1x4x1x64x256, .f32⟩
  | 98 => ⟨S1x4x64x64x256, .f32⟩
  | 99 => ⟨S1x4x64x64x256, .f32⟩
  | 100 => ⟨S1x4x64x64x256, .f32⟩
  | 101 => ⟨S1x4x64x64x256, .f32⟩
  | 102 => ⟨S_, .f32⟩
  | 103 => ⟨S1x4x64x64, .f32⟩
  | 104 => ⟨S1x4x64x512, .f32⟩
  | 105 => ⟨S1x4x64x256, .f32⟩
  | 106 => ⟨S1x4x64x256, .f32⟩
  | 107 => ⟨S1x4x64x512, .f32⟩
  | 108 => ⟨S1x4x64x512, .f32⟩
  | 109 => ⟨S1x4x1x256, .f32⟩
  | 110 => ⟨S1x4x64x256, .f32⟩
  | 111 => ⟨S1x4x64x256, .f32⟩
  | 112 => ⟨S1x4x64x256, .f32⟩
  | 113 => ⟨S1x4x64x256, .f32⟩
  | 114 => ⟨S1x4x256, .f32⟩
  | 115 => ⟨S1x4x256, .f32⟩
  | 116 => ⟨S1x4x256x1, .f32⟩
  | 117 => ⟨S1x4x256x512, .f32⟩
  | 118 => ⟨S1x4x256x512, .f32⟩
  | 119 => ⟨S1x4x256x512, .f32⟩
  | 120 => ⟨S1x4x256x512, .f32⟩
  | 121 => ⟨S1x1x4x64x512, .f32⟩
  | 122 => ⟨S_, .i32⟩
  | 123 => ⟨S_, .i32⟩
  | 124 => ⟨S_, .i32⟩
  | 125 => ⟨S_, .i32⟩
  | 126 => ⟨S128x1x4x64x512, .f32⟩
  | 127 => ⟨S_, .i32⟩
  | _ => ⟨S1x8192x2048, .f32⟩

abbrev hbmTy0_1 (i : Nat) : BufTy := match i % 128 with
  | 0 => ⟨S_, .i32⟩
  | 1 => ⟨S1x4x128x64x512, .f32⟩
  | 2 => ⟨S1x4x8192x512, .f32⟩
  | 3 => ⟨S1x4x8192x512, .f32⟩
  | 4 => ⟨S_, .f32⟩
  | 5 => ⟨S1x4x8192, .f32⟩
  | 6 => ⟨S1x4x8192x1, .f32⟩
  | 7 => ⟨S_, .f32⟩
  | 8 => ⟨S1x4x8192x1, .f32⟩
  | 9 => ⟨S1x4x8192x1, .f32⟩
  | 10 => ⟨S_, .f32⟩
  | 11 => ⟨S1x4x8192x1, .f32⟩
  | 12 => ⟨S1x4x8192x1, .f32⟩
  | 13 => ⟨S1x4x8192x1, .f32⟩
  | 14 => ⟨S1x4x8192x512, .f32⟩
  | 15 => ⟨S1x4x8192x512, .f32⟩
  | 16 => ⟨S1x8192x4x512, .f32⟩
  | 17 => ⟨S1x8192x2048, .f32⟩
  | 18 => ⟨S2048, .f32⟩
  | 19 => ⟨S1x1x2048, .f32⟩
  | 20 => ⟨S1x8192x2048, .f32⟩
  | 21 => ⟨S1x8192x2048, .f32⟩
  | 22 => ⟨S1x2048x2048, .f32⟩
  | 23 => ⟨S2048x2048, .f32⟩
  | 24 => ⟨S1x8192x2048, .f32⟩
  | 25 => ⟨S1x8192x2048, .f32⟩
  | 26 => ⟨S1x8192x2048, .f32⟩
  | 27 => ⟨S_, .f32⟩
  | 28 => ⟨S1x8192x2048, .f32⟩
  | 29 => ⟨S1x8192x2048, .f32⟩
  | 30 => ⟨S_, .f32⟩
  | 31 => ⟨S1x8192x2048, .f32⟩
  | 32 => ⟨S1x8192x2048, .f32⟩
  | 33 => ⟨S1x8192x2048, .f32⟩
  | 34 => ⟨S1x8192x2048, .f32⟩
  | 35 => ⟨S8192x2048, .f32⟩
  | 36 => ⟨S4x256x512, .f32⟩
  | 37 => ⟨S1x2048x10240, .f32⟩
  | 38 => ⟨S2048x10240, .f32⟩
  | 39 => ⟨S10240x2048, .f32⟩
  | 40 => ⟨S10240x2048, .bf16⟩
  | 41 => ⟨S2048x2048, .f32⟩
  | 42 => ⟨S2048x2048, .bf16⟩
  | _ => ⟨S1x8192x2048, .f32⟩

abbrev hbmTy (i : Nat) : BufTy := match i / 128 with
  | 0 => hbmTy0_0 i
  | 1 => hbmTy0_1 i
  | _ => ⟨S1x8192x2048, .f32⟩

abbrev bufTy : (tb : Table) → Fin (tcTables nBuf tb) → BufTy
  | .hbm, ⟨i, _⟩ => hbmTy i
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_0 : Ref sig .tc := ⟨.hbm, 34, rfl⟩
abbrev main_v27 : Ref sig .tc := ⟨.hbm, 35, rfl⟩
abbrev main_c : Ref sig .tc := ⟨.hbm, 36, rfl⟩
abbrev main_v28_0 : Ref sig .tc := ⟨.hbm, 37, rfl⟩
abbrev main_v28_1 : Ref sig .tc := ⟨.hbm, 38, rfl⟩
abbrev main_v28_2 : Ref sig .tc := ⟨.hbm, 39, rfl⟩
abbrev main_v28_3 : Ref sig .tc := ⟨.hbm, 40, rfl⟩
abbrev main_v28_4 : Ref sig .tc := ⟨.hbm, 41, rfl⟩
abbrev main_v28_5 : Ref sig .tc := ⟨.hbm, 42, rfl⟩
abbrev main_v28_6 : Ref sig .tc := ⟨.hbm, 43, rfl⟩
abbrev main_while0c_c_10 : Ref sig .tc := ⟨.hbm, 44, rfl⟩
abbrev main_while0c_v60 : Ref sig .tc := ⟨.hbm, 45, rfl⟩
abbrev main_while0b_call0_c : Ref sig .tc := ⟨.hbm, 46, rfl⟩
abbrev main_while0b_call0_c_0 : Ref sig .tc := ⟨.hbm, 47, rfl⟩
abbrev main_while0b_call0_c_1 : Ref sig .tc := ⟨.hbm, 48, rfl⟩
abbrev main_while0b_call0_c_2 : Ref sig .tc := ⟨.hbm, 49, rfl⟩
abbrev main_while0b_call0_v0 : Ref sig .tc := ⟨.hbm, 50, rfl⟩
abbrev main_while0b_v60 : Ref sig .tc := ⟨.hbm, 51, rfl⟩
abbrev main_while0b_call1_c : Ref sig .tc := ⟨.hbm, 52, rfl⟩
abbrev main_while0b_call1_c_0 : Ref sig .tc := ⟨.hbm, 53, rfl⟩
abbrev main_while0b_call1_c_1 : Ref sig .tc := ⟨.hbm, 54, rfl⟩
abbrev main_while0b_call1_c_2 : Ref sig .tc := ⟨.hbm, 55, rfl⟩
abbrev main_while0b_call1_v0 : Ref sig .tc := ⟨.hbm, 56, rfl⟩
abbrev main_while0b_v61 : Ref sig .tc := ⟨.hbm, 57, rfl⟩
abbrev main_while0b_call2_c : Ref sig .tc := ⟨.hbm, 58, rfl⟩
abbrev main_while0b_call2_c_0 : Ref sig .tc := ⟨.hbm, 59, rfl⟩
abbrev main_while0b_call2_c_1 : Ref sig .tc := ⟨.hbm, 60, rfl⟩
abbrev main_while0b_call2_c_2 : Ref sig .tc := ⟨.hbm, 61, rfl⟩
abbrev main_while0b_call2_v0 : Ref sig .tc := ⟨.hbm, 62, rfl⟩
abbrev main_while0b_v62 : Ref sig .tc := ⟨.hbm, 63, rfl⟩
abbrev main_while0b_call3_c : Ref sig .tc := ⟨.hbm, 64, rfl⟩
abbrev main_while0b_call3_c_0 : Ref sig .tc := ⟨.hbm, 65, rfl⟩
abbrev main_while0b_call3_c_1 : Ref sig .tc := ⟨.hbm, 66, rfl⟩
abbrev main_while0b_call3_c_2 : Ref sig .tc := ⟨.hbm, 67, rfl⟩
abbrev main_while0b_call3_v0 : Ref sig .tc := ⟨.hbm, 68, rfl⟩
abbrev main_while0b_v63 : Ref sig .tc := ⟨.hbm, 69, rfl⟩
abbrev main_while0b_call4_call0_cst : Ref sig .tc := ⟨.hbm, 70, rfl⟩
abbrev main_while0b_call4_call0_v0 : Ref sig .tc := ⟨.hbm, 71, rfl⟩
abbrev main_while0b_v64 : Ref sig .tc := ⟨.hbm, 72, rfl⟩
abbrev main_while0b_c_10 : Ref sig .tc := ⟨.hbm, 73, rfl⟩
abbrev main_while0b_v65 : Ref sig .tc := ⟨.hbm, 74, rfl⟩
abbrev main_while0b_call5_v0 : Ref sig .tc := ⟨.hbm, 75, rfl⟩
abbrev main_while0b_call5_c : Ref sig .tc := ⟨.hbm, 76, rfl⟩
abbrev main_while0b_call5_v1 : Ref sig .tc := ⟨.hbm, 77, rfl⟩
abbrev main_while0b_call5_v2 : Ref sig .tc := ⟨.hbm, 78, rfl⟩
abbrev main_while0b_call5_v3 : Ref sig .tc := ⟨.hbm, 79, rfl⟩
abbrev main_while0b_call5_v4 : Ref sig .tc := ⟨.hbm, 80, rfl⟩
abbrev main_while0b_call5_c_0 : Ref sig .tc := ⟨.hbm, 81, rfl⟩
abbrev main_while0b_call5_v5 : Ref sig .tc := ⟨.hbm, 82, rfl⟩
abbrev main_while0b_v66 : Ref sig .tc := ⟨.hbm, 83, rfl⟩
abbrev main_while0b_v67 : Ref sig .tc := ⟨.hbm, 84, rfl⟩
abbrev main_while0b_v68 : Ref sig .tc := ⟨.hbm, 85, rfl⟩
abbrev main_while0b_v69 : Ref sig .tc := ⟨.hbm, 86, rfl⟩
abbrev main_while0b_v70 : Ref sig .tc := ⟨.hbm, 87, rfl⟩
abbrev main_while0b_v71 : Ref sig .tc := ⟨.hbm, 88, rfl⟩
abbrev main_while0b_v72 : Ref sig .tc := ⟨.hbm, 89, rfl⟩
abbrev main_while0b_cst_11 : Ref sig .tc := ⟨.hbm, 90, rfl⟩
abbrev main_while0b_call6_v0 : Ref sig .tc := ⟨.hbm, 91, rfl⟩
abbrev main_while0b_call6_v1 : Ref sig .tc := ⟨.hbm, 92, rfl⟩
abbrev main_while0b_call6_v2 : Ref sig .tc := ⟨.hbm, 93, rfl⟩
abbrev main_while0b_v73 : Ref sig .tc := ⟨.hbm, 94, rfl⟩
abbrev main_while0b_v74 : Ref sig .tc := ⟨.hbm, 95, rfl⟩
abbrev main_while0b_v75 : Ref sig .tc := ⟨.hbm, 96, rfl⟩
abbrev main_while0b_v76 : Ref sig .tc := ⟨.hbm, 97, rfl⟩
abbrev main_while0b_v77 : Ref sig .tc := ⟨.hbm, 98, rfl⟩
abbrev main_while0b_v78 : Ref sig .tc := ⟨.hbm, 99, rfl⟩
abbrev main_while0b_v79 : Ref sig .tc := ⟨.hbm, 100, rfl⟩
abbrev main_while0b_v80 : Ref sig .tc := ⟨.hbm, 101, rfl⟩
abbrev main_while0b_cst_12 : Ref sig .tc := ⟨.hbm, 102, rfl⟩
abbrev main_while0b_v81 : Ref sig .tc := ⟨.hbm, 103, rfl⟩
abbrev main_while0b_v82 : Ref sig .tc := ⟨.hbm, 104, rfl⟩
abbrev main_while0b_v83 : Ref sig .tc := ⟨.hbm, 105, rfl⟩
abbrev main_while0b_v84 : Ref sig .tc := ⟨.hbm, 106, rfl⟩
abbrev main_while0b_v85 : Ref sig .tc := ⟨.hbm, 107, rfl⟩
abbrev main_while0b_v86 : Ref sig .tc := ⟨.hbm, 108, rfl⟩
abbrev main_while0b_v87 : Ref sig .tc := ⟨.hbm, 109, rfl⟩
abbrev main_while0b_v88 : Ref sig .tc := ⟨.hbm, 110, rfl⟩
abbrev main_while0b_v89 : Ref sig .tc := ⟨.hbm, 111, rfl⟩
abbrev main_while0b_v90 : Ref sig .tc := ⟨.hbm, 112, rfl⟩
abbrev main_while0b_v91 : Ref sig .tc := ⟨.hbm, 113, rfl⟩
abbrev main_while0b_v92 : Ref sig .tc := ⟨.hbm, 114, rfl⟩
abbrev main_while0b_v93 : Ref sig .tc := ⟨.hbm, 115, rfl⟩
abbrev main_while0b_v94 : Ref sig .tc := ⟨.hbm, 116, rfl⟩
abbrev main_while0b_v95 : Ref sig .tc := ⟨.hbm, 117, rfl⟩
abbrev main_while0b_v96 : Ref sig .tc := ⟨.hbm, 118, rfl⟩
abbrev main_while0b_v97 : Ref sig .tc := ⟨.hbm, 119, rfl⟩
abbrev main_while0b_v98 : Ref sig .tc := ⟨.hbm, 120, rfl⟩
abbrev main_while0b_call7_v0 : Ref sig .tc := ⟨.hbm, 121, rfl⟩
abbrev main_while0b_call7_c : Ref sig .tc := ⟨.hbm, 122, rfl⟩
abbrev main_while0b_call7_c_0 : Ref sig .tc := ⟨.hbm, 123, rfl⟩
abbrev main_while0b_call7_c_1 : Ref sig .tc := ⟨.hbm, 124, rfl⟩
abbrev main_while0b_call7_c_2 : Ref sig .tc := ⟨.hbm, 125, rfl⟩
abbrev main_while0b_v99 : Ref sig .tc := ⟨.hbm, 126, rfl⟩
abbrev main_while0b_c_13 : Ref sig .tc := ⟨.hbm, 127, rfl⟩
abbrev main_while0b_v100 : Ref sig .tc := ⟨.hbm, 128, rfl⟩
abbrev main_v29 : Ref sig .tc := ⟨.hbm, 129, rfl⟩
abbrev main_v30 : Ref sig .tc := ⟨.hbm, 130, rfl⟩
abbrev main_v31 : Ref sig .tc := ⟨.hbm, 131, rfl⟩
abbrev main_cst_1 : Ref sig .tc := ⟨.hbm, 132, rfl⟩
abbrev main_v32 : Ref sig .tc := ⟨.hbm, 133, rfl⟩
abbrev main_v33 : Ref sig .tc := ⟨.hbm, 134, rfl⟩
abbrev main_cst_2 : Ref sig .tc := ⟨.hbm, 135, rfl⟩
abbrev main_v34 : Ref sig .tc := ⟨.hbm, 136, rfl⟩
abbrev main_v35 : Ref sig .tc := ⟨.hbm, 137, rfl⟩
abbrev main_cst_3 : Ref sig .tc := ⟨.hbm, 138, rfl⟩
abbrev main_v36 : Ref sig .tc := ⟨.hbm, 139, rfl⟩
abbrev main_v37 : Ref sig .tc := ⟨.hbm, 140, rfl⟩
abbrev main_v38 : Ref sig .tc := ⟨.hbm, 141, rfl⟩
abbrev main_v39 : Ref sig .tc := ⟨.hbm, 142, rfl⟩
abbrev main_v40 : Ref sig .tc := ⟨.hbm, 143, rfl⟩
abbrev main_v41 : Ref sig .tc := ⟨.hbm, 144, rfl⟩
abbrev main_v42 : Ref sig .tc := ⟨.hbm, 145, rfl⟩
abbrev main_v43 : Ref sig .tc := ⟨.hbm, 146, rfl⟩
abbrev main_v44 : Ref sig .tc := ⟨.hbm, 147, rfl⟩
abbrev main_v45 : Ref sig .tc := ⟨.hbm, 148, rfl⟩
abbrev main_v46 : Ref sig .tc := ⟨.hbm, 149, rfl⟩
abbrev main_v47 : Ref sig .tc := ⟨.hbm, 150, rfl⟩
abbrev main_v48 : Ref sig .tc := ⟨.hbm, 151, rfl⟩
abbrev main_v49 : Ref sig .tc := ⟨.hbm, 152, rfl⟩
abbrev main_call8_v0 : Ref sig .tc := ⟨.hbm, 153, rfl⟩
abbrev main_call8_v1 : Ref sig .tc := ⟨.hbm, 154, rfl⟩
abbrev main_call8_cst : Ref sig .tc := ⟨.hbm, 155, rfl⟩
abbrev main_call8_v2 : Ref sig .tc := ⟨.hbm, 156, rfl⟩
abbrev main_call8_v3 : Ref sig .tc := ⟨.hbm, 157, rfl⟩
abbrev main_call8_cst_0 : Ref sig .tc := ⟨.hbm, 158, rfl⟩
abbrev main_call8_v4 : Ref sig .tc := ⟨.hbm, 159, rfl⟩
abbrev main_call8_v5 : Ref sig .tc := ⟨.hbm, 160, rfl⟩
abbrev main_v50 : Ref sig .tc := ⟨.hbm, 161, rfl⟩
abbrev main_v51 : Ref sig .tc := ⟨.hbm, 162, rfl⟩
abbrev main_v52 : Ref sig .tc := ⟨.hbm, 163, rfl⟩
abbrev main_v53 : Ref sig .tc := ⟨.hbm, 164, rfl⟩
abbrev main_v54 : Ref sig .tc := ⟨.hbm, 165, rfl⟩
abbrev main_v55 : Ref sig .tc := ⟨.hbm, 166, rfl⟩
abbrev main_v56 : Ref sig .tc := ⟨.hbm, 167, rfl⟩
abbrev main_v57 : Ref sig .tc := ⟨.hbm, 168, rfl⟩
abbrev main_v58 : Ref sig .tc := ⟨.hbm, 169, rfl⟩
abbrev main_v59 : Ref sig .tc := ⟨.hbm, 170, rfl⟩

abbrev nD : Nat := 1
abbrev τ : Topo := Topo.v7x

variable {F : FTy → Type} [FloatOps F]

abbrev main_while0_count : Scf.Loop 32 := ⟨0#32, 128#32, 1#32⟩
-- ==== Up.lean ====
abbrev S8704x2048 : Shape := ⟨2, ![8704, 2048]⟩
abbrev S1x2048x11264 : Shape := ⟨3, ![1, 2048, 11264]⟩
abbrev S1x5632x2048 : Shape := ⟨3, ![1, 5632, 2048]⟩
abbrev S8704x5632 : Shape := ⟨2, ![8704, 5632]⟩
abbrev S5632x2048 : Shape := ⟨2, ![5632, 2048]⟩
abbrev S2176x2048 : Shape := ⟨2, ![2176, 2048]⟩
abbrev S1x2048x512 : Shape := ⟨3, ![1, 2048, 512]⟩
abbrev S1x128x2048 : Shape := ⟨3, ![1, 128, 2048]⟩
abbrev S2176x512 : Shape := ⟨2, ![2176, 512]⟩
abbrev S128x2048 : Shape := ⟨2, ![128, 2048]⟩
abbrev S2048x512 : Shape := ⟨2, ![2048, 512]⟩
abbrev S1x256x512 : Shape := ⟨3, ![1, 256, 512]⟩
abbrev S256x512 : Shape := ⟨2, ![256, 512]⟩
abbrev S1088x2048 : Shape := ⟨2, ![1088, 2048]⟩
abbrev S1088x512 : Shape := ⟨2, ![1088, 512]⟩

abbrev nBuf : Space → Nat
  | .hbm => 6
  | .vmem => 14
  | .smem => 0
  | _ => 0

abbrev bufTy : (tb : Table) → Fin (tcTables nBuf tb) → BufTy
  | .hbm, ⟨0, _⟩ => ⟨S8704x2048, .f32⟩
  | .hbm, ⟨1, _⟩ => ⟨S1x2048x11264, .f32⟩
  | .hbm, ⟨2, _⟩ => ⟨S1x5632x2048, .f32⟩
  | .hbm, ⟨3, _⟩ => ⟨S8704x2048, .bf16⟩
  | .hbm, ⟨4, _⟩ => ⟨S8704x5632, .bf16⟩
  | .hbm, ⟨5, _⟩ => ⟨S5632x2048, .bf16⟩
  | .local _ .vmem, ⟨0, _⟩ => ⟨S2176x2048, .bf16⟩
  | .local _ .vmem, ⟨1, _⟩ => ⟨S2176x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1x128x2048, .f32⟩
  | .local _ .vmem, ⟨7, _⟩ => ⟨S1x128x2048, .f32⟩
  | .local _ .vmem, ⟨8, _⟩ => ⟨S2176x512, .bf16⟩
  | .local _ .vmem, ⟨9, _⟩ => ⟨S2176x512, .bf16⟩
  | .local _ .vmem, ⟨10, _⟩ => ⟨S128x2048, .bf16⟩
  | .local _ .vmem, ⟨11, _⟩ => ⟨S128x2048, .bf16⟩
  | .local _ .vmem, ⟨12, _⟩ => ⟨S2048x512, .bf16⟩
  | .local _ .vmem, ⟨13, _⟩ => ⟨S2048x512, .bf16⟩
  | _, _ => ⟨S8704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![11, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S2176x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2176x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== UpReferenceIdeal.lean ====
abbrev S8704x2048 : Shape := ⟨2, ![8704, 2048]⟩
abbrev S1x2048x11264 : Shape := ⟨3, ![1, 2048, 11264]⟩
abbrev S1x5632x2048 : Shape := ⟨3, ![1, 5632, 2048]⟩
abbrev S2048x11264 : Shape := ⟨2, ![2048, 11264]⟩
abbrev S8704x11264 : Shape := ⟨2, ![8704, 11264]⟩
abbrev S8704x5632 : Shape := ⟨2, ![8704, 5632]⟩
abbrev S_ : Shape := ⟨0, ![]⟩
abbrev S5632x2048 : Shape := ⟨2, ![5632, 2048]⟩

abbrev nBuf : Space → Nat
  | .hbm => 20
  | .vmem => 0
  | .smem => 0
  | _ => 0

abbrev bufTy : (tb : Table) → Fin (tcTables nBuf tb) → BufTy
  | .hbm, ⟨0, _⟩ => ⟨S8704x2048, .f32⟩
  | .hbm, ⟨1, _⟩ => ⟨S1x2048x11264, .f32⟩
  | .hbm, ⟨2, _⟩ => ⟨S1x5632x2048, .f32⟩
  | .hbm, ⟨3, _⟩ => ⟨S2048x11264, .f32⟩
  | .hbm, ⟨4, _⟩ => ⟨S8704x11264, .f32⟩
  | .hbm, ⟨5, _⟩ => ⟨S8704x5632, .f32⟩
  | .hbm, ⟨6, _⟩ => ⟨S8704x5632, .f32⟩
  | .hbm, ⟨7, _⟩ => ⟨S8704x5632, .f32⟩
  | .hbm, ⟨8, _⟩ => ⟨S8704x5632, .f32⟩
  | .hbm, ⟨9, _⟩ => ⟨S_, .f32⟩
  | .hbm, ⟨10, _⟩ => ⟨S8704x5632, .f32⟩
  | .hbm, ⟨11, _⟩ => ⟨S8704x5632, .f32⟩
  | .hbm, ⟨12, _⟩ => ⟨S_, .f32⟩
  | .hbm, ⟨13, _⟩ => ⟨S8704x5632, .f32⟩
  | .hbm, ⟨14, _⟩ => ⟨S8704x5632, .f32⟩
  | .hbm, ⟨15, _⟩ => ⟨S8704x5632, .f32⟩
  | .hbm, ⟨16, _⟩ => ⟨S8704x5632, .f32⟩
  | .hbm, ⟨17, _⟩ => ⟨S8704x5632, .bf16⟩
  | .hbm, ⟨18, _⟩ => ⟨S5632x2048, .f32⟩
  | .hbm, ⟨19, _⟩ => ⟨S5632x2048, .bf16⟩
  | _, _ => ⟨S8704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩

abbrev nD : Nat := 1
abbrev τ : Topo := Topo.v7x

variable {F : FTy → Type} [FloatOps F]
-- ==== Down.lean ====
abbrev S8704x5632 : Shape := ⟨2, ![8704, 5632]⟩
abbrev S8704x2048 : Shape := ⟨2, ![8704, 2048]⟩
abbrev S1x5632x2048 : Shape := ⟨3, ![1, 5632, 2048]⟩
abbrev S1x2048 : Shape := ⟨2, ![1, 2048]⟩
abbrev S5632x2048 : Shape := ⟨2, ![5632, 2048]⟩
abbrev S1x8192x2048 : Shape := ⟨3, ![1, 8192, 2048]⟩
abbrev S512x2048 : Shape := ⟨2, ![512, 2048]⟩
abbrev S256x5632 : Shape := ⟨2, ![256, 5632]⟩
abbrev S256x2048 : Shape := ⟨2, ![256, 2048]⟩
abbrev S1x256x2048 : Shape := ⟨3, ![1, 256, 2048]⟩
abbrev S128x5632 : Shape := ⟨2, ![128, 5632]⟩
abbrev S128x2048 : Shape := ⟨2, ![128, 2048]⟩
abbrev S128 : Shape := ⟨1, ![128]⟩
abbrev S128x1 : Shape := ⟨2, ![128, 1]⟩
abbrev S1x128x2048 : Shape := ⟨3, ![1, 128, 2048]⟩

abbrev nBuf : Space → Nat
  | .hbm => 10
  | .vmem => 11
  | .smem => 0
  | _ => 0

abbrev bufTy : (tb : Table) → Fin (tcTables nBuf tb) → BufTy
  | .hbm, ⟨0, _⟩ => ⟨S8704x5632, .f32⟩
  | .hbm, ⟨1, _⟩ => ⟨S8704x2048, .f32⟩
  | .hbm, ⟨2, _⟩ => ⟨S1x5632x2048, .f32⟩
  | .hbm, ⟨3, _⟩ => ⟨S1x2048, .f32⟩
  | .hbm, ⟨4, _⟩ => ⟨S1x2048, .f32⟩
  | .hbm, ⟨5, _⟩ => ⟨S8704x5632, .bf16⟩
  | .hbm, ⟨6, _⟩ => ⟨S5632x2048, .f32⟩
  | .hbm, ⟨7, _⟩ => ⟨S5632x2048, .bf16⟩
  | .hbm, ⟨8, _⟩ => ⟨S1x8192x2048, .f32⟩
  | .hbm, ⟨9, _⟩ => ⟨S512x2048, .f32⟩
  | .local _ .vmem, ⟨0, _⟩ => ⟨S256x5632, .bf16⟩
  | .local _ .vmem, ⟨1, _⟩ => ⟨S256x5632, .bf16⟩
  | .local _ .vmem, ⟨2, _⟩ => ⟨S256x2048, .f32⟩
  | .local _ .vmem, ⟨3, _⟩ => ⟨S256x2048, .f32⟩
  | .local _ .vmem, ⟨4, _⟩ => ⟨S5632x2048, .bf16⟩
  | .local _ .vmem, ⟨5, _⟩ => ⟨S1x2048, .f32⟩
  | .local _ .vmem, ⟨6, _⟩ => ⟨S1x2048, .f32⟩
  | .local _ .vmem, ⟨7, _⟩ => ⟨S1x256x2048, .f32⟩
  | .local _ .vmem, ⟨8, _⟩ => ⟨S1x256x2048, .f32⟩
  | .local _ .vmem, ⟨9, _⟩ => ⟨S256x2048, .f32⟩
  | .local _ .vmem, ⟨10, _⟩ => ⟨S256x2048, .f32⟩
  | _, _ => ⟨S8704x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![34], ![false]⟩

def k0_cond1 (i : grid0.Coords) : BitVec 1 :=
  let arg0 : BitVec 32 := BitVec.ofNat 32 (i 0).val
  let c32_i32 : BitVec 32 := 32#32
  let v0 : BitVec 1 := Scalar.cmpi .slt arg0 c32_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c32_i32_0 : BitVec 32 := 32#32
  let v3 : BitVec 1 := Scalar.cmpi .sge arg0 c32_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  let c0_i32_1 : BitVec 32 := 0#32
  ![c0_i32.toNat, v0.toNat, c0_i32_0.toNat]

def cc0_transform_6 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S5632x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== DownReferenceIdeal.lean ====
abbrev S8704x5632 : Shape := ⟨2, ![8704, 5632]⟩
abbrev S8704x2048 : Shape := ⟨2, ![8704, 2048]⟩
abbrev S1x5632x2048 : Shape := ⟨3, ![1, 5632, 2048]⟩
abbrev S1x2048 : Shape := ⟨2, ![1, 2048]⟩
abbrev S5632x2048 : Shape := ⟨2, ![5632, 2048]⟩
abbrev S_ : Shape := ⟨0, ![]⟩
abbrev S2048 : Shape := ⟨1, ![2048]⟩
abbrev S8704 : Shape := ⟨1, ![8704]⟩
abbrev S8704x1 : Shape := ⟨2, ![8704, 1]⟩
abbrev S8192x2048 : Shape := ⟨2, ![8192, 2048]⟩
abbrev S1x8192x2048 : Shape := ⟨3, ![1, 8192, 2048]⟩
abbrev S512x2048 : Shape := ⟨2, ![512, 2048]⟩

abbrev nBuf : Space → Nat
  | .hbm => 45
  | .vmem => 0
  | .smem => 0
  | _ => 0

abbrev bufTy : (tb : Table) → Fin (tcTables nBuf tb) → BufTy
  | .hbm, ⟨0, _⟩ => ⟨S8704x5632, .f32⟩
  | .hbm, ⟨1, _⟩ => ⟨S8704x2048, .f32⟩
  | .hbm, ⟨2, _⟩ => ⟨S1x5632x2048, .f32⟩
  | .hbm, ⟨3, _⟩ => ⟨S1x2048, .f32⟩
  | .hbm, ⟨4, _⟩ => ⟨S1x2048, .f32⟩
  | .hbm, ⟨5, _⟩ => ⟨S5632x2048, .f32⟩
  | .hbm, ⟨6, _⟩ => ⟨S8704x2048, .f32⟩
  | .hbm, ⟨7, _⟩ => ⟨S_, .f32⟩
  | .hbm, ⟨8, _⟩ => ⟨S8704x2048, .f32⟩
  | .hbm, ⟨9, _⟩ => ⟨S8704x2048, .f32⟩
  | .hbm, ⟨10, _⟩ => ⟨S8704x2048, .f32⟩
  | .hbm, ⟨11, _⟩ => ⟨S2048, .f32⟩
  | .hbm, ⟨12, _⟩ => ⟨S2048, .f32⟩
  | .hbm, ⟨13, _⟩ => ⟨S_, .f32⟩
  | .hbm, ⟨14, _⟩ => ⟨S8704, .f32⟩
  | .hbm, ⟨15, _⟩ => ⟨S8704x1, .f32⟩
  | .hbm, ⟨16, _⟩ => ⟨S_, .f32⟩
  | .hbm, ⟨17, _⟩ => ⟨S8704x1, .f32⟩
  | .hbm, ⟨18, _⟩ => ⟨S8704x1, .f32⟩
  | .hbm, ⟨19, _⟩ => ⟨S8704x2048, .f32⟩
  | .hbm, ⟨20, _⟩ => ⟨S8704x2048, .f32⟩
  | .hbm, ⟨21, _⟩ => ⟨S8704x2048, .f32⟩
  | .hbm, ⟨22, _⟩ => ⟨S_, .f32⟩
  | .hbm, ⟨23, _⟩ => ⟨S8704, .f32⟩
  | .hbm, ⟨24, _⟩ => ⟨S8704x1, .f32⟩
  | .hbm, ⟨25, _⟩ => ⟨S_, .f32⟩
  | .hbm, ⟨26, _⟩ => ⟨S8704x1, .f32⟩
  | .hbm, ⟨27, _⟩ => ⟨S8704x1, .f32⟩
  | .hbm, ⟨28, _⟩ => ⟨S8704x2048, .f32⟩
  | .hbm, ⟨29, _⟩ => ⟨S8704x2048, .f32⟩
  | .hbm, ⟨30, _⟩ => ⟨S_, .f32⟩
  | .hbm, ⟨31, _⟩ => ⟨S8704x1, .f32⟩
  | .hbm, ⟨32, _⟩ => ⟨S8704x1, .f32⟩
  | .hbm, ⟨33, _⟩ => ⟨S8704x1, .f32⟩
  | .hbm, ⟨34, _⟩ => ⟨S8704x2048, .f32⟩
  | .hbm, ⟨35, _⟩ => ⟨S8704x2048, .f32⟩
  | .hbm, ⟨36, _⟩ => ⟨S1x2048, .f32⟩
  | .hbm, ⟨37, _⟩ => ⟨S8704x2048, .f32⟩
  | .hbm, ⟨38, _⟩ => ⟨S8704x2048, .f32⟩
  | .hbm, ⟨39, _⟩ => ⟨S1x2048, .f32⟩
  | .hbm, ⟨40, _⟩ => ⟨S8704x2048, .f32⟩
  | .hbm, ⟨41, _⟩ => ⟨S8704x2048, .f32⟩
  | .hbm, ⟨42, _⟩ => ⟨S8192x2048, .f32⟩
  | .hbm, ⟨43, _⟩ => ⟨S1x8192x2048, .f32⟩
  | .hbm, ⟨44, _⟩ => ⟨S512x2048, .f32⟩
  | _, _ => ⟨S8704x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]
-- ==== Mix.lean ====
abbrev S1x8192x2048 : Shape := ⟨3, ![1, 8192, 2048]⟩
abbrev S1x2048x16400 : Shape := ⟨3, ![1, 2048, 16400]⟩
abbrev S1x3x2048 : Shape := ⟨3, ![1, 3, 2048]⟩
abbrev S1x2x2048 : Shape := ⟨3, ![1, 2, 2048]⟩
abbrev S8192x2048 : Shape := ⟨2, ![8192, 2048]⟩
abbrev S_ : Shape := ⟨0, ![]⟩
abbrev S8704x2048 : Shape := ⟨2, ![8704, 2048]⟩
abbrev S1x2048x10240 : Shape := ⟨3, ![1, 2048, 10240]⟩
abbrev S2048x10240 : Shape := ⟨2, ![2048, 10240]⟩
abbrev S10240x2048 : Shape := ⟨2, ![10240, 2048]⟩
abbrev S2x2048 : Shape := ⟨2, ![2, 2048]⟩
abbrev S512x2048 : Shape := ⟨2, ![512, 2048]⟩
abbrev S3x2048 : Shape := ⟨2, ![3, 2048]⟩
abbrev S8x2048 : Shape := ⟨2, ![8, 2048]⟩
abbrev S1024x2048 : Shape := ⟨2, ![1024, 2048]⟩
abbrev S1024x512 : Shape := ⟨2, ![1024, 512]⟩
abbrev S3x512 : Shape := ⟨2, ![3, 512]⟩
abbrev S8x512 : Shape := ⟨2, ![8, 512]⟩
abbrev S512x512 : Shape := ⟨2, ![512, 512]⟩
abbrev S1x512 : Shape := ⟨2, ![1, 512]⟩

abbrev nBuf : Space → Nat
  | .hbm => 22
  | .vmem => 23
  | .smem => 0
  | _ => 0

abbrev bufTy : (tb : Table) → Fin (tcTables nBuf tb) → BufTy
  | .hbm, ⟨0, _⟩ => ⟨S1x8192x2048, .f32⟩
  | .hbm, ⟨1, _⟩ => ⟨S1x8192x2048, .f32⟩
  | .hbm, ⟨2, _⟩ => ⟨S1x2048x16400, .f32⟩
  | .hbm, ⟨3, _⟩ => ⟨S1x3x2048, .f32⟩
  | .hbm, ⟨4, _⟩ => ⟨S1x2x2048, .f32⟩
  | .hbm, ⟨5, _⟩ => ⟨S8192x2048, .f32⟩
  | .hbm, ⟨6, _⟩ => ⟨S_, .i32⟩
  | .hbm, ⟨7, _⟩ => ⟨S_, .f32⟩
  | .hbm, ⟨8, _⟩ => ⟨S8704x2048, .f32⟩
  | .hbm, ⟨9, _⟩ => ⟨S8704x2048, .bf16⟩
  | .hbm, ⟨10, _⟩ => ⟨S1x2048x10240, .f32⟩
  | .hbm, ⟨11, _⟩ => ⟨S2048x10240, .f32⟩
  | .hbm, ⟨12, _⟩ => ⟨S10240x2048, .f32⟩
  | .hbm, ⟨13, _⟩ => ⟨S10240x2048, .bf16⟩
  | .hbm, ⟨14, _⟩ => ⟨S2x2048, .f32⟩
  | .hbm, ⟨15, _⟩ => ⟨S_, .i32⟩
  | .hbm, ⟨16, _⟩ => ⟨S_, .f32⟩
  | .hbm, ⟨17, _⟩ => ⟨S512x2048, .f32⟩
  | .hbm, ⟨18, _⟩ => ⟨S8192x2048, .f32⟩
  | .hbm, ⟨19, _⟩ => ⟨S3x2048, .f32⟩
  | .hbm, ⟨20, _⟩ => ⟨S8192x2048, .bf16⟩
  | .hbm, ⟨21, _⟩ => ⟨S8x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x512, .f32⟩
  | .local _ .vmem, ⟨3, _⟩ => ⟨S1024x512, .f32⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .bf16⟩
  | .local _ .vmem, ⟨10, _⟩ => ⟨S512x2048, .bf16⟩
  | .local _ .vmem, ⟨11, _⟩ => ⟨S512x2048, .bf16⟩
  | .local _ .vmem, ⟨12, _⟩ => ⟨S512x2048, .bf16⟩
  | .local _ .vmem, ⟨13, _⟩ => ⟨S512x2048, .bf16⟩
  | .local _ .vmem, ⟨14, _⟩ => ⟨S3x512, .f32⟩
  | .local _ .vmem, ⟨15, _⟩ => ⟨S3x512, .f32⟩
  | .local _ .vmem, ⟨16, _⟩ => ⟨S8x512, .f32⟩
  | .local _ .vmem, ⟨17, _⟩ => ⟨S8x512, .f32⟩
  | .local _ .vmem, ⟨18, _⟩ => ⟨S1024x512, .bf16⟩
  | .local _ .vmem, ⟨19, _⟩ => ⟨S1024x512, .bf16⟩
  | .local _ .vmem, ⟨20, _⟩ => ⟨S8x512, .f32⟩
  | .local _ .vmem, ⟨21, _⟩ => ⟨S8x512, .f32⟩
  | .local _ .vmem, ⟨22, _⟩ => ⟨S8x512, .f32⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_call1_v0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11_0 : Ref sig .tc := ⟨.hbm, 20, rfl⟩
abbrev main_v11_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v152 : BitVec 1 := Scalar.cmpi .eq arg1 c7_i32
  let v153 : BitVec 32 := Scalar.extui v152
  let c0_i32_74 : BitVec 32 := 0#32
  let v154 : BitVec 1 := Scalar.cmpi .ne v153 c0_i32_74
  v154

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c7_i32 : BitVec 32 := 7#32
  let c0_i32 : BitVec 32 := 0#32
  ![c7_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S3x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S8x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S8x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== MixReferenceIdeal.lean ====
abbrev S1x8192x2048 : Shape := ⟨3, ![1, 8192, 2048]⟩
abbrev S1x2048x16400 : Shape := ⟨3, ![1, 2048, 16400]⟩
abbrev S1x3x2048 : Shape := ⟨3, ![1, 3, 2048]⟩
abbrev S1x2x2048 : Shape := ⟨3, ![1, 2, 2048]⟩
abbrev S1x2048x10240 : Shape := ⟨3, ![1, 2048, 10240]⟩
abbrev S2048x10240 : Shape := ⟨2, ![2048, 10240]⟩
abbrev S1x8192x10240 : Shape := ⟨3, ![1, 8192, 10240]⟩
abbrev S3x2048 : Shape := ⟨2, ![3, 2048]⟩
abbrev S1x8194x2048 : Shape := ⟨3, ![1, 8194, 2048]⟩
abbrev S1x2048 : Shape := ⟨2, ![1, 2048]⟩
abbrev S2048 : Shape := ⟨1, ![2048]⟩
abbrev S1x1x2048 : Shape := ⟨3, ![1, 1, 2048]⟩
abbrev S1x8x2048 : Shape := ⟨3, ![1, 8, 2048]⟩
abbrev S_ : Shape := ⟨0, ![]⟩
abbrev S8192x2048 : Shape := ⟨2, ![8192, 2048]⟩
abbrev S8x2048 : Shape := ⟨2, ![8, 2048]⟩

abbrev nBuf : Space → Nat
  | .hbm => 60
  | .vmem => 0
  | .smem => 0
  | _ => 0

abbrev bufTy : (tb : Table) → Fin (tcTables nBuf tb) → BufTy
  | .hbm, ⟨0, _⟩ => ⟨S1x8192x2048, .f32⟩
  | .hbm, ⟨1, _⟩ => ⟨S1x8192x2048, .f32⟩
  | .hbm, ⟨2, _⟩ => ⟨S1x2048x16400, .f32⟩
  | .hbm, ⟨3, _⟩ => ⟨S1x3x2048, .f32⟩
  | .hbm, ⟨4, _⟩ => ⟨S1x2x2048, .f32⟩
  | .hbm, ⟨5, _⟩ => ⟨S1x2048x10240, .f32⟩
  | .hbm, ⟨6, _⟩ => ⟨S2048x10240, .f32⟩
  | .hbm, ⟨7, _⟩ => ⟨S1x8192x10240, .f32⟩
  | .hbm, ⟨8, _⟩ => ⟨S1x8192x2048, .f32⟩
  | .hbm, ⟨9, _⟩ => ⟨S1x8192x2048, .f32⟩
  | .hbm, ⟨10, _⟩ => ⟨S1x8192x2048, .f32⟩
  | .hbm, ⟨11, _⟩ => ⟨S1x8192x2048, .f32⟩
  | .hbm, ⟨12, _⟩ => ⟨S1x8192x2048, .f32⟩
  | .hbm, ⟨13, _⟩ => ⟨S1x8192x2048, .f32⟩
  | .hbm, ⟨14, _⟩ => ⟨S3x2048, .f32⟩
  | .hbm, ⟨15, _⟩ => ⟨S1x8194x2048, .f32⟩
  | .hbm, ⟨16, _⟩ => ⟨S1x2048, .f32⟩
  | .hbm, ⟨17, _⟩ => ⟨S2048, .f32⟩
  | .hbm, ⟨18, _⟩ => ⟨S1x8192x2048, .f32⟩
  | .hbm, ⟨19, _⟩ => ⟨S1x1x2048, .f32⟩
  | .hbm, ⟨20, _⟩ => ⟨S1x8192x2048, .f32⟩
  | .hbm, ⟨21, _⟩ => ⟨S1x8192x2048, .f32⟩
  | .hbm, ⟨22, _⟩ => ⟨S1x2048, .f32⟩
  | .hbm, ⟨23, _⟩ => ⟨S2048, .f32⟩
  | .hbm, ⟨24, _⟩ => ⟨S1x8192x2048, .f32⟩
  | .hbm, ⟨25, _⟩ => ⟨S1x1x2048, .f32⟩
  | .hbm, ⟨26, _⟩ => ⟨S1x8192x2048, .f32⟩
  | .hbm, ⟨27, _⟩ => ⟨S1x8192x2048, .f32⟩
  | .hbm, ⟨28, _⟩ => ⟨S1x8192x2048, .f32⟩
  | .hbm, ⟨29, _⟩ => ⟨S1x2048, .f32⟩
  | .hbm, ⟨30, _⟩ => ⟨S2048, .f32⟩
  | .hbm, ⟨31, _⟩ => ⟨S1x8192x2048, .f32⟩
  | .hbm, ⟨32, _⟩ => ⟨S1x1x2048, .f32⟩
  | .hbm, ⟨33, _⟩ => ⟨S1x8192x2048, .f32⟩
  | .hbm, ⟨34, _⟩ => ⟨S1x8192x2048, .f32⟩
  | .hbm, ⟨35, _⟩ => ⟨S1x8192x2048, .f32⟩
  | .hbm, ⟨36, _⟩ => ⟨S1x8x2048, .f32⟩
  | .hbm, ⟨37, _⟩ => ⟨S1x8192x2048, .f32⟩
  | .hbm, ⟨38, _⟩ => ⟨S1x8192x2048, .f32⟩
  | .hbm, ⟨39, _⟩ => ⟨S1x8192x2048, .f32⟩
  | .hbm, ⟨40, _⟩ => ⟨S_, .f32⟩
  | .hbm, ⟨41, _⟩ => ⟨S1x8192x2048, .f32⟩
  | .hbm, ⟨42, _⟩ => ⟨S1x8192x2048, .f32⟩
  | .hbm, ⟨43, _⟩ => ⟨S_, .f32⟩
  | .hbm, ⟨44, _⟩ => ⟨S1x8192x2048, .f32⟩
  | .hbm, ⟨45, _⟩ => ⟨S1x8192x2048, .f32⟩
  | .hbm, ⟨46, _⟩ => ⟨S1x8192x2048, .f32⟩
  | .hbm, ⟨47, _⟩ => ⟨S1x8192x2048, .f32⟩
  | .hbm, ⟨48, _⟩ => ⟨S1x8192x2048, .f32⟩
  | .hbm, ⟨49, _⟩ => ⟨S_, .f32⟩
  | .hbm, ⟨50, _⟩ => ⟨S1x8192x2048, .f32⟩
  | .hbm, ⟨51, _⟩ => ⟨S1x8192x2048, .f32⟩
  | .hbm, ⟨52, _⟩ => ⟨S_, .f32⟩
  | .hbm, ⟨53, _⟩ => ⟨S1x8192x2048, .f32⟩
  | .hbm, ⟨54, _⟩ => ⟨S1x8192x2048, .f32⟩
  | .hbm, ⟨55, _⟩ => ⟨S1x8192x2048, .f32⟩
  | .hbm, ⟨56, _⟩ => ⟨S1x8192x2048, .f32⟩
  | .hbm, ⟨57, _⟩ => ⟨S8192x2048, .f32⟩
  | .hbm, ⟨58, _⟩ => ⟨S8192x2048, .bf16⟩
  | .hbm, ⟨59, _⟩ => ⟨S8x2048, .f32⟩
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_cst : Ref sig .tc := ⟨.hbm, 40, rfl⟩
abbrev main_v35 : Ref sig .tc := ⟨.hbm, 41, rfl⟩
abbrev main_v36 : Ref sig .tc := ⟨.hbm, 42, rfl⟩
abbrev main_cst_0 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_cst_1 : Ref sig .tc := ⟨.hbm, 49, rfl⟩
abbrev main_v42 : Ref sig .tc := ⟨.hbm, 50, rfl⟩
abbrev main_v43 : Ref sig .tc := ⟨.hbm, 51, rfl⟩
abbrev main_cst_2 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩

abbrev nD : Nat := 1
abbrev τ : Topo := Topo.v7x

variable {F : FTy → Type} [FloatOps F]
-- ==== Out.lean ====
abbrev S8704x2048 : Shape := ⟨2, ![8704, 2048]⟩
abbrev S1x2048x2048 : Shape := ⟨3, ![1, 2048, 2048]⟩
abbrev S1x2048 : Shape := ⟨2, ![1, 2048]⟩
abbrev S8192x2048 : Shape := ⟨2, ![8192, 2048]⟩
abbrev S512x2048 : Shape := ⟨2, ![512, 2048]⟩
abbrev S2048x2048 : Shape := ⟨2, ![2048, 2048]⟩
abbrev S128x2048 : Shape := ⟨2, ![128, 2048]⟩
abbrev S128 : Shape := ⟨1, ![128]⟩
abbrev S128x1 : Shape := ⟨2, ![128, 1]⟩

abbrev nBuf : Space → Nat
  | .hbm => 12
  | .vmem => 12
  | .smem => 0
  | _ => 0

abbrev bufTy : (tb : Table) → Fin (tcTables nBuf tb) → BufTy
  | .hbm, ⟨0, _⟩ => ⟨S8704x2048, .f32⟩
  | .hbm, ⟨1, _⟩ => ⟨S8704x2048, .f32⟩
  | .hbm, ⟨2, _⟩ => ⟨S1x2048x2048, .f32⟩
  | .hbm, ⟨3, _⟩ => ⟨S1x2048, .f32⟩
  | .hbm, ⟨4, _⟩ => ⟨S1x2048, .f32⟩
  | .hbm, ⟨5, _⟩ => ⟨S8704x2048, .bf16⟩
  | .hbm, ⟨6, _⟩ => ⟨S8192x2048, .bf16⟩
  | .hbm, ⟨7, _⟩ => ⟨S512x2048, .bf16⟩
  | .hbm, ⟨8, _⟩ => ⟨S2048x2048, .f32⟩
  | .hbm, ⟨9, _⟩ => ⟨S2048x2048, .bf16⟩
  | .hbm, ⟨10, _⟩ => ⟨S8704x2048, .f32⟩
  | .hbm, ⟨11, _⟩ => ⟨S8704x2048, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .f32⟩
  | .local _ .vmem, ⟨4, _⟩ => ⟨S512x2048, .f32⟩
  | .local _ .vmem, ⟨5, _⟩ => ⟨S2048x2048, .bf16⟩
  | .local _ .vmem, ⟨6, _⟩ => ⟨S1x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .bf16⟩
  | _, _ => ⟨S8704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OutReferenceIdeal.lean ====
abbrev S8704x2048 : Shape := ⟨2, ![8704, 2048]⟩
abbrev S1x2048x2048 : Shape := ⟨3, ![1, 2048, 2048]⟩
abbrev S1x2048 : Shape := ⟨2, ![1, 2048]⟩
abbrev S2048x2048 : Shape := ⟨2, ![2048, 2048]⟩
abbrev S_ : Shape := ⟨0, ![]⟩
abbrev S2048 : Shape := ⟨1, ![2048]⟩
abbrev S8704 : Shape := ⟨1, ![8704]⟩
abbrev S8704x1 : Shape := ⟨2, ![8704, 1]⟩

abbrev nBuf : Space → Nat
  | .hbm => 43
  | .vmem => 0
  | .smem => 0
  | _ => 0

abbrev bufTy : (tb : Table) → Fin (tcTables nBuf tb) → BufTy
  | .hbm, ⟨0, _⟩ => ⟨S8704x2048, .f32⟩
  | .hbm, ⟨1, _⟩ => ⟨S8704x2048, .f32⟩
  | .hbm, ⟨2, _⟩ => ⟨S1x2048x2048, .f32⟩
  | .hbm, ⟨3, _⟩ => ⟨S1x2048, .f32⟩
  | .hbm, ⟨4, _⟩ => ⟨S1x2048, .f32⟩
  | .hbm, ⟨5, _⟩ => ⟨S2048x2048, .f32⟩
  | .hbm, ⟨6, _⟩ => ⟨S8704x2048, .f32⟩
  | .hbm, ⟨7, _⟩ => ⟨S_, .f32⟩
  | .hbm, ⟨8, _⟩ => ⟨S8704x2048, .f32⟩
  | .hbm, ⟨9, _⟩ => ⟨S8704x2048, .f32⟩
  | .hbm, ⟨10, _⟩ => ⟨S8704x2048, .f32⟩
  | .hbm, ⟨11, _⟩ => ⟨S2048, .f32⟩
  | .hbm, ⟨12, _⟩ => ⟨S2048, .f32⟩
  | .hbm, ⟨13, _⟩ => ⟨S_, .f32⟩
  | .hbm, ⟨14, _⟩ => ⟨S8704, .f32⟩
  | .hbm, ⟨15, _⟩ => ⟨S8704x1, .f32⟩
  | .hbm, ⟨16, _⟩ => ⟨S_, .f32⟩
  | .hbm, ⟨17, _⟩ => ⟨S8704x1, .f32⟩
  | .hbm, ⟨18, _⟩ => ⟨S8704x1, .f32⟩
  | .hbm, ⟨19, _⟩ => ⟨S8704x2048, .f32⟩
  | .hbm, ⟨20, _⟩ => ⟨S8704x2048, .f32⟩
  | .hbm, ⟨21, _⟩ => ⟨S8704x2048, .f32⟩
  | .hbm, ⟨22, _⟩ => ⟨S_, .f32⟩
  | .hbm, ⟨23, _⟩ => ⟨S8704, .f32⟩
  | .hbm, ⟨24, _⟩ => ⟨S8704x1, .f32⟩
  | .hbm, ⟨25, _⟩ => ⟨S_, .f32⟩
  | .hbm, ⟨26, _⟩ => ⟨S8704x1, .f32⟩
  | .hbm, ⟨27, _⟩ => ⟨S8704x1, .f32⟩
  | .hbm, ⟨28, _⟩ => ⟨S8704x2048, .f32⟩
  | .hbm, ⟨29, _⟩ => ⟨S8704x2048, .f32⟩
  | .hbm, ⟨30, _⟩ => ⟨S_, .f32⟩
  | .hbm, ⟨31, _⟩ => ⟨S8704x1, .f32⟩
  | .hbm, ⟨32, _⟩ => ⟨S8704x1, .f32⟩
  | .hbm, ⟨33, _⟩ => ⟨S8704x1, .f32⟩
  | .hbm, ⟨34, _⟩ => ⟨S8704x2048, .f32⟩
  | .hbm, ⟨35, _⟩ => ⟨S8704x2048, .f32⟩
  | .hbm, ⟨36, _⟩ => ⟨S1x2048, .f32⟩
  | .hbm, ⟨37, _⟩ => ⟨S8704x2048, .f32⟩
  | .hbm, ⟨38, _⟩ => ⟨S8704x2048, .f32⟩
  | .hbm, ⟨39, _⟩ => ⟨S1x2048, .f32⟩
  | .hbm, ⟨40, _⟩ => ⟨S8704x2048, .f32⟩
  | .hbm, ⟨41, _⟩ => ⟨S8704x2048, .f32⟩
  | .hbm, ⟨42, _⟩ => ⟨S8704x2048, .bf16⟩
  | _, _ => ⟨S8704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== Tail.lean ====
abbrev S16x2048 : Shape := ⟨2, ![16, 2048]⟩
abbrev S16x16x2048 : Shape := ⟨3, ![16, 16, 2048]⟩
abbrev S1x2048x16400 : Shape := ⟨3, ![1, 2048, 16400]⟩
abbrev S1x3x2048 : Shape := ⟨3, ![1, 3, 2048]⟩
abbrev S1x16x2x2048 : Shape := ⟨4, ![1, 16, 2, 2048]⟩
abbrev S_ : Shape := ⟨0, ![]⟩
abbrev S48x2048 : Shape := ⟨2, ![48, 2048]⟩
abbrev S256x2048 : Shape := ⟨2, ![256, 2048]⟩
abbrev S192x2048 : Shape := ⟨2, ![192, 2048]⟩
abbrev S512x2048 : Shape := ⟨2, ![512, 2048]⟩
abbrev S8704x2048 : Shape := ⟨2, ![8704, 2048]⟩
abbrev S1x2048x10240 : Shape := ⟨3, ![1, 2048, 10240]⟩
abbrev S2048x10240 : Shape := ⟨2, ![2048, 10240]⟩
abbrev S10240x2048 : Shape := ⟨2, ![10240, 2048]⟩
abbrev S3x2048 : Shape := ⟨2, ![3, 2048]⟩
abbrev S16x2x2048 : Shape := ⟨3, ![16, 2, 2048]⟩
abbrev S32x2048 : Shape := ⟨2, ![32, 2048]⟩
abbrev S512x512 : Shape := ⟨2, ![512, 512]⟩
abbrev S3x512 : Shape := ⟨2, ![3, 512]⟩
abbrev S32x512 : Shape := ⟨2, ![32, 512]⟩
abbrev S64x512 : Shape := ⟨2, ![64, 512]⟩
abbrev S1x512 : Shape := ⟨2, ![1, 512]⟩
abbrev S16x512 : Shape := ⟨2, ![16, 512]⟩
abbrev S192x512 : Shape := ⟨2, ![192, 512]⟩
abbrev S2x2048 : Shape := ⟨2, ![2, 2048]⟩

abbrev nBuf : Space → Nat
  | .hbm => 40
  | .vmem => 21
  | .smem => 0
  | _ => 0

abbrev bufTy : (tb : Table) → Fin (tcTables nBuf tb) → BufTy
  | .hbm, ⟨0, _⟩ => ⟨S16x2048, .f32⟩
  | .hbm, ⟨1, _⟩ => ⟨S16x16x2048, .f32⟩
  | .hbm, ⟨2, _⟩ => ⟨S16x2048, .f32⟩
  | .hbm, ⟨3, _⟩ => ⟨S16x16x2048, .f32⟩
  | .hbm, ⟨4, _⟩ => ⟨S1x2048x16400, .f32⟩
  | .hbm, ⟨5, _⟩ => ⟨S1x3x2048, .f32⟩
  | .hbm, ⟨6, _⟩ => ⟨S1x16x2x2048, .f32⟩
  | .hbm, ⟨7, _⟩ => ⟨S_, .f32⟩
  | .hbm, ⟨8, _⟩ => ⟨S48x2048, .f32⟩
  | .hbm, ⟨9, _⟩ => ⟨S256x2048, .f32⟩
  | .hbm, ⟨10, _⟩ => ⟨S_, .f32⟩
  | .hbm, ⟨11, _⟩ => ⟨S192x2048, .f32⟩
  | .hbm, ⟨12, _⟩ => ⟨S512x2048, .f32⟩
  | .hbm, ⟨13, _⟩ => ⟨S_, .i32⟩
  | .hbm, ⟨14, _⟩ => ⟨S_, .f32⟩
  | .hbm, ⟨15, _⟩ => ⟨S8704x2048, .f32⟩
  | .hbm, ⟨16, _⟩ => ⟨S8704x2048, .bf16⟩
  | .hbm, ⟨17, _⟩ => ⟨S1x2048x10240, .f32⟩
  | .hbm, ⟨18, _⟩ => ⟨S2048x10240, .f32⟩
  | .hbm, ⟨19, _⟩ => ⟨S10240x2048, .f32⟩
  | .hbm, ⟨20, _⟩ => ⟨S10240x2048, .bf16⟩
  | .hbm, ⟨21, _⟩ => ⟨S_, .f32⟩
  | .hbm, ⟨22, _⟩ => ⟨S48x2048, .f32⟩
  | .hbm, ⟨23, _⟩ => ⟨S256x2048, .f32⟩
  | .hbm, ⟨24, _⟩ => ⟨S_, .f32⟩
  | .hbm, ⟨25, _⟩ => ⟨S192x2048, .f32⟩
  | .hbm, ⟨26, _⟩ => ⟨S512x2048, .f32⟩
  | .hbm, ⟨27, _⟩ => ⟨S3x2048, .f32⟩
  | .hbm, ⟨28, _⟩ => ⟨S16x2x2048, .f32⟩
  | .hbm, ⟨29, _⟩ => ⟨S32x2048, .f32⟩
  | .hbm, ⟨30, _⟩ => ⟨S512x2048, .bf16⟩
  | .hbm, ⟨31, _⟩ => ⟨S512x2048, .f32⟩
  | .hbm, ⟨32, _⟩ => ⟨S16x2048, .bf16⟩
  | .hbm, ⟨33, _⟩ => ⟨S2x2048, .f32⟩
  | .hbm, ⟨34, _⟩ => ⟨S256x2048, .bf16⟩
  | .hbm, ⟨35, _⟩ => ⟨S16x16x2048, .bf16⟩
  | .hbm, ⟨36, _⟩ => ⟨S256x2048, .f32⟩
  | .hbm, ⟨37, _⟩ => ⟨S16x16x2048, .f32⟩
  | .hbm, ⟨38, _⟩ => ⟨S16x2x2048, .f32⟩
  | .hbm, ⟨39, _⟩ => ⟨S1x16x2x2048, .f32⟩
  | .local _ .vmem, ⟨0, _⟩ => ⟨S512x2048, .bf16⟩
  | .local _ .vmem, ⟨1, _⟩ => ⟨S512x512, .f32⟩
  | .local _ .vmem, ⟨2, _⟩ => ⟨S512x512, .f32⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .bf16⟩
  | .local _ .vmem, ⟨10, _⟩ => ⟨S512x2048, .bf16⟩
  | .local _ .vmem, ⟨11, _⟩ => ⟨S512x2048, .bf16⟩
  | .local _ .vmem, ⟨12, _⟩ => ⟨S512x2048, .bf16⟩
  | .local _ .vmem, ⟨13, _⟩ => ⟨S3x512, .f32⟩
  | .local _ .vmem, ⟨14, _⟩ => ⟨S3x512, .f32⟩
  | .local _ .vmem, ⟨15, _⟩ => ⟨S32x512, .f32⟩
  | .local _ .vmem, ⟨16, _⟩ => ⟨S32x512, .f32⟩
  | .local _ .vmem, ⟨17, _⟩ => ⟨S512x512, .bf16⟩
  | .local _ .vmem, ⟨18, _⟩ => ⟨S512x512, .bf16⟩
  | .local _ .vmem, ⟨19, _⟩ => ⟨S512x512, .f32⟩
  | .local _ .vmem, ⟨20, _⟩ => ⟨S512x512, .f32⟩
  | _, _ => ⟨S16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_call0_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17_0 : Ref sig .tc := ⟨.hbm, 30, rfl⟩
abbrev main_v17_1 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c16_i32 : BitVec 32 := 16#32
  let c0_i32 : BitVec 32 := 0#32
  let c0_i32_0 : BitVec 32 := 0#32
  ![c16_i32.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S512x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S3x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S32x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== TailReferenceIdeal.lean ====
abbrev S16x2048 : Shape := ⟨2, ![16, 2048]⟩
abbrev S16x16x2048 : Shape := ⟨3, ![16, 16, 2048]⟩
abbrev S1x2048x16400 : Shape := ⟨3, ![1, 2048, 16400]⟩
abbrev S1x3x2048 : Shape := ⟨3, ![1, 3, 2048]⟩
abbrev S1x16x2x2048 : Shape := ⟨4, ![1, 16, 2, 2048]⟩
abbrev S1x16x2048 : Shape := ⟨3, ![1, 16, 2048]⟩
abbrev S2048x16400 : Shape := ⟨2, ![2048, 16400]⟩
abbrev S3x2048 : Shape := ⟨2, ![3, 2048]⟩
abbrev S_ : Shape := ⟨0, ![]⟩
abbrev S1x2x2048 : Shape := ⟨3, ![1, 2, 2048]⟩
abbrev S2048x10240 : Shape := ⟨2, ![2048, 10240]⟩
abbrev S1x16x10240 : Shape := ⟨3, ![1, 16, 10240]⟩
abbrev S1x18x2048 : Shape := ⟨3, ![1, 18, 2048]⟩
abbrev S1x2048 : Shape := ⟨2, ![1, 2048]⟩
abbrev S2048 : Shape := ⟨1, ![2048]⟩
abbrev S1x1x2048 : Shape := ⟨3, ![1, 1, 2048]⟩
abbrev S16x2x2048 : Shape := ⟨3, ![16, 2, 2048]⟩
abbrev S16x16x10240 : Shape := ⟨3, ![16, 16, 10240]⟩
abbrev S16x18x2048 : Shape := ⟨3, ![16, 18, 2048]⟩
abbrev S2x2048 : Shape := ⟨2, ![2, 2048]⟩

abbrev nBuf : Space → Nat
  | .hbm => 121
  | .vmem => 0
  | .smem => 0
  | _ => 0

abbrev bufTy : (tb : Table) → Fin (tcTables nBuf tb) → BufTy
  | .hbm, ⟨0, _⟩ => ⟨S16x2048, .f32⟩
  | .hbm, ⟨1, _⟩ => ⟨S16x16x2048, .f32⟩
  | .hbm, ⟨2, _⟩ => ⟨S16x2048, .f32⟩
  | .hbm, ⟨3, _⟩ => ⟨S16x16x2048, .f32⟩
  | .hbm, ⟨4, _⟩ => ⟨S1x2048x16400, .f32⟩
  | .hbm, ⟨5, _⟩ => ⟨S1x3x2048, .f32⟩
  | .hbm, ⟨6, _⟩ => ⟨S1x16x2x2048, .f32⟩
  | .hbm, ⟨7, _⟩ => ⟨S1x16x2048, .f32⟩
  | .hbm, ⟨8, _⟩ => ⟨S1x16x2048, .f32⟩
  | .hbm, ⟨9, _⟩ => ⟨S2048x16400, .f32⟩
  | .hbm, ⟨10, _⟩ => ⟨S3x2048, .f32⟩
  | .hbm, ⟨11, _⟩ => ⟨S_, .f32⟩
  | .hbm, ⟨12, _⟩ => ⟨S1x2x2048, .f32⟩
  | .hbm, ⟨13, _⟩ => ⟨S2048x10240, .f32⟩
  | .hbm, ⟨14, _⟩ => ⟨S1x16x10240, .f32⟩
  | .hbm, ⟨15, _⟩ => ⟨S1x16x2048, .f32⟩
  | .hbm, ⟨16, _⟩ => ⟨S1x16x2048, .f32⟩
  | .hbm, ⟨17, _⟩ => ⟨S1x16x2048, .f32⟩
  | .hbm, ⟨18, _⟩ => ⟨S1x16x2048, .f32⟩
  | .hbm, ⟨19, _⟩ => ⟨S1x16x2048, .f32⟩
  | .hbm, ⟨20, _⟩ => ⟨S1x16x2048, .f32⟩
  | .hbm, ⟨21, _⟩ => ⟨S1x18x2048, .f32⟩
  | .hbm, ⟨22, _⟩ => ⟨S1x2048, .f32⟩
  | .hbm, ⟨23, _⟩ => ⟨S2048, .f32⟩
  | .hbm, ⟨24, _⟩ => ⟨S1x16x2048, .f32⟩
  | .hbm, ⟨25, _⟩ => ⟨S1x1x2048, .f32⟩
  | .hbm, ⟨26, _⟩ => ⟨S1x16x2048, .f32⟩
  | .hbm, ⟨27, _⟩ => ⟨S1x16x2048, .f32⟩
  | .hbm, ⟨28, _⟩ => ⟨S1x2048, .f32⟩
  | .hbm, ⟨29, _⟩ => ⟨S2048, .f32⟩
  | .hbm, ⟨30, _⟩ => ⟨S1x16x2048, .f32⟩
  | .hbm, ⟨31, _⟩ => ⟨S1x1x2048, .f32⟩
  | .hbm, ⟨32, _⟩ => ⟨S1x16x2048, .f32⟩
  | .hbm, ⟨33, _⟩ => ⟨S1x16x2048, .f32⟩
  | .hbm, ⟨34, _⟩ => ⟨S1x16x2048, .f32⟩
  | .hbm, ⟨35, _⟩ => ⟨S1x2048, .f32⟩
  | .hbm, ⟨36, _⟩ => ⟨S2048, .f32⟩
  | .hbm, ⟨37, _⟩ => ⟨S1x16x2048, .f32⟩
  | .hbm, ⟨38, _⟩ => ⟨S1x1x2048, .f32⟩
  | .hbm, ⟨39, _⟩ => ⟨S1x16x2048, .f32⟩
  | .hbm, ⟨40, _⟩ => ⟨S1x16x2048, .f32⟩
  | .hbm, ⟨41, _⟩ => ⟨S1x16x2048, .f32⟩
  | .hbm, ⟨42, _⟩ => ⟨S1x2x2048, .f32⟩
  | .hbm, ⟨43, _⟩ => ⟨S1x16x2048, .f32⟩
  | .hbm, ⟨44, _⟩ => ⟨S1x16x2048, .f32⟩
  | .hbm, ⟨45, _⟩ => ⟨S1x16x2048, .f32⟩
  | .hbm, ⟨46, _⟩ => ⟨S_, .f32⟩
  | .hbm, ⟨47, _⟩ => ⟨S1x16x2048, .f32⟩
  | .hbm, ⟨48, _⟩ => ⟨S1x16x2048, .f32⟩
  | .hbm, ⟨49, _⟩ => ⟨S_, .f32⟩
  | .hbm, ⟨50, _⟩ => ⟨S1x16x2048, .f32⟩
  | .hbm, ⟨51, _⟩ => ⟨S1x16x2048, .f32⟩
  | .hbm, ⟨52, _⟩ => ⟨S1x16x2048, .f32⟩
  | .hbm, ⟨53, _⟩ => ⟨S1x16x2048, .f32⟩
  | .hbm, ⟨54, _⟩ => ⟨S1x16x2048, .f32⟩
  | .hbm, ⟨55, _⟩ => ⟨S_, .f32⟩
  | .hbm, ⟨56, _⟩ => ⟨S1x16x2048, .f32⟩
  | .hbm, ⟨57, _⟩ => ⟨S1x16x2048, .f32⟩
  | .hbm, ⟨58, _⟩ => ⟨S_, .f32⟩
  | .hbm, ⟨59, _⟩ => ⟨S1x16x2048, .f32⟩
  | .hbm, ⟨60, _⟩ => ⟨S1x16x2048, .f32⟩
  | .hbm, ⟨61, _⟩ => ⟨S1x16x2048, .f32⟩
  | .hbm, ⟨62, _⟩ => ⟨S1x16x2048, .f32⟩
  | .hbm, ⟨63, _⟩ => ⟨S1x16x2048, .bf16⟩
  | .hbm, ⟨64, _⟩ => ⟨S2048x16400, .f32⟩
  | .hbm, ⟨65, _⟩ => ⟨S3x2048, .f32⟩
  | .hbm, ⟨66, _⟩ => ⟨S16x2x2048, .f32⟩
  | .hbm, ⟨67, _⟩ => ⟨S2048x10240, .f32⟩
  | .hbm, ⟨68, _⟩ => ⟨S16x16x10240, .f32⟩
  | .hbm, ⟨69, _⟩ => ⟨S16x16x2048, .f32⟩
  | .hbm, ⟨70, _⟩ => ⟨S16x16x2048, .f32⟩
  | .hbm, ⟨71, _⟩ => ⟨S16x16x2048, .f32⟩
  | .hbm, ⟨72, _⟩ => ⟨S16x16x2048, .f32⟩
  | .hbm, ⟨73, _⟩ => ⟨S16x16x2048, .f32⟩
  | .hbm, ⟨74, _⟩ => ⟨S16x16x2048, .f32⟩
  | .hbm, ⟨75, _⟩ => ⟨S16x18x2048, .f32⟩
  | .hbm, ⟨76, _⟩ => ⟨S1x2048, .f32⟩
  | .hbm, ⟨77, _⟩ => ⟨S2048, .f32⟩
  | .hbm, ⟨78, _⟩ => ⟨S16x16x2048, .f32⟩
  | .hbm, ⟨79, _⟩ => ⟨S1x1x2048, .f32⟩
  | .hbm, ⟨80, _⟩ => ⟨S16x16x2048, .f32⟩
  | .hbm, ⟨81, _⟩ => ⟨S16x16x2048, .f32⟩
  | .hbm, ⟨82, _⟩ => ⟨S1x2048, .f32⟩
  | .hbm, ⟨83, _⟩ => ⟨S2048, .f32⟩
  | .hbm, ⟨84, _⟩ => ⟨S16x16x2048, .f32⟩
  | .hbm, ⟨85, _⟩ => ⟨S1x1x2048, .f32⟩
  | .hbm, ⟨86, _⟩ => ⟨S16x16x2048, .f32⟩
  | .hbm, ⟨87, _⟩ => ⟨S16x16x2048, .f32⟩
  | .hbm, ⟨88, _⟩ => ⟨S16x16x2048, .f32⟩
  | .hbm, ⟨89, _⟩ => ⟨S1x2048, .f32⟩
  | .hbm, ⟨90, _⟩ => ⟨S2048, .f32⟩
  | .hbm, ⟨91, _⟩ => ⟨S16x16x2048, .f32⟩
  | .hbm, ⟨92, _⟩ => ⟨S1x1x2048, .f32⟩
  | .hbm, ⟨93, _⟩ => ⟨S16x16x2048, .f32⟩
  | .hbm, ⟨94, _⟩ => ⟨S16x16x2048, .f32⟩
  | .hbm, ⟨95, _⟩ => ⟨S16x16x2048, .f32⟩
  | .hbm, ⟨96, _⟩ => ⟨S16x2x2048, .f32⟩
  | .hbm, ⟨97, _⟩ => ⟨S16x16x2048, .f32⟩
  | .hbm, ⟨98, _⟩ => ⟨S16x16x2048, .f32⟩
  | .hbm, ⟨99, _⟩ => ⟨S16x16x2048, .f32⟩
  | .hbm, ⟨100, _⟩ => ⟨S_, .f32⟩
  | .hbm, ⟨101, _⟩ => ⟨S16x16x2048, .f32⟩
  | .hbm, ⟨102, _⟩ => ⟨S16x16x2048, .f32⟩
  | .hbm, ⟨103, _⟩ => ⟨S_, .f32⟩
  | .hbm, ⟨104, _⟩ => ⟨S16x16x2048, .f32⟩
  | .hbm, ⟨105, _⟩ => ⟨S16x16x2048, .f32⟩
  | .hbm, ⟨106, _⟩ => ⟨S16x16x2048, .f32⟩
  | .hbm, ⟨107, _⟩ => ⟨S16x16x2048, .f32⟩
  | .hbm, ⟨108, _⟩ => ⟨S16x16x2048, .f32⟩
  | .hbm, ⟨109, _⟩ => ⟨S_, .f32⟩
  | .hbm, ⟨110, _⟩ => ⟨S16x16x2048, .f32⟩
  | .hbm, ⟨111, _⟩ => ⟨S16x16x2048, .f32⟩
  | .hbm, ⟨112, _⟩ => ⟨S_, .f32⟩
  | .hbm, ⟨113, _⟩ => ⟨S16x16x2048, .f32⟩
  | .hbm, ⟨114, _⟩ => ⟨S16x16x2048, .f32⟩
  | .hbm, ⟨115, _⟩ => ⟨S16x16x2048, .f32⟩
  | .hbm, ⟨116, _⟩ => ⟨S16x16x2048, .f32⟩
  | .hbm, ⟨117, _⟩ => ⟨S16x16x2048, .bf16⟩
  | .hbm, ⟨118, _⟩ => ⟨S16x2048, .bf16⟩
  | .hbm, ⟨119, _⟩ => ⟨S2x2048, .f32⟩
  | .hbm, ⟨120, _⟩ => ⟨S1x16x2x2048, .f32⟩
  | _, _ => ⟨S16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_cst_0 : Ref sig .tc := ⟨.hbm, 46, rfl⟩
abbrev main_v38 : Ref sig .tc := ⟨.hbm, 47, rfl⟩
abbrev main_v39 : Ref sig .tc := ⟨.hbm, 48, rfl⟩
abbrev main_cst_1 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_cst_2 : Ref sig .tc := ⟨.hbm, 55, rfl⟩
abbrev main_v45 : Ref sig .tc := ⟨.hbm, 56, rfl⟩
abbrev main_v46 : Ref sig .tc := ⟨.hbm, 57, rfl⟩
abbrev main_cst_3 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_cst_4 : Ref sig .tc := ⟨.hbm, 100, rfl⟩
abbrev main_v88 : Ref sig .tc := ⟨.hbm, 101, rfl⟩
abbrev main_v89 : Ref sig .tc := ⟨.hbm, 102, rfl⟩
abbrev main_cst_5 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_cst_6 : Ref sig .tc := ⟨.hbm, 109, rfl⟩
abbrev main_v95 : Ref sig .tc := ⟨.hbm, 110, rfl⟩
abbrev main_v96 : Ref sig .tc := ⟨.hbm, 111, rfl⟩
abbrev main_cst_7 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩

abbrev nD : Nat := 1
abbrev τ : Topo := Topo.v7x

variable {F : FTy → Type} [FloatOps F]
-- ==== State.lean ====
abbrev S16x2048 : Shape := ⟨2, ![16, 2048]⟩
abbrev S16x16x2048 : Shape := ⟨3, ![16, 16, 2048]⟩
abbrev S16x1024 : Shape := ⟨2, ![16, 1024]⟩
abbrev S16x16x1024 : Shape := ⟨3, ![16, 16, 1024]⟩
abbrev S1x2048x16400 : Shape := ⟨3, ![1, 2048, 16400]⟩
abbrev S1x2048 : Shape := ⟨2, ![1, 2048]⟩
abbrev S1x16x4x256x512 : Shape := ⟨5, ![1, 16, 4, 256, 512]⟩
abbrev S_ : Shape := ⟨0, ![]⟩
abbrev S48x2048 : Shape := ⟨2, ![48, 2048]⟩
abbrev S256x2048 : Shape := ⟨2, ![256, 2048]⟩
abbrev S192x2048 : Shape := ⟨2, ![192, 2048]⟩
abbrev S512x2048 : Shape := ⟨2, ![512, 2048]⟩
abbrev S8704x2048 : Shape := ⟨2, ![8704, 2048]⟩
abbrev S1x16400x2048 : Shape := ⟨3, ![1, 16400, 2048]⟩
abbrev S48x1024 : Shape := ⟨2, ![48, 1024]⟩
abbrev S256x1024 : Shape := ⟨2, ![256, 1024]⟩
abbrev S192x1024 : Shape := ⟨2, ![192, 1024]⟩
abbrev S512x1024 : Shape := ⟨2, ![512, 1024]⟩
abbrev S8704x1024 : Shape := ⟨2, ![8704, 1024]⟩
abbrev S16x4x256x512 : Shape := ⟨4, ![16, 4, 256, 512]⟩
abbrev S4x256x512 : Shape := ⟨3, ![4, 256, 512]⟩
abbrev S1x256x2048 : Shape := ⟨3, ![1, 256, 2048]⟩
abbrev S1x512x2048 : Shape := ⟨3, ![1, 512, 2048]⟩
abbrev S512x256 : Shape := ⟨2, ![512, 256]⟩
abbrev S1x512 : Shape := ⟨2, ![1, 512]⟩
abbrev S8x1x256x512 : Shape := ⟨4, ![8, 1, 256, 512]⟩
abbrev S512x512 : Shape := ⟨2, ![512, 512]⟩
abbrev S1x256x512 : Shape := ⟨3, ![1, 256, 512]⟩
abbrev S1536x2048 : Shape := ⟨2, ![1536, 2048]⟩
abbrev S512x1536 : Shape := ⟨2, ![512, 1536]⟩
abbrev S64x64 : Shape := ⟨2, ![64, 64]⟩
abbrev S1024x2048 : Shape := ⟨2, ![1024, 2048]⟩
abbrev S64x256 : Shape := ⟨2, ![64, 256]⟩
abbrev S48x256 : Shape := ⟨2, ![48, 256]⟩
abbrev S16x256 : Shape := ⟨2, ![16, 256]⟩
abbrev S576x256 : Shape := ⟨2, ![576, 256]⟩
abbrev S64x512 : Shape := ⟨2, ![64, 512]⟩
abbrev S48x512 : Shape := ⟨2, ![48, 512]⟩
abbrev S16x512 : Shape := ⟨2, ![16, 512]⟩
abbrev S576x512 : Shape := ⟨2, ![576, 512]⟩
abbrev S9x64x256 : Shape := ⟨3, ![9, 64, 256]⟩
abbrev S9x1x256 : Shape := ⟨3, ![9, 1, 256]⟩
abbrev S18x32x256 : Shape := ⟨3, ![18, 32, 256]⟩
abbrev S18x1x256 : Shape := ⟨3, ![18, 1, 256]⟩
abbrev S36x16x256 : Shape := ⟨3, ![36, 16, 256]⟩
abbrev S36x1x256 : Shape := ⟨3, ![36, 1, 256]⟩
abbrev S72x8x256 : Shape := ⟨3, ![72, 8, 256]⟩
abbrev S72x1x256 : Shape := ⟨3, ![72, 1, 256]⟩
abbrev S256x512 : Shape := ⟨2, ![256, 512]⟩
abbrev S1x256 : Shape := ⟨2, ![1, 256]⟩
abbrev S128x256 : Shape := ⟨2, ![128, 256]⟩
abbrev S256x128 : Shape := ⟨2, ![256, 128]⟩
abbrev S1x1x256x512 : Shape := ⟨4, ![1, 1, 256, 512]⟩
abbrev S192x512 : Shape := ⟨2, ![192, 512]⟩
abbrev S192 : Shape := ⟨1, ![192]⟩
abbrev S192x1 : Shape := ⟨2, ![192, 1]⟩
abbrev S8x64x256 : Shape := ⟨3, ![8, 64, 256]⟩
abbrev S8x1x256 : Shape := ⟨3, ![8, 1, 256]⟩
abbrev S16x32x256 : Shape := ⟨3, ![16, 32, 256]⟩
abbrev S16x1x256 : Shape := ⟨3, ![16, 1, 256]⟩
abbrev S32x16x256 : Shape := ⟨3, ![32, 16, 256]⟩
abbrev S32x1x256 : Shape := ⟨3, ![32, 1, 256]⟩
abbrev S64x8x256 : Shape := ⟨3, ![64, 8, 256]⟩
abbrev S64x1x256 : Shape := ⟨3, ![64, 1, 256]⟩
abbrev S320x512 : Shape := ⟨2, ![320, 512]⟩
abbrev S320 : Shape := ⟨1, ![320]⟩
abbrev S320x1 : Shape := ⟨2, ![320, 1]⟩

abbrev nBuf : Space → Nat
  | .hbm => 31
  | .vmem => 23
  | .smem => 0
  | _ => 0

abbrev bufTy : (tb : Table) → Fin (tcTables nBuf tb) → BufTy
  | .hbm, ⟨0, _⟩ => ⟨S16x2048, .f32⟩
  | .hbm, ⟨1, _⟩ => ⟨S16x16x2048, .f32⟩
  | .hbm, ⟨2, _⟩ => ⟨S16x1024, .f32⟩
  | .hbm, ⟨3, _⟩ => ⟨S16x16x1024, .f32⟩
  | .hbm, ⟨4, _⟩ => ⟨S1x2048x16400, .f32⟩
  | .hbm, ⟨5, _⟩ => ⟨S1x2048, .f32⟩
  | .hbm, ⟨6, _⟩ => ⟨S1x16x4x256x512, .f32⟩
  | .hbm, ⟨7, _⟩ => ⟨S_, .f32⟩
  | .hbm, ⟨8, _⟩ => ⟨S48x2048, .f32⟩
  | .hbm, ⟨9, _⟩ => ⟨S256x2048, .f32⟩
  | .hbm, ⟨10, _⟩ => ⟨S_, .f32⟩
  | .hbm, ⟨11, _⟩ => ⟨S192x2048, .f32⟩
  | .hbm, ⟨12, _⟩ => ⟨S512x2048, .f32⟩
  | .hbm, ⟨13, _⟩ => ⟨S_, .i32⟩
  | .hbm, ⟨14, _⟩ => ⟨S_, .f32⟩
  | .hbm, ⟨15, _⟩ => ⟨S8704x2048, .f32⟩
  | .hbm, ⟨16, _⟩ => ⟨S8704x2048, .bf16⟩
  | .hbm, ⟨17, _⟩ => ⟨S1x16400x2048, .f32⟩
  | .hbm, ⟨18, _⟩ => ⟨S_, .f32⟩
  | .hbm, ⟨19, _⟩ => ⟨S48x1024, .f32⟩
  | .hbm, ⟨20, _⟩ => ⟨S256x1024, .f32⟩
  | .hbm, ⟨21, _⟩ => ⟨S_, .f32⟩
  | .hbm, ⟨22, _⟩ => ⟨S192x1024, .f32⟩
  | .hbm, ⟨23, _⟩ => ⟨S512x1024, .f32⟩
  | .hbm, ⟨24, _⟩ => ⟨S_, .i32⟩
  | .hbm, ⟨25, _⟩ => ⟨S_, .f32⟩
  | .hbm, ⟨26, _⟩ => ⟨S8704x1024, .f32⟩
  | .hbm, ⟨27, _⟩ => ⟨S16x4x256x512, .f32⟩
  | .hbm, ⟨28, _⟩ => ⟨S512x2048, .f32⟩
  | .hbm, ⟨29, _⟩ => ⟨S4x256x512, .f32⟩
  | .hbm, ⟨30, _⟩ => ⟨S16x4x256x512, .f32⟩
  | .local _ .vmem, ⟨0, _⟩ => ⟨S512x2048, .bf16⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S1x256x2048, .f32⟩
  | .local _ .vmem, ⟨5, _⟩ => ⟨S1x512x2048, .f32⟩
  | .local _ .vmem, ⟨6, _⟩ => ⟨S1x512x2048, .f32⟩
  | .local _ .vmem, ⟨7, _⟩ => ⟨S1x512x2048, .f32⟩
  | .local _ .vmem, ⟨8, _⟩ => ⟨S1x512x2048, .f32⟩
  | .local _ .vmem, ⟨9, _⟩ => ⟨S512x256, .f32⟩
  | .local _ .vmem, ⟨10, _⟩ => ⟨S512x256, .f32⟩
  | .local _ .vmem, ⟨11, _⟩ => ⟨S1x512, .f32⟩
  | .local _ .vmem, ⟨12, _⟩ => ⟨S1x512, .f32⟩
  | .local _ .vmem, ⟨13, _⟩ => ⟨S8x1x256x512, .f32⟩
  | .local _ .vmem, ⟨14, _⟩ => ⟨S8x1x256x512, .f32⟩
  | .local _ .vmem, ⟨15, _⟩ => ⟨S512x512, .f32⟩
  | .local _ .vmem, ⟨16, _⟩ => ⟨S512x512, .f32⟩
  | .local _ .vmem, ⟨17, _⟩ => ⟨S1x256x512, .f32⟩
  | .local _ .vmem, ⟨18, _⟩ => ⟨S1x256x512, .f32⟩
  | .local _ .vmem, ⟨19, _⟩ => ⟨S8x1x256x512, .f32⟩
  | .local _ .vmem, ⟨20, _⟩ => ⟨S8x1x256x512, .f32⟩
  | .local _ .vmem, ⟨21, _⟩ => ⟨S1536x2048, .bf16⟩
  | .local _ .vmem, ⟨22, _⟩ => ⟨S512x1536, .f32⟩
  | _, _ => ⟨S16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_call0_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_c_3 : Ref sig .tc := ⟨.hbm, 24, rfl⟩
abbrev main_call1_v0 : Ref sig .tc := ⟨.hbm, 25, rfl⟩
abbrev main_v11 : Ref sig .tc := ⟨.hbm, 26, rfl⟩
abbrev main_v12 : Ref sig .tc := ⟨.hbm, 27, rfl⟩
abbrev main_v13_0 : Ref sig .tc := ⟨.hbm, 28, rfl⟩
abbrev main_v13_1 : Ref sig .tc := ⟨.hbm, 29, rfl⟩
abbrev main_v13_2 : Ref sig .tc := ⟨.hbm, 30, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_scratch0 : Ref sig .tc := ⟨.vmem, 21, rfl⟩
abbrev cc0_scratch1 : Ref sig .tc := ⟨.vmem, 22, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![4, 2], ![false, false]⟩

def k0_cond2 (i : grid0.Coords) : BitVec 1 :=
  let arg1 : BitVec 32 := BitVec.ofNat 32 (i 1).val
  let c0_i32_20 : BitVec 32 := 0#32
  let v96 : BitVec 1 := Scalar.cmpi .eq arg1 c0_i32_20
  let v97 : BitVec 32 := Scalar.extui v96
  let c0_i32_21 : BitVec 32 := 0#32
  let v98 : BitVec 1 := Scalar.cmpi .ne v97 c0_i32_21
  v98

def k0_cond3 (i : grid0.Coords) : BitVec 1 :=
  let arg1 : BitVec 32 := BitVec.ofNat 32 (i 1).val
  let c1_i32_22 : BitVec 32 := 1#32
  let v99 : BitVec 1 := Scalar.cmpi .eq arg1 c1_i32_22
  let v100 : BitVec 32 := Scalar.extui v99
  let c0_i32_23 : BitVec 32 := 0#32
  let v101 : BitVec 1 := Scalar.cmpi .ne v100 c0_i32_23
  v101

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let c0_i32 : BitVec 32 := 0#32
  let c0_i32_0 : BitVec 32 := 0#32
  ![c16_i32.toNat, c0_i32.toNat]

def cc0_transform_1 (i : grid0.Coords) : Fin 3 → Nat :=
  let arg0 : BitVec 32 := BitVec.ofNat 32 (i 0).val
  let arg1 : BitVec 32 := BitVec.ofNat 32 (i 1).val
  let v0 : BitVec 32 := Scalar.addi arg0 arg1
  let c3_i32 : BitVec 32 := 3#32
  let v1 : BitVec 32 := Scalar.minsi v0 c3_i32
  let c0_i32 : BitVec 32 := 0#32
  let c0_i32_0 : BitVec 32 := 0#32
  let c0_i32_1 : BitVec 32 := 0#32
  ![c0_i32.toNat, v1.toNat, c0_i32_0.toNat]

def cc0_transform_2 (i : grid0.Coords) : Fin 3 → Nat :=
  let arg0 : BitVec 32 := BitVec.ofNat 32 (i 0).val
  let arg1 : BitVec 32 := BitVec.ofNat 32 (i 1).val
  let v0 : BitVec 32 := Scalar.addi arg0 arg1
  let c3_i32 : BitVec 32 := 3#32
  let v1 : BitVec 32 := Scalar.minsi v0 c3_i32
  let c4_i32 : BitVec 32 := 4#32
  let v2 : BitVec 32 := Scalar.addi c4_i32 v1
  let c0_i32 : BitVec 32 := 0#32
  let c0_i32_0 : BitVec 32 := 0#32
  let c0_i32_1 : BitVec 32 := 0#32
  ![c0_i32.toNat, v2.toNat, c0_i32_0.toNat]

def cc0_transform_3 (i : grid0.Coords) : Fin 3 → Nat :=
  let arg0 : BitVec 32 := BitVec.ofNat 32 (i 0).val
  let arg1 : BitVec 32 := BitVec.ofNat 32 (i 1).val
  let v0 : BitVec 32 := Scalar.addi arg0 arg1
  let c3_i32 : BitVec 32 := 3#32
  let v1 : BitVec 32 := Scalar.minsi v0 c3_i32
  let c4_i32 : BitVec 32 := 4#32
  let v2 : BitVec 32 := Scalar.addi c4_i32 v1
  let c0_i32 : BitVec 32 := 0#32
  let c0_i32_0 : BitVec 32 := 0#32
  let c0_i32_1 : BitVec 32 := 0#32
  ![c0_i32.toNat, v2.toNat, c0_i32_0.toNat]

def cc0_transform_4 (i : grid0.Coords) : Fin 3 → Nat :=
  let arg0 : BitVec 32 := BitVec.ofNat 32 (i 0).val
  let arg1 : BitVec 32 := BitVec.ofNat 32 (i 1).val
  let v0 : BitVec 32 := Scalar.addi arg0 arg1
  let c3_i32 : BitVec 32 := 3#32
  let v1 : BitVec 32 := Scalar.minsi v0 c3_i32
  let c8_i32 : BitVec 32 := 8#32
  let v2 : BitVec 32 := Scalar.addi c8_i32 v1
  let c0_i32 : BitVec 32 := 0#32
  let c0_i32_0 : BitVec 32 := 0#32
  let c0_i32_1 : BitVec 32 := 0#32
  ![c0_i32.toNat, v2.toNat, c0_i32_0.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let c0_i32 : BitVec 32 := 0#32
  ![c16_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 1 → Memref sig .tc .vmem S512x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S8x1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S8x1x256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== StateReferenceIdeal.lean ====
abbrev S16x2048 : Shape := ⟨2, ![16, 2048]⟩
abbrev S16x16x2048 : Shape := ⟨3, ![16, 16, 2048]⟩
abbrev S16x1024 : Shape := ⟨2, ![16, 1024]⟩
abbrev S16x16x1024 : Shape := ⟨3, ![16, 16, 1024]⟩
abbrev S1x2048x16400 : Shape := ⟨3, ![1, 2048, 16400]⟩
abbrev S1x2048 : Shape := ⟨2, ![1, 2048]⟩
abbrev S1x16x4x256x512 : Shape := ⟨5, ![1, 16, 4, 256, 512]⟩
abbrev S1x2048x3072 : Shape := ⟨3, ![1, 2048, 3072]⟩
abbrev S2048x3072 : Shape := ⟨2, ![2048, 3072]⟩
abbrev S16x16x3072 : Shape := ⟨3, ![16, 16, 3072]⟩
abbrev S16x16x4x256 : Shape := ⟨4, ![16, 16, 4, 256]⟩
abbrev S16x4x16x256 : Shape := ⟨4, ![16, 4, 16, 256]⟩
abbrev S16x16x4x512 : Shape := ⟨4, ![16, 16, 4, 512]⟩
abbrev S16x4x16x512 : Shape := ⟨4, ![16, 4, 16, 512]⟩
abbrev S_ : Shape := ⟨0, ![]⟩
abbrev S16x4x1x256 : Shape := ⟨4, ![16, 4, 1, 256]⟩
abbrev S16x4x256 : Shape := ⟨3, ![16, 4, 256]⟩
abbrev S16x4x256x1 : Shape := ⟨4, ![16, 4, 256, 1]⟩
abbrev S16x4x256x512 : Shape := ⟨4, ![16, 4, 256, 512]⟩

abbrev nBuf : Space → Nat
  | .hbm => 34
  | .vmem => 0
  | .smem => 0
  | _ => 0

abbrev bufTy : (tb : Table) → Fin (tcTables nBuf tb) → BufTy
  | .hbm, ⟨0, _⟩ => ⟨S16x2048, .f32⟩
  | .hbm, ⟨1, _⟩ => ⟨S16x16x2048, .f32⟩
  | .hbm, ⟨2, _⟩ => ⟨S16x1024, .f32⟩
  | .hbm, ⟨3, _⟩ => ⟨S16x16x1024, .f32⟩
  | .hbm, ⟨4, _⟩ => ⟨S1x2048x16400, .f32⟩
  | .hbm, ⟨5, _⟩ => ⟨S1x2048, .f32⟩
  | .hbm, ⟨6, _⟩ => ⟨S1x16x4x256x512, .f32⟩
  | .hbm, ⟨7, _⟩ => ⟨S1x2048x3072, .f32⟩
  | .hbm, ⟨8, _⟩ => ⟨S2048x3072, .f32⟩
  | .hbm, ⟨9, _⟩ => ⟨S16x16x3072, .f32⟩
  | .hbm, ⟨10, _⟩ => ⟨S16x16x1024, .f32⟩
  | .hbm, ⟨11, _⟩ => ⟨S16x16x2048, .f32⟩
  | .hbm, ⟨12, _⟩ => ⟨S16x16x4x256, .f32⟩
  | .hbm, ⟨13, _⟩ => ⟨S16x4x16x256, .f32⟩
  | .hbm, ⟨14, _⟩ => ⟨S16x16x4x512, .f32⟩
  | .hbm, ⟨15, _⟩ => ⟨S16x4x16x512, .f32⟩
  | .hbm, ⟨16, _⟩ => ⟨S16x16x4x256, .f32⟩
  | .hbm, ⟨17, _⟩ => ⟨S16x4x16x256, .f32⟩
  | .hbm, ⟨18, _⟩ => ⟨S_, .f32⟩
  | .hbm, ⟨19, _⟩ => ⟨S_, .f32⟩
  | .hbm, ⟨20, _⟩ => ⟨S16x4x16x256, .f32⟩
  | .hbm, ⟨21, _⟩ => ⟨S16x4x1x256, .f32⟩
  | .hbm, ⟨22, _⟩ => ⟨S16x4x16x256, .f32⟩
  | .hbm, ⟨23, _⟩ => ⟨S16x4x16x256, .f32⟩
  | .hbm, ⟨24, _⟩ => ⟨S16x4x16x256, .f32⟩
  | .hbm, ⟨25, _⟩ => ⟨S16x4x16x256, .f32⟩
  | .hbm, ⟨26, _⟩ => ⟨S16x4x256, .f32⟩
  | .hbm, ⟨27, _⟩ => ⟨S16x4x256, .f32⟩
  | .hbm, ⟨28, _⟩ => ⟨S16x4x256x1, .f32⟩
  | .hbm, ⟨29, _⟩ => ⟨S16x4x256x512, .f32⟩
  | .hbm, ⟨30, _⟩ => ⟨S16x4x256x512, .f32⟩
  | .hbm, ⟨31, _⟩ => ⟨S16x4x256x512, .f32⟩
  | .hbm, ⟨32, _⟩ => ⟨S16x4x256x512, .f32⟩
  | .hbm, ⟨33, _⟩ => ⟨S16x4x256x512, .f32⟩
  | _, _ => ⟨S16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call0_call0_cst : Ref sig .tc := ⟨.hbm, 18, rfl⟩
abbrev main_call0_call0_v0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== Proof.Recur.lean ====
/-
  The gated linear recurrence over the real numbers, free of any program: one token's update of the state and its output,
  and the same quantities computed a chunk at a time. A chunk of any length gives the token recurrence's values, so two
  programs that cut the sequence into chunks of different lengths compute one function.
-/
module

public import Mathlib.Analysis.SpecialFunctions.Exp
public import Mathlib.Algebra.BigOperators.Fin

@[expose] public section

noncomputable section

namespace Gla

open Finset

/-- A finite sum of real numbers, read among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

variable {A B : Type}

/-- The state after `t` tokens: each token decays row `a` by `exp (g t a)`, then adds the outer product of its key and
    value. -/
def state (k g : ℕ → A → ℝ) (v : ℕ → B → ℝ) (S0 : A → B → ℝ) : ℕ → A → B → ℝ
  | 0 => S0
  | t + 1 => fun a b => Real.exp (g t a) * state k g v S0 t a b + k t a * v t b

theorem state_succ (k g : ℕ → A → ℝ) (v : ℕ → B → ℝ) (S0 : A → B → ℝ) (t : ℕ) (a : A) (b : B) :
    state k g v S0 (t + 1) a b = Real.exp (g t a) * state k g v S0 t a b + k t a * v t b := rfl

/-- Token `t`'s output: its query against the state after its own update. -/
def out [Fintype A] (q k g : ℕ → A → ℝ) (v : ℕ → B → ℝ) (S0 : A → B → ℝ) (t : ℕ) (b : B) : ℝ :=
  ∑ a, q t a * state k g v S0 (t + 1) a b

/-- The sum of the first `n` log decays from token `t0` on. -/
def cum (g : ℕ → A → ℝ) (t0 n : ℕ) (a : A) : ℝ := ∑ j ∈ range n, g (t0 + j) a

/-- The weight token `t0 + j`'s value has in token `t0 + i`'s output, zero for a later token. -/
def score [Fintype A] (q k g : ℕ → A → ℝ) (t0 i j : ℕ) : ℝ :=
  if j ≤ i then ∑ a, q (t0 + i) a * k (t0 + j) a * Real.exp (cum g t0 (i + 1) a - cum g t0 (j + 1) a) else 0

theorem cum_zero (g : ℕ → A → ℝ) (t0 : ℕ) (a : A) : cum g t0 0 a = 0 := by simp [cum]

theorem cum_succ (g : ℕ → A → ℝ) (t0 n : ℕ) (a : A) : cum g t0 (n + 1) a = cum g t0 n a + g (t0 + n) a := by
  simp [cum, sum_range_succ]

/-- The state `n` tokens on: what was there decayed by all `n`, and each token's outer product decayed by those after
    it. -/
theorem state_add (k g : ℕ → A → ℝ) (v : ℕ → B → ℝ) (S0 : A → B → ℝ) (t0 n : ℕ) (a : A) (b : B) :
    state k g v S0 (t0 + n) a b = Real.exp (cum g t0 n a) * state k g v S0 t0 a b
      + ∑ j ∈ range n, (k (t0 + j) a * Real.exp (cum g t0 n a - cum g t0 (j + 1) a)) * v (t0 + j) b := by
  induction n with
  | zero => simp [cum_zero]
  | succ n ih =>
    rw [← Nat.add_assoc, state_succ, ih, sum_range_succ, mul_add, mul_sum, cum_succ, sub_self, Real.exp_zero, mul_one,
      ← add_assoc]
    congr 2
    · rw [add_comm (cum g t0 n a), Real.exp_add]; ring
    · refine sum_congr rfl fun j _ => ?_
      rw [show cum g t0 n a + g (t0 + n) a - cum g t0 (j + 1) a = g (t0 + n) a + (cum g t0 n a - cum g t0 (j + 1) a) by ring,
        Real.exp_add]
      ring

/-- A chunk's state: `C` tokens on, the sum over the chunk's positions. -/
theorem state_chunk (k g : ℕ → A → ℝ) (v : ℕ → B → ℝ) (S0 : A → B → ℝ) (t0 C : ℕ) (a : A) (b : B) :
    state k g v S0 (t0 + C) a b = Real.exp (cum g t0 C a) * state k g v S0 t0 a b
      + ∑ j : Fin C, (k (t0 + j) a * Real.exp (cum g t0 C a - cum g t0 (j + 1) a)) * v (t0 + j) b := by
  rw [state_add, Fin.sum_univ_eq_sum_range
    (fun j => (k (t0 + j) a * Real.exp (cum g t0 C a - cum g t0 (j + 1) a)) * v (t0 + j) b) C]

/-- A chunk's outputs: the scores against the chunk's values, and the decayed query against the state the chunk found. -/
theorem out_chunk [Fintype A] (q k g : ℕ → A → ℝ) (v : ℕ → B → ℝ) (S0 : A → B → ℝ) (t0 C i : ℕ) (hi : i < C) (b : B) :
    out q k g v S0 (t0 + i) b = (∑ j : Fin C, score q k g t0 i j * v (t0 + j) b)
      + ∑ a, (q (t0 + i) a * Real.exp (cum g t0 (i + 1) a)) * state k g v S0 t0 a b := by
  have e : ∑ j : Fin C, score q k g t0 i j * v (t0 + j) b = ∑ j ∈ range (i + 1), score q k g t0 i j * v (t0 + j) b := by
    rw [Fin.sum_univ_eq_sum_range (fun j => score q k g t0 i j * v (t0 + j) b) C]
    refine (sum_subset (fun j hj => ?_) fun j _ hj => ?_).symm
    · simp only [mem_range] at hj ⊢; omega
    · have : ¬ j ≤ i := by simp only [mem_range] at hj; omega
      simp [score, this]
  rw [e, out]
  simp only [Nat.add_assoc, state_add k g v S0 t0 (i + 1), mul_add, sum_add_distrib]
  rw [add_comm]
  congr 1
  · simp only [mul_sum]
    rw [sum_comm]
    refine sum_congr rfl fun j hj => ?_
    have : j ≤ i := by simp only [mem_range] at hj; omega
    rw [score, if_pos this, sum_mul]
    exact sum_congr rfl fun a _ => by ring
  · exact sum_congr rfl fun a _ => by ring

end Gla

end
-- ==== Proof.Running.lean ====
/-
  The reference's running sum along a chunk: a window of the chunk's length, padded in front, whose entry for a row adds
  the rows up to it.
-/
module

public import proofs.«01_k».proof.Proof.Gen.ReferenceIdeal.Run
public import proofs.«01_k».proof.Proof.Recur
public import Idealize.ShloMosaic.Lib.Pointwise
public import Idealize.ShloMosaic.Lib.IdealHost

@[expose] public section

noncomputable section

namespace Gla

open Idealize.ShloMosaic Cert.ReferenceIdeal

/-- A left fold of sums is the first term and the sum of the rest. -/
theorem fold_add {α : Type} (l : List α) (g : α → EReal) (v : EReal) : l.foldl (fun r k => r + g k) v = v + (l.map g).sum := by
  induction l generalizing v with
  | nil => simp
  | cons a l ih => rw [List.foldl_cons, ih, List.map_cons, List.sum_cons, add_assoc]

/-- The last `i + 1` of 64 places are the first `i + 1` numbers. -/
theorem tail_sum (f : ℕ → ℝ) (i : Fin 64) :
    ∑ k : Fin 64, (if 63 ≤ i.val + k.val then f (i.val + k.val - 63) else 0) = ∑ j ∈ Finset.range (i.val + 1), f j := by
  rw [Fin.sum_univ_eq_sum_range (fun k => if 63 ≤ i.val + k then f (i.val + k - 63) else 0) 64]
  have e : 64 = (63 - i.val) + (i.val + 1) := by omega
  rw [show Finset.range 64 = Finset.range ((63 - i.val) + (i.val + 1)) from congrArg _ e, Finset.sum_range_add]
  have z : ∑ k ∈ Finset.range (63 - i.val), (if 63 ≤ i.val + k then f (i.val + k - 63) else 0) = 0 := by
    apply Finset.sum_eq_zero
    intro k hk
    rw [Finset.mem_range] at hk
    rw [if_neg (by omega)]
  rw [z, zero_add]
  apply Finset.sum_congr rfl
  intro k _
  rw [if_pos (by omega)]
  congr 1
  omega

/-- The running sum at a row of real numbers. -/
theorem running (x : FVec Ideal S1x4x64x256 .f32) (init : FVec Ideal S_ .f32) (hu : 0 < S_.numel) (h0 : init (Shape.Idx.first hu) = 0)
    (h : S1x4x64x256.ReduceWindows ![1, 1, 64, 1] ![1, 1, 1, 1] ![0, 0, 63, 0] ![0, 0, 0, 0] S1x4x64x256)
    (d : Fin 4) (a : Fin 256) (f : ℕ → ℝ) (hx : ∀ j : Fin 64, x (ix4 0 d j a) = ((f j : ℝ) : EReal)) (i : Fin 64) :
    Host.reduceWindowAdd ![1, 1, 64, 1] ![1, 1, 1, 1] ![0, 0, 63, 0] ![0, 0, 0, 0] x init h hu (ix4 0 d i a)
      = ((∑ j ∈ Finset.range (i.val + 1), f j : ℝ) : EReal) := by
  show Host.reduceWindow (· + ·) ![1, 1, 64, 1] ![1, 1, 1, 1] ![0, 0, 63, 0] ![0, 0, 0, 0] x
    (fun _ : (⟨0, ![]⟩ : Shape).Idx => init (Shape.Idx.first hu)) h hu (ix4 0 d i a) = _
  unfold Host.reduceWindow
  dsimp only
  rw [fold_add, h0, zero_add, ← Fin.sum_univ_def]
  refine (Equiv.sum_comp (Shape.rowMajor ⟨4, ![1, 1, 64, 1]⟩) _).symm.trans ?_
  simp only [Equiv.symm_apply_apply]
  refine (sum_idx4 _).trans ?_
  rw [Fin.sum_univ_one, Fin.sum_univ_one, ← tail_sum]
  rw [coe_sum]
  apply Finset.sum_congr rfl
  intro k _
  rw [Fin.sum_univ_one]
  split
  · next hin =>
    have h2 := hin 2
    change 63 ≤ i.val * 1 + k.val ∧ i.val * 1 + k.val - 63 < 64 at h2
    rw [if_pos (by omega)]
    have e := hx ⟨i.val + k.val - 63, by omega⟩
    rw [← e]
    refine congrArg x (funext fun b => Fin.ext ?_)
    match b with
    | ⟨0, _⟩ => rfl
    | ⟨1, _⟩ => show d.val * 1 + 0 - 0 = d.val; omega
    | ⟨2, _⟩ => show i.val * 1 + k.val - 63 = i.val + k.val - 63; omega
    | ⟨3, _⟩ => show a.val * 1 + 0 - 0 = a.val; omega
  · next hin =>
    rw [if_neg, EReal.coe_zero]
    intro hc
    apply hin
    intro b
    have hi := i.isLt
    have hk := k.isLt
    have hd := d.isLt
    have ha := a.isLt
    match b with
    | ⟨0, _⟩ => exact ⟨Nat.zero_le _, Nat.zero_lt_one⟩
    | ⟨1, _⟩ => show 0 ≤ d.val * 1 + 0 ∧ d.val * 1 + 0 - 0 < 4; omega
    | ⟨2, _⟩ => show 63 ≤ i.val * 1 + k.val ∧ i.val * 1 + k.val - 63 < 64; omega
    | ⟨3, _⟩ => show 0 ≤ a.val * 1 + 0 ∧ a.val * 1 + 0 - 0 < 256; omega

end Gla

end
-- ==== Proof.Trip.lean ====
/-
  One trip of the reference's loop: what it finds, a chunk of 64 tokens of every head, and what it leaves, the state after
  them and their outputs.
-/
module

public import proofs.«01_k».proof.Proof.Running

@[expose] public section

noncomputable section

namespace Gla

open Idealize.ShloMosaic Idealize.ShloMosaic.TcCoe Cert.ReferenceIdeal Cert.ReferenceIdeal.Gen Cert.ReferenceIdeal.Value

set_option maxRecDepth 16384

variable (q k g : ℕ → ℕ → Fin 256 → ℝ) (v : ℕ → ℕ → Fin 512 → ℝ) (S : ℕ → Fin 256 → Fin 512 → ℝ)

/-- What the loop holds after `n` trips: the real sequences of every head in chunks, the state `64 * n` tokens on, and the
    outputs of the tokens so far. -/
structure Held (V : Valuation τ sig (Elt Ideal)) (n : ℕ) : Prop where
  count : V (Proc.devRef .tc main_v28_4) = fun _ => BitVec.ofNat 32 n
  at_q : ∀ (s : Fin 128) (h : Fin 4) (i : Fin 64) (a : Fin 256),
    (V (Proc.devRef .tc main_v28_0) : FVec Ideal S128x1x4x64x256 .f32) (ix5 s 0 h i a) = ((q h (64 * s + i) a : ℝ) : EReal)
  at_k : ∀ (s : Fin 128) (h : Fin 4) (i : Fin 64) (a : Fin 256),
    (V (Proc.devRef .tc main_v28_1) : FVec Ideal S128x1x4x64x256 .f32) (ix5 s 0 h i a) = ((k h (64 * s + i) a : ℝ) : EReal)
  at_v : ∀ (s : Fin 128) (h : Fin 4) (i : Fin 64) (b : Fin 512),
    (V (Proc.devRef .tc main_v28_2) : FVec Ideal S128x1x4x64x512 .f32) (ix5 s 0 h i b) = ((v h (64 * s + i) b : ℝ) : EReal)
  at_g : ∀ (s : Fin 128) (h : Fin 4) (i : Fin 64) (a : Fin 256),
    (V (Proc.devRef .tc main_v28_3) : FVec Ideal S128x1x4x64x256 .f32) (ix5 s 0 h i a) = ((g h (64 * s + i) a : ℝ) : EReal)
  at_state : ∀ (h : Fin 4) (a : Fin 256) (b : Fin 512),
    (V (Proc.devRef .tc main_v28_5) : FVec Ideal S1x4x256x512 .f32) (ix4 0 h a b)
      = ((state (k h) (g h) (v h) (S h) (64 * n) a b : ℝ) : EReal)
  at_out : ∀ (s : Fin 128) (h : Fin 4) (i : Fin 64) (b : Fin 512), s.val < n →
    (V (Proc.devRef .tc main_v28_6) : FVec Ideal S128x1x4x64x512 .f32) (ix5 s 0 h i b)
      = ((out (q h) (k h) (g h) (v h) (S h) (64 * s + i) b : ℝ) : EReal)

variable {q k g v S} {V : Valuation τ sig (Elt Ideal)} {n : ℕ}

/-- The counter's word, read as a chunk's place. -/
theorem place (hn : n < 128) : (BitVec.ofNat 32 n).toInt = n := by
  have e : (BitVec.ofNat 32 n).toNat = n := by
    rw [BitVec.toNat_ofNat]
    omega
  rw [BitVec.toInt_eq_toNat_of_lt (by rw [e]; omega), e]

/-- The chunk a trip takes of an array of keys, queries or log decays. -/
theorem chunk_rows (X : FVec Ideal S128x1x4x64x256 .f32) (hn : n < 128) (h : Fin 4) (i : Fin 64) (a : Fin 256) :
    shapeCast S1x4x64x256 (Host.dynamicSlice S1x1x4x64x256 X (fun k => (((![fun _ => BitVec.ofNat 32 n, constantI S_ 32 0#32,
      constantI S_ 32 0#32, constantI S_ 32 0#32, constantI S_ 32 0#32] : Fin 5 → (⟨S_, .i32⟩ : BufTy).Contents (Elt Ideal))) k
      (Shape.Idx.first h_S_)).toInt) sliceFits_S128x1x4x64x256_S1x1x4x64x256) shapeCasts_S1x1x4x64x256_S1x4x64x256 (ix4 0 h i a)
      = X (ix5 ⟨n, hn⟩ 0 h i a) := by
  have p := place hn
  pointwise []
  refine congrArg X (funext fun b => Fin.ext ?_)
  match b with
  | ⟨0, _⟩ => show (min (max (BitVec.ofNat 32 n).toInt 0) ((127 : ℕ) : Int)).toNat = n; omega
  | ⟨1, _⟩ => show (min (max (0#32).toInt 0) ((0 : ℕ) : Int)).toNat = 0; rfl
  | ⟨2, _⟩ => show (min (max (0#32).toInt 0) ((0 : ℕ) : Int)).toNat + h.val = h.val; exact Nat.zero_add _
  | ⟨3, _⟩ => show (min (max (0#32).toInt 0) ((0 : ℕ) : Int)).toNat + i.val = i.val; exact Nat.zero_add _
  | ⟨4, _⟩ => show (min (max (0#32).toInt 0) ((0 : ℕ) : Int)).toNat + a.val = a.val; exact Nat.zero_add _

/-- The chunk a trip takes of an array of values. -/
theorem chunk_values (X : FVec Ideal S128x1x4x64x512 .f32) (hn : n < 128) (h : Fin 4) (i : Fin 64) (a : Fin 512) :
    shapeCast S1x4x64x512 (Host.dynamicSlice S1x1x4x64x512 X (fun k => (((![fun _ => BitVec.ofNat 32 n, constantI S_ 32 0#32,
      constantI S_ 32 0#32, constantI S_ 32 0#32, constantI S_ 32 0#32] : Fin 5 → (⟨S_, .i32⟩ : BufTy).Contents (Elt Ideal))) k
      (Shape.Idx.first h_S_)).toInt) sliceFits_S128x1x4x64x512_S1x1x4x64x512) shapeCasts_S1x1x4x64x512_S1x4x64x512 (ix4 0 h i a)
      = X (ix5 ⟨n, hn⟩ 0 h i a) := by
  have p := place hn
  pointwise []
  refine congrArg X (funext fun b => Fin.ext ?_)
  match b with
  | ⟨0, _⟩ => show (min (max (BitVec.ofNat 32 n).toInt 0) ((127 : ℕ) : Int)).toNat = n; omega
  | ⟨1, _⟩ => show (min (max (0#32).toInt 0) ((0 : ℕ) : Int)).toNat = 0; rfl
  | ⟨2, _⟩ => show (min (max (0#32).toInt 0) ((0 : ℕ) : Int)).toNat + h.val = h.val; exact Nat.zero_add _
  | ⟨3, _⟩ => show (min (max (0#32).toInt 0) ((0 : ℕ) : Int)).toNat + i.val = i.val; exact Nat.zero_add _
  | ⟨4, _⟩ => show (min (max (0#32).toInt 0) ((0 : ℕ) : Int)).toNat + a.val = a.val; exact Nat.zero_add _

/-- The trip's queries, keys, values. -/
theorem trip_q (H : Held q k g v S V n) (hn : n < 128) (h : Fin 4) (i : Fin 64) (a : Fin 256) :
    (res_main_while0b_v60 V : FVec Ideal S1x4x64x256 .f32) (ix4 0 h i a) = ((q h (64 * n + i) a : ℝ) : EReal) := by
  unfold res_main_while0b_v60
  rw [H.count]
  exact (chunk_rows _ hn h i a).trans (H.at_q ⟨n, hn⟩ h i a)

theorem trip_k (H : Held q k g v S V n) (hn : n < 128) (h : Fin 4) (i : Fin 64) (a : Fin 256) :
    (res_main_while0b_v61 V : FVec Ideal S1x4x64x256 .f32) (ix4 0 h i a) = ((k h (64 * n + i) a : ℝ) : EReal) := by
  unfold res_main_while0b_v61
  rw [H.count]
  exact (chunk_rows _ hn h i a).trans (H.at_k ⟨n, hn⟩ h i a)

theorem trip_v (H : Held q k g v S V n) (hn : n < 128) (h : Fin 4) (i : Fin 64) (b : Fin 512) :
    (res_main_while0b_v62 V : FVec Ideal S1x4x64x512 .f32) (ix4 0 h i b) = ((v h (64 * n + i) b : ℝ) : EReal) := by
  unfold res_main_while0b_v62
  rw [H.count]
  exact (chunk_values _ hn h i b).trans (H.at_v ⟨n, hn⟩ h i b)

/-- Its log decays, summed up to and with the row. -/
theorem trip_b (H : Held q k g v S V n) (hn : n < 128) (h : Fin 4) (i : Fin 64) (a : Fin 256) :
    (res_main_while0b_v64 V : FVec Ideal S1x4x64x256 .f32) (ix4 0 h i a) = ((cum (g h) (64 * n) (i + 1) a : ℝ) : EReal) := by
  unfold res_main_while0b_v64
  rw [H.count]
  refine running _ _ _ ?_ _ h a (fun j => g h (64 * n + j) a) (fun j => ?_) i
  · pointwise [Ideal.ofBits_zero_f32]
  · exact (chunk_rows _ hn h j a).trans (H.at_g ⟨n, hn⟩ h j a)

/-- Those of the whole chunk. -/
theorem trip_last (H : Held q k g v S V n) (hn : n < 128) (h : Fin 4) (a : Fin 256) :
    (res_main_while0b_v87 V : FVec Ideal S1x4x1x256 .f32) (ix4 0 h 0 a) = ((cum (g h) (64 * n) 64 a : ℝ) : EReal) := by
  refine Eq.trans ?_ (trip_b H hn h 63 a)
  unfold res_main_while0b_v87
  generalize (res_main_while0b_v64 V : FVec Ideal S1x4x64x256 .f32) = B
  pointwise []

/-- The state a trip leaves, entry by entry. -/
theorem next_state (L : FVec Ideal S1x4x1x256 .f32) (B K : FVec Ideal S1x4x64x256 .f32) (Z : FVec Ideal S1x4x64x512 .f32)
    (T : FVec Ideal S1x4x256x512 .f32) (h : Fin 4) (a : Fin 256) (b : Fin 512) :
    addf (mulf (broadcastInDim S1x4x256x512 ![0, 1, 2, 3] bcast_S1x4x256x1_S1x4x256x512_0_1_2_3 (broadcastInDim S1x4x256x1 ![0, 1, 2]
      bcast_S1x4x256_S1x4x256x1_0_1_2 (Host.exp (shapeCast S1x4x256 L shapeCasts_S1x4x1x256_S1x4x256)))) T)
      (Host.dotGeneral dot_S1x4x64x256_S1x4x64x512_S1x4x256x512_2_2_3_3_01_01 none (mulf K (Host.exp (subf (broadcastInDim S1x4x64x256
        ![0, 1, 2, 3] bcast_S1x4x1x256_S1x4x64x256_0_1_2_3 L) B))) Z) (ix4 0 h a b)
      = Ideal.exp (L (ix4 0 h 0 a)) * T (ix4 0 h a b)
        + ∑ j : Fin 64, (K (ix4 0 h j a) * Ideal.exp (L (ix4 0 h 0 a) - B (ix4 0 h j a))) * Z (ix4 0 h j b) := by
  pointwise []

/-- The scores of a trip, entry by entry. -/
theorem trip_scores (Q K B : FVec Ideal S1x4x64x256 .f32) (h : Fin 4) (i j : Fin 64) :
    (Host.reduceAdd (mulf (mulf (broadcastInDim S1x4x64x64x256 ![0, 1, 2, 3, 4] bcast_S1x4x64x1x256_S1x4x64x64x256_0_1_2_3_4 (broadcastInDim S1x4x64x1x256 ![0, 1, 2, 4] bcast_S1x4x64x256_S1x4x64x1x256_0_1_2_4 Q)) (broadcastInDim S1x4x64x64x256 ![0, 1, 2, 3, 4] bcast_S1x4x1x64x256_S1x4x64x64x256_0_1_2_3_4 (broadcastInDim S1x4x1x64x256 ![0, 1, 3, 4] bcast_S1x4x64x256_S1x4x1x64x256_0_1_3_4 K))) (Host.exp (select (broadcastInDim S1x4x64x64x256 ![0, 1, 2, 3, 4] bcast_S1x1x64x64x1_S1x4x64x64x256_0_1_2_3_4 (broadcastInDim S1x1x64x64x1 ![2, 3] bcast_S64x64_S1x1x64x64x1_2_3 (select (cmpi .sge (addi (iotaInDim S64x64 32 0) (broadcastInDim S64x64 ![] bcast_S_S64x64 (constantI S_ 32 0#32))) (iotaInDim S64x64 32 1)) (broadcastInDim S64x64 ![] bcast_S_S64x64 (constantI S_ 1 1#1)) (broadcastInDim S64x64 ![] bcast_S_S64x64 (constantI S_ 1 0#1))))) (subf (broadcastInDim S1x4x64x64x256 ![0, 1, 2, 3, 4] bcast_S1x4x64x1x256_S1x4x64x64x256_0_1_2_3_4 (broadcastInDim S1x4x64x1x256 ![0, 1, 2, 4] bcast_S1x4x64x256_S1x4x64x1x256_0_1_2_4 B)) (broadcastInDim S1x4x64x64x256 ![0, 1, 2, 3, 4] bcast_S1x4x1x64x256_S1x4x64x64x256_0_1_2_3_4 (broadcastInDim S1x4x1x64x256 ![0, 1, 3, 4] bcast_S1x4x64x256_S1x4x1x64x256_0_1_3_4 B))) (broadcastInDim S1x4x64x64x256 ![] bcast_S_S1x4x64x64x256 (id (constant S_ .f32 0xFF800000#32)))))) (constant S_ .f32 0x00000000#32) reducesTo_S1x4x64x64x256_S1x4x64x64_d4 h_S_ : FVec Ideal S1x4x64x64 .f32) (ix4 0 h i j)
      = if j.val ≤ i.val then ∑ a, Q (ix4 0 h i a) * K (ix4 0 h j a) * Ideal.exp (B (ix4 0 h i a) - B (ix4 0 h j a)) else 0 := by
  have mask : ∀ i j : Fin 64, IntOp.cmpi .sge (IntOp.addi (BitVec.ofNat 32 i) 0#32) (BitVec.ofNat 32 j)
      = if j.val ≤ i.val then 1#1 else 0#1 := by decide +kernel
  have low : (constant S_ .f32 0xFF800000#32 : FVec Ideal S_ .f32) ix0 = ⊥ := by
    pointwise []
    simp [Ideal.ofBits, Ideal.ieee]
  pointwise []
  rw [mask i j]
  show ∑ x, Q (ix4 0 h i x) * K (ix4 0 h j x) * Ideal.exp (Scalar.select (Scalar.select (if j.val ≤ i.val then 1#1 else 0#1) 1#1 0#1)
    (B (ix4 0 h i x) - B (ix4 0 h j x)) ((constant S_ .f32 0xFF800000#32 : FVec Ideal S_ .f32) ix0)) = _
  rw [low]
  by_cases hc : j.val ≤ i.val
  · rw [if_pos hc, if_pos hc]
    rfl
  · rw [if_neg hc, if_neg hc]
    apply Finset.sum_eq_zero
    intro x _
    show Q (ix4 0 h i x) * K (ix4 0 h j x) * Ideal.exp ⊥ = 0
    rw [Ideal.exp_bot, mul_zero]

/-- The outputs of a trip, entry by entry. -/
theorem next_out (A : FVec Ideal S1x4x64x64 .f32) (Q B : FVec Ideal S1x4x64x256 .f32) (Z : FVec Ideal S1x4x64x512 .f32)
    (T : FVec Ideal S1x4x256x512 .f32) (h : Fin 4) (i : Fin 64) (b : Fin 512) :
    broadcastInDim S1x1x4x64x512 ![1, 2, 3, 4] bcast_S1x4x64x512_S1x1x4x64x512_1_2_3_4
      (addf (Host.dotGeneral dot_S1x4x64x64_S1x4x64x512_S1x4x64x512_3_2_2_3_01_01 none A Z)
        (Host.dotGeneral dot_S1x4x64x256_S1x4x256x512_S1x4x64x512_3_2_2_3_01_01 none (mulf Q (Host.exp B)) T)) (ix5 0 0 h i b)
      = ∑ j : Fin 64, A (ix4 0 h i j) * Z (ix4 0 h j b)
        + ∑ a : Fin 256, (Q (ix4 0 h i a) * Ideal.exp (B (ix4 0 h i a))) * T (ix4 0 h a b) := by
  pointwise []

/-- The array of outputs with a chunk put in. -/
theorem put_chunk (O : FVec Ideal S128x1x4x64x512 .f32) (U : FVec Ideal S1x1x4x64x512 .f32) (hn : n < 128) (s : Fin 128) (h : Fin 4)
    (i : Fin 64) (b : Fin 512) :
    Host.dynamicUpdateSlice O U (fun k => (((![fun _ => BitVec.ofNat 32 n, constantI S_ 32 0#32,
      constantI S_ 32 0#32, constantI S_ 32 0#32, constantI S_ 32 0#32] : Fin 5 → (⟨S_, .i32⟩ : BufTy).Contents (Elt Ideal))) k
      (Shape.Idx.first h_S_)).toInt) updateFits_S128x1x4x64x512_S1x1x4x64x512 (ix5 s 0 h i b)
      = if s.val = n then U (ix5 0 0 h i b) else O (ix5 s 0 h i b) := by
  have p := place hn
  have c0 : Host.clampedStart S128x1x4x64x512 S1x1x4x64x512 rfl (fun k => (((![fun _ => BitVec.ofNat 32 n, constantI S_ 32 0#32,
      constantI S_ 32 0#32, constantI S_ 32 0#32, constantI S_ 32 0#32] : Fin 5 → (⟨S_, .i32⟩ : BufTy).Contents (Elt Ideal))) k
      (Shape.Idx.first h_S_)).toInt) = ![n, 0, 0, 0, 0] := by
    funext k
    match k with
    | ⟨0, _⟩ => show (min (max (BitVec.ofNat 32 n).toInt 0) ((127 : ℕ) : Int)).toNat = n; omega
    | ⟨1, _⟩ => rfl
    | ⟨2, _⟩ => rfl
    | ⟨3, _⟩ => rfl
    | ⟨4, _⟩ => rfl
  rw [Host.dynamicUpdateSlice_apply]
  simp only [c0]
  have hi := i.isLt
  have hh := h.isLt
  have hb := b.isLt
  by_cases hs : s.val = n
  · rw [if_pos hs, dif_pos]
    · refine congrArg U (funext fun k => Fin.ext ?_)
      match k with
      | ⟨0, _⟩ => show s.val - n = 0; omega
      | ⟨1, _⟩ => rfl
      | ⟨2, _⟩ => rfl
      | ⟨3, _⟩ => rfl
      | ⟨4, _⟩ => rfl
    · intro k
      match k with
      | ⟨0, _⟩ => show n ≤ s.val ∧ s.val < n + 1; omega
      | ⟨1, _⟩ => show 0 ≤ 0 ∧ 0 < 0 + 1; omega
      | ⟨2, _⟩ => show 0 ≤ h.val ∧ h.val < 0 + 4; omega
      | ⟨3, _⟩ => show 0 ≤ i.val ∧ i.val < 0 + 64; omega
      | ⟨4, _⟩ => show 0 ≤ b.val ∧ b.val < 0 + 512; omega
  · rw [if_neg hs, dif_neg]
    intro hc
    have h0 := hc 0
    change n ≤ s.val ∧ s.val < n + 1 at h0
    omega

/-- One trip. -/
theorem trip (H : Held q k g v S V n) (hn : n < 128) : Held q k g v S (STEP V) (n + 1) := by
  refine ⟨?_, ?_, ?_, ?_, ?_, ?_, ?_⟩
  · rw [STEP_main_v28_4]
    unfold step_main_v28_4
    rw [H.count]
    funext x
    show BitVec.ofNat 32 n + 1#32 = BitVec.ofNat 32 (n + 1)
    exact (BitVec.ofNat_add n 1).symm
  · rw [STEP_main_v28_0]
    exact H.at_q
  · rw [STEP_main_v28_1]
    exact H.at_k
  · rw [STEP_main_v28_2]
    exact H.at_v
  · rw [STEP_main_v28_3]
    exact H.at_g
  · intro h a b
    rw [STEP_main_v28_5]
    unfold step_main_v28_5
    refine (next_state _ _ _ _ _ h a b).trans ?_
    rw [trip_last H hn h a, H.at_state h a b, Ideal.exp_coe, show 64 * (n + 1) = 64 * n + 64 from rfl, state_chunk, EReal.coe_add,
      EReal.coe_mul, coe_sum]
    congr 1
    apply Finset.sum_congr rfl
    intro j _
    rw [trip_k H hn h j a, trip_b H hn h j a, trip_v H hn h j b, ← EReal.coe_sub, Ideal.exp_coe, ← EReal.coe_mul, ← EReal.coe_mul]
  · intro s h i b hs
    rw [STEP_main_v28_6]
    unfold step_main_v28_6
    rw [H.count]
    refine (put_chunk _ _ hn s h i b).trans ?_
    by_cases e : s.val = n
    · rw [if_pos e, e]
      refine (next_out _ _ _ _ _ h i b).trans ?_
      rw [out_chunk (q h) (k h) (g h) (v h) (S h) (64 * n) 64 i i.isLt b, EReal.coe_add, coe_sum, coe_sum]
      congr 1
      · apply Finset.sum_congr rfl
        intro j _
        rw [trip_v H hn h j b, EReal.coe_mul]
        congr 1
        refine (trip_scores _ _ _ h i j).trans ?_
        unfold score
        by_cases hc : j.val ≤ i.val
        · rw [if_pos hc, if_pos hc, coe_sum]
          apply Finset.sum_congr rfl
          intro a _
          rw [trip_q H hn h i a, trip_k H hn h j a, trip_b H hn h i a, trip_b H hn h j a, ← EReal.coe_sub, Ideal.exp_coe,
            ← EReal.coe_mul, ← EReal.coe_mul]
        · rw [if_neg hc, if_neg hc, EReal.coe_zero]
      · apply Finset.sum_congr rfl
        intro a _
        rw [trip_q H hn h i a, trip_b H hn h i a, H.at_state h a b, Ideal.exp_coe, ← EReal.coe_mul, ← EReal.coe_mul]
    · rw [if_neg e]
      exact H.at_out s h i b (by omega)

/-- Any number of trips. -/
theorem trips (H : Held q k g v S V 0) (n : ℕ) (hn : n ≤ 128) : Held q k g v S (STEP^[n] V) n := by
  induction n with
  | zero => exact H
  | succ n ih =>
    rw [Function.iterate_succ_apply']
    exact trip (ih (by omega)) (by omega)

end Gla

end
-- ==== Proof.Tokens.lean ====
/-
  The real sequences of one head: its queries, keys, values, gates and log decays, token by token, from the rows of the
  activations and the columns of the input projection; and how the recurrence restarts at a later token.
-/
module

public import proofs.«01_k».proof.Proof.Recur
public import Idealize.ShloMosaic.Lib.Pointwise
public import Idealize.ShloMosaic.Lib.IdealHost

@[expose] public section

noncomputable section

namespace Gla

open Idealize.ShloMosaic

variable (X : ℕ → Fin 2048 → ℝ) (W : ℕ → Fin 2048 → ℝ) (G : ℕ → ℕ → ℝ)

/-- Token `t`'s product with column `j` of the input projection. -/
def prod (t j : ℕ) : ℝ := ∑ d, X t d * W j d

/-- Head `h`'s scaled query of token `t`. -/
def qh (h t : ℕ) (a : Fin 256) : ℝ := prod X W t (256 * h + a) * (1 / 16)

/-- Its key. -/
def kh (h t : ℕ) (a : Fin 256) : ℝ := prod X W t (1024 + 256 * h + a)

/-- Its value. -/
def vh (h t : ℕ) (b : Fin 512) : ℝ := prod X W t (2048 + 512 * h + b)

/-- Its gate. -/
def rh (h t : ℕ) (b : Fin 512) : ℝ := prod X W t (4096 + 512 * h + b)

/-- Its log decay. -/
def gh (h t : ℕ) (a : Fin 256) : ℝ := G t (256 * h + a)

/-- The query scale is one sixteenth. -/
theorem sixteenth : Ideal.ofBits .f32 0x3D800000#32 = (((1 : ℝ) / 16 : ℝ) : EReal) := by
  simp [Ideal.ofBits, Ideal.ieee, -EReal.coe_mul]
  norm_num

variable {A B : Type}

/-- The recurrence restarted at token `t0` from the state there is the recurrence. -/
theorem state_shift (k g : ℕ → A → ℝ) (v : ℕ → B → ℝ) (S0 : A → B → ℝ) (t0 n : ℕ) :
    state (fun i => k (t0 + i)) (fun i => g (t0 + i)) (fun i => v (t0 + i)) (state k g v S0 t0) n = state k g v S0 (t0 + n) := by
  induction n with
  | zero => rfl
  | succ n ih =>
    funext a b
    rw [state_succ, ih, ← Nat.add_assoc, state_succ]

/-- So are its outputs. -/
theorem out_shift [Fintype A] (q k g : ℕ → A → ℝ) (v : ℕ → B → ℝ) (S0 : A → B → ℝ) (t0 n : ℕ) :
    out (fun i => q (t0 + i)) (fun i => k (t0 + i)) (fun i => g (t0 + i)) (fun i => v (t0 + i)) (state k g v S0 t0) n
      = out q k g v S0 (t0 + n) := by
  funext b
  unfold out
  rw [state_shift, Nat.add_assoc]

end Gla

end
-- ==== Proof.Entry.lean ====
/-
  What the reference's loop finds: the queries, keys, values and log decays of every head in chunks of 64 tokens, the given
  state, and no outputs yet.
-/
module

public import proofs.«01_k».proof.Proof.Trip
public import proofs.«01_k».proof.Proof.Tokens

@[expose] public section

noncomputable section

namespace Gla

open Idealize.ShloMosaic Idealize.ShloMosaic.TcCoe Cert.ReferenceIdeal Cert.ReferenceIdeal.Gen Cert.ReferenceIdeal.Value
open Idealize.ShloMosaic.Tactic Idealize.ShloMosaic.StableHlo

set_option maxRecDepth 16384

variable (m : (ℓ : Loc nD τ sig) → Buf (Elt Ideal) ℓ) (c : Dev nD)

/-- The reference's arguments. -/
abbrev refX : FVec Ideal S1x8192x2048 .f32 := m ((c.tc : Thread nD τ).loc main_arg0)
abbrev refG : FVec Ideal S1x8192x1024 .f32 := m ((c.tc : Thread nD τ).loc main_arg1)
abbrev refS : FVec Ideal S1x4x256x512 .f32 := m ((c.tc : Thread nD τ).loc main_arg2)
abbrev refW : FVec Ideal S1x2048x16400 .f32 := m ((c.tc : Thread nD τ).loc main_arg3)
abbrev refN : FVec Ideal S1x2048 .f32 := m ((c.tc : Thread nD τ).loc main_arg4)
abbrev refO : FVec Ideal S1x2048x2048 .f32 := m ((c.tc : Thread nD τ).loc main_arg5)

/-- The rows of an array of 1024 columns, by head and in chunks. -/
def headRows (x : FVec Ideal S1x8192x1024 .f32) : FVec Ideal S128x1x4x64x256 .f32 :=
  transpose S128x1x4x64x256 [2, 0, 1, 3, 4] (shapeCast S1x4x128x64x256 (transpose S1x4x8192x256 [0, 2, 1, 3]
    (shapeCast S1x8192x4x256 x shapeCasts_S1x8192x1024_S1x8192x4x256) transposes_S1x8192x4x256_S1x4x8192x256_0_2_1_3)
    shapeCasts_S1x4x8192x256_S1x4x128x64x256) transposes_S1x4x128x64x256_S128x1x4x64x256_2_0_1_3_4

theorem headRows_apply (x : FVec Ideal S1x8192x1024 .f32) (s : Fin 128) (h : Fin 4) (i : Fin 64) (a : Fin 256) :
    headRows x (ix5 s 0 h i a) = x (ix3 0 ⟨64 * s.val + i.val, by omega⟩ ⟨256 * h.val + a.val, by omega⟩) := by
  unfold headRows
  pointwise []
  exact congrArg x (congrArg₂ (ix3 0) (Fin.ext (by show s.val * 64 + i.val = 64 * s.val + i.val; omega)) (Fin.ext (by show h.val * 256 + a.val = 256 * h.val + a.val; omega)))

/-- The rows of an array of 2048 columns, by head and in chunks. -/
def headValues (x : FVec Ideal S1x8192x2048 .f32) : FVec Ideal S128x1x4x64x512 .f32 :=
  transpose S128x1x4x64x512 [2, 0, 1, 3, 4] (shapeCast S1x4x128x64x512 (transpose S1x4x8192x512 [0, 2, 1, 3]
    (shapeCast S1x8192x4x512 x shapeCasts_S1x8192x2048_S1x8192x4x512) transposes_S1x8192x4x512_S1x4x8192x512_0_2_1_3)
    shapeCasts_S1x4x8192x512_S1x4x128x64x512) transposes_S1x4x128x64x512_S128x1x4x64x512_2_0_1_3_4

theorem headValues_apply (x : FVec Ideal S1x8192x2048 .f32) (s : Fin 128) (h : Fin 4) (i : Fin 64) (a : Fin 512) :
    headValues x (ix5 s 0 h i a) = x (ix3 0 ⟨64 * s.val + i.val, by omega⟩ ⟨512 * h.val + a.val, by omega⟩) := by
  unfold headValues
  pointwise []
  exact congrArg x (congrArg₂ (ix3 0) (Fin.ext (by show s.val * 64 + i.val = 64 * s.val + i.val; omega)) (Fin.ext (by show h.val * 512 + a.val = 512 * h.val + a.val; omega)))

theorem entry_q : entryContents preI m c (Proc.devRef .tc main_v28_0) = headRows (mulf
    (Host.dotGeneral dot_S1x8192x2048_S2048x1024_S1x8192x1024_2_0_01_1_n_n none (refX m c) (shapeCast S2048x1024
      (extractStridedSlice S1x2048x1024 ![0, 0, 0] (refW m c) slices_S1x2048x16400_S1x2048x1024_0_0_0) shapeCasts_S1x2048x1024_S2048x1024))
    (broadcastInDim S1x8192x1024 ![] bcast_S_S1x8192x1024 (constant S_ .f32 0x3D800000#32))) := by
  simp only [entryContents, preI, afterL_cons, afterL_nil]
  after_reads_simp
  rfl

theorem entry_k : entryContents preI m c (Proc.devRef .tc main_v28_1) = headRows
    (Host.dotGeneral dot_S1x8192x2048_S2048x1024_S1x8192x1024_2_0_01_1_n_n none (refX m c) (shapeCast S2048x1024
      (extractStridedSlice S1x2048x1024 ![0, 0, 1024] (refW m c) slices_S1x2048x16400_S1x2048x1024_0_0_1024) shapeCasts_S1x2048x1024_S2048x1024)) := by
  simp only [entryContents, preI, afterL_cons, afterL_nil]
  after_reads_simp
  rfl

theorem entry_v : entryContents preI m c (Proc.devRef .tc main_v28_2) = headValues
    (Host.dotGeneral dot_S1x8192x2048_S2048x2048_S1x8192x2048_2_0_01_1_n_n none (refX m c) (shapeCast S2048x2048
      (extractStridedSlice S1x2048x2048 ![0, 0, 2048] (refW m c) slices_S1x2048x16400_S1x2048x2048_0_0_2048) shapeCasts_S1x2048x2048_S2048x2048)) := by
  simp only [entryContents, preI, afterL_cons, afterL_nil]
  after_reads_simp
  rfl

theorem entry_g : entryContents preI m c (Proc.devRef .tc main_v28_3) = headRows (refG m c) := by
  simp only [entryContents, preI, afterL_cons, afterL_nil]
  after_reads_simp
  rfl

theorem entry_s : entryContents preI m c (Proc.devRef .tc main_v28_5) = refS m c := by
  simp only [entryContents, preI, afterL_cons, afterL_nil]
  after_reads_simp
  rfl

theorem entry_count : entryContents preI m c (Proc.devRef .tc main_v28_4) = fun _ => 0#32 := by
  simp only [entryContents, preI, afterL_cons, afterL_nil]
  after_reads_simp
  rfl

/-- The reference's arguments are finite: they hold the real arrays `X`, `G`, `S` and (by column) `W`. -/
structure Given (X : ℕ → Fin 2048 → ℝ) (G : ℕ → ℕ → ℝ) (S : ℕ → Fin 256 → Fin 512 → ℝ) (W : ℕ → Fin 2048 → ℝ) : Prop where
  x : ∀ (r : Fin 8192) (d : Fin 2048), refX m c (ix3 0 r d) = ((X r d : ℝ) : EReal)
  g : ∀ (r : Fin 8192) (a : Fin 1024), refG m c (ix3 0 r a) = ((G r a : ℝ) : EReal)
  s : ∀ (h : Fin 4) (a : Fin 256) (b : Fin 512), refS m c (ix4 0 h a b) = ((S h a b : ℝ) : EReal)
  w : ∀ (d : Fin 2048) (j : Fin 16400), refW m c (ix3 0 d j) = ((W j d : ℝ) : EReal)

variable {m c} {X : ℕ → Fin 2048 → ℝ} {G : ℕ → ℕ → ℝ} {S : ℕ → Fin 256 → Fin 512 → ℝ} {W : ℕ → Fin 2048 → ℝ}

/-- A sum of products of a row and a column of the projection. -/
theorem product (H : Given m c X G S W) (r : Fin 8192) (j : Fin 16400) :
    ∑ d : Fin 2048, refX m c (ix3 0 r d) * refW m c (ix3 0 d j) = ((prod X W r j : ℝ) : EReal) := by
  unfold prod
  rw [coe_sum]
  apply Finset.sum_congr rfl
  intro d _
  rw [H.x, H.w, EReal.coe_mul]

theorem narrow_at (x : FVec Ideal S1x8192x2048 .f32) (w : FVec Ideal S1x2048x16400 .f32) (r : Fin 8192) (j : Fin 1024) :
    Host.dotGeneral dot_S1x8192x2048_S2048x1024_S1x8192x1024_2_0_01_1_n_n none x (shapeCast S2048x1024
      (extractStridedSlice S1x2048x1024 ![0, 0, 0] w slices_S1x2048x16400_S1x2048x1024_0_0_0) shapeCasts_S1x2048x1024_S2048x1024) (ix3 0 r j)
      = ∑ d : Fin 2048, x (ix3 0 r d) * w (ix3 0 d ⟨j.val, by omega⟩) := by
  pointwise []

theorem keys_at (x : FVec Ideal S1x8192x2048 .f32) (w : FVec Ideal S1x2048x16400 .f32) (r : Fin 8192) (j : Fin 1024) :
    Host.dotGeneral dot_S1x8192x2048_S2048x1024_S1x8192x1024_2_0_01_1_n_n none x (shapeCast S2048x1024
      (extractStridedSlice S1x2048x1024 ![0, 0, 1024] w slices_S1x2048x16400_S1x2048x1024_0_0_1024) shapeCasts_S1x2048x1024_S2048x1024) (ix3 0 r j)
      = ∑ d : Fin 2048, x (ix3 0 r d) * w (ix3 0 d ⟨1024 + j.val, by omega⟩) := by
  pointwise []

theorem values_at (x : FVec Ideal S1x8192x2048 .f32) (w : FVec Ideal S1x2048x16400 .f32) (r : Fin 8192) (j : Fin 2048) :
    Host.dotGeneral dot_S1x8192x2048_S2048x2048_S1x8192x2048_2_0_01_1_n_n none x (shapeCast S2048x2048
      (extractStridedSlice S1x2048x2048 ![0, 0, 2048] w slices_S1x2048x16400_S1x2048x2048_0_0_2048) shapeCasts_S1x2048x2048_S2048x2048) (ix3 0 r j)
      = ∑ d : Fin 2048, x (ix3 0 r d) * w (ix3 0 d ⟨2048 + j.val, by omega⟩) := by
  pointwise []

/-- What the loop finds. -/
theorem held_entry (H : Given m c X G S W) : Held (qh X W) (kh X W) (gh G) (vh X W) S (entryContents preI m c) 0 := by
  refine ⟨entry_count m c, ?_, ?_, ?_, ?_, ?_, ?_⟩
  · intro s h i a
    rw [entry_q, headRows_apply]
    refine Eq.trans (congrArg₂ (· * ·) (narrow_at _ _ _ _) sixteenth) ?_
    rw [product H]
    exact (EReal.coe_mul _ _).symm
  · intro s h i a
    rw [entry_k, headRows_apply]
    refine (keys_at _ _ _ _).trans ((product H _ _).trans ?_)
    exact congrArg (fun z => ((prod X W (64 * s.val + i.val) z : ℝ) : EReal)) (Nat.add_assoc _ _ _).symm
  · intro s h i b
    rw [entry_v, headValues_apply]
    refine (values_at _ _ _ _).trans ((product H _ _).trans ?_)
    exact congrArg (fun z => ((prod X W (64 * s.val + i.val) z : ℝ) : EReal)) (Nat.add_assoc _ _ _).symm
  · intro s h i a
    rw [entry_g, headRows_apply, H.g]
    rfl
  · intro h a b
    rw [entry_s, H.s]
    rfl
  · intro s h i b hs
    exact absurd hs (Nat.not_lt_zero _)

end Gla

end
-- ==== Proof.Words.lean ====
/-
  The word arithmetic of the prompt attention call: its row counters, masks and rolled rows read as statements about
  natural numbers. A chunk has 256 rows; level `s` pairs the rows of the upper half of a group of `2 s` rows with those of
  its lower half.
-/
module

public import proofs.«01_k».proof.Proof.Gen.KernelIdeal.Skeleton
public import Idealize.ShloMosaic.Lib.Pointwise

@[expose] public section

noncomputable section

namespace Gla

open Idealize.ShloMosaic Cert.KernelIdeal Cert.KernelIdeal.Gen

set_option maxRecDepth 16384

/-- Level `s` pairs row `i` with row `j`: one group of `2 s` rows holds both, `i` in its upper half and `j` in its lower
    one. -/
def Pairs (s i j : ℕ) : Prop := i / (2 * s) = j / (2 * s) ∧ s ≤ i % (2 * s) ∧ j % (2 * s) < s

instance (s i j : ℕ) : Decidable (Pairs s i j) := by unfold Pairs; infer_instance

/-- Three one-bit conditions joined. -/
theorem and_three (p q r : Prop) [Decidable p] [Decidable q] [Decidable r] :
    IntOp.andi (IntOp.andi (if p then 1#1 else 0#1) (if q then 1#1 else 0#1)) (if r then 1#1 else 0#1)
      = if p ∧ q ∧ r then 1#1 else 0#1 := by
  by_cases p <;> by_cases q <;> by_cases r <;> simp [*, IntOp.andi]

/-- Two small numbers' words are equal exactly where the numbers are. -/
theorem eq_word (a b : ℕ) (ha : a < 2 ^ 32) (hb : b < 2 ^ 32) :
    IntOp.cmpi .eq (BitVec.ofNat 32 a) (BitVec.ofNat 32 b) = if a = b then 1#1 else 0#1 := by
  by_cases h : a = b
  · subst h; simp [IntOp.cmpi]
  · have : BitVec.ofNat 32 a ≠ BitVec.ofNat 32 b := fun e => h (by
      have := congrArg BitVec.toNat e
      rwa [BitVec.toNat_ofNat, BitVec.toNat_ofNat, Nat.mod_eq_of_lt ha, Nat.mod_eq_of_lt hb] at this)
    rw [if_neg h]
    show BitVec.ofBool (BitVec.ofNat 32 a == BitVec.ofNat 32 b) = 0#1
    rw [beq_eq_false_iff_ne.mpr this]
    rfl

theorem group_128 : ∀ i : Fin 256, IntOp.andi (BitVec.ofNat 32 i) 4294967040#32 = BitVec.ofNat 32 (i / (2 * 128) * (2 * 128)) := by
  decide +kernel
theorem upper_128 : ∀ i : Fin 512, IntOp.cmpi .sge (IntOp.andi (BitVec.ofNat 32 i) 255#32) 128#32
    = if 128 ≤ i.val % (2 * 128) then 1#1 else 0#1 := by decide +kernel
theorem lower_128 : ∀ i : Fin 256, IntOp.cmpi .slt (IntOp.andi (BitVec.ofNat 32 i) 255#32) 128#32
    = if i.val % (2 * 128) < 128 then 1#1 else 0#1 := by decide +kernel
theorem group_64 : ∀ i : Fin 256, IntOp.andi (BitVec.ofNat 32 i) 4294967168#32 = BitVec.ofNat 32 (i / (2 * 64) * (2 * 64)) := by
  decide +kernel
theorem upper_64 : ∀ i : Fin 512, IntOp.cmpi .sge (IntOp.andi (BitVec.ofNat 32 i) 127#32) 64#32
    = if 64 ≤ i.val % (2 * 64) then 1#1 else 0#1 := by decide +kernel
theorem lower_64 : ∀ i : Fin 256, IntOp.cmpi .slt (IntOp.andi (BitVec.ofNat 32 i) 127#32) 64#32
    = if i.val % (2 * 64) < 64 then 1#1 else 0#1 := by decide +kernel
theorem group_32 : ∀ i : Fin 256, IntOp.andi (BitVec.ofNat 32 i) 4294967232#32 = BitVec.ofNat 32 (i / (2 * 32) * (2 * 32)) := by
  decide +kernel
theorem upper_32 : ∀ i : Fin 512, IntOp.cmpi .sge (IntOp.andi (BitVec.ofNat 32 i) 63#32) 32#32
    = if 32 ≤ i.val % (2 * 32) then 1#1 else 0#1 := by decide +kernel
theorem lower_32 : ∀ i : Fin 256, IntOp.cmpi .slt (IntOp.andi (BitVec.ofNat 32 i) 63#32) 32#32
    = if i.val % (2 * 32) < 32 then 1#1 else 0#1 := by decide +kernel
theorem group_16 : ∀ i : Fin 256, IntOp.andi (BitVec.ofNat 32 i) 4294967264#32 = BitVec.ofNat 32 (i / (2 * 16) * (2 * 16)) := by
  decide +kernel
theorem upper_16 : ∀ i : Fin 512, IntOp.cmpi .sge (IntOp.andi (BitVec.ofNat 32 i) 31#32) 16#32
    = if 16 ≤ i.val % (2 * 16) then 1#1 else 0#1 := by decide +kernel
theorem lower_16 : ∀ i : Fin 256, IntOp.cmpi .slt (IntOp.andi (BitVec.ofNat 32 i) 31#32) 16#32
    = if i.val % (2 * 16) < 16 then 1#1 else 0#1 := by decide +kernel
theorem group_8 : ∀ i : Fin 256, IntOp.andi (BitVec.ofNat 32 i) 4294967280#32 = BitVec.ofNat 32 (i / (2 * 8) * (2 * 8)) := by
  decide +kernel
theorem upper_8 : ∀ i : Fin 512, IntOp.cmpi .sge (IntOp.andi (BitVec.ofNat 32 i) 15#32) 8#32
    = if 8 ≤ i.val % (2 * 8) then 1#1 else 0#1 := by decide +kernel
theorem lower_8 : ∀ i : Fin 256, IntOp.cmpi .slt (IntOp.andi (BitVec.ofNat 32 i) 15#32) 8#32
    = if i.val % (2 * 8) < 8 then 1#1 else 0#1 := by decide +kernel
theorem group_4 : ∀ i : Fin 256, IntOp.andi (BitVec.ofNat 32 i) 4294967288#32 = BitVec.ofNat 32 (i / (2 * 4) * (2 * 4)) := by
  decide +kernel
theorem upper_4 : ∀ i : Fin 512, IntOp.cmpi .sge (IntOp.andi (BitVec.ofNat 32 i) 7#32) 4#32
    = if 4 ≤ i.val % (2 * 4) then 1#1 else 0#1 := by decide +kernel
theorem lower_4 : ∀ i : Fin 256, IntOp.cmpi .slt (IntOp.andi (BitVec.ofNat 32 i) 7#32) 4#32
    = if i.val % (2 * 4) < 4 then 1#1 else 0#1 := by decide +kernel
theorem group_2 : ∀ i : Fin 256, IntOp.andi (BitVec.ofNat 32 i) 4294967292#32 = BitVec.ofNat 32 (i / (2 * 2) * (2 * 2)) := by
  decide +kernel
theorem upper_2 : ∀ i : Fin 512, IntOp.cmpi .sge (IntOp.andi (BitVec.ofNat 32 i) 3#32) 2#32
    = if 2 ≤ i.val % (2 * 2) then 1#1 else 0#1 := by decide +kernel
theorem lower_2 : ∀ i : Fin 256, IntOp.cmpi .slt (IntOp.andi (BitVec.ofNat 32 i) 3#32) 2#32
    = if i.val % (2 * 2) < 2 then 1#1 else 0#1 := by decide +kernel
theorem group_1 : ∀ i : Fin 256, IntOp.andi (BitVec.ofNat 32 i) 4294967294#32 = BitVec.ofNat 32 (i / (2 * 1) * (2 * 1)) := by
  decide +kernel
theorem upper_1 : ∀ i : Fin 512, IntOp.cmpi .sge (IntOp.andi (BitVec.ofNat 32 i) 1#32) 1#32
    = if 1 ≤ i.val % (2 * 1) then 1#1 else 0#1 := by decide +kernel
theorem lower_1 : ∀ i : Fin 256, IntOp.cmpi .slt (IntOp.andi (BitVec.ofNat 32 i) 1#32) 1#32
    = if i.val % (2 * 1) < 1 then 1#1 else 0#1 := by decide +kernel
/-- A row's position in its chunk against a roll's length. -/
theorem pos_ge : ∀ (m : Fin 8) (r : Fin 512), IntOp.cmpi .sge (IntOp.andi (BitVec.ofNat 32 r) 255#32) (BitVec.ofNat 32 (2 ^ m.val))
    = if 2 ^ m.val ≤ r.val % 256 then 1#1 else 0#1 := by
  decide +kernel

/-- A row's place among four. -/
theorem place_four (n : Fin 4) (r : Fin 512) :
    IntOp.cmpi .eq (IntOp.andi (BitVec.ofNat 32 r) 3#32) (BitVec.ofNat 32 n) = if r.val % 4 = n.val then 1#1 else 0#1 := by
  have h : ∀ r : Fin 512, IntOp.andi (BitVec.ofNat 32 r) 3#32 = BitVec.ofNat 32 (r.val % 4) := by decide +kernel
  rw [h r, eq_word _ _ (by omega) (by omega)]

/-- The level masks' two row counters. -/
abbrev rows : IVec S256x256 32 := iota .tc S256x256 32 [0] iota_S256x256_d0_w32

/-- The column counter. -/
abbrev cols : IVec S256x256 32 := iota .tc S256x256 32 [1] iota_S256x256_d1_w32

/-- The mask of level 128. -/
theorem mask_128 (i j : Fin 256) : (k0_pay9) (ix2 i j) = if Pairs 128 i j then 1#1 else 0#1 := by
  have key : IntOp.andi (IntOp.andi
      (IntOp.cmpi .eq (IntOp.andi (BitVec.ofNat 32 i) 4294967040#32) (IntOp.andi (BitVec.ofNat 32 j) 4294967040#32))
      (IntOp.cmpi .sge (IntOp.andi (BitVec.ofNat 32 i) 255#32) 128#32))
      (IntOp.cmpi .slt (IntOp.andi (BitVec.ofNat 32 j) 255#32) 128#32) = if Pairs 128 i j then 1#1 else 0#1 := by
    rw [group_128 i, group_128 j, eq_word _ _ (by omega) (by omega), upper_128 ⟨i.val, by omega⟩, lower_128 j, and_three]
    refine if_congr ?_ rfl rfl
    unfold Pairs
    constructor <;> rintro ⟨h, h'⟩ <;> exact ⟨by omega, h'⟩
  pointwise [k0_pay9]
  exact key

/-- The mask of level 64. -/
theorem mask_64 (i j : Fin 256) : (k0_pay10) (ix2 i j) = if Pairs 64 i j then 1#1 else 0#1 := by
  have key : IntOp.andi (IntOp.andi
      (IntOp.cmpi .eq (IntOp.andi (BitVec.ofNat 32 i) 4294967168#32) (IntOp.andi (BitVec.ofNat 32 j) 4294967168#32))
      (IntOp.cmpi .sge (IntOp.andi (BitVec.ofNat 32 i) 127#32) 64#32))
      (IntOp.cmpi .slt (IntOp.andi (BitVec.ofNat 32 j) 127#32) 64#32) = if Pairs 64 i j then 1#1 else 0#1 := by
    rw [group_64 i, group_64 j, eq_word _ _ (by omega) (by omega), upper_64 ⟨i.val, by omega⟩, lower_64 j, and_three]
    refine if_congr ?_ rfl rfl
    unfold Pairs
    constructor <;> rintro ⟨h, h'⟩ <;> exact ⟨by omega, h'⟩
  pointwise [k0_pay10]
  exact key

/-- The mask of level 32. -/
theorem mask_32 (i j : Fin 256) : (k0_pay12 rows cols k0_pay11 63#32) (ix2 i j) = if Pairs 32 i j then 1#1 else 0#1 := by
  have key : IntOp.andi (IntOp.andi
      (IntOp.cmpi .eq (IntOp.andi (BitVec.ofNat 32 i) 4294967232#32) (IntOp.andi (BitVec.ofNat 32 j) 4294967232#32))
      (IntOp.cmpi .sge (IntOp.andi (BitVec.ofNat 32 i) 63#32) 32#32))
      (IntOp.cmpi .slt (IntOp.andi (BitVec.ofNat 32 j) 63#32) 32#32) = if Pairs 32 i j then 1#1 else 0#1 := by
    rw [group_32 i, group_32 j, eq_word _ _ (by omega) (by omega), upper_32 ⟨i.val, by omega⟩, lower_32 j, and_three]
    refine if_congr ?_ rfl rfl
    unfold Pairs
    constructor <;> rintro ⟨h, h'⟩ <;> exact ⟨by omega, h'⟩
  pointwise [k0_pay11, k0_pay12]
  exact key

/-- The mask of level 16. -/
theorem mask_16 (i j : Fin 256) : (k0_pay13 rows cols) (ix2 i j) = if Pairs 16 i j then 1#1 else 0#1 := by
  have key : IntOp.andi (IntOp.andi
      (IntOp.cmpi .eq (IntOp.andi (BitVec.ofNat 32 i) 4294967264#32) (IntOp.andi (BitVec.ofNat 32 j) 4294967264#32))
      (IntOp.cmpi .sge (IntOp.andi (BitVec.ofNat 32 i) 31#32) 16#32))
      (IntOp.cmpi .slt (IntOp.andi (BitVec.ofNat 32 j) 31#32) 16#32) = if Pairs 16 i j then 1#1 else 0#1 := by
    rw [group_16 i, group_16 j, eq_word _ _ (by omega) (by omega), upper_16 ⟨i.val, by omega⟩, lower_16 j, and_three]
    refine if_congr ?_ rfl rfl
    unfold Pairs
    constructor <;> rintro ⟨h, h'⟩ <;> exact ⟨by omega, h'⟩
  pointwise [k0_pay13]
  exact key

/-- The mask of level 8. -/
theorem mask_8 (i j : Fin 256) : (k0_pay14 rows cols) (ix2 i j) = if Pairs 8 i j then 1#1 else 0#1 := by
  have key : IntOp.andi (IntOp.andi
      (IntOp.cmpi .eq (IntOp.andi (BitVec.ofNat 32 i) 4294967280#32) (IntOp.andi (BitVec.ofNat 32 j) 4294967280#32))
      (IntOp.cmpi .sge (IntOp.andi (BitVec.ofNat 32 i) 15#32) 8#32))
      (IntOp.cmpi .slt (IntOp.andi (BitVec.ofNat 32 j) 15#32) 8#32) = if Pairs 8 i j then 1#1 else 0#1 := by
    rw [group_8 i, group_8 j, eq_word _ _ (by omega) (by omega), upper_8 ⟨i.val, by omega⟩, lower_8 j, and_three]
    refine if_congr ?_ rfl rfl
    unfold Pairs
    constructor <;> rintro ⟨h, h'⟩ <;> exact ⟨by omega, h'⟩
  pointwise [k0_pay14]
  exact key

/-- The mask of level 4. -/
theorem mask_4 (i j : Fin 256) : (k0_pay17 rows cols (k0_pay15 rows) k0_pay16) (ix2 i j) = if Pairs 4 i j then 1#1 else 0#1 := by
  have key : IntOp.andi (IntOp.andi
      (IntOp.cmpi .eq (IntOp.andi (BitVec.ofNat 32 i) 4294967288#32) (IntOp.andi (BitVec.ofNat 32 j) 4294967288#32))
      (IntOp.cmpi .sge (IntOp.andi (BitVec.ofNat 32 i) 7#32) 4#32))
      (IntOp.cmpi .slt (IntOp.andi (BitVec.ofNat 32 j) 7#32) 4#32) = if Pairs 4 i j then 1#1 else 0#1 := by
    rw [group_4 i, group_4 j, eq_word _ _ (by omega) (by omega), upper_4 ⟨i.val, by omega⟩, lower_4 j, and_three]
    refine if_congr ?_ rfl rfl
    unfold Pairs
    constructor <;> rintro ⟨h, h'⟩ <;> exact ⟨by omega, h'⟩
  pointwise [k0_pay15, k0_pay16, k0_pay17]
  exact key

/-- The mask of level 2. -/
theorem mask_2 (i j : Fin 256) : (k0_pay18 rows cols) (ix2 i j) = if Pairs 2 i j then 1#1 else 0#1 := by
  have key : IntOp.andi (IntOp.andi
      (IntOp.cmpi .eq (IntOp.andi (BitVec.ofNat 32 i) 4294967292#32) (IntOp.andi (BitVec.ofNat 32 j) 4294967292#32))
      (IntOp.cmpi .sge (IntOp.andi (BitVec.ofNat 32 i) 3#32) 2#32))
      (IntOp.cmpi .slt (IntOp.andi (BitVec.ofNat 32 j) 3#32) 2#32) = if Pairs 2 i j then 1#1 else 0#1 := by
    rw [group_2 i, group_2 j, eq_word _ _ (by omega) (by omega), upper_2 ⟨i.val, by omega⟩, lower_2 j, and_three]
    refine if_congr ?_ rfl rfl
    unfold Pairs
    constructor <;> rintro ⟨h, h'⟩ <;> exact ⟨by omega, h'⟩
  pointwise [k0_pay18]
  exact key

/-- The mask of level 1. -/
theorem mask_1 (i j : Fin 256) : (k0_pay19 rows cols) (ix2 i j) = if Pairs 1 i j then 1#1 else 0#1 := by
  have key : IntOp.andi (IntOp.andi
      (IntOp.cmpi .eq (IntOp.andi (BitVec.ofNat 32 i) 4294967294#32) (IntOp.andi (BitVec.ofNat 32 j) 4294967294#32))
      (IntOp.cmpi .sge (IntOp.andi (BitVec.ofNat 32 i) 1#32) 1#32))
      (IntOp.cmpi .slt (IntOp.andi (BitVec.ofNat 32 j) 1#32) 1#32) = if Pairs 1 i j then 1#1 else 0#1 := by
    rw [group_1 i, group_1 j, eq_word _ _ (by omega) (by omega), upper_1 ⟨i.val, by omega⟩, lower_1 j, and_three]
    refine if_congr ?_ rfl rfl
    unfold Pairs
    constructor <;> rintro ⟨h, h'⟩ <;> exact ⟨by omega, h'⟩
  pointwise [k0_pay19]
  exact key

/-- The diagonal's mask. -/
theorem mask_diag (i j : Fin 256) : (k0_pay20 rows cols) (ix2 i j) = if i.val = j.val then 1#1 else 0#1 := by
  pointwise [k0_pay20]
  exact eq_word _ _ (by omega) (by omega)

/- Two rows of one group that level `s` does not pair are in one half of it, for each of the eight levels. -/
theorem narrow_128 (i j : ℕ) (e : i / 256 = j / 256) (h : ¬ (i / (2 * 128) = j / (2 * 128) ∧ 128 ≤ i % (2 * 128) ∧ j % (2 * 128) < 128))
    (hle : j ≤ i) : i / 128 = j / 128 := by omega
theorem narrow_64 (i j : ℕ) (e : i / 128 = j / 128) (h : ¬ (i / (2 * 64) = j / (2 * 64) ∧ 64 ≤ i % (2 * 64) ∧ j % (2 * 64) < 64))
    (hle : j ≤ i) : i / 64 = j / 64 := by omega
theorem narrow_32 (i j : ℕ) (e : i / 64 = j / 64) (h : ¬ (i / (2 * 32) = j / (2 * 32) ∧ 32 ≤ i % (2 * 32) ∧ j % (2 * 32) < 32))
    (hle : j ≤ i) : i / 32 = j / 32 := by omega
theorem narrow_16 (i j : ℕ) (e : i / 32 = j / 32) (h : ¬ (i / (2 * 16) = j / (2 * 16) ∧ 16 ≤ i % (2 * 16) ∧ j % (2 * 16) < 16))
    (hle : j ≤ i) : i / 16 = j / 16 := by omega
theorem narrow_8 (i j : ℕ) (e : i / 16 = j / 16) (h : ¬ (i / (2 * 8) = j / (2 * 8) ∧ 8 ≤ i % (2 * 8) ∧ j % (2 * 8) < 8))
    (hle : j ≤ i) : i / 8 = j / 8 := by omega
theorem narrow_4 (i j : ℕ) (e : i / 8 = j / 8) (h : ¬ (i / (2 * 4) = j / (2 * 4) ∧ 4 ≤ i % (2 * 4) ∧ j % (2 * 4) < 4))
    (hle : j ≤ i) : i / 4 = j / 4 := by omega
theorem narrow_2 (i j : ℕ) (e : i / 4 = j / 4) (h : ¬ (i / (2 * 2) = j / (2 * 2) ∧ 2 ≤ i % (2 * 2) ∧ j % (2 * 2) < 2))
    (hle : j ≤ i) : i / 2 = j / 2 := by omega
theorem narrow_1 (i j : ℕ) (e : i / 2 = j / 2) (h : ¬ (i / (2 * 1) = j / (2 * 1) ∧ 1 ≤ i % (2 * 1) ∧ j % (2 * 1) < 1))
    (hle : j ≤ i) : i / 1 = j / 1 := by omega

/-- Two rows of a chunk are one row, or the earlier and the later are paired at one of the eight levels, or the column is
    later: the levels leave nothing of the lower triangle out. -/
theorem levels_cover (i j : ℕ) (hi : i < 256) (hj : j < 256) (h128 : ¬ Pairs 128 i j) (h64 : ¬ Pairs 64 i j)
    (h32 : ¬ Pairs 32 i j) (h16 : ¬ Pairs 16 i j) (h8 : ¬ Pairs 8 i j) (h4 : ¬ Pairs 4 i j) (h2 : ¬ Pairs 2 i j)
    (h1 : ¬ Pairs 1 i j) (hij : i ≠ j) : ¬ j ≤ i := by
  unfold Pairs at *
  intro hle
  have e0 : i / 256 = j / 256 := by omega
  exact hij (by
    have := narrow_1 i j (narrow_2 i j (narrow_4 i j (narrow_8 i j (narrow_16 i j (narrow_32 i j (narrow_64 i j
      (narrow_128 i j e0 h128 hle) h64 hle) h32 hle) h16 hle) h8 hle) h4 hle) h2 hle) h1 hle
    omega)

end Gla

end
-- ==== Proof.Levels.lean ====
/-
  The prompt attention block's decays and factors over real rows: the eight rolls that sum a chunk's log decays, and the
  ten operands of the score products. At level `s` a row of an upper half holds its query decayed from the middle of its
  group, a row of a lower half its key decayed up to there, so a product of the two is the pair's weight whatever the
  group's middle is.
-/
module

public import proofs.«01_k».proof.Proof.Words
public import proofs.«01_k».proof.Proof.Recur

@[expose] public section

noncomputable section

namespace Gla

open Idealize.ShloMosaic Cert.KernelIdeal Cert.KernelIdeal.Gen

set_option maxRecDepth 16384

/-- The exponential of zero. -/
theorem exp_zero : Ideal.exp 0 = 1 := by
  rw [← EReal.coe_zero, Ideal.exp_coe, Real.exp_zero, EReal.coe_one]

/-- A selection by a decided condition. -/
theorem select_if {α : Type} (p : Prop) [Decidable p] (x y : α) :
    Scalar.select (if p then 1#1 else 0#1) x y = if p then x else y := by
  by_cases h : p <;> simp [h, Scalar.select]

/-- The block's rows are the real rows `X`. -/
def IsRows {φ : FTy} (x : FVec Ideal S512x256 φ) (X : ℕ → Fin 256 → ℝ) : Prop :=
  ∀ (r : Fin 512) (a : Fin 256), x (ix2 r a) = ((X r a : ℝ) : EReal)

variable (q k g : ℕ → Fin 256 → ℝ)

/-- The log decays of a row's chunk summed up to and with the row. -/
def upto (r : ℕ) (a : Fin 256) : ℝ := cum g (r / 256 * 256) (r % 256 + 1) a

/-- What the rolls hold when `w` rows are summed: the last `w` rows up to the row, as many of them as the chunk has. -/
def window (w r : ℕ) (a : Fin 256) : ℝ :=
  cum g (r / 256 * 256) (r % 256 + 1) a - cum g (r / 256 * 256) (r % 256 + 1 - w) a

/-- One roll doubles the rows summed. -/
theorem roll_step (m : Fin 8) (x : FVec Ideal S512x256 .f32) (hx : IsRows x (window g (2 ^ m.val))) :
    IsRows (addf x (select (cmpi .sge k0_pay31 (broadcast S512x256 (BitVec.ofNat 32 (2 ^ m.val))))
      (dynamicRotate 0 (BitVec.ofNat 32 (2 ^ m.val)) none x rotates_S512x256_d0)
      (broadcast S512x256 (Scalar.ofBits .f32 0x00000000#32)))) (window g (2 ^ (m.val + 1))) := by
  intro r a
  have hm : 2 ^ m.val ≤ 128 := le_trans (Nat.pow_le_pow_right (by decide) (by omega : m.val ≤ 7)) (by decide)
  have e : (BitVec.ofNat 32 (2 ^ m.val)).toNat % 512 = 2 ^ m.val := by
    generalize 2 ^ m.val = s at hm
    rw [BitVec.toNat_ofNat]; omega
  pointwise [k0_pay31]
  rw [pos_ge m r, select_if, hx r a]
  have h2 : 2 ^ (m.val + 1) = 2 ^ m.val + 2 ^ m.val := by rw [pow_succ]; omega
  generalize 2 ^ m.val = s at *
  split_ifs with h
  · have hr : (r.val + 512 - (BitVec.ofNat 32 s).toNat % 512) % 512 = r.val - s := by rw [e]; omega
    have := hx ⟨(r.val + 512 - (BitVec.ofNat 32 s).toNat % 512) % 512, Nat.mod_lt _ (by decide)⟩ a
    rw [this, ← EReal.coe_add]
    simp only [hr, window, h2]
    rw [show (r.val - s) / 256 * 256 = r.val / 256 * 256 by omega, show (r.val - s) % 256 + 1 = r.val % 256 + 1 - s by omega,
      show r.val % 256 + 1 - s - s = r.val % 256 + 1 - (s + s) by omega]
    congr 1
    ring
  · rw [← EReal.coe_zero, ← EReal.coe_add, add_zero]
    simp only [window, h2]
    rw [show r.val % 256 + 1 - s = 0 by omega, show r.val % 256 + 1 - (s + s) = 0 by omega]

/-- The first roll's operand: a window of one row is the row. -/
theorem window_one (r : ℕ) (a : Fin 256) : window g 1 r a = g r a := by
  unfold window
  rw [Nat.add_sub_cancel, cum_succ, show r / 256 * 256 + r % 256 = r by omega]
  ring

/-- After all eight rolls every row has its chunk's sum. -/
theorem window_all (r : ℕ) (a : Fin 256) : window g 256 r a = upto g r a := by
  unfold window upto
  rw [show r % 256 + 1 - 256 = 0 by omega, cum_zero, sub_zero]

/-- The decays' block: its rows are the sums up to the row. -/
theorem decays (x : FVec Ideal S512x256 .f32) (hx : IsRows x g) :
    IsRows (k0_pay35 k0_pay31 (k0_pay32 x) k0_pay33 (k0_pay34 x) (Scalar.ofBits .f32 0x00000000#32)) (upto g) := by
  have h0 : IsRows (k0_pay30 x) (window g (2 ^ (0 : Fin 8).val)) := fun r a => by
    pointwise [k0_pay30]
    rw [hx r a]
    exact congrArg _ (window_one g r a).symm
  have h := roll_step g 7 _ (roll_step g 6 _ (roll_step g 5 _ (roll_step g 4 _ (roll_step g 3 _ (roll_step g 2 _
    (roll_step g 1 _ (roll_step g 0 _ h0)))))))
  intro r a
  refine (h r a).trans ?_
  rw [← window_all]
  rfl

/-- The next row's sum, in one chunk. -/
theorem upto_succ (r : ℕ) (hr : (r + 1) % 256 ≠ 0) (a : Fin 256) : upto g (r + 1) a = upto g r a + g (r + 1) a := by
  unfold upto
  rw [show (r + 1) / 256 * 256 = r / 256 * 256 by omega, show (r + 1) % 256 = r % 256 + 1 by omega, cum_succ,
    show r / 256 * 256 + (r % 256 + 1) = r + 1 by omega]

/-- A level's factor: an upper row's query decayed from the group's middle row, a lower row's key decayed up to it. -/
def factor (s r : ℕ) (a : Fin 256) : ℝ :=
  if s ≤ r % (2 * s) then q r a * Real.exp (upto g r a - upto g (r / (2 * s) * (2 * s) + (s - 1)) a)
  else k r a * Real.exp (upto g (r / (2 * s) * (2 * s) + (s - 1)) a - upto g r a)

/-- The counter of the block's rows. -/
abbrev count : IVec S512x256 32 := iota .tc S512x256 32 [0] iota_S512x256_d0_w32

variable {q k g} {xq xk xb xg : FVec Ideal S512x256 .f32}

/-- A factor's scalar form. -/
theorem factor_of (s : ℕ) (r : ℕ) (a : Fin 256) (u v w y : EReal) (hu : u = (q r a : ℝ)) (hv : v = (k r a : ℝ))
    (hw : w = (upto g r a : ℝ)) (hy : y = (upto g (r / (2 * s) * (2 * s) + (s - 1)) a : ℝ)) (c : BitVec 1)
    (hc : c = if s ≤ r % (2 * s) then 1#1 else 0#1) :
    Scalar.select c u v * Ideal.exp (Scalar.select c (w - y) (y - w)) = ((factor q k g s r a : ℝ) : EReal) := by
  subst hu hv hw hy hc
  rw [select_if, select_if, factor]
  split_ifs <;> rw [← EReal.coe_sub, Ideal.exp_coe, ← EReal.coe_mul]

/-- Level 128. -/
theorem level_128 (hq : IsRows xq q) (hk : IsRows xk k) (hb : IsRows xb (upto g)) :
    IsRows (k0_pay39 xk count xb xq) (factor q k g 128) := by
  intro r a
  have hm : r.val / (2 * 128) * (2 * 128) + (128 - 1) < 512 := by omega
  pointwise [k0_pay39]
  exact factor_of 128 r a _ _ _ _ (hq r a) (hk r a) (hb r a) (hb ⟨r.val / (2 * 128) * (2 * 128) + (128 - 1), hm⟩ a) _ (upper_128 r)

/-- Level 64. -/
theorem level_64 (hq : IsRows xq q) (hk : IsRows xk k) (hb : IsRows xb (upto g)) :
    IsRows (k0_pay40 xk count xb xq) (factor q k g 64) := by
  intro r a
  have hm : r.val / (2 * 64) * (2 * 64) + (64 - 1) < 512 := by omega
  pointwise [k0_pay40]
  exact factor_of 64 r a _ _ _ _ (hq r a) (hk r a) (hb r a) (hb ⟨r.val / (2 * 64) * (2 * 64) + (64 - 1), hm⟩ a) _ (upper_64 r)

/-- Level 32. -/
theorem level_32 (hq : IsRows xq q) (hk : IsRows xk k) (hb : IsRows xb (upto g)) :
    IsRows (k0_pay44 xk xb xq (k0_pay41 count) (k0_pay42 xb) (k0_pay43 xb)) (factor q k g 32) := by
  intro r a
  have hm : r.val / (2 * 32) * (2 * 32) + (32 - 1) < 512 := by omega
  pointwise [k0_pay41, k0_pay42, k0_pay43, k0_pay44]
  exact factor_of 32 r a _ _ _ _ (hq r a) (hk r a) (hb r a) (hb ⟨r.val / (2 * 32) * (2 * 32) + (32 - 1), hm⟩ a) _ (upper_32 r)

/-- Level 16. -/
theorem level_16 (hq : IsRows xq q) (hk : IsRows xk k) (hb : IsRows xb (upto g)) :
    IsRows (k0_pay45 xk count xb xq) (factor q k g 16) := by
  intro r a
  have hm : r.val / (2 * 16) * (2 * 16) + (16 - 1) < 512 := by omega
  pointwise [k0_pay45]
  exact factor_of 16 r a _ _ _ _ (hq r a) (hk r a) (hb r a) (hb ⟨r.val / (2 * 16) * (2 * 16) + (16 - 1), hm⟩ a) _ (upper_16 r)

/-- Level 8. -/
theorem level_8 (hq : IsRows xq q) (hk : IsRows xk k) (hb : IsRows xb (upto g)) :
    IsRows (k0_pay46 xk count xb xq) (factor q k g 8) := by
  intro r a
  have hm : r.val / (2 * 8) * (2 * 8) + (8 - 1) < 512 := by omega
  pointwise [k0_pay46]
  exact factor_of 8 r a _ _ _ _ (hq r a) (hk r a) (hb r a) (hb ⟨r.val / (2 * 8) * (2 * 8) + (8 - 1), hm⟩ a) _ (upper_8 r)

/-- Level 4. -/
theorem level_4 (hq : IsRows xq q) (hk : IsRows xk k) (hb : IsRows xb (upto g)) :
    IsRows (k0_pay47 xk count xb xq) (factor q k g 4) := by
  intro r a
  have hm : r.val / (2 * 4) * (2 * 4) + (4 - 1) < 512 := by omega
  pointwise [k0_pay47]
  exact factor_of 4 r a _ _ _ _ (hq r a) (hk r a) (hb r a) (hb ⟨r.val / (2 * 4) * (2 * 4) + (4 - 1), hm⟩ a) _ (upper_4 r)

/-- Level 2, whose differences of sums are written as at most two of the log decays. -/
theorem level_2 (hq : IsRows xq q) (hk : IsRows xk k) (hg : IsRows xg g) : IsRows (k0_pay48 xk xg count xq) (factor q k g 2) := by
  intro r a
  have h0 : (r.val + 512 - 511) % 512 < 512 := Nat.mod_lt _ (by decide)
  have h1 : (r.val + 512 - 1) % 512 < 512 := Nat.mod_lt _ (by decide)
  pointwise [k0_pay48]
  have p0 : IntOp.cmpi .eq (IntOp.andi (BitVec.ofNat 32 r) 3#32) 0#32 = if r.val % 4 = 0 then 1#1 else 0#1 := place_four 0 r
  have p1 : IntOp.cmpi .eq (IntOp.andi (BitVec.ofNat 32 r) 3#32) 1#32 = if r.val % 4 = 1 then 1#1 else 0#1 := place_four 1 r
  have p2 : IntOp.cmpi .eq (IntOp.andi (BitVec.ofNat 32 r) 3#32) 2#32 = if r.val % 4 = 2 then 1#1 else 0#1 := place_four 2 r
  rw [upper_2 r, p0, p1, p2, hq r a, hk r a, hg r a, hg ⟨_, h0⟩ a, hg ⟨_, h1⟩ a]
  simp only [select_if, factor]
  have hp : r.val % 4 = 0 ∨ r.val % 4 = 1 ∨ r.val % 4 = 2 ∨ r.val % 4 = 3 := by omega
  rcases hp with hp | hp | hp | hp
  · have e := upto_succ g r.val (by omega) a
    simp [hp, show r.val / 4 * 4 + 1 = r.val + 1 by omega, show (r.val + 1) % 512 = r.val + 1 by omega, e,
      ← EReal.coe_mul]
  · simp [hp, show r.val / 4 * 4 + 1 = r.val by omega, exp_zero]
  · have e := upto_succ g (r.val - 1) (by omega) a
    rw [show r.val - 1 + 1 = r.val by omega] at e
    simp [hp, show r.val / 4 * 4 + 1 = r.val - 1 by omega, e, ← EReal.coe_mul]
  · have e := upto_succ g (r.val - 1) (by omega) a
    have e' := upto_succ g (r.val - 2) (by omega) a
    rw [show r.val - 1 + 1 = r.val by omega] at e
    rw [show r.val - 2 + 1 = r.val - 1 by omega] at e'
    simp [hp, show r.val / 4 * 4 + 1 = r.val - 2 by omega, show (r.val + 511) % 512 = r.val - 1 by omega, e, e',
      ← EReal.coe_mul, ← EReal.coe_add]
    left
    ring

/-- Level 1: an odd row's own decay, an even row's none. -/
theorem level_1 (hq : IsRows xq q) (hk : IsRows xk k) (hg : IsRows xg g) : IsRows (k0_pay49 xk xg count xq) (factor q k g 1) := by
  intro r a
  pointwise [k0_pay49]
  rw [upper_1 r, hq r a, hk r a, hg r a]
  simp only [select_if, factor]
  have hp : r.val % 2 = 0 ∨ r.val % 2 = 1 := by omega
  rcases hp with hp | hp
  · simp [hp, show r.val / 2 * 2 = r.val by omega, exp_zero]
  · have e := upto_succ g (r.val - 1) (by omega) a
    rw [show r.val - 1 + 1 = r.val by omega] at e
    simp [hp, show r.val / 2 * 2 = r.val - 1 by omega, e, ← EReal.coe_mul]

/-- A pair's two factors multiply to its query times its key times the decay between them. -/
theorem factor_mul (s c i j : ℕ) (hs : 256 % (2 * s) = 0) (h : Pairs s i j) (a : Fin 256) :
    factor q k g s (256 * c + i) a * factor q k g s (256 * c + j) a
      = q (256 * c + i) a * k (256 * c + j) a * Real.exp (upto g (256 * c + i) a - upto g (256 * c + j) a) := by
  obtain ⟨h0, h1, h2⟩ := h
  obtain ⟨d, hd⟩ := Nat.dvd_of_mod_eq_zero hs
  have e : ∀ x, (256 * c + x) % (2 * s) = x % (2 * s) := fun x => by
    rw [hd, Nat.mul_assoc, Nat.mul_add_mod]
  have hs0 : 0 < 2 * s := by omega
  have e' : (256 * c + i) / (2 * s) = (256 * c + j) / (2 * s) := by
    rw [hd, Nat.mul_assoc, Nat.mul_add_div hs0, Nat.mul_add_div hs0, h0]
  unfold factor
  rw [if_pos (by rw [e]; exact h1), if_neg (by rw [e]; omega), e']
  rw [mul_mul_mul_comm, ← Real.exp_add]
  congr 2
  ring

/-- A pair's earlier row is the column's. -/
theorem Pairs.lt {s i j : ℕ} (h : Pairs s i j) : j < i := by
  obtain ⟨h0, h1, h2⟩ := h
  have hi := Nat.div_add_mod i (2 * s)
  have hj := Nat.div_add_mod j (2 * s)
  rw [h0] at hi
  omega

end Gla

end
-- ==== Proof.Chunk.lean ====
/-
  A block of the prompt attention call over real rows: its two chunks of 256 rows each give the token recurrence's
  outputs, and leave the token recurrence's state.
-/
module

public import proofs.«01_k».proof.Proof.Levels

@[expose] public section

noncomputable section

namespace Gla

open Idealize.ShloMosaic Cert.KernelIdeal Cert.KernelIdeal.Gen

set_option maxRecDepth 16384

/-- Rows of chunk `c` of `x` against rows of chunk `c` of `y`. -/
abbrev pairDot (c : ℕ) (h : S512x256.Slices ![256 * c, 0] S256x256) (x y : FVec Ideal S512x256 .bf16) : FVec Ideal S256x256 .f32 :=
  matmul dot_S256x256_S256x256_S256x256_1_1_0_0_n_n none (extractStridedSlice S256x256 ![256 * c, 0] x h)
    (extractStridedSlice S256x256 ![256 * c, 0] y h) (constant S256x256 .f32 0x00000000#32)

/-- Its entries are sums of products. -/
theorem pairDot_at (c : ℕ) (hc : c < 2) (h : S512x256.Slices ![256 * c, 0] S256x256) {x y : FVec Ideal S512x256 .bf16}
    {X Y : ℕ → Fin 256 → ℝ} (hx : IsRows x X) (hy : IsRows y Y) (i j : Fin 256) :
    pairDot c h x y (ix2 i j) = ((∑ a, X (256 * c + i) a * Y (256 * c + j) a : ℝ) : EReal) := by
  have hi : 256 * c + i.val < 512 := by omega
  have hj : 256 * c + j.val < 512 := by omega
  pointwise
  rw [coe_sum]
  refine Finset.sum_congr rfl fun a _ => ?_
  rw [EReal.coe_mul]
  exact congrArg₂ _ (hx ⟨_, hi⟩ a) (hy ⟨_, hj⟩ a)

/-- A chunk's scores: each pair from the level that holds it, the diagonal from the plain product. -/
def scores (c : ℕ) (h : S512x256.Slices ![256 * c, 0] S256x256) (xq xk xb xg : FVec Ideal S512x256 .f32) : FVec Ideal S256x256 .f32 :=
  select (k0_pay20 rows cols) (pairDot c h (k0_pay50 xq) (k0_pay51 xk)) (
  select (k0_pay19 rows cols) (pairDot c h (k0_pay49 xk xg count xq) (k0_pay49 xk xg count xq)) (
  select (k0_pay18 rows cols) (pairDot c h (k0_pay48 xk xg count xq) (k0_pay48 xk xg count xq)) (
  select (k0_pay17 rows cols (k0_pay15 rows) k0_pay16) (pairDot c h (k0_pay47 xk count xb xq) (k0_pay47 xk count xb xq)) (
  select (k0_pay14 rows cols) (pairDot c h (k0_pay46 xk count xb xq) (k0_pay46 xk count xb xq)) (
  select (k0_pay13 rows cols) (pairDot c h (k0_pay45 xk count xb xq) (k0_pay45 xk count xb xq)) (
  select (k0_pay12 rows cols k0_pay11 63#32)
    (pairDot c h (k0_pay44 xk xb xq (k0_pay41 count) (k0_pay42 xb) (k0_pay43 xb)) (k0_pay44 xk xb xq (k0_pay41 count) (k0_pay42 xb) (k0_pay43 xb))) (
  select k0_pay10 (pairDot c h (k0_pay40 xk count xb xq) (k0_pay40 xk count xb xq)) (
  select k0_pay9 (pairDot c h (k0_pay39 xk count xb xq) (k0_pay39 xk count xb xq))
    (broadcast S256x256 (Scalar.ofBits .f32 0x00000000#32))))))))))

variable {q k g : ℕ → Fin 256 → ℝ} {xq xk xb xg : FVec Ideal S512x256 .f32}

/-- A row's sum of log decays, by its chunk and its place in it. -/
theorem upto_chunk (c i : ℕ) (hi : i < 256) (a : Fin 256) : upto g (256 * c + i) a = cum g (256 * c) (i + 1) a := by
  unfold upto
  rw [show (256 * c + i) / 256 * 256 = 256 * c by omega, show (256 * c + i) % 256 = i by omega]

/-- What a level's product of factors is at a pair it holds. -/
theorem level_sum (s c i j : ℕ) (hs : 256 % (2 * s) = 0) (hi : i < 256) (hj : j < 256) (h : Pairs s i j) :
    ∑ a, factor q k g s (256 * c + i) a * factor q k g s (256 * c + j) a = score q k g (256 * c) i j := by
  rw [score, if_pos h.lt.le]
  refine Finset.sum_congr rfl fun a _ => ?_
  rw [factor_mul s c i j hs h, upto_chunk c i hi, upto_chunk c j hj]

/-- The scores are the recurrence's weights. -/
theorem scores_at (c : ℕ) (hc : c < 2) (h : S512x256.Slices ![256 * c, 0] S256x256) (hq : IsRows xq q) (hk : IsRows xk k)
    (hb : IsRows xb (upto g)) (hg : IsRows xg g) (i j : Fin 256) :
    scores c h xq xk xb xg (ix2 i j) = ((score q k g (256 * c) i j : ℝ) : EReal) := by
  have hq' : IsRows (k0_pay50 xq) q := fun r a => by pointwise [k0_pay50]; exact hq r a
  have hk' : IsRows (k0_pay51 xk) k := fun r a => by pointwise [k0_pay51]; exact hk r a
  unfold scores
  simp only [Idealize.ShloMosaic.select]
  rw [mask_diag, mask_1, mask_2, mask_4, mask_8, mask_16, mask_32, mask_64, mask_128]
  simp only [select_if]
  rw [pairDot_at c hc h hq' hk', pairDot_at c hc h (level_1 hq hk hg) (level_1 hq hk hg),
    pairDot_at c hc h (level_2 hq hk hg) (level_2 hq hk hg), pairDot_at c hc h (level_4 hq hk hb) (level_4 hq hk hb),
    pairDot_at c hc h (level_8 hq hk hb) (level_8 hq hk hb), pairDot_at c hc h (level_16 hq hk hb) (level_16 hq hk hb),
    pairDot_at c hc h (level_32 hq hk hb) (level_32 hq hk hb), pairDot_at c hc h (level_64 hq hk hb) (level_64 hq hk hb),
    pairDot_at c hc h (level_128 hq hk hb) (level_128 hq hk hb)]
  split_ifs with h0 h1 h2 h3 h4 h5 h6 h7 h8
  · rw [score, if_pos (by omega)]
    refine congrArg _ (Finset.sum_congr rfl fun a _ => ?_)
    rw [h0, sub_self, Real.exp_zero, mul_one]
  · exact congrArg _ (level_sum 1 c i j (by decide) i.2 j.2 h1)
  · exact congrArg _ (level_sum 2 c i j (by decide) i.2 j.2 h2)
  · exact congrArg _ (level_sum 4 c i j (by decide) i.2 j.2 h3)
  · exact congrArg _ (level_sum 8 c i j (by decide) i.2 j.2 h4)
  · exact congrArg _ (level_sum 16 c i j (by decide) i.2 j.2 h5)
  · exact congrArg _ (level_sum 32 c i j (by decide) i.2 j.2 h6)
  · exact congrArg _ (level_sum 64 c i j (by decide) i.2 j.2 h7)
  · exact congrArg _ (level_sum 128 c i j (by decide) i.2 j.2 h8)
  · rw [score, if_neg (levels_cover i j i.2 j.2 h8 h7 h6 h5 h4 h3 h2 h1 h0)]
    pointwise
    rfl

/-- The decayed query. -/
theorem inter_at (hq : IsRows xq q) (hb : IsRows xb (upto g)) :
    IsRows (k0_pay37 xb xq) fun r a => q r a * Real.exp (upto g r a) := by
  intro r a
  pointwise [k0_pay37]
  rw [hq r a, hb r a, Ideal.exp_coe, ← EReal.coe_mul]

/-- The key decayed to its chunk's end. -/
theorem carry_at (hk : IsRows xk k) (hb : IsRows xb (upto g)) :
    IsRows (k0_pay38 xk xb) fun r a => k r a * Real.exp (upto g (r / 256 * 256 + 255) a - upto g r a) := by
  intro r a
  have hm : r.val / 256 * 256 + 255 < 512 := by omega
  pointwise [k0_pay38]
  have := hb ⟨r.val / 256 * 256 + 255, hm⟩ a
  rw [hk r a, hb r a, this, ← EReal.coe_sub, Ideal.exp_coe, ← EReal.coe_mul]

variable {v : ℕ → Fin 512 → ℝ} {xv : FVec Ideal S512x512 .f32} {S : Fin 256 → Fin 512 → ℝ} {xs : FVec Ideal S256x512 .f32}

/-- A chunk's outputs in the block's form: scores against values plus decayed queries against the state found. -/
theorem out_at (c : ℕ) (i : Fin 256) (d : Fin 512) :
    ((out q k g v S (256 * c + i) d : ℝ) : EReal)
      = (∑ j : Fin 256, ((score q k g (256 * c) i j : ℝ) : EReal) * ((v (256 * c + j) d : ℝ) : EReal))
        + ∑ a : Fin 256, ((q (256 * c + i) a * Real.exp (upto g (256 * c + i) a) : ℝ) : EReal)
            * ((state k g v S (256 * c) a d : ℝ) : EReal) := by
  rw [out_chunk q k g v S (256 * c) 256 i i.2 d, EReal.coe_add, coe_sum, coe_sum]
  refine congrArg₂ _ (Finset.sum_congr rfl fun j _ => EReal.coe_mul _ _) (Finset.sum_congr rfl fun a _ => ?_)
  rw [EReal.coe_mul, upto_chunk c i i.2]

/-- A chunk's state in the block's form. -/
theorem state_at (c : ℕ) (a : Fin 256) (d : Fin 512) :
    ((state k g v S (256 * c + 256) a d : ℝ) : EReal)
      = Ideal.exp ((upto g (256 * c + 255) a : ℝ) : EReal) * ((state k g v S (256 * c) a d : ℝ) : EReal)
        + ∑ j : Fin 256, ((k (256 * c + j) a * Real.exp (upto g ((256 * c + j) / 256 * 256 + 255) a - upto g (256 * c + j) a) : ℝ) : EReal)
            * ((v (256 * c + j) d : ℝ) : EReal) := by
  rw [state_chunk k g v S (256 * c) 256 a d, EReal.coe_add, coe_sum, EReal.coe_mul, Ideal.exp_coe, upto_chunk c 255 (by omega)]
  refine congrArg₂ _ rfl (Finset.sum_congr rfl fun j _ => ?_)
  rw [EReal.coe_mul, show (256 * c + j.val) / 256 * 256 + 255 = 256 * c + 255 by omega, upto_chunk c 255 (by omega),
    upto_chunk c j j.2]

/-- The first chunk's output block. -/
def first (xq xk xb xg : FVec Ideal S512x256 .f32) (xv : FVec Ideal S512x512 .f32) (xs : FVec Ideal S256x512 .f32) : FVec Ideal S256x512 .f32 :=
  k0_pay57 k0_pay10 (k0_pay12 rows cols k0_pay11 63#32) (k0_pay13 rows cols) (k0_pay14 rows cols)
    (k0_pay17 rows cols (k0_pay15 rows) k0_pay16) (k0_pay18 rows cols) (k0_pay19 rows cols) (k0_pay20 rows cols)
    (k0_pay37 xb xq) (k0_pay44 xk xb xq (k0_pay41 count) (k0_pay42 xb) (k0_pay43 xb)) (k0_pay45 xk count xb xq)
    (k0_pay46 xk count xb xq) (k0_pay47 xk count xb xq) (k0_pay48 xk xg count xq) (k0_pay49 xk xg count xq) (k0_pay50 xq)
    (k0_pay51 xk) (k0_pay52 xv) xs (k0_pay53 k0_pay9 (k0_pay39 xk count xb xq)) (k0_pay54 (k0_pay40 xk count xb xq))
    (k0_pay55 (k0_pay40 xk count xb xq))

/-- The second chunk's scores against its values. -/
def second (xq xk xb xg : FVec Ideal S512x256 .f32) (xv : FVec Ideal S512x512 .f32) : FVec Ideal S256x512 .f32 :=
  k0_pay61 k0_pay9 k0_pay10 (k0_pay12 rows cols k0_pay11 63#32) (k0_pay13 rows cols) (k0_pay14 rows cols)
    (k0_pay17 rows cols (k0_pay15 rows) k0_pay16) (k0_pay18 rows cols) (k0_pay19 rows cols) (k0_pay20 rows cols)
    (k0_pay39 xk count xb xq) (k0_pay40 xk count xb xq) (k0_pay44 xk xb xq (k0_pay41 count) (k0_pay42 xb) (k0_pay43 xb))
    (k0_pay45 xk count xb xq) (k0_pay46 xk count xb xq) (k0_pay47 xk count xb xq) (k0_pay48 xk xg count xq)
    (k0_pay49 xk xg count xq) (k0_pay50 xq) (k0_pay51 xk) (k0_pay52 xv)

theorem first_eq : first xq xk xb xg xv xs
    = addf (matmul dot_S256x256_S256x512_S256x512_1_0_0_1_n_n none
        (truncf .bf16 (scores 0 slices_S512x256_o0_0_S256x256 xq xk xb xg) bitsLt_bf16_f32) (k0_pay56 (k0_pay52 xv)) (constant S256x512 .f32 0x00000000#32))
      (matmul dot_S256x256_S256x512_S256x512_1_0_0_1_n_n none
        (extractStridedSlice S256x256 ![0, 0] (k0_pay37 xb xq) slices_S512x256_o0_0_S256x256) (truncf .bf16 xs bitsLt_bf16_f32)
        (constant S256x512 .f32 0x00000000#32)) := rfl

theorem second_eq : second xq xk xb xg xv
    = matmul dot_S256x256_S256x512_S256x512_1_0_0_1_n_n none
        (truncf .bf16 (scores 1 slices_S512x256_o256_0_S256x256 xq xk xb xg) bitsLt_bf16_f32) (k0_pay60 (k0_pay52 xv)) (constant S256x512 .f32 0x00000000#32) := rfl

/-- The first chunk's outputs. -/
theorem first_at (hq : IsRows xq q) (hk : IsRows xk k) (hb : IsRows xb (upto g)) (hg : IsRows xg g)
    (hv : ∀ r d, xv (ix2 r d) = ((v r d : ℝ) : EReal)) (hs : ∀ a d, xs (ix2 a d) = ((S a d : ℝ) : EReal)) (i : Fin 256) (d : Fin 512) :
    first xq xk xb xg xv xs (ix2 i d) = ((out q k g v S i d : ℝ) : EReal) := by
  have h := out_at (q := q) (k := k) (g := g) (v := v) (S := S) 0 i d
  simp only [Nat.mul_zero, Nat.zero_add] at h
  rw [first_eq, h]
  have hqi := inter_at hq hb
  have hsc := scores_at 0 (by omega) slices_S512x256_o0_0_S256x256 hq hk hb hg
  generalize k0_pay37 xb xq = y at *
  generalize scores 0 slices_S512x256_o0_0_S256x256 xq xk xb xg = z at *
  pointwise [k0_pay56, k0_pay52]
  refine congrArg₂ _ (Finset.sum_congr rfl fun j _ => congrArg₂ _ (hsc i j) (hv ⟨j.val, by omega⟩ d)) (Finset.sum_congr rfl fun a _ => congrArg₂ _ (hqi ⟨i.val, by omega⟩ a) (hs a d))

/-- The state between the two chunks. -/
theorem mid_at (hk : IsRows xk k) (hb : IsRows xb (upto g)) (hv : ∀ r d, xv (ix2 r d) = ((v r d : ℝ) : EReal))
    (hs : ∀ a d, xs (ix2 a d) = ((S a d : ℝ) : EReal)) (a : Fin 256) (d : Fin 512) :
    k0_pay58 xb (k0_pay38 xk xb) (k0_pay52 xv) xs (ix2 a d) = ((state k g v S 256 a d : ℝ) : EReal) := by
  have h := state_at (k := k) (g := g) (v := v) (S := S) 0 a d
  simp only [Nat.mul_zero, Nat.zero_add] at h
  rw [h]
  have hkc := carry_at hk hb
  generalize k0_pay38 xk xb = y at *
  have e := hb 255 a
  pointwise [k0_pay58, k0_pay56, k0_pay52]
  simp only [dite_eq_ite, ite_self]
  refine congrArg₂ _ (congrArg₂ _ (congrArg _ e) (hs a d)) (Finset.sum_congr rfl fun j _ => congrArg₂ _ (hkc ⟨j.val, by omega⟩ a) (hv ⟨j.val, by omega⟩ d))

/-- The state the block leaves. -/
theorem last_at (hk : IsRows xk k) (hb : IsRows xb (upto g)) (hv : ∀ r d, xv (ix2 r d) = ((v r d : ℝ) : EReal))
    (hs : ∀ a d, xs (ix2 a d) = ((state k g v S 256 a d : ℝ) : EReal)) (a : Fin 256) (d : Fin 512) :
    k0_pay64 xb (k0_pay38 xk xb) xs (k0_pay60 (k0_pay52 xv)) (ix2 a d) = ((state k g v S 512 a d : ℝ) : EReal) := by
  have h := state_at (k := k) (g := g) (v := v) (S := S) 1 a d
  simp only [Nat.mul_one] at h
  rw [h]
  have hkc := carry_at hk hb
  generalize k0_pay38 xk xb = y at *
  have e := hb 511 a
  pointwise [k0_pay64, k0_pay60, k0_pay52]
  simp only [dite_eq_ite, ite_self]
  refine congrArg₂ _ (congrArg₂ _ (congrArg _ e) (hs a d)) (Finset.sum_congr rfl fun j _ => congrArg₂ _ (hkc ⟨256 + j.val, by omega⟩ a) (hv ⟨256 + j.val, by omega⟩ d))

/-- A row's finish: its outputs over their root mean square, times the norm's weights, times the gate's `r · sigmoid r`. -/
def finish (o : Fin 512 → ℝ) (r : EReal) (n : EReal) (d : Fin 512) : EReal :=
  (o d : EReal) * Ideal.rsqrt (Ideal.div (∑ e, (o e : EReal) * (o e : EReal)) (Ideal.ofBits .f32 0x44000000#32)
    + Ideal.ofBits .f32 0x358637BD#32) * n * (r * Ideal.div 1 (1 + Ideal.exp (0 - r)))

/-- The block's finished rows. -/
theorem finished_at (hq : IsRows xq q) (hk : IsRows xk k) (hb : IsRows xb (upto g)) (hg : IsRows xg g)
    (hv : ∀ r d, xv (ix2 r d) = ((v r d : ℝ) : EReal)) (hs : ∀ a d, xs (ix2 a d) = ((S a d : ℝ) : EReal))
    (xr : FVec Ideal S512x512 .f32) (xn : FVec Ideal S1x512 .f32) (xm : FVec Ideal S256x512 .f32)
    (hm : ∀ a d, xm (ix2 a d) = ((state k g v S 256 a d : ℝ) : EReal)) (r : Fin 512) (d : Fin 512) :
    k0_pay65 xr (first xq xk xb xg xv xs) (second xq xk xb xg xv) (k0_pay62 (k0_pay37 xb xq)) (k0_pay63 xm) xn (ix2 r d)
      = finish (out q k g v S r) (xr (ix2 r d)) (xn (ix2 0 d)) d := by
  have h1 := first_at hq hk hb hg hv hs
  generalize first xq xk xb xg xv xs = y1 at *
  rw [second_eq]
  have hqi := inter_at hq hb
  have hsc := scores_at 1 (by omega) slices_S512x256_o256_0_S256x256 hq hk hb hg
  generalize k0_pay37 xb xq = y at *
  generalize scores 1 slices_S512x256_o256_0_S256x256 xq xk xb xg = z at *
  have key : ∀ e : Fin 512, (if h : r.val < 256 then y1 (ix2 ⟨r.val, h⟩ e) else
      (∑ j : Fin 256, z (ix2 ⟨r.val - 256, by omega⟩ j) * xv (ix2 ⟨256 + j.val, by omega⟩ e))
        + ∑ a : Fin 256, y (ix2 ⟨256 + (r.val - 256), by omega⟩ a) * xm (ix2 a e)) = ((out q k g v S r e : ℝ) : EReal) := by
    intro e
    split_ifs with h
    · exact h1 ⟨r.val, h⟩ e
    · have ho := out_at (q := q) (k := k) (g := g) (v := v) (S := S) 1 ⟨r.val - 256, by omega⟩ e
      simp only [Nat.mul_one, show 256 + (r.val - 256) = r.val by omega] at ho
      rw [ho]
      refine congrArg₂ _ (Finset.sum_congr rfl fun j _ => congrArg₂ _ (hsc ⟨r.val - 256, by omega⟩ j) (hv ⟨256 + j.val, by omega⟩ e)) (Finset.sum_congr rfl fun a _ => congrArg₂ _ ?_ (hm a e))
      have := hqi ⟨256 + (r.val - 256), by omega⟩ a
      simpa only [show 256 + (r.val - 256) = r.val by omega] using this
  unfold finish
  simp only [← key]
  pointwise [k0_pay65, k0_pay62, k0_pay63, k0_pay60, k0_pay52]

end Gla

end
-- ==== Proof.Result.lean ====
/-
  The reference's results, entry by entry, over the same real sequences as the kernel's.
-/
module

public import proofs.«01_k».proof.Proof.Entry
public import proofs.«01_k».proof.Proof.Chunk

@[expose] public section

noncomputable section

namespace Gla

open Idealize.ShloMosaic Idealize.ShloMosaic.TcCoe Cert.ReferenceIdeal Cert.ReferenceIdeal.Gen Cert.ReferenceIdeal.Value
open Idealize.ShloMosaic.Tactic Idealize.ShloMosaic.StableHlo

set_option maxRecDepth 16384

/-- The outputs of the loop, by head and token. -/
def outRows (O : FVec Ideal S128x1x4x64x512 .f32) : FVec Ideal S1x4x8192x512 .f32 :=
  shapeCast _ (transpose S1x4x128x64x512 [1, 2, 0, 3, 4] O transposes_S128x1x4x64x512_S1x4x128x64x512_1_2_0_3_4) shapeCasts_S1x4x128x64x512_S1x4x8192x512

theorem outRows_apply (O : FVec Ideal S128x1x4x64x512 .f32) (h : Fin 4) (t : Fin 8192) (b : Fin 512) :
    outRows O (ix4 0 h t b) = O (ix5 ⟨t.val / 64, by omega⟩ 0 h ⟨t.val % 64, by omega⟩ b) := by
  unfold outRows
  pointwise []

theorem gates_at (x : FVec Ideal S1x8192x2048 .f32) (w : FVec Ideal S1x2048x16400 .f32) (r : Fin 8192) (j : Fin 2048) :
    Host.dotGeneral dot_S1x8192x2048_S2048x2048_S1x8192x2048_2_0_01_1_n_n none x (shapeCast S2048x2048
      (extractStridedSlice S1x2048x2048 ![0, 0, 4096] w slices_S1x2048x16400_S1x2048x2048_0_0_4096) shapeCasts_S1x2048x2048_S2048x2048) (ix3 0 r j)
      = ∑ d : Fin 2048, x (ix3 0 r d) * w (ix3 0 d ⟨4096 + j.val, by omega⟩) := by
  pointwise []

/-- The normalised, gated output of a token. -/
theorem gated_at (o : FVec Ideal S1x4x8192x512 .f32) (n : FVec Ideal S1x2048 .f32) (r : FVec Ideal S1x8192x2048 .f32) (f : Fin 512 → ℝ)
    (t : Fin 8192) (e : Fin 2048) (ho : ∀ d, o (ix4 0 ⟨e.val / 512, by omega⟩ t d) = ((f d : ℝ) : EReal)) :
    (shapeCast _ (mulf (mulf (shapeCast _ (transpose S1x8192x4x512 [0, 2, 1, 3] (mulf o (broadcastInDim S1x4x8192x512 ![0, 1, 2, 3]
      bcast_S1x4x8192x1_S1x4x8192x512_0_1_2_3 (Host.rsqrt (addf (Host.divf (broadcastInDim S1x4x8192x1 ![0, 1, 2]
      bcast_S1x4x8192_S1x4x8192x1_0_1_2 (Host.reduceAdd (mulf o o) (constant S_ .f32 0x00000000#32) reducesTo_S1x4x8192x512_S1x4x8192_d3
      h_S_)) (broadcastInDim S1x4x8192x1 ![] bcast_S_S1x4x8192x1 (constant S_ .f32 0x44000000#32))) (broadcastInDim S1x4x8192x1 ![]
      bcast_S_S1x4x8192x1 (constant S_ .f32 0x358637BD#32)))))) transposes_S1x4x8192x512_S1x8192x4x512_0_2_1_3)
      shapeCasts_S1x8192x4x512_S1x8192x2048) (broadcastInDim S1x8192x2048 ![0, 1, 2] bcast_S1x1x2048_S1x8192x2048_0_1_2 (broadcastInDim
      S1x1x2048 ![2] bcast_S2048_S1x1x2048_2 (shapeCast _ n shapeCasts_S1x2048_S2048)))) (mulf r (Host.divf (broadcastInDim S1x8192x2048
      ![] bcast_S_S1x8192x2048 (constant S_ .f32 0x3F800000#32)) (addf (broadcastInDim S1x8192x2048 ![] bcast_S_S1x8192x2048 (constant
      S_ .f32 0x3F800000#32)) (Host.exp (Host.negf r)))))) shapeCasts_S1x8192x2048_S8192x2048 : FVec Ideal S8192x2048 .f32) (ix2 t e)
      = finish f (r (ix3 0 t e)) (n (ix2 0 e)) ⟨e.val % 512, by omega⟩ := by
  unfold finish
  pointwise []
  simp only [ho, sub_eq_add_neg, zero_add]

variable {m : (ℓ : Loc nD τ sig) → Buf (Elt Ideal) ℓ} {c : Dev nD}
  {X : ℕ → Fin 2048 → ℝ} {G : ℕ → ℕ → ℝ} {S : ℕ → Fin 256 → Fin 512 → ℝ} {W : ℕ → Fin 2048 → ℝ}

/-- The reference's outputs. -/
theorem given_y (H : Given m c X G S W) (t : Fin 8192) (e : Fin 2048) :
    (out_main_v52 (STEP^[128] (entryContents preI m c)) : FVec Ideal S8192x2048 .f32) (ix2 t e)
      = finish (out (qh X W (e.val / 512)) (kh X W (e.val / 512)) (gh G (e.val / 512)) (vh X W (e.val / 512)) (S (e.val / 512)) t)
        (rh X W (e.val / 512) t ⟨e.val % 512, by omega⟩ : ℝ) (refN m c (ix2 0 e)) ⟨e.val % 512, by omega⟩ := by
  have L := trips (held_entry H) 128 (le_refl _)
  unfold out_main_v52
  rw [iter_main_arg0, iter_main_arg3, iter_main_arg4]
  refine (gated_at (outRows (STEP^[128] (entryContents preI m c) (Proc.devRef .tc main_v28_6))) (refN m c) _ (out (qh X W (e.val / 512))
    (kh X W (e.val / 512)) (gh G (e.val / 512)) (vh X W (e.val / 512)) (S (e.val / 512)) t) t e ?_).trans ?_
  · intro d
    rw [outRows_apply]
    refine (L.at_out ⟨t.val / 64, by omega⟩ ⟨e.val / 512, by omega⟩ ⟨t.val % 64, by omega⟩ d (by show t.val / 64 < 128; omega)).trans ?_
    show ((out _ _ _ _ _ (64 * (t.val / 64) + t.val % 64) d : ℝ) : EReal) = _
    rw [Nat.div_add_mod]
  · refine congrArg (fun z => finish _ z _ _) ((gates_at _ _ t e).trans ((product H t _).trans ?_))
    refine congrArg (fun z => ((prod X W t z : ℝ) : EReal)) ?_
    show 4096 + e.val = 4096 + 512 * (e.val / 512) + e.val % 512
    omega

/-- Its final state. -/
theorem given_state' (H : Given m c X G S W) (h : Fin 4) (a : Fin 256) (b : Fin 512) :
    (out_main_v53 (STEP^[128] (entryContents preI m c)) : FVec Ideal S4x256x512 .f32) (ix3 h a b)
      = ((state (kh X W h) (gh G h) (vh X W h) (S h) 8192 a b : ℝ) : EReal) := by
  have L := trips (held_entry H) 128 (le_refl _)
  refine Eq.trans ?_ (L.at_state h a b)
  unfold out_main_v53
  generalize (STEP^[128] (entryContents preI m c) (Proc.devRef .tc main_v28_5) : FVec Ideal S1x4x256x512 .f32) = T
  pointwise []

/-- The weights it copies. -/
theorem given_mix (j : Fin 10240) (d : Fin 2048) :
    (out_main_v57 (STEP^[128] (entryContents preI m c)) : FVec Ideal S10240x2048 .bf16) (ix2 j d)
      = refW m c (ix3 0 d ⟨6160 + j.val, by omega⟩) := by
  unfold out_main_v57
  rw [iter_main_arg3]
  show truncf .bf16 (transpose S10240x2048 [1, 0] (shapeCast _ (extractStridedSlice S1x2048x10240 ![0, 0, 6160] (refW m c)
    slices_S1x2048x16400_S1x2048x10240_0_0_6160) shapeCasts_S1x2048x10240_S2048x10240) transposes_S2048x10240_S10240x2048_1_0)
    bitsLt_bf16_f32 (ix2 j d) = _
  generalize refW m c = w
  pointwise []

theorem given_proj (j d : Fin 2048) :
    (out_main_v59 (STEP^[128] (entryContents preI m c)) : FVec Ideal S2048x2048 .bf16) (ix2 j d) = refO m c (ix3 0 j d) := by
  unfold out_main_v59
  rw [iter_main_arg5]
  show truncf .bf16 (shapeCast _ (refO m c) shapeCasts_S1x2048x2048_S2048x2048) bitsLt_bf16_f32 (ix2 j d) = _
  generalize refO m c = w
  pointwise []

end Gla

end
-- ==== Proof.Opened.lean ====
/-
  What a grid point of the prompt attention call leaves behind, as functions of the blocks it reads: the finished rows,
  the head's state and the two copied weight blocks. At a head's first point the head's weights are cast and the state
  is the one the call is given; at the others both are what the point before left.
-/
module

public import proofs.«01_k».proof.Proof.Gen.KernelIdeal.Value
public import proofs.«01_k».proof.Proof.Chunk
public import Idealize.ShloMosaic.Lib.Pipeline.ValueKit.Acc

@[expose] public section

noncomputable section

namespace Gla

open Idealize.ShloMosaic Idealize.ShloMosaic.TcCoe Cert.KernelIdeal Cert.KernelIdeal.Gen
open Idealize.ShloMosaic.Tactic

set_option maxRecDepth 16384

variable (x : FVec Ideal S512x2048 .bf16) (w : Vec Ideal S1536x2048 .bf16) (g : FVec Ideal S512x256 .f32)
  (n : FVec Ideal S1x512 .f32) (s : FVec Ideal S256x512 .f32)

/-- The rows of the cast weights the queries and keys use. -/
def wqk : FVec Ideal S512x2048 .bf16 :=
  View.ld (Val := Elt Ideal) (e' := .bf16) w (Rect.unit (s := S1536x2048) ![0, 0] S512x2048.size inb_S1536x2048_S512x2048_0_0)

/-- The rows of the cast weights the values and the gates use. -/
def wvr : FVec Ideal S1024x2048 .bf16 :=
  View.ld (Val := Elt Ideal) (e' := .bf16) w (Rect.unit (s := S1536x2048) ![512, 0] S1024x2048.size inb_S1536x2048_S1024x2048_512_0)

/-- The scaled queries. -/
def bQ : FVec Ideal S512x256 .f32 := k0_pay36 (k0_pay24 x (wqk w))

/-- The keys. -/
def bK : FVec Ideal S512x256 .f32 := k0_pay25 x (wqk w)

/-- The values. -/
def bV : FVec Ideal S512x512 .f32 := k0_pay26 x (wvr w)

/-- The gates. -/
def bR : FVec Ideal S512x512 .f32 := k0_pay27 x (wvr w)

/-- The summed log decays. -/
def bB : FVec Ideal S512x256 .f32 := k0_pay35 k0_pay31 (k0_pay32 g) k0_pay33 (k0_pay34 g) (Scalar.ofBits .f32 0x00000000#32)

/-- The state between the block's chunks. -/
def bMid : FVec Ideal S256x512 .f32 := k0_pay58 (bB g) (k0_pay38 (bK x w) (bB g)) (k0_pay52 (bV x w)) s

/-- The state the block leaves. -/
def bState : FVec Ideal S256x512 .f32 :=
  k0_pay64 (bB g) (k0_pay38 (bK x w) (bB g)) (k0_pay59 (bMid x w g s)) (k0_pay60 (k0_pay52 (bV x w)))

/-- The block's finished rows. -/
def bOut : FVec Ideal S512x512 .f32 :=
  k0_pay65 (bR x w) (first (bQ x w) (bK x w) (bB g) (k0_pay30 g) (bV x w) s)
    (second (bQ x w) (bK x w) (bB g) (k0_pay30 g) (bV x w)) (k0_pay62 (k0_pay37 (bB g) (bQ x w)))
    (k0_pay63 (k0_pay59 (bMid x w g s))) n

variable (m : (ℓ : Loc nD τ sig) → Buf (Elt Ideal) ℓ)

theorem zero2 : (![0, 0] : Fin 2 → Nat) = fun _ => 0 := by funext i; fin_cases i <;> rfl
theorem zero3 : (![0, 0, 0] : Fin 3 → Nat) = fun _ => 0 := by funext i; fin_cases i <;> rfl

/-- The six pieces in which a head's weights are cast: queries, keys, and two each of values and gates. -/
def castPieces (x1 x2 : Vec Ideal S1x256x2048 .f32) (x3 x4 : Vec Ideal S1x512x2048 .f32) :
    List (View.Piece (Elt Ideal) S1536x2048 .bf16) :=
  [⟨Rect.unit (s := S1536x2048) ![1280, 0] S256x2048.size inb_S1536x2048_S256x2048_1280_0,
      k0_pay7 (F := Ideal) (View.ld (Val := Elt Ideal) (e' := .f32) x4 (Rect.unit (s := S1x512x2048) ![0, 256, 0] S1x256x2048.size inb_S1x512x2048_S1x256x2048_0_256_0))⟩,
    ⟨Rect.unit (s := S1536x2048) ![1024, 0] S256x2048.size inb_S1536x2048_S256x2048_1024_0,
      k0_pay6 (F := Ideal) (View.ld (Val := Elt Ideal) (e' := .f32) x4 (Rect.unit (s := S1x512x2048) ![0, 0, 0] S1x256x2048.size inb_S1x512x2048_S1x256x2048_0_0_0))⟩,
    ⟨Rect.unit (s := S1536x2048) ![768, 0] S256x2048.size inb_S1536x2048_S256x2048_768_0,
      k0_pay5 (F := Ideal) (View.ld (Val := Elt Ideal) (e' := .f32) x3 (Rect.unit (s := S1x512x2048) ![0, 256, 0] S1x256x2048.size inb_S1x512x2048_S1x256x2048_0_256_0))⟩,
    ⟨Rect.unit (s := S1536x2048) ![512, 0] S256x2048.size inb_S1536x2048_S256x2048_512_0,
      k0_pay4 (F := Ideal) (View.ld (Val := Elt Ideal) (e' := .f32) x3 (Rect.unit (s := S1x512x2048) ![0, 0, 0] S1x256x2048.size inb_S1x512x2048_S1x256x2048_0_0_0))⟩,
    ⟨Rect.unit (s := S1536x2048) ![256, 0] S256x2048.size inb_S1536x2048_S256x2048_256_0,
      k0_pay3 (F := Ideal) (View.ld (Val := Elt Ideal) (e' := .f32) x2 (Rect.unit (s := S1x256x2048) ![0, 0, 0] S1x256x2048.size inb_S1x256x2048_S1x256x2048_0_0_0))⟩,
    ⟨Rect.unit (s := S1536x2048) ![0, 0] S256x2048.size inb_S1536x2048_S256x2048_0_0,
      k0_pay2 (F := Ideal) (View.ld (Val := Elt Ideal) (e' := .f32) x1 (Rect.unit (s := S1x256x2048) ![0, 0, 0] S1x256x2048.size inb_S1x256x2048_S1x256x2048_0_0_0))⟩]

/-- The six pieces cover the buffer. -/
theorem castPieces_cover (x1 x2 : Vec Ideal S1x256x2048 .f32) (x3 x4 : Vec Ideal S1x512x2048 .f32) (y : S1536x2048.Idx) :
    ∃ p ∈ castPieces x1 x2 x3 x4, y ∈ p.1.set :=
  View.cover_of_tiledL (castPieces x1 x2 x3 x4) S256x2048.size (by sl_kernel_rfl) y

/-- A head's cast weights. -/
def castW (x1 x2 : Vec Ideal S1x256x2048 .f32) (x3 x4 : Vec Ideal S1x512x2048 .f32) : Vec Ideal S1536x2048 .bf16 :=
  View.canon (Val := Elt Ideal) (castPieces x1 x2 x3 x4)

/-- A load after the six stores reads the cast weights. -/
theorem cast_load {κ : Kind} {sp : Space} (v : View sig κ sp S1536x2048 .bf16) (x1 x2 : Vec Ideal S1x256x2048 .f32)
    (x3 x4 : Vec Ideal S1x512x2048 .f32) (r : Rect S1536x2048) :
    v.readCov (castPieces x1 x2 x3 x4) r = View.ld (Val := Elt Ideal) (e' := .bf16) (castW x1 x2 x3 x4) r :=
  View.readCov_eq_canon_ld v _ r (castPieces_cover x1 x2 x3 x4)

/-- A load of a whole buffer reads the latest store of the whole of it. -/
theorem latest {κ : Kind} {sp : Space} {S : Shape} {e : EltTy} (v : View sig κ sp S e) {off : Fin S.rank → Nat}
    (h : off = fun _ => 0) (inb inb' : ∀ a, off a + S.size a ≤ S.size a) (w : S.Idx → Elt Ideal e)
    (L : List (View.Piece (Elt Ideal) S e)) :
    v.readCov ((⟨Rect.unit off (no_index S.size) inb, w⟩ : View.Piece (Elt Ideal) S e) :: L)
      (Rect.unit off (no_index S.size) inb').toLoadRect = w :=
  View.readCov_cons_unit_lit' v inb inb' w L (fun a => congrFun h a) (fun a => congrFun h a)

/-- What point `t` leaves, and the point before it. -/
abbrev at' (c : Dev nD) (t : Fin cfg0.N) := outsAt0 m c t.val t.isLt

/-- The point before. -/
abbrev before' (c : Dev nD) (t : Fin cfg0.N) := outsAt0 m c (t.val - 1) (Nat.lt_of_le_of_lt (Nat.sub_le _ _) t.isLt)

/-- The finished rows of a later point. -/
theorem rows_B (c : Dev nD) (t : Fin cfg0.N) (h0 : ¬t.val % 16 = 0) (h1 : ¬t.val % 16 = 15) : (at' m c t).1 = bOut (iblk m c 0 t) (before' m c t).2.2.2.2.1 (iblk m c 5 t) (iblk m c 6 t) (before' m c t).2.2.2.2.2 := by
  unfold at'
  rw [outsAt0_B m c t h0 h1]
  generalize (before' m c t).2.2.2.2.1 = wb
  generalize (before' m c t).2.2.2.2.2 = st
  dsimp only
  unfold out0_B_10
  rw [View.read_writes_eq_canon _ _ _ (cover0_B_10 c _ _ _ _ _ _ _ _ _ _ _ _ _ _ _ _ _ _ _ _ _ _ _ _ _ _ _ _ _ _ _ _ _ _ _ _ _ _ _ _ _ _ _ _ _ _ _)]
  unfold kernelRun0_B
  dsimp only
  sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread,
    (hs0_9 t).read_unread, (Memref.isWhole_whole _).read_unread]
  rw [View.canon_unit_zero zero2]
  simp only [View.ld_unit_zero (S := S512x256) zero2, View.ld_unit_zero (S := S512x2048) zero2,
    View.ld_unit_zero (S := S256x512) zero2, View.ld_unit_zero (S := S1x512) zero2,
    View.ld_unit_zero (S := S1x256x512) zero3, View.ld_unit_zero (S := S1x160x2048) zero3,
    View.ld_unit_zero (S := S1x32x2048) zero3, View.readCov_unit_zero (S := S256x512) _ zero2]
  rfl

/-- The block of mixing weights it copies. -/
theorem mix_B (c : Dev nD) (t : Fin cfg0.N) (h0 : ¬t.val % 16 = 0) (h1 : ¬t.val % 16 = 15) : (at' m c t).2.2.1 = k0_pay28 (iblk m c 8 t) := by
  unfold at'
  rw [outsAt0_B m c t h0 h1]
  generalize (before' m c t).2.2.2.2.1 = wb
  generalize (before' m c t).2.2.2.2.2 = st
  dsimp only
  unfold out0_B_12
  rw [View.read_writes_eq_canon _ _ _ (cover0_B_12 c _ _ _ _ _ _ _ _ _ _ _ _ _ _ _ _ _ _ _ _ _ _ _ _ _ _ _ _ _ _ _ _ _ _ _ _ _ _ _ _ _ _ _ _ _ _ _)]
  unfold kernelRun0_B
  dsimp only
  sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread,
    (hs0_9 t).read_unread, (Memref.isWhole_whole _).read_unread]
  rw [View.canon_unit_zero zero2]
  simp only [View.ld_unit_zero (S := S512x256) zero2, View.ld_unit_zero (S := S512x2048) zero2,
    View.ld_unit_zero (S := S256x512) zero2, View.ld_unit_zero (S := S1x512) zero2,
    View.ld_unit_zero (S := S1x256x512) zero3, View.ld_unit_zero (S := S1x160x2048) zero3,
    View.ld_unit_zero (S := S1x32x2048) zero3, View.readCov_unit_zero (S := S256x512) _ zero2]

/-- The block of output weights it copies. -/
theorem proj_B (c : Dev nD) (t : Fin cfg0.N) (h0 : ¬t.val % 16 = 0) (h1 : ¬t.val % 16 = 15) : (at' m c t).2.2.2.1 = k0_pay29 (iblk m c 9 t) := by
  unfold at'
  rw [outsAt0_B m c t h0 h1]
  generalize (before' m c t).2.2.2.2.1 = wb
  generalize (before' m c t).2.2.2.2.2 = st
  dsimp only
  unfold out0_B_13
  rw [View.read_writes_eq_canon _ _ _ (cover0_B_13 c _ _ _ _ _ _ _ _ _ _ _ _ _ _ _ _ _ _ _ _ _ _ _ _ _ _ _ _ _ _ _ _ _ _ _ _ _ _ _ _ _ _ _ _ _ _ _)]
  unfold kernelRun0_B
  dsimp only
  sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread,
    (hs0_9 t).read_unread, (Memref.isWhole_whole _).read_unread]
  rw [View.canon_unit_zero zero2]
  simp only [View.ld_unit_zero (S := S512x256) zero2, View.ld_unit_zero (S := S512x2048) zero2,
    View.ld_unit_zero (S := S256x512) zero2, View.ld_unit_zero (S := S1x512) zero2,
    View.ld_unit_zero (S := S1x256x512) zero3, View.ld_unit_zero (S := S1x160x2048) zero3,
    View.ld_unit_zero (S := S1x32x2048) zero3, View.readCov_unit_zero (S := S256x512) _ zero2]

/-- It keeps the cast weights. -/
theorem cast_B (c : Dev nD) (t : Fin cfg0.N) (h0 : ¬t.val % 16 = 0) (h1 : ¬t.val % 16 = 15) : (at' m c t).2.2.2.2.1 = (before' m c t).2.2.2.2.1 := by
  unfold at'
  rw [outsAt0_B m c t h0 h1]
  rfl

/-- The state it leaves. -/
theorem state_B (c : Dev nD) (t : Fin cfg0.N) (h0 : ¬t.val % 16 = 0) (h1 : ¬t.val % 16 = 15) : (at' m c t).2.2.2.2.2 = bState (iblk m c 0 t) (before' m c t).2.2.2.2.1 (iblk m c 5 t) (before' m c t).2.2.2.2.2 := by
  unfold at'
  rw [outsAt0_B m c t h0 h1]
  generalize (before' m c t).2.2.2.2.1 = wb
  generalize (before' m c t).2.2.2.2.2 = st
  dsimp only
  unfold sout0_B_1
  rw [View.read_writes_eq_canon _ _ _ (scover0_B_1 c _ _ _ _ _ _ _ _ _ _ _ _ _ _ _ _ _ _ _ _ _ _ _ _ _ _ _ _ _ _ _ _ _ _ _ _ _ _ _ _ _ _ _ _ _ _ _)]
  unfold kernelRun0_B
  dsimp only
  sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread,
    (hs0_9 t).read_unread, (Memref.isWhole_whole _).read_unread]
  rw [View.canon_cons_unit_zero zero2]
  simp only [View.ld_unit_zero (S := S512x256) zero2, View.ld_unit_zero (S := S512x2048) zero2,
    View.ld_unit_zero (S := S256x512) zero2, View.ld_unit_zero (S := S1x512) zero2,
    View.ld_unit_zero (S := S1x256x512) zero3, View.ld_unit_zero (S := S1x160x2048) zero3,
    View.ld_unit_zero (S := S1x32x2048) zero3, View.readCov_unit_zero (S := S256x512) _ zero2]
  rfl

/-- The finished rows of a head's last point. -/
theorem rows_C (c : Dev nD) (t : Fin cfg0.N) (h0 : ¬t.val % 16 = 0) (h1 : t.val % 16 = 15) : (at' m c t).1 = bOut (iblk m c 0 t) (before' m c t).2.2.2.2.1 (iblk m c 5 t) (iblk m c 6 t) (before' m c t).2.2.2.2.2 := by
  unfold at'
  rw [outsAt0_C m c t h0 h1]
  generalize (before' m c t).2.2.2.2.1 = wb
  generalize (before' m c t).2.2.2.2.2 = st
  dsimp only
  unfold out0_C_10
  rw [View.read_writes_eq_canon _ _ _ (cover0_C_10 c _ _ _ _ _ _ _ _ _ _ _ _ _ _ _ _ _ _ _ _ _ _ _ _ _ _ _ _ _ _ _ _ _ _ _ _ _ _ _ _ _ _ _ _ _ _ _)]
  unfold kernelRun0_C
  dsimp only
  sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread,
    (hs0_9 t).read_unread, (Memref.isWhole_whole _).read_unread]
  rw [View.canon_unit_zero zero2]
  simp only [View.ld_unit_zero (S := S512x256) zero2, View.ld_unit_zero (S := S512x2048) zero2,
    View.ld_unit_zero (S := S256x512) zero2, View.ld_unit_zero (S := S1x512) zero2,
    View.ld_unit_zero (S := S1x256x512) zero3, View.ld_unit_zero (S := S1x160x2048) zero3,
    View.ld_unit_zero (S := S1x32x2048) zero3, View.readCov_unit_zero (S := S256x512) _ zero2]
  rfl

/-- The state a head's last point writes. -/
theorem final_C (c : Dev nD) (t : Fin cfg0.N) (h0 : ¬t.val % 16 = 0) (h1 : t.val % 16 = 15) : (at' m c t).2.1 = k0_pay1 (F := Ideal) (bState (iblk m c 0 t) (before' m c t).2.2.2.2.1 (iblk m c 5 t) (before' m c t).2.2.2.2.2) := by
  unfold at'
  rw [outsAt0_C m c t h0 h1]
  generalize (before' m c t).2.2.2.2.1 = wb
  generalize (before' m c t).2.2.2.2.2 = st
  dsimp only
  unfold out0_C_11
  rw [View.read_writes_eq_canon _ _ _ (cover0_C_11 c _ _ _ _ _ _ _ _ _ _ _ _ _ _ _ _ _ _ _ _ _ _ _ _ _ _ _ _ _ _ _ _ _ _ _ _ _ _ _ _ _ _ _ _ _ _ _)]
  unfold kernelRun0_C
  dsimp only
  sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread,
    (hs0_9 t).read_unread, (Memref.isWhole_whole _).read_unread]
  rw [View.canon_unit_zero zero3]
  simp only [View.ld_unit_zero (S := S512x256) zero2, View.ld_unit_zero (S := S512x2048) zero2,
    View.ld_unit_zero (S := S256x512) zero2, View.ld_unit_zero (S := S1x512) zero2,
    View.ld_unit_zero (S := S1x256x512) zero3, View.ld_unit_zero (S := S1x160x2048) zero3,
    View.ld_unit_zero (S := S1x32x2048) zero3, View.readCov_unit_zero (S := S256x512) _ zero2,
    latest (S := S256x512) _ zero2]
  rfl

/-- The block of mixing weights it copies. -/
theorem mix_C (c : Dev nD) (t : Fin cfg0.N) (h0 : ¬t.val % 16 = 0) (h1 : t.val % 16 = 15) : (at' m c t).2.2.1 = k0_pay28 (iblk m c 8 t) := by
  unfold at'
  rw [outsAt0_C m c t h0 h1]
  generalize (before' m c t).2.2.2.2.1 = wb
  generalize (before' m c t).2.2.2.2.2 = st
  dsimp only
  unfold out0_C_12
  rw [View.read_writes_eq_canon _ _ _ (cover0_C_12 c _ _ _ _ _ _ _ _ _ _ _ _ _ _ _ _ _ _ _ _ _ _ _ _ _ _ _ _ _ _ _ _ _ _ _ _ _ _ _ _ _ _ _ _ _ _ _)]
  unfold kernelRun0_C
  dsimp only
  sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread,
    (hs0_9 t).read_unread, (Memref.isWhole_whole _).read_unread]
  rw [View.canon_unit_zero zero2]
  simp only [View.ld_unit_zero (S := S512x256) zero2, View.ld_unit_zero (S := S512x2048) zero2,
    View.ld_unit_zero (S := S256x512) zero2, View.ld_unit_zero (S := S1x512) zero2,
    View.ld_unit_zero (S := S1x256x512) zero3, View.ld_unit_zero (S := S1x160x2048) zero3,
    View.ld_unit_zero (S := S1x32x2048) zero3, View.readCov_unit_zero (S := S256x512) _ zero2]

/-- The block of output weights it copies. -/
theorem proj_C (c : Dev nD) (t : Fin cfg0.N) (h0 : ¬t.val % 16 = 0) (h1 : t.val % 16 = 15) : (at' m c t).2.2.2.1 = k0_pay29 (iblk m c 9 t) := by
  unfold at'
  rw [outsAt0_C m c t h0 h1]
  generalize (before' m c t).2.2.2.2.1 = wb
  generalize (before' m c t).2.2.2.2.2 = st
  dsimp only
  unfold out0_C_13
  rw [View.read_writes_eq_canon _ _ _ (cover0_C_13 c _ _ _ _ _ _ _ _ _ _ _ _ _ _ _ _ _ _ _ _ _ _ _ _ _ _ _ _ _ _ _ _ _ _ _ _ _ _ _ _ _ _ _ _ _ _ _)]
  unfold kernelRun0_C
  dsimp only
  sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread,
    (hs0_9 t).read_unread, (Memref.isWhole_whole _).read_unread]
  rw [View.canon_unit_zero zero2]
  simp only [View.ld_unit_zero (S := S512x256) zero2, View.ld_unit_zero (S := S512x2048) zero2,
    View.ld_unit_zero (S := S256x512) zero2, View.ld_unit_zero (S := S1x512) zero2,
    View.ld_unit_zero (S := S1x256x512) zero3, View.ld_unit_zero (S := S1x160x2048) zero3,
    View.ld_unit_zero (S := S1x32x2048) zero3, View.readCov_unit_zero (S := S256x512) _ zero2]

/-- It keeps the cast weights. -/
theorem cast_C (c : Dev nD) (t : Fin cfg0.N) (h0 : ¬t.val % 16 = 0) (h1 : t.val % 16 = 15) : (at' m c t).2.2.2.2.1 = (before' m c t).2.2.2.2.1 := by
  unfold at'
  rw [outsAt0_C m c t h0 h1]
  rfl

/-- The state it leaves. -/
theorem state_C (c : Dev nD) (t : Fin cfg0.N) (h0 : ¬t.val % 16 = 0) (h1 : t.val % 16 = 15) : (at' m c t).2.2.2.2.2 = bState (iblk m c 0 t) (before' m c t).2.2.2.2.1 (iblk m c 5 t) (before' m c t).2.2.2.2.2 := by
  unfold at'
  rw [outsAt0_C m c t h0 h1]
  generalize (before' m c t).2.2.2.2.1 = wb
  generalize (before' m c t).2.2.2.2.2 = st
  dsimp only
  unfold sout0_C_1
  rw [View.read_writes_eq_canon _ _ _ (scover0_C_1 c _ _ _ _ _ _ _ _ _ _ _ _ _ _ _ _ _ _ _ _ _ _ _ _ _ _ _ _ _ _ _ _ _ _ _ _ _ _ _ _ _ _ _ _ _ _ _)]
  unfold kernelRun0_C
  dsimp only
  sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread,
    (hs0_9 t).read_unread, (Memref.isWhole_whole _).read_unread]
  rw [View.canon_cons_unit_zero zero2]
  simp only [View.ld_unit_zero (S := S512x256) zero2, View.ld_unit_zero (S := S512x2048) zero2,
    View.ld_unit_zero (S := S256x512) zero2, View.ld_unit_zero (S := S1x512) zero2,
    View.ld_unit_zero (S := S1x256x512) zero3, View.ld_unit_zero (S := S1x160x2048) zero3,
    View.ld_unit_zero (S := S1x32x2048) zero3, View.readCov_unit_zero (S := S256x512) _ zero2]
  rfl

/-- The weights of the head of point `t`, cast. -/
abbrev wOf (c : Dev nD) (t : Fin cfg0.N) := castW (X0_1 m c t) (X0_2 m c t) (X0_3 m c t) (X0_4 m c t)

/-- The state the head of point `t` starts from. -/
abbrev sOf (c : Dev nD) (t : Fin cfg0.N) : FVec Ideal S256x512 .f32 := k0_pay8 (F := Ideal) (iblk m c 7 t)

/-- The finished rows of a head's first point. -/
theorem rows_A (c : Dev nD) (t : Fin cfg0.N) (h0 : t.val % 16 = 0) (h1 : ¬t.val % 16 = 15) : (at' m c t).1 = bOut (iblk m c 0 t) (wOf m c t) (iblk m c 5 t) (iblk m c 6 t) (sOf m c t) := by
  unfold at'
  rw [outsAt0_A m c t h0 h1]
  dsimp only
  unfold out0_A_10
  rw [View.read_writes_eq_canon _ _ _ (cover0_A_10 c _ _ _ _ _ _ _ _ _ _ _ _ _ _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread,
    (hs0_9 t).read_unread, (Memref.isWhole_whole _).read_unread]
  rw [View.canon_unit_zero zero2]
  simp only [View.ld_unit_zero (S := S512x256) zero2, View.ld_unit_zero (S := S512x2048) zero2,
    View.ld_unit_zero (S := S256x512) zero2, View.ld_unit_zero (S := S1x512) zero2,
    View.ld_unit_zero (S := S1x256x512) zero3, View.ld_unit_zero (S := S1x160x2048) zero3,
    View.ld_unit_zero (S := S1x32x2048) zero3, latest (S := S256x512) _ zero2]
  have e1 := cast_load (View.whole cc0_scratch0) (X0_1 m c t) (X0_2 m c t) (X0_3 m c t) (X0_4 m c t)
    (Rect.unit (s := S1536x2048) ![0, 0] S512x2048.size inb_S1536x2048_S512x2048_0_0)
  have e2 := cast_load (View.whole cc0_scratch0) (X0_1 m c t) (X0_2 m c t) (X0_3 m c t) (X0_4 m c t)
    (Rect.unit (s := S1536x2048) ![512, 0] S1024x2048.size inb_S1536x2048_S1024x2048_512_0)
  unfold castPieces at e1 e2
  rw [e1, e2]
  unfold wOf sOf
  generalize castW (X0_1 m c t) (X0_2 m c t) (X0_3 m c t) (X0_4 m c t) = wb
  generalize k0_pay8 (F := Ideal) (iblk m c 7 t) = st
  rfl

/-- The block of mixing weights it copies. -/
theorem mix_A (c : Dev nD) (t : Fin cfg0.N) (h0 : t.val % 16 = 0) (h1 : ¬t.val % 16 = 15) : (at' m c t).2.2.1 = k0_pay28 (iblk m c 8 t) := by
  unfold at'
  rw [outsAt0_A m c t h0 h1]
  dsimp only
  unfold out0_A_12
  rw [View.read_writes_eq_canon _ _ _ (cover0_A_12 c _ _ _ _ _ _ _ _ _ _ _ _ _ _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread,
    (hs0_9 t).read_unread, (Memref.isWhole_whole _).read_unread]
  rw [View.canon_unit_zero zero2]
  simp only [View.ld_unit_zero (S := S512x256) zero2, View.ld_unit_zero (S := S512x2048) zero2,
    View.ld_unit_zero (S := S256x512) zero2, View.ld_unit_zero (S := S1x512) zero2,
    View.ld_unit_zero (S := S1x256x512) zero3, View.ld_unit_zero (S := S1x160x2048) zero3,
    View.ld_unit_zero (S := S1x32x2048) zero3, latest (S := S256x512) _ zero2]

/-- The block of output weights it copies. -/
theorem proj_A (c : Dev nD) (t : Fin cfg0.N) (h0 : t.val % 16 = 0) (h1 : ¬t.val % 16 = 15) : (at' m c t).2.2.2.1 = k0_pay29 (iblk m c 9 t) := by
  unfold at'
  rw [outsAt0_A m c t h0 h1]
  dsimp only
  unfold out0_A_13
  rw [View.read_writes_eq_canon _ _ _ (cover0_A_13 c _ _ _ _ _ _ _ _ _ _ _ _ _ _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread,
    (hs0_9 t).read_unread, (Memref.isWhole_whole _).read_unread]
  rw [View.canon_unit_zero zero2]
  simp only [View.ld_unit_zero (S := S512x256) zero2, View.ld_unit_zero (S := S512x2048) zero2,
    View.ld_unit_zero (S := S256x512) zero2, View.ld_unit_zero (S := S1x512) zero2,
    View.ld_unit_zero (S := S1x256x512) zero3, View.ld_unit_zero (S := S1x160x2048) zero3,
    View.ld_unit_zero (S := S1x32x2048) zero3, latest (S := S256x512) _ zero2]

/-- The weights it casts. -/
theorem cast_A (c : Dev nD) (t : Fin cfg0.N) (h0 : t.val % 16 = 0) (h1 : ¬t.val % 16 = 15) : (at' m c t).2.2.2.2.1 = wOf m c t := by
  unfold at'
  rw [outsAt0_A m c t h0 h1]
  dsimp only
  unfold sout0_A_0
  rw [View.read_writes_eq_canon _ _ _ (scover0_A_0 c _ _ _ _ _ _ _ _ _ _ _ _ _ _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread,
    (hs0_9 t).read_unread, (Memref.isWhole_whole _).read_unread]
  rfl

/-- The state it leaves. -/
theorem state_A (c : Dev nD) (t : Fin cfg0.N) (h0 : t.val % 16 = 0) (h1 : ¬t.val % 16 = 15) : (at' m c t).2.2.2.2.2 = bState (iblk m c 0 t) (wOf m c t) (iblk m c 5 t) (sOf m c t) := by
  unfold at'
  rw [outsAt0_A m c t h0 h1]
  dsimp only
  unfold sout0_A_1
  rw [View.read_writes_eq_canon _ _ _ (scover0_A_1 c _ _ _ _ _ _ _ _ _ _ _ _ _ _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread,
    (hs0_9 t).read_unread, (Memref.isWhole_whole _).read_unread]
  rw [View.canon_cons_unit_zero zero2]
  simp only [View.ld_unit_zero (S := S512x256) zero2, View.ld_unit_zero (S := S512x2048) zero2,
    View.ld_unit_zero (S := S256x512) zero2, View.ld_unit_zero (S := S1x512) zero2,
    View.ld_unit_zero (S := S1x256x512) zero3, View.ld_unit_zero (S := S1x160x2048) zero3,
    View.ld_unit_zero (S := S1x32x2048) zero3, latest (S := S256x512) _ zero2]
  have e1 := cast_load (View.whole cc0_scratch0) (X0_1 m c t) (X0_2 m c t) (X0_3 m c t) (X0_4 m c t)
    (Rect.unit (s := S1536x2048) ![0, 0] S512x2048.size inb_S1536x2048_S512x2048_0_0)
  have e2 := cast_load (View.whole cc0_scratch0) (X0_1 m c t) (X0_2 m c t) (X0_3 m c t) (X0_4 m c t)
    (Rect.unit (s := S1536x2048) ![512, 0] S1024x2048.size inb_S1536x2048_S1024x2048_512_0)
  unfold castPieces at e1 e2
  rw [e1, e2]
  unfold wOf sOf
  generalize castW (X0_1 m c t) (X0_2 m c t) (X0_3 m c t) (X0_4 m c t) = wb
  generalize k0_pay8 (F := Ideal) (iblk m c 7 t) = st
  rfl

end Gla

end
-- ==== Proof.Blocks.lean ====
/-
  What the blocks of a grid point hold, entry by entry, in terms of the call's arguments: point `t` works on head `t / 16`
  and on the 512 rows from `512 * (t % 16)`.
-/
module

public import proofs.«01_k».proof.Proof.Opened
public import Idealize.ShloMosaic.Lib.Pointwise
public import Idealize.ShloMosaic.Lib.Claim
public import Idealize.ShloMosaic.Lib.Pipeline.ValueKit.Point

@[expose] public section

noncomputable section

namespace Gla

open Idealize.ShloMosaic Idealize.ShloMosaic.TcCoe Cert.KernelIdeal Cert.KernelIdeal.Gen
open Idealize.ShloMosaic.Tactic

set_option maxRecDepth 16384

/-- Where the blocks of a point lie. -/
theorem places : ∀ t : Fin cfg0.N, win0_0.index t = ![t.val % 16, 0] ∧ win0_1.index t = ![0, t.val / 16, 0]
    ∧ win0_2.index t = ![0, 4 + t.val / 16, 0] ∧ win0_3.index t = ![0, 4 + t.val / 16, 0]
    ∧ win0_4.index t = ![0, 8 + t.val / 16, 0] ∧ win0_5.index t = ![t.val % 16, t.val / 16]
    ∧ win0_6.index t = ![0, t.val / 16] ∧ win0_7.index t = ![t.val / 16, 0, 0]
    ∧ win0_8.index t = ![0, 6160 + 160 * t.val, 0] ∧ win0_9.index t = ![0, t.val, 0] :=
  (by decide +kernel : ∀ t : Fin grid0.N, _)

/-- There are 64 points. -/
theorem points (t : Fin cfg0.N) : t.val < 64 := lt_of_lt_of_eq t.isLt N_0

variable (m : (ℓ : Loc nD τ sig) → Buf (Elt Ideal) ℓ) (c : Dev nD)

/-- An argument's contents. -/
abbrev argX : FVec Ideal S1x8192x2048 .f32 := m ((c : Thread nD τ).loc main_arg0)
abbrev argG : FVec Ideal S1x8192x1024 .f32 := m ((c : Thread nD τ).loc main_arg1)
abbrev argS : FVec Ideal S1x4x256x512 .f32 := m ((c : Thread nD τ).loc main_arg2)
abbrev argW : FVec Ideal S1x2048x16400 .f32 := m ((c : Thread nD τ).loc main_arg3)
abbrev argN : FVec Ideal S1x2048 .f32 := m ((c : Thread nD τ).loc main_arg4)
abbrev argO : FVec Ideal S1x2048x2048 .f32 := m ((c : Thread nD τ).loc main_arg5)

/-- The contents the call finds in each array it reads. -/
theorem host_x : V m c main_v2 = truncf (F := Ideal) .bf16 (pad S8704x2048 ![0, 0] ![512, 0] ![0, 0]
    (shapeCast S8192x2048 (argX m c) shapeCasts_S1x8192x2048_S8192x2048) (sitofp (F := Ideal) .f32 (constantI S_ 32 0#32))
    pads_S8192x2048_S8704x2048_05120_000 h_S_) bitsLt_bf16_f32 := by
  simp only [V, hostOps0, hostOps0_1, hostOps0_2, hostOps0_3, hostOps0_4, List.flatten_cons, List.flatten_nil, List.cons_append, List.nil_append]
  entry_read
  rfl

theorem host_g : V m c main_v4 = pad S8704x1024 ![0, 0] ![512, 0] ![0, 0]
    (shapeCast S8192x1024 (argG m c) shapeCasts_S1x8192x1024_S8192x1024) (sitofp (F := Ideal) .f32 (constantI S_ 32 0#32))
    pads_S8192x1024_S8704x1024_05120_000 h_S_ := by
  simp only [V, hostOps0, hostOps0_1, hostOps0_2, hostOps0_3, hostOps0_4, List.flatten_cons, List.flatten_nil, List.cons_append, List.nil_append]
  entry_read
  rfl

theorem host_w : V m c main_v5 = transpose S1x16400x2048 [0, 2, 1] (argW m c) transposes_S1x2048x16400_S1x16400x2048_0_2_1 := by
  simp only [V, hostOps0, hostOps0_1, hostOps0_2, hostOps0_3, hostOps0_4, List.flatten_cons, List.flatten_nil, List.cons_append, List.nil_append]
  entry_read
  rfl

theorem host_n : V m c main_v7 = shapeCast S1x2048 (shapeCast S2048 (argN m c) shapeCasts_S1x2048_S2048) shapeCasts_S2048_S1x2048 := by
  simp only [V, hostOps0, hostOps0_1, hostOps0_2, hostOps0_3, hostOps0_4, List.flatten_cons, List.flatten_nil, List.cons_append, List.nil_append]
  entry_read
  rfl

theorem host_s : V m c main_v8 = shapeCast S4x256x512 (argS m c) shapeCasts_S1x4x256x512_S4x256x512 := by
  simp only [V, hostOps0, hostOps0_1, hostOps0_2, hostOps0_3, hostOps0_4, List.flatten_cons, List.flatten_nil, List.cons_append, List.nil_append]
  entry_read
  rfl

/-- The block of activations. -/
theorem block_x (t : Fin cfg0.N) (r : Fin 512) (d : Fin 2048) :
    (iblk m c 0 t : FVec Ideal S512x2048 .bf16) (ix2 r d) = argX m c (ix3 0 ⟨512 * (t.val % 16) + r.val, by omega⟩ d) := by
  have hp := (places t).1
  have ht := points t
  have e : ((cfg0.win 0).blk t).view.emb (ix2 r d) = (ix2 ⟨512 * (t.val % 16) + r.val, by omega⟩ d : S8704x2048.Idx) := by
    blk_ext! [hp]
  show (V m c main_v2 : FVec Ideal S8704x2048 .bf16) (((cfg0.win 0).blk t).view.emb (ix2 r d)) = _
  rw [e, host_x]
  pointwise
  exact dif_pos (by omega)

/-- The block of log decays. -/
theorem block_g (t : Fin cfg0.N) (r : Fin 512) (a : Fin 256) :
    (iblk m c 5 t : FVec Ideal S512x256 .f32) (ix2 r a) = argG m c (ix3 0 ⟨512 * (t.val % 16) + r.val, by omega⟩ ⟨256 * (t.val / 16) + a.val, by have := points t; omega⟩) := by
  have hp := (places t).2.2.2.2.2.1
  have ht := points t
  have e : ((cfg0.win 5).blk t).view.emb (ix2 r a) = (ix2 ⟨512 * (t.val % 16) + r.val, by omega⟩ ⟨256 * (t.val / 16) + a.val, by omega⟩ : S8704x1024.Idx) := by
    blk_ext! [hp]
  show (V m c main_v4 : FVec Ideal S8704x1024 .f32) (((cfg0.win 5).blk t).view.emb (ix2 r a)) = _
  rw [e, host_g]
  pointwise
  exact dif_pos (by omega)

/-- The block of norm weights. -/
theorem block_n (t : Fin cfg0.N) (d : Fin 512) :
    (iblk m c 6 t : FVec Ideal S1x512 .f32) (ix2 0 d) = argN m c (ix2 0 ⟨512 * (t.val / 16) + d.val, by have := points t; omega⟩) := by
  have hp := (places t).2.2.2.2.2.2.1
  have ht := points t
  have e : ((cfg0.win 6).blk t).view.emb (ix2 0 d) = (ix2 0 ⟨512 * (t.val / 16) + d.val, by omega⟩ : S1x2048.Idx) := by
    blk_ext! [hp]
  show (V m c main_v7 : FVec Ideal S1x2048 .f32) (((cfg0.win 6).blk t).view.emb (ix2 0 d)) = _
  rw [e, host_n]
  pointwise

/-- The given state of the head. -/
theorem block_s (t : Fin cfg0.N) (a : Fin 256) (d : Fin 512) :
    (iblk m c 7 t : FVec Ideal S1x256x512 .f32) (ix3 0 a d) = argS m c (ix4 0 ⟨t.val / 16, by have := points t; omega⟩ a d) := by
  have hp := (places t).2.2.2.2.2.2.2.1
  have ht := points t
  have e : ((cfg0.win 7).blk t).view.emb (ix3 0 a d) = (ix3 ⟨t.val / 16, by omega⟩ a d : S4x256x512.Idx) := by
    blk_ext! [hp]
  show (V m c main_v8 : FVec Ideal S4x256x512 .f32) (((cfg0.win 7).blk t).view.emb (ix3 0 a d)) = _
  rw [e, host_s]
  pointwise

/-- The head's query weights. -/
theorem block_q (t : Fin cfg0.N) (j : Fin 256) (d : Fin 2048) :
    (X0_1 m c t : FVec Ideal S1x256x2048 .f32) (ix3 0 j d) = argW m c (ix3 0 d ⟨256 * (t.val / 16) + j.val, by have := points t; omega⟩) := by
  have hp := (places t).2.1
  have ht := points t
  have e : ∀ y : ((cfg0.win 1).xblock (cfg0.grid.coords t)).Idx, (y 1).val = j.val → (y 2).val = d.val →
      ((cfg0.win 1).blk t).view.emb y = (ix3 0 ⟨256 * (t.val / 16) + j.val, by omega⟩ d : S1x16400x2048.Idx) := by
    intro y e1 e2
    have h1 : win0_1.index t (1 : Fin 3) = t.val / 16 := congrFun hp 1
    have h2 : win0_1.index t (2 : Fin 3) = 0 := congrFun hp 2
    funext a
    apply Fin.ext
    match a with
    | ⟨0, _⟩ => exact (Nat.lt_one_iff.mp (Fin.isLt _)).trans (Nat.lt_one_iff.mp (Fin.isLt _)).symm
    | ⟨1, _⟩ =>
      show win0_1.index t (1 : Fin 3) * 256 + 1 * (y 1).val = 256 * (t.val / 16) + j.val
      omega
    | ⟨2, _⟩ =>
      show win0_1.index t (2 : Fin 3) * 2048 + 1 * (y 2).val = d.val
      omega
  unfold X0_1 Pipeline.Window.fill
  rw [dif_pos (moved0_1 t _)]
  show (V m c main_v5 : FVec Ideal S1x16400x2048 .f32) (((cfg0.win 1).blk t).view.emb _) = _
  rw [e _ rfl rfl, host_w]
  pointwise

/-- The head's key weights. -/
theorem block_k (t : Fin cfg0.N) (j : Fin 256) (d : Fin 2048) :
    (X0_2 m c t : FVec Ideal S1x256x2048 .f32) (ix3 0 j d) = argW m c (ix3 0 d ⟨1024 + 256 * (t.val / 16) + j.val, by have := points t; omega⟩) := by
  have hp := (places t).2.2.1
  have ht := points t
  have e : ∀ y : ((cfg0.win 2).xblock (cfg0.grid.coords t)).Idx, (y 1).val = j.val → (y 2).val = d.val →
      ((cfg0.win 2).blk t).view.emb y = (ix3 0 ⟨1024 + 256 * (t.val / 16) + j.val, by omega⟩ d : S1x16400x2048.Idx) := by
    intro y e1 e2
    have h1 : win0_2.index t (1 : Fin 3) = 4 + t.val / 16 := congrFun hp 1
    have h2 : win0_2.index t (2 : Fin 3) = 0 := congrFun hp 2
    funext a
    apply Fin.ext
    match a with
    | ⟨0, _⟩ => exact (Nat.lt_one_iff.mp (Fin.isLt _)).trans (Nat.lt_one_iff.mp (Fin.isLt _)).symm
    | ⟨1, _⟩ =>
      show win0_2.index t (1 : Fin 3) * 256 + 1 * (y 1).val = 1024 + 256 * (t.val / 16) + j.val
      omega
    | ⟨2, _⟩ =>
      show win0_2.index t (2 : Fin 3) * 2048 + 1 * (y 2).val = d.val
      omega
  unfold X0_2 Pipeline.Window.fill
  rw [dif_pos (moved0_2 t _)]
  show (V m c main_v5 : FVec Ideal S1x16400x2048 .f32) (((cfg0.win 2).blk t).view.emb _) = _
  rw [e _ rfl rfl, host_w]
  pointwise

/-- The head's value weights. -/
theorem block_v (t : Fin cfg0.N) (j : Fin 512) (d : Fin 2048) :
    (X0_3 m c t : FVec Ideal S1x512x2048 .f32) (ix3 0 j d) = argW m c (ix3 0 d ⟨2048 + 512 * (t.val / 16) + j.val, by have := points t; omega⟩) := by
  have hp := (places t).2.2.2.1
  have ht := points t
  have e : ∀ y : ((cfg0.win 3).xblock (cfg0.grid.coords t)).Idx, (y 1).val = j.val → (y 2).val = d.val →
      ((cfg0.win 3).blk t).view.emb y = (ix3 0 ⟨2048 + 512 * (t.val / 16) + j.val, by omega⟩ d : S1x16400x2048.Idx) := by
    intro y e1 e2
    have h1 : win0_3.index t (1 : Fin 3) = 4 + t.val / 16 := congrFun hp 1
    have h2 : win0_3.index t (2 : Fin 3) = 0 := congrFun hp 2
    funext a
    apply Fin.ext
    match a with
    | ⟨0, _⟩ => exact (Nat.lt_one_iff.mp (Fin.isLt _)).trans (Nat.lt_one_iff.mp (Fin.isLt _)).symm
    | ⟨1, _⟩ =>
      show win0_3.index t (1 : Fin 3) * 512 + 1 * (y 1).val = 2048 + 512 * (t.val / 16) + j.val
      omega
    | ⟨2, _⟩ =>
      show win0_3.index t (2 : Fin 3) * 2048 + 1 * (y 2).val = d.val
      omega
  unfold X0_3 Pipeline.Window.fill
  rw [dif_pos (moved0_3 t _)]
  show (V m c main_v5 : FVec Ideal S1x16400x2048 .f32) (((cfg0.win 3).blk t).view.emb _) = _
  rw [e _ rfl rfl, host_w]
  pointwise

/-- The head's gate weights. -/
theorem block_r (t : Fin cfg0.N) (j : Fin 512) (d : Fin 2048) :
    (X0_4 m c t : FVec Ideal S1x512x2048 .f32) (ix3 0 j d) = argW m c (ix3 0 d ⟨4096 + 512 * (t.val / 16) + j.val, by have := points t; omega⟩) := by
  have hp := (places t).2.2.2.2.1
  have ht := points t
  have e : ∀ y : ((cfg0.win 4).xblock (cfg0.grid.coords t)).Idx, (y 1).val = j.val → (y 2).val = d.val →
      ((cfg0.win 4).blk t).view.emb y = (ix3 0 ⟨4096 + 512 * (t.val / 16) + j.val, by omega⟩ d : S1x16400x2048.Idx) := by
    intro y e1 e2
    have h1 : win0_4.index t (1 : Fin 3) = 8 + t.val / 16 := congrFun hp 1
    have h2 : win0_4.index t (2 : Fin 3) = 0 := congrFun hp 2
    funext a
    apply Fin.ext
    match a with
    | ⟨0, _⟩ => exact (Nat.lt_one_iff.mp (Fin.isLt _)).trans (Nat.lt_one_iff.mp (Fin.isLt _)).symm
    | ⟨1, _⟩ =>
      show win0_4.index t (1 : Fin 3) * 512 + 1 * (y 1).val = 4096 + 512 * (t.val / 16) + j.val
      omega
    | ⟨2, _⟩ =>
      show win0_4.index t (2 : Fin 3) * 2048 + 1 * (y 2).val = d.val
      omega
  unfold X0_4 Pipeline.Window.fill
  rw [dif_pos (moved0_4 t _)]
  show (V m c main_v5 : FVec Ideal S1x16400x2048 .f32) (((cfg0.win 4).blk t).view.emb _) = _
  rw [e _ rfl rfl, host_w]
  pointwise

/-- The block of mixing weights. -/
theorem block_m (t : Fin cfg0.N) (j : Fin 160) (d : Fin 2048) :
    (iblk m c 8 t : FVec Ideal S1x160x2048 .f32) (ix3 0 j d) = argW m c (ix3 0 d ⟨6160 + 160 * t.val + j.val, by have := points t; omega⟩) := by
  have hp := (places t).2.2.2.2.2.2.2.2.1
  have ht := points t
  have e : ((cfg0.win 8).blk t).view.emb (ix3 0 j d) = (ix3 0 ⟨6160 + 160 * t.val + j.val, by omega⟩ d : S1x16400x2048.Idx) := by
    have h0 : win0_8.index t (0 : Fin 3) = 0 := congrFun hp 0
    have h1 : win0_8.index t (1 : Fin 3) = 6160 + 160 * t.val := congrFun hp 1
    have h2 : win0_8.index t (2 : Fin 3) = 0 := congrFun hp 2
    funext a
    apply Fin.ext
    match a with
    | ⟨0, _⟩ => exact Nat.lt_one_iff.mp (Fin.isLt _)
    | ⟨1, _⟩ =>
      show win0_8.index t (1 : Fin 3) + 1 * j.val = 6160 + 160 * t.val + j.val
      omega
    | ⟨2, _⟩ =>
      show win0_8.index t (2 : Fin 3) + 1 * d.val = d.val
      omega
  show (V m c main_v5 : FVec Ideal S1x16400x2048 .f32) (((cfg0.win 8).blk t).view.emb (ix3 0 j d)) = _
  rw [e, host_w]
  pointwise

/-- The block of output weights. -/
theorem block_o (t : Fin cfg0.N) (j : Fin 32) (d : Fin 2048) :
    (iblk m c 9 t : FVec Ideal S1x32x2048 .f32) (ix3 0 j d) = argO m c (ix3 0 ⟨32 * t.val + j.val, by have := points t; omega⟩ d) := by
  have hp := (places t).2.2.2.2.2.2.2.2.2
  have ht := points t
  have e : ((cfg0.win 9).blk t).view.emb (ix3 0 j d) = (ix3 0 ⟨32 * t.val + j.val, by omega⟩ d : S1x2048x2048.Idx) := by
    blk_ext! [hp]
  show (V m c main_arg5 : FVec Ideal S1x2048x2048 .f32) (((cfg0.win 9).blk t).view.emb (ix3 0 j d)) = _
  rw [e, V_main_arg5]

end Gla

end
-- ==== Proof.Fold.lean ====
/-
  The prompt attention call at the extended reals, point by point: with finite arguments the state a point leaves is the
  recurrence's state after its rows, and its finished rows are the recurrence's outputs, normalised and gated.
-/
module

public import proofs.«01_k».proof.Proof.Blocks
public import proofs.«01_k».proof.Proof.Tokens

@[expose] public section

noncomputable section

namespace Gla

open Idealize.ShloMosaic Idealize.ShloMosaic.TcCoe Cert.KernelIdeal Cert.KernelIdeal.Gen
open Idealize.ShloMosaic.Tactic

set_option maxRecDepth 16384

/-- The column of the input projection that row `j` of head `h`'s cast weights holds. -/
def headCol (h j : ℕ) : ℕ :=
  if j < 256 then 256 * h + j else if j < 512 then 1024 + 256 * h + (j - 256)
  else if j < 1024 then 2048 + 512 * h + (j - 512) else 4096 + 512 * h + (j - 1024)

section Local

variable {x : FVec Ideal S512x2048 .bf16} {w : Vec Ideal S1536x2048 .bf16} {X : ℕ → Fin 2048 → ℝ} {W : ℕ → Fin 2048 → ℝ}
  {h t0 : ℕ}

/-- The block's rows are tokens `t0` on. -/
def Tokens (x : FVec Ideal S512x2048 .bf16) (X : ℕ → Fin 2048 → ℝ) (t0 : ℕ) : Prop :=
  ∀ (r : Fin 512) (d : Fin 2048), x (ix2 r d) = ((X (t0 + r) d : ℝ) : EReal)

/-- The cast weights are head `h`'s. -/
def Weights (w : Vec Ideal S1536x2048 .bf16) (W : ℕ → Fin 2048 → ℝ) (h : ℕ) : Prop :=
  ∀ (j : Fin 1536) (d : Fin 2048), w (ix2 j d) = ((W (headCol h j) d : ℝ) : EReal)

theorem rows_q (hx : Tokens x X t0) (hw : Weights w W h) : IsRows (bQ x w) (fun r => qh X W h (t0 + r)) := by
  intro r a
  have e : ∀ d, x (ix2 r d) * w (ix2 ⟨a.val, by omega⟩ d) = ((X (t0 + r) d * W (256 * h + a) d : ℝ) : EReal) := by
    intro d
    rw [hx r d, hw ⟨a.val, by omega⟩ d, EReal.coe_mul, show headCol h a.val = 256 * h + a.val from if_pos a.isLt]
  unfold qh prod
  rw [EReal.coe_mul, ← sixteenth, coe_sum]
  pointwise [bQ, k0_pay36, k0_pay24, k0_pay22, k0_pay21, wqk]
  exact congrArg₂ _ (Finset.sum_congr rfl fun d _ => e d) rfl

theorem rows_k (hx : Tokens x X t0) (hw : Weights w W h) : IsRows (bK x w) (fun r => kh X W h (t0 + r)) := by
  intro r a
  have e : ∀ d, x (ix2 r d) * w (ix2 ⟨256 + a.val, by omega⟩ d) = ((X (t0 + r) d * W (1024 + 256 * h + a) d : ℝ) : EReal) := by
    intro d
    rw [hx r d, hw ⟨256 + a.val, by omega⟩ d, EReal.coe_mul,
      show headCol h (256 + a.val) = 1024 + 256 * h + a.val by unfold headCol; split_ifs <;> omega]
  unfold kh prod
  rw [coe_sum]
  pointwise [bK, k0_pay25, k0_pay22, k0_pay21, wqk]
  exact Finset.sum_congr rfl fun d _ => e d

theorem rows_v (hx : Tokens x X t0) (hw : Weights w W h) (r b : Fin 512) : bV x w (ix2 r b) = ((vh X W h (t0 + r) b : ℝ) : EReal) := by
  have e : ∀ d, x (ix2 r d) * w (ix2 ⟨512 + b.val, by omega⟩ d) = ((X (t0 + r) d * W (2048 + 512 * h + b) d : ℝ) : EReal) := by
    intro d
    rw [hx r d, hw ⟨512 + b.val, by omega⟩ d, EReal.coe_mul,
      show headCol h (512 + b.val) = 2048 + 512 * h + b.val by unfold headCol; split_ifs <;> omega]
  unfold vh prod
  rw [coe_sum]
  pointwise [bV, k0_pay26, k0_pay23, k0_pay21, wvr]
  exact Finset.sum_congr rfl fun d _ => e d

theorem rows_r (hx : Tokens x X t0) (hw : Weights w W h) (r b : Fin 512) : bR x w (ix2 r b) = ((rh X W h (t0 + r) b : ℝ) : EReal) := by
  have e : ∀ d, x (ix2 r d) * w (ix2 ⟨512 + (512 + b.val), by omega⟩ d) = ((X (t0 + r) d * W (4096 + 512 * h + b) d : ℝ) : EReal) := by
    intro d
    rw [hx r d, hw ⟨512 + (512 + b.val), by omega⟩ d, EReal.coe_mul,
      show headCol h (512 + (512 + b.val)) = 4096 + 512 * h + b.val by unfold headCol; split_ifs <;> omega]
  unfold rh prod
  rw [coe_sum]
  pointwise [bR, k0_pay27, k0_pay23, k0_pay21, wvr]
  exact Finset.sum_congr rfl fun d _ => e d

variable {g : FVec Ideal S512x256 .f32} {G : ℕ → ℕ → ℝ} {n : FVec Ideal S1x512 .f32} {s : FVec Ideal S256x512 .f32}
  {S : Fin 256 → Fin 512 → ℝ}

/-- A block's state and finished rows. -/
theorem block_state (hx : Tokens x X t0) (hw : Weights w W h) (hg : IsRows g (fun r => gh G h (t0 + r)))
    (hs : ∀ a b, s (ix2 a b) = ((state (kh X W h) (gh G h) (vh X W h) S t0 a b : ℝ) : EReal)) (a : Fin 256) (b : Fin 512) :
    bState x w g s (ix2 a b) = ((state (kh X W h) (gh G h) (vh X W h) S (t0 + 512) a b : ℝ) : EReal) := by
  have hb : IsRows (bB g) (upto fun r => gh G h (t0 + r)) := decays _ _ hg
  rw [← state_shift]
  refine last_at (rows_k hx hw) hb (rows_v hx hw) ?_ a b
  intro a b
  pointwise [k0_pay59]
  exact mid_at (rows_k hx hw) hb (rows_v hx hw) hs a b

theorem block_out (hx : Tokens x X t0) (hw : Weights w W h) (hg : IsRows g (fun r => gh G h (t0 + r)))
    (hs : ∀ a b, s (ix2 a b) = ((state (kh X W h) (gh G h) (vh X W h) S t0 a b : ℝ) : EReal)) (r b : Fin 512) :
    bOut x w g n s (ix2 r b) = finish (out (qh X W h) (kh X W h) (gh G h) (vh X W h) S (t0 + r)) (rh X W h (t0 + r) b : ℝ) (n (ix2 0 b)) b := by
  have hb : IsRows (bB g) (upto fun r => gh G h (t0 + r)) := decays _ _ hg
  have hg' : IsRows (k0_pay30 g) (fun r => gh G h (t0 + r)) := by
    intro r a
    pointwise [k0_pay30]
    exact hg r a
  rw [← out_shift, ← rows_r hx hw]
  refine finished_at (rows_q hx hw) (rows_k hx hw) hb hg' (rows_v hx hw) hs _ _ _ ?_ r b
  intro a b
  pointwise [k0_pay59]
  exact mid_at (rows_k hx hw) hb (rows_v hx hw) hs a b

end Local

section Points

variable (m : (ℓ : Loc nD τ sig) → Buf (Elt Ideal) ℓ) (c : Dev nD)

/-- The call's arguments are finite: they hold the real arrays `X`, `G`, `S` and (by column) `W`. -/
structure Reals (X : ℕ → Fin 2048 → ℝ) (G : ℕ → ℕ → ℝ) (S : ℕ → Fin 256 → Fin 512 → ℝ) (W : ℕ → Fin 2048 → ℝ) : Prop where
  x : ∀ (r : Fin 8192) (d : Fin 2048), argX m c (ix3 0 r d) = ((X r d : ℝ) : EReal)
  g : ∀ (r : Fin 8192) (a : Fin 1024), argG m c (ix3 0 r a) = ((G r a : ℝ) : EReal)
  s : ∀ (h : Fin 4) (a : Fin 256) (b : Fin 512), argS m c (ix4 0 h a b) = ((S h a b : ℝ) : EReal)
  w : ∀ (d : Fin 2048) (j : Fin 16400), argW m c (ix3 0 d j) = ((W j d : ℝ) : EReal)

variable {m c} {X : ℕ → Fin 2048 → ℝ} {G : ℕ → ℕ → ℝ} {S : ℕ → Fin 256 → Fin 512 → ℝ} {W : ℕ → Fin 2048 → ℝ}

/-- The weights a head's first point casts are the head's. -/
theorem cast_weights (H : Reals m c X G S W) (t : Fin cfg0.N) : Weights (wOf m c t) W (t.val / 16) := by
  have ht := points t
  intro j d
  refine View.canon_apply_of_pieces (Val := Elt Ideal) (fun y : S1536x2048.Idx => ((W (headCol (t.val / 16) (y 0).val) (y 1) : ℝ) : EReal))
    _ ?_ (ix2 j d) (castPieces_cover _ _ _ _ _)
  unfold castPieces
  intro p hp
  simp only [List.mem_cons, List.not_mem_nil, or_false] at hp
  rcases hp with rfl | rfl | rfl | rfl | rfl | rfl
  · intro z
    obtain ⟨j, d, rfl⟩ : ∃ (j : Fin 256) (d : Fin 2048), z = ix2 j d := ⟨z 0, z 1, by funext a; fin_cases a <;> rfl⟩
    have e0 : ((Rect.unit (s := S1536x2048) ![1280, 0] S256x2048.size inb_S1536x2048_S256x2048_1280_0).emb (ix2 j d) 0).val = 1280 + j.val := by
      show 1280 + 1 * j.val = _
      omega
    have e1 : (Rect.unit (s := S1536x2048) ![1280, 0] S256x2048.size inb_S1536x2048_S256x2048_1280_0).emb (ix2 j d) 1 = d := by
      apply Fin.ext
      show 0 + 1 * d.val = d.val
      omega
    have e2 : headCol (t.val / 16) (1280 + j.val) = 4096 + 512 * (t.val / 16) + (256 + j.val) := by unfold headCol; split_ifs <;> omega
    have e := (block_r m c t ⟨(256 + j.val), by omega⟩ d).trans (H.w d ⟨4096 + 512 * (t.val / 16) + (256 + j.val), by omega⟩)
    dsimp only
    rw [e0, e1, e2]
    pointwise [k0_pay7]
    exact e
  · intro z
    obtain ⟨j, d, rfl⟩ : ∃ (j : Fin 256) (d : Fin 2048), z = ix2 j d := ⟨z 0, z 1, by funext a; fin_cases a <;> rfl⟩
    have e0 : ((Rect.unit (s := S1536x2048) ![1024, 0] S256x2048.size inb_S1536x2048_S256x2048_1024_0).emb (ix2 j d) 0).val = 1024 + j.val := by
      show 1024 + 1 * j.val = _
      omega
    have e1 : (Rect.unit (s := S1536x2048) ![1024, 0] S256x2048.size inb_S1536x2048_S256x2048_1024_0).emb (ix2 j d) 1 = d := by
      apply Fin.ext
      show 0 + 1 * d.val = d.val
      omega
    have e2 : headCol (t.val / 16) (1024 + j.val) = 4096 + 512 * (t.val / 16) + j.val := by unfold headCol; split_ifs <;> omega
    have e := (block_r m c t ⟨j.val, by omega⟩ d).trans (H.w d ⟨4096 + 512 * (t.val / 16) + j.val, by omega⟩)
    dsimp only
    rw [e0, e1, e2]
    pointwise [k0_pay6]
    exact e
  · intro z
    obtain ⟨j, d, rfl⟩ : ∃ (j : Fin 256) (d : Fin 2048), z = ix2 j d := ⟨z 0, z 1, by funext a; fin_cases a <;> rfl⟩
    have e0 : ((Rect.unit (s := S1536x2048) ![768, 0] S256x2048.size inb_S1536x2048_S256x2048_768_0).emb (ix2 j d) 0).val = 768 + j.val := by
      show 768 + 1 * j.val = _
      omega
    have e1 : (Rect.unit (s := S1536x2048) ![768, 0] S256x2048.size inb_S1536x2048_S256x2048_768_0).emb (ix2 j d) 1 = d := by
      apply Fin.ext
      show 0 + 1 * d.val = d.val
      omega
    have e2 : headCol (t.val / 16) (768 + j.val) = 2048 + 512 * (t.val / 16) + (256 + j.val) := by unfold headCol; split_ifs <;> omega
    have e := (block_v m c t ⟨(256 + j.val), by omega⟩ d).trans (H.w d ⟨2048 + 512 * (t.val / 16) + (256 + j.val), by omega⟩)
    dsimp only
    rw [e0, e1, e2]
    pointwise [k0_pay5]
    exact e
  · intro z
    obtain ⟨j, d, rfl⟩ : ∃ (j : Fin 256) (d : Fin 2048), z = ix2 j d := ⟨z 0, z 1, by funext a; fin_cases a <;> rfl⟩
    have e0 : ((Rect.unit (s := S1536x2048) ![512, 0] S256x2048.size inb_S1536x2048_S256x2048_512_0).emb (ix2 j d) 0).val = 512 + j.val := by
      show 512 + 1 * j.val = _
      omega
    have e1 : (Rect.unit (s := S1536x2048) ![512, 0] S256x2048.size inb_S1536x2048_S256x2048_512_0).emb (ix2 j d) 1 = d := by
      apply Fin.ext
      show 0 + 1 * d.val = d.val
      omega
    have e2 : headCol (t.val / 16) (512 + j.val) = 2048 + 512 * (t.val / 16) + j.val := by unfold headCol; split_ifs <;> omega
    have e := (block_v m c t ⟨j.val, by omega⟩ d).trans (H.w d ⟨2048 + 512 * (t.val / 16) + j.val, by omega⟩)
    dsimp only
    rw [e0, e1, e2]
    pointwise [k0_pay4]
    exact e
  · intro z
    obtain ⟨j, d, rfl⟩ : ∃ (j : Fin 256) (d : Fin 2048), z = ix2 j d := ⟨z 0, z 1, by funext a; fin_cases a <;> rfl⟩
    have e0 : ((Rect.unit (s := S1536x2048) ![256, 0] S256x2048.size inb_S1536x2048_S256x2048_256_0).emb (ix2 j d) 0).val = 256 + j.val := by
      show 256 + 1 * j.val = _
      omega
    have e1 : (Rect.unit (s := S1536x2048) ![256, 0] S256x2048.size inb_S1536x2048_S256x2048_256_0).emb (ix2 j d) 1 = d := by
      apply Fin.ext
      show 0 + 1 * d.val = d.val
      omega
    have e2 : headCol (t.val / 16) (256 + j.val) = 1024 + 256 * (t.val / 16) + j.val := by unfold headCol; split_ifs <;> omega
    have e := (block_k m c t ⟨j.val, by omega⟩ d).trans (H.w d ⟨1024 + 256 * (t.val / 16) + j.val, by omega⟩)
    dsimp only
    rw [e0, e1, e2]
    pointwise [k0_pay3]
    exact e
  · intro z
    obtain ⟨j, d, rfl⟩ : ∃ (j : Fin 256) (d : Fin 2048), z = ix2 j d := ⟨z 0, z 1, by funext a; fin_cases a <;> rfl⟩
    have e0 : ((Rect.unit (s := S1536x2048) ![0, 0] S256x2048.size inb_S1536x2048_S256x2048_0_0).emb (ix2 j d) 0).val = 0 + j.val := by
      show 0 + 1 * j.val = _
      omega
    have e1 : (Rect.unit (s := S1536x2048) ![0, 0] S256x2048.size inb_S1536x2048_S256x2048_0_0).emb (ix2 j d) 1 = d := by
      apply Fin.ext
      show 0 + 1 * d.val = d.val
      omega
    have e2 : headCol (t.val / 16) (0 + j.val) = 256 * (t.val / 16) + j.val := by unfold headCol; split_ifs <;> omega
    have e := (block_q m c t ⟨j.val, by omega⟩ d).trans (H.w d ⟨256 * (t.val / 16) + j.val, by omega⟩)
    dsimp only
    rw [e0, e1, e2]
    pointwise [k0_pay2]
    exact e

/-- The state a head starts from. -/
theorem given_state (H : Reals m c X G S W) (t : Fin cfg0.N) (a : Fin 256) (b : Fin 512) :
    sOf m c t (ix2 a b) = ((S (t.val / 16) a b : ℝ) : EReal) := by
  have ht := points t
  have e := (block_s m c t a b).trans (H.s ⟨t.val / 16, by omega⟩ a b)
  pointwise [sOf, k0_pay8]
  exact e

/-- The rows of a point are the tokens from `512 * (t % 16)`. -/
theorem point_tokens (H : Reals m c X G S W) (t : Fin cfg0.N) : Tokens (iblk m c 0 t) X (512 * (t.val % 16)) :=
  fun r d => (block_x m c t r d).trans (H.x _ d)

theorem point_decays (H : Reals m c X G S W) (t : Fin cfg0.N) :
    IsRows (φ := .f32) (iblk m c 5 t) (fun r => gh G (t.val / 16) (512 * (t.val % 16) + r)) :=
  fun r a => (block_g m c t r a).trans (H.g _ _)

/-- What a point leaves in the two scratches: its head's weights, and the state after its rows. -/
theorem carried (H : Reals m c X G S W) (k : ℕ) (hk : k < cfg0.N) :
    Weights (at' m c ⟨k, hk⟩).2.2.2.2.1 W (k / 16) ∧ ∀ a b, (at' m c ⟨k, hk⟩).2.2.2.2.2 (ix2 a b)
      = ((state (kh X W (k / 16)) (gh G (k / 16)) (vh X W (k / 16)) (S (k / 16)) (512 * (k % 16) + 512) a b : ℝ) : EReal) := by
  induction k with
  | zero =>
    refine ⟨?_, fun a b => ?_⟩
    · rw [cast_A m c ⟨0, hk⟩ (Nat.zero_mod 16) (by show ¬0 % 16 = 15; decide)]
      exact cast_weights H _
    · rw [state_A m c ⟨0, hk⟩ (Nat.zero_mod 16) (by show ¬0 % 16 = 15; decide)]
      exact block_state (point_tokens H _) (cast_weights H _) (point_decays H _) (given_state H _) a b
  | succ k ih =>
    obtain ⟨ihw, ihs⟩ := ih (by omega)
    by_cases h0 : (k + 1) % 16 = 0
    · have h1 : ¬(k + 1) % 16 = 15 := by omega
      refine ⟨?_, fun a b => ?_⟩
      · rw [cast_A m c ⟨k + 1, hk⟩ h0 h1]
        exact cast_weights H _
      · rw [state_A m c ⟨k + 1, hk⟩ h0 h1]
        refine block_state (point_tokens H _) (cast_weights H _) (point_decays H _) ?_ a b
        intro a b
        rw [given_state H]
        dsimp only
        rw [h0]
        rfl
    · have eh : (k + 1) / 16 = k / 16 := by omega
      have er : 512 * ((k + 1) % 16) = 512 * (k % 16) + 512 := by omega
      have hw : Weights (before' m c ⟨k + 1, hk⟩).2.2.2.2.1 W ((k + 1) / 16) := by rw [eh]; exact ihw
      have hs : ∀ a b, (before' m c ⟨k + 1, hk⟩).2.2.2.2.2 (ix2 a b) = ((state (kh X W ((k + 1) / 16)) (gh G ((k + 1) / 16))
          (vh X W ((k + 1) / 16)) (S ((k + 1) / 16)) (512 * ((k + 1) % 16)) a b : ℝ) : EReal) := by rw [eh, er]; exact ihs
      by_cases h1 : (k + 1) % 16 = 15
      · refine ⟨?_, fun a b => ?_⟩
        · rw [cast_C m c ⟨k + 1, hk⟩ h0 h1]
          exact hw
        · rw [state_C m c ⟨k + 1, hk⟩ h0 h1]
          exact block_state (point_tokens H _) hw (point_decays H _) hs a b
      · refine ⟨?_, fun a b => ?_⟩
        · rw [cast_B m c ⟨k + 1, hk⟩ h0 h1]
          exact hw
        · rw [state_B m c ⟨k + 1, hk⟩ h0 h1]
          exact block_state (point_tokens H _) hw (point_decays H _) hs a b

/-- What a later point of a head finds in the scratches. -/
theorem found (H : Reals m c X G S W) (t : Fin cfg0.N) (h0 : ¬t.val % 16 = 0) :
    Weights (before' m c t).2.2.2.2.1 W (t.val / 16) ∧ ∀ a b, (before' m c t).2.2.2.2.2 (ix2 a b)
      = ((state (kh X W (t.val / 16)) (gh G (t.val / 16)) (vh X W (t.val / 16)) (S (t.val / 16)) (512 * (t.val % 16)) a b : ℝ) : EReal) := by
  have h := carried H (t.val - 1) (Nat.lt_of_le_of_lt (Nat.sub_le _ _) t.isLt)
  have e1 : (t.val - 1) / 16 = t.val / 16 := by omega
  have e2 : 512 * ((t.val - 1) % 16) + 512 = 512 * (t.val % 16) := by omega
  rw [e1, e2] at h
  exact h

/-- The finished rows of a point. -/
theorem point_rows (H : Reals m c X G S W) (t : Fin cfg0.N) (r b : Fin 512) :
    (at' m c t).1 (ix2 r b) = finish (out (qh X W (t.val / 16)) (kh X W (t.val / 16)) (gh G (t.val / 16)) (vh X W (t.val / 16))
      (S (t.val / 16)) (512 * (t.val % 16) + r)) (rh X W (t.val / 16) (512 * (t.val % 16) + r) b : ℝ)
      (argN m c (ix2 0 ⟨512 * (t.val / 16) + b.val, by have := points t; omega⟩)) b := by
  rw [← block_n m c t b]
  by_cases h0 : t.val % 16 = 0
  · have h1 : ¬t.val % 16 = 15 := by omega
    rw [rows_A m c t h0 h1]
    refine block_out (point_tokens H t) (cast_weights H t) (point_decays H t) ?_ r b
    intro a b
    rw [given_state H, h0]
    rfl
  · obtain ⟨hw, hs⟩ := found H t h0
    by_cases h1 : t.val % 16 = 15
    · rw [rows_C m c t h0 h1]
      exact block_out (point_tokens H t) hw (point_decays H t) hs r b
    · rw [rows_B m c t h0 h1]
      exact block_out (point_tokens H t) hw (point_decays H t) hs r b

/-- The state a head's last point writes. -/
theorem point_final (H : Reals m c X G S W) (t : Fin cfg0.N) (h1 : t.val % 16 = 15) (a : Fin 256) (b : Fin 512) :
    (at' m c t).2.1 (ix3 0 a b)
      = ((state (kh X W (t.val / 16)) (gh G (t.val / 16)) (vh X W (t.val / 16)) (S (t.val / 16)) 8192 a b : ℝ) : EReal) := by
  have h0 : ¬t.val % 16 = 0 := by omega
  obtain ⟨hw, hs⟩ := found H t h0
  have e := block_state (point_tokens H t) hw (point_decays H t) hs a b
  rw [h1] at e
  rw [final_C m c t h0 h1]
  pointwise [k0_pay1]
  exact e

/-- The copied blocks of weights. -/
theorem point_mix (t : Fin cfg0.N) (j : Fin 160) (d : Fin 2048) :
    (at' m c t).2.2.1 (ix2 j d) = argW m c (ix3 0 d ⟨6160 + 160 * t.val + j.val, by have := points t; omega⟩) := by
  have e : (at' m c t).2.2.1 = k0_pay28 (F := Ideal) (iblk m c 8 t) := by
    by_cases h0 : t.val % 16 = 0
    · exact mix_A m c t h0 (by omega)
    · by_cases h1 : t.val % 16 = 15
      · exact mix_C m c t h0 h1
      · exact mix_B m c t h0 h1
  rw [e, ← block_m m c t j d]
  pointwise [k0_pay28]

theorem point_proj (t : Fin cfg0.N) (j : Fin 32) (d : Fin 2048) :
    (at' m c t).2.2.2.1 (ix2 j d) = argO m c (ix3 0 ⟨32 * t.val + j.val, by have := points t; omega⟩ d) := by
  have e : (at' m c t).2.2.2.1 = k0_pay29 (F := Ideal) (iblk m c 9 t) := by
    by_cases h0 : t.val % 16 = 0
    · exact proj_A m c t h0 (by omega)
    · by_cases h1 : t.val % 16 = 15
      · exact proj_C m c t h0 h1
      · exact proj_B m c t h0 h1
  rw [e, ← block_o m c t j d]
  pointwise [k0_pay29]

/-- The four results, entry by entry. -/
theorem result_y (H : Reals m c X G S W) (r : Fin 8192) (e : Fin 2048) :
    Value.G10 m c (ix2 r e) = finish (out (qh X W (e.val / 512)) (kh X W (e.val / 512)) (gh G (e.val / 512)) (vh X W (e.val / 512))
      (S (e.val / 512)) r) (rh X W (e.val / 512) r ⟨e.val % 512, by omega⟩ : ℝ) (argN m c (ix2 0 e)) ⟨e.val % 512, by omega⟩ := by
  have hN := N_0
  have hp : r.val / 512 + 16 * (e.val / 512) < cfg0.N := by
    have : cfg0.N = 64 := hN
    omega
  have h := point_rows H ⟨r.val / 512 + 16 * (e.val / 512), hp⟩ ⟨r.val % 512, by omega⟩ ⟨e.val % 512, by omega⟩
  have e1 : (r.val / 512 + 16 * (e.val / 512)) / 16 = e.val / 512 := by omega
  have e2 : 512 * ((r.val / 512 + 16 * (e.val / 512)) % 16) + r.val % 512 = r.val := by omega
  have e3 : (⟨512 * ((r.val / 512 + 16 * (e.val / 512)) / 16) + e.val % 512, by omega⟩ : Fin 2048) = e := by
    apply Fin.ext
    show 512 * ((r.val / 512 + 16 * (e.val / 512)) / 16) + e.val % 512 = e.val
    omega
  dsimp only at h
  rw [e3, e2, e1] at h
  rw [← h]
  have ep : Value.pt10Of (ix2 r e) = r.val / 512 + 16 * (e.val / 512) := by
    show 1 * (r.val / 512 - 0) + 16 * (e.val / 512 - 0) = _
    omega
  unfold Value.G10
  rw [dif_pos (by rw [ep]; exact hp)]
  unfold at'
  rw [Value.outsAt0_sweep, Value.fold0_congr m c _ _ _ _ ep]
  refine congrArg _ ?_
  funext a
  fin_cases a <;> rfl

theorem result_state (H : Reals m c X G S W) (h : Fin 4) (a : Fin 256) (b : Fin 512) :
    Value.G11 m c (ix3 h a b) = ((state (kh X W h) (gh G h) (vh X W h) (S h) 8192 a b : ℝ) : EReal) := by
  have hN := N_0
  have hp : 16 * h.val + 15 < cfg0.N := by
    have : cfg0.N = 64 := hN
    omega
  have e1 : (16 * h.val + 15) / 16 = h.val := by omega
  have k := point_final H ⟨16 * h.val + 15, hp⟩ (by show (16 * h.val + 15) % 16 = 15; omega) a b
  dsimp only at k
  rw [e1] at k
  rw [← k]
  have ep : Value.pt11Of (ix3 h a b) = 16 * h.val + 15 := by
    show 16 * (1 * (h.val / 1 - 0) + 1 * (a.val / 256 - 0) + 1 * (b.val / 512 - 0)) + 15 = _
    omega
  unfold Value.G11
  rw [dif_pos (by rw [ep]; exact hp)]
  unfold at'
  rw [Value.outsAt0_sweep, Value.fold0_congr m c _ _ _ _ ep]
  refine congrArg _ ?_
  funext x
  match x with
  | ⟨0, _⟩ => exact Fin.ext (Nat.mod_one _)
  | ⟨1, _⟩ => exact Fin.ext (Nat.mod_eq_of_lt a.isLt)
  | ⟨2, _⟩ => exact Fin.ext (Nat.mod_eq_of_lt b.isLt)

theorem result_mix (j : Fin 10240) (d : Fin 2048) : Value.G12 m c (ix2 j d) = argW m c (ix3 0 d ⟨6160 + j.val, by omega⟩) := by
  have hN := N_0
  have hp : j.val / 160 < cfg0.N := by
    have : cfg0.N = 64 := hN
    omega
  have k := point_mix (m := m) (c := c) ⟨j.val / 160, hp⟩ ⟨j.val % 160, by omega⟩ d
  have e1 : (⟨6160 + 160 * (j.val / 160) + j.val % 160, by omega⟩ : Fin 16400) = ⟨6160 + j.val, by omega⟩ := by
    apply Fin.ext
    show 6160 + 160 * (j.val / 160) + j.val % 160 = 6160 + j.val
    omega
  dsimp only at k
  rw [e1] at k
  rw [← k]
  have ep : Value.pt12Of (ix2 j d) = j.val / 160 := by
    show 1 * (j.val / 160 - 0) + 1 * (d.val / 2048 - 0) = _
    omega
  unfold Value.G12
  rw [dif_pos (by rw [ep]; exact hp)]
  unfold at'
  rw [Value.outsAt0_sweep, Value.fold0_congr m c _ _ _ _ ep]
  refine congrArg _ ?_
  funext x
  match x with
  | ⟨0, _⟩ => rfl
  | ⟨1, _⟩ => exact Fin.ext (Nat.mod_eq_of_lt d.isLt)

theorem result_proj (j : Fin 2048) (d : Fin 2048) : Value.G13 m c (ix2 j d) = argO m c (ix3 0 j d) := by
  have hN := N_0
  have hp : j.val / 32 < cfg0.N := by
    have : cfg0.N = 64 := hN
    omega
  have k := point_proj (m := m) (c := c) ⟨j.val / 32, hp⟩ ⟨j.val % 32, by omega⟩ d
  have e1 : (⟨32 * (j.val / 32) + j.val % 32, by omega⟩ : Fin 2048) = j := by
    apply Fin.ext
    show 32 * (j.val / 32) + j.val % 32 = j.val
    omega
  dsimp only at k
  rw [e1] at k
  rw [← k]
  have ep : Value.pt13Of (ix2 j d) = j.val / 32 := by
    show 1 * (j.val / 32 - 0) + 1 * (d.val / 2048 - 0) = _
    omega
  unfold Value.G13
  rw [dif_pos (by rw [ep]; exact hp)]
  unfold at'
  rw [Value.outsAt0_sweep, Value.fold0_congr m c _ _ _ _ ep]
  refine congrArg _ ?_
  funext x
  match x with
  | ⟨0, _⟩ => rfl
  | ⟨1, _⟩ => exact Fin.ext (Nat.mod_eq_of_lt d.isLt)

end Points

end Gla

end
-- ==== Proof.Finite.lean ====
/-
  The precondition, read: the activations, the log decays, the given state and the input projection hold real numbers.
-/
module

public import proofs.«01_k».proof.Proof.Result
public import proofs.«01_k».proof.Proof.Fold
public import proofs.«01_k».proof.Proof.Gen.Pre_finite
public import proofs.«01_k».proof.Defs
public import Idealize.ShloMosaic.Lib.ReduceAll

@[expose] public section

noncomputable section

namespace Gla

open Idealize.ShloMosaic Idealize.ShloMosaic.TcCoe Cert.Pre_finite Cert.Pre_finite.Gen

set_option maxRecDepth 16384

/-- The reading of one array's test. -/
theorem all_real {s : Shape} {axes : List (Fin s.rank)} (x : FVec Ideal s .f32)
    (b : S_.BroadcastsInDim s (![] : Fin 0 → Fin s.rank)) (r : s.ReducesTo axes S_)
    (h : Host.reduce IntOp.andi (cmpf .olt (Host.absf x) (broadcastInDim s ![] b (constant S_ .f32 0x7F800000#32)))
      (constantI S_ 1 1#1) r h_S_ ix0 = 1#1) (i : s.Idx) : x i = ((x i).toReal : EReal) := by
  haveI : Subsingleton S_.Idx := ⟨fun a b => funext fun k => k.elim0⟩
  have k := Host.reduce_andi_all _ _ _ _ _ h i
  have top : Ideal.ofBits .f32 0x7F800000#32 = ⊤ := by simp [Ideal.ofBits, Ideal.ieee]
  have k' : Ideal.cmp .olt (max (x i) (-(x i))) (Ideal.ofBits .f32 0x7F800000#32) = 1#1 := k
  rw [top] at k'
  revert k'
  generalize x i = y
  induction y using EReal.rec with
  | bot => intro k'; exact absurd k' (by simp [Ideal.cmp])
  | coe y => intro _; rfl
  | top => intro k'; exact absurd k' (by simp [Ideal.cmp])

/-- Both bits of a conjunction. -/
theorem both (a b : BitVec 1) (h : IntOp.andi a b = 1#1) : a = 1#1 ∧ b = 1#1 := by
  revert a b
  decide

/-- Under the precondition the arguments are real arrays. -/
theorem reals (m : (ℓ : Loc Cert.KernelIdeal.nD Cert.KernelIdeal.τ Cert.KernelIdeal.sig) → Buf (Elt Ideal) ℓ)
    (h : Cert.Pre_KernelIdeal_finite m) (c : Dev Cert.KernelIdeal.nD) : ∃ X G S W, Reals m c X G S W := by
  have e := congrFun (h c) ix0
  dsimp only [fn, fn_part1] at e
  obtain ⟨e, e3⟩ := both _ _ e
  obtain ⟨e, e2⟩ := both _ _ e
  obtain ⟨e0, e1⟩ := both _ _ e
  refine ⟨fun r d => if h : r < 8192 then (argX m c (ix3 0 ⟨r, h⟩ d)).toReal else 0,
    fun r a => if h : r < 8192 ∧ a < 1024 then (argG m c (ix3 0 ⟨r, h.1⟩ ⟨a, h.2⟩)).toReal else 0,
    fun k a b => if h : k < 4 then (argS m c (ix4 0 ⟨k, h⟩ a b)).toReal else 0,
    fun j d => if h : j < 16400 then (argW m c (ix3 0 d ⟨j, h⟩)).toReal else 0, ?_, ?_, ?_, ?_⟩
  · intro r d
    rw [dif_pos r.isLt]
    exact all_real _ _ _ e0 _
  · intro r a
    rw [dif_pos ⟨r.isLt, a.isLt⟩]
    exact all_real _ _ _ e1 _
  · intro k a b
    rw [dif_pos k.isLt]
    exact all_real _ _ _ e2 _
  · intro d j
    rw [dif_pos j.isLt]
    exact all_real _ _ _ e3 _

end Gla

end
-- ==== Proof.Claims.lean ====
/-
  The claims of the prompt attention call: each program runs and leaves its arguments as they were, and the two compute one
  function of finite arguments.
-/
module

public import proofs.«01_k».proof.Proof.Finite
public import proofs.«01_k».proof.Proof.Gen.Kernel.Frame

@[expose] public section

noncomputable section

namespace Gla

open Idealize.ShloMosaic Idealize.ShloMosaic.TcCoe Idealize.SL.Sem

set_option maxRecDepth 16384

/-- The kernel's results are the reference's. -/
theorem computes : Cert.algebraic_KernelIdeal_ReferenceIdeal_pre_finite := by
  intro m g m' g' hpre hargs
  refine ⟨Cert.KernelIdeal.Value.G10 m, Cert.KernelIdeal.Value.G11 m, Cert.KernelIdeal.Value.G12 m, Cert.KernelIdeal.Value.G13 m,
    Cert.KernelIdeal.Value.run m g, ?_⟩
  refine (θ_run _ _ _).mono (fun r h c => ?_) (Cert.ReferenceIdeal.Value.run m' g')
  obtain ⟨X, G, S, W, H⟩ := reals m hpre c
  obtain ⟨h0, h1, h2, h3, h4, h5⟩ := hargs c
  obtain ⟨r0, r1, r2, r3, rest⟩ := h c
  have K : Given m' c X G S W := by
    refine ⟨fun r d => ?_, fun r a => ?_, fun k a b => ?_, fun d j => ?_⟩
    · exact (congrFun h0 _).trans (H.x r d)
    · exact (congrFun h1 _).trans (H.g r a)
    · exact (congrFun h2 _).trans (H.s k a b)
    · exact (congrFun h3 _).trans (H.w d j)
  refine ⟨r0.trans ?_, r1.trans ?_, r2.trans ?_, r3.trans ?_, rest⟩
  · funext i
    obtain ⟨a, b, rfl⟩ : ∃ (a : Fin 8192) (b : Fin 2048), i = ix2 a b := ⟨i 0, i 1, eq_ix2 i⟩
    refine (given_y K a b).trans ((congrArg (fun z => finish _ _ z _) (congrFun h4 _)).trans (result_y H a b).symm)
  · funext i
    obtain ⟨k, a, b, rfl⟩ : ∃ (k : Fin 4) (a : Fin 256) (b : Fin 512), i = ix3 k a b := ⟨i 0, i 1, i 2, eq_ix3 i⟩
    exact (given_state' K k a b).trans (result_state H k a b).symm
  · funext i
    obtain ⟨a, b, rfl⟩ : ∃ (a : Fin 10240) (b : Fin 2048), i = ix2 a b := ⟨i 0, i 1, eq_ix2 i⟩
    exact (given_mix a b).trans ((congrFun h3 _).trans (result_mix a b).symm)
  · funext i
    obtain ⟨a, b, rfl⟩ : ∃ (a : Fin 2048) (b : Fin 2048), i = ix2 a b := ⟨i 0, i 1, eq_ix2 i⟩
    exact (given_proj a b).trans ((congrFun h5 _).trans (result_proj a b).symm)

/-- The reference runs and leaves its arguments as they were. -/
theorem reference_runs : Cert.quiescent_ReferenceIdeal := fun m g _ =>
  (θ_run Cert.ReferenceIdeal.defs _ _).mono (fun r h => ⟨fun c => (h c).2.2.2.2, sem_eq_zero_of_no_sems (by decide) r.2⟩)
    (Cert.ReferenceIdeal.Value.run m g)

end Gla

end
-- ==== Proof.Views.lean ====
/-
  Whole buffers and blocks cut from arrays: offsets and places.
-/
module

public import Idealize.ShloMosaic.Lib.Pipeline.Value
public import Idealize.ShloMosaic.Lib.Pointwise

@[expose] public section

noncomputable section

namespace Views

open Idealize.ShloMosaic

theorem zero2 : (![0, 0] : Fin 2 → Nat) = fun _ => 0 := by funext i; fin_cases i <;> rfl
theorem zero3 : (![0, 0, 0] : Fin 3 → Nat) = fun _ => 0 := by funext i; fin_cases i <;> rfl

/-- Where a place of a block of rows lies in the array the block is cut from. -/
theorem unit_emb {p q a b : ℕ} (o : ℕ)
    (inb : ∀ i : Fin 2, (![o, 0] : Fin 2 → ℕ) i + (![a, b] : Fin 2 → ℕ) i ≤ (![p, q] : Fin 2 → ℕ) i)
    (h1 : o + a ≤ p) (h2 : b ≤ q) (x : Fin a) (y : Fin b) :
    (Rect.unit (s := ⟨2, ![p, q]⟩) ![o, 0] ![a, b] inb).emb (ix2 x y) = ix2 ⟨o + x.val, by omega⟩ ⟨y.val, by omega⟩ := by
  funext z
  apply Fin.ext
  match z with
  | ⟨0, _⟩ => exact congrArg (o + ·) (Nat.one_mul _)
  | ⟨1, _⟩ => exact (Nat.zero_add _).trans (Nat.one_mul _)

end Views

end
-- ==== Proof.UpPoint.lean ====
/-
  What a grid point of the first feed-forward call leaves behind, as functions of the blocks it reads: the activations of
  its rows and columns, a copied slab of weights, and the two cast weight blocks. At the first point of a column both weight
  blocks are cast; at the others both are what the point before left.
-/
module

public import proofs.«01_k».proof.Proof.Gen.UpIdeal.Value
public import proofs.«01_k».proof.Proof.Views
public import Idealize.ShloMosaic.Lib.Pointwise
public import Idealize.ShloMosaic.Lib.Claim
public import Idealize.ShloMosaic.Lib.Pipeline.ValueKit.Acc
public import Idealize.ShloMosaic.Lib.Pipeline.ValueKit.Point

@[expose] public section

noncomputable section

namespace Ffn

open Idealize.ShloMosaic Idealize.ShloMosaic.TcCoe Cert.UpIdeal Cert.UpIdeal.Gen
open Idealize.ShloMosaic.Tactic Views

set_option maxRecDepth 16384

/-- The eight stores of a cast weight block, the latest first. -/
def slabs (x : Vec Ideal S1x2048x512 .f32) : List (View.Piece (Elt Ideal) S2048x512 .bf16) :=
  [⟨Rect.unit (s := S2048x512) ![1792, 0] S256x512.size inb_S2048x512_S256x512_1792_0,
      k0_pay2 (F := Ideal) (View.ld (Val := Elt Ideal) (e' := .f32) x (Rect.unit (s := S1x2048x512) ![0, 1792, 0] S1x256x512.size inb_S1x2048x512_S1x256x512_0_1792_0))⟩,
    ⟨Rect.unit (s := S2048x512) ![1536, 0] S256x512.size inb_S2048x512_S256x512_1536_0,
      k0_pay2 (F := Ideal) (View.ld (Val := Elt Ideal) (e' := .f32) x (Rect.unit (s := S1x2048x512) ![0, 1536, 0] S1x256x512.size inb_S1x2048x512_S1x256x512_0_1536_0))⟩,
    ⟨Rect.unit (s := S2048x512) ![1280, 0] S256x512.size inb_S2048x512_S256x512_1280_0,
      k0_pay2 (F := Ideal) (View.ld (Val := Elt Ideal) (e' := .f32) x (Rect.unit (s := S1x2048x512) ![0, 1280, 0] S1x256x512.size inb_S1x2048x512_S1x256x512_0_1280_0))⟩,
    ⟨Rect.unit (s := S2048x512) ![1024, 0] S256x512.size inb_S2048x512_S256x512_1024_0,
      k0_pay2 (F := Ideal) (View.ld (Val := Elt Ideal) (e' := .f32) x (Rect.unit (s := S1x2048x512) ![0, 1024, 0] S1x256x512.size inb_S1x2048x512_S1x256x512_0_1024_0))⟩,
    ⟨Rect.unit (s := S2048x512) ![768, 0] S256x512.size inb_S2048x512_S256x512_768_0,
      k0_pay2 (F := Ideal) (View.ld (Val := Elt Ideal) (e' := .f32) x (Rect.unit (s := S1x2048x512) ![0, 768, 0] S1x256x512.size inb_S1x2048x512_S1x256x512_0_768_0))⟩,
    ⟨Rect.unit (s := S2048x512) ![512, 0] S256x512.size inb_S2048x512_S256x512_512_0,
      k0_pay2 (F := Ideal) (View.ld (Val := Elt Ideal) (e' := .f32) x (Rect.unit (s := S1x2048x512) ![0, 512, 0] S1x256x512.size inb_S1x2048x512_S1x256x512_0_512_0))⟩,
    ⟨Rect.unit (s := S2048x512) ![256, 0] S256x512.size inb_S2048x512_S256x512_256_0,
      k0_pay2 (F := Ideal) (View.ld (Val := Elt Ideal) (e' := .f32) x (Rect.unit (s := S1x2048x512) ![0, 256, 0] S1x256x512.size inb_S1x2048x512_S1x256x512_0_256_0))⟩,
    ⟨Rect.unit (s := S2048x512) ![0, 0] S256x512.size inb_S2048x512_S256x512_0_0,
      k0_pay2 (F := Ideal) (View.ld (Val := Elt Ideal) (e' := .f32) x (Rect.unit (s := S1x2048x512) ![0, 0, 0] S1x256x512.size inb_S1x2048x512_S1x256x512_0_0_0))⟩]

/-- They cover the block. -/
theorem slabs_cover (x : Vec Ideal S1x2048x512 .f32) (y : S2048x512.Idx) : ∃ p ∈ slabs x, y ∈ p.1.set :=
  View.cover_of_tiledL (slabs x) S256x512.size (by sl_kernel_rfl) y

/-- A weight block, cast. -/
def castW (x : Vec Ideal S1x2048x512 .f32) : Vec Ideal S2048x512 .bf16 := View.canon (Val := Elt Ideal) (slabs x)

/-- The whole of the block, read after the stores. -/
theorem slabs_load {κ : Kind} {sp : Space} (v : View sig κ sp S2048x512 .bf16) (x : Vec Ideal S1x2048x512 .f32) :
    v.readCov (slabs x) (Rect.unit (s := S2048x512) ![0, 0] S2048x512.size inb_S2048x512_S2048x512_0_0).toLoadRect = castW x :=
  (View.readCov_eq_canon_ld v _ _ (slabs_cover x)).trans (View.ld_unit_zero (S := S2048x512) zero2 _ _)

/-- The block without its leading axis. -/
def flat (x : Vec Ideal S1x2048x512 .f32) (i : S2048x512.Idx) : EReal := x (ix3 0 (i 0) (i 1))

/-- An entry of it. -/
theorem castW_apply (x : Vec Ideal S1x2048x512 .f32) (d : Fin 2048) (j : Fin 512) : castW x (ix2 d j) = x (ix3 0 d j) := by
  refine View.canon_apply_of_pieces (Val := Elt Ideal) (flat x) (slabs x) ?_ (ix2 d j) (slabs_cover x _)
  intro p hp y
  unfold slabs at hp
  simp only [List.mem_cons, List.not_mem_nil, or_false] at hp
  obtain rfl | rfl | rfl | rfl | rfl | rfl | rfl | rfl := hp
  all_goals
    obtain ⟨a, b, rfl⟩ : ∃ (a : Fin 256) (b : Fin 512), y = ix2 a b := ⟨y 0, y 1, eq_ix2 y⟩
    refine Eq.trans ?_ (congrArg (flat x) (unit_emb _ (by decide) (by omega) (by omega) a b).symm)
    unfold flat
    pointwise [k0_pay2]

/-- The two stores of a block of activations, the latest first. -/
def halves (x : Vec Ideal S2176x2048 .bf16) (u w : Vec Ideal S2048x512 .bf16) : List (View.Piece (Elt Ideal) S2176x512 .bf16) :=
  [⟨Rect.unit (s := S2176x512) ![1088, 0] S1088x512.size inb_S2176x512_S1088x512_1088_0,
      k0_pay1 (F := Ideal) (k0_pay20 (View.ld (Val := Elt Ideal) (e' := .bf16) x (Rect.unit (s := S2176x2048) ![1088, 0] S1088x2048.size inb_S2176x2048_S1088x2048_1088_0)))
        (k0_pay21 (View.ld (Val := Elt Ideal) (e' := .bf16) x (Rect.unit (s := S2176x2048) ![1088, 0] S1088x2048.size inb_S2176x2048_S1088x2048_1088_0)) u) w⟩,
    ⟨Rect.unit (s := S2176x512) ![0, 0] S1088x512.size inb_S2176x512_S1088x512_0_0,
      k0_pay19 (F := Ideal) (View.ld (Val := Elt Ideal) (e' := .bf16) x (Rect.unit (s := S2176x2048) ![0, 0] S1088x2048.size inb_S2176x2048_S1088x2048_0_0)) u w⟩]

/-- They cover the block. -/
theorem halves_cover (x : Vec Ideal S2176x2048 .bf16) (u w : Vec Ideal S2048x512 .bf16) (y : S2176x512.Idx) :
    ∃ p ∈ halves x u w, y ∈ p.1.set :=
  View.cover_of_tiledL (halves x u w) S1088x512.size (by sl_kernel_rfl) y

/-- The gated unit: `g` times its sigmoid, times `u`. -/
def unit (g u : EReal) : EReal := g * Ideal.div 1 (1 + Ideal.exp (0 - g)) * u

/-- The activations, as a function of the index. -/
def entry (x : Vec Ideal S2176x2048 .bf16) (u w : Vec Ideal S2048x512 .bf16) (i : S2176x512.Idx) : EReal :=
  unit (∑ d : Fin 2048, x (ix2 (i 0) d) * u (ix2 d (i 1))) (∑ d : Fin 2048, x (ix2 (i 0) d) * w (ix2 d (i 1)))

/-- An entry of the block of activations. -/
theorem halves_apply (x : Vec Ideal S2176x2048 .bf16) (u w : Vec Ideal S2048x512 .bf16) (r : Fin 2176) (j : Fin 512) :
    View.canon (Val := Elt Ideal) (halves x u w) (ix2 r j)
      = unit (∑ d : Fin 2048, x (ix2 r d) * u (ix2 d j)) (∑ d : Fin 2048, x (ix2 r d) * w (ix2 d j)) := by
  refine View.canon_apply_of_pieces (Val := Elt Ideal) (entry x u w) (halves x u w) ?_ (ix2 r j) (halves_cover x u w _)
  intro p hp y
  unfold halves at hp
  simp only [List.mem_cons, List.not_mem_nil, or_false] at hp
  obtain rfl | rfl := hp
  all_goals
    obtain ⟨a, b, rfl⟩ : ∃ (a : Fin 1088) (b : Fin 512), y = ix2 a b := ⟨y 0, y 1, eq_ix2 y⟩
    refine Eq.trans ?_ (congrArg (entry x u w) (unit_emb _ (by decide) (by omega) (by omega) a b).symm)
    unfold entry unit
    pointwise [k0_pay1, k0_pay19, k0_pay20, k0_pay21]

theorem pay3 : k0_pay3 (F := Ideal) = k0_pay2 := rfl
theorem pay4 : k0_pay4 (F := Ideal) = k0_pay2 := rfl
theorem pay5 : k0_pay5 (F := Ideal) = k0_pay2 := rfl
theorem pay6 : k0_pay6 (F := Ideal) = k0_pay2 := rfl
theorem pay7 : k0_pay7 (F := Ideal) = k0_pay2 := rfl
theorem pay8 : k0_pay8 (F := Ideal) = k0_pay2 := rfl
theorem pay9 : k0_pay9 (F := Ideal) = k0_pay2 := rfl
theorem pay10 : k0_pay10 (F := Ideal) = k0_pay2 := rfl
theorem pay11 : k0_pay11 (F := Ideal) = k0_pay2 := rfl
theorem pay12 : k0_pay12 (F := Ideal) = k0_pay2 := rfl
theorem pay13 : k0_pay13 (F := Ideal) = k0_pay2 := rfl
theorem pay14 : k0_pay14 (F := Ideal) = k0_pay2 := rfl
theorem pay15 : k0_pay15 (F := Ideal) = k0_pay2 := rfl
theorem pay16 : k0_pay16 (F := Ideal) = k0_pay2 := rfl
theorem pay17 : k0_pay17 (F := Ideal) = k0_pay2 := rfl

variable (m : (ℓ : Loc nD τ sig) → Buf (Elt Ideal) ℓ) (c : Dev nD) (t : Fin cfg0.N)

/-- What point `t` leaves, and the point before it. -/
abbrev at' := outsAt0 m c t.val t.isLt

/-- The point before. -/
abbrev before' := outsAt0 m c (t.val - 1) (Nat.lt_of_le_of_lt (Nat.sub_le _ _) t.isLt)

/-- The two weight blocks a point reads. -/
abbrev wG : Vec Ideal S1x2048x512 .f32 := iblk m c 1 t
abbrev wU : Vec Ideal S1x2048x512 .f32 := iblk m c 2 t

/-- The activations of a column's first point. -/
theorem act_A (h0 : t.val % 4 = 0) : (at' m c t).1 = View.canon (Val := Elt Ideal) (halves (iblk m c 0 t) (castW (wG m c t)) (castW (wU m c t))) := by
  unfold at'
  rw [outsAt0_A m c t h0]
  dsimp only
  unfold out0_A_4
  rw [View.read_writes_eq_canon _ _ _ (cover0_A_4 c _ _ _ _ _ _ _ _ _ _ _ _ _ _ _ _ _ _ _ _ _ _ )]
  unfold kernelRun0_A
  dsimp only
  sl_unfold_words
  simp only [View.readAt_eq_ld, (hs0_0 t).read_unread, (hs0_1 t).read_unread, (hs0_2 t).read_unread, (hs0_3 t).read_unread, (Memref.isWhole_whole _).read_unread]
  simp only [View.ld_unit_zero (S := S2048x512) zero2, pay3, pay4, pay5, pay6, pay7, pay8, pay9, pay10, pay11, pay12, pay13, pay14, pay15, pay16, pay17]
  have e1 := slabs_load (View.whole cc0_scratch0) (wG m c t)
  have e2 := slabs_load (View.whole cc0_scratch1) (wU m c t)
  unfold slabs at e1 e2
  rw [e1, e2]
  rfl

/-- The copied slab of a column's first point. -/
theorem copy_A (h0 : t.val % 4 = 0) : (at' m c t).2.1 = k0_pay18 (F := Ideal) (iblk m c 3 t) := by
  unfold at'
  rw [outsAt0_A m c t h0]
  dsimp only
  unfold out0_A_5
  rw [View.read_writes_eq_canon _ _ _ (cover0_A_5 c _ _ _ _ _ _ _ _ _ _ _ _ _ _ _ _ _ _ _ _ _ _ )]
  unfold kernelRun0_A
  dsimp only
  sl_unfold_words
  simp only [View.readAt_eq_ld, (hs0_0 t).read_unread, (hs0_1 t).read_unread, (hs0_2 t).read_unread, (hs0_3 t).read_unread, (Memref.isWhole_whole _).read_unread]
  rw [View.canon_unit_zero zero2]
  simp only [View.ld_unit_zero (S := S1x128x2048) zero3]

/-- The gate weights it casts. -/
theorem gate_A (h0 : t.val % 4 = 0) : (at' m c t).2.2.1 = castW (wG m c t) := by
  unfold at'
  rw [outsAt0_A m c t h0]
  dsimp only
  unfold sout0_A_0
  rw [View.read_writes_eq_canon _ _ _ (scover0_A_0 c _ _ _ _ _ _ _ _ _ _ _ _ _ _ _ _ _ _ _ _ _ _ )]
  unfold kernelRun0_A
  dsimp only
  sl_unfold_words
  simp only [View.readAt_eq_ld, (hs0_0 t).read_unread, (hs0_1 t).read_unread, (hs0_2 t).read_unread, (hs0_3 t).read_unread, (Memref.isWhole_whole _).read_unread]
  simp only [pay3, pay4, pay5, pay6, pay7, pay8, pay9, pay10, pay11, pay12, pay13, pay14, pay15, pay16, pay17]
  rfl

/-- The other weights it casts. -/
theorem up_A (h0 : t.val % 4 = 0) : (at' m c t).2.2.2 = castW (wU m c t) := by
  unfold at'
  rw [outsAt0_A m c t h0]
  dsimp only
  unfold sout0_A_1
  rw [View.read_writes_eq_canon _ _ _ (scover0_A_1 c _ _ _ _ _ _ _ _ _ _ _ _ _ _ _ _ _ _ _ _ _ _ )]
  unfold kernelRun0_A
  dsimp only
  sl_unfold_words
  simp only [View.readAt_eq_ld, (hs0_0 t).read_unread, (hs0_1 t).read_unread, (hs0_2 t).read_unread, (hs0_3 t).read_unread, (Memref.isWhole_whole _).read_unread]
  simp only [pay3, pay4, pay5, pay6, pay7, pay8, pay9, pay10, pay11, pay12, pay13, pay14, pay15, pay16, pay17]
  rfl

/-- The activations of any other point. -/
theorem act_B (h0 : ¬t.val % 4 = 0) : (at' m c t).1 = View.canon (Val := Elt Ideal) (halves (iblk m c 0 t) (before' m c t).2.2.1 (before' m c t).2.2.2) := by
  unfold at'
  rw [outsAt0_B m c t h0]
  generalize (before' m c t).2.2.1 = u
  generalize (before' m c t).2.2.2 = w
  dsimp only
  unfold out0_B_4
  rw [View.read_writes_eq_canon _ _ _ (cover0_B_4 c _ _ _ _ _ _ _ _ _ _ _ _ _ _ _ _ _ _ _ _ _ _ _ _ )]
  unfold kernelRun0_B
  dsimp only
  sl_unfold_words
  simp only [View.readAt_eq_ld, (hs0_0 t).read_unread, (hs0_1 t).read_unread, (hs0_2 t).read_unread, (hs0_3 t).read_unread, (Memref.isWhole_whole _).read_unread]
  simp only [View.ld_unit_zero (S := S2048x512) zero2]
  rfl

/-- The copied slab of any other point. -/
theorem copy_B (h0 : ¬t.val % 4 = 0) : (at' m c t).2.1 = k0_pay18 (F := Ideal) (iblk m c 3 t) := by
  unfold at'
  rw [outsAt0_B m c t h0]
  generalize (before' m c t).2.2.1 = u
  generalize (before' m c t).2.2.2 = w
  dsimp only
  unfold out0_B_5
  rw [View.read_writes_eq_canon _ _ _ (cover0_B_5 c _ _ _ _ _ _ _ _ _ _ _ _ _ _ _ _ _ _ _ _ _ _ _ _ )]
  unfold kernelRun0_B
  dsimp only
  sl_unfold_words
  simp only [View.readAt_eq_ld, (hs0_0 t).read_unread, (hs0_1 t).read_unread, (hs0_2 t).read_unread, (hs0_3 t).read_unread, (Memref.isWhole_whole _).read_unread]
  rw [View.canon_unit_zero zero2]
  simp only [View.ld_unit_zero (S := S1x128x2048) zero3]

/-- It keeps both cast blocks. -/
theorem kept_B (h0 : ¬t.val % 4 = 0) : (at' m c t).2.2 = (before' m c t).2.2 := by
  unfold at'
  rw [outsAt0_B m c t h0]
  rfl

end Ffn

end
-- ==== Proof.UpClaims.lean ====
/-
  The first feed-forward call: its results, entry by entry, are the reference's, and the reference runs.
-/
module

public import proofs.«01_k».proof.Defs
public import proofs.«01_k».proof.Proof.UpPoint
public import proofs.«01_k».proof.Proof.Gen.UpReferenceIdeal.Run

@[expose] public section

noncomputable section

namespace Ffn

open Idealize.ShloMosaic Idealize.ShloMosaic.TcCoe Idealize.SL.Sem
open Idealize.ShloMosaic.Tactic Views

set_option maxRecDepth 16384

section Kernel

open Cert.UpIdeal Cert.UpIdeal.Gen

/-- Where the blocks of a point lie. -/
theorem places : ∀ t : Fin cfg0.N, win0_0.index t = ![t.val % 4, 0] ∧ win0_1.index t = ![0, 0, t.val / 4]
    ∧ win0_2.index t = ![0, 0, 11 + t.val / 4] ∧ win0_3.index t = ![0, t.val, 0] :=
  (by decide +kernel : ∀ t : Fin grid0.N, _)

/-- There are 44 points. -/
theorem points (t : Fin cfg0.N) : t.val < 44 := lt_of_lt_of_eq t.isLt N_0

variable (m : (ℓ : Loc nD τ sig) → Buf (Elt Ideal) ℓ) (c : Dev nD)

/-- The arguments' contents. -/
abbrev argH : FVec Ideal S8704x2048 .f32 := m ((c : Thread nD τ).loc main_arg0)
abbrev argW : FVec Ideal S1x2048x11264 .f32 := m ((c : Thread nD τ).loc main_arg1)
abbrev argO : FVec Ideal S1x5632x2048 .f32 := m ((c : Thread nD τ).loc main_arg2)

/-- The contents the call finds in each array it reads. -/
theorem host_h : V m c main_v0 = truncf (F := Ideal) .bf16 (argH m c) bitsLt_bf16_f32 := by
  simp only [V, hostOps0, List.flatten_cons, List.flatten_nil, List.cons_append, List.nil_append]
  entry_read
  rfl

theorem host_w : V m c main_arg1 = argW m c := by
  simp only [V, hostOps0, List.flatten_cons, List.flatten_nil, List.cons_append, List.nil_append]
  entry_read
  rfl

theorem host_o : V m c main_arg2 = argO m c := by
  simp only [V, hostOps0, List.flatten_cons, List.flatten_nil, List.cons_append, List.nil_append]
  entry_read
  rfl

/-- The block of rows. -/
theorem block_h (t : Fin cfg0.N) (r : Fin 2176) (d : Fin 2048) :
    (iblk m c 0 t : FVec Ideal S2176x2048 .bf16) (ix2 r d) = argH m c (ix2 ⟨2176 * (t.val % 4) + r.val, by omega⟩ d) := by
  have hp := (places t).1
  have e : ((cfg0.win 0).blk t).view.emb (ix2 r d) = (ix2 ⟨2176 * (t.val % 4) + r.val, by omega⟩ d : S8704x2048.Idx) := by
    blk_ext! [hp]
  show (V m c main_v0 : FVec Ideal S8704x2048 .bf16) (((cfg0.win 0).blk t).view.emb (ix2 r d)) = _
  rw [e, host_h]
  rfl

/-- The block of gate weights. -/
theorem block_g (t : Fin cfg0.N) (d : Fin 2048) (j : Fin 512) :
    wG m c t (ix3 0 d j) = argW m c (ix3 0 d ⟨512 * (t.val / 4) + j.val, by have := points t; omega⟩) := by
  have hp := (places t).2.1
  have ht := points t
  have e : ((cfg0.win 1).blk t).view.emb (ix3 0 d j) = (ix3 0 d ⟨512 * (t.val / 4) + j.val, by omega⟩ : S1x2048x11264.Idx) := by
    blk_ext! [hp]
  show (V m c main_arg1 : FVec Ideal S1x2048x11264 .f32) (((cfg0.win 1).blk t).view.emb (ix3 0 d j)) = _
  rw [e, host_w]

/-- The block of the other weights. -/
theorem block_u (t : Fin cfg0.N) (d : Fin 2048) (j : Fin 512) :
    wU m c t (ix3 0 d j) = argW m c (ix3 0 d ⟨5632 + 512 * (t.val / 4) + j.val, by have := points t; omega⟩) := by
  have hp := (places t).2.2.1
  have ht := points t
  have e : ((cfg0.win 2).blk t).view.emb (ix3 0 d j) = (ix3 0 d ⟨5632 + 512 * (t.val / 4) + j.val, by omega⟩ : S1x2048x11264.Idx) := by
    blk_ext! [hp]
  show (V m c main_arg1 : FVec Ideal S1x2048x11264 .f32) (((cfg0.win 2).blk t).view.emb (ix3 0 d j)) = _
  rw [e, host_w]

/-- The slab it copies. -/
theorem block_o (t : Fin cfg0.N) (r : Fin 128) (d : Fin 2048) :
    (iblk m c 3 t : FVec Ideal S1x128x2048 .f32) (ix3 0 r d) = argO m c (ix3 0 ⟨128 * t.val + r.val, by have := points t; omega⟩ d) := by
  have hp := (places t).2.2.2
  have ht := points t
  have e : ((cfg0.win 3).blk t).view.emb (ix3 0 r d) = (ix3 0 ⟨128 * t.val + r.val, by omega⟩ d : S1x5632x2048.Idx) := by
    blk_ext! [hp]
  show (V m c main_arg2 : FVec Ideal S1x5632x2048 .f32) (((cfg0.win 3).blk t).view.emb (ix3 0 r d)) = _
  rw [e, host_o]

/-- After a point, the two cast blocks hold the weights of the point's column. -/
theorem cast (t : Fin cfg0.N) : ∀ (d : Fin 2048) (j : Fin 512),
    (at' m c t).2.2.1 (ix2 d j) = argW m c (ix3 0 d ⟨512 * (t.val / 4) + j.val, by have := points t; omega⟩)
    ∧ (at' m c t).2.2.2 (ix2 d j) = argW m c (ix3 0 d ⟨5632 + 512 * (t.val / 4) + j.val, by have := points t; omega⟩) := by
  obtain ⟨n, hn⟩ := t
  induction n with
  | zero =>
    intro d j
    rw [gate_A m c ⟨0, hn⟩ (Nat.zero_mod _), up_A m c ⟨0, hn⟩ (Nat.zero_mod _), castW_apply, castW_apply, block_g, block_u]
    exact ⟨rfl, rfl⟩
  | succ n ih =>
    intro d j
    by_cases h0 : (n + 1) % 4 = 0
    · rw [gate_A m c ⟨n + 1, hn⟩ h0, up_A m c ⟨n + 1, hn⟩ h0, castW_apply, castW_apply, block_g, block_u]
      exact ⟨rfl, rfl⟩
    · have k := ih (Nat.lt_of_succ_lt hn) d j
      have e : n / 4 = (n + 1) / 4 := by omega
      simp only [e] at k
      rw [kept_B m c ⟨n + 1, hn⟩ h0]
      exact k

/-- The activations a point leaves. -/
theorem point_act (t : Fin cfg0.N) (r : Fin 2176) (j : Fin 512) : (at' m c t).1 (ix2 r j)
    = unit (∑ d : Fin 2048, argH m c (ix2 ⟨2176 * (t.val % 4) + r.val, by omega⟩ d) * argW m c (ix3 0 d ⟨512 * (t.val / 4) + j.val, by have := points t; omega⟩))
      (∑ d : Fin 2048, argH m c (ix2 ⟨2176 * (t.val % 4) + r.val, by omega⟩ d) * argW m c (ix3 0 d ⟨5632 + 512 * (t.val / 4) + j.val, by have := points t; omega⟩)) := by
  by_cases h0 : t.val % 4 = 0
  · rw [act_A m c t h0, halves_apply]
    refine congrArg₂ _ (Finset.sum_congr rfl fun d _ => congrArg₂ _ (block_h m c t r d) ?_) (Finset.sum_congr rfl fun d _ => congrArg₂ _ (block_h m c t r d) ?_)
    · rw [castW_apply, block_g]
    · rw [castW_apply, block_u]
  · have k := cast m c t
    rw [kept_B m c t h0] at k
    rw [act_B m c t h0, halves_apply]
    exact congrArg₂ _ (Finset.sum_congr rfl fun d _ => congrArg₂ _ (block_h m c t r d) (k d j).1)
      (Finset.sum_congr rfl fun d _ => congrArg₂ _ (block_h m c t r d) (k d j).2)

/-- The slab a point leaves. -/
theorem point_copy (t : Fin cfg0.N) (r : Fin 128) (d : Fin 2048) :
    (at' m c t).2.1 (ix2 r d) = argO m c (ix3 0 ⟨128 * t.val + r.val, by have := points t; omega⟩ d) := by
  have e : (at' m c t).2.1 = k0_pay18 (F := Ideal) (iblk m c 3 t) := by
    by_cases h0 : t.val % 4 = 0
    · exact copy_A m c t h0
    · exact copy_B m c t h0
  rw [e, ← block_o m c t r d]
  generalize (iblk m c 3 t : FVec Ideal S1x128x2048 .f32) = x
  pointwise [k0_pay18]

/-- The activations the call returns. -/
theorem result_act (r : Fin 8704) (j : Fin 5632) : Value.G4 m c (ix2 r j)
    = unit (∑ d : Fin 2048, argH m c (ix2 r d) * argW m c (ix3 0 d ⟨j.val, by omega⟩))
      (∑ d : Fin 2048, argH m c (ix2 r d) * argW m c (ix3 0 d ⟨5632 + j.val, by omega⟩)) := by
  have hN := N_0
  have hp : 4 * (j.val / 512) + r.val / 2176 < cfg0.N := by
    have : cfg0.N = 44 := hN
    omega
  have k := point_act m c ⟨4 * (j.val / 512) + r.val / 2176, hp⟩ ⟨r.val % 2176, by omega⟩ ⟨j.val % 512, by omega⟩
  have e1 : 2176 * ((4 * (j.val / 512) + r.val / 2176) % 4) + r.val % 2176 = r.val := by omega
  have e2 : 512 * ((4 * (j.val / 512) + r.val / 2176) / 4) + j.val % 512 = j.val := by omega
  have e3 : 5632 + 512 * ((4 * (j.val / 512) + r.val / 2176) / 4) + j.val % 512 = 5632 + j.val := by omega
  simp only [e1, e2, e3] at k
  refine Eq.trans ?_ k
  have ep : Value.pt4Of (ix2 r j) = 4 * (j.val / 512) + r.val / 2176 := by
    show 1 * (r.val / 2176 - 0) + 4 * (j.val / 512 - 0) = _
    omega
  unfold Value.G4
  rw [dif_pos (by rw [ep]; exact hp)]
  unfold at'
  rw [Value.outsAt0_sweep, Value.fold0_congr m c _ _ _ _ ep]
  refine congrArg _ ?_
  funext x
  match x with
  | ⟨0, _⟩ => rfl
  | ⟨1, _⟩ => rfl

/-- The weights it copies. -/
theorem result_copy (r : Fin 5632) (d : Fin 2048) : Value.G5 m c (ix2 r d) = argO m c (ix3 0 r d) := by
  have hN := N_0
  have hp : r.val / 128 < cfg0.N := by
    have : cfg0.N = 44 := hN
    omega
  have k := point_copy m c ⟨r.val / 128, hp⟩ ⟨r.val % 128, by omega⟩ d
  have e1 : 128 * (r.val / 128) + r.val % 128 = r.val := by omega
  simp only [e1] at k
  refine Eq.trans ?_ k
  have ep : Value.pt5Of (ix2 r d) = r.val / 128 := by
    show 1 * (r.val / 128 - 0) + 1 * (d.val / 2048 - 0) = _
    omega
  unfold Value.G5
  rw [dif_pos (by rw [ep]; exact hp)]
  unfold at'
  rw [Value.outsAt0_sweep, Value.fold0_congr m c _ _ _ _ ep]
  refine congrArg _ ?_
  funext x
  match x with
  | ⟨0, _⟩ => rfl
  | ⟨1, _⟩ => exact Fin.ext (Nat.mod_eq_of_lt d.isLt)

end Kernel

section Reference

open Cert.UpReferenceIdeal Cert.UpReferenceIdeal.Gen

/-- An entry of the reference's activations. -/
theorem given_act (h : FVec Ideal S8704x2048 .f32) (w : FVec Ideal S1x2048x11264 .f32) (r : Fin 8704) (j : Fin 5632) :
    truncf (F := Ideal) .bf16 (mulf (mulf (extractStridedSlice S8704x5632 ![0, 0] (Host.dotGeneral dot_S8704x2048_S2048x11264_S8704x11264_1_0_0_1_n_n
      none h (shapeCast _ w shapeCasts_S1x2048x11264_S2048x11264)) slices_S8704x11264_S8704x5632_0_0) (Host.divf (broadcastInDim S8704x5632 ![]
      bcast_S_S8704x5632 (constant S_ .f32 0x3F800000#32)) (addf (broadcastInDim S8704x5632 ![] bcast_S_S8704x5632 (constant S_ .f32 0x3F800000#32))
      (Host.exp (Host.negf (extractStridedSlice S8704x5632 ![0, 0] (Host.dotGeneral dot_S8704x2048_S2048x11264_S8704x11264_1_0_0_1_n_n none h
      (shapeCast _ w shapeCasts_S1x2048x11264_S2048x11264)) slices_S8704x11264_S8704x5632_0_0)))))) (extractStridedSlice S8704x5632 ![0, 5632]
      (Host.dotGeneral dot_S8704x2048_S2048x11264_S8704x11264_1_0_0_1_n_n none h (shapeCast _ w shapeCasts_S1x2048x11264_S2048x11264))
      slices_S8704x11264_S8704x5632_0_5632)) bitsLt_bf16_f32 (ix2 r j)
      = unit (∑ d : Fin 2048, h (ix2 r d) * w (ix3 0 d ⟨j.val, by omega⟩)) (∑ d : Fin 2048, h (ix2 r d) * w (ix3 0 d ⟨5632 + j.val, by omega⟩)) := by
  unfold unit
  pointwise []
  simp only [sub_eq_add_neg, zero_add]

theorem given_copy (w : FVec Ideal S1x5632x2048 .f32) (r : Fin 5632) (d : Fin 2048) :
    truncf (F := Ideal) .bf16 (shapeCast _ w shapeCasts_S1x5632x2048_S5632x2048) bitsLt_bf16_f32 (ix2 r d) = w (ix3 0 r d) := by
  pointwise []

end Reference

/-- The kernel's results are the reference's. -/
theorem up_computes : Cert.algebraic_UpIdeal_UpReferenceIdeal := by
  intro m g m' g' _ hargs
  refine ⟨Cert.UpIdeal.Value.G4 m, Cert.UpIdeal.Value.G5 m, Cert.UpIdeal.Value.run m g, ?_⟩
  refine (θ_run _ _ _).mono (fun r h c => ?_) (Cert.UpReferenceIdeal.Value.run m' g')
  obtain ⟨h0, h1, h2⟩ := hargs c
  obtain ⟨r0, r1, rest⟩ := h c
  refine ⟨r0.trans ?_, r1.trans ?_, rest⟩
  · rw [h0, h1]
    funext i
    obtain ⟨a, b, rfl⟩ : ∃ (a : Fin 8704) (b : Fin 5632), i = ix2 a b := ⟨i 0, i 1, eq_ix2 i⟩
    exact (given_act _ _ a b).trans (result_act m c a b).symm
  · rw [h2]
    funext i
    obtain ⟨a, b, rfl⟩ : ∃ (a : Fin 5632) (b : Fin 2048), i = ix2 a b := ⟨i 0, i 1, eq_ix2 i⟩
    exact (given_copy _ a b).trans (result_copy m c a b).symm

/-- The reference runs and leaves its arguments as they were. -/
theorem up_reference_runs : Cert.quiescent_UpReferenceIdeal := fun m g _ =>
  (θ_run Cert.UpReferenceIdeal.defs _ _).mono (fun r h => ⟨fun c => (h c).2.2, sem_eq_zero_of_no_sems (by decide) r.2⟩)
    (Cert.UpReferenceIdeal.Value.run m g)

end Ffn

end
-- ==== Proof.MixPoint.lean ====
/-
  What a grid point of the prompt's mixing call leaves behind, as functions of the blocks it reads: its rows and columns of
  the mixed activations, and the last eight rows of the convolution's input, which the next point of the column starts from.
-/
module

public import proofs.«01_k».proof.Proof.Gen.MixIdeal.Value
public import proofs.«01_k».proof.Proof.Views
public import Idealize.ShloMosaic.Lib.Pointwise
public import Idealize.ShloMosaic.Lib.Claim
public import Idealize.ShloMosaic.Lib.Pipeline.ValueKit.Acc
public import Idealize.ShloMosaic.Lib.Pipeline.ValueKit.Point

@[expose] public section

noncomputable section

namespace Mix

open Idealize.ShloMosaic Idealize.ShloMosaic.TcCoe Cert.MixIdeal Cert.MixIdeal.Gen
open Idealize.ShloMosaic.Tactic Views

set_option maxRecDepth 16384

/-- A selection on a row number is the choice it names. -/
theorem choose_row {α : Type} (n k : ℕ) (hn : n < 512) (hk : k < 512) (a b : α) :
    Scalar.select (IntOp.cmpi .eq (BitVec.ofNat 32 n) (BitVec.ofNat 32 k)) a b = if n = k then a else b := by
  by_cases h : n = k
  · subst h
    rw [if_pos rfl]
    have e : IntOp.cmpi .eq (BitVec.ofNat 32 n) (BitVec.ofNat 32 n) = 1#1 := by simp [IntOp.cmpi]
    rw [e]
    rfl
  · have e : BitVec.ofNat 32 n ≠ BitVec.ofNat 32 k := fun e => h (by
      have := congrArg BitVec.toNat e
      rwa [BitVec.toNat_ofNat, BitVec.toNat_ofNat, Nat.mod_eq_of_lt (by omega), Nat.mod_eq_of_lt (by omega)] at this)
    have e' : IntOp.cmpi .eq (BitVec.ofNat 32 n) (BitVec.ofNat 32 k) = 0#1 := by
      show BitVec.ofBool (BitVec.ofNat 32 n == BitVec.ofNat 32 k) = 0#1
      rw [beq_eq_false_iff_ne.mpr e]
      rfl
    rw [if_neg h, e']
    rfl

/-- The mixed activation: the two gated outputs, the second after the convolution's three taps. -/
def mixed (cb ga gb y w0 w1 w2 p2 p1 p0 : EReal) : EReal :=
  Ideal.div 1 (1 + Ideal.exp (0 - ga)) * y + Ideal.div 1 (1 + Ideal.exp (0 - gb)) * (cb * (w0 * p2 + w1 * p1 + w2 * p0))

/-- A row's product with a column of weights, and the convolution's input. -/
def dot (x : Vec Ideal S1024x2048 .bf16) (w : Vec Ideal S512x2048 .bf16) (n : ℕ) (j : Fin 512) : EReal :=
  ∑ d : Fin 2048, x (ix2 ⟨n % 1024, Nat.mod_lt _ (by omega)⟩ d) * w (ix2 j d)

/-- The convolution's input with the two rows before the block in front. -/
def rowsFrom (x : Vec Ideal S1024x2048 .bf16) (a b : Vec Ideal S512x2048 .bf16) (u : Vec Ideal S8x512 .f32) (n : ℕ) (j : Fin 512) : EReal :=
  if n = 0 then u (ix2 6 j) else if n = 1 then u (ix2 7 j) else dot x a (n - 2) j * dot x b (n - 2) j

variable (x : Vec Ideal S1024x2048 .bf16) (y : Vec Ideal S1024x512 .f32) (w2 w3 w4 w5 w6 : Vec Ideal S512x2048 .bf16)
  (cw : Vec Ideal S3x512 .f32) (u : Vec Ideal S8x512 .f32)

/-- The upper and the lower rows of a block. -/
abbrev upper : Vec Ideal S512x2048 .bf16 :=
  View.ld (Val := Elt Ideal) (e' := .bf16) x (Rect.unit (s := S1024x2048) ![0, 0] S512x2048.size inb_S1024x2048_S512x2048_0_0)

abbrev lower : Vec Ideal S512x2048 .bf16 :=
  View.ld (Val := Elt Ideal) (e' := .bf16) x (Rect.unit (s := S1024x2048) ![512, 0] S512x2048.size inb_S1024x2048_S512x2048_512_0)

/-- The three taps. -/
abbrev tap0 : Vec Ideal S1x512 .f32 :=
  View.ld (Val := Elt Ideal) (e' := .f32) cw (Rect.unit (s := S3x512) ![0, 0] S1x512.size inb_S3x512_S1x512_0_0)
abbrev tap1 : Vec Ideal S1x512 .f32 :=
  View.ld (Val := Elt Ideal) (e' := .f32) cw (Rect.unit (s := S3x512) ![1, 0] S1x512.size inb_S3x512_S1x512_1_0)
abbrev tap2 : Vec Ideal S1x512 .f32 :=
  View.ld (Val := Elt Ideal) (e' := .f32) cw (Rect.unit (s := S3x512) ![2, 0] S1x512.size inb_S3x512_S1x512_2_0)

/-- The two stores of a block of mixed activations, the latest first. -/
def halves : List (View.Piece (Elt Ideal) S1024x512 .bf16) :=
  [⟨Rect.unit (s := S1024x512) ![512, 0] S512x512.size inb_S1024x512_S512x512_512_0,
      k0_pay21 (F := Ideal) (k0_pay14 (lower x) w2) (k0_pay15 (lower x) w5) (k0_pay16 (lower x) w6) (k0_pay17 (lower x) w3 w4)
        (k0_pay19 (iota .tc S512x512 32 [0] iota_S512x512_d0_w32) (k0_pay6 (upper x) w3 w4) (lower x) w3 w4)
        (k0_pay20 (iota .tc S512x512 32 [0] iota_S512x512_d0_w32) (k0_pay6 (upper x) w3 w4) (lower x) w3 w4)
        (View.ld (Val := Elt Ideal) (e' := .f32) y (Rect.unit (s := S1024x512) ![512, 0] S512x512.size inb_S1024x512_S512x512_512_0))
        (tap0 cw) (tap1 cw) (tap2 cw)⟩,
    ⟨Rect.unit (s := S1024x512) ![0, 0] S512x512.size inb_S1024x512_S512x512_0_0,
      k0_pay11 (F := Ideal) (iota .tc S512x512 32 [0] iota_S512x512_d0_w32) (k0_pay3 (upper x) w2) (k0_pay4 (upper x) w5) (k0_pay5 (upper x) w6)
        (k0_pay6 (upper x) w3 w4) (k0_pay7 u) (k0_pay8 u (upper x) w3 w4) k0_pay9 (k0_pay10 u)
        (View.ld (Val := Elt Ideal) (e' := .f32) y (Rect.unit (s := S1024x512) ![0, 0] S512x512.size inb_S1024x512_S512x512_0_0))
        (tap0 cw) (tap1 cw) (tap2 cw)⟩]

/-- They cover the block. -/
theorem halves_cover (i : S1024x512.Idx) : ∃ p ∈ halves x y w2 w3 w4 w5 w6 cw u, i ∈ p.1.set :=
  View.cover_of_tiledL (halves x y w2 w3 w4 w5 w6 cw u) S512x512.size (by sl_kernel_rfl) i

/-- The mixed activation at a row and a column of the block. -/
def cell (r : Fin 1024) (j : Fin 512) : EReal :=
  mixed (dot x w2 r.val j) (dot x w5 r.val j) (dot x w6 r.val j) (y (ix2 r j)) (cw (ix2 0 j)) (cw (ix2 1 j)) (cw (ix2 2 j))
    (rowsFrom x w3 w4 u r.val j) (rowsFrom x w3 w4 u (r.val + 1) j) (rowsFrom x w3 w4 u (r.val + 2) j)

/-- The mixed activations of the block. -/
def entry (i : S1024x512.Idx) : EReal := cell x y w2 w3 w4 w5 w6 cw u (i 0) (i 1)

theorem dot_at (w : Vec Ideal S512x2048 .bf16) (n : ℕ) (hn : n < 1024) (j : Fin 512) :
    dot x w n j = ∑ d : Fin 2048, x (ix2 ⟨n, hn⟩ d) * w (ix2 j d) := by
  unfold dot
  simp only [Nat.mod_eq_of_lt hn]

theorem upper_dot (w : Vec Ideal S512x2048 .bf16) (r j : Fin 512) :
    k0_pay3 (F := Ideal) (upper x) w (ix2 r j) = dot x w r.val j := by
  rw [dot_at x w r.val (by omega)]
  pointwise [k0_pay3, k0_pay2, upper, lower]

theorem lower_dot (w : Vec Ideal S512x2048 .bf16) (r j : Fin 512) :
    k0_pay3 (F := Ideal) (lower x) w (ix2 r j) = dot x w (512 + r.val) j := by
  rw [dot_at x w (512 + r.val) (by omega)]
  pointwise [k0_pay3, k0_pay2, upper, lower]

theorem upper_input (r j : Fin 512) :
    k0_pay6 (F := Ideal) (upper x) w3 w4 (ix2 r j) = dot x w3 r.val j * dot x w4 r.val j :=
  congrArg₂ (· * ·) (upper_dot x w3 r j) (upper_dot x w4 r j)

theorem lower_input (r j : Fin 512) :
    k0_pay17 (F := Ideal) (lower x) w3 w4 (ix2 r j) = dot x w3 (512 + r.val) j * dot x w4 (512 + r.val) j :=
  congrArg₂ (· * ·) (lower_dot x w3 r j) (lower_dot x w4 r j)

/-- The mixed rows from the products, the rolled input and what precedes it. -/
theorem mixed_at (cb ga gb c yy : FVec Ideal S512x512 .f32) (v : FVec Ideal S8x512 .f32) (a0 a1 a2 : FVec Ideal S1x512 .f32) (r j : Fin 512) :
    k0_pay11 (F := Ideal) (iota .tc S512x512 32 [0] iota_S512x512_d0_w32) cb ga gb c (k0_pay7 v)
        (select (cmpi .eq (iota .tc S512x512 32 [0] iota_S512x512_d0_w32) (broadcast S512x512 0#32)) (k0_pay7 v)
          (dynamicRotate 0 1#32 none c rotates_S512x512_d0)) k0_pay9 (k0_pay10 v) yy a0 a1 a2 (ix2 r j)
      = mixed (cb (ix2 r j)) (ga (ix2 r j)) (gb (ix2 r j)) (yy (ix2 r j)) (a0 (ix2 0 j)) (a1 (ix2 0 j)) (a2 (ix2 0 j))
        (if r.val = 0 then v (ix2 6 j) else if r.val = 1 then v (ix2 7 j) else c (ix2 ⟨(r.val + 512 - 2) % 512, by omega⟩ j))
        (if r.val = 0 then v (ix2 7 j) else c (ix2 ⟨(r.val + 512 - 1) % 512, by omega⟩ j)) (c (ix2 r j)) := by
  have e0 := fun (a b : EReal) => choose_row r.val 0 r.isLt (by omega) a b
  have e1 := fun (a b : EReal) => choose_row r.val 1 r.isLt (by omega) a b
  unfold mixed
  pointwise [k0_pay11, k0_pay7, k0_pay9, k0_pay10]
  simp only [e0, e1]

/-- An entry of the block of mixed activations. -/
theorem halves_apply (r : Fin 1024) (j : Fin 512) :
    View.canon (Val := Elt Ideal) (halves x y w2 w3 w4 w5 w6 cw u) (ix2 r j) = entry x y w2 w3 w4 w5 w6 cw u (ix2 r j) := by
  refine View.canon_apply_of_pieces (Val := Elt Ideal) (entry x y w2 w3 w4 w5 w6 cw u) (halves x y w2 w3 w4 w5 w6 cw u) ?_ (ix2 r j)
    (halves_cover x y w2 w3 w4 w5 w6 cw u _)
  intro p hp z
  unfold halves at hp
  simp only [List.mem_cons, List.not_mem_nil, or_false] at hp
  obtain rfl | rfl := hp
  · obtain ⟨a, b, rfl⟩ : ∃ (a : Fin 512) (b : Fin 512), z = ix2 a b := ⟨z 0, z 1, eq_ix2 z⟩
    refine Eq.trans ?_ (congrArg (entry x y w2 w3 w4 w5 w6 cw u) (unit_emb _ (by decide) (by omega) (by omega) a b).symm)
    refine (mixed_at (k0_pay3 (lower x) w2) (k0_pay3 (lower x) w5) (k0_pay3 (lower x) w6) (k0_pay17 (lower x) w3 w4) _
      (k0_pay12 (k0_pay6 (upper x) w3 w4)) _ _ _ a b).trans ?_
    show _ = cell x y w2 w3 w4 w5 w6 cw u ⟨512 + a.val, _⟩ b
    have t0 : tap0 cw (ix2 0 b) = cw (ix2 0 b) := by pointwise [tap0]
    have t1 : tap1 cw (ix2 0 b) = cw (ix2 1 b) := by pointwise [tap1]
    have t2 : tap2 cw (ix2 0 b) = cw (ix2 2 b) := by pointwise [tap2]
    have l6 : k0_pay12 (F := Ideal) (k0_pay6 (upper x) w3 w4) (ix2 6 b) = dot x w3 510 b * dot x w4 510 b := by
      refine Eq.trans ?_ (upper_input x w3 w4 ⟨510, by omega⟩ b)
      generalize k0_pay6 (F := Ideal) (upper x) w3 w4 = f
      pointwise [k0_pay12]
    have l7 : k0_pay12 (F := Ideal) (k0_pay6 (upper x) w3 w4) (ix2 7 b) = dot x w3 511 b * dot x w4 511 b := by
      refine Eq.trans ?_ (upper_input x w3 w4 ⟨511, by omega⟩ b)
      generalize k0_pay6 (F := Ideal) (upper x) w3 w4 = f
      pointwise [k0_pay12]
    rw [lower_dot, lower_dot, lower_dot, t0, t1, t2, l6, l7]
    simp only [lower_input]
    unfold cell rowsFrom
    dsimp only
    congr 1
    · pointwise []
    · rw [if_neg (show ¬512 + a.val = 0 by omega), if_neg (show ¬512 + a.val = 1 by omega)]
      by_cases e0 : a.val = 0
      · rw [if_pos e0, e0]
      · by_cases e1 : a.val = 1
        · rw [if_neg e0, if_pos e1, e1]
        · rw [if_neg e0, if_neg e1, show 512 + (a.val + 512 - 2) % 512 = 512 + a.val - 2 by omega]
    · rw [if_neg (show ¬512 + a.val + 1 = 0 by omega), if_neg (show ¬512 + a.val + 1 = 1 by omega)]
      by_cases e0 : a.val = 0
      · rw [if_pos e0, e0]
      · rw [if_neg e0, show 512 + (a.val + 512 - 1) % 512 = 512 + a.val + 1 - 2 by omega]
  · obtain ⟨a, b, rfl⟩ : ∃ (a : Fin 512) (b : Fin 512), z = ix2 a b := ⟨z 0, z 1, eq_ix2 z⟩
    refine Eq.trans ?_ (congrArg (entry x y w2 w3 w4 w5 w6 cw u) (unit_emb _ (by decide) (by omega) (by omega) a b).symm)
    refine (mixed_at (k0_pay3 (upper x) w2) (k0_pay3 (upper x) w5) (k0_pay3 (upper x) w6) (k0_pay6 (upper x) w3 w4) _ u _ _ _ a b).trans ?_
    have ea : (⟨0 + a.val, by omega⟩ : Fin 1024) = ⟨a.val, by omega⟩ := Fin.ext (Nat.zero_add _)
    show _ = cell x y w2 w3 w4 w5 w6 cw u ⟨0 + a.val, _⟩ b
    rw [ea]
    have t0 : tap0 cw (ix2 0 b) = cw (ix2 0 b) := by pointwise [tap0]
    have t1 : tap1 cw (ix2 0 b) = cw (ix2 1 b) := by pointwise [tap1]
    have t2 : tap2 cw (ix2 0 b) = cw (ix2 2 b) := by pointwise [tap2]
    rw [upper_dot, upper_dot, upper_dot, t0, t1, t2]
    simp only [upper_input]
    unfold cell rowsFrom
    dsimp only
    congr 1
    · pointwise []
    · by_cases e0 : a.val = 0
      · rw [if_pos e0, if_pos e0]
      · by_cases e1 : a.val = 1
        · rw [if_neg e0, if_pos e1, if_neg e0, if_pos e1]
        · rw [if_neg e0, if_neg e1, if_neg e0, if_neg e1, show (a.val + 512 - 2) % 512 = a.val - 2 by omega]
    · rw [if_neg (show ¬a.val + 1 = 0 by omega)]
      by_cases e0 : a.val = 0
      · rw [if_pos e0, if_pos (by omega)]
      · rw [if_neg e0, if_neg (by omega), show (a.val + 512 - 1) % 512 = a.val + 1 - 2 by omega]

variable (m : (ℓ : Loc nD τ sig) → Buf (Elt Ideal) ℓ) (c : Dev nD) (t : Fin cfg0.N)

/-- What point `t` leaves, and the point before it. -/
abbrev at' := outsAt0 m c t.val t.isLt

/-- The point before. -/
abbrev before' := outsAt0 m c (t.val - 1) (Nat.lt_of_le_of_lt (Nat.sub_le _ _) t.isLt)

/-- The rows a column's first point starts from. -/
abbrev start : Vec Ideal S8x512 .f32 := iblk m c 8 t

/-- The mixed activations a point computes, from the rows it starts from. -/
abbrev blockOf (u : Vec Ideal S8x512 .f32) := View.canon (Val := Elt Ideal) (halves (X0_0 m c t) (iblk m c 1 t) (iblk m c 2 t) (iblk m c 3 t)
  (iblk m c 4 t) (iblk m c 5 t) (iblk m c 6 t) (iblk m c 7 t) u)

/-- The convolution's last eight rows of input. -/
abbrev lastOf : Vec Ideal S8x512 .f32 := k0_pay23 (F := Ideal) (k0_pay17 (lower (X0_0 m c t)) (iblk m c 3 t) (iblk m c 4 t))

/-- The mixed activations of a column's first point. -/
theorem act_A (h0 : t.val % 8 = 0) (h1 : ¬t.val % 8 = 7) : (at' m c t).1 = blockOf m c t (k0_pay1 (F := Ideal) (start m c t)) := by
  unfold at'
  rw [outsAt0_A m c t h0 h1]
  dsimp only
  unfold out0_A_9
  rw [View.read_writes_eq_canon _ _ _ (by apply cover0_A_9)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread,
    (Memref.isWhole_whole _).read_unread]
  simp only [View.ld_unit_zero (S := S512x2048) zero2, View.ld_unit_zero (S := S8x512) zero2, View.readCov_unit_zero (S := S8x512) _ zero2]
  rfl

/-- Those of a point between the first and the last. -/
theorem act_B (h0 : ¬t.val % 8 = 0) (h1 : ¬t.val % 8 = 7) : (at' m c t).1 = blockOf m c t (before' m c t).2.2 := by
  unfold at'
  rw [outsAt0_B m c t h0 h1]
  generalize (before' m c t).2.2 = u
  dsimp only
  unfold out0_B_9
  rw [View.read_writes_eq_canon _ _ _ (by apply cover0_B_9)]
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread,
    (Memref.isWhole_whole _).read_unread]
  simp only [View.ld_unit_zero (S := S512x2048) zero2, View.ld_unit_zero (S := S8x512) zero2]
  rfl

/-- Those of a column's last point. -/
theorem act_C (h0 : ¬t.val % 8 = 0) (h1 : t.val % 8 = 7) : (at' m c t).1 = blockOf m c t (before' m c t).2.2 := by
  unfold at'
  rw [outsAt0_C m c t h0 h1]
  generalize (before' m c t).2.2 = u
  dsimp only
  unfold out0_C_9
  rw [View.read_writes_eq_canon _ _ _ (by apply cover0_C_9)]
  unfold kernelRun0_C
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread,
    (Memref.isWhole_whole _).read_unread]
  simp only [View.ld_unit_zero (S := S512x2048) zero2, View.ld_unit_zero (S := S8x512) zero2]
  rfl

/-- The rows a column's first point keeps. -/
theorem kept_A (h0 : t.val % 8 = 0) (h1 : ¬t.val % 8 = 7) : (at' m c t).2.2 = lastOf m c t := by
  unfold at'
  rw [outsAt0_A m c t h0 h1]
  dsimp only
  unfold sout0_A_0
  rw [View.read_writes_eq_canon _ _ _ (by apply scover0_A_0)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread,
    (Memref.isWhole_whole _).read_unread]
  rw [View.canon_cons_unit_zero zero2]
  simp only [View.ld_unit_zero (S := S512x2048) zero2, View.ld_unit_zero (S := S8x512) zero2, View.readCov_unit_zero (S := S8x512) _ zero2]

/-- The rows a point between the first and the last keeps. -/
theorem kept_B (h0 : ¬t.val % 8 = 0) (h1 : ¬t.val % 8 = 7) : (at' m c t).2.2 = lastOf m c t := by
  unfold at'
  rw [outsAt0_B m c t h0 h1]
  generalize (before' m c t).2.2 = u
  dsimp only
  unfold sout0_B_0
  rw [View.read_writes_eq_canon _ _ _ (by apply scover0_B_0)]
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread,
    (Memref.isWhole_whole _).read_unread]
  rw [View.canon_cons_unit_zero zero2]
  simp only [View.ld_unit_zero (S := S512x2048) zero2, View.ld_unit_zero (S := S8x512) zero2]

/-- The rows a column's last point keeps. -/
theorem kept_C (h0 : ¬t.val % 8 = 0) (h1 : t.val % 8 = 7) : (at' m c t).2.2 = lastOf m c t := by
  unfold at'
  rw [outsAt0_C m c t h0 h1]
  generalize (before' m c t).2.2 = u
  dsimp only
  unfold sout0_C_0
  rw [View.read_writes_eq_canon _ _ _ (by apply scover0_C_0)]
  unfold kernelRun0_C
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread,
    (Memref.isWhole_whole _).read_unread]
  rw [View.canon_cons_unit_zero zero2]
  simp only [View.ld_unit_zero (S := S512x2048) zero2, View.ld_unit_zero (S := S8x512) zero2]

/-- The rows a column's last point returns, the same ones. -/
abbrev returnedOf : Vec Ideal S8x512 .f32 := k0_pay22 (F := Ideal) (k0_pay17 (lower (X0_0 m c t)) (iblk m c 3 t) (iblk m c 4 t))

/-- The rows a column's last point returns. -/
theorem last_C (h0 : ¬t.val % 8 = 0) (h1 : t.val % 8 = 7) : (at' m c t).2.1 = returnedOf m c t := by
  unfold at'
  rw [outsAt0_C m c t h0 h1]
  generalize (before' m c t).2.2 = u
  dsimp only
  unfold out0_C_10
  rw [View.read_writes_eq_canon _ _ _ (by apply cover0_C_10)]
  unfold kernelRun0_C
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread,
    (Memref.isWhole_whole _).read_unread]
  rw [View.canon_cons_unit_zero zero2]
  simp only [View.ld_unit_zero (S := S512x2048) zero2, View.ld_unit_zero (S := S8x512) zero2]

end Mix

end
-- ==== Proof.MixClaims.lean ====
/-
  The prompt's mixing call: its results, entry by entry, are the reference's, and the reference runs.
-/
module

public import proofs.«01_k».proof.Defs
public import proofs.«01_k».proof.Proof.MixPoint
public import proofs.«01_k».proof.Proof.Gen.MixReferenceIdeal.Run

@[expose] public section

noncomputable section

namespace Mix

open Idealize.ShloMosaic Idealize.ShloMosaic.TcCoe Idealize.SL.Sem
open Idealize.ShloMosaic.Tactic Views

set_option maxRecDepth 16384

section Shared

open Cert.MixIdeal

variable (x : FVec Ideal S1x8192x2048 .f32) (ya : FVec Ideal S1x8192x2048 .f32) (w : FVec Ideal S1x2048x16400 .f32)
  (cw : FVec Ideal S1x3x2048 .f32) (buf : FVec Ideal S1x2x2048 .f32)

/-- The projection of a token on one of the call's columns. -/
def proj (r : Fin 8192) (k : Fin 10240) : EReal :=
  ∑ d : Fin 2048, x (ix3 0 r d) * w (ix3 0 d ⟨6160 + k.val, by omega⟩)

/-- The convolution's input by row: the cache's two rows, and then the tokens'. -/
def seqRow (n : ℕ) (j : Fin 2048) : EReal :=
  if n = 0 then buf (ix3 0 0 j) else if n = 1 then buf (ix3 0 1 j)
  else proj x w ⟨(n - 2) % 8192, Nat.mod_lt _ (by omega)⟩ ⟨2048 + j.val, by omega⟩
    * proj x w ⟨(n - 2) % 8192, Nat.mod_lt _ (by omega)⟩ ⟨4096 + j.val, by omega⟩

/-- The mixed activation of a token. -/
def act (r : Fin 8192) (j : Fin 2048) : EReal :=
  mixed (proj x w r ⟨j.val, by omega⟩) (proj x w r ⟨6144 + j.val, by omega⟩) (proj x w r ⟨8192 + j.val, by omega⟩) (ya (ix3 0 r j))
    (cw (ix3 0 0 j)) (cw (ix3 0 1 j)) (cw (ix3 0 2 j))
    (seqRow x w buf r.val j) (seqRow x w buf (r.val + 1) j) (seqRow x w buf (r.val + 2) j)

/-- A token's row of the convolution's input. -/
theorem seqRow_token (r : Fin 8192) (j : Fin 2048) :
    seqRow x w buf (r.val + 2) j = proj x w r ⟨2048 + j.val, by omega⟩ * proj x w r ⟨4096 + j.val, by omega⟩ := by
  unfold seqRow
  rw [if_neg (by omega), if_neg (by omega)]
  have e : (⟨(r.val + 2 - 2) % 8192, Nat.mod_lt _ (by omega)⟩ : Fin 8192) = r := Fin.ext (by
    show (r.val + 2 - 2) % 8192 = r.val
    omega)
  rw [e]

end Shared

section Kernel

open Cert.MixIdeal Cert.MixIdeal.Gen

/-- Where the blocks of a point lie. -/
theorem places : ∀ t : Fin cfg0.N, win0_0.index t = ![t.val % 8, 0] ∧ win0_1.index t = ![t.val % 8, t.val / 8]
    ∧ win0_2.index t = ![t.val / 8, 0] ∧ win0_3.index t = ![4 + t.val / 8, 0] ∧ win0_4.index t = ![8 + t.val / 8, 0]
    ∧ win0_5.index t = ![12 + t.val / 8, 0] ∧ win0_6.index t = ![16 + t.val / 8, 0]
    ∧ win0_7.index t = ![0, t.val / 8] ∧ win0_8.index t = ![7, t.val / 8] :=
  (by decide +kernel : ∀ t : Fin grid0.N, _)

/-- There are 32 points. -/
theorem points (t : Fin cfg0.N) : t.val < 32 := lt_of_lt_of_eq t.isLt N_0

variable (m : (ℓ : Loc nD τ sig) → Buf (Elt Ideal) ℓ) (c : Dev nD)

/-- The arguments' contents. -/
abbrev argX : FVec Ideal S1x8192x2048 .f32 := m ((c : Thread nD τ).loc main_arg0)
abbrev argY : FVec Ideal S1x8192x2048 .f32 := m ((c : Thread nD τ).loc main_arg1)
abbrev argW : FVec Ideal S1x2048x16400 .f32 := m ((c : Thread nD τ).loc main_arg2)
abbrev argC : FVec Ideal S1x3x2048 .f32 := m ((c : Thread nD τ).loc main_arg3)
abbrev argB : FVec Ideal S1x2x2048 .f32 := m ((c : Thread nD τ).loc main_arg4)

/-- The contents the call finds in each array it reads. -/
theorem host_x : V m c main_v2 = truncf (F := Ideal) .bf16 (pad S8704x2048 ![0, 0] ![512, 0] ![0, 0]
    (shapeCast S8192x2048 (argX m c) shapeCasts_S1x8192x2048_S8192x2048) (sitofp (F := Ideal) .f32 (constantI S_ 32 0#32))
    pads_S8192x2048_S8704x2048_05120_000 h_S_) bitsLt_bf16_f32 := by
  simp only [V, hostOps0, hostOps0_1, hostOps0_2, hostOps0_3, hostOps0_4, List.flatten_cons, List.flatten_nil, List.cons_append, List.nil_append]
  entry_read
  rfl

theorem host_w : V m c main_v6 = truncf (F := Ideal) .bf16 (transpose S10240x2048 [1, 0] (shapeCast S2048x10240
    (extractStridedSlice S1x2048x10240 ![0, 0, 6160] (argW m c) slices_S1x2048x16400_S1x2048x10240_0_0_6160)
    shapeCasts_S1x2048x10240_S2048x10240) transposes_S2048x10240_S10240x2048_1_0) bitsLt_bf16_f32 := by
  simp only [V, hostOps0, hostOps0_1, hostOps0_2, hostOps0_3, hostOps0_4, List.flatten_cons, List.flatten_nil, List.cons_append, List.nil_append]
  entry_read
  rfl

theorem host_b : V m c main_v8 = pad S512x2048 ![62, 0] ![448, 0] ![0, 0]
    (shapeCast S2x2048 (argB m c) shapeCasts_S1x2x2048_S2x2048) (sitofp (F := Ideal) .f32 (constantI S_ 32 0#32))
    pads_S2x2048_S512x2048_624480_000 h_S_ := by
  simp only [V, hostOps0, hostOps0_1, hostOps0_2, hostOps0_3, hostOps0_4, List.flatten_cons, List.flatten_nil, List.cons_append, List.nil_append]
  entry_read
  rfl

theorem host_y : V m c main_v9 = shapeCast S8192x2048 (argY m c) shapeCasts_S1x8192x2048_S8192x2048 := by
  simp only [V, hostOps0, hostOps0_1, hostOps0_2, hostOps0_3, hostOps0_4, List.flatten_cons, List.flatten_nil, List.cons_append, List.nil_append]
  entry_read
  rfl

theorem host_c : V m c main_v10 = shapeCast S3x2048 (argC m c) shapeCasts_S1x3x2048_S3x2048 := by
  simp only [V, hostOps0, hostOps0_1, hostOps0_2, hostOps0_3, hostOps0_4, List.flatten_cons, List.flatten_nil, List.cons_append, List.nil_append]
  entry_read
  rfl

/-- The block of tokens. -/
theorem block_x (t : Fin cfg0.N) (r : Fin 1024) (d : Fin 2048) :
    (X0_0 m c t : FVec Ideal S1024x2048 .bf16) (ix2 r d) = argX m c (ix3 0 ⟨1024 * (t.val % 8) + r.val, by omega⟩ d) := by
  have hp := (places t).1
  have e : ∀ y : ((cfg0.win 0).xblock (cfg0.grid.coords t)).Idx, (y 0).val = r.val → (y 1).val = d.val →
      ((cfg0.win 0).blk t).view.emb y = (ix2 ⟨1024 * (t.val % 8) + r.val, by omega⟩ d : S8704x2048.Idx) := by
    intro y e1 e2
    have h1 : win0_0.index t (0 : Fin 2) = t.val % 8 := congrFun hp 0
    have h2 : win0_0.index t (1 : Fin 2) = 0 := congrFun hp 1
    funext a
    apply Fin.ext
    match a with
    | ⟨0, _⟩ =>
      show win0_0.index t (0 : Fin 2) * 1024 + 1 * (y 0).val = 1024 * (t.val % 8) + r.val
      omega
    | ⟨1, _⟩ =>
      show win0_0.index t (1 : Fin 2) * 2048 + 1 * (y 1).val = d.val
      omega
  unfold X0_0 Pipeline.Window.fill
  rw [dif_pos (moved0_0 t _)]
  show (V m c main_v2 : FVec Ideal S8704x2048 .bf16) (((cfg0.win 0).blk t).view.emb _) = _
  rw [e _ rfl rfl, host_x]
  pointwise
  exact dif_pos (by omega)

/-- The block of the other branch's activations. -/
theorem block_y (t : Fin cfg0.N) (r : Fin 1024) (j : Fin 512) :
    (iblk m c 1 t : FVec Ideal S1024x512 .f32) (ix2 r j)
      = argY m c (ix3 0 ⟨1024 * (t.val % 8) + r.val, by omega⟩ ⟨512 * (t.val / 8) + j.val, by have := points t; omega⟩) := by
  have hp := (places t).2.1
  have ht := points t
  have e : ((cfg0.win 1).blk t).view.emb (ix2 r j)
      = (ix2 ⟨1024 * (t.val % 8) + r.val, by omega⟩ ⟨512 * (t.val / 8) + j.val, by omega⟩ : S8192x2048.Idx) := by
    blk_ext! [hp]
  show (V m c main_v9 : FVec Ideal S8192x2048 .f32) (((cfg0.win 1).blk t).view.emb (ix2 r j)) = _
  rw [e, host_y]
  pointwise

/-- The block of taps. -/
theorem block_c (t : Fin cfg0.N) (k : Fin 3) (j : Fin 512) :
    (iblk m c 7 t : FVec Ideal S3x512 .f32) (ix2 k j) = argC m c (ix3 0 k ⟨512 * (t.val / 8) + j.val, by have := points t; omega⟩) := by
  have hp := (places t).2.2.2.2.2.2.2.1
  have ht := points t
  have e : ((cfg0.win 7).blk t).view.emb (ix2 k j) = (ix2 k ⟨512 * (t.val / 8) + j.val, by omega⟩ : S3x2048.Idx) := by
    blk_ext! [hp]
  show (V m c main_v10 : FVec Ideal S3x2048 .f32) (((cfg0.win 7).blk t).view.emb (ix2 k j)) = _
  rw [e, host_c]
  pointwise

/-- The block of eight rows that ends with the cache's two. -/
theorem block_b (t : Fin cfg0.N) (e : Fin 2) (j : Fin 512) :
    (iblk m c 8 t : FVec Ideal S8x512 .f32) (ix2 ⟨6 + e.val, by omega⟩ j) = argB m c (ix3 0 e ⟨512 * (t.val / 8) + j.val, by have := points t; omega⟩) := by
  have hp := (places t).2.2.2.2.2.2.2.2
  have ht := points t
  have he : ((cfg0.win 8).blk t).view.emb (ix2 ⟨6 + e.val, by omega⟩ j) = (ix2 ⟨62 + e.val, by omega⟩ ⟨512 * (t.val / 8) + j.val, by omega⟩ : S512x2048.Idx) := by
    blk_ext! [hp]
  show (V m c main_v8 : FVec Ideal S512x2048 .f32) (((cfg0.win 8).blk t).view.emb (ix2 ⟨6 + e.val, by omega⟩ j)) = _
  rw [he, host_b]
  pointwise
  refine (dif_pos (by omega)).trans ?_
  refine congrArg _ ?_
  simp

/-- Block 1 of the five blocks of weights. -/
theorem block_2 (t : Fin cfg0.N) (j : Fin 512) (d : Fin 2048) :
    (iblk m c 2 t : FVec Ideal S512x2048 .bf16) (ix2 j d)
      = argW m c (ix3 0 d ⟨6160 + ((512 * (t.val / 8) + j.val)), by have := points t; omega⟩) := by
  have hp := (places t).2.2.1
  have ht := points t
  have e : ((cfg0.win 2).blk t).view.emb (ix2 j d) = (ix2 ⟨(512 * (t.val / 8) + j.val), by omega⟩ d : S10240x2048.Idx) := by
    blk_ext! [hp]
  show (V m c main_v6 : FVec Ideal S10240x2048 .bf16) (((cfg0.win 2).blk t).view.emb (ix2 j d)) = _
  rw [e, host_w]
  pointwise

theorem dot_2 (t : Fin cfg0.N) (n : ℕ) (hn : n < 1024) (j : Fin 512) : dot (X0_0 m c t) (iblk m c 2 t) n j
    = proj (argX m c) (argW m c) ⟨1024 * (t.val % 8) + n, by omega⟩ ⟨(512 * (t.val / 8) + j.val), by have := points t; omega⟩ := by
  rw [dot_at _ _ n hn]
  exact Finset.sum_congr rfl fun d _ => congrArg₂ _ (block_x m c t ⟨n, hn⟩ d) (block_2 m c t j d)

/-- Block 2 of the five blocks of weights. -/
theorem block_3 (t : Fin cfg0.N) (j : Fin 512) (d : Fin 2048) :
    (iblk m c 3 t : FVec Ideal S512x2048 .bf16) (ix2 j d)
      = argW m c (ix3 0 d ⟨6160 + (2048 + (512 * (t.val / 8) + j.val)), by have := points t; omega⟩) := by
  have hp := (places t).2.2.2.1
  have ht := points t
  have e : ((cfg0.win 3).blk t).view.emb (ix2 j d) = (ix2 ⟨2048 + (512 * (t.val / 8) + j.val), by omega⟩ d : S10240x2048.Idx) := by
    blk_ext! [hp]
  show (V m c main_v6 : FVec Ideal S10240x2048 .bf16) (((cfg0.win 3).blk t).view.emb (ix2 j d)) = _
  rw [e, host_w]
  pointwise

theorem dot_3 (t : Fin cfg0.N) (n : ℕ) (hn : n < 1024) (j : Fin 512) : dot (X0_0 m c t) (iblk m c 3 t) n j
    = proj (argX m c) (argW m c) ⟨1024 * (t.val % 8) + n, by omega⟩ ⟨2048 + (512 * (t.val / 8) + j.val), by have := points t; omega⟩ := by
  rw [dot_at _ _ n hn]
  exact Finset.sum_congr rfl fun d _ => congrArg₂ _ (block_x m c t ⟨n, hn⟩ d) (block_3 m c t j d)

/-- Block 3 of the five blocks of weights. -/
theorem block_4 (t : Fin cfg0.N) (j : Fin 512) (d : Fin 2048) :
    (iblk m c 4 t : FVec Ideal S512x2048 .bf16) (ix2 j d)
      = argW m c (ix3 0 d ⟨6160 + (4096 + (512 * (t.val / 8) + j.val)), by have := points t; omega⟩) := by
  have hp := (places t).2.2.2.2.1
  have ht := points t
  have e : ((cfg0.win 4).blk t).view.emb (ix2 j d) = (ix2 ⟨4096 + (512 * (t.val / 8) + j.val), by omega⟩ d : S10240x2048.Idx) := by
    blk_ext! [hp]
  show (V m c main_v6 : FVec Ideal S10240x2048 .bf16) (((cfg0.win 4).blk t).view.emb (ix2 j d)) = _
  rw [e, host_w]
  pointwise

theorem dot_4 (t : Fin cfg0.N) (n : ℕ) (hn : n < 1024) (j : Fin 512) : dot (X0_0 m c t) (iblk m c 4 t) n j
    = proj (argX m c) (argW m c) ⟨1024 * (t.val % 8) + n, by omega⟩ ⟨4096 + (512 * (t.val / 8) + j.val), by have := points t; omega⟩ := by
  rw [dot_at _ _ n hn]
  exact Finset.sum_congr rfl fun d _ => congrArg₂ _ (block_x m c t ⟨n, hn⟩ d) (block_4 m c t j d)

/-- Block 4 of the five blocks of weights. -/
theorem block_5 (t : Fin cfg0.N) (j : Fin 512) (d : Fin 2048) :
    (iblk m c 5 t : FVec Ideal S512x2048 .bf16) (ix2 j d)
      = argW m c (ix3 0 d ⟨6160 + (6144 + (512 * (t.val / 8) + j.val)), by have := points t; omega⟩) := by
  have hp := (places t).2.2.2.2.2.1
  have ht := points t
  have e : ((cfg0.win 5).blk t).view.emb (ix2 j d) = (ix2 ⟨6144 + (512 * (t.val / 8) + j.val), by omega⟩ d : S10240x2048.Idx) := by
    blk_ext! [hp]
  show (V m c main_v6 : FVec Ideal S10240x2048 .bf16) (((cfg0.win 5).blk t).view.emb (ix2 j d)) = _
  rw [e, host_w]
  pointwise

theorem dot_5 (t : Fin cfg0.N) (n : ℕ) (hn : n < 1024) (j : Fin 512) : dot (X0_0 m c t) (iblk m c 5 t) n j
    = proj (argX m c) (argW m c) ⟨1024 * (t.val % 8) + n, by omega⟩ ⟨6144 + (512 * (t.val / 8) + j.val), by have := points t; omega⟩ := by
  rw [dot_at _ _ n hn]
  exact Finset.sum_congr rfl fun d _ => congrArg₂ _ (block_x m c t ⟨n, hn⟩ d) (block_5 m c t j d)

/-- Block 5 of the five blocks of weights. -/
theorem block_6 (t : Fin cfg0.N) (j : Fin 512) (d : Fin 2048) :
    (iblk m c 6 t : FVec Ideal S512x2048 .bf16) (ix2 j d)
      = argW m c (ix3 0 d ⟨6160 + (8192 + (512 * (t.val / 8) + j.val)), by have := points t; omega⟩) := by
  have hp := (places t).2.2.2.2.2.2.1
  have ht := points t
  have e : ((cfg0.win 6).blk t).view.emb (ix2 j d) = (ix2 ⟨8192 + (512 * (t.val / 8) + j.val), by omega⟩ d : S10240x2048.Idx) := by
    blk_ext! [hp]
  show (V m c main_v6 : FVec Ideal S10240x2048 .bf16) (((cfg0.win 6).blk t).view.emb (ix2 j d)) = _
  rw [e, host_w]
  pointwise

theorem dot_6 (t : Fin cfg0.N) (n : ℕ) (hn : n < 1024) (j : Fin 512) : dot (X0_0 m c t) (iblk m c 6 t) n j
    = proj (argX m c) (argW m c) ⟨1024 * (t.val % 8) + n, by omega⟩ ⟨8192 + (512 * (t.val / 8) + j.val), by have := points t; omega⟩ := by
  rw [dot_at _ _ n hn]
  exact Finset.sum_congr rfl fun d _ => congrArg₂ _ (block_x m c t ⟨n, hn⟩ d) (block_6 m c t j d)

/-- The last rows a point keeps are rows of the convolution's input. -/
theorem kept_row (t : Fin cfg0.N) (e : Fin 8) (j : Fin 512) : k0_pay22 (F := Ideal) (k0_pay17 (lower (X0_0 m c t)) (iblk m c 3 t) (iblk m c 4 t)) (ix2 e j)
    = seqRow (argX m c) (argW m c) (argB m c) (1024 * (t.val % 8) + 1016 + e.val + 2) ⟨512 * (t.val / 8) + j.val, by have := points t; omega⟩ := by
  have ht := points t
  have k := seqRow_token (argX m c) (argW m c) (argB m c) ⟨1024 * (t.val % 8) + 1016 + e.val, by omega⟩ ⟨512 * (t.val / 8) + j.val, by omega⟩
  refine Eq.trans ?_ k.symm
  have q := lower_input (X0_0 m c t) (iblk m c 3 t) (iblk m c 4 t) ⟨504 + e.val, by omega⟩ j
  have q3 := dot_3 m c t (512 + (504 + e.val)) (by omega) j
  have q4 := dot_4 m c t (512 + (504 + e.val)) (by omega) j
  have en : 1024 * (t.val % 8) + (512 + (504 + e.val)) = 1024 * (t.val % 8) + 1016 + e.val := by omega
  simp only [en] at q3 q4
  refine Eq.trans ?_ (q.trans (congrArg₂ _ q3 q4))
  generalize k0_pay17 (F := Ideal) (lower (X0_0 m c t)) (iblk m c 3 t) (iblk m c 4 t) = f
  pointwise [k0_pay22]

theorem lastOf_apply (t : Fin cfg0.N) (e : Fin 8) (j : Fin 512) : lastOf m c t (ix2 e j)
    = seqRow (argX m c) (argW m c) (argB m c) (1024 * (t.val % 8) + 1016 + e.val + 2) ⟨512 * (t.val / 8) + j.val, by have := points t; omega⟩ := by
  refine Eq.trans ?_ (kept_row m c t e j)
  unfold lastOf
  generalize k0_pay17 (F := Ideal) (lower (X0_0 m c t)) (iblk m c 3 t) (iblk m c 4 t) = f
  pointwise [k0_pay23, k0_pay22]

/-- The carried rows after any point. -/
theorem carried (t : Fin cfg0.N) : (at' m c t).2.2 = lastOf m c t := by
  by_cases h0 : t.val % 8 = 0
  · exact kept_A m c t h0 (by omega)
  · by_cases h1 : t.val % 8 = 7
    · exact kept_C m c t h0 h1
    · exact kept_B m c t h0 h1

/-- The two rows before a point's block, as the point finds them. -/
theorem before_row (t : Fin cfg0.N) (h0 : ¬t.val % 8 = 0) (e : Fin 2) (j : Fin 512) : (before' m c t).2.2 (ix2 ⟨6 + e.val, by omega⟩ j)
    = seqRow (argX m c) (argW m c) (argB m c) (1024 * (t.val % 8) + e.val) ⟨512 * (t.val / 8) + j.val, by have := points t; omega⟩ := by
  have ht := points t
  have hl : t.val - 1 < cfg0.N := Nat.lt_of_le_of_lt (Nat.sub_le _ _) t.isLt
  have k := (congrFun (carried m c ⟨t.val - 1, hl⟩) (ix2 ⟨6 + e.val, by omega⟩ j)).trans (lastOf_apply m c ⟨t.val - 1, hl⟩ ⟨6 + e.val, by omega⟩ j)
  have e1 : 1024 * ((t.val - 1) % 8) + 1016 + (6 + e.val) + 2 = 1024 * (t.val % 8) + e.val := by omega
  have e2 : (t.val - 1) / 8 = t.val / 8 := by omega
  simp only [e1, e2] at k
  exact k

theorem start_row (t : Fin cfg0.N) (h0 : t.val % 8 = 0) (e : Fin 2) (j : Fin 512) : k0_pay1 (F := Ideal) (start m c t) (ix2 ⟨6 + e.val, by omega⟩ j)
    = seqRow (argX m c) (argW m c) (argB m c) (1024 * (t.val % 8) + e.val) ⟨512 * (t.val / 8) + j.val, by have := points t; omega⟩ := by
  have k := block_b m c t e j
  have e1 : k0_pay1 (F := Ideal) (start m c t) (ix2 ⟨6 + e.val, by omega⟩ j) = start m c t (ix2 ⟨6 + e.val, by omega⟩ j) := by
    generalize start m c t = f
    pointwise [k0_pay1]
  refine (e1.trans k).trans ?_
  rw [h0]
  unfold seqRow
  match e with
  | ⟨0, _⟩ => rfl
  | ⟨1, _⟩ => rfl

/-- A point's mixed activations, from the two rows it starts from. -/
theorem block_act (t : Fin cfg0.N) (u : Vec Ideal S8x512 .f32) (hu : ∀ (e : Fin 2) (j : Fin 512), u (ix2 ⟨6 + e.val, by omega⟩ j)
      = seqRow (argX m c) (argW m c) (argB m c) (1024 * (t.val % 8) + e.val) ⟨512 * (t.val / 8) + j.val, by have := points t; omega⟩)
    (r : Fin 1024) (j : Fin 512) : blockOf m c t u (ix2 r j)
    = act (argX m c) (argY m c) (argW m c) (argC m c) (argB m c) ⟨1024 * (t.val % 8) + r.val, by omega⟩ ⟨512 * (t.val / 8) + j.val, by have := points t; omega⟩ := by
  have ht := points t
  have rows : ∀ n : ℕ, n < 1026 → rowsFrom (X0_0 m c t) (iblk m c 3 t) (iblk m c 4 t) u n j
      = seqRow (argX m c) (argW m c) (argB m c) (1024 * (t.val % 8) + n) ⟨512 * (t.val / 8) + j.val, by omega⟩ := by
    intro n hn
    unfold rowsFrom
    by_cases n0 : n = 0
    · subst n0
      exact (if_pos rfl).trans (hu 0 j)
    · by_cases n1 : n = 1
      · subst n1
        exact ((if_neg (by omega)).trans (if_pos rfl)).trans (hu 1 j)
      · rw [if_neg n0, if_neg n1, dot_3 m c t (n - 2) (by omega) j, dot_4 m c t (n - 2) (by omega) j]
        have k := seqRow_token (argX m c) (argW m c) (argB m c) ⟨1024 * (t.val % 8) + (n - 2), by omega⟩ ⟨512 * (t.val / 8) + j.val, by omega⟩
        have e1 : 1024 * (t.val % 8) + (n - 2) + 2 = 1024 * (t.val % 8) + n := by omega
        simp only [e1] at k
        exact k.symm
  refine (halves_apply _ _ _ _ _ _ _ _ _ r j).trans ?_
  show cell _ _ _ _ _ _ _ _ _ r j = _
  unfold cell act
  rw [dot_2 m c t r.val r.isLt j, dot_5 m c t r.val r.isLt j, dot_6 m c t r.val r.isLt j, rows r.val (by omega), rows (r.val + 1) (by omega),
    rows (r.val + 2) (by omega), block_y m c t r j, block_c m c t 0 j, block_c m c t 1 j, block_c m c t 2 j]
  rfl

/-- The mixed activations a point leaves. -/
theorem point_act (t : Fin cfg0.N) (r : Fin 1024) (j : Fin 512) : (at' m c t).1 (ix2 r j)
    = act (argX m c) (argY m c) (argW m c) (argC m c) (argB m c) ⟨1024 * (t.val % 8) + r.val, by omega⟩ ⟨512 * (t.val / 8) + j.val, by have := points t; omega⟩ := by
  by_cases h0 : t.val % 8 = 0
  · rw [act_A m c t h0 (by omega)]
    exact block_act m c t _ (start_row m c t h0) r j
  · by_cases h1 : t.val % 8 = 7
    · rw [act_C m c t h0 h1]
      exact block_act m c t _ (before_row m c t h0) r j
    · rw [act_B m c t h0 h1]
      exact block_act m c t _ (before_row m c t h0) r j

/-- The activations the call returns. -/
theorem result_act (r : Fin 8192) (j : Fin 2048) : Value.G9 m c (ix2 r j)
    = act (argX m c) (argY m c) (argW m c) (argC m c) (argB m c) r j := by
  have hN := N_0
  have hp : r.val / 1024 + 8 * (j.val / 512) < cfg0.N := by
    have : cfg0.N = 32 := hN
    omega
  have k := point_act m c ⟨r.val / 1024 + 8 * (j.val / 512), hp⟩ ⟨r.val % 1024, by omega⟩ ⟨j.val % 512, by omega⟩
  have e1 : 1024 * ((r.val / 1024 + 8 * (j.val / 512)) % 8) + r.val % 1024 = r.val := by omega
  have e2 : 512 * ((r.val / 1024 + 8 * (j.val / 512)) / 8) + j.val % 512 = j.val := by omega
  simp only [e1, e2] at k
  refine Eq.trans ?_ k
  have ep : Value.pt9Of (ix2 r j) = r.val / 1024 + 8 * (j.val / 512) := by
    show 1 * (r.val / 1024 - 0) + 8 * (j.val / 512 - 0) = _
    omega
  unfold Value.G9
  rw [dif_pos (by rw [ep]; exact hp)]
  unfold at'
  rw [Value.outsAt0_sweep, Value.fold0_congr m c _ _ _ _ ep]
  refine congrArg _ ?_
  funext x
  match x with
  | ⟨0, _⟩ => rfl
  | ⟨1, _⟩ => rfl

/-- The last eight rows it returns. -/
theorem result_last (e : Fin 8) (j : Fin 2048) : Value.G10 m c (ix2 e j)
    = seqRow (argX m c) (argW m c) (argB m c) (8186 + e.val) j := by
  have hN := N_0
  have hp : 8 * (j.val / 512) + 7 < cfg0.N := by
    have : cfg0.N = 32 := hN
    omega
  have k := (congrFun (last_C m c ⟨8 * (j.val / 512) + 7, hp⟩ (by show ¬(8 * (j.val / 512) + 7) % 8 = 0; omega)
    (by show (8 * (j.val / 512) + 7) % 8 = 7; omega)) (ix2 e ⟨j.val % 512, by omega⟩)).trans
    (kept_row m c ⟨8 * (j.val / 512) + 7, hp⟩ e ⟨j.val % 512, by omega⟩)
  have e1 : 1024 * ((8 * (j.val / 512) + 7) % 8) + 1016 + e.val + 2 = 8186 + e.val := by omega
  have e2 : 512 * ((8 * (j.val / 512) + 7) / 8) + j.val % 512 = j.val := by omega
  simp only [e1, e2] at k
  refine Eq.trans ?_ k
  have ep : Value.pt10Of (ix2 e j) = 8 * (j.val / 512) + 7 := by
    show 8 * (4 * (e.val / 8 - 0) + 1 * (j.val / 512 - 0)) + 7 = _
    omega
  unfold Value.G10
  rw [dif_pos (by rw [ep]; exact hp)]
  unfold at'
  rw [Value.outsAt0_sweep, Value.fold0_congr m c _ _ _ _ ep]
  refine congrArg _ ?_
  funext x
  match x with
  | ⟨0, _⟩ => exact Fin.ext (Nat.mod_eq_of_lt e.isLt)
  | ⟨1, _⟩ => rfl

end Kernel

section Reference

open Cert.MixReferenceIdeal Cert.MixReferenceIdeal.Gen

/-- The reference's product and its convolution's input, as it writes them. -/
abbrev product (x : FVec Ideal S1x8192x2048 .f32) (w : FVec Ideal S1x2048x16400 .f32) : FVec Ideal S1x8192x10240 .f32 :=
  Host.dotGeneral dot_S1x8192x2048_S2048x10240_S1x8192x10240_2_0_01_1_n_n none x (shapeCast _ (extractStridedSlice S1x2048x10240 ![0, 0, 6160] w slices_S1x2048x16400_S1x2048x10240_0_0_6160) shapeCasts_S1x2048x10240_S2048x10240)

abbrev joined (D : FVec Ideal S1x8192x10240 .f32) (buf : FVec Ideal S1x2x2048 .f32) : FVec Ideal S1x8194x2048 .f32 :=
  concatenate S1x8194x2048 1 [⟨S1x2x2048, buf⟩, ⟨S1x8192x2048, (mulf (extractStridedSlice S1x8192x2048 ![0, 0, 2048] D slices_S1x8192x10240_S1x8192x2048_0_0_2048) (extractStridedSlice S1x8192x2048 ![0, 0, 4096] D slices_S1x8192x10240_S1x8192x2048_0_0_4096))⟩] concatenates_S1x2x2048_S1x8192x2048_S1x8194x2048_d1

theorem product_apply (x : FVec Ideal S1x8192x2048 .f32) (w : FVec Ideal S1x2048x16400 .f32) (r : Fin 8192) (k : Fin 10240) :
    product x w (ix3 0 r k) = proj x w r k := by
  unfold proj
  pointwise [product]

theorem joined_apply (D : FVec Ideal S1x8192x10240 .f32) (buf : FVec Ideal S1x2x2048 .f32) (n : Fin 8194) (j : Fin 2048) :
    joined D buf (ix3 0 n j) = if h : n.val < 2 then buf (ix3 0 ⟨n.val, h⟩ j)
      else D (ix3 0 ⟨n.val - 2, by omega⟩ ⟨2048 + j.val, by omega⟩) * D (ix3 0 ⟨n.val - 2, by omega⟩ ⟨4096 + j.val, by omega⟩) := by
  pointwise [joined]

/-- The activations as the reference writes them. -/
abbrev mixing (D : FVec Ideal S1x8192x10240 .f32) (C : FVec Ideal S1x8194x2048 .f32) (ya : FVec Ideal S1x8192x2048 .f32)
    (cw : FVec Ideal S1x3x2048 .f32) : FVec Ideal S8192x2048 .bf16 :=
  truncf (F := Ideal) .bf16 (shapeCast S8192x2048 (addf (mulf (Host.divf (broadcastInDim S1x8192x2048 ![] bcast_S_S1x8192x2048 (constant S_ .f32 0x3F800000#32)) (addf (broadcastInDim S1x8192x2048 ![] bcast_S_S1x8192x2048 (constant S_ .f32 0x3F800000#32)) (Host.exp (Host.negf (extractStridedSlice S1x8192x2048 ![0, 0, 6144] D slices_S1x8192x10240_S1x8192x2048_0_0_6144))))) ya) (mulf (Host.divf (broadcastInDim S1x8192x2048 ![] bcast_S_S1x8192x2048 (constant S_ .f32 0x3F800000#32)) (addf (broadcastInDim S1x8192x2048 ![] bcast_S_S1x8192x2048 (constant S_ .f32 0x3F800000#32)) (Host.exp (Host.negf (extractStridedSlice S1x8192x2048 ![0, 0, 8192] D slices_S1x8192x10240_S1x8192x2048_0_0_8192))))) (mulf (extractStridedSlice S1x8192x2048 ![0, 0, 0] D slices_S1x8192x10240_S1x8192x2048_0_0_0) (addf (addf (mulf (broadcastInDim S1x8192x2048 ![0, 1, 2] bcast_S1x1x2048_S1x8192x2048_0_1_2 (broadcastInDim S1x1x2048 ![2] bcast_S2048_S1x1x2048_2 (shapeCast _ (extractStridedSlice S1x2048 ![0, 0] (shapeCast _ cw shapeCasts_S1x3x2048_S3x2048) slices_S3x2048_S1x2048_0_0) shapeCasts_S1x2048_S2048))) (extractStridedSlice S1x8192x2048 ![0, 0, 0] C slices_S1x8194x2048_S1x8192x2048_0_0_0)) (mulf (broadcastInDim S1x8192x2048 ![0, 1, 2] bcast_S1x1x2048_S1x8192x2048_0_1_2 (broadcastInDim S1x1x2048 ![2] bcast_S2048_S1x1x2048_2 (shapeCast _ (extractStridedSlice S1x2048 ![1, 0] (shapeCast _ cw shapeCasts_S1x3x2048_S3x2048) slices_S3x2048_S1x2048_1_0) shapeCasts_S1x2048_S2048))) (extractStridedSlice S1x8192x2048 ![0, 1, 0] C slices_S1x8194x2048_S1x8192x2048_0_1_0))) (mulf (broadcastInDim S1x8192x2048 ![0, 1, 2] bcast_S1x1x2048_S1x8192x2048_0_1_2 (broadcastInDim S1x1x2048 ![2] bcast_S2048_S1x1x2048_2 (shapeCast _ (extractStridedSlice S1x2048 ![2, 0] (shapeCast _ cw shapeCasts_S1x3x2048_S3x2048) slices_S3x2048_S1x2048_2_0) shapeCasts_S1x2048_S2048))) (extractStridedSlice S1x8192x2048 ![0, 2, 0] C slices_S1x8194x2048_S1x8192x2048_0_2_0)))))) shapeCasts_S1x8192x2048_S8192x2048) bitsLt_bf16_f32

theorem mixing_apply (D : FVec Ideal S1x8192x10240 .f32) (C : FVec Ideal S1x8194x2048 .f32) (ya : FVec Ideal S1x8192x2048 .f32)
    (cw : FVec Ideal S1x3x2048 .f32) (r : Fin 8192) (j : Fin 2048) : mixing D C ya cw (ix2 r j)
    = mixed (D (ix3 0 r ⟨j.val, by omega⟩)) (D (ix3 0 r ⟨6144 + j.val, by omega⟩)) (D (ix3 0 r ⟨8192 + j.val, by omega⟩)) (ya (ix3 0 r j))
        (cw (ix3 0 0 j)) (cw (ix3 0 1 j)) (cw (ix3 0 2 j))
        (C (ix3 0 ⟨r.val, by omega⟩ j)) (C (ix3 0 ⟨r.val + 1, by omega⟩ j)) (C (ix3 0 ⟨r.val + 2, by omega⟩ j)) := by
  unfold mixed
  pointwise [mixing]
  simp only [sub_eq_add_neg, zero_add, Nat.add_comm 1, Nat.add_comm 2]

theorem returned_apply (C : FVec Ideal S1x8194x2048 .f32) (e : Fin 8) (j : Fin 2048) :
    shapeCast S8x2048 (extractStridedSlice S1x8x2048 ![0, 8186, 0] C slices_S1x8194x2048_S1x8x2048_0_8186_0) shapeCasts_S1x8x2048_S8x2048 (ix2 e j) = C (ix3 0 ⟨8186 + e.val, by omega⟩ j) := by
  pointwise []

/-- A row of the convolution's input in the reference. -/
theorem joined_row (x : FVec Ideal S1x8192x2048 .f32) (w : FVec Ideal S1x2048x16400 .f32) (buf : FVec Ideal S1x2x2048 .f32)
    (n : ℕ) (hn : n < 8194) (j : Fin 2048) : joined (product x w) buf (ix3 0 ⟨n, hn⟩ j) = seqRow x w buf n j := by
  rw [joined_apply]
  by_cases n0 : n = 0
  · subst n0
    rfl
  · by_cases n1 : n = 1
    · subst n1
      rfl
    · have k := seqRow_token x w buf ⟨n - 2, by omega⟩ j
      have e1 : n - 2 + 2 = n := by omega
      simp only [e1] at k
      rw [k, dif_neg (show ¬n < 2 by omega)]
      exact congrArg₂ _ (product_apply x w _ _) (product_apply x w _ _)

end Reference

/-- The kernel's results are the reference's. -/
theorem mix_computes : Cert.algebraic_MixIdeal_MixReferenceIdeal := by
  intro m g m' g' _ hargs
  refine ⟨Cert.MixIdeal.Value.G9 m, Cert.MixIdeal.Value.G10 m, Cert.MixIdeal.Value.run m g, ?_⟩
  refine (θ_run _ _ _).mono (fun r h c => ?_) (Cert.MixReferenceIdeal.Value.run m' g')
  obtain ⟨h0, h1, h2, h3, h4⟩ := hargs c
  obtain ⟨r0, r1, rest⟩ := h c
  refine ⟨r0.trans ?_, r1.trans ?_, rest⟩
  · unfold Cert.MixReferenceIdeal.Value.res_main_v49
    rw [h0, h1, h2, h3, h4]
    funext i
    obtain ⟨a, b, rfl⟩ : ∃ (a : Fin 8192) (b : Fin 2048), i = ix2 a b := ⟨i 0, i 1, eq_ix2 i⟩
    refine Eq.trans ?_ (result_act m c a b).symm
    refine (mixing_apply (product (argX m c) (argW m c)) (joined (product (argX m c) (argW m c)) (argB m c)) (argY m c) (argC m c) a b).trans ?_
    unfold act
    rw [product_apply, product_apply, product_apply, joined_row, joined_row, joined_row]
  · rw [h0, h2, h4]
    funext i
    obtain ⟨a, b, rfl⟩ : ∃ (a : Fin 8) (b : Fin 2048), i = ix2 a b := ⟨i 0, i 1, eq_ix2 i⟩
    refine Eq.trans ?_ (result_last m c a b).symm
    exact (returned_apply (joined (product (argX m c) (argW m c)) (argB m c)) a b).trans (joined_row _ _ _ _ _ b)

/-- The reference runs and leaves its arguments as they were. -/
theorem mix_reference_runs : Cert.quiescent_MixReferenceIdeal := fun m g _ =>
  (θ_run Cert.MixReferenceIdeal.defs _ _).mono (fun r h => ⟨fun c => (h c).2.2, sem_eq_zero_of_no_sems (by decide) r.2⟩)
    (Cert.MixReferenceIdeal.Value.run m g)

end Mix

end
-- ==== Proof.DownIdealRun.lean ====
/-
  The feed-forward part's second half, over any floats: what its body leaves at a grid point, and the run of the whole call.
  The first 32 points fill blocks of the prompt's result, the last two those of the other rows' result; the prompt's last
  block stays in its buffer through the last two points and is written back at the end.
-/
module

public import proofs.«01_k».proof.Proof.Gen.DownIdeal.Frame
public import proofs.«01_k».proof.Proof.Gen.DownIdeal.Skeleton
public import Idealize.ShloMosaic.Lib.Claim

@[expose] public section

set_option maxRecDepth 16384

noncomputable section

namespace Down.Exact

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.DownIdeal Cert.DownIdeal.Gen

variable {F : FTy → Type} [FloatOps F]

/-- The logic's resources for this program. -/
abbrev Res (F : FTy → Type) [FloatOps F] := MT nD τ sig Unit (Elt F) ℕ (UR sig nD τ) ℕ

variable (m : (ℓ : Loc nD τ sig) → Buf (Elt F) ℓ) (ρ : Dev nD → PrngReg)

/-! ## The rectangles -/

/-- The activations' upper and lower half. -/
abbrev actTop : Rect S256x5632 := Rect.unit (s := S256x5632) ![0, 0] S128x5632.size inb_S256x5632_S128x5632_0_0
abbrev actLow : Rect S256x5632 := Rect.unit (s := S256x5632) ![128, 0] S128x5632.size inb_S256x5632_S128x5632_128_0
/-- The upper and lower half of a block of rows. -/
abbrev rowTop : Rect S256x2048 := Rect.unit (s := S256x2048) ![0, 0] S128x2048.size inb_S256x2048_S128x2048_0_0
abbrev rowLow : Rect S256x2048 := Rect.unit (s := S256x2048) ![128, 0] S128x2048.size inb_S256x2048_S128x2048_128_0
/-- The whole weight and a whole gain or bias. -/
abbrev wAll : Rect S5632x2048 := Rect.unit (s := S5632x2048) ![0, 0] S5632x2048.size inb_S5632x2048_S5632x2048_0_0
abbrev vAll : Rect S1x2048 := Rect.unit (s := S1x2048) ![0, 0] S1x2048.size inb_S1x2048_S1x2048_0_0
/-- The upper and lower half of a block of the prompt's result. -/
abbrev outTop : Rect S1x256x2048 := Rect.unit (s := S1x256x2048) ![0, 0, 0] S1x128x2048.size inb_S1x256x2048_S1x128x2048_0_0_0
abbrev outLow : Rect S1x256x2048 := Rect.unit (s := S1x256x2048) ![0, 128, 0] S1x128x2048.size inb_S1x256x2048_S1x128x2048_0_128_0

/-! ## What the body leaves -/

/-- The prompt's block, from the point's activations, rows, weight, gain and bias: its two halves, the later one first. -/
def promptBlock (x0 : Vec F S256x5632 .bf16) (x1 : Vec F S256x2048 .f32) (x2 : Vec F S5632x2048 .bf16) (x3 x4 : Vec F S1x2048 .f32) : Vec F S1x256x2048 .f32 :=
  View.canon [⟨outLow, k0_pay1 (k0_pay4 (View.ld x0 actLow)) (View.ld x2 wAll) (View.ld x1 rowLow) (View.ld x3 vAll) (View.ld x4 vAll)⟩,
    ⟨outTop, k0_pay3 (View.ld x0 actTop) (View.ld x2 wAll) (View.ld x1 rowTop) (View.ld x3 vAll) (View.ld x4 vAll)⟩]

/-- The two halves cover the block. -/
theorem prompt_cover (p q : Vec F S1x128x2048 .f32) (y : S1x256x2048.Idx) :
    ∃ pc ∈ ([⟨outLow, p⟩, ⟨outTop, q⟩] : List (View.Piece (Elt F) S1x256x2048 .f32)), y ∈ pc.1.set :=
  View.cover_of_tiled [⟨outLow, p⟩, ⟨outTop, q⟩] S1x128x2048.size (by rfl) y

/-- The other rows' block. -/
def tailBlock (x0 : Vec F S256x5632 .bf16) (x1 : Vec F S256x2048 .f32) (x2 : Vec F S5632x2048 .bf16) (x3 x4 : Vec F S1x2048 .f32) : Vec F S256x2048 .f32 :=
  View.canon [⟨rowLow, k0_pay2 (k0_pay6 (View.ld x0 actLow)) (k0_pay7 (View.ld x2 wAll)) (View.ld x1 rowLow) (View.ld x3 vAll) (View.ld x4 vAll)⟩,
    ⟨rowTop, k0_pay5 (View.ld x0 actTop) (View.ld x2 wAll) (View.ld x1 rowTop) (View.ld x3 vAll) (View.ld x4 vAll)⟩]

/-- The two halves cover the block. -/
theorem tail_cover (p q : Vec F S128x2048 .f32) (y : S256x2048.Idx) :
    ∃ pc ∈ ([⟨rowLow, p⟩, ⟨rowTop, q⟩] : List (View.Piece (Elt F) S256x2048 .f32)), y ∈ pc.1.set :=
  View.cover_of_tiled [⟨rowLow, p⟩, ⟨rowTop, q⟩] S128x2048.size (by rfl) y

/-! ## Which points fill which window -/

theorem prompt_iff : ∀ t : Fin cfg0.N, k0_cond1 (grid0.coords t) = 1#1 ↔ t.val < 32 :=
  (by decide +kernel : ∀ t : Fin grid0.N, k0_cond1 (grid0.coords t) = 1#1 ↔ t.val < 32)

theorem tail_iff : ∀ t : Fin cfg0.N, k0_cond2 (grid0.coords t) = 1#1 ↔ 32 ≤ t.val :=
  (by decide +kernel : ∀ t : Fin grid0.N, k0_cond2 (grid0.coords t) = 1#1 ↔ 32 ≤ t.val)

theorem idle_prompt : ∀ t : Fin cfg0.N, cfg0.idle 5 (grid0.coords t) = decide (32 ≤ t.val) :=
  (by decide +kernel : ∀ t : Fin grid0.N, idle0 5 (grid0.coords t) = decide (32 ≤ t.val))

theorem idle_tail : ∀ t : Fin cfg0.N, cfg0.idle 6 (grid0.coords t) = decide (t.val < 32) :=
  (by decide +kernel : ∀ t : Fin grid0.N, idle0 6 (grid0.coords t) = decide (t.val < 32))

/-- The prompt's window is written back after each point but two: its last block is written at the end. -/
theorem flush_prompt : ∀ t : Fin cfg0.N, (cfg0.win 5).flush t = decide (t.val ≠ 31 ∧ t.val ≠ 32) :=
  (by decide +kernel : ∀ t : Fin grid0.N, win0_5.flush t = decide (t.val ≠ 31 ∧ t.val ≠ 32))

/-- The other rows' window is written back after the last two points. -/
theorem flush_tail : ∀ t : Fin cfg0.N, (cfg0.win 6).flush t = decide (32 ≤ t.val) :=
  (by decide +kernel : ∀ t : Fin grid0.N, win0_6.flush t = decide (32 ≤ t.val))

theorem fetch_prompt (t : Fin cfg0.N) : (cfg0.win 5).fetch t = false := rfl

/-- The point that filled the block in the prompt's window: the point itself, for the last two the one before them. -/
def filled (t : Fin cfg0.N) : Fin cfg0.N := ⟨min t.val 31, lt_of_le_of_lt (Nat.min_le_left _ _) t.isLt⟩

theorem filled_of_lt (t : Fin cfg0.N) (h : t.val < 32) : filled t = t := Fin.ext (by unfold filled; dsimp only; omega)

/-! ## The body's two runs -/

set_option maxHeartbeats 1000000 in
/-- At one of the prompt's points the body fills the prompt's block. -/
theorem run_prompt (c : Dev nD) (E : Set ℕ) (i : grid0.Coords) (arg1 : Memref sig .tc .vmem S256x5632 .bf16) (harg1 : arg1.IsWhole) (arg2 : Memref sig .tc .vmem S256x2048 .f32) (harg2 : arg2.IsWhole) (arg3 : Memref sig .tc .vmem S5632x2048 .bf16) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1x256x2048 .f32) (harg6 : arg6.IsWhole) (arg7 : Memref sig .tc .vmem S256x2048 .f32) (harg7 : arg7.IsWhole)
    (h1 : k0_cond1 i = 1#1) (h2 : ¬k0_cond2 i = 1#1)
    (x0 : Vec F S256x5632 .bf16) (x1 : Vec F S256x2048 .f32) (x2 : Vec F S5632x2048 .bf16) (x3 x4 : Vec F S1x2048 .f32) (K : PUnit → sProp (Res F)) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (promptBlock x0 x1 x2 x3 x4)) -∗ K ⟨⟩))
      ⊢ wp frame (wpE (defs₀ (F := F)) Variants.none c none) E (cc0_ffn_down_ln i arg1 harg1 arg2 harg2 arg3 harg3 arg4 harg4 arg5 harg5 arg6 harg6 arg7 harg7) K := by
  simp only [cc0_ffn_down_ln_eq_skeleton]; unfold cc0_ffn_down_ln_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec (disch := first | sl_exact h1 | sl_exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  refine (View.read_writes_eq_canon _ _ _ (prompt_cover _ _)).trans ?_
  rfl

set_option maxHeartbeats 1000000 in
/-- At one of the last two points the body fills the other rows' block. -/
theorem run_tail (c : Dev nD) (E : Set ℕ) (i : grid0.Coords) (arg1 : Memref sig .tc .vmem S256x5632 .bf16) (harg1 : arg1.IsWhole) (arg2 : Memref sig .tc .vmem S256x2048 .f32) (harg2 : arg2.IsWhole) (arg3 : Memref sig .tc .vmem S5632x2048 .bf16) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1x256x2048 .f32) (harg6 : arg6.IsWhole) (arg7 : Memref sig .tc .vmem S256x2048 .f32) (harg7 : arg7.IsWhole)
    (h1 : ¬k0_cond1 i = 1#1) (h2 : k0_cond2 i = 1#1)
    (x0 : Vec F S256x5632 .bf16) (x1 : Vec F S256x2048 .f32) (x2 : Vec F S5632x2048 .bf16) (x3 x4 : Vec F S1x2048 .f32) (K : PUnit → sProp (Res F)) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg7 fullShare (tailBlock x0 x1 x2 x3 x4)) -∗ K ⟨⟩))
      ⊢ wp frame (wpE (defs₀ (F := F)) Variants.none c none) E (cc0_ffn_down_ln i arg1 harg1 arg2 harg2 arg3 harg3 arg4 harg4 arg5 harg5 arg6 harg6 arg7 harg7) K := by
  simp only [cc0_ffn_down_ln_eq_skeleton]; unfold cc0_ffn_down_ln_skel
  simp only [k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d6, %f6, -, H6⟩, Hk⟩
  subst hf0 hf1 hf2 hf3 hf4
  sl_exec (disch := first | sl_exact h1 | sl_exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H6
  ipureintro
  refine (View.read_writes_eq_canon _ _ _ (tail_cover _ _)).trans ?_
  rfl

/-! ## The contents point by point -/

/-- What the windows' buffers hold after each point: an input's its block, the prompt's the block last filled, the other
    rows' the block of the point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => promptBlock (iblk m c 0 (filled t)) (iblk m c 1 (filled t)) (iblk m c 2 (filled t)) (iblk m c 3 (filled t)) (iblk m c 4 (filled t))
    | ⟨6, _⟩ => tailBlock (iblk m c 0 t) (iblk m c 1 t) (iblk m c 2 t) (iblk m c 3 t) (iblk m c 4 t)
  Φ _ := Pipeline.ΦA spec0 c
  q _ := fullShare
  owed _ := 0

theorem entry_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t
    = promptBlock (iblk m c 0 (filled t)) (iblk m c 1 (filled t)) (iblk m c 2 (filled t)) (iblk m c 3 (filled t)) (iblk m c 4 (filled t)) := by
  dsimp only [dats]
theorem after_6 (c : Dev nD) (t : Fin cfg0.N) : (dats m 0 c).after 6 t
    = tailBlock (iblk m c 0 t) (iblk m c 1 t) (iblk m c 2 t) (iblk m c 3 t) (iblk m c 4 t) := by
  dsimp only [dats]

theorem before_0 (c : Dev nD) (t : Fin cfg0.N) (d) : (dats m 0 c).before 0 t d = iblk m c 0 t :=
  before0_0_of m (dats m 0 c) (entry_eq m c 0) (after_0 m c) t d
theorem before_1 (c : Dev nD) (t : Fin cfg0.N) (d) : (dats m 0 c).before 1 t d = iblk m c 1 t :=
  before0_1_of m (dats m 0 c) (entry_eq m c 1) (after_1 m c) t d
theorem before_2 (c : Dev nD) (t : Fin cfg0.N) (d) : (dats m 0 c).before 2 t d = iblk m c 2 t :=
  before0_2_of m (dats m 0 c) (entry_eq m c 2) (after_2 m c) t d
theorem before_3 (c : Dev nD) (t : Fin cfg0.N) (d) : (dats m 0 c).before 3 t d = iblk m c 3 t :=
  before0_3_of m (dats m 0 c) (entry_eq m c 3) (after_3 m c) t d
theorem before_4 (c : Dev nD) (t : Fin cfg0.N) (d) : (dats m 0 c).before 4 t d = iblk m c 4 t :=
  before0_4_of m (dats m 0 c) (entry_eq m c 4) (after_4 m c) t d

/-- At point 32 the prompt's buffer holds what point 31 left. -/
theorem before_32 (c : Dev nD) (t : Fin cfg0.N) (ht : t.val = 32) (d) : (dats m 0 c).before 5 t d = (dats m 0 c).after 5 ⟨t.val - 1, Nat.lt_of_le_of_lt (Nat.sub_le _ _) t.isLt⟩ := by
  rw [(dats m 0 c).before_of_pos 5 t (by omega) (fetch_prompt t), flush_prompt, if_neg (by simp only [decide_eq_true_eq]; omega)]
  unfold Dat.left
  rw [idle_prompt]
  rw [show decide (32 ≤ (⟨t.val - 1, Nat.lt_of_le_of_lt (Nat.sub_le _ _) t.isLt⟩ : Fin cfg0.N).val) = false from decide_eq_false (by dsimp only; omega)]
  rfl

/-- At point 33 it still does. -/
theorem before_33 (c : Dev nD) (t : Fin cfg0.N) (ht : t.val = 33) (d) : (dats m 0 c).before 5 t d = (dats m 0 c).after 5 t := by
  rw [(dats m 0 c).before_of_pos 5 t (by omega) (fetch_prompt t), flush_prompt, if_neg (by simp only [decide_eq_true_eq]; omega)]
  unfold Dat.left
  rw [idle_prompt]
  rw [show decide (32 ≤ (⟨t.val - 1, Nat.lt_of_le_of_lt (Nat.sub_le _ _) t.isLt⟩ : Fin cfg0.N).val) = true from decide_eq_true (by dsimp only; omega)]
  dsimp only
  rw [before_32 m c _ (by dsimp only; omega), after_5, after_5]
  rw [show filled (⟨t.val - 1 - 1, _⟩ : Fin cfg0.N) = filled t from Fin.ext (by unfold filled; dsimp only; omega)]

/-! ## The body's obligation -/

/-- What the body starts from. -/
def bodyPre (c : Dev nD) (t : Fin cfg0.N) : sProp (Res F) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- What it must leave. -/
def bodyPost (c : Dev nD) (t : Fin cfg0.N) : sProp (Res F) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (dats m 0 c).leavesExact 5 t
    ∗ (dats m 0 c).leavesExact 6 t)

/-- At one of the prompt's points the prompt's buffer is left at its block, -/
theorem leaves_prompt (c : Dev nD) (t : Fin cfg0.N) (h : t.val < 32) : (dats m 0 c).leavesExact 5 t
    = owns (c : Thread nD τ) (st0_5 t) fullShare (promptBlock (iblk m c 0 t) (iblk m c 1 t) (iblk m c 2 t) (iblk m c 3 t) (iblk m c 4 t)) := by
  unfold Dat.leavesExact
  rw [idle_prompt, decide_eq_false (by omega), after_5, filled_of_lt t h]

/-- at point 32 as it was found, -/
theorem leaves_32 (c : Dev nD) (t : Fin cfg0.N) (h : t.val = 32) : (dats m 0 c).leavesExact 5 t
    = iprop(∃ d, owns (c : Thread nD τ) (st0_5 t) fullShare ((dats m 0 c).before 5 t d)) :=
  Dat.leavesExact_idle (dats m 0 c) 5 t ((idle_prompt t).trans (decide_eq_true (by omega)))
    ((flush_prompt t).trans (decide_eq_false (by omega)))

/-- and at point 33 at the block that is then written back. -/
theorem leaves_33 (c : Dev nD) (t : Fin cfg0.N) (h : t.val = 33) : (dats m 0 c).leavesExact 5 t
    = owns (c : Thread nD τ) (st0_5 t) fullShare ((dats m 0 c).after 5 t) := by
  unfold Dat.leavesExact
  rw [idle_prompt, decide_eq_true (by omega), flush_prompt, decide_eq_true (by omega)]

/-- The other rows' buffer is left as it was found at the prompt's points, -/
theorem leaves_idle_tail (c : Dev nD) (t : Fin cfg0.N) (h : t.val < 32) : (dats m 0 c).leavesExact 6 t
    = iprop(∃ d, owns (c : Thread nD τ) (st0_6 t) fullShare ((dats m 0 c).before 6 t d)) :=
  Dat.leavesExact_idle (dats m 0 c) 6 t ((idle_tail t).trans (decide_eq_true h))
    ((flush_tail t).trans (decide_eq_false (by omega)))

/-- and at its block at the last two. -/
theorem leaves_tail (c : Dev nD) (t : Fin cfg0.N) (h : 32 ≤ t.val) : (dats m 0 c).leavesExact 6 t
    = owns (c : Thread nD τ) (st0_6 t) fullShare (tailBlock (iblk m c 0 t) (iblk m c 1 t) (iblk m c 2 t) (iblk m c 3 t) (iblk m c 4 t)) := by
  unfold Dat.leavesExact
  rw [idle_tail, decide_eq_false (by omega), after_6]

set_option maxHeartbeats 800000 in
/-- The body meets its obligation at every point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4]
  have hN : t.val < 34 := lt_of_lt_of_eq t.isLt (show cfg0.N = 34 from N_0)
  by_cases h0 : t.val < 32
  · rw [leaves_prompt m c t h0, leaves_idle_tail m c t h0]
    iintro ⟨HΦ, Ho, ⟨%d0, H0⟩, ⟨%d1, H1⟩, ⟨%d2, H2⟩, ⟨%d3, H3⟩, ⟨%d4, H4⟩, ⟨%d5, H5⟩, H6⟩
    iapply (run_prompt c Set.univ (grid0.coords t) _ _ _ _ _ _ _ _ _ _ _ _ _ _ ((prompt_iff t).mpr h0) (fun h => absurd ((tail_iff t).mp h) (by omega)) (iblk m c 0 t) (iblk m c 1 t) (iblk m c 2 t) (iblk m c 3 t) (iblk m c 4 t) _)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have hkeep : iprop(∃ d, owns (c : Thread nD τ) (st0_5 t) fullShare ((dats m 0 c).before 5 t d)) ⊢ (dats m 0 c).leavesExact 5 t := by
      by_cases h : t.val = 32
      · rw [leaves_32 m c t h]
      · rw [leaves_33 m c t (by omega)]
        iintro ⟨%d, H⟩
        rw [before_33 m c t (by omega) d]
        iexact H
    rw [leaves_tail m c t (by omega)]
    iintro ⟨HΦ, Ho, ⟨%d0, H0⟩, ⟨%d1, H1⟩, ⟨%d2, H2⟩, ⟨%d3, H3⟩, ⟨%d4, H4⟩, H5, ⟨%d6, H6⟩⟩
    iapply (run_tail c Set.univ (grid0.coords t) _ _ _ _ _ _ _ _ _ _ _ _ _ _ (fun h => h0 ((prompt_iff t).mp h)) ((tail_iff t).mpr (by omega)) (iblk m c 0 t) (iblk m c 1 t) (iblk m c 2 t) (iblk m c 3 t) (iblk m c 4 t) _)
    isplitl [H0]; · iexact H0
    isplitl [H1]; · iexact H1
    isplitl [H2]; · iexact H2
    isplitl [H3]; · iexact H3
    isplitl [H4]; · iexact H4
    isplitl [H6]; · iexists _; iexact H6
    iintro ⟨H0, H1, H2, H3, H4, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iapply hkeep; iexact H5
    iexact H6

theorem body_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

/-! ## The whole call -/

set_option backward.isDefEq.respectTransparency.types false in
set_option maxHeartbeats 800000 in
/-- The call ends with its arrays at the contents above and no signal left over. -/
theorem run_quiet : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := entry_eq m) (hΦ := fun _ _ => rfl)

theorem run_arrays : θ_run defs (onTc (τ := τ) (main (F := F))) (s₀ m ρ) (Pipeline.FramePost cfgs (dats m) 0 (V m)) :=
  (θ_run defs _ _).mono (fun _ h => h.1) (run_quiet m ρ)

/-- The call leaves its arguments as they were. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (entry_eq m) (run_arrays m ρ)) ((θ_run defs _ _).mono (fun _ h => h.2) (run_quiet m ρ))

end Down.Exact

end
-- ==== Proof.Norm.lean ====
/-
  The layer norm of a row of 2048 numbers, as an entry of the normed row.
-/
module

public import Idealize.ShloMosaic.Lib.Pointwise

@[expose] public section

noncomputable section

namespace Norm

open Idealize.ShloMosaic

/-- The mean of a row. -/
def mean (f : Fin 2048 → EReal) : EReal := Ideal.div (∑ k : Fin 2048, f k) (FloatOps.ofBits (F := Ideal) .f32 0x45000000#32)

/-- An entry of the row's layer norm, with its weight and its bias. -/
def normed (f : Fin 2048 → EReal) (g b : EReal) (j : Fin 2048) : EReal :=
  (f j - mean f) * Ideal.rsqrt (mean (fun k => (f k - mean f) * (f k - mean f)) + FloatOps.ofBits (F := Ideal) .f32 0x3727C5AC#32) * g + b

end Norm

end
-- ==== Proof.DownClaims.lean ====
/-
  The call of the feed-forward part's second half: its results, entry by entry, are the reference's, and the reference runs.
-/
module

public import proofs.«01_k».proof.Defs
public import proofs.«01_k».proof.Proof.DownIdealRun
public import proofs.«01_k».proof.Proof.Gen.DownReferenceIdeal.Run
public import proofs.«01_k».proof.Proof.Views
public import proofs.«01_k».proof.Proof.Norm
public import Idealize.ShloMosaic.Lib.Pointwise
public import Idealize.ShloMosaic.Lib.Claim
public import Idealize.ShloMosaic.Lib.Pipeline.Value
public import Idealize.ShloMosaic.Lib.Pipeline.ValueKit.Acc
public import Idealize.ShloMosaic.Lib.Pipeline.ValueKit.Point

@[expose] public section

noncomputable section

namespace Down

open Idealize.ShloMosaic Idealize.ShloMosaic.TcCoe Idealize.SL.Sem
open Idealize.ShloMosaic.Pipeline (Dat)
open Idealize.ShloMosaic.Tactic Views Norm

set_option maxRecDepth 16384

/-- What a row of the call's results is the norm of: the scaled residual and the projection back. -/
def summed (h : Fin 2048 → EReal) (a : Fin 5632 → EReal) (w : Fin 5632 → Fin 2048 → EReal) (k : Fin 2048) : EReal :=
  FloatOps.ofBits (F := Ideal) .f32 0x3F9837F0#32 * h k + ∑ d : Fin 5632, a d * w d k

/-- Where a place of a block of rows lies in the array the block is cut from, the array and the block with a first axis of one. -/
theorem unit_emb3 {p q a b : ℕ} (o : ℕ)
    (inb : ∀ i : Fin 3, (![0, o, 0] : Fin 3 → ℕ) i + (![1, a, b] : Fin 3 → ℕ) i ≤ (![1, p, q] : Fin 3 → ℕ) i)
    (h1 : o + a ≤ p) (h2 : b ≤ q) (z : Fin 1) (x : Fin a) (y : Fin b) :
    (Rect.unit (s := ⟨3, ![1, p, q]⟩) ![0, o, 0] ![1, a, b] inb).emb (ix3 z x y) = ix3 z ⟨o + x.val, by omega⟩ ⟨y.val, by omega⟩ := by
  funext i
  apply Fin.ext
  match i with
  | ⟨0, _⟩ => exact (Nat.zero_add _).trans (Nat.one_mul _)
  | ⟨1, _⟩ => exact congrArg (o + ·) (Nat.one_mul _)
  | ⟨2, _⟩ => exact (Nat.zero_add _).trans (Nat.one_mul _)

section Kernel

open Cert.DownIdeal Cert.DownIdeal.Gen Down.Exact

/-- The body's layer norm of 128 rows. -/
def norm128 (f : FVec Ideal S128x2048 .f32) (g b : FVec Ideal S1x2048 .f32) : FVec Ideal S128x2048 .f32 :=
  have mu : FVec Ideal S128x1 .f32 := divf (shapeCast S128x1 (multiReduction .add [1] S128 f 0x00000000#32 reduces_S128x2048_S128 (.inl rfl) rfl)
    shapeCasts_S128_S128x1) (broadcast S128x1 (Scalar.ofBits .f32 0x45000000#32))
  have xc : FVec Ideal S128x2048 .f32 := subf f (broadcastTo S128x2048 mu broadcasts_S128x1_S128x2048)
  have var : FVec Ideal S128x1 .f32 := divf (shapeCast S128x1 (multiReduction .add [1] S128 (mulf xc xc) 0x00000000#32 reduces_S128x2048_S128 (.inl rfl) rfl)
    shapeCasts_S128_S128x1) (broadcast S128x1 (Scalar.ofBits .f32 0x45000000#32))
  addf (mulf (mulf xc (broadcastTo S128x2048 (rsqrt (addf var (broadcast S128x1 (Scalar.ofBits .f32 0x3727C5AC#32)))) broadcasts_S128x1_S128x2048))
    (broadcastTo S128x2048 g broadcasts_S1x2048_S128x2048)) (broadcastTo S128x2048 b broadcasts_S1x2048_S128x2048)

theorem norm128_apply (f : FVec Ideal S128x2048 .f32) (g b : FVec Ideal S1x2048 .f32) (r : Fin 128) (j : Fin 2048) :
    norm128 f g b (ix2 r j) = normed (fun k => f (ix2 r k)) (g (ix2 0 j)) (b (ix2 0 j)) j := by
  unfold normed mean
  pointwise [norm128]

/-- The body's sum of the scaled residual and the projection back. -/
def sum128 (a : FVec Ideal S128x5632 .bf16) (w : FVec Ideal S5632x2048 .bf16) (h : FVec Ideal S128x2048 .f32) : FVec Ideal S128x2048 .f32 :=
  addf (mulf (broadcast S128x2048 (Scalar.ofBits .f32 0x3F9837F0#32)) h)
    (matmul (F := Ideal) dot_S128x5632_S5632x2048_S128x2048_1_0_0_1_n_n none a w (constant S128x2048 .f32 0x00000000#32))

theorem sum128_apply (a : FVec Ideal S128x5632 .bf16) (w : FVec Ideal S5632x2048 .bf16) (h : FVec Ideal S128x2048 .f32) (r : Fin 128) (k : Fin 2048) :
    sum128 a w h (ix2 r k) = summed (fun k => h (ix2 r k)) (fun d => a (ix2 r d)) (fun d k => w (ix2 d k)) k := by
  unfold summed
  pointwise [sum128]

variable (a : FVec Ideal S128x5632 .bf16) (w : FVec Ideal S5632x2048 .bf16) (h : FVec Ideal S128x2048 .f32) (g b : FVec Ideal S1x2048 .f32)

/-- An entry of 128 rows of a block, from the rows' own numbers. -/
def row128 (r : Fin 128) (j : Fin 2048) : EReal :=
  normed (summed (fun k => h (ix2 r k)) (fun d => a (ix2 r d)) (fun d k => w (ix2 d k))) (g (ix2 0 j)) (b (ix2 0 j)) j

theorem both_apply (r : Fin 128) (j : Fin 2048) : norm128 (sum128 a w h) g b (ix2 r j) = row128 a w h g b r j := by
  unfold row128
  rw [norm128_apply]
  exact congrArg (fun f => normed f _ _ j) (funext fun k => sum128_apply a w h r k)

/-- The four stores' values: the two halves of a prompt's block and the two of the other rows'. -/
theorem pay_prompt_low (z : Fin 1) (r : Fin 128) (j : Fin 2048) : k0_pay1 (F := Ideal) (k0_pay4 a) w h g b (ix3 z r j) = row128 a w h g b r j := by
  rw [show k0_pay1 (F := Ideal) (k0_pay4 a) w h g b = shapeCast S1x128x2048 (norm128 (sum128 (shapeCast S128x5632 a shapeCasts_S128x5632_S128x5632) (shapeCast S5632x2048 w shapeCasts_S5632x2048_S5632x2048) h) g b) shapeCasts_S128x2048_S1x128x2048 from rfl,
    shapeCast_self, shapeCast_self, ← both_apply]
  pointwise

theorem pay_prompt_top (z : Fin 1) (r : Fin 128) (j : Fin 2048) : k0_pay3 (F := Ideal) a w h g b (ix3 z r j) = row128 a w h g b r j := by
  rw [show k0_pay3 (F := Ideal) a w h g b = shapeCast S1x128x2048 (norm128 (sum128 (shapeCast S128x5632 a shapeCasts_S128x5632_S128x5632) (shapeCast S5632x2048 w shapeCasts_S5632x2048_S5632x2048) h) g b) shapeCasts_S128x2048_S1x128x2048 from rfl,
    shapeCast_self, shapeCast_self, ← both_apply]
  pointwise

theorem pay_tail_low (r : Fin 128) (j : Fin 2048) : k0_pay2 (F := Ideal) (k0_pay6 a) (k0_pay7 w) h g b (ix2 r j) = row128 a w h g b r j := by
  rw [show k0_pay2 (F := Ideal) (k0_pay6 a) (k0_pay7 w) h g b = norm128 (sum128 (shapeCast S128x5632 a shapeCasts_S128x5632_S128x5632) (shapeCast S5632x2048 w shapeCasts_S5632x2048_S5632x2048) h) g b from rfl,
    shapeCast_self, shapeCast_self, both_apply]

theorem pay_tail_top (r : Fin 128) (j : Fin 2048) : k0_pay5 (F := Ideal) a w h g b (ix2 r j) = row128 a w h g b r j := by
  rw [show k0_pay5 (F := Ideal) a w h g b = norm128 (sum128 (shapeCast S128x5632 a shapeCasts_S128x5632_S128x5632) (shapeCast S5632x2048 w shapeCasts_S5632x2048_S5632x2048) h) g b from rfl,
    shapeCast_self, shapeCast_self, both_apply]

variable (x0 : Vec Ideal S256x5632 .bf16) (x1 : Vec Ideal S256x2048 .f32) (x2 : Vec Ideal S5632x2048 .bf16) (x3 x4 : Vec Ideal S1x2048 .f32)

/-- An entry of a point's block. -/
def rowOut (r : Fin 256) (j : Fin 2048) : EReal :=
  normed (summed (fun k => x1 (ix2 r k)) (fun d => x0 (ix2 r d)) (fun d k => x2 (ix2 d k))) (x3 (ix2 0 j)) (x4 (ix2 0 j)) j

/-- A piece of 128 rows of the block, from row `o` on. -/
theorem piece_row (o : ℕ) (inbA : ∀ a : Fin 2, (![o, 0] : Fin 2 → ℕ) a + S128x5632.size a ≤ S256x5632.size a)
    (inb : ∀ a : Fin 2, (![o, 0] : Fin 2 → ℕ) a + S128x2048.size a ≤ S256x2048.size a) (ho : o + 128 ≤ 256) (r : Fin 128) (j : Fin 2048) :
    row128 (View.ld (Val := Elt Ideal) (e' := .bf16) x0 (Rect.unit (s := S256x5632) ![o, 0] S128x5632.size inbA)) (View.ld (Val := Elt Ideal) (e' := .bf16) x2 wAll)
      (View.ld (Val := Elt Ideal) (e' := .f32) x1 (Rect.unit (s := S256x2048) ![o, 0] S128x2048.size inb))
      (View.ld (Val := Elt Ideal) (e' := .f32) x3 vAll) (View.ld (Val := Elt Ideal) (e' := .f32) x4 vAll) r j
    = rowOut x0 x1 x2 x3 x4 ⟨o + r.val, by omega⟩ j := by
  unfold row128 rowOut
  have l2 : View.ld (Val := Elt Ideal) (e' := .bf16) x2 wAll = x2 := View.ld_unit_zero (S := S5632x2048) zero2 _ _
  have l3 : View.ld (Val := Elt Ideal) (e' := .f32) x3 vAll = x3 := View.ld_unit_zero (S := S1x2048) zero2 _ _
  have l4 : View.ld (Val := Elt Ideal) (e' := .f32) x4 vAll = x4 := View.ld_unit_zero (S := S1x2048) zero2 _ _
  have eA : ∀ d : Fin 5632, (Rect.unit (s := S256x5632) ![o, 0] S128x5632.size inbA).emb (ix2 r d) = (ix2 ⟨o + r.val, by omega⟩ d : S256x5632.Idx) :=
    fun d => unit_emb o inbA ho (by omega) r d
  have e : ∀ k : Fin 2048, (Rect.unit (s := S256x2048) ![o, 0] S128x2048.size inb).emb (ix2 r k) = (ix2 ⟨o + r.val, by omega⟩ k : S256x2048.Idx) :=
    fun k => unit_emb o inb ho (by omega) r k
  rw [l2, l3, l4]
  exact congrArg (fun f => normed f (x3 (ix2 0 j)) (x4 (ix2 0 j)) j)
    (congrArg₂ (fun f q => summed f q (fun d k => x2 (ix2 d k))) (funext fun k => congrArg x1 (e k)) (funext fun d => congrArg x0 (eA d)))

/-- A block of the prompt's, entry by entry. -/
theorem prompt_apply : promptBlock (F := Ideal) x0 x1 x2 x3 x4 = fun y => rowOut x0 x1 x2 x3 x4 (y 1) (y 2) := by
  funext y
  refine View.canon_apply_of_pieces (Val := Elt Ideal) (S := S1x256x2048) (e := .f32) (fun y => rowOut x0 x1 x2 x3 x4 (y 1) (y 2)) _ ?_ y (prompt_cover (F := Ideal) _ _ y)
  intro p hp
  simp only [List.mem_cons, List.not_mem_nil, or_false] at hp
  rcases hp with rfl | rfl <;> intro q
  all_goals
    obtain ⟨z, r, j, rfl⟩ : ∃ (z : Fin 1) (r : Fin 128) (j : Fin 2048), q = ix3 z r j := ⟨q 0, q 1, q 2, eq_ix3 q⟩
  · refine (pay_prompt_low _ _ _ _ _ z r j).trans ((piece_row x0 x1 x2 x3 x4 128 _ _ (by omega) r j).trans ?_)
    exact (congrArg (fun y : S1x256x2048.Idx => rowOut x0 x1 x2 x3 x4 (y 1) (y 2)) (unit_emb3 128 inb_S1x256x2048_S1x128x2048_0_128_0 (by omega) (by omega) z r j)).symm
  · refine (pay_prompt_top _ _ _ _ _ z r j).trans ((piece_row x0 x1 x2 x3 x4 0 _ _ (by omega) r j).trans ?_)
    exact (congrArg (fun y : S1x256x2048.Idx => rowOut x0 x1 x2 x3 x4 (y 1) (y 2)) (unit_emb3 0 inb_S1x256x2048_S1x128x2048_0_0_0 (by omega) (by omega) z r j)).symm

/-- A block of the other rows, entry by entry. -/
theorem tail_apply : tailBlock (F := Ideal) x0 x1 x2 x3 x4 = fun y => rowOut x0 x1 x2 x3 x4 (y 0) (y 1) := by
  funext y
  refine View.canon_apply_of_pieces (Val := Elt Ideal) (S := S256x2048) (e := .f32) (fun y => rowOut x0 x1 x2 x3 x4 (y 0) (y 1)) _ ?_ y (tail_cover (F := Ideal) _ _ y)
  intro p hp
  simp only [List.mem_cons, List.not_mem_nil, or_false] at hp
  rcases hp with rfl | rfl <;> intro q
  all_goals
    obtain ⟨r, j, rfl⟩ : ∃ (r : Fin 128) (j : Fin 2048), q = ix2 r j := ⟨q 0, q 1, eq_ix2 q⟩
  · refine (pay_tail_low _ _ _ _ _ r j).trans ((piece_row x0 x1 x2 x3 x4 128 _ _ (by omega) r j).trans ?_)
    exact (congrArg (fun y : S256x2048.Idx => rowOut x0 x1 x2 x3 x4 (y 0) (y 1)) (unit_emb 128 inb_S256x2048_S128x2048_128_0 (by omega) (by omega) r j)).symm
  · refine (pay_tail_top _ _ _ _ _ r j).trans ((piece_row x0 x1 x2 x3 x4 0 _ _ (by omega) r j).trans ?_)
    exact (congrArg (fun y : S256x2048.Idx => rowOut x0 x1 x2 x3 x4 (y 0) (y 1)) (unit_emb 0 inb_S256x2048_S128x2048_0_0 (by omega) (by omega) r j)).symm

/-- Where the blocks of a point lie. -/
theorem places : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, min t.val 31, 0] ∧ win0_6.index t = ![t.val - 32, 0] :=
  (by decide +kernel : ∀ t : Fin grid0.N, _)

/-- There are 34 points. -/
theorem points (t : Fin cfg0.N) : t.val < 34 := lt_of_lt_of_eq t.isLt N_0

variable (m : (ℓ : Loc nD τ sig) → Buf (Elt Ideal) ℓ) (c : Dev nD)

/-- The arguments' contents. -/
abbrev argA : FVec Ideal S8704x5632 .f32 := m ((c : Thread nD τ).loc main_arg0)
abbrev argH : FVec Ideal S8704x2048 .f32 := m ((c : Thread nD τ).loc main_arg1)
abbrev argW : FVec Ideal S1x5632x2048 .f32 := m ((c : Thread nD τ).loc main_arg2)
abbrev argG : FVec Ideal S1x2048 .f32 := m ((c : Thread nD τ).loc main_arg3)
abbrev argB : FVec Ideal S1x2048 .f32 := m ((c : Thread nD τ).loc main_arg4)

/-- The contents the call finds in each array it reads. -/
theorem host_a : V m c main_v0 = truncf (F := Ideal) .bf16 (argA m c) bitsLt_bf16_f32 := by
  simp only [V, hostOps0, List.flatten_cons, List.flatten_nil, List.cons_append, List.nil_append]
  entry_read
  rfl

theorem host_h : V m c main_arg1 = argH m c := by
  simp only [V, hostOps0, List.flatten_cons, List.flatten_nil, List.cons_append, List.nil_append]
  entry_read
  rfl

theorem host_w : V m c main_v2 = truncf (F := Ideal) .bf16 (shapeCast S5632x2048 (argW m c) shapeCasts_S1x5632x2048_S5632x2048) bitsLt_bf16_f32 := by
  simp only [V, hostOps0, List.flatten_cons, List.flatten_nil, List.cons_append, List.nil_append]
  entry_read
  rfl

theorem host_g : V m c main_arg3 = argG m c := by
  simp only [V, hostOps0, List.flatten_cons, List.flatten_nil, List.cons_append, List.nil_append]
  entry_read
  rfl

theorem host_b : V m c main_arg4 = argB m c := by
  simp only [V, hostOps0, List.flatten_cons, List.flatten_nil, List.cons_append, List.nil_append]
  entry_read
  rfl

/-- The activations' rows. -/
theorem block_a (t : Fin cfg0.N) (r : Fin 256) (d : Fin 5632) :
    (iblk m c 0 t : FVec Ideal S256x5632 .bf16) (ix2 r d) = argA m c (ix2 ⟨256 * t.val + r.val, by have := points t; omega⟩ d) := by
  have hp := (places t).1
  have ht := points t
  have e : ((cfg0.win 0).blk t).view.emb (ix2 r d) = (ix2 ⟨256 * t.val + r.val, by omega⟩ d : S8704x5632.Idx) := by
    blk_ext! [hp]
  show (V m c main_v0 : FVec Ideal S8704x5632 .bf16) (((cfg0.win 0).blk t).view.emb (ix2 r d)) = _
  rw [e, host_a]
  pointwise

/-- The residual's rows. -/
theorem block_h (t : Fin cfg0.N) (r : Fin 256) (k : Fin 2048) :
    (iblk m c 1 t : FVec Ideal S256x2048 .f32) (ix2 r k) = argH m c (ix2 ⟨256 * t.val + r.val, by have := points t; omega⟩ k) := by
  have hp := (places t).2.1
  have ht := points t
  have e : ((cfg0.win 1).blk t).view.emb (ix2 r k) = (ix2 ⟨256 * t.val + r.val, by omega⟩ k : S8704x2048.Idx) := by
    blk_ext! [hp]
  show (V m c main_arg1 : FVec Ideal S8704x2048 .f32) (((cfg0.win 1).blk t).view.emb (ix2 r k)) = _
  rw [e, host_h]

/-- The weights. -/
theorem block_w (t : Fin cfg0.N) (d : Fin 5632) (k : Fin 2048) :
    (iblk m c 2 t : FVec Ideal S5632x2048 .bf16) (ix2 d k) = argW m c (ix3 0 d k) := by
  have hp := (places t).2.2.1
  have ht := points t
  have e : ((cfg0.win 2).blk t).view.emb (ix2 d k) = (ix2 d k : S5632x2048.Idx) := by
    blk_ext! [hp]
  show (V m c main_v2 : FVec Ideal S5632x2048 .bf16) (((cfg0.win 2).blk t).view.emb (ix2 d k)) = _
  rw [e, host_w]
  pointwise

/-- The norm's weights. -/
theorem block_g (t : Fin cfg0.N) (k : Fin 2048) :
    (iblk m c 3 t : FVec Ideal S1x2048 .f32) (ix2 0 k) = argG m c (ix2 0 k) := by
  have hp := (places t).2.2.2.1
  have ht := points t
  have e : ((cfg0.win 3).blk t).view.emb (ix2 0 k) = (ix2 0 k : S1x2048.Idx) := by
    blk_ext! [hp]
  show (V m c main_arg3 : FVec Ideal S1x2048 .f32) (((cfg0.win 3).blk t).view.emb (ix2 0 k)) = _
  rw [e, host_g]

/-- The norm's bias. -/
theorem block_b (t : Fin cfg0.N) (k : Fin 2048) :
    (iblk m c 4 t : FVec Ideal S1x2048 .f32) (ix2 0 k) = argB m c (ix2 0 k) := by
  have hp := (places t).2.2.2.2.1
  have ht := points t
  have e : ((cfg0.win 4).blk t).view.emb (ix2 0 k) = (ix2 0 k : S1x2048.Idx) := by
    blk_ext! [hp]
  show (V m c main_arg4 : FVec Ideal S1x2048 .f32) (((cfg0.win 4).blk t).view.emb (ix2 0 k)) = _
  rw [e, host_b]

/-- An entry of the call's rows, from the arguments. -/
def outAt (r : Fin 8704) (j : Fin 2048) : EReal :=
  normed (summed (fun k => argH m c (ix2 r k)) (fun d => argA m c (ix2 r d)) (fun d k => argW m c (ix3 0 d k))) (argG m c (ix2 0 j)) (argB m c (ix2 0 j)) j

/-- A point's block, from the arguments. -/
theorem point_out (t : Fin cfg0.N) (r : Fin 256) (j : Fin 2048) :
    rowOut (iblk m c 0 t) (iblk m c 1 t) (iblk m c 2 t) (iblk m c 3 t) (iblk m c 4 t) r j
    = outAt m c ⟨256 * t.val + r.val, by have := points t; omega⟩ j := by
  unfold rowOut outAt
  rw [block_g m c t j, block_b m c t j]
  refine congrArg (fun f => normed f (argG m c (ix2 0 j)) (argB m c (ix2 0 j)) j) ?_
  exact congr (congrArg₂ summed (funext fun k => block_h m c t r k) (funext fun d => block_a m c t r d)) (funext fun d => funext fun k => block_w m c t d k)

/-- The blocks of the prompt's result that are written back lie apart. -/
theorem apart_prompt : ∀ t t' : Fin cfg0.N, (cfg0.win 5).flush t = true → (cfg0.win 5).flush t' = true → t ≠ t' →
    Disjoint ((cfg0.win 5).blk t).view.set ((cfg0.win 5).blk t').view.set := fun t t' hf hf' hne =>
  (cfg0.win 5).disjoint_blk fun e => hne (Fin.ext (by
    have i : win0_5.index t = win0_5.index t' := e
    rw [(places t).2.2.2.2.2.1, (places t').2.2.2.2.2.1] at i
    have i1 : min t.val 31 = min t'.val 31 := congrFun i 1
    have f := of_decide_eq_true ((flush_prompt t).symm.trans hf)
    have f' := of_decide_eq_true ((flush_prompt t').symm.trans hf')
    have := points t
    have := points t'
    omega))

/-- So do those of the other rows' result. -/
theorem apart_tail : ∀ t t' : Fin cfg0.N, (cfg0.win 6).flush t = true → (cfg0.win 6).flush t' = true → t ≠ t' →
    Disjoint ((cfg0.win 6).blk t).view.set ((cfg0.win 6).blk t').view.set := fun t t' hf hf' hne =>
  (cfg0.win 6).disjoint_blk fun e => hne (Fin.ext (by
    have i : win0_6.index t = win0_6.index t' := e
    rw [(places t).2.2.2.2.2.2, (places t').2.2.2.2.2.2] at i
    have i1 : t.val - 32 = t'.val - 32 := congrFun i 0
    have f := of_decide_eq_true ((flush_tail t).symm.trans hf)
    have f' := of_decide_eq_true ((flush_tail t').symm.trans hf')
    omega))

/-- A block of the prompt's result at the end. -/
theorem block_prompt (t : Fin cfg0.N) (hf : (cfg0.win 5).flush t = true) :
    ((cfg0.win 5).blk t).view.read (Elt Ideal) ((dats m 0 c).arrAt 5 cfg0.N)
    = (cfg0.win 5).cut (grid0.coords t) (promptBlock (iblk m c 0 (filled t)) (iblk m c 1 (filled t)) (iblk m c 2 (filled t)) (iblk m c 3 (filled t)) (iblk m c 4 (filled t))) := by
  refine ((dats m 0 c).read_blk_arrAt_eq_flushed 5 apart_prompt cfg0.N t t.isLt hf).trans ?_
  show (cfg0.win 5).cut (grid0.coords t) ((dats m 0 c).after 5 t) = _
  rw [after_5]

/-- A block of the other rows' result at the end. -/
theorem block_tail (t : Fin cfg0.N) (hf : (cfg0.win 6).flush t = true) :
    ((cfg0.win 6).blk t).view.read (Elt Ideal) ((dats m 0 c).arrAt 6 cfg0.N)
    = (cfg0.win 6).cut (grid0.coords t) (tailBlock (iblk m c 0 t) (iblk m c 1 t) (iblk m c 2 t) (iblk m c 3 t) (iblk m c 4 t)) := by
  refine ((dats m 0 c).read_blk_arrAt_eq_flushed 6 apart_tail cfg0.N t t.isLt hf).trans ?_
  show (cfg0.win 6).cut (grid0.coords t) ((dats m 0 c).after 6 t) = _
  rw [after_6]

/-- The prompt's result. -/
abbrev promptAt (y : S1x8192x2048.Idx) : EReal := outAt m c ⟨(y 1).val, lt_of_lt_of_le (y 1).isLt (by decide)⟩ (y 2)

/-- The other rows' result. -/
abbrev tailAt (y : S512x2048.Idx) : EReal := outAt m c ⟨8192 + (y 0).val, Nat.add_lt_add_left (y 0).isLt 8192⟩ (y 1)

theorem result_prompt : (dats m 0 c).arrAt 5 cfg0.N = promptAt m c := by
  funext y
  obtain ⟨z, r, j, rfl⟩ : ∃ (z : Fin 1) (r : Fin 8192) (j : Fin 2048), y = ix3 z r j := ⟨y 0, y 1, y 2, eq_ix3 y⟩
  have hN : cfg0.N = 34 := N_0
  have hz := z.isLt
  obtain ⟨t, ht, hf⟩ : ∃ t : Fin cfg0.N, min t.val 31 = r.val / 256 ∧ (cfg0.win 5).flush t = true := by
    by_cases h : r.val / 256 = 31
    · exact ⟨⟨33, by omega⟩, by dsimp only; omega, (flush_prompt _).trans (decide_eq_true (by dsimp only; omega))⟩
    · exact ⟨⟨r.val / 256, by omega⟩, by dsimp only; omega, (flush_prompt _).trans (decide_eq_true (by dsimp only; omega))⟩
  have k := congrFun (block_prompt m c t hf) (ix3 z ⟨r.val % 256, by omega⟩ j)
  have e : ((cfg0.win 5).blk t).view.emb (ix3 z ⟨r.val % 256, by omega⟩ j) = (ix3 z r j : S1x8192x2048.Idx) := by
    have hp := (places t).2.2.2.2.2.1
    blk_ext! [hp]
  have k' := point_out m c (filled t) ⟨r.val % 256, by omega⟩ j
  have e1 : 256 * (filled t).val + r.val % 256 = r.val := by
    show 256 * min t.val 31 + r.val % 256 = r.val
    omega
  simp only [e1] at k'
  rw [prompt_apply] at k
  exact Eq.trans (congrArg _ e.symm) (k.trans k')

theorem result_tail : (dats m 0 c).arrAt 6 cfg0.N = tailAt m c := by
  funext y
  obtain ⟨r, j, rfl⟩ : ∃ (r : Fin 512) (j : Fin 2048), y = ix2 r j := ⟨y 0, y 1, eq_ix2 y⟩
  have hN : cfg0.N = 34 := N_0
  have hp : 32 + r.val / 256 < cfg0.N := by omega
  have k := congrFun (block_tail m c ⟨32 + r.val / 256, hp⟩ ((flush_tail _).trans (decide_eq_true (by dsimp only; omega)))) (ix2 ⟨r.val % 256, by omega⟩ j)
  have e : ((cfg0.win 6).blk ⟨32 + r.val / 256, hp⟩).view.emb (ix2 ⟨r.val % 256, by omega⟩ j) = (ix2 r j : S512x2048.Idx) := by
    have hp := (places ⟨32 + r.val / 256, hp⟩).2.2.2.2.2.2
    blk_ext! [hp]
  have k' := point_out m c ⟨32 + r.val / 256, hp⟩ ⟨r.val % 256, by omega⟩ j
  have e1 : 256 * (32 + r.val / 256) + r.val % 256 = 8192 + r.val := by omega
  simp only [e1] at k'
  rw [tail_apply] at k
  exact Eq.trans (congrArg _ e.symm) (k.trans k')

end Kernel

section Reference

open Cert.DownReferenceIdeal Cert.DownReferenceIdeal.Gen

/-- The reference's sum and its layer norm, as it writes them. -/
abbrev sumAll (a : FVec Ideal S8704x5632 .f32) (h : FVec Ideal S8704x2048 .f32) (w : FVec Ideal S1x5632x2048 .f32) : FVec Ideal S8704x2048 .f32 :=
  addf (mulf (broadcastInDim S8704x2048 ![] bcast_S_S8704x2048 (constant S_ .f32 0x3F9837F0#32)) h) (Host.dotGeneral dot_S8704x5632_S5632x2048_S8704x2048_1_0_0_1_n_n none a (shapeCast _ w shapeCasts_S1x5632x2048_S5632x2048))

abbrev normAll (f : FVec Ideal S8704x2048 .f32) (g b : FVec Ideal S1x2048 .f32) : FVec Ideal S8704x2048 .f32 :=
  addf (mulf (mulf (subf f (broadcastInDim S8704x2048 ![0, 1] bcast_S8704x1_S8704x2048_0_1 (Host.divf (broadcastInDim S8704x1 ![0] bcast_S8704_S8704x1_0 (Host.reduceAdd f (constant S_ .f32 0x00000000#32) reducesTo_S8704x2048_S8704_d1 h_S_)) (broadcastInDim S8704x1 ![] bcast_S_S8704x1 (constant S_ .f32 0x45000000#32))))) (broadcastInDim S8704x2048 ![0, 1] bcast_S8704x1_S8704x2048_0_1 (Host.rsqrt (addf (Host.divf (broadcastInDim S8704x1 ![0] bcast_S8704_S8704x1_0 (Host.reduceAdd (mulf (subf f (broadcastInDim S8704x2048 ![0, 1] bcast_S8704x1_S8704x2048_0_1 (Host.divf (broadcastInDim S8704x1 ![0] bcast_S8704_S8704x1_0 (Host.reduceAdd f (constant S_ .f32 0x00000000#32) reducesTo_S8704x2048_S8704_d1 h_S_)) (broadcastInDim S8704x1 ![] bcast_S_S8704x1 (constant S_ .f32 0x45000000#32))))) (subf f (broadcastInDim S8704x2048 ![0, 1] bcast_S8704x1_S8704x2048_0_1 (Host.divf (broadcastInDim S8704x1 ![0] bcast_S8704_S8704x1_0 (Host.reduceAdd f (constant S_ .f32 0x00000000#32) reducesTo_S8704x2048_S8704_d1 h_S_)) (broadcastInDim S8704x1 ![] bcast_S_S8704x1 (constant S_ .f32 0x45000000#32)))))) (constant S_ .f32 0x00000000#32) reducesTo_S8704x2048_S8704_d1 h_S_)) (broadcastInDim S8704x1 ![] bcast_S_S8704x1 (constant S_ .f32 0x45000000#32))) (broadcastInDim S8704x1 ![] bcast_S_S8704x1 (constant S_ .f32 0x3727C5AC#32)))))) (broadcastInDim S8704x2048 ![0, 1] bcast_S1x2048_S8704x2048_0_1 (broadcastInDim S1x2048 ![1] bcast_S2048_S1x2048_1 (shapeCast _ g shapeCasts_S1x2048_S2048)))) (broadcastInDim S8704x2048 ![0, 1] bcast_S1x2048_S8704x2048_0_1 (broadcastInDim S1x2048 ![1] bcast_S2048_S1x2048_1 (shapeCast _ b shapeCasts_S1x2048_S2048)))

theorem sumAll_apply (a : FVec Ideal S8704x5632 .f32) (h : FVec Ideal S8704x2048 .f32) (w : FVec Ideal S1x5632x2048 .f32) (r : Fin 8704) (k : Fin 2048) :
    sumAll a h w (ix2 r k) = summed (fun k => h (ix2 r k)) (fun d => a (ix2 r d)) (fun d k => w (ix3 0 d k)) k := by
  unfold summed
  pointwise [sumAll]

theorem normAll_apply (f : FVec Ideal S8704x2048 .f32) (g b : FVec Ideal S1x2048 .f32) (r : Fin 8704) (j : Fin 2048) :
    normAll f g b (ix2 r j) = normed (fun k => f (ix2 r k)) (g (ix2 0 j)) (b (ix2 0 j)) j := by
  unfold normed mean
  pointwise [normAll]

/-- The reference's two results, cut from its rows. -/
theorem cut_prompt (f : FVec Ideal S8704x2048 .f32) (z : Fin 1) (r : Fin 8192) (j : Fin 2048) :
    broadcastInDim S1x8192x2048 ![1, 2] bcast_S8192x2048_S1x8192x2048_1_2 (extractStridedSlice S8192x2048 ![0, 0] f slices_S8704x2048_S8192x2048_0_0) (ix3 z r j)
    = f (ix2 ⟨r.val, by omega⟩ j) := by
  pointwise

theorem cut_tail (f : FVec Ideal S8704x2048 .f32) (r : Fin 512) (j : Fin 2048) :
    extractStridedSlice S512x2048 ![8192, 0] f slices_S8704x2048_S512x2048_8192_0 (ix2 r j) = f (ix2 ⟨8192 + r.val, by omega⟩ j) := by
  pointwise

end Reference

/-- The kernel's results are the reference's. -/
theorem down_computes : Cert.algebraic_DownIdeal_DownReferenceIdeal := by
  intro m g m' g' _ hargs
  refine ⟨fun c => promptAt m c, fun c => tailAt m c, ?_, ?_⟩
  · refine (θ_run _ _ _).mono (fun r h c => ?_) (θ_run_and (Exact.run_arrays m g) (Exact.run_frame m g))
    exact ⟨((h.1 c).1 5).trans (result_prompt m c), ((h.1 c).1 6).trans (result_tail m c), h.2.1 c⟩
  · refine (θ_run _ _ _).mono (fun r h c => ?_) (Cert.DownReferenceIdeal.Value.run m' g')
    obtain ⟨h0, h1, h2, h3, h4⟩ := hargs c
    obtain ⟨r0, r1, rest⟩ := h c
    have k : ∀ a b, normAll (sumAll (argA m c) (argH m c) (argW m c)) (argG m c) (argB m c) (ix2 a b) = outAt m c a b := by
      intro a b
      refine (normAll_apply _ _ _ a b).trans ?_
      unfold outAt
      simp only [sumAll_apply]
    refine ⟨r0.trans ?_, r1.trans ?_, rest⟩
    · rw [h0, h1, h2, h3, h4]
      funext y
      obtain ⟨z, a, b, rfl⟩ : ∃ (z : Fin 1) (a : Fin 8192) (b : Fin 2048), y = ix3 z a b := ⟨y 0, y 1, y 2, eq_ix3 y⟩
      exact (cut_prompt _ z a b).trans (k _ b)
    · rw [h0, h1, h2, h3, h4]
      funext y
      obtain ⟨a, b, rfl⟩ : ∃ (a : Fin 512) (b : Fin 2048), y = ix2 a b := ⟨y 0, y 1, eq_ix2 y⟩
      exact (cut_tail _ a b).trans (k _ b)

/-- The reference runs and leaves its arguments as they were. -/
theorem down_reference_runs : Cert.quiescent_DownReferenceIdeal := fun m g _ =>
  (θ_run Cert.DownReferenceIdeal.defs _ _).mono (fun r h => ⟨fun c => (h c).2.2, sem_eq_zero_of_no_sems (by decide) r.2⟩)
    (Cert.DownReferenceIdeal.Value.run m g)

end Down

end
-- ==== Proof.OutClaims.lean ====
/-
  The output projection's call: its results, entry by entry, are the reference's, and the reference runs.
-/
module

public import proofs.«01_k».proof.Defs
public import proofs.«01_k».proof.Proof.Gen.OutIdeal.Value
public import proofs.«01_k».proof.Proof.Gen.OutReferenceIdeal.Run
public import proofs.«01_k».proof.Proof.Views
public import proofs.«01_k».proof.Proof.Norm
public import Idealize.ShloMosaic.Lib.Pointwise
public import Idealize.ShloMosaic.Lib.Claim
public import Idealize.ShloMosaic.Lib.Pipeline.ValueKit.Acc
public import Idealize.ShloMosaic.Lib.Pipeline.ValueKit.Point

@[expose] public section

noncomputable section

namespace Out

open Idealize.ShloMosaic Idealize.ShloMosaic.TcCoe Idealize.SL.Sem
open Idealize.ShloMosaic.Tactic Views Norm

set_option maxRecDepth 16384

/-- What a row of the call's result is the norm of: the scaled residual and the projection. -/
def summed (xn mm : Fin 2048 → EReal) (w : Fin 2048 → Fin 2048 → EReal) (k : Fin 2048) : EReal :=
  FloatOps.ofBits (F := Ideal) .f32 0x3F9837F0#32 * xn k + ∑ d : Fin 2048, mm d * w d k

section Kernel

open Cert.OutIdeal Cert.OutIdeal.Gen

/-- The body's layer norm of 128 rows. -/
def norm128 (f : FVec Ideal S128x2048 .f32) (g b : FVec Ideal S1x2048 .f32) : FVec Ideal S128x2048 .f32 :=
  have mu : FVec Ideal S128x1 .f32 := divf (shapeCast S128x1 (multiReduction .add [1] S128 f 0x00000000#32 reduces_S128x2048_S128 (.inl rfl) rfl)
    shapeCasts_S128_S128x1) (broadcast S128x1 (Scalar.ofBits .f32 0x45000000#32))
  have xc : FVec Ideal S128x2048 .f32 := subf f (broadcastTo S128x2048 mu broadcasts_S128x1_S128x2048)
  have var : FVec Ideal S128x1 .f32 := divf (shapeCast S128x1 (multiReduction .add [1] S128 (mulf xc xc) 0x00000000#32 reduces_S128x2048_S128 (.inl rfl) rfl)
    shapeCasts_S128_S128x1) (broadcast S128x1 (Scalar.ofBits .f32 0x45000000#32))
  addf (mulf (mulf xc (broadcastTo S128x2048 (rsqrt (addf var (broadcast S128x1 (Scalar.ofBits .f32 0x3727C5AC#32)))) broadcasts_S128x1_S128x2048))
    (broadcastTo S128x2048 g broadcasts_S1x2048_S128x2048)) (broadcastTo S128x2048 b broadcasts_S1x2048_S128x2048)

theorem norm128_apply (f : FVec Ideal S128x2048 .f32) (g b : FVec Ideal S1x2048 .f32) (r : Fin 128) (j : Fin 2048) :
    norm128 f g b (ix2 r j) = normed (fun k => f (ix2 r k)) (g (ix2 0 j)) (b (ix2 0 j)) j := by
  unfold normed mean
  pointwise [norm128]

/-- The body's sum of the scaled residual and the projection. -/
def sum128 (v : BitVec 1) (x0 x1 : Vec Ideal S128x2048 .bf16) (w : Vec Ideal S2048x2048 .bf16) (xn : Vec Ideal S128x2048 .f32) : FVec Ideal S128x2048 .f32 :=
  addf (mulf (broadcast S128x2048 (Scalar.ofBits .f32 0x3F9837F0#32)) xn)
    (matmul (F := Ideal) dot_S128x2048_S2048x2048_S128x2048_1_0_0_1_n_n none (Scalar.select v (shapeCast S128x2048 x0 shapeCasts_S128x2048_S128x2048 : FVec Ideal S128x2048 .bf16)
      (shapeCast S128x2048 x1 shapeCasts_S128x2048_S128x2048)) (shapeCast S2048x2048 w shapeCasts_S2048x2048_S2048x2048 : FVec Ideal S2048x2048 .bf16) (constant S128x2048 .f32 0x00000000#32))

theorem sum128_apply (v : BitVec 1) (x0 x1 : Vec Ideal S128x2048 .bf16) (w : Vec Ideal S2048x2048 .bf16) (xn : Vec Ideal S128x2048 .f32) (r : Fin 128) (k : Fin 2048) :
    sum128 v x0 x1 w xn (ix2 r k) = summed (fun k => xn (ix2 r k)) (fun d => if v = 1#1 then x0 (ix2 r d) else x1 (ix2 r d)) (fun d k => w (ix2 d k)) k := by
  have hv : v = 1#1 ∨ v = 0#1 := by
    revert v
    decide
  unfold summed sum128
  rcases hv with rfl | rfl
  · have s : ∀ a b : FVec Ideal S128x2048 .bf16, Scalar.select 1#1 a b = a := fun _ _ => rfl
    simp only [s, if_true]
    pointwise []
  · have s : ∀ a b : FVec Ideal S128x2048 .bf16, Scalar.select 0#1 a b = b := fun _ _ => rfl
    simp only [s, show ¬(0#1 : BitVec 1) = 1#1 by decide, if_false]
    pointwise []

/-- The choice between the prompt's rows and the others'. -/
abbrev which (i : grid0.Coords) : BitVec 1 := Scalar.cmpi .slt (BitVec.ofNat 32 (i 0).val) 16#32

variable (i : grid0.Coords) (x0 x1 : Vec Ideal S512x2048 .bf16) (x2 : Vec Ideal S512x2048 .f32) (x3 : Vec Ideal S2048x2048 .bf16)
  (x4 x5 : Vec Ideal S1x2048 .f32)

/-- A row of a point's block. -/
def rowOut (r : Fin 512) (j : Fin 2048) : EReal :=
  normed (summed (fun k => x2 (ix2 r k)) (fun d => if which i = 1#1 then x0 (ix2 r d) else x1 (ix2 r d)) (fun d k => x3 (ix2 d k)))
    (x4 (ix2 0 j)) (x5 (ix2 0 j)) j

/-- A point's block. -/
def entry (y : S512x2048.Idx) : EReal := rowOut i x0 x1 x2 x3 x4 x5 (y 0) (y 1)

/-- A piece of 128 rows of the block, from row `o` on. -/
theorem piece_apply (o : ℕ) (inb : ∀ a : Fin 2, (![o, 0] : Fin 2 → ℕ) a + S128x2048.size a ≤ S512x2048.size a) (ho : o + 128 ≤ 512)
    (r : Fin 128) (j : Fin 2048) :
    norm128 (sum128 (which i) (View.ld (Val := Elt Ideal) (e' := .bf16) x0 (Rect.unit (s := S512x2048) ![o, 0] S128x2048.size inb))
        (View.ld (Val := Elt Ideal) (e' := .bf16) x1 (Rect.unit (s := S512x2048) ![o, 0] S128x2048.size inb)) (View.ld (Val := Elt Ideal) (e' := .bf16) x3 r0_1)
        (View.ld (Val := Elt Ideal) (e' := .f32) x2 (Rect.unit (s := S512x2048) ![o, 0] S128x2048.size inb)))
      (View.ld (Val := Elt Ideal) (e' := .f32) x4 r0_2) (View.ld (Val := Elt Ideal) (e' := .f32) x5 r0_2) (ix2 r j)
    = entry i x0 x1 x2 x3 x4 x5 ((Rect.unit (s := S512x2048) ![o, 0] S128x2048.size inb).emb (ix2 r j)) := by
  refine Eq.trans ?_ (congrArg (entry i x0 x1 x2 x3 x4 x5) (unit_emb o inb ho (by omega) r j).symm)
  show _ = rowOut i x0 x1 x2 x3 x4 x5 ⟨o + r.val, _⟩ j
  unfold rowOut
  rw [norm128_apply]
  have e : ∀ k : Fin 2048, (Rect.unit (s := S512x2048) ![o, 0] S128x2048.size inb).emb (ix2 r k) = (ix2 ⟨o + r.val, by omega⟩ k : S512x2048.Idx) :=
    fun k => unit_emb o inb ho (by omega) r k
  have l3 : View.ld (Val := Elt Ideal) (e' := .bf16) x3 r0_1 = x3 := View.ld_unit_zero (S := S2048x2048) zero2 _ _
  have l4 : View.ld (Val := Elt Ideal) (e' := .f32) x4 r0_2 = x4 := View.ld_unit_zero (S := S1x2048) zero2 _ _
  have l5 : View.ld (Val := Elt Ideal) (e' := .f32) x5 r0_2 = x5 := View.ld_unit_zero (S := S1x2048) zero2 _ _
  rw [l3, l4, l5]
  refine congrArg (fun f => normed f (x4 (ix2 0 j)) (x5 (ix2 0 j)) j) (funext fun k => ?_)
  rw [sum128_apply]
  refine congrArg₂ (fun f h => summed f h (fun d k => x3 (ix2 d k)) k) (funext fun k => congrArg x2 (e k)) (funext fun d => ?_)
  exact congrArg₂ (fun a b => if which i = 1#1 then a else b) (congrArg x0 (e d)) (congrArg x1 (e d))

/-- The two results of a point, entry by entry. -/
theorem out_f32 : out0_6 (F := Ideal) i x0 x1 x2 x3 x4 x5 = entry i x0 x1 x2 x3 x4 x5 := by
  funext y
  unfold_out out0_6
  refine View.canon_apply_of_pieces (Val := Elt Ideal) (S := S512x2048) (e := .f32) (entry i x0 x1 x2 x3 x4 x5) _ ?_ y (cover0_6 (F := Ideal) _ _ _ _ y)
  intro p hp
  simp only [List.mem_cons, List.not_mem_nil, or_false] at hp
  rcases hp with rfl | rfl | rfl | rfl <;> intro z
  all_goals
    obtain ⟨a, b, rfl⟩ : ∃ (a : Fin 128) (b : Fin 2048), z = ix2 a b := ⟨z 0, z 1, eq_ix2 z⟩
  · exact piece_apply i x0 x1 x2 x3 x4 x5 384 (by decide) (by omega) a b
  · exact piece_apply i x0 x1 x2 x3 x4 x5 256 (by decide) (by omega) a b
  · exact piece_apply i x0 x1 x2 x3 x4 x5 128 (by decide) (by omega) a b
  · exact piece_apply i x0 x1 x2 x3 x4 x5 0 (by decide) (by omega) a b

theorem out_bf16 : out0_7 (F := Ideal) i x0 x1 x2 x3 x4 x5 = entry i x0 x1 x2 x3 x4 x5 := by
  funext y
  unfold_out out0_7
  refine View.canon_apply_of_pieces (Val := Elt Ideal) (S := S512x2048) (e := .bf16) (entry i x0 x1 x2 x3 x4 x5) _ ?_ y (cover0_7 (F := Ideal) _ _ _ _ y)
  intro p hp
  simp only [List.mem_cons, List.not_mem_nil, or_false] at hp
  rcases hp with rfl | rfl | rfl | rfl <;> intro z
  all_goals
    obtain ⟨a, b, rfl⟩ : ∃ (a : Fin 128) (b : Fin 2048), z = ix2 a b := ⟨z 0, z 1, eq_ix2 z⟩
  · exact piece_apply i x0 x1 x2 x3 x4 x5 384 (by decide) (by omega) a b
  · exact piece_apply i x0 x1 x2 x3 x4 x5 256 (by decide) (by omega) a b
  · exact piece_apply i x0 x1 x2 x3 x4 x5 128 (by decide) (by omega) a b
  · exact piece_apply i x0 x1 x2 x3 x4 x5 0 (by decide) (by omega) a b

/-- Where the blocks of a point lie, and which rows it takes. -/
theorem places : ∀ t : Fin cfg0.N, win0_0.index t = ![min t.val 15, 0] ∧ win0_1.index t = ![0, 0] ∧ win0_2.index t = ![t.val, 0]
    ∧ win0_3.index t = ![0, 0] ∧ win0_4.index t = ![0, 0] ∧ win0_5.index t = ![0, 0] ∧ win0_6.index t = ![t.val, 0] ∧ win0_7.index t = ![t.val, 0]
    ∧ (which (grid0.coords t) = 1#1 ↔ t.val < 16) :=
  (by decide +kernel : ∀ t : Fin grid0.N, _)

/-- There are 17 points. -/
theorem points (t : Fin cfg0.N) : t.val < 17 := lt_of_lt_of_eq t.isLt N_0

variable (m : (ℓ : Loc nD τ sig) → Buf (Elt Ideal) ℓ) (c : Dev nD)

/-- The arguments' contents. -/
abbrev argM : FVec Ideal S8704x2048 .f32 := m ((c : Thread nD τ).loc main_arg0)
abbrev argX : FVec Ideal S8704x2048 .f32 := m ((c : Thread nD τ).loc main_arg1)
abbrev argW : FVec Ideal S1x2048x2048 .f32 := m ((c : Thread nD τ).loc main_arg2)
abbrev argG : FVec Ideal S1x2048 .f32 := m ((c : Thread nD τ).loc main_arg3)
abbrev argB : FVec Ideal S1x2048 .f32 := m ((c : Thread nD τ).loc main_arg4)

/-- The contents the call finds in each array it reads. -/
theorem host_p : V m c main_v1 = extractStridedSlice S8192x2048 ![0, 0] (truncf (F := Ideal) .bf16 (argM m c) bitsLt_bf16_f32) slices_S8704x2048_S8192x2048_0_0 := by
  simp only [V, hostOps0, List.flatten_cons, List.flatten_nil, List.cons_append, List.nil_append]
  entry_read
  rfl

theorem host_t : V m c main_v2 = extractStridedSlice S512x2048 ![8192, 0] (truncf (F := Ideal) .bf16 (argM m c) bitsLt_bf16_f32) slices_S8704x2048_S512x2048_8192_0 := by
  simp only [V, hostOps0, List.flatten_cons, List.flatten_nil, List.cons_append, List.nil_append]
  entry_read
  rfl

theorem host_x : V m c main_arg1 = argX m c := by
  simp only [V, hostOps0, List.flatten_cons, List.flatten_nil, List.cons_append, List.nil_append]
  entry_read
  rfl

theorem host_w : V m c main_v4 = truncf (F := Ideal) .bf16 (shapeCast S2048x2048 (argW m c) shapeCasts_S1x2048x2048_S2048x2048) bitsLt_bf16_f32 := by
  simp only [V, hostOps0, List.flatten_cons, List.flatten_nil, List.cons_append, List.nil_append]
  entry_read
  rfl

theorem host_g : V m c main_arg3 = argG m c := by
  simp only [V, hostOps0, List.flatten_cons, List.flatten_nil, List.cons_append, List.nil_append]
  entry_read
  rfl

theorem host_b : V m c main_arg4 = argB m c := by
  simp only [V, hostOps0, List.flatten_cons, List.flatten_nil, List.cons_append, List.nil_append]
  entry_read
  rfl

/-- The prompt's rows of the mixed activations. -/
theorem block_p (t : Fin cfg0.N) (r : Fin 512) (d : Fin 2048) :
    (iblk m c 0 t : FVec Ideal S512x2048 .bf16) (ix2 r d) = argM m c (ix2 ⟨512 * min t.val 15 + r.val, by omega⟩ d) := by
  have hp := (places t).1
  have ht := points t
  have e : ((cfg0.win 0).blk t).view.emb (ix2 r d) = (ix2 ⟨512 * min t.val 15 + r.val, by omega⟩ d : S8192x2048.Idx) := by
    blk_ext! [hp]
  show (V m c main_v1 : FVec Ideal S8192x2048 .bf16) (((cfg0.win 0).blk t).view.emb (ix2 r d)) = _
  rw [e, host_p]
  pointwise

/-- The other rows. -/
theorem block_t (t : Fin cfg0.N) (r : Fin 512) (d : Fin 2048) :
    (iblk m c 1 t : FVec Ideal S512x2048 .bf16) (ix2 r d) = argM m c (ix2 ⟨8192 + r.val, by omega⟩ d) := by
  have hp := (places t).2.1
  have ht := points t
  have e : ((cfg0.win 1).blk t).view.emb (ix2 r d) = (ix2 r d : S512x2048.Idx) := by
    blk_ext! [hp]
  show (V m c main_v2 : FVec Ideal S512x2048 .bf16) (((cfg0.win 1).blk t).view.emb (ix2 r d)) = _
  rw [e, host_t]
  pointwise

/-- The residual's rows. -/
theorem block_x (t : Fin cfg0.N) (r : Fin 512) (d : Fin 2048) :
    (iblk m c 2 t : FVec Ideal S512x2048 .f32) (ix2 r d) = argX m c (ix2 ⟨512 * t.val + r.val, by have := points t; omega⟩ d) := by
  have hp := (places t).2.2.1
  have ht := points t
  have e : ((cfg0.win 2).blk t).view.emb (ix2 r d) = (ix2 ⟨512 * t.val + r.val, by omega⟩ d : S8704x2048.Idx) := by
    blk_ext! [hp]
  show (V m c main_arg1 : FVec Ideal S8704x2048 .f32) (((cfg0.win 2).blk t).view.emb (ix2 r d)) = _
  rw [e, host_x]

/-- The weights. -/
theorem block_w (t : Fin cfg0.N) (d k : Fin 2048) :
    (iblk m c 3 t : FVec Ideal S2048x2048 .bf16) (ix2 d k) = argW m c (ix3 0 d k) := by
  have hp := (places t).2.2.2.1
  have ht := points t
  have e : ((cfg0.win 3).blk t).view.emb (ix2 d k) = (ix2 d k : S2048x2048.Idx) := by
    blk_ext! [hp]
  show (V m c main_v4 : FVec Ideal S2048x2048 .bf16) (((cfg0.win 3).blk t).view.emb (ix2 d k)) = _
  rw [e, host_w]
  pointwise

/-- The norm's weights. -/
theorem block_g (t : Fin cfg0.N) (k : Fin 2048) :
    (iblk m c 4 t : FVec Ideal S1x2048 .f32) (ix2 0 k) = argG m c (ix2 0 k) := by
  have hp := (places t).2.2.2.2.1
  have ht := points t
  have e : ((cfg0.win 4).blk t).view.emb (ix2 0 k) = (ix2 0 k : S1x2048.Idx) := by
    blk_ext! [hp]
  show (V m c main_arg3 : FVec Ideal S1x2048 .f32) (((cfg0.win 4).blk t).view.emb (ix2 0 k)) = _
  rw [e, host_g]

/-- The norm's bias. -/
theorem block_b (t : Fin cfg0.N) (k : Fin 2048) :
    (iblk m c 5 t : FVec Ideal S1x2048 .f32) (ix2 0 k) = argB m c (ix2 0 k) := by
  have hp := (places t).2.2.2.2.2.1
  have ht := points t
  have e : ((cfg0.win 5).blk t).view.emb (ix2 0 k) = (ix2 0 k : S1x2048.Idx) := by
    blk_ext! [hp]
  show (V m c main_arg4 : FVec Ideal S1x2048 .f32) (((cfg0.win 5).blk t).view.emb (ix2 0 k)) = _
  rw [e, host_b]

/-- An entry of the call's results, from the arguments. -/
def outAt (r : Fin 8704) (j : Fin 2048) : EReal :=
  normed (summed (fun k => argX m c (ix2 r k)) (fun d => argM m c (ix2 r d)) (fun d k => argW m c (ix3 0 d k))) (argG m c (ix2 0 j)) (argB m c (ix2 0 j)) j

/-- A point's block, from the arguments. -/
theorem point_out (t : Fin cfg0.N) (r : Fin 512) (j : Fin 2048) :
    entry (grid0.coords t) (iblk m c 0 t) (iblk m c 1 t) (iblk m c 2 t) (iblk m c 3 t) (iblk m c 4 t) (iblk m c 5 t) (ix2 r j)
    = outAt m c ⟨512 * t.val + r.val, by have := points t; omega⟩ j := by
  have ht := points t
  show rowOut _ _ _ _ _ _ _ r j = _
  unfold rowOut outAt
  rw [block_g m c t j, block_b m c t j]
  refine congrArg (fun f => normed f (argG m c (ix2 0 j)) (argB m c (ix2 0 j)) j) ?_
  refine congr (congrArg₂ summed (funext fun k => block_x m c t r k) (funext fun d => ?_)) (funext fun d => funext fun k => block_w m c t d k)
  by_cases h : t.val < 16
  · rw [if_pos ((places t).2.2.2.2.2.2.2.2.2 h), block_p m c t r d]
    have e : 512 * min t.val 15 + r.val = 512 * t.val + r.val := by omega
    simp only [e]
  · rw [if_neg (fun h' => h ((places t).2.2.2.2.2.2.2.2.1 h')), block_t m c t r d]
    have e : 8192 + r.val = 512 * t.val + r.val := by omega
    simp only [e]

/-- The call's results. -/
theorem result_f32 : (dats m 0 c).arrAt 6 cfg0.N = fun y : S8704x2048.Idx => outAt m c (y 0) (y 1) := by
  funext y
  obtain ⟨r, j, rfl⟩ : ∃ (r : Fin 8704) (j : Fin 2048), y = ix2 r j := ⟨y 0, y 1, eq_ix2 y⟩
  have hN : cfg0.N = 17 := N_0
  have hp : r.val / 512 < cfg0.N := by omega
  have k := congrFun ((Value.blocks6 m c ⟨r.val / 512, hp⟩ (flush0_6 _)).trans (Value.flushed6 m c ⟨r.val / 512, hp⟩)) (ix2 ⟨r.val % 512, by omega⟩ j)
  have e : ((cfg0.win 6).blk ⟨r.val / 512, hp⟩).view.emb (ix2 ⟨r.val % 512, by omega⟩ j) = (ix2 r j : S8704x2048.Idx) := by
    have hp := (places ⟨r.val / 512, hp⟩).2.2.2.2.2.2.1
    blk_ext! [hp]
  have k' := point_out m c ⟨r.val / 512, hp⟩ ⟨r.val % 512, by omega⟩ j
  have e1 : 512 * (r.val / 512) + r.val % 512 = r.val := by omega
  simp only [e1] at k'
  rw [out_f32] at k
  refine Eq.trans (congrArg _ e.symm) (k.trans k')

theorem result_bf16 : (dats m 0 c).arrAt 7 cfg0.N = fun y : S8704x2048.Idx => outAt m c (y 0) (y 1) := by
  funext y
  obtain ⟨r, j, rfl⟩ : ∃ (r : Fin 8704) (j : Fin 2048), y = ix2 r j := ⟨y 0, y 1, eq_ix2 y⟩
  have hN : cfg0.N = 17 := N_0
  have hp : r.val / 512 < cfg0.N := by omega
  have k := congrFun ((Value.blocks7 m c ⟨r.val / 512, hp⟩ (flush0_7 _)).trans (Value.flushed7 m c ⟨r.val / 512, hp⟩)) (ix2 ⟨r.val % 512, by omega⟩ j)
  have e : ((cfg0.win 7).blk ⟨r.val / 512, hp⟩).view.emb (ix2 ⟨r.val % 512, by omega⟩ j) = (ix2 r j : S8704x2048.Idx) := by
    have hp := (places ⟨r.val / 512, hp⟩).2.2.2.2.2.2.2.1
    blk_ext! [hp]
  have k' := point_out m c ⟨r.val / 512, hp⟩ ⟨r.val % 512, by omega⟩ j
  have e1 : 512 * (r.val / 512) + r.val % 512 = r.val := by omega
  simp only [e1] at k'
  rw [out_bf16] at k
  refine Eq.trans (congrArg _ e.symm) (k.trans k')

end Kernel

section Reference

open Cert.OutReferenceIdeal Cert.OutReferenceIdeal.Gen

/-- The reference's sum and its layer norm, as it writes them. -/
abbrev sumAll (mm xn : FVec Ideal S8704x2048 .f32) (w : FVec Ideal S1x2048x2048 .f32) : FVec Ideal S8704x2048 .f32 :=
  addf (mulf (broadcastInDim S8704x2048 ![] bcast_S_S8704x2048 (constant S_ .f32 0x3F9837F0#32)) xn) (Host.dotGeneral dot_S8704x2048_S2048x2048_S8704x2048_1_0_0_1_n_n none mm (shapeCast _ w shapeCasts_S1x2048x2048_S2048x2048))

abbrev normAll (f : FVec Ideal S8704x2048 .f32) (g b : FVec Ideal S1x2048 .f32) : FVec Ideal S8704x2048 .f32 :=
  addf (mulf (mulf (subf f (broadcastInDim S8704x2048 ![0, 1] bcast_S8704x1_S8704x2048_0_1 (Host.divf (broadcastInDim S8704x1 ![0] bcast_S8704_S8704x1_0 (Host.reduceAdd f (constant S_ .f32 0x00000000#32) reducesTo_S8704x2048_S8704_d1 h_S_)) (broadcastInDim S8704x1 ![] bcast_S_S8704x1 (constant S_ .f32 0x45000000#32))))) (broadcastInDim S8704x2048 ![0, 1] bcast_S8704x1_S8704x2048_0_1 (Host.rsqrt (addf (Host.divf (broadcastInDim S8704x1 ![0] bcast_S8704_S8704x1_0 (Host.reduceAdd (mulf (subf f (broadcastInDim S8704x2048 ![0, 1] bcast_S8704x1_S8704x2048_0_1 (Host.divf (broadcastInDim S8704x1 ![0] bcast_S8704_S8704x1_0 (Host.reduceAdd f (constant S_ .f32 0x00000000#32) reducesTo_S8704x2048_S8704_d1 h_S_)) (broadcastInDim S8704x1 ![] bcast_S_S8704x1 (constant S_ .f32 0x45000000#32))))) (subf f (broadcastInDim S8704x2048 ![0, 1] bcast_S8704x1_S8704x2048_0_1 (Host.divf (broadcastInDim S8704x1 ![0] bcast_S8704_S8704x1_0 (Host.reduceAdd f (constant S_ .f32 0x00000000#32) reducesTo_S8704x2048_S8704_d1 h_S_)) (broadcastInDim S8704x1 ![] bcast_S_S8704x1 (constant S_ .f32 0x45000000#32)))))) (constant S_ .f32 0x00000000#32) reducesTo_S8704x2048_S8704_d1 h_S_)) (broadcastInDim S8704x1 ![] bcast_S_S8704x1 (constant S_ .f32 0x45000000#32))) (broadcastInDim S8704x1 ![] bcast_S_S8704x1 (constant S_ .f32 0x3727C5AC#32)))))) (broadcastInDim S8704x2048 ![0, 1] bcast_S1x2048_S8704x2048_0_1 (broadcastInDim S1x2048 ![1] bcast_S2048_S1x2048_1 (shapeCast _ g shapeCasts_S1x2048_S2048)))) (broadcastInDim S8704x2048 ![0, 1] bcast_S1x2048_S8704x2048_0_1 (broadcastInDim S1x2048 ![1] bcast_S2048_S1x2048_1 (shapeCast _ b shapeCasts_S1x2048_S2048)))

theorem sumAll_apply (mm xn : FVec Ideal S8704x2048 .f32) (w : FVec Ideal S1x2048x2048 .f32) (r : Fin 8704) (k : Fin 2048) :
    sumAll mm xn w (ix2 r k) = summed (fun k => xn (ix2 r k)) (fun d => mm (ix2 r d)) (fun d k => w (ix3 0 d k)) k := by
  unfold summed
  pointwise [sumAll]

theorem normAll_apply (f : FVec Ideal S8704x2048 .f32) (g b : FVec Ideal S1x2048 .f32) (r : Fin 8704) (j : Fin 2048) :
    normAll f g b (ix2 r j) = normed (fun k => f (ix2 r k)) (g (ix2 0 j)) (b (ix2 0 j)) j := by
  unfold normed mean
  pointwise [normAll]

end Reference

/-- The kernel's results are the reference's. -/
theorem out_computes : Cert.algebraic_OutIdeal_OutReferenceIdeal := by
  intro m g m' g' _ hargs
  refine ⟨fun c y => outAt m c (y 0) (y 1), fun c y => outAt m c (y 0) (y 1), ?_, ?_⟩
  · refine (θ_run _ _ _).mono (fun r h c => ?_) (Cert.OutIdeal.Value.run_blocks m g)
    obtain ⟨r0, r1, rest⟩ := h c
    exact ⟨r0.trans (result_f32 m c), r1.trans (result_bf16 m c), rest⟩
  · refine (θ_run _ _ _).mono (fun r h c => ?_) (Cert.OutReferenceIdeal.Value.run m' g')
    obtain ⟨h0, h1, h2, h3, h4⟩ := hargs c
    obtain ⟨r0, r1, rest⟩ := h c
    have k : normAll (sumAll (argM m c) (argX m c) (argW m c)) (argG m c) (argB m c) = fun y => outAt m c (y 0) (y 1) := by
      funext y
      obtain ⟨a, b, rfl⟩ : ∃ (a : Fin 8704) (b : Fin 2048), y = ix2 a b := ⟨y 0, y 1, eq_ix2 y⟩
      refine (normAll_apply _ _ _ a b).trans ?_
      show _ = outAt m c a b
      unfold outAt
      simp only [sumAll_apply]
    refine ⟨r0.trans ?_, r1.trans ?_, rest⟩
    · rw [h0, h1, h2, h3, h4]
      exact k
    · rw [h0, h1, h2, h3, h4]
      exact k

/-- The reference runs and leaves its arguments as they were. -/
theorem out_reference_runs : Cert.quiescent_OutReferenceIdeal := fun m g _ =>
  (θ_run Cert.OutReferenceIdeal.defs _ _).mono (fun r h => ⟨fun c => (h c).2.2, sem_eq_zero_of_no_sems (by decide) r.2⟩)
    (Cert.OutReferenceIdeal.Value.run m g)

end Out

end
-- ==== Proof.TailPoint.lean ====
/-
  What a grid point of the mixing call of the meta tokens and the sample streams leaves behind, as functions of the blocks it
  reads: a row of the convolution's input, and a row of the mixed activations, whose convolution starts anew at the meta
  tokens' first row and, from the cache, at each stream's.
-/
module

public import proofs.«01_k».proof.Proof.Gen.TailIdeal.Frame
public import proofs.«01_k».proof.Proof.MixPoint

@[expose] public section

noncomputable section

namespace Tail

open Idealize.ShloMosaic Idealize.ShloMosaic.TcCoe Cert.TailIdeal Cert.TailIdeal.Gen
open Idealize.ShloMosaic.Tactic Views Mix

set_option maxRecDepth 16384

/-- A row that opens a stream, the row after it, and the meta tokens' first two. -/
theorem opens_row : ∀ r : Fin 512,
    IntOp.andi (IntOp.andi (IntOp.cmpi .sge (BitVec.ofNat 32 r.val) 64#32) (IntOp.cmpi .slt (BitVec.ofNat 32 r.val) 320#32))
      (IntOp.cmpi .eq (IntOp.andi (IntOp.subi (BitVec.ofNat 32 r.val) 64#32) 15#32) 0#32)
    = if 64 ≤ r.val ∧ r.val < 320 ∧ (r.val - 64) % 16 = 0 then 1#1 else 0#1 := by decide +kernel

theorem follows_row : ∀ r : Fin 512,
    IntOp.andi (IntOp.andi (IntOp.cmpi .sge (BitVec.ofNat 32 r.val) 64#32) (IntOp.cmpi .slt (BitVec.ofNat 32 r.val) 320#32))
      (IntOp.cmpi .eq (IntOp.andi (IntOp.subi (BitVec.ofNat 32 r.val) 64#32) 15#32) 1#32)
    = if 64 ≤ r.val ∧ r.val < 320 ∧ (r.val - 64) % 16 = 1 then 1#1 else 0#1 := by decide +kernel

theorem meta_row : ∀ r : Fin 512, IntOp.cmpi .eq (BitVec.ofNat 32 r.val) 48#32 = if r.val = 48 then 1#1 else 0#1 := by decide +kernel

theorem meta_rows : ∀ r : Fin 512, IntOp.ori (IntOp.cmpi .eq (BitVec.ofNat 32 r.val) 48#32) (IntOp.cmpi .eq (BitVec.ofNat 32 r.val) 49#32)
    = if r.val = 48 ∨ r.val = 49 then 1#1 else 0#1 := by decide +kernel

theorem choose {α : Type} (P : Prop) [Decidable P] (a b : α) : Scalar.select (if P then 1#1 else 0#1) a b = if P then a else b := by
  by_cases h : P
  · rw [if_pos h, if_pos h]
    rfl
  · rw [if_neg h, if_neg h]
    rfl

theorem pick {α : Type} (P : Prop) [Decidable P] (a b c : α) (h1 : P → a = c) (h2 : ¬P → b = c) : (if h : P then a else b) = c := by
  by_cases h : P
  · rw [dif_pos h, h1 h]
  · rw [dif_neg h, h2 h]

theorem sub_lt_16 (a b : ℕ) : a - b < 16 ↔ a < b + 16 := by omega

variable (x : Vec Ideal S512x2048 .bf16) (y : Vec Ideal S512x512 .f32) (w2 w3 w4 w5 w6 : Vec Ideal S512x2048 .bf16)
  (cw : Vec Ideal S3x512 .f32) (u : Vec Ideal S32x512 .f32)

/-- The cache's rows, each repeated over its stream's rows: a stream's first one, and its second one. -/
def older : FVec Ideal S512x512 .f32 :=
  k0_pay24 (k0_pay9 (F := Ideal)) (k0_pay10 (View.ld u r0_1)) (k0_pay11 (View.ld u r0_2)) (k0_pay13 (k0_pay12 (View.ld u r0_3))) (k0_pay14 (View.ld u r0_4)) (k0_pay15 (View.ld u r0_5)) (k0_pay16 (View.ld u r0_6)) (k0_pay17 (View.ld u r0_7)) (k0_pay18 (View.ld u r0_8)) (k0_pay19 (View.ld u r0_9)) (k0_pay20 (View.ld u r0_10)) (k0_pay21 (View.ld u r0_11)) (k0_pay22 (View.ld u r0_12)) (k0_pay23 (View.ld u r0_13)) (View.ld u r0_14) (View.ld u r0_15) (View.ld u r0_16)

theorem older_apply (s p : Fin 16) (j : Fin 512) : older u (ix2 ⟨64 + 16 * s.val + p.val, by omega⟩ j) = u (ix2 ⟨2 * s.val, by omega⟩ j) := by
  pointwise [older, k0_pay24, k0_pay9, k0_pay10, k0_pay11, k0_pay13, k0_pay12, k0_pay14, k0_pay15, k0_pay16, k0_pay17, k0_pay18, k0_pay19, k0_pay20, k0_pay21, k0_pay22, k0_pay23]
  have e : ∀ k : Fin 32, k.val = 2 * s.val → u (ix2 k j) = u (ix2 ⟨2 * s.val, by omega⟩ j) :=
    fun k hk => congrArg (fun k : Fin 32 => u (ix2 k j)) (Fin.ext hk)
  simp only [Nat.sub_sub, sub_lt_16]
  refine pick _ _ _ _ (fun h => by omega) (fun h => ?_)
  iterate 16 refine pick _ _ _ _ (fun h => e _ (by simp; omega)) (fun h => ?_)
  omega

def newer : FVec Ideal S512x512 .f32 :=
  concatenate S512x512 0 [⟨S64x512, k0_pay25 (F := Ideal)⟩, ⟨S16x512, k0_pay26 (View.ld u r0_17)⟩, ⟨S16x512, k0_pay27 (View.ld u r0_18)⟩, ⟨S16x512, k0_pay28 (View.ld u r0_19)⟩, ⟨S16x512, k0_pay29 (View.ld u r0_20)⟩, ⟨S16x512, k0_pay30 (View.ld u r0_21)⟩, ⟨S16x512, k0_pay31 (View.ld u r0_22)⟩, ⟨S16x512, k0_pay32 (View.ld u r0_23)⟩, ⟨S16x512, k0_pay33 (View.ld u r0_24)⟩, ⟨S16x512, k0_pay34 (View.ld u r0_25)⟩, ⟨S16x512, k0_pay35 (View.ld u r0_26)⟩, ⟨S16x512, k0_pay36 (View.ld u r0_27)⟩, ⟨S16x512, k0_pay37 (View.ld u r0_28)⟩, ⟨S16x512, k0_pay38 (View.ld u r0_29)⟩, ⟨S16x512, k0_pay39 (View.ld u r0_30)⟩, ⟨S16x512, k0_pay40 (View.ld u r0_31)⟩, ⟨S16x512, k0_pay41 (View.ld u r0_32)⟩, ⟨S192x512, broadcast S192x512 (Scalar.ofBits (F := Ideal) .f32 0x00000000#32)⟩]
    concatenates_S64x512_S16x512_S16x512_S16x512_S16x512_S16x512_S16x512_S16x512_S16x512_S16x512_S16x512_S16x512_S16x512_S16x512_S16x512_S16x512_S16x512_S192x512_S512x512_d0

theorem newer_apply (s p : Fin 16) (j : Fin 512) : newer u (ix2 ⟨64 + 16 * s.val + p.val, by omega⟩ j) = u (ix2 ⟨2 * s.val + 1, by omega⟩ j) := by
  pointwise [newer, k0_pay25, k0_pay26, k0_pay27, k0_pay28, k0_pay29, k0_pay30, k0_pay31, k0_pay32, k0_pay33, k0_pay34, k0_pay35, k0_pay36, k0_pay37, k0_pay38, k0_pay39, k0_pay40, k0_pay41]
  have e : ∀ k : Fin 32, k.val = 2 * s.val + 1 → u (ix2 k j) = u (ix2 ⟨2 * s.val + 1, by omega⟩ j) :=
    fun k hk => congrArg (fun k : Fin 32 => u (ix2 k j)) (Fin.ext hk)
  simp only [Nat.sub_sub, sub_lt_16]
  refine pick _ _ _ _ (fun h => by omega) (fun h => ?_)
  iterate 16 refine pick _ _ _ _ (fun h => e _ (by simp; omega)) (fun h => ?_)
  omega

/-- A row's product with a column of weights, and the convolution's input. -/
theorem dot_cb (r j : Fin 512) : k0_pay3 (F := Ideal) x w2 (ix2 r j) = ∑ d : Fin 2048, x (ix2 r d) * w2 (ix2 j d) := by
  pointwise [k0_pay3, k0_pay2]

theorem dot_ga (r j : Fin 512) : k0_pay4 (F := Ideal) x w2 (ix2 r j) = ∑ d : Fin 2048, x (ix2 r d) * w2 (ix2 j d) := by
  pointwise [k0_pay4, k0_pay2]

theorem dot_gb (r j : Fin 512) : k0_pay5 (F := Ideal) x w2 (ix2 r j) = ∑ d : Fin 2048, x (ix2 r d) * w2 (ix2 j d) := by
  pointwise [k0_pay5, k0_pay2]

theorem input_apply (r j : Fin 512) : k0_pay6 (F := Ideal) x w3 w4 (ix2 r j)
    = (∑ d : Fin 2048, x (ix2 r d) * w3 (ix2 j d)) * ∑ d : Fin 2048, x (ix2 r d) * w4 (ix2 j d) := by
  pointwise [k0_pay6, k0_pay2]

/-- The two taps on the rows before: those before a stream's first row come from the cache, those before the meta tokens' are zero. -/
def twoTaps (c old new : FVec Ideal S512x512 .f32) (a0 a1 : FVec Ideal S1x512 .f32) : FVec Ideal S512x512 .f32 :=
  have n : IVec S512x512 32 := iota .tc S512x512 32 [0] iota_S512x512_d0_w32
  have inside : IVec S512x512 1 := andi (cmpi .sge n (broadcast S512x512 64#32)) (cmpi .slt n (broadcast S512x512 320#32))
  have place : IVec S512x512 32 := andi (subi n (broadcast S512x512 64#32)) (broadcast S512x512 15#32)
  have opens : IVec S512x512 1 := andi inside (cmpi .eq place (broadcast S512x512 0#32))
  have follows : IVec S512x512 1 := andi inside (cmpi .eq place (broadcast S512x512 1#32))
  have zero : FVec Ideal S512x512 .f32 := broadcast S512x512 (Scalar.ofBits .f32 0x00000000#32)
  addf (mulf (broadcastTo S512x512 (shapeCast S1x512 a0 shapeCasts_S1x512_S1x512) broadcasts_S1x512_S512x512)
      (select (ori (cmpi .eq n (broadcast S512x512 48#32)) (cmpi .eq n (broadcast S512x512 49#32))) zero
        (select opens old (select follows new (dynamicRotate 0 2#32 none c rotates_S512x512_d0)))))
    (mulf (broadcastTo S512x512 (shapeCast S1x512 a1 shapeCasts_S1x512_S1x512) broadcasts_S1x512_S512x512)
      (select (cmpi .eq n (broadcast S512x512 48#32)) zero (select opens new (dynamicRotate 0 1#32 none c rotates_S512x512_d0))))

theorem twoTaps_apply (c old new : FVec Ideal S512x512 .f32) (a0 a1 : FVec Ideal S1x512 .f32) (r j : Fin 512) :
    twoTaps c old new a0 a1 (ix2 r j)
      = a0 (ix2 0 j) * (if r.val = 48 ∨ r.val = 49 then 0 else if 64 ≤ r.val ∧ r.val < 320 ∧ (r.val - 64) % 16 = 0 then old (ix2 r j)
          else if 64 ≤ r.val ∧ r.val < 320 ∧ (r.val - 64) % 16 = 1 then new (ix2 r j) else c (ix2 ⟨(r.val + 512 - 2) % 512, by omega⟩ j))
        + a1 (ix2 0 j) * (if r.val = 48 then 0 else if 64 ≤ r.val ∧ r.val < 320 ∧ (r.val - 64) % 16 = 0 then new (ix2 r j)
          else c (ix2 ⟨(r.val + 512 - 1) % 512, by omega⟩ j)) := by
  pointwise [twoTaps]
  rw [meta_rows]
  simp only [opens_row, follows_row, meta_row, choose, mul_ite, mul_zero]

/-- The mixed activation from what the body computes first. -/
theorem mixed_row (cb ga gb c yy tt : FVec Ideal S512x512 .f32) (a2 : FVec Ideal S1x512 .f32) (r j : Fin 512) :
    k0_pay1 (F := Ideal) cb ga gb c (k0_pay42 yy) tt a2 (ix2 r j)
      = Ideal.div 1 (1 + Ideal.exp (0 - ga (ix2 r j))) * yy (ix2 r j)
        + Ideal.div 1 (1 + Ideal.exp (0 - gb (ix2 r j))) * (cb (ix2 r j) * (tt (ix2 r j) + a2 (ix2 0 j) * c (ix2 r j))) := by
  pointwise [k0_pay1, k0_pay42]

/-- Reading a whole block, and where its places lie. -/
theorem whole (f : Vec Ideal S512x2048 .bf16) : View.ld (Val := Elt Ideal) (e' := .bf16) f r0_0 = f := View.ld_unit_zero (S := S512x2048) zero2 _ _

theorem whole_emb (a b : Fin 512) : r0_33.emb (ix2 a b) = (ix2 a b : S512x512.Idx) := by
  refine (unit_emb 0 inb_S512x512_S512x512_0_0 (by omega) (by omega) a b).trans ?_
  exact congrArg (fun k : Fin 512 => (ix2 k b : S512x512.Idx)) (Fin.ext (Nat.zero_add _))

/-- The two results of a point, entry by entry. -/
theorem out_c : out0_10 (F := Ideal) x y w2 w3 w4 w5 w6 cw u = k0_pay6 x w3 w4 := by
  funext z
  unfold_out out0_10
  refine View.canon_apply_of_pieces (Val := Elt Ideal) (S := S512x512) (e := .f32) (k0_pay6 x w3 w4) _ ?_ z (cover0_10 (F := Ideal) _ z)
  intro p hp
  simp only [List.mem_cons, List.not_mem_nil, or_false] at hp
  subst hp
  intro z
  obtain ⟨a, b, rfl⟩ : ∃ (a b : Fin 512), z = ix2 a b := ⟨z 0, z 1, eq_ix2 z⟩
  show k0_pay6 (F := Ideal) (View.ld x r0_0) (View.ld w3 r0_0) (View.ld w4 r0_0) (ix2 a b) = k0_pay6 x w3 w4 (r0_33.emb (ix2 a b))
  rw [whole x, whole w3, whole w4, whole_emb]

/-- A row and a column of the mixed activations, from the rows of the convolution's input around it. -/
def entry (r j : Fin 512) : EReal :=
  mixed (k0_pay3 (F := Ideal) x w2 (ix2 r j)) (k0_pay4 (F := Ideal) x w5 (ix2 r j)) (k0_pay5 (F := Ideal) x w6 (ix2 r j)) (y (ix2 r j))
    (cw (ix2 0 j)) (cw (ix2 1 j)) (cw (ix2 2 j))
    (if r.val = 48 ∨ r.val = 49 then 0 else if 64 ≤ r.val ∧ r.val < 320 ∧ (r.val - 64) % 16 = 0 then older u (ix2 r j)
      else if 64 ≤ r.val ∧ r.val < 320 ∧ (r.val - 64) % 16 = 1 then newer u (ix2 r j)
      else k0_pay6 (F := Ideal) x w3 w4 (ix2 ⟨(r.val + 512 - 2) % 512, by omega⟩ j))
    (if r.val = 48 then 0 else if 64 ≤ r.val ∧ r.val < 320 ∧ (r.val - 64) % 16 = 0 then newer u (ix2 r j)
      else k0_pay6 (F := Ideal) x w3 w4 (ix2 ⟨(r.val + 512 - 1) % 512, by omega⟩ j))
    (k0_pay6 (F := Ideal) x w3 w4 (ix2 r j))

theorem tap_at (k : ℕ) (inb : ∀ i : Fin 2, (![k, 0] : Fin 2 → ℕ) i + S1x512.size i ≤ S3x512.size i) (hk : k < 3) (j : Fin 512) :
    View.ld (Val := Elt Ideal) (e' := .f32) cw (Rect.unit (s := S3x512) ![k, 0] S1x512.size inb) (ix2 0 j) = cw (ix2 ⟨k, hk⟩ j) :=
  congrArg cw (unit_emb k inb (by omega) (by omega) (0 : Fin 1) j)

theorem out_m (r j : Fin 512) : out0_9 (F := Ideal) x y w2 w3 w4 w5 w6 cw u (ix2 r j) = entry x y w2 w3 w4 w5 w6 cw u r j := by
  unfold_out out0_9
  refine View.canon_apply_of_pieces (Val := Elt Ideal) (S := S512x512) (e := .bf16) (fun z => entry x y w2 w3 w4 w5 w6 cw u (z 0) (z 1)) _ ?_ (ix2 r j)
    (cover0_9 (F := Ideal) _ (ix2 r j))
  intro p hp
  simp only [List.mem_cons, List.not_mem_nil, or_false] at hp
  subst hp
  intro z
  obtain ⟨a, b, rfl⟩ : ∃ (a b : Fin 512), z = ix2 a b := ⟨z 0, z 1, eq_ix2 z⟩
  show k0_pay1 (F := Ideal) (k0_pay3 (View.ld x r0_0) (View.ld w2 r0_0)) (k0_pay4 (View.ld x r0_0) (View.ld w5 r0_0)) (k0_pay5 (View.ld x r0_0) (View.ld w6 r0_0))
      (k0_pay6 (View.ld x r0_0) (View.ld w3 r0_0) (View.ld w4 r0_0)) (k0_pay42 (View.ld y r0_33))
      (twoTaps (k0_pay6 (View.ld x r0_0) (View.ld w3 r0_0) (View.ld w4 r0_0)) (older u) (newer u) (View.ld cw r0_34) (View.ld cw r0_35)) (View.ld cw r0_36) (ix2 a b)
    = entry x y w2 w3 w4 w5 w6 cw u ((r0_33.emb (ix2 a b)) 0) ((r0_33.emb (ix2 a b)) 1)
  rw [whole x, whole w2, whole w3, whole w4, whole w5, whole w6, whole_emb, mixed_row, twoTaps_apply, tap_at cw 0 _ (by omega), tap_at cw 1 _ (by omega),
    tap_at cw 2 _ (by omega)]
  have ey : View.ld (Val := Elt Ideal) (e' := .f32) y r0_33 (ix2 a b) = y (ix2 a b) := congrArg y (whole_emb a b)
  rw [ey]
  rfl

end Tail

end
-- ==== Proof.TailBlocks.lean ====
/-
  The mixing call of the meta tokens and the sample streams: the blocks its points read, from the arguments, and the arrays
  they leave.
-/
module

public import proofs.«01_k».proof.Proof.TailPoint
public import Idealize.ShloMosaic.Lib.Claim
public import Idealize.ShloMosaic.Lib.Pipeline.Value
public import Idealize.ShloMosaic.Lib.Pipeline.ValueKit.Point

@[expose] public section

noncomputable section

namespace Tail

open Idealize.ShloMosaic Idealize.ShloMosaic.TcCoe Idealize.SL.Sem Cert.TailIdeal Cert.TailIdeal.Gen
open Idealize.ShloMosaic.Tactic Views Mix

set_option maxRecDepth 16384

/-- The projection of a row on one of the call's columns. -/
def proj (x : Fin 2048 → EReal) (w : FVec Ideal S1x2048x16400 .f32) (k : Fin 10240) : EReal :=
  ∑ d : Fin 2048, x d * w (ix3 0 d ⟨6160 + k.val, by omega⟩)

/-- The convolution's input of sixteen rows: the two rows before them, and then theirs. -/
def seqRow (x : Fin 16 → Fin 2048 → EReal) (w : FVec Ideal S1x2048x16400 .f32) (b : Fin 2 → Fin 2048 → EReal) (n : ℕ) (j : Fin 2048) : EReal :=
  if n = 0 then b 0 j else if n = 1 then b 1 j
  else proj (x ⟨(n - 2) % 16, Nat.mod_lt _ (by omega)⟩) w ⟨2048 + j.val, by omega⟩ * proj (x ⟨(n - 2) % 16, Nat.mod_lt _ (by omega)⟩) w ⟨4096 + j.val, by omega⟩

/-- The mixed activation of one of sixteen rows. -/
def act (x y : Fin 16 → Fin 2048 → EReal) (w : FVec Ideal S1x2048x16400 .f32) (cw : FVec Ideal S1x3x2048 .f32) (b : Fin 2 → Fin 2048 → EReal)
    (p : Fin 16) (j : Fin 2048) : EReal :=
  mixed (proj (x p) w ⟨j.val, by omega⟩) (proj (x p) w ⟨6144 + j.val, by omega⟩) (proj (x p) w ⟨8192 + j.val, by omega⟩) (y p j)
    (cw (ix3 0 0 j)) (cw (ix3 0 1 j)) (cw (ix3 0 2 j)) (seqRow x w b p.val j) (seqRow x w b (p.val + 1) j) (seqRow x w b (p.val + 2) j)

theorem seqRow_own (x : Fin 16 → Fin 2048 → EReal) (w : FVec Ideal S1x2048x16400 .f32) (b : Fin 2 → Fin 2048 → EReal) (p : Fin 16) (j : Fin 2048) :
    seqRow x w b (p.val + 2) j = proj (x p) w ⟨2048 + j.val, by omega⟩ * proj (x p) w ⟨4096 + j.val, by omega⟩ := by
  unfold seqRow
  rw [if_neg (by omega), if_neg (by omega)]
  have e : (⟨(p.val + 2 - 2) % 16, Nat.mod_lt _ (by omega)⟩ : Fin 16) = p := Fin.ext (by
    show (p.val + 2 - 2) % 16 = p.val
    omega)
  rw [e]

/-- Where the blocks of a point lie. -/
theorem places : ∀ t : Fin cfg0.N, win0_0.index t = ![16, 0] ∧ win0_1.index t = ![0, t.val]
    ∧ win0_2.index t = ![t.val, 0] ∧ win0_3.index t = ![4 + t.val, 0] ∧ win0_4.index t = ![8 + t.val, 0]
    ∧ win0_5.index t = ![12 + t.val, 0] ∧ win0_6.index t = ![16 + t.val, 0]
    ∧ win0_7.index t = ![0, t.val] ∧ win0_8.index t = ![0, t.val] ∧ win0_9.index t = ![0, t.val] ∧ win0_10.index t = ![0, t.val] :=
  (by decide +kernel : ∀ t : Fin grid0.N, _)

/-- There are four points. -/
theorem points (t : Fin cfg0.N) : t.val < 4 := lt_of_lt_of_eq t.isLt N_0

variable (m : (ℓ : Loc nD τ sig) → Buf (Elt Ideal) ℓ) (c : Dev nD)

/-- The arguments' contents. -/
abbrev argXm : FVec Ideal S16x2048 .f32 := m ((c : Thread nD τ).loc main_arg0)
abbrev argXs : FVec Ideal S16x16x2048 .f32 := m ((c : Thread nD τ).loc main_arg1)
abbrev argYm : FVec Ideal S16x2048 .f32 := m ((c : Thread nD τ).loc main_arg2)
abbrev argYs : FVec Ideal S16x16x2048 .f32 := m ((c : Thread nD τ).loc main_arg3)
abbrev argW : FVec Ideal S1x2048x16400 .f32 := m ((c : Thread nD τ).loc main_arg4)
abbrev argC : FVec Ideal S1x3x2048 .f32 := m ((c : Thread nD τ).loc main_arg5)
abbrev argB : FVec Ideal S1x16x2x2048 .f32 := m ((c : Thread nD τ).loc main_arg6)

/-- The rows as the host lays them out. -/
def laid (a : FVec Ideal S16x2048 .f32) (b : FVec Ideal S16x16x2048 .f32) : FVec Ideal S512x2048 .f32 :=
  concatenate S512x2048 0 [⟨S48x2048, broadcastInDim S48x2048 ![] bcast_S_S48x2048 (constant (F := Ideal) S_ .f32 0x00000000#32)⟩, ⟨S16x2048, a⟩,
    ⟨S256x2048, shapeCast S256x2048 b shapeCasts_S16x16x2048_S256x2048⟩, ⟨S192x2048, broadcastInDim S192x2048 ![] bcast_S_S192x2048 (constant (F := Ideal) S_ .f32 0x00000000#32)⟩]
    concatenates_S48x2048_S16x2048_S256x2048_S192x2048_S512x2048_d0

theorem laid_meta (a : FVec Ideal S16x2048 .f32) (b : FVec Ideal S16x16x2048 .f32) (p : Fin 16) (d : Fin 2048) :
    laid a b (ix2 ⟨48 + p.val, by omega⟩ d) = a (ix2 p d) := by
  pointwise [laid]

theorem laid_sample (a : FVec Ideal S16x2048 .f32) (b : FVec Ideal S16x16x2048 .f32) (s p : Fin 16) (d : Fin 2048) :
    laid a b (ix2 ⟨64 + 16 * s.val + p.val, by omega⟩ d) = b (ix3 s p d) := by
  pointwise [laid]
  rw [dif_neg (by omega), dif_neg (by omega), dif_pos (by omega)]
  have e : (⟨(64 + 16 * s.val + p.val - 48 - 16) / 16, by omega⟩ : Fin 16) = s := Fin.ext (by dsimp only; omega)
  have f : (⟨(64 + 16 * s.val + p.val - 48 - 16) % 16, by omega⟩ : Fin 16) = p := Fin.ext (by dsimp only; omega)
  rw [e, f]

/-- The contents the call finds in each array it reads. -/
theorem host_x : V m c main_v5 = truncf (F := Ideal) .bf16 (pad S8704x2048 ![8192, 0] ![0, 0] ![0, 0] (laid (argXm m c) (argXs m c))
    (sitofp (F := Ideal) .f32 (constantI S_ 32 0#32)) pads_S512x2048_S8704x2048_819200_000 h_S_) bitsLt_bf16_f32 := by
  rfl

theorem host_y : V m c main_v13 = laid (argYm m c) (argYs m c) := by
  rfl

theorem host_w : V m c main_v9 = truncf (F := Ideal) .bf16 (transpose S10240x2048 [1, 0] (shapeCast S2048x10240
    (extractStridedSlice S1x2048x10240 ![0, 0, 6160] (argW m c) slices_S1x2048x16400_S1x2048x10240_0_0_6160)
    shapeCasts_S1x2048x10240_S2048x10240) transposes_S2048x10240_S10240x2048_1_0) bitsLt_bf16_f32 := by
  simp only [V, V0, hostOps0, hostOps0_1, hostOps0_2, List.flatten_cons, List.flatten_nil, List.cons_append, List.nil_append]
  entry_read
  rfl

theorem host_c : V m c main_v14 = shapeCast S3x2048 (argC m c) shapeCasts_S1x3x2048_S3x2048 := by
  simp only [V, V0, hostOps0, hostOps0_1, hostOps0_2, List.flatten_cons, List.flatten_nil, List.cons_append, List.nil_append]
  entry_read
  rfl

theorem host_b : V m c main_v16 = shapeCast S32x2048 (shapeCast S16x2x2048 (argB m c) shapeCasts_S1x16x2x2048_S16x2x2048) shapeCasts_S16x2x2048_S32x2048 := by
  simp only [V, V0, hostOps0, hostOps0_1, hostOps0_2, List.flatten_cons, List.flatten_nil, List.cons_append, List.nil_append]
  entry_read
  rfl

/-- The block of rows. -/
theorem block_x (t : Fin cfg0.N) (r : Fin 512) (d : Fin 2048) :
    (iblk m c 0 t : FVec Ideal S512x2048 .bf16) (ix2 r d) = laid (argXm m c) (argXs m c) (ix2 r d) := by
  have hp := (places t).1
  have e : ((cfg0.win 0).blk t).view.emb (ix2 r d) = (ix2 ⟨8192 + r.val, by omega⟩ d : S8704x2048.Idx) := by
    blk_ext! [hp]
  show (V m c main_v5 : FVec Ideal S8704x2048 .bf16) (((cfg0.win 0).blk t).view.emb (ix2 r d)) = _
  rw [e, host_x]
  generalize laid (argXm m c) (argXs m c) = f
  pointwise

/-- The block of the other branch's activations. -/
theorem block_y (t : Fin cfg0.N) (r : Fin 512) (j : Fin 512) :
    (iblk m c 1 t : FVec Ideal S512x512 .f32) (ix2 r j) = laid (argYm m c) (argYs m c) (ix2 r ⟨512 * t.val + j.val, by have := points t; omega⟩) := by
  have hp := (places t).2.1
  have ht := points t
  have e : ((cfg0.win 1).blk t).view.emb (ix2 r j) = (ix2 r ⟨512 * t.val + j.val, by omega⟩ : S512x2048.Idx) := by
    blk_ext! [hp]
  show (V m c main_v13 : FVec Ideal S512x2048 .f32) (((cfg0.win 1).blk t).view.emb (ix2 r j)) = _
  rw [e, host_y]

/-- The block of taps. -/
theorem block_c (t : Fin cfg0.N) (k : Fin 3) (j : Fin 512) :
    (iblk m c 7 t : FVec Ideal S3x512 .f32) (ix2 k j) = argC m c (ix3 0 k ⟨512 * t.val + j.val, by have := points t; omega⟩) := by
  have hp := (places t).2.2.2.2.2.2.2.1
  have ht := points t
  have e : ((cfg0.win 7).blk t).view.emb (ix2 k j) = (ix2 k ⟨512 * t.val + j.val, by omega⟩ : S3x2048.Idx) := by
    blk_ext! [hp]
  show (V m c main_v14 : FVec Ideal S3x2048 .f32) (((cfg0.win 7).blk t).view.emb (ix2 k j)) = _
  rw [e, host_c]
  pointwise

/-- The block of the cache's rows. -/
theorem block_b (t : Fin cfg0.N) (s : Fin 16) (e : Fin 2) (j : Fin 512) :
    (iblk m c 8 t : FVec Ideal S32x512 .f32) (ix2 ⟨2 * s.val + e.val, by omega⟩ j) = argB m c (ix4 0 s e ⟨512 * t.val + j.val, by have := points t; omega⟩) := by
  have hp := (places t).2.2.2.2.2.2.2.2.1
  have ht := points t
  have he : ((cfg0.win 8).blk t).view.emb (ix2 ⟨2 * s.val + e.val, by omega⟩ j) = (ix2 ⟨2 * s.val + e.val, by omega⟩ ⟨512 * t.val + j.val, by omega⟩ : S32x2048.Idx) := by
    blk_ext! [hp]
  show (V m c main_v16 : FVec Ideal S32x2048 .f32) (((cfg0.win 8).blk t).view.emb (ix2 ⟨2 * s.val + e.val, by omega⟩ j)) = _
  rw [he, host_b]
  pointwise

/-- Block 1 of the five blocks of weights. -/
theorem block_2 (t : Fin cfg0.N) (j : Fin 512) (d : Fin 2048) :
    (iblk m c 2 t : FVec Ideal S512x2048 .bf16) (ix2 j d) = argW m c (ix3 0 d ⟨6160 + (512 * t.val + j.val), by have := points t; omega⟩) := by
  have hp := (places t).2.2.1
  have ht := points t
  have e : ((cfg0.win 2).blk t).view.emb (ix2 j d) = (ix2 ⟨512 * t.val + j.val, by omega⟩ d : S10240x2048.Idx) := by
    blk_ext! [hp]
  show (V m c main_v9 : FVec Ideal S10240x2048 .bf16) (((cfg0.win 2).blk t).view.emb (ix2 j d)) = _
  rw [e, host_w]
  pointwise

/-- Block 2 of the five blocks of weights. -/
theorem block_3 (t : Fin cfg0.N) (j : Fin 512) (d : Fin 2048) :
    (iblk m c 3 t : FVec Ideal S512x2048 .bf16) (ix2 j d) = argW m c (ix3 0 d ⟨6160 + (2048 + (512 * t.val + j.val)), by have := points t; omega⟩) := by
  have hp := (places t).2.2.2.1
  have ht := points t
  have e : ((cfg0.win 3).blk t).view.emb (ix2 j d) = (ix2 ⟨2048 + (512 * t.val + j.val), by omega⟩ d : S10240x2048.Idx) := by
    blk_ext! [hp]
  show (V m c main_v9 : FVec Ideal S10240x2048 .bf16) (((cfg0.win 3).blk t).view.emb (ix2 j d)) = _
  rw [e, host_w]
  pointwise

/-- Block 3 of the five blocks of weights. -/
theorem block_4 (t : Fin cfg0.N) (j : Fin 512) (d : Fin 2048) :
    (iblk m c 4 t : FVec Ideal S512x2048 .bf16) (ix2 j d) = argW m c (ix3 0 d ⟨6160 + (4096 + (512 * t.val + j.val)), by have := points t; omega⟩) := by
  have hp := (places t).2.2.2.2.1
  have ht := points t
  have e : ((cfg0.win 4).blk t).view.emb (ix2 j d) = (ix2 ⟨4096 + (512 * t.val + j.val), by omega⟩ d : S10240x2048.Idx) := by
    blk_ext! [hp]
  show (V m c main_v9 : FVec Ideal S10240x2048 .bf16) (((cfg0.win 4).blk t).view.emb (ix2 j d)) = _
  rw [e, host_w]
  pointwise

/-- Block 4 of the five blocks of weights. -/
theorem block_5 (t : Fin cfg0.N) (j : Fin 512) (d : Fin 2048) :
    (iblk m c 5 t : FVec Ideal S512x2048 .bf16) (ix2 j d) = argW m c (ix3 0 d ⟨6160 + (6144 + (512 * t.val + j.val)), by have := points t; omega⟩) := by
  have hp := (places t).2.2.2.2.2.1
  have ht := points t
  have e : ((cfg0.win 5).blk t).view.emb (ix2 j d) = (ix2 ⟨6144 + (512 * t.val + j.val), by omega⟩ d : S10240x2048.Idx) := by
    blk_ext! [hp]
  show (V m c main_v9 : FVec Ideal S10240x2048 .bf16) (((cfg0.win 5).blk t).view.emb (ix2 j d)) = _
  rw [e, host_w]
  pointwise

/-- Block 5 of the five blocks of weights. -/
theorem block_6 (t : Fin cfg0.N) (j : Fin 512) (d : Fin 2048) :
    (iblk m c 6 t : FVec Ideal S512x2048 .bf16) (ix2 j d) = argW m c (ix3 0 d ⟨6160 + (8192 + (512 * t.val + j.val)), by have := points t; omega⟩) := by
  have hp := (places t).2.2.2.2.2.2.1
  have ht := points t
  have e : ((cfg0.win 6).blk t).view.emb (ix2 j d) = (ix2 ⟨8192 + (512 * t.val + j.val), by omega⟩ d : S10240x2048.Idx) := by
    blk_ext! [hp]
  show (V m c main_v9 : FVec Ideal S10240x2048 .bf16) (((cfg0.win 6).blk t).view.emb (ix2 j d)) = _
  rw [e, host_w]
  pointwise

/-- The array of a result, block by block. -/
theorem disjoint9 : ∀ t t' : Fin cfg0.N, (cfg0.win 9).flush t = true → (cfg0.win 9).flush t' = true → t ≠ t' →
    Disjoint ((cfg0.win 9).blk t).view.set ((cfg0.win 9).blk t').view.set :=
  fun t t' _ _ hne => (cfg0.win 9).disjoint_blk fun h =>
    hne ((by decide +kernel : ∀ t t' : Fin grid0.N, win0_9.index t = win0_9.index t' → t = t') t t' h)

theorem array9 (r : Fin 512) (j : Fin 2048) (t : Fin cfg0.N) (h : t.val = j.val / 512) :
    (dats m 0 c).arrAt 9 cfg0.N (ix2 r j) = out0_9 (F := Ideal) (iblk m c 0 t) (iblk m c 1 t) (iblk m c 2 t) (iblk m c 3 t) (iblk m c 4 t)
      (iblk m c 5 t) (iblk m c 6 t) (iblk m c 7 t) (iblk m c 8 t) (ix2 r ⟨j.val % 512, by omega⟩) := by
  have k := congrFun ((dats m 0 c).read_blk_arrAt_eq_flushed 9 disjoint9 cfg0.N t t.isLt (flush0_9 t)) (ix2 r ⟨j.val % 512, by omega⟩)
  have e : ((cfg0.win 9).blk t).view.emb (ix2 r ⟨j.val % 512, by omega⟩) = (ix2 r j : S512x2048.Idx) := by
    have hp := (places t).2.2.2.2.2.2.2.2.2.1
    blk_ext! [hp]
  refine Eq.trans (congrArg _ e.symm) (k.trans ?_)
  show (cfg0.win 9).cut (grid0.coords t) ((dats m 0 c).after 9 t) _ = _
  rw [after0_9]
  rfl

/-- The array of a result, block by block. -/
theorem disjoint10 : ∀ t t' : Fin cfg0.N, (cfg0.win 10).flush t = true → (cfg0.win 10).flush t' = true → t ≠ t' →
    Disjoint ((cfg0.win 10).blk t).view.set ((cfg0.win 10).blk t').view.set :=
  fun t t' _ _ hne => (cfg0.win 10).disjoint_blk fun h =>
    hne ((by decide +kernel : ∀ t t' : Fin grid0.N, win0_10.index t = win0_10.index t' → t = t') t t' h)

theorem array10 (r : Fin 512) (j : Fin 2048) (t : Fin cfg0.N) (h : t.val = j.val / 512) :
    (dats m 0 c).arrAt 10 cfg0.N (ix2 r j) = out0_10 (F := Ideal) (iblk m c 0 t) (iblk m c 1 t) (iblk m c 2 t) (iblk m c 3 t) (iblk m c 4 t)
      (iblk m c 5 t) (iblk m c 6 t) (iblk m c 7 t) (iblk m c 8 t) (ix2 r ⟨j.val % 512, by omega⟩) := by
  have k := congrFun ((dats m 0 c).read_blk_arrAt_eq_flushed 10 disjoint10 cfg0.N t t.isLt (flush0_10 t)) (ix2 r ⟨j.val % 512, by omega⟩)
  have e : ((cfg0.win 10).blk t).view.emb (ix2 r ⟨j.val % 512, by omega⟩) = (ix2 r j : S512x2048.Idx) := by
    have hp := (places t).2.2.2.2.2.2.2.2.2.2
    blk_ext! [hp]
  refine Eq.trans (congrArg _ e.symm) (k.trans ?_)
  show (cfg0.win 10).cut (grid0.coords t) ((dats m 0 c).after 10 t) _ = _
  rw [after0_10]
  rfl

end Tail

end
-- ==== Proof.TailClaims.lean ====
/-
  The mixing call of the meta tokens and the sample streams over its whole arrays, and the claim about its results.
-/
module

public import proofs.«01_k».proof.Defs
public import proofs.«01_k».proof.Proof.TailBlocks
public import proofs.«01_k».proof.Proof.Gen.TailReferenceIdeal.Run
public import Idealize.ShloMosaic.Lib.Claim
public import Idealize.ShloMosaic.Lib.Pointwise

@[expose] public section

noncomputable section

namespace Tail

open Idealize.ShloMosaic Idealize.ShloMosaic.TcCoe Idealize.SL.Sem
open Idealize.ShloMosaic.Tactic Views Mix

set_option maxRecDepth 16384

section Kernel

open Cert.TailIdeal Cert.TailIdeal.Gen

variable (m : (ℓ : Loc nD τ sig) → Buf (Elt Ideal) ℓ) (c : Dev nD)

/-- The rows of the meta tokens and of a stream, with the other branch's, and the two rows before them. -/
abbrev xMeta (p : Fin 16) (d : Fin 2048) : EReal := argXm m c (ix2 p d)
abbrev yMeta (p : Fin 16) (d : Fin 2048) : EReal := argYm m c (ix2 p d)
abbrev bMeta (e : Fin 2) (d : Fin 2048) : EReal := 0
abbrev xSample (s p : Fin 16) (d : Fin 2048) : EReal := argXs m c (ix3 s p d)
abbrev ySample (s p : Fin 16) (d : Fin 2048) : EReal := argYs m c (ix3 s p d)
abbrev bSample (s : Fin 16) (e : Fin 2) (d : Fin 2048) : EReal := argB m c (ix4 0 s e d)

/-- A projection at a point. -/
theorem dot_cb_at (t : Fin cfg0.N) (r : Fin 512) (j : Fin 512) (x : Fin 2048 → EReal) (hx : ∀ d, laid (argXm m c) (argXs m c) (ix2 r d) = x d) :
    k0_pay3 (F := Ideal) (iblk m c 0 t) (iblk m c 2 t) (ix2 r j) = proj x (argW m c) ⟨512 * t.val + j.val, by have := points t; omega⟩ := by
  refine (dot_cb _ _ r j).trans ?_
  unfold proj
  refine Finset.sum_congr rfl fun d _ => ?_
  exact congrArg₂ _ ((block_x m c t r d).trans (hx d)) (block_2 m c t j d)

/-- A projection at a point. -/
theorem dot_ga_at (t : Fin cfg0.N) (r : Fin 512) (j : Fin 512) (x : Fin 2048 → EReal) (hx : ∀ d, laid (argXm m c) (argXs m c) (ix2 r d) = x d) :
    k0_pay4 (F := Ideal) (iblk m c 0 t) (iblk m c 5 t) (ix2 r j) = proj x (argW m c) ⟨6144 + (512 * t.val + j.val), by have := points t; omega⟩ := by
  refine (dot_ga _ _ r j).trans ?_
  unfold proj
  refine Finset.sum_congr rfl fun d _ => ?_
  exact congrArg₂ _ ((block_x m c t r d).trans (hx d)) (block_5 m c t j d)

/-- A projection at a point. -/
theorem dot_gb_at (t : Fin cfg0.N) (r : Fin 512) (j : Fin 512) (x : Fin 2048 → EReal) (hx : ∀ d, laid (argXm m c) (argXs m c) (ix2 r d) = x d) :
    k0_pay5 (F := Ideal) (iblk m c 0 t) (iblk m c 6 t) (ix2 r j) = proj x (argW m c) ⟨8192 + (512 * t.val + j.val), by have := points t; omega⟩ := by
  refine (dot_gb _ _ r j).trans ?_
  unfold proj
  refine Finset.sum_congr rfl fun d _ => ?_
  exact congrArg₂ _ ((block_x m c t r d).trans (hx d)) (block_6 m c t j d)

/-- The convolution's input of a row at a point. -/
theorem input_at (t : Fin cfg0.N) (r : Fin 512) (j : Fin 512) (x : Fin 2048 → EReal) (hx : ∀ d, laid (argXm m c) (argXs m c) (ix2 r d) = x d) :
    k0_pay6 (F := Ideal) (iblk m c 0 t) (iblk m c 3 t) (iblk m c 4 t) (ix2 r j)
      = proj x (argW m c) ⟨2048 + (512 * t.val + j.val), by have := points t; omega⟩ * proj x (argW m c) ⟨4096 + (512 * t.val + j.val), by have := points t; omega⟩ := by
  refine (input_apply _ _ _ r j).trans ?_
  unfold proj
  refine congrArg₂ _ ?_ ?_
  · refine Finset.sum_congr rfl fun d _ => ?_
    exact congrArg₂ _ ((block_x m c t r d).trans (hx d)) (block_3 m c t j d)
  · refine Finset.sum_congr rfl fun d _ => ?_
    exact congrArg₂ _ ((block_x m c t r d).trans (hx d)) (block_4 m c t j d)

/-- The convolution's input at the meta tokens' rows, and at a stream's. -/
theorem input_meta (t : Fin cfg0.N) (r : Fin 512) (n : ℕ) (h : 2 ≤ n) (hn : n < 18) (hr : r.val + 2 = 48 + n) (j : Fin 512) :
    k0_pay6 (F := Ideal) (iblk m c 0 t) (iblk m c 3 t) (iblk m c 4 t) (ix2 r j)
      = seqRow (xMeta m c) (argW m c) bMeta n ⟨512 * t.val + j.val, by have := points t; omega⟩ := by
  have er : r = ⟨48 + (n - 2), by omega⟩ := Fin.ext (by dsimp only; omega)
  have k := seqRow_own (xMeta m c) (argW m c) bMeta ⟨n - 2, by omega⟩ ⟨512 * t.val + j.val, by have := points t; omega⟩
  have e : n - 2 + 2 = n := by omega
  simp only [e] at k
  rw [k]
  exact input_at m c t r j _ fun d => (congrArg (fun r => laid (argXm m c) (argXs m c) (ix2 r d)) er).trans (laid_meta _ _ ⟨n - 2, by omega⟩ d)

theorem input_sample (t : Fin cfg0.N) (s : Fin 16) (r : Fin 512) (n : ℕ) (h : 2 ≤ n) (hn : n < 18) (hr : r.val + 2 = 64 + 16 * s.val + n) (j : Fin 512) :
    k0_pay6 (F := Ideal) (iblk m c 0 t) (iblk m c 3 t) (iblk m c 4 t) (ix2 r j)
      = seqRow (xSample m c s) (argW m c) (bSample m c s) n ⟨512 * t.val + j.val, by have := points t; omega⟩ := by
  have er : r = ⟨64 + 16 * s.val + (n - 2), by omega⟩ := Fin.ext (by dsimp only; omega)
  have k := seqRow_own (xSample m c s) (argW m c) (bSample m c s) ⟨n - 2, by omega⟩ ⟨512 * t.val + j.val, by have := points t; omega⟩
  have e : n - 2 + 2 = n := by omega
  simp only [e] at k
  rw [k]
  exact input_at m c t r j _ fun d => (congrArg (fun r => laid (argXm m c) (argXs m c) (ix2 r d)) er).trans (laid_sample _ _ s ⟨n - 2, by omega⟩ d)

/-- The rows before the first. -/
theorem seqRow_zero (x : Fin 16 → Fin 2048 → EReal) (w : FVec Ideal S1x2048x16400 .f32) (b : Fin 2 → Fin 2048 → EReal) (j : Fin 2048) :
    seqRow x w b 0 j = b 0 j := rfl
theorem seqRow_one (x : Fin 16 → Fin 2048 → EReal) (w : FVec Ideal S1x2048x16400 .f32) (b : Fin 2 → Fin 2048 → EReal) (j : Fin 2048) :
    seqRow x w b 1 j = b 1 j := rfl

/-- The activations of the meta tokens' rows, and of a stream's. -/
theorem point_meta (t : Fin cfg0.N) (p : Fin 16) (j : Fin 512) :
    out0_9 (F := Ideal) (iblk m c 0 t) (iblk m c 1 t) (iblk m c 2 t) (iblk m c 3 t) (iblk m c 4 t) (iblk m c 5 t) (iblk m c 6 t) (iblk m c 7 t) (iblk m c 8 t)
      (ix2 ⟨48 + p.val, by omega⟩ j)
    = act (xMeta m c) (yMeta m c) (argW m c) (argC m c) bMeta p ⟨512 * t.val + j.val, by have := points t; omega⟩ := by
  refine (out_m _ _ _ _ _ _ _ _ _ _ j).trans ?_
  unfold entry act
  have hx : ∀ d, laid (argXm m c) (argXs m c) (ix2 ⟨48 + p.val, by omega⟩ d) = xMeta m c p d := fun d => laid_meta _ _ p d
  rw [dot_cb_at m c t _ j _ hx, dot_ga_at m c t _ j _ hx, dot_gb_at m c t _ j _ hx, block_y m c t _ j, laid_meta, block_c m c t 0 j, block_c m c t 1 j, block_c m c t 2 j]
  refine congr (congr (congrArg _ ?_) ?_) ?_
  · by_cases h0 : p.val < 2
    · rw [if_pos (by dsimp only; omega)]
      by_cases h1 : p.val = 0
      · rw [h1, seqRow_zero]
      · have h1 : p.val = 1 := by omega
        rw [h1, seqRow_one]
    · rw [if_neg (by dsimp only; omega), if_neg (by dsimp only; omega), if_neg (by dsimp only; omega)]
      exact input_meta m c t _ p.val (by omega) (by omega) (by dsimp only; omega) j
  · by_cases h0 : p.val = 0
    · rw [if_pos (by dsimp only; omega), h0, seqRow_one]
    · rw [if_neg (by dsimp only; omega), if_neg (by dsimp only; omega)]
      exact input_meta m c t _ (p.val + 1) (by omega) (by omega) (by dsimp only; omega) j
  · exact input_meta m c t _ (p.val + 2) (by omega) (by omega) (by dsimp only; omega) j

theorem point_sample (t : Fin cfg0.N) (s p : Fin 16) (j : Fin 512) :
    out0_9 (F := Ideal) (iblk m c 0 t) (iblk m c 1 t) (iblk m c 2 t) (iblk m c 3 t) (iblk m c 4 t) (iblk m c 5 t) (iblk m c 6 t) (iblk m c 7 t) (iblk m c 8 t)
      (ix2 ⟨64 + 16 * s.val + p.val, by omega⟩ j)
    = act (xSample m c s) (ySample m c s) (argW m c) (argC m c) (bSample m c s) p ⟨512 * t.val + j.val, by have := points t; omega⟩ := by
  refine (out_m _ _ _ _ _ _ _ _ _ _ j).trans ?_
  unfold entry act
  have hx : ∀ d, laid (argXm m c) (argXs m c) (ix2 ⟨64 + 16 * s.val + p.val, by omega⟩ d) = xSample m c s p d := fun d => laid_sample _ _ s p d
  rw [dot_cb_at m c t _ j _ hx, dot_ga_at m c t _ j _ hx, dot_gb_at m c t _ j _ hx, block_y m c t _ j, laid_sample, block_c m c t 0 j, block_c m c t 1 j, block_c m c t 2 j]
  refine congr (congr (congrArg _ ?_) ?_) ?_
  · rw [if_neg (by dsimp only; omega)]
    by_cases h0 : p.val = 0
    · rw [if_pos (by dsimp only; omega), older_apply, h0, seqRow_zero]
      exact block_b m c t s 0 j
    · rw [if_neg (by dsimp only; omega)]
      by_cases h1 : p.val = 1
      · rw [if_pos (by dsimp only; omega), newer_apply, h1, seqRow_one]
        exact block_b m c t s 1 j
      · rw [if_neg (by dsimp only; omega)]
        exact input_sample m c t s _ p.val (by omega) (by omega) (by dsimp only; omega) j
  · rw [if_neg (by dsimp only; omega)]
    by_cases h0 : p.val = 0
    · rw [if_pos (by dsimp only; omega), newer_apply, h0, seqRow_one]
      exact block_b m c t s 1 j
    · rw [if_neg (by dsimp only; omega)]
      exact input_sample m c t s _ (p.val + 1) (by omega) (by omega) (by dsimp only; omega) j
  · exact input_sample m c t s _ (p.val + 2) (by omega) (by omega) (by dsimp only; omega) j

/-- The point that writes a column. -/
def column (j : Fin 2048) : Fin cfg0.N := ⟨j.val / 512, lt_of_lt_of_eq (by omega : j.val / 512 < 4) N_0.symm⟩

theorem column_eq (j : Fin 2048) (h : 512 * (j.val / 512) + j.val % 512 < 2048) : (⟨512 * (j.val / 512) + j.val % 512, h⟩ : Fin 2048) = j :=
  Fin.ext (by dsimp only; omega)

/-- The arrays the call leaves, at the rows the results are cut from. -/
theorem array_meta (p : Fin 16) (j : Fin 2048) : (dats m 0 c).arrAt 9 cfg0.N (ix2 ⟨48 + p.val, by omega⟩ j)
    = act (xMeta m c) (yMeta m c) (argW m c) (argC m c) bMeta p j := by
  refine (array9 m c _ j (column j) rfl).trans ((point_meta m c (column j) p _).trans ?_)
  exact congrArg _ (column_eq j (by omega))

theorem array_sample (s p : Fin 16) (j : Fin 2048) : (dats m 0 c).arrAt 9 cfg0.N (ix2 ⟨64 + 16 * s.val + p.val, by omega⟩ j)
    = act (xSample m c s) (ySample m c s) (argW m c) (argC m c) (bSample m c s) p j := by
  refine (array9 m c _ j (column j) rfl).trans ((point_sample m c (column j) s p _).trans ?_)
  exact congrArg _ (column_eq j (by omega))

theorem array_meta_input (e : Fin 2) (j : Fin 2048) : (dats m 0 c).arrAt 10 cfg0.N (ix2 ⟨62 + e.val, by omega⟩ j)
    = seqRow (xMeta m c) (argW m c) bMeta (16 + e.val) j := by
  refine (array10 m c _ j (column j) rfl).trans ?_
  rw [out_c]
  refine (input_meta m c (column j) _ (16 + e.val) (by omega) (by omega) (by dsimp only; omega) _).trans ?_
  exact congrArg _ (column_eq j (by omega))

theorem array_sample_input (s : Fin 16) (e : Fin 2) (j : Fin 2048) : (dats m 0 c).arrAt 10 cfg0.N (ix2 ⟨78 + 16 * s.val + e.val, by omega⟩ j)
    = seqRow (xSample m c s) (argW m c) (bSample m c s) (16 + e.val) j := by
  refine (array10 m c _ j (column j) rfl).trans ?_
  rw [out_c]
  refine (input_sample m c (column j) s _ (16 + e.val) (by omega) (by omega) (by dsimp only; omega) _).trans ?_
  exact congrArg _ (column_eq j (by omega))

/-- The contents the host lines after the call start from: the arrays as the call leaves them. -/
def left : Valuation τ sig (Elt Ideal) := Pipeline.withArrays (cfgs 0).spec c (V0 m c) fun w => (dats m 0 c).arrAt w (cfgs 0).N

theorem left_act : left m c (Proc.devRef .tc main_v17_0) = (dats m 0 c).arrAt 9 cfg0.N :=
  (dats m 0 c).withArrays_arrAt sharedIn0 (V0 m c) (A_eq m c) 9

theorem left_input : left m c (Proc.devRef .tc main_v17_1) = (dats m 0 c).arrAt 10 cfg0.N :=
  (dats m 0 c).withArrays_arrAt sharedIn0 (V0 m c) (A_eq m c) 10

theorem after_left (b : Ref sig .tc) : Pipeline.afterTail₀ cfgs (dats m) 0 (V0 m) [hostOps1] c b
    = StableHlo.after hostOps1 (left m c) (Proc.devRef .tc b) := rfl

/-- The rows the host cuts out of the arrays. -/
theorem cut_18 (W : Valuation τ sig (Elt Ideal)) (p : Fin 16) (j : Fin 2048) : (StableHlo.after hostOps1 W (Proc.devRef .tc main_v18) : FVec Ideal S16x2048 .bf16) (ix2 p j)
    = (W (Proc.devRef .tc main_v17_0) : FVec Ideal S512x2048 .bf16) (ix2 ⟨48 + p.val, by omega⟩ j) := by
  have e : StableHlo.after hostOps1 W (Proc.devRef .tc main_v18)
      = extractStridedSlice S16x2048 ![48, 0] (W (Proc.devRef .tc main_v17_0) : FVec Ideal S512x2048 .bf16) slices_S512x2048_S16x2048_48_0 := rfl
  rw [e]
  pointwise []

theorem cut_19 (W : Valuation τ sig (Elt Ideal)) (e : Fin 2) (j : Fin 2048) : (StableHlo.after hostOps1 W (Proc.devRef .tc main_v19) : FVec Ideal S2x2048 .f32) (ix2 e j)
    = (W (Proc.devRef .tc main_v17_1) : FVec Ideal S512x2048 .f32) (ix2 ⟨62 + e.val, by omega⟩ j) := by
  have h : StableHlo.after hostOps1 W (Proc.devRef .tc main_v19)
      = extractStridedSlice S2x2048 ![62, 0] (W (Proc.devRef .tc main_v17_1) : FVec Ideal S512x2048 .f32) slices_S512x2048_S2x2048_62_0 := rfl
  rw [h]
  pointwise []

theorem cut_21 (W : Valuation τ sig (Elt Ideal)) (s p : Fin 16) (j : Fin 2048) : (StableHlo.after hostOps1 W (Proc.devRef .tc main_v21) : FVec Ideal S16x16x2048 .bf16) (ix3 s p j)
    = (W (Proc.devRef .tc main_v17_0) : FVec Ideal S512x2048 .bf16) (ix2 ⟨64 + 16 * s.val + p.val, by omega⟩ j) := by
  have h : StableHlo.after hostOps1 W (Proc.devRef .tc main_v21)
      = shapeCast S16x16x2048 (extractStridedSlice S256x2048 ![64, 0] (W (Proc.devRef .tc main_v17_0) : FVec Ideal S512x2048 .bf16) slices_S512x2048_S256x2048_64_0) shapeCasts_S256x2048_S16x16x2048 := rfl
  rw [h]
  pointwise []
  exact congrArg (fun k : Fin 512 => (W (Proc.devRef .tc main_v17_0) : FVec Ideal S512x2048 .bf16) (ix2 k j)) (Fin.ext (by dsimp only; omega))

theorem cut_25 (W : Valuation τ sig (Elt Ideal)) (s : Fin 16) (e : Fin 2) (j : Fin 2048) : (StableHlo.after hostOps1 W (Proc.devRef .tc main_v25) : FVec Ideal S1x16x2x2048 .f32) (ix4 0 s e j)
    = (W (Proc.devRef .tc main_v17_1) : FVec Ideal S512x2048 .f32) (ix2 ⟨78 + 16 * s.val + e.val, by omega⟩ j) := by
  have h : StableHlo.after hostOps1 W (Proc.devRef .tc main_v25)
      = broadcastInDim S1x16x2x2048 ![1, 2, 3] bcast_S16x2x2048_S1x16x2x2048_1_2_3 (extractStridedSlice S16x2x2048 ![0, 14, 0]
        (shapeCast S16x16x2048 (extractStridedSlice S256x2048 ![64, 0] (W (Proc.devRef .tc main_v17_1) : FVec Ideal S512x2048 .f32) slices_S512x2048_S256x2048_64_0) shapeCasts_S256x2048_S16x16x2048)
        slices_S16x16x2048_S16x2x2048_0_14_0) := rfl
  rw [h]
  pointwise []
  exact congrArg (fun k : Fin 512 => (W (Proc.devRef .tc main_v17_1) : FVec Ideal S512x2048 .f32) (ix2 k j)) (Fin.ext (by dsimp only; omega))

/-- The call's results. -/
abbrev actMeta (i : S16x2048.Idx) : EReal := act (xMeta m c) (yMeta m c) (argW m c) (argC m c) bMeta (i 0) (i 1)
abbrev lastMeta (i : S2x2048.Idx) : EReal := seqRow (xMeta m c) (argW m c) bMeta (16 + (i 0).val) (i 1)
abbrev actSample (i : S16x16x2048.Idx) : EReal := act (xSample m c (i 0)) (ySample m c (i 0)) (argW m c) (argC m c) (bSample m c (i 0)) (i 1) (i 2)
abbrev lastSample (i : S1x16x2x2048.Idx) : EReal := seqRow (xSample m c (i 1)) (argW m c) (bSample m c (i 1)) (16 + (i 2).val) (i 3)

theorem result_18 : Pipeline.afterTail₀ cfgs (dats m) 0 (V0 m) [hostOps1] c main_v18 = actMeta m c := by
  rw [after_left]
  funext i
  obtain ⟨p, j, rfl⟩ : ∃ (p : Fin 16) (j : Fin 2048), i = ix2 p j := ⟨i 0, i 1, eq_ix2 i⟩
  refine (cut_18 _ p j).trans ?_
  rw [left_act]
  exact array_meta m c p j

theorem result_19 : Pipeline.afterTail₀ cfgs (dats m) 0 (V0 m) [hostOps1] c main_v19 = lastMeta m c := by
  rw [after_left]
  funext i
  obtain ⟨p, j, rfl⟩ : ∃ (p : Fin 2) (j : Fin 2048), i = ix2 p j := ⟨i 0, i 1, eq_ix2 i⟩
  refine (cut_19 _ p j).trans ?_
  rw [left_input]
  exact array_meta_input m c p j

theorem result_21 : Pipeline.afterTail₀ cfgs (dats m) 0 (V0 m) [hostOps1] c main_v21 = actSample m c := by
  rw [after_left]
  funext i
  obtain ⟨s, p, j, rfl⟩ : ∃ (s p : Fin 16) (j : Fin 2048), i = ix3 s p j := ⟨i 0, i 1, i 2, eq_ix3 i⟩
  refine (cut_21 _ s p j).trans ?_
  rw [left_act]
  exact array_sample m c s p j

theorem result_25 : Pipeline.afterTail₀ cfgs (dats m) 0 (V0 m) [hostOps1] c main_v25 = lastSample m c := by
  rw [after_left]
  funext i
  obtain ⟨z, s, e, j, rfl⟩ : ∃ (z : Fin 1) (s : Fin 16) (e : Fin 2) (j : Fin 2048), i = ix4 z s e j := ⟨i 0, i 1, i 2, i 3, eq_ix4 i⟩
  obtain rfl : z = 0 := Subsingleton.elim _ _
  refine (cut_25 _ s e j).trans ?_
  rw [left_input]
  exact array_sample_input m c s e j

end Kernel

section Reference16

open Cert.TailReferenceIdeal Cert.TailReferenceIdeal.Gen

/-- The reference's product and its convolution's input, as it writes them. -/
abbrev product16 (x : FVec Ideal S16x16x2048 .f32) (w : FVec Ideal S1x2048x16400 .f32) : FVec Ideal S16x16x10240 .f32 :=
  Host.dotGeneral dot_S16x16x2048_S2048x10240_S16x16x10240_2_0_01_1_n_n none x (extractStridedSlice S2048x10240 ![0, 6160] (shapeCast _ w shapeCasts_S1x2048x16400_S2048x16400) slices_S2048x16400_S2048x10240_0_6160)

abbrev joined16 (D : FVec Ideal S16x16x10240 .f32) (buf : FVec Ideal S16x2x2048 .f32) : FVec Ideal S16x18x2048 .f32 :=
  concatenate S16x18x2048 1 [⟨S16x2x2048, buf⟩, ⟨S16x16x2048, (mulf (extractStridedSlice S16x16x2048 ![0, 0, 2048] D slices_S16x16x10240_S16x16x2048_0_0_2048) (extractStridedSlice S16x16x2048 ![0, 0, 4096] D slices_S16x16x10240_S16x16x2048_0_0_4096))⟩] concatenates_S16x2x2048_S16x16x2048_S16x18x2048_d1

theorem product16_apply (x : FVec Ideal S16x16x2048 .f32) (w : FVec Ideal S1x2048x16400 .f32) (s : Fin 16) (r : Fin 16) (k : Fin 10240) :
    product16 x w (ix3 s r k) = proj (fun d => x (ix3 s r d)) w k := by
  unfold proj
  pointwise [product16]

theorem joined16_apply (D : FVec Ideal S16x16x10240 .f32) (buf : FVec Ideal S16x2x2048 .f32) (s : Fin 16) (n : Fin 18) (j : Fin 2048) :
    joined16 D buf (ix3 s n j) = if h : n.val < 2 then buf (ix3 s ⟨n.val, h⟩ j)
      else D (ix3 s ⟨n.val - 2, by omega⟩ ⟨2048 + j.val, by omega⟩) * D (ix3 s ⟨n.val - 2, by omega⟩ ⟨4096 + j.val, by omega⟩) := by
  pointwise [joined16]

/-- A row of the convolution's input in the reference. -/
theorem joined16_row (x : FVec Ideal S16x16x2048 .f32) (w : FVec Ideal S1x2048x16400 .f32) (buf : FVec Ideal S16x2x2048 .f32)
    (s : Fin 16) (n : ℕ) (hn : n < 18) (j : Fin 2048) : joined16 (product16 x w) buf (ix3 s ⟨n, hn⟩ j)
      = seqRow (fun p d => x (ix3 s p d)) w (fun e d => buf (ix3 s e d)) n j := by
  rw [joined16_apply]
  by_cases n0 : n = 0
  · subst n0
    rfl
  · by_cases n1 : n = 1
    · subst n1
      rfl
    · have k := seqRow_own (fun p d => x (ix3 s p d)) w (fun e d => buf (ix3 s e d)) ⟨n - 2, by omega⟩ j
      have e1 : n - 2 + 2 = n := by omega
      simp only [e1] at k
      rw [k, dif_neg (show ¬n < 2 by omega)]
      exact congrArg₂ _ (product16_apply x w _ _ _) (product16_apply x w _ _ _)

/-- The activations as the reference writes them. -/
abbrev mixing16 (D : FVec Ideal S16x16x10240 .f32) (C : FVec Ideal S16x18x2048 .f32) (ya : FVec Ideal S16x16x2048 .f32)
    (cw : FVec Ideal S1x3x2048 .f32) : FVec Ideal S16x16x2048 .bf16 :=
  truncf .bf16 (addf (mulf (Host.divf (broadcastInDim S16x16x2048 ![] bcast_S_S16x16x2048 (constant S_ .f32 0x3F800000#32)) (addf (broadcastInDim S16x16x2048 ![] bcast_S_S16x16x2048 (constant S_ .f32 0x3F800000#32)) (Host.exp (Host.negf (extractStridedSlice S16x16x2048 ![0, 0, 6144] D slices_S16x16x10240_S16x16x2048_0_0_6144))))) ya) (mulf (Host.divf (broadcastInDim S16x16x2048 ![] bcast_S_S16x16x2048 (constant S_ .f32 0x3F800000#32)) (addf (broadcastInDim S16x16x2048 ![] bcast_S_S16x16x2048 (constant S_ .f32 0x3F800000#32)) (Host.exp (Host.negf (extractStridedSlice S16x16x2048 ![0, 0, 8192] D slices_S16x16x10240_S16x16x2048_0_0_8192))))) (mulf (extractStridedSlice S16x16x2048 ![0, 0, 0] D slices_S16x16x10240_S16x16x2048_0_0_0) (addf (addf (mulf (broadcastInDim S16x16x2048 ![0, 1, 2] bcast_S1x1x2048_S16x16x2048_0_1_2 (broadcastInDim S1x1x2048 ![2] bcast_S2048_S1x1x2048_2 (shapeCast _ (extractStridedSlice S1x2048 ![0, 0] (shapeCast _ cw shapeCasts_S1x3x2048_S3x2048) slices_S3x2048_S1x2048_0_0) shapeCasts_S1x2048_S2048))) (extractStridedSlice S16x16x2048 ![0, 0, 0] C slices_S16x18x2048_S16x16x2048_0_0_0)) (mulf (broadcastInDim S16x16x2048 ![0, 1, 2] bcast_S1x1x2048_S16x16x2048_0_1_2 (broadcastInDim S1x1x2048 ![2] bcast_S2048_S1x1x2048_2 (shapeCast _ (extractStridedSlice S1x2048 ![1, 0] (shapeCast _ cw shapeCasts_S1x3x2048_S3x2048) slices_S3x2048_S1x2048_1_0) shapeCasts_S1x2048_S2048))) (extractStridedSlice S16x16x2048 ![0, 1, 0] C slices_S16x18x2048_S16x16x2048_0_1_0))) (mulf (broadcastInDim S16x16x2048 ![0, 1, 2] bcast_S1x1x2048_S16x16x2048_0_1_2 (broadcastInDim S1x1x2048 ![2] bcast_S2048_S1x1x2048_2 (shapeCast _ (extractStridedSlice S1x2048 ![2, 0] (shapeCast _ cw shapeCasts_S1x3x2048_S3x2048) slices_S3x2048_S1x2048_2_0) shapeCasts_S1x2048_S2048))) (extractStridedSlice S16x16x2048 ![0, 2, 0] C slices_S16x18x2048_S16x16x2048_0_2_0)))))) bitsLt_bf16_f32

theorem mixing16_apply (D : FVec Ideal S16x16x10240 .f32) (C : FVec Ideal S16x18x2048 .f32) (ya : FVec Ideal S16x16x2048 .f32)
    (cw : FVec Ideal S1x3x2048 .f32) (s : Fin 16) (r : Fin 16) (j : Fin 2048) : mixing16 D C ya cw (ix3 s r j)
    = mixed (D (ix3 s r ⟨j.val, by omega⟩)) (D (ix3 s r ⟨6144 + j.val, by omega⟩)) (D (ix3 s r ⟨8192 + j.val, by omega⟩)) (ya (ix3 s r j))
        (cw (ix3 0 0 j)) (cw (ix3 0 1 j)) (cw (ix3 0 2 j))
        (C (ix3 s ⟨r.val, by omega⟩ j)) (C (ix3 s ⟨r.val + 1, by omega⟩ j)) (C (ix3 s ⟨r.val + 2, by omega⟩ j)) := by
  unfold mixed
  pointwise [mixing16]
  simp only [sub_eq_add_neg, zero_add, Nat.add_comm 1, Nat.add_comm 2]

end Reference16

section Reference1

open Cert.TailReferenceIdeal Cert.TailReferenceIdeal.Gen

/-- The reference's product and its convolution's input, as it writes them. -/
abbrev product1 (x : FVec Ideal S1x16x2048 .f32) (w : FVec Ideal S1x2048x16400 .f32) : FVec Ideal S1x16x10240 .f32 :=
  Host.dotGeneral dot_S1x16x2048_S2048x10240_S1x16x10240_2_0_01_1_n_n none x (extractStridedSlice S2048x10240 ![0, 6160] (shapeCast _ w shapeCasts_S1x2048x16400_S2048x16400) slices_S2048x16400_S2048x10240_0_6160)

abbrev joined1 (D : FVec Ideal S1x16x10240 .f32) (buf : FVec Ideal S1x2x2048 .f32) : FVec Ideal S1x18x2048 .f32 :=
  concatenate S1x18x2048 1 [⟨S1x2x2048, buf⟩, ⟨S1x16x2048, (mulf (extractStridedSlice S1x16x2048 ![0, 0, 2048] D slices_S1x16x10240_S1x16x2048_0_0_2048) (extractStridedSlice S1x16x2048 ![0, 0, 4096] D slices_S1x16x10240_S1x16x2048_0_0_4096))⟩] concatenates_S1x2x2048_S1x16x2048_S1x18x2048_d1

theorem product1_apply (x : FVec Ideal S1x16x2048 .f32) (w : FVec Ideal S1x2048x16400 .f32) (s : Fin 1) (r : Fin 16) (k : Fin 10240) :
    product1 x w (ix3 s r k) = proj (fun d => x (ix3 s r d)) w k := by
  unfold proj
  pointwise [product1]

theorem joined1_apply (D : FVec Ideal S1x16x10240 .f32) (buf : FVec Ideal S1x2x2048 .f32) (s : Fin 1) (n : Fin 18) (j : Fin 2048) :
    joined1 D buf (ix3 s n j) = if h : n.val < 2 then buf (ix3 s ⟨n.val, h⟩ j)
      else D (ix3 s ⟨n.val - 2, by omega⟩ ⟨2048 + j.val, by omega⟩) * D (ix3 s ⟨n.val - 2, by omega⟩ ⟨4096 + j.val, by omega⟩) := by
  obtain rfl : s = 0 := Subsingleton.elim _ _
  pointwise [joined1]

/-- A row of the convolution's input in the reference. -/
theorem joined1_row (x : FVec Ideal S1x16x2048 .f32) (w : FVec Ideal S1x2048x16400 .f32) (buf : FVec Ideal S1x2x2048 .f32)
    (s : Fin 1) (n : ℕ) (hn : n < 18) (j : Fin 2048) : joined1 (product1 x w) buf (ix3 s ⟨n, hn⟩ j)
      = seqRow (fun p d => x (ix3 s p d)) w (fun e d => buf (ix3 s e d)) n j := by
  rw [joined1_apply]
  by_cases n0 : n = 0
  · subst n0
    rfl
  · by_cases n1 : n = 1
    · subst n1
      rfl
    · have k := seqRow_own (fun p d => x (ix3 s p d)) w (fun e d => buf (ix3 s e d)) ⟨n - 2, by omega⟩ j
      have e1 : n - 2 + 2 = n := by omega
      simp only [e1] at k
      rw [k, dif_neg (show ¬n < 2 by omega)]
      exact congrArg₂ _ (product1_apply x w _ _ _) (product1_apply x w _ _ _)

/-- The activations as the reference writes them. -/
abbrev mixing1 (D : FVec Ideal S1x16x10240 .f32) (C : FVec Ideal S1x18x2048 .f32) (ya : FVec Ideal S1x16x2048 .f32)
    (cw : FVec Ideal S1x3x2048 .f32) : FVec Ideal S16x2048 .bf16 :=
  shapeCast _ (truncf .bf16 (addf (mulf (Host.divf (broadcastInDim S1x16x2048 ![] bcast_S_S1x16x2048 (constant S_ .f32 0x3F800000#32)) (addf (broadcastInDim S1x16x2048 ![] bcast_S_S1x16x2048 (constant S_ .f32 0x3F800000#32)) (Host.exp (Host.negf (extractStridedSlice S1x16x2048 ![0, 0, 6144] D slices_S1x16x10240_S1x16x2048_0_0_6144))))) ya) (mulf (Host.divf (broadcastInDim S1x16x2048 ![] bcast_S_S1x16x2048 (constant S_ .f32 0x3F800000#32)) (addf (broadcastInDim S1x16x2048 ![] bcast_S_S1x16x2048 (constant S_ .f32 0x3F800000#32)) (Host.exp (Host.negf (extractStridedSlice S1x16x2048 ![0, 0, 8192] D slices_S1x16x10240_S1x16x2048_0_0_8192))))) (mulf (extractStridedSlice S1x16x2048 ![0, 0, 0] D slices_S1x16x10240_S1x16x2048_0_0_0) (addf (addf (mulf (broadcastInDim S1x16x2048 ![0, 1, 2] bcast_S1x1x2048_S1x16x2048_0_1_2 (broadcastInDim S1x1x2048 ![2] bcast_S2048_S1x1x2048_2 (shapeCast _ (extractStridedSlice S1x2048 ![0, 0] (shapeCast _ cw shapeCasts_S1x3x2048_S3x2048) slices_S3x2048_S1x2048_0_0) shapeCasts_S1x2048_S2048))) (extractStridedSlice S1x16x2048 ![0, 0, 0] C slices_S1x18x2048_S1x16x2048_0_0_0)) (mulf (broadcastInDim S1x16x2048 ![0, 1, 2] bcast_S1x1x2048_S1x16x2048_0_1_2 (broadcastInDim S1x1x2048 ![2] bcast_S2048_S1x1x2048_2 (shapeCast _ (extractStridedSlice S1x2048 ![1, 0] (shapeCast _ cw shapeCasts_S1x3x2048_S3x2048) slices_S3x2048_S1x2048_1_0) shapeCasts_S1x2048_S2048))) (extractStridedSlice S1x16x2048 ![0, 1, 0] C slices_S1x18x2048_S1x16x2048_0_1_0))) (mulf (broadcastInDim S1x16x2048 ![0, 1, 2] bcast_S1x1x2048_S1x16x2048_0_1_2 (broadcastInDim S1x1x2048 ![2] bcast_S2048_S1x1x2048_2 (shapeCast _ (extractStridedSlice S1x2048 ![2, 0] (shapeCast _ cw shapeCasts_S1x3x2048_S3x2048) slices_S3x2048_S1x2048_2_0) shapeCasts_S1x2048_S2048))) (extractStridedSlice S1x16x2048 ![0, 2, 0] C slices_S1x18x2048_S1x16x2048_0_2_0)))))) bitsLt_bf16_f32) shapeCasts_S1x16x2048_S16x2048

theorem mixing1_apply (D : FVec Ideal S1x16x10240 .f32) (C : FVec Ideal S1x18x2048 .f32) (ya : FVec Ideal S1x16x2048 .f32)
    (cw : FVec Ideal S1x3x2048 .f32) (r : Fin 16) (j : Fin 2048) : mixing1 D C ya cw (ix2 r j)
    = mixed (D (ix3 0 r ⟨j.val, by omega⟩)) (D (ix3 0 r ⟨6144 + j.val, by omega⟩)) (D (ix3 0 r ⟨8192 + j.val, by omega⟩)) (ya (ix3 0 r j))
        (cw (ix3 0 0 j)) (cw (ix3 0 1 j)) (cw (ix3 0 2 j))
        (C (ix3 0 ⟨r.val, by omega⟩ j)) (C (ix3 0 ⟨r.val + 1, by omega⟩ j)) (C (ix3 0 ⟨r.val + 2, by omega⟩ j)) := by
  unfold mixed
  pointwise [mixing1]
  simp only [sub_eq_add_neg, zero_add, Nat.add_comm 1, Nat.add_comm 2]

end Reference1

section Together

open Cert.TailReferenceIdeal Cert.TailReferenceIdeal.Gen

/-- The meta tokens' rows as the reference takes them. -/
abbrev one (a : FVec Ideal S16x2048 .f32) : FVec Ideal S1x16x2048 .f32 := broadcastInDim S1x16x2048 ![1, 2] bcast_S16x2048_S1x16x2048_1_2 a

theorem one_apply (a : FVec Ideal S16x2048 .f32) (p : Fin 16) (d : Fin 2048) : one a (ix3 0 p d) = a (ix2 p d) := by
  pointwise [one]

/-- The zero rows before the meta tokens, and the cache's before the streams. -/
abbrev zeros : FVec Ideal S1x2x2048 .f32 := broadcastInDim S1x2x2048 ![] bcast_S_S1x2x2048 (constant (F := Ideal) S_ .f32 0x00000000#32)

theorem zeros_apply (e : Fin 2) (d : Fin 2048) : zeros (ix3 0 e d) = 0 := by
  pointwise [zeros]

abbrev cache (b : FVec Ideal S1x16x2x2048 .f32) : FVec Ideal S16x2x2048 .f32 := shapeCast _ b shapeCasts_S1x16x2x2048_S16x2x2048

theorem cache_apply (b : FVec Ideal S1x16x2x2048 .f32) (s : Fin 16) (e : Fin 2) (d : Fin 2048) : cache b (ix3 s e d) = b (ix4 0 s e d) := by
  pointwise [cache]

/-- The rows the reference returns of the convolution's input. -/
theorem returned1 (C : FVec Ideal S1x18x2048 .f32) (e : Fin 2) (j : Fin 2048) :
    shapeCast S2x2048 (extractStridedSlice S1x2x2048 ![0, 16, 0] C slices_S1x18x2048_S1x2x2048_0_16_0) shapeCasts_S1x2x2048_S2x2048 (ix2 e j)
      = C (ix3 0 ⟨16 + e.val, by omega⟩ j) := by
  pointwise []

theorem returned16 (C : FVec Ideal S16x18x2048 .f32) (s : Fin 16) (e : Fin 2) (j : Fin 2048) :
    broadcastInDim S1x16x2x2048 ![1, 2, 3] bcast_S16x2x2048_S1x16x2x2048_1_2_3 (extractStridedSlice S16x2x2048 ![0, 16, 0] C slices_S16x18x2048_S16x2x2048_0_16_0) (ix4 0 s e j)
      = C (ix3 s ⟨16 + e.val, by omega⟩ j) := by
  pointwise []

/-- A row of the convolution's input, before the meta tokens and of a stream. -/
theorem row1 (x : FVec Ideal S16x2048 .f32) (w : FVec Ideal S1x2048x16400 .f32) (n : ℕ) (hn : n < 18) (j : Fin 2048) :
    joined1 (product1 (one x) w) zeros (ix3 0 ⟨n, hn⟩ j) = seqRow (fun p d => x (ix2 p d)) w bMeta n j := by
  rw [joined1_row]
  simp only [one_apply, zeros_apply]

theorem row16 (x : FVec Ideal S16x16x2048 .f32) (w : FVec Ideal S1x2048x16400 .f32) (b : FVec Ideal S1x16x2x2048 .f32) (s : Fin 16)
    (n : ℕ) (hn : n < 18) (j : Fin 2048) :
    joined16 (product16 x w) (cache b) (ix3 s ⟨n, hn⟩ j) = seqRow (fun p d => x (ix3 s p d)) w (fun e d => b (ix4 0 s e d)) n j := by
  rw [joined16_row]
  simp only [cache_apply]

/-- The reference's activations. -/
theorem act1 (x y : FVec Ideal S16x2048 .f32) (w : FVec Ideal S1x2048x16400 .f32) (cw : FVec Ideal S1x3x2048 .f32) (p : Fin 16) (j : Fin 2048) :
    mixing1 (product1 (one x) w) (joined1 (product1 (one x) w) zeros) (one y) cw (ix2 p j)
      = act (fun p d => x (ix2 p d)) (fun p d => y (ix2 p d)) w cw bMeta p j := by
  refine (mixing1_apply _ _ _ _ p j).trans ?_
  unfold act
  rw [product1_apply, product1_apply, product1_apply, row1, row1, row1]
  simp only [one_apply]

theorem act16 (x y : FVec Ideal S16x16x2048 .f32) (w : FVec Ideal S1x2048x16400 .f32) (cw : FVec Ideal S1x3x2048 .f32)
    (b : FVec Ideal S1x16x2x2048 .f32) (s p : Fin 16) (j : Fin 2048) :
    mixing16 (product16 x w) (joined16 (product16 x w) (cache b)) y cw (ix3 s p j)
      = act (fun p d => x (ix3 s p d)) (fun p d => y (ix3 s p d)) w cw (fun e d => b (ix4 0 s e d)) p j := by
  refine (mixing16_apply _ _ _ _ s p j).trans ?_
  unfold act
  rw [product16_apply, product16_apply, product16_apply, row16, row16, row16]

end Together

section Run

open Cert.TailIdeal Cert.TailIdeal.Gen

/-- The kernel's run: its results, and its arguments as they were. -/
theorem run_results (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v18) = actMeta m c
      ∧ r.2.mem ((c.tc : Thread nD τ).loc main_v19) = lastMeta m c
      ∧ r.2.mem ((c.tc : Thread nD τ).loc main_v21) = actSample m c
      ∧ r.2.mem ((c.tc : Thread nD τ).loc main_v25) = lastSample m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine (θ_run _ _ _).mono (fun r h c => ?_) (θ_run_and (run_main m g) (unchanged m g))
  have k := (h.1 c).2
  exact ⟨(k main_v18 (Pipeline.mem_restRefs_of main_v18 (by decide) (by decide))).trans (result_18 m c),
    (k main_v19 (Pipeline.mem_restRefs_of main_v19 (by decide) (by decide))).trans (result_19 m c),
    (k main_v21 (Pipeline.mem_restRefs_of main_v21 (by decide) (by decide))).trans (result_21 m c),
    (k main_v25 (Pipeline.mem_restRefs_of main_v25 (by decide) (by decide))).trans (result_25 m c), h.2 c⟩

end Run

/-- The kernel's results are the reference's. -/
theorem tail_computes : Cert.algebraic_TailIdeal_TailReferenceIdeal := by
  intro m g m' g' _ hargs
  refine ⟨actMeta m, lastMeta m, actSample m, lastSample m, run_results m g, ?_⟩
  refine (θ_run _ _ _).mono (fun r h c => ?_) (Cert.TailReferenceIdeal.Value.run m' g')
  obtain ⟨h0, h1, h2, h3, h4, h5, h6⟩ := hargs c
  obtain ⟨r0, r1, r2, r3, rest⟩ := h c
  refine ⟨r0.trans ?_, r1.trans ?_, r2.trans ?_, r3.trans ?_, rest⟩
  · unfold Cert.TailReferenceIdeal.Value.res_main_v102
    rw [h0, h2, h4, h5]
    funext i
    obtain ⟨p, j, rfl⟩ : ∃ (p : Fin 16) (j : Fin 2048), i = ix2 p j := ⟨i 0, i 1, eq_ix2 i⟩
    exact act1 (argXm m c) (argYm m c) (argW m c) (argC m c) p j
  · rw [h0, h4]
    funext i
    obtain ⟨e, j, rfl⟩ : ∃ (e : Fin 2) (j : Fin 2048), i = ix2 e j := ⟨i 0, i 1, eq_ix2 i⟩
    exact (returned1 (joined1 (product1 (one (argXm m c)) (argW m c)) zeros) e j).trans (row1 (argXm m c) (argW m c) _ _ j)
  · unfold Cert.TailReferenceIdeal.Value.res_main_v101
    rw [h1, h3, h4, h5, h6]
    funext i
    obtain ⟨s, p, j, rfl⟩ : ∃ (s p : Fin 16) (j : Fin 2048), i = ix3 s p j := ⟨i 0, i 1, i 2, eq_ix3 i⟩
    exact act16 (argXs m c) (argYs m c) (argW m c) (argC m c) (argB m c) s p j
  · rw [h1, h4, h6]
    funext i
    obtain ⟨z, s, e, j, rfl⟩ : ∃ (z : Fin 1) (s : Fin 16) (e : Fin 2) (j : Fin 2048), i = ix4 z s e j := ⟨i 0, i 1, i 2, i 3, eq_ix4 i⟩
    obtain rfl : z = 0 := Subsingleton.elim _ _
    exact (returned16 (joined16 (product16 (argXs m c) (argW m c)) (cache (argB m c))) s e j).trans
      (row16 (argXs m c) (argW m c) (argB m c) s _ _ j)

/-- The reference runs and leaves its arguments as they were. -/
theorem tail_reference_runs : Cert.quiescent_TailReferenceIdeal := fun m g _ =>
  (θ_run Cert.TailReferenceIdeal.defs _ _).mono (fun r h => ⟨fun c => (h c).2.2.2.2, sem_eq_zero_of_no_sems (by decide) r.2⟩)
    (Cert.TailReferenceIdeal.Value.run m g)

end Tail

end
-- ==== Proof.StateChunk.lean ====
/-
  The stream states' arithmetic: six rolls sum the log decays of a chunk of 64 rows, of which only the last sixteen are
  tokens, the rows before them being masked to zero. A chunk leaves in its state the state found, decayed by all its rows,
  and for each of its sixteen tokens the key, decayed from there to the chunk's end, times the value. Stated once for each of
  the two heights a point works on: eight chunks, or nine where the meta tokens' chunk comes first.
-/
module

public import proofs.«01_k».proof.Proof.Gen.StateIdeal.Skeleton
public import Idealize.ShloMosaic.Lib.Pointwise
public import Idealize.ShloMosaic.Lib.IdealHost

@[expose] public section

noncomputable section

namespace State

open Idealize.ShloMosaic Cert.StateIdeal Cert.StateIdeal.Gen

set_option maxRecDepth 16384

/-- A selection by a decided condition. -/
theorem select_if {α : Type} (p : Prop) [Decidable p] (x y : α) :
    Scalar.select (if p then 1#1 else 0#1) x y = if p then x else y := by
  by_cases h : p <;> simp [h, Scalar.select]

/-- A row's place in its chunk, compared with a roll's distance. -/
theorem place_ge : ∀ (m : Fin 6) (r : Fin 576), IntOp.cmpi .sge (IntOp.andi (BitVec.ofNat 32 r.val) 63#32) (BitVec.ofNat 32 (2 ^ m.val))
    = if 2 ^ m.val ≤ r.val % 64 then 1#1 else 0#1 := by decide +kernel

/-- The rows of a chunk that are tokens. -/
theorem place_live : ∀ r : Fin 576, IntOp.cmpi .sge (IntOp.andi (BitVec.ofNat 32 r.val) 63#32) 48#32
    = if 48 ≤ r.val % 64 then 1#1 else 0#1 := by decide +kernel

/-- The sum of the last `w` rows of a row's chunk up to the row, as many of them as the chunk has. -/
def last (x : ℕ → EReal) (w r : ℕ) : EReal :=
  ∑ i : Fin 64, if i.val ≤ r % 64 ∧ r % 64 < i.val + w then x (64 * (r / 64) + i.val) else 0

theorem last_one (x : ℕ → EReal) (r : ℕ) : last x 1 r = x r := by
  unfold last
  rw [Finset.sum_eq_single ⟨r % 64, Nat.mod_lt _ (by decide)⟩]
  · rw [if_pos ⟨le_rfl, Nat.lt_succ_self _⟩]
    congr 1
    dsimp only
    omega
  · intro i _ hi
    rw [if_neg]
    intro h
    exact hi (Fin.ext (by dsimp only; omega))
  · intro h
    exact absurd (Finset.mem_univ _) h

theorem last_double (x : ℕ → EReal) (w r : ℕ) :
    last x (w + w) r = last x w r + if w ≤ r % 64 then last x w (r - w) else 0 := by
  unfold last
  split_ifs with h
  · rw [← Finset.sum_add_distrib]
    refine Finset.sum_congr rfl fun i _ => ?_
    rw [show (r - w) / 64 = r / 64 by omega, show (r - w) % 64 = r % 64 - w by omega]
    split_ifs <;> first | omega | simp
  · rw [add_zero]
    refine Finset.sum_congr rfl fun i _ => ?_
    split_ifs <;> first | omega | rfl

/-- The sixteen tokens' running sum. -/
def acc (y : ℕ → EReal) (p : ℕ) : EReal := ∑ i : Fin 16, if i.val ≤ p then y i.val else 0

/-- A chunk's sum over its last sixteen rows, where the others give nothing. -/
theorem tail_rows (f : ℕ → EReal) (h : ∀ i, i < 48 → f i = 0) : ∑ i : Fin 64, f i.val = ∑ p : Fin 16, f (48 + p.val) := by
  rw [show (∑ i : Fin 64, f i.val) = ∑ i : Fin (48 + 16), f i.val from rfl, Fin.sum_univ_add]
  have z : ∑ i : Fin 48, f (Fin.castAdd 16 i).val = 0 := Finset.sum_eq_zero fun i _ => h _ i.isLt
  rw [z, zero_add]
  rfl

/-- After the six rolls a token's row holds its stream's running sum. -/
theorem last_all (x y : ℕ → EReal) (c p : ℕ) (hp : p < 16) (hx : ∀ i, i < 64 → x (64 * c + i) = if 48 ≤ i then y (i - 48) else 0) :
    last x 64 (64 * c + (48 + p)) = acc y p := by
  unfold last acc
  rw [show (64 * c + (48 + p)) % 64 = 48 + p by omega, show (64 * c + (48 + p)) / 64 = c by omega]
  refine (Finset.sum_congr rfl fun i _ => ?_).trans
    ((tail_rows (fun i => if 48 ≤ i ∧ i ≤ 48 + p then y (i - 48) else 0) fun i hi => if_neg (by omega)).trans
      (Finset.sum_congr rfl fun i _ => ?_))
  · rw [hx _ i.isLt]
    have := i.isLt
    split_ifs <;> first | omega | rfl
  · rw [Nat.add_sub_cancel_left]
    split_ifs <;> first | omega | rfl

/-- What a chunk leaves in its state's entry. -/
def left (k y v : ℕ → EReal) (st : EReal) : EReal :=
  Ideal.exp (acc y 15) * st + ∑ p : Fin 16, k p.val * Ideal.exp (acc y 15 - acc y p.val) * v p.val

/-! ## Eight chunks -/

/-- A block's rows. -/
def Rows512 (x : FVec Ideal S512x256 .f32) (X : ℕ → Fin 256 → EReal) : Prop := ∀ (r : Fin 512) (a : Fin 256), x (ix2 r a) = X r.val a

/-- The rows' places in their chunks. -/
def place512 : IVec S512x256 32 := andi (iota .tc S512x256 32 [0] iota_S512x256_d0_w32) (broadcast S512x256 63#32)

/-- The rows that are tokens, the others zero. -/
def masked512 (y : FVec Ideal S512x256 .f32) : FVec Ideal S512x256 .f32 :=
  select (cmpi .sge place512 (broadcast S512x256 48#32)) y (broadcast S512x256 (Scalar.ofBits .f32 0x00000000#32))

/-- One roll, added where the chunk has the row. -/
def roll512 (n : ℕ) (x : FVec Ideal S512x256 .f32) : FVec Ideal S512x256 .f32 :=
  addf x (select (cmpi .sge place512 (broadcast S512x256 (BitVec.ofNat 32 n)))
    (dynamicRotate 0 (BitVec.ofNat 32 n) none x rotates_S512x256_d0) (broadcast S512x256 (Scalar.ofBits .f32 0x00000000#32)))

theorem masked512_at (y : FVec Ideal S512x256 .f32) (r : Fin 512) (a : Fin 256) :
    masked512 y (ix2 r a) = if 48 ≤ r.val % 64 then y (ix2 r a) else 0 := by
  have e := place_live ⟨r.val, by omega⟩
  dsimp only at e
  pointwise [masked512, place512]
  rw [e, select_if]

/-- A roll doubles the rows summed. -/
theorem roll512_step (m : Fin 6) (x : FVec Ideal S512x256 .f32) (X : ℕ → Fin 256 → EReal)
    (hx : Rows512 x fun r a => last (X · a) (2 ^ m.val) r) : Rows512 (roll512 (2 ^ m.val) x) fun r a => last (X · a) (2 ^ (m.val + 1)) r := by
  intro r a
  have hm : 2 ^ m.val ≤ 32 := le_trans (Nat.pow_le_pow_right (by decide) (by omega : m.val ≤ 5)) (by decide)
  have e : (BitVec.ofNat 32 (2 ^ m.val)).toNat % 512 = 2 ^ m.val := by
    generalize 2 ^ m.val = s at hm
    rw [BitVec.toNat_ofNat]; omega
  have e1 := place_ge m ⟨r.val, by omega⟩
  dsimp only at e1
  pointwise [roll512, place512]
  rw [e1, select_if, hx r a]
  have h2 : 2 ^ (m.val + 1) = 2 ^ m.val + 2 ^ m.val := by rw [pow_succ]; omega
  rw [h2, last_double]
  generalize 2 ^ m.val = s at *
  split_ifs with h
  · have hr : (r.val + 512 - (BitVec.ofNat 32 s).toNat % 512) % 512 = r.val - s := by rw [e]; omega
    have := hx ⟨(r.val + 512 - (BitVec.ofNat 32 s).toNat % 512) % 512, Nat.mod_lt _ (by decide)⟩ a
    rw [this]
    simp only [hr]
  · rfl

/-- The six rolls of the masked log decays. -/
def rolled512 (y : FVec Ideal S512x256 .f32) : FVec Ideal S512x256 .f32 :=
  roll512 32 (roll512 16 (roll512 8 (roll512 4 (roll512 2 (roll512 1 (masked512 y))))))

theorem rolled512_at (y : FVec Ideal S512x256 .f32) (c : Fin 8) (Y : ℕ → EReal) (a : Fin 256)
    (hy : ∀ p : Fin 16, y (ix2 ⟨64 * c.val + (48 + p.val), by omega⟩ a) = Y p.val) (p : Fin 16) :
    rolled512 y (ix2 ⟨64 * c.val + (48 + p.val), by omega⟩ a) = acc Y p.val := by
  have h0 : Rows512 (masked512 y) fun r a => last (fun r => if h : r < 512 then masked512 y (ix2 ⟨r, h⟩ a) else 0) (2 ^ (0 : Fin 6).val) r :=
    fun r a =>
      ((last_one _ _).trans (dif_pos r.isLt)).symm
  have h := roll512_step 5 _ _ (roll512_step 4 _ _ (roll512_step 3 _ _ (roll512_step 2 _ _ (roll512_step 1 _ _ (roll512_step 0 _ _ h0)))))
  refine (h ⟨64 * c.val + (48 + p.val), by omega⟩ a).trans (last_all _ Y c.val p.val p.isLt fun i hi => ?_)
  rw [dif_pos (by omega), masked512_at]
  dsimp only
  rw [show (64 * c.val + i) % 64 = i by omega]
  split_ifs with h48
  · rw [← hy ⟨i - 48, by omega⟩]
    exact congrArg (fun r : Fin 512 => y (ix2 r a)) (Fin.ext (by dsimp only; omega))
  · rfl

/-- The masked keys, decayed to their chunk's end. -/
def decayed512 (z y : FVec Ideal S512x256 .f32) : FVec Ideal S512x256 .bf16 :=
  truncf .bf16 (mulf (masked512 z) (exp (subf (shapeCast S512x256 (broadcastTo S8x64x256 (shapeCast S8x1x256
    (extractStridedSlice S8x1x256 ![0, 63, 0] (shapeCast S8x64x256 (rolled512 y) shapeCasts_S512x256_S8x64x256)
      slices_S8x64x256_o0_63_0_S8x1x256) shapeCasts_S8x1x256_S8x1x256) broadcasts_S8x1x256_S8x64x256) shapeCasts_S8x64x256_S512x256)
    (rolled512 y)))) bitsLt_bf16_f32

theorem decayed512_at (z y : FVec Ideal S512x256 .f32) (r : Fin 512) (a : Fin 256) :
    decayed512 z y (ix2 r a) = masked512 z (ix2 r a)
      * Ideal.exp (rolled512 y (ix2 ⟨64 * (r.val / 64) + 63, by omega⟩ a) - rolled512 y (ix2 r a)) := by
  pointwise [decayed512]
  generalize rolled512 y = b
  have e : r.val / 64 * 64 + 63 = 64 * (r.val / 64) + 63 := by omega
  simp only [e]

/-- A state's entry as the block has it. -/
theorem left512 (z y : FVec Ideal S512x256 .f32) (v : FVec Ideal S512x512 .bf16) (c : Fin 8) (st : EReal) (a : Fin 256) (d : Fin 512)
    (K Y W : ℕ → EReal) (hz : ∀ p : Fin 16, z (ix2 ⟨64 * c.val + (48 + p.val), by omega⟩ a) = K p.val)
    (hy : ∀ p : Fin 16, y (ix2 ⟨64 * c.val + (48 + p.val), by omega⟩ a) = Y p.val)
    (hv : ∀ p : Fin 16, v (ix2 ⟨64 * c.val + (48 + p.val), by omega⟩ d) = W p.val) :
    Ideal.exp (rolled512 y (ix2 ⟨64 * c.val + 63, by omega⟩ a)) * st
        + ∑ j : Fin 64, decayed512 z y (ix2 ⟨64 * c.val + j.val, by omega⟩ a) * v (ix2 ⟨64 * c.val + j.val, by omega⟩ d)
      = left K Y W st := by
  unfold left
  have e15 := rolled512_at y c Y a hy 15
  have e15' : rolled512 y (ix2 ⟨64 * c.val + 63, by omega⟩ a) = acc Y 15 := e15
  rw [e15']
  refine congrArg₂ _ rfl ?_
  refine (Finset.sum_congr rfl fun j _ => ?_).trans
    ((tail_rows (fun i => if 48 ≤ i then K (i - 48) * Ideal.exp (acc Y 15 - acc Y (i - 48)) * W (i - 48) else 0)
      fun i hi => if_neg (by omega)).trans (Finset.sum_congr rfl fun i _ => ?_))
  · rw [decayed512_at, masked512_at]
    have hj := j.isLt
    simp only [show (64 * c.val + j.val) % 64 = j.val by omega, show (64 * c.val + j.val) / 64 = c.val by omega]
    split_ifs with h48
    · have h1 := hz ⟨j.val - 48, by omega⟩
      have h2 := hv ⟨j.val - 48, by omega⟩
      have h3 := rolled512_at y c Y a hy ⟨j.val - 48, by omega⟩
      simp only [show 48 + (j.val - 48) = j.val by omega] at h1 h2 h3
      rw [e15', h1, h2, h3]
    · rw [zero_mul, zero_mul]
  · rw [if_pos (by omega), Nat.add_sub_cancel_left]

/-! ## Nine chunks -/

/-- A block's rows. -/
def Rows576 (x : FVec Ideal S576x256 .f32) (X : ℕ → Fin 256 → EReal) : Prop := ∀ (r : Fin 576) (a : Fin 256), x (ix2 r a) = X r.val a

/-- The rows' places in their chunks. -/
def place576 : IVec S576x256 32 := andi (iota .tc S576x256 32 [0] iota_S576x256_d0_w32) (broadcast S576x256 63#32)

/-- The rows that are tokens, the others zero. -/
def masked576 (y : FVec Ideal S576x256 .f32) : FVec Ideal S576x256 .f32 :=
  select (cmpi .sge place576 (broadcast S576x256 48#32)) y (broadcast S576x256 (Scalar.ofBits .f32 0x00000000#32))

/-- One roll, added where the chunk has the row. -/
def roll576 (n : ℕ) (x : FVec Ideal S576x256 .f32) : FVec Ideal S576x256 .f32 :=
  addf x (select (cmpi .sge place576 (broadcast S576x256 (BitVec.ofNat 32 n)))
    (dynamicRotate 0 (BitVec.ofNat 32 n) none x rotates_S576x256_d0) (broadcast S576x256 (Scalar.ofBits .f32 0x00000000#32)))

theorem masked576_at (y : FVec Ideal S576x256 .f32) (r : Fin 576) (a : Fin 256) :
    masked576 y (ix2 r a) = if 48 ≤ r.val % 64 then y (ix2 r a) else 0 := by
  have e := place_live ⟨r.val, by omega⟩
  dsimp only at e
  pointwise [masked576, place576]
  rw [e, select_if]

/-- A roll doubles the rows summed. -/
theorem roll576_step (m : Fin 6) (x : FVec Ideal S576x256 .f32) (X : ℕ → Fin 256 → EReal)
    (hx : Rows576 x fun r a => last (X · a) (2 ^ m.val) r) : Rows576 (roll576 (2 ^ m.val) x) fun r a => last (X · a) (2 ^ (m.val + 1)) r := by
  intro r a
  have hm : 2 ^ m.val ≤ 32 := le_trans (Nat.pow_le_pow_right (by decide) (by omega : m.val ≤ 5)) (by decide)
  have e : (BitVec.ofNat 32 (2 ^ m.val)).toNat % 576 = 2 ^ m.val := by
    generalize 2 ^ m.val = s at hm
    rw [BitVec.toNat_ofNat]; omega
  have e1 := place_ge m ⟨r.val, by omega⟩
  dsimp only at e1
  pointwise [roll576, place576]
  rw [e1, select_if, hx r a]
  have h2 : 2 ^ (m.val + 1) = 2 ^ m.val + 2 ^ m.val := by rw [pow_succ]; omega
  rw [h2, last_double]
  generalize 2 ^ m.val = s at *
  split_ifs with h
  · have hr : (r.val + 576 - (BitVec.ofNat 32 s).toNat % 576) % 576 = r.val - s := by rw [e]; omega
    have := hx ⟨(r.val + 576 - (BitVec.ofNat 32 s).toNat % 576) % 576, Nat.mod_lt _ (by decide)⟩ a
    rw [this]
    simp only [hr]
  · rfl

/-- The six rolls of the masked log decays. -/
def rolled576 (y : FVec Ideal S576x256 .f32) : FVec Ideal S576x256 .f32 :=
  roll576 32 (roll576 16 (roll576 8 (roll576 4 (roll576 2 (roll576 1 (masked576 y))))))

theorem rolled576_at (y : FVec Ideal S576x256 .f32) (c : Fin 9) (Y : ℕ → EReal) (a : Fin 256)
    (hy : ∀ p : Fin 16, y (ix2 ⟨64 * c.val + (48 + p.val), by omega⟩ a) = Y p.val) (p : Fin 16) :
    rolled576 y (ix2 ⟨64 * c.val + (48 + p.val), by omega⟩ a) = acc Y p.val := by
  have h0 : Rows576 (masked576 y) fun r a => last (fun r => if h : r < 576 then masked576 y (ix2 ⟨r, h⟩ a) else 0) (2 ^ (0 : Fin 6).val) r :=
    fun r a =>
      ((last_one _ _).trans (dif_pos r.isLt)).symm
  have h := roll576_step 5 _ _ (roll576_step 4 _ _ (roll576_step 3 _ _ (roll576_step 2 _ _ (roll576_step 1 _ _ (roll576_step 0 _ _ h0)))))
  refine (h ⟨64 * c.val + (48 + p.val), by omega⟩ a).trans (last_all _ Y c.val p.val p.isLt fun i hi => ?_)
  rw [dif_pos (by omega), masked576_at]
  dsimp only
  rw [show (64 * c.val + i) % 64 = i by omega]
  split_ifs with h48
  · rw [← hy ⟨i - 48, by omega⟩]
    exact congrArg (fun r : Fin 576 => y (ix2 r a)) (Fin.ext (by dsimp only; omega))
  · rfl

/-- The masked keys, decayed to their chunk's end. -/
def decayed576 (z y : FVec Ideal S576x256 .f32) : FVec Ideal S576x256 .bf16 :=
  truncf .bf16 (mulf (masked576 z) (exp (subf (shapeCast S576x256 (broadcastTo S9x64x256 (shapeCast S9x1x256
    (extractStridedSlice S9x1x256 ![0, 63, 0] (shapeCast S9x64x256 (rolled576 y) shapeCasts_S576x256_S9x64x256)
      slices_S9x64x256_o0_63_0_S9x1x256) shapeCasts_S9x1x256_S9x1x256) broadcasts_S9x1x256_S9x64x256) shapeCasts_S9x64x256_S576x256)
    (rolled576 y)))) bitsLt_bf16_f32

theorem decayed576_at (z y : FVec Ideal S576x256 .f32) (r : Fin 576) (a : Fin 256) :
    decayed576 z y (ix2 r a) = masked576 z (ix2 r a)
      * Ideal.exp (rolled576 y (ix2 ⟨64 * (r.val / 64) + 63, by omega⟩ a) - rolled576 y (ix2 r a)) := by
  pointwise [decayed576]
  generalize rolled576 y = b
  have e : r.val / 64 * 64 + 63 = 64 * (r.val / 64) + 63 := by omega
  simp only [e]

/-- A state's entry as the block has it. -/
theorem left576 (z y : FVec Ideal S576x256 .f32) (v : FVec Ideal S576x512 .bf16) (c : Fin 9) (st : EReal) (a : Fin 256) (d : Fin 512)
    (K Y W : ℕ → EReal) (hz : ∀ p : Fin 16, z (ix2 ⟨64 * c.val + (48 + p.val), by omega⟩ a) = K p.val)
    (hy : ∀ p : Fin 16, y (ix2 ⟨64 * c.val + (48 + p.val), by omega⟩ a) = Y p.val)
    (hv : ∀ p : Fin 16, v (ix2 ⟨64 * c.val + (48 + p.val), by omega⟩ d) = W p.val) :
    Ideal.exp (rolled576 y (ix2 ⟨64 * c.val + 63, by omega⟩ a)) * st
        + ∑ j : Fin 64, decayed576 z y (ix2 ⟨64 * c.val + j.val, by omega⟩ a) * v (ix2 ⟨64 * c.val + j.val, by omega⟩ d)
      = left K Y W st := by
  unfold left
  have e15 := rolled576_at y c Y a hy 15
  have e15' : rolled576 y (ix2 ⟨64 * c.val + 63, by omega⟩ a) = acc Y 15 := e15
  rw [e15']
  refine congrArg₂ _ rfl ?_
  refine (Finset.sum_congr rfl fun j _ => ?_).trans
    ((tail_rows (fun i => if 48 ≤ i then K (i - 48) * Ideal.exp (acc Y 15 - acc Y (i - 48)) * W (i - 48) else 0)
      fun i hi => if_neg (by omega)).trans (Finset.sum_congr rfl fun i _ => ?_))
  · rw [decayed576_at, masked576_at]
    have hj := j.isLt
    simp only [show (64 * c.val + j.val) % 64 = j.val by omega, show (64 * c.val + j.val) / 64 = c.val by omega]
    split_ifs with h48
    · have h1 := hz ⟨j.val - 48, by omega⟩
      have h2 := hv ⟨j.val - 48, by omega⟩
      have h3 := rolled576_at y c Y a hy ⟨j.val - 48, by omega⟩
      simp only [show 48 + (j.val - 48) = j.val by omega] at h1 h2 h3
      rw [e15', h1, h2, h3]
    · rw [zero_mul, zero_mul]
  · rw [if_pos (by omega), Nat.add_sub_cancel_left]

end State

end
-- ==== Proof.StateStored.lean ====
/-
  What a point stores for a stream, read off the block's terms: the entry of a chunk's state, and the padded blocks of keys,
  log decays and values, whose chunk `c` ends with the sixteen rows loaded for its stream.
-/
module

public import proofs.«01_k».proof.Proof.StateChunk
public import Idealize.ShloMosaic.Lib.Pipeline.Value

@[expose] public section

noncomputable section

namespace State

open Idealize.ShloMosaic Cert.StateIdeal Cert.StateIdeal.Gen

set_option maxRecDepth 16384

/-- Off the rows' axis two places of blocks as wide agree. -/
theorem off_row {N n w : ℕ} (r : Fin N) (p : Fin n) (a : Fin w) (b : Fin (⟨2, ![n, w]⟩ : Shape).rank)
    (hb : b.cast (rfl : (⟨2, ![n, w]⟩ : Shape).rank = (⟨2, ![N, w]⟩ : Shape).rank) ≠ 0) :
    ((ix2 p a : (⟨2, ![n, w]⟩ : Shape).Idx) b).val = ((ix2 r a : (⟨2, ![N, w]⟩ : Shape).Idx) (b.cast rfl)).val := by
  match b, hb with
  | ⟨0, _⟩, hb => exact absurd rfl hb
  | ⟨1, _⟩, _ => rfl

theorem cast64 (x : FVec Ideal S64x256 .f32) : k0_pay15 x = x := by
  funext z
  obtain ⟨r, a, rfl⟩ : ∃ (r : Fin 64) (a : Fin 256), z = ix2 r a := ⟨z 0, z 1, by funext b; fin_cases b <;> rfl⟩
  pointwise [k0_pay15]

theorem cast16 (x : FVec Ideal S16x256 .f32) : shapeCast S16x256 x shapeCasts_S16x256_S16x256 = x := by
  funext z
  obtain ⟨r, a, rfl⟩ : ∃ (r : Fin 16) (a : Fin 256), z = ix2 r a := ⟨z 0, z 1, by funext b; fin_cases b <;> rfl⟩
  show k0_pay17 (F := Ideal) x _ = _
  pointwise [k0_pay17]

/-! ## The padded blocks -/

set_option maxHeartbeats 3200000 in
theorem keys512 (l0 l1 l2 l3 l4 l5 l6 l7 : FVec Ideal S16x256 .f32) (c : Fin 8) (p : Fin 16) (a : Fin 256) :
    (k0_pay107 l0 l1 l2 l3 l4 l5 l6 l7 : FVec Ideal S512x256 .f32) (ix2 ⟨64 * c.val + (48 + p.val), by omega⟩ a) = (![l0, l1, l2, l3, l4, l5, l6, l7] c) (ix2 p a) := by
  dsimp only [k0_pay107]
  match c with
  | ⟨0, _⟩ => exact concatenate_apply_piece (0 : Fin S512x256.rank) _ _ _ 1 (by show (1 : ℕ) < 16; decide) S16x256 l0 rfl rfl 48 rfl (ix2 p a) (off_row _ _ _) (by show 48 + p.val = 64 * 0 + (48 + p.val); omega)
  | ⟨1, _⟩ => exact concatenate_apply_piece (0 : Fin S512x256.rank) _ _ _ 3 (by show (3 : ℕ) < 16; decide) S16x256 l1 rfl rfl 112 rfl (ix2 p a) (off_row _ _ _) (by show 112 + p.val = 64 * 1 + (48 + p.val); omega)
  | ⟨2, _⟩ => exact concatenate_apply_piece (0 : Fin S512x256.rank) _ _ _ 5 (by show (5 : ℕ) < 16; decide) S16x256 l2 rfl rfl 176 rfl (ix2 p a) (off_row _ _ _) (by show 176 + p.val = 64 * 2 + (48 + p.val); omega)
  | ⟨3, _⟩ => exact concatenate_apply_piece (0 : Fin S512x256.rank) _ _ _ 7 (by show (7 : ℕ) < 16; decide) S16x256 l3 rfl rfl 240 rfl (ix2 p a) (off_row _ _ _) (by show 240 + p.val = 64 * 3 + (48 + p.val); omega)
  | ⟨4, _⟩ => exact concatenate_apply_piece (0 : Fin S512x256.rank) _ _ _ 9 (by show (9 : ℕ) < 16; decide) S16x256 l4 rfl rfl 304 rfl (ix2 p a) (off_row _ _ _) (by show 304 + p.val = 64 * 4 + (48 + p.val); omega)
  | ⟨5, _⟩ => exact concatenate_apply_piece (0 : Fin S512x256.rank) _ _ _ 11 (by show (11 : ℕ) < 16; decide) S16x256 l5 rfl rfl 368 rfl (ix2 p a) (off_row _ _ _) (by show 368 + p.val = 64 * 5 + (48 + p.val); omega)
  | ⟨6, _⟩ => exact concatenate_apply_piece (0 : Fin S512x256.rank) _ _ _ 13 (by show (13 : ℕ) < 16; decide) S16x256 l6 rfl rfl 432 rfl (ix2 p a) (off_row _ _ _) (by show 432 + p.val = 64 * 6 + (48 + p.val); omega)
  | ⟨7, _⟩ => exact concatenate_apply_piece (0 : Fin S512x256.rank) _ _ _ 15 (by show (15 : ℕ) < 16; decide) S16x256 l7 rfl rfl 496 rfl (ix2 p a) (off_row _ _ _) (by show 496 + p.val = 64 * 7 + (48 + p.val); omega)

set_option maxHeartbeats 3200000 in
theorem gates512 (l0 l1 l2 l3 l4 l5 l6 l7 : FVec Ideal S16x256 .f32) (c : Fin 8) (p : Fin 16) (a : Fin 256) :
    (k0_pay110 l0 l1 l2 l3 l4 l5 l6 l7 : FVec Ideal S512x256 .f32) (ix2 ⟨64 * c.val + (48 + p.val), by omega⟩ a) = (![l0, l1, l2, l3, l4, l5, l6, l7] c) (ix2 p a) := by
  dsimp only [k0_pay110]
  simp only [cast16]
  match c with
  | ⟨0, _⟩ => exact concatenate_apply_piece (0 : Fin S512x256.rank) _ _ _ 1 (by show (1 : ℕ) < 16; decide) S16x256 l0 rfl rfl 48 rfl (ix2 p a) (off_row _ _ _) (by show 48 + p.val = 64 * 0 + (48 + p.val); omega)
  | ⟨1, _⟩ => exact concatenate_apply_piece (0 : Fin S512x256.rank) _ _ _ 3 (by show (3 : ℕ) < 16; decide) S16x256 l1 rfl rfl 112 rfl (ix2 p a) (off_row _ _ _) (by show 112 + p.val = 64 * 1 + (48 + p.val); omega)
  | ⟨2, _⟩ => exact concatenate_apply_piece (0 : Fin S512x256.rank) _ _ _ 5 (by show (5 : ℕ) < 16; decide) S16x256 l2 rfl rfl 176 rfl (ix2 p a) (off_row _ _ _) (by show 176 + p.val = 64 * 2 + (48 + p.val); omega)
  | ⟨3, _⟩ => exact concatenate_apply_piece (0 : Fin S512x256.rank) _ _ _ 7 (by show (7 : ℕ) < 16; decide) S16x256 l3 rfl rfl 240 rfl (ix2 p a) (off_row _ _ _) (by show 240 + p.val = 64 * 3 + (48 + p.val); omega)
  | ⟨4, _⟩ => exact concatenate_apply_piece (0 : Fin S512x256.rank) _ _ _ 9 (by show (9 : ℕ) < 16; decide) S16x256 l4 rfl rfl 304 rfl (ix2 p a) (off_row _ _ _) (by show 304 + p.val = 64 * 4 + (48 + p.val); omega)
  | ⟨5, _⟩ => exact concatenate_apply_piece (0 : Fin S512x256.rank) _ _ _ 11 (by show (11 : ℕ) < 16; decide) S16x256 l5 rfl rfl 368 rfl (ix2 p a) (off_row _ _ _) (by show 368 + p.val = 64 * 5 + (48 + p.val); omega)
  | ⟨6, _⟩ => exact concatenate_apply_piece (0 : Fin S512x256.rank) _ _ _ 13 (by show (13 : ℕ) < 16; decide) S16x256 l6 rfl rfl 432 rfl (ix2 p a) (off_row _ _ _) (by show 432 + p.val = 64 * 6 + (48 + p.val); omega)
  | ⟨7, _⟩ => exact concatenate_apply_piece (0 : Fin S512x256.rank) _ _ _ 15 (by show (15 : ℕ) < 16; decide) S16x256 l7 rfl rfl 496 rfl (ix2 p a) (off_row _ _ _) (by show 496 + p.val = 64 * 7 + (48 + p.val); omega)

set_option maxHeartbeats 3200000 in
theorem values512 (l0 l1 l2 l3 l4 l5 l6 l7 : FVec Ideal S16x512 .f32) (c : Fin 8) (p : Fin 16) (a : Fin 512) :
    (k0_pay109 k0_pay108 l0 l1 l2 l3 l4 l5 l6 l7 : FVec Ideal S512x512 .f32) (ix2 ⟨64 * c.val + (48 + p.val), by omega⟩ a) = (![l0, l1, l2, l3, l4, l5, l6, l7] c) (ix2 p a) := by
  dsimp only [k0_pay109, k0_pay108]
  match c with
  | ⟨0, _⟩ => exact concatenate_apply_piece (0 : Fin S512x512.rank) _ _ _ 1 (by show (1 : ℕ) < 16; decide) S16x512 l0 rfl rfl 48 rfl (ix2 p a) (off_row _ _ _) (by show 48 + p.val = 64 * 0 + (48 + p.val); omega)
  | ⟨1, _⟩ => exact concatenate_apply_piece (0 : Fin S512x512.rank) _ _ _ 3 (by show (3 : ℕ) < 16; decide) S16x512 l1 rfl rfl 112 rfl (ix2 p a) (off_row _ _ _) (by show 112 + p.val = 64 * 1 + (48 + p.val); omega)
  | ⟨2, _⟩ => exact concatenate_apply_piece (0 : Fin S512x512.rank) _ _ _ 5 (by show (5 : ℕ) < 16; decide) S16x512 l2 rfl rfl 176 rfl (ix2 p a) (off_row _ _ _) (by show 176 + p.val = 64 * 2 + (48 + p.val); omega)
  | ⟨3, _⟩ => exact concatenate_apply_piece (0 : Fin S512x512.rank) _ _ _ 7 (by show (7 : ℕ) < 16; decide) S16x512 l3 rfl rfl 240 rfl (ix2 p a) (off_row _ _ _) (by show 240 + p.val = 64 * 3 + (48 + p.val); omega)
  | ⟨4, _⟩ => exact concatenate_apply_piece (0 : Fin S512x512.rank) _ _ _ 9 (by show (9 : ℕ) < 16; decide) S16x512 l4 rfl rfl 304 rfl (ix2 p a) (off_row _ _ _) (by show 304 + p.val = 64 * 4 + (48 + p.val); omega)
  | ⟨5, _⟩ => exact concatenate_apply_piece (0 : Fin S512x512.rank) _ _ _ 11 (by show (11 : ℕ) < 16; decide) S16x512 l5 rfl rfl 368 rfl (ix2 p a) (off_row _ _ _) (by show 368 + p.val = 64 * 5 + (48 + p.val); omega)
  | ⟨6, _⟩ => exact concatenate_apply_piece (0 : Fin S512x512.rank) _ _ _ 13 (by show (13 : ℕ) < 16; decide) S16x512 l6 rfl rfl 432 rfl (ix2 p a) (off_row _ _ _) (by show 432 + p.val = 64 * 6 + (48 + p.val); omega)
  | ⟨7, _⟩ => exact concatenate_apply_piece (0 : Fin S512x512.rank) _ _ _ 15 (by show (15 : ℕ) < 16; decide) S16x512 l7 rfl rfl 496 rfl (ix2 p a) (off_row _ _ _) (by show 496 + p.val = 64 * 7 + (48 + p.val); omega)

set_option maxHeartbeats 3200000 in
theorem keys576 (m : FVec Ideal S64x256 .f32) (l0 l1 l2 l3 l4 l5 l6 l7 : FVec Ideal S16x256 .f32) (c : Fin 8) (p : Fin 16) (a : Fin 256) :
    (k0_pay13 m l0 l1 l2 l3 l4 l5 l6 l7 : FVec Ideal S576x256 .f32) (ix2 ⟨64 * (c.val + 1) + (48 + p.val), by omega⟩ a) = (![l0, l1, l2, l3, l4, l5, l6, l7] c) (ix2 p a) := by
  dsimp only [k0_pay13]
  match c with
  | ⟨0, _⟩ => exact concatenate_apply_piece (0 : Fin S576x256.rank) _ _ _ 2 (by show (2 : ℕ) < 17; decide) S16x256 l0 rfl rfl 112 rfl (ix2 p a) (off_row _ _ _) (by show 112 + p.val = 64 * (0 + 1) + (48 + p.val); omega)
  | ⟨1, _⟩ => exact concatenate_apply_piece (0 : Fin S576x256.rank) _ _ _ 4 (by show (4 : ℕ) < 17; decide) S16x256 l1 rfl rfl 176 rfl (ix2 p a) (off_row _ _ _) (by show 176 + p.val = 64 * (1 + 1) + (48 + p.val); omega)
  | ⟨2, _⟩ => exact concatenate_apply_piece (0 : Fin S576x256.rank) _ _ _ 6 (by show (6 : ℕ) < 17; decide) S16x256 l2 rfl rfl 240 rfl (ix2 p a) (off_row _ _ _) (by show 240 + p.val = 64 * (2 + 1) + (48 + p.val); omega)
  | ⟨3, _⟩ => exact concatenate_apply_piece (0 : Fin S576x256.rank) _ _ _ 8 (by show (8 : ℕ) < 17; decide) S16x256 l3 rfl rfl 304 rfl (ix2 p a) (off_row _ _ _) (by show 304 + p.val = 64 * (3 + 1) + (48 + p.val); omega)
  | ⟨4, _⟩ => exact concatenate_apply_piece (0 : Fin S576x256.rank) _ _ _ 10 (by show (10 : ℕ) < 17; decide) S16x256 l4 rfl rfl 368 rfl (ix2 p a) (off_row _ _ _) (by show 368 + p.val = 64 * (4 + 1) + (48 + p.val); omega)
  | ⟨5, _⟩ => exact concatenate_apply_piece (0 : Fin S576x256.rank) _ _ _ 12 (by show (12 : ℕ) < 17; decide) S16x256 l5 rfl rfl 432 rfl (ix2 p a) (off_row _ _ _) (by show 432 + p.val = 64 * (5 + 1) + (48 + p.val); omega)
  | ⟨6, _⟩ => exact concatenate_apply_piece (0 : Fin S576x256.rank) _ _ _ 14 (by show (14 : ℕ) < 17; decide) S16x256 l6 rfl rfl 496 rfl (ix2 p a) (off_row _ _ _) (by show 496 + p.val = 64 * (6 + 1) + (48 + p.val); omega)
  | ⟨7, _⟩ => exact concatenate_apply_piece (0 : Fin S576x256.rank) _ _ _ 16 (by show (16 : ℕ) < 17; decide) S16x256 l7 rfl rfl 560 rfl (ix2 p a) (off_row _ _ _) (by show 560 + p.val = 64 * (7 + 1) + (48 + p.val); omega)

set_option maxHeartbeats 3200000 in
theorem values576 (m : FVec Ideal S64x512 .f32) (l0 l1 l2 l3 l4 l5 l6 l7 : FVec Ideal S16x512 .f32) (c : Fin 8) (p : Fin 16) (a : Fin 512) :
    (k0_pay14 m l0 l1 l2 l3 l4 l5 l6 l7 : FVec Ideal S576x512 .f32) (ix2 ⟨64 * (c.val + 1) + (48 + p.val), by omega⟩ a) = (![l0, l1, l2, l3, l4, l5, l6, l7] c) (ix2 p a) := by
  dsimp only [k0_pay14]
  match c with
  | ⟨0, _⟩ => exact concatenate_apply_piece (0 : Fin S576x512.rank) _ _ _ 2 (by show (2 : ℕ) < 17; decide) S16x512 l0 rfl rfl 112 rfl (ix2 p a) (off_row _ _ _) (by show 112 + p.val = 64 * (0 + 1) + (48 + p.val); omega)
  | ⟨1, _⟩ => exact concatenate_apply_piece (0 : Fin S576x512.rank) _ _ _ 4 (by show (4 : ℕ) < 17; decide) S16x512 l1 rfl rfl 176 rfl (ix2 p a) (off_row _ _ _) (by show 176 + p.val = 64 * (1 + 1) + (48 + p.val); omega)
  | ⟨2, _⟩ => exact concatenate_apply_piece (0 : Fin S576x512.rank) _ _ _ 6 (by show (6 : ℕ) < 17; decide) S16x512 l2 rfl rfl 240 rfl (ix2 p a) (off_row _ _ _) (by show 240 + p.val = 64 * (2 + 1) + (48 + p.val); omega)
  | ⟨3, _⟩ => exact concatenate_apply_piece (0 : Fin S576x512.rank) _ _ _ 8 (by show (8 : ℕ) < 17; decide) S16x512 l3 rfl rfl 304 rfl (ix2 p a) (off_row _ _ _) (by show 304 + p.val = 64 * (3 + 1) + (48 + p.val); omega)
  | ⟨4, _⟩ => exact concatenate_apply_piece (0 : Fin S576x512.rank) _ _ _ 10 (by show (10 : ℕ) < 17; decide) S16x512 l4 rfl rfl 368 rfl (ix2 p a) (off_row _ _ _) (by show 368 + p.val = 64 * (4 + 1) + (48 + p.val); omega)
  | ⟨5, _⟩ => exact concatenate_apply_piece (0 : Fin S576x512.rank) _ _ _ 12 (by show (12 : ℕ) < 17; decide) S16x512 l5 rfl rfl 432 rfl (ix2 p a) (off_row _ _ _) (by show 432 + p.val = 64 * (5 + 1) + (48 + p.val); omega)
  | ⟨6, _⟩ => exact concatenate_apply_piece (0 : Fin S576x512.rank) _ _ _ 14 (by show (14 : ℕ) < 17; decide) S16x512 l6 rfl rfl 496 rfl (ix2 p a) (off_row _ _ _) (by show 496 + p.val = 64 * (6 + 1) + (48 + p.val); omega)
  | ⟨7, _⟩ => exact concatenate_apply_piece (0 : Fin S576x512.rank) _ _ _ 16 (by show (16 : ℕ) < 17; decide) S16x512 l7 rfl rfl 560 rfl (ix2 p a) (off_row _ _ _) (by show 560 + p.val = 64 * (7 + 1) + (48 + p.val); omega)

/-! ## The rolls and the decayed keys are the block's -/

theorem rolled_second (y : FVec Ideal S512x256 .f32) : k0_pay118 k0_pay115 (k0_pay116 y k0_pay111) k0_pay117 = rolled512 y := rfl

theorem decayed_second (z y : FVec Ideal S512x256 .f32) :
    k0_pay121 (k0_pay113 z k0_pay111) k0_pay115 (k0_pay116 y k0_pay111) k0_pay117 = decayed512 z y := rfl

section
variable (m : FVec Ideal S64x256 .f32) (l0 l1 l2 l3 l4 l5 l6 l7 : FVec Ideal S16x256 .f32)

theorem gates_first : k0_pay25 (k0_pay15 m) k0_pay16 (k0_pay17 l0) (k0_pay18 l1) (k0_pay19 l2) (k0_pay20 l3) (k0_pay21 l4) (k0_pay22 l5) l6 l7
    = masked576 (k0_pay13 m l0 l1 l2 l3 l4 l5 l6 l7) := by
  rw [cast64, show k0_pay17 l0 = l0 from cast16 l0, show k0_pay18 l1 = l1 from cast16 l1, show k0_pay19 l2 = l2 from cast16 l2,
    show k0_pay20 l3 = l3 from cast16 l3, show k0_pay21 l4 = l4 from cast16 l4, show k0_pay22 l5 = l5 from cast16 l5]
  show masked576 (k0_pay13 m l0 l1 l2 l3 l4 l5 (shapeCast S16x256 l6 shapeCasts_S16x256_S16x256)
    (shapeCast S16x256 l7 shapeCasts_S16x256_S16x256)) = _
  rw [cast16, cast16]

theorem rolled_first :
    k0_pay31 k0_pay26 (k0_pay27 (k0_pay15 m) k0_pay16 (k0_pay17 l0) (k0_pay18 l1) (k0_pay19 l2) (k0_pay20 l3) (k0_pay21 l4) (k0_pay22 l5) l6 l7)
      k0_pay28 (k0_pay29 (k0_pay15 m) k0_pay16 (k0_pay17 l0) (k0_pay18 l1) (k0_pay19 l2) (k0_pay20 l3) (k0_pay21 l4) (k0_pay22 l5) l6 l7) k0_pay30
    = rolled576 (k0_pay13 m l0 l1 l2 l3 l4 l5 l6 l7) := by
  unfold rolled576
  rw [← gates_first]
  rfl

theorem decayed_first (z : FVec Ideal S576x256 .f32) :
    k0_pay34 (k0_pay24 z) k0_pay26 (k0_pay27 (k0_pay15 m) k0_pay16 (k0_pay17 l0) (k0_pay18 l1) (k0_pay19 l2) (k0_pay20 l3) (k0_pay21 l4) (k0_pay22 l5) l6 l7)
      k0_pay28 (k0_pay29 (k0_pay15 m) k0_pay16 (k0_pay17 l0) (k0_pay18 l1) (k0_pay19 l2) (k0_pay20 l3) (k0_pay21 l4) (k0_pay22 l5) l6 l7) k0_pay30
    = decayed576 z (k0_pay13 m l0 l1 l2 l3 l4 l5 l6 l7) := by
  unfold decayed576
  rw [← rolled_first]
  rfl
end

/-! ## The stored states -/

theorem first_0 (b : FVec Ideal S576x256 .f32) (kd : FVec Ideal S576x256 .bf16) (v : FVec Ideal S576x512 .bf16) (st : FVec Ideal S1x1x256x512 .f32) (a : Fin 256) (d : Fin 512) :
    k0_pay62 b kd v (k0_pay57 st) (ix4 0 0 a d) = Ideal.exp (b (ix2 ⟨64 * 1 + 63, by omega⟩ a)) * st (ix4 0 0 a d)
      + ∑ j : Fin 64, kd (ix2 ⟨64 * 1 + j.val, by omega⟩ a) * v (ix2 ⟨64 * 1 + j.val, by omega⟩ d) := by
  pointwise [k0_pay62, k0_pay61, k0_pay57]
  refine congrArg₂ _ (congrArg (· * _) ?_) rfl
  split_ifs <;> rfl

theorem first_1 (b : FVec Ideal S576x256 .f32) (kd : FVec Ideal S576x256 .bf16) (v : FVec Ideal S576x512 .bf16) (st : FVec Ideal S1x1x256x512 .f32) (a : Fin 256) (d : Fin 512) :
    k0_pay68 (k0_pay67 b kd v st) (ix4 0 0 a d) = Ideal.exp (b (ix2 ⟨64 * 2 + 63, by omega⟩ a)) * st (ix4 0 0 a d)
      + ∑ j : Fin 64, kd (ix2 ⟨64 * 2 + j.val, by omega⟩ a) * v (ix2 ⟨64 * 2 + j.val, by omega⟩ d) := by
  pointwise [k0_pay68, k0_pay67, k0_pay65, k0_pay64]
  refine congrArg₂ _ (congrArg (· * _) ?_) rfl
  split_ifs <;> rfl

theorem first_2 (b : FVec Ideal S576x256 .f32) (kd : FVec Ideal S576x256 .bf16) (v : FVec Ideal S576x512 .bf16) (st : FVec Ideal S1x1x256x512 .f32) (a : Fin 256) (d : Fin 512) :
    k0_pay73 b kd (k0_pay70 st) (k0_pay71 v) (ix4 0 0 a d) = Ideal.exp (b (ix2 ⟨64 * 3 + 63, by omega⟩ a)) * st (ix4 0 0 a d)
      + ∑ j : Fin 64, kd (ix2 ⟨64 * 3 + j.val, by omega⟩ a) * v (ix2 ⟨64 * 3 + j.val, by omega⟩ d) := by
  pointwise [k0_pay73, k0_pay70, k0_pay71]
  refine congrArg₂ _ (congrArg (· * _) ?_) rfl
  split_ifs <;> rfl

theorem first_3 (b : FVec Ideal S576x256 .f32) (kd : FVec Ideal S576x256 .bf16) (v : FVec Ideal S576x512 .bf16) (st : FVec Ideal S1x1x256x512 .f32) (a : Fin 256) (d : Fin 512) :
    k0_pay80 b kd v (k0_pay75 st) (ix4 0 0 a d) = Ideal.exp (b (ix2 ⟨64 * 4 + 63, by omega⟩ a)) * st (ix4 0 0 a d)
      + ∑ j : Fin 64, kd (ix2 ⟨64 * 4 + j.val, by omega⟩ a) * v (ix2 ⟨64 * 4 + j.val, by omega⟩ d) := by
  pointwise [k0_pay80, k0_pay75, k0_pay79]
  refine congrArg₂ _ (congrArg (· * _) ?_) rfl
  split_ifs <;> rfl

theorem first_4 (b : FVec Ideal S576x256 .f32) (kd : FVec Ideal S576x256 .bf16) (v : FVec Ideal S576x512 .bf16) (st : FVec Ideal S1x1x256x512 .f32) (a : Fin 256) (d : Fin 512) :
    k0_pay85 b kd v (k0_pay82 st) (ix4 0 0 a d) = Ideal.exp (b (ix2 ⟨64 * 5 + 63, by omega⟩ a)) * st (ix4 0 0 a d)
      + ∑ j : Fin 64, kd (ix2 ⟨64 * 5 + j.val, by omega⟩ a) * v (ix2 ⟨64 * 5 + j.val, by omega⟩ d) := by
  pointwise [k0_pay85, k0_pay82, k0_pay84]
  refine congrArg₂ _ (congrArg (· * _) ?_) rfl
  split_ifs <;> rfl

theorem first_5 (b : FVec Ideal S576x256 .f32) (kd : FVec Ideal S576x256 .bf16) (v : FVec Ideal S576x512 .bf16) (st : FVec Ideal S1x1x256x512 .f32) (a : Fin 256) (d : Fin 512) :
    k0_pay92 b kd v (k0_pay87 st) (ix4 0 0 a d) = Ideal.exp (b (ix2 ⟨64 * 6 + 63, by omega⟩ a)) * st (ix4 0 0 a d)
      + ∑ j : Fin 64, kd (ix2 ⟨64 * 6 + j.val, by omega⟩ a) * v (ix2 ⟨64 * 6 + j.val, by omega⟩ d) := by
  pointwise [k0_pay92, k0_pay87, k0_pay91]
  refine congrArg₂ _ (congrArg (· * _) ?_) rfl
  split_ifs <;> rfl

theorem first_6 (b : FVec Ideal S576x256 .f32) (kd : FVec Ideal S576x256 .bf16) (v : FVec Ideal S576x512 .bf16) (st : FVec Ideal S1x1x256x512 .f32) (a : Fin 256) (d : Fin 512) :
    k0_pay98 (k0_pay97 b kd v st) (ix4 0 0 a d) = Ideal.exp (b (ix2 ⟨64 * 7 + 63, by omega⟩ a)) * st (ix4 0 0 a d)
      + ∑ j : Fin 64, kd (ix2 ⟨64 * 7 + j.val, by omega⟩ a) * v (ix2 ⟨64 * 7 + j.val, by omega⟩ d) := by
  pointwise [k0_pay98, k0_pay97, k0_pay95, k0_pay94]
  refine congrArg₂ _ (congrArg (· * _) ?_) rfl
  split_ifs <;> rfl

theorem first_7 (b : FVec Ideal S576x256 .f32) (kd : FVec Ideal S576x256 .bf16) (v : FVec Ideal S576x512 .bf16) (st : FVec Ideal S1x1x256x512 .f32) (a : Fin 256) (d : Fin 512) :
    k0_pay103 b kd (k0_pay100 st) (k0_pay101 v) (ix4 0 0 a d) = Ideal.exp (b (ix2 ⟨64 * 8 + 63, by omega⟩ a)) * st (ix4 0 0 a d)
      + ∑ j : Fin 64, kd (ix2 ⟨64 * 8 + j.val, by omega⟩ a) * v (ix2 ⟨64 * 8 + j.val, by omega⟩ d) := by
  pointwise [k0_pay103, k0_pay100, k0_pay101]
  refine congrArg₂ _ (congrArg (· * _) ?_) rfl
  split_ifs <;> rfl

theorem second_0 (b : FVec Ideal S512x256 .f32) (kd : FVec Ideal S512x256 .bf16) (v : FVec Ideal S512x512 .bf16) (st : FVec Ideal S1x1x256x512 .f32) (a : Fin 256) (d : Fin 512) :
    k0_pay142 b kd v (k0_pay139 st) (ix4 0 0 a d) = Ideal.exp (b (ix2 ⟨64 * 0 + 63, by omega⟩ a)) * st (ix4 0 0 a d)
      + ∑ j : Fin 64, kd (ix2 ⟨64 * 0 + j.val, by omega⟩ a) * v (ix2 ⟨64 * 0 + j.val, by omega⟩ d) := by
  pointwise [k0_pay142, k0_pay139, k0_pay141]
  refine congrArg₂ _ (congrArg (· * _) ?_) rfl
  split_ifs <;> rfl

theorem second_1 (b : FVec Ideal S512x256 .f32) (kd : FVec Ideal S512x256 .bf16) (v : FVec Ideal S512x512 .bf16) (st : FVec Ideal S1x1x256x512 .f32) (a : Fin 256) (d : Fin 512) :
    k0_pay149 b kd v (k0_pay144 st) (ix4 0 0 a d) = Ideal.exp (b (ix2 ⟨64 * 1 + 63, by omega⟩ a)) * st (ix4 0 0 a d)
      + ∑ j : Fin 64, kd (ix2 ⟨64 * 1 + j.val, by omega⟩ a) * v (ix2 ⟨64 * 1 + j.val, by omega⟩ d) := by
  pointwise [k0_pay149, k0_pay144, k0_pay148]
  refine congrArg₂ _ (congrArg (· * _) ?_) rfl
  split_ifs <;> rfl

theorem second_2 (b : FVec Ideal S512x256 .f32) (kd : FVec Ideal S512x256 .bf16) (v : FVec Ideal S512x512 .bf16) (st : FVec Ideal S1x1x256x512 .f32) (a : Fin 256) (d : Fin 512) :
    k0_pay155 b kd v (k0_pay151 st) (ix4 0 0 a d) = Ideal.exp (b (ix2 ⟨64 * 2 + 63, by omega⟩ a)) * st (ix4 0 0 a d)
      + ∑ j : Fin 64, kd (ix2 ⟨64 * 2 + j.val, by omega⟩ a) * v (ix2 ⟨64 * 2 + j.val, by omega⟩ d) := by
  pointwise [k0_pay155, k0_pay151, k0_pay154]
  refine congrArg₂ _ (congrArg (· * _) ?_) rfl
  split_ifs <;> rfl

theorem second_3 (b : FVec Ideal S512x256 .f32) (kd : FVec Ideal S512x256 .bf16) (v : FVec Ideal S512x512 .bf16) (st : FVec Ideal S1x1x256x512 .f32) (a : Fin 256) (d : Fin 512) :
    k0_pay162 (k0_pay160 kd v) (k0_pay161 b st) (ix4 0 0 a d) = Ideal.exp (b (ix2 ⟨64 * 3 + 63, by omega⟩ a)) * st (ix4 0 0 a d)
      + ∑ j : Fin 64, kd (ix2 ⟨64 * 3 + j.val, by omega⟩ a) * v (ix2 ⟨64 * 3 + j.val, by omega⟩ d) := by
  pointwise [k0_pay162, k0_pay160, k0_pay161, k0_pay158, k0_pay157]
  refine congrArg₂ _ (congrArg (· * _) ?_) rfl
  split_ifs <;> rfl

theorem second_4 (b : FVec Ideal S512x256 .f32) (kd : FVec Ideal S512x256 .bf16) (v : FVec Ideal S512x512 .bf16) (st : FVec Ideal S1x1x256x512 .f32) (a : Fin 256) (d : Fin 512) :
    k0_pay169 b kd (k0_pay164 st) (k0_pay165 v) (ix4 0 0 a d) = Ideal.exp (b (ix2 ⟨64 * 4 + 63, by omega⟩ a)) * st (ix4 0 0 a d)
      + ∑ j : Fin 64, kd (ix2 ⟨64 * 4 + j.val, by omega⟩ a) * v (ix2 ⟨64 * 4 + j.val, by omega⟩ d) := by
  pointwise [k0_pay169, k0_pay164, k0_pay165]
  refine congrArg₂ _ (congrArg (· * _) ?_) rfl
  split_ifs <;> rfl

theorem second_5 (b : FVec Ideal S512x256 .f32) (kd : FVec Ideal S512x256 .bf16) (v : FVec Ideal S512x512 .bf16) (st : FVec Ideal S1x1x256x512 .f32) (a : Fin 256) (d : Fin 512) :
    k0_pay174 b kd v (k0_pay171 st) (ix4 0 0 a d) = Ideal.exp (b (ix2 ⟨64 * 5 + 63, by omega⟩ a)) * st (ix4 0 0 a d)
      + ∑ j : Fin 64, kd (ix2 ⟨64 * 5 + j.val, by omega⟩ a) * v (ix2 ⟨64 * 5 + j.val, by omega⟩ d) := by
  pointwise [k0_pay174, k0_pay171, k0_pay173]
  refine congrArg₂ _ (congrArg (· * _) ?_) rfl
  split_ifs <;> rfl

theorem second_6 (b : FVec Ideal S512x256 .f32) (kd : FVec Ideal S512x256 .bf16) (v : FVec Ideal S512x512 .bf16) (st : FVec Ideal S1x1x256x512 .f32) (a : Fin 256) (d : Fin 512) :
    k0_pay181 b kd v (k0_pay176 st) (ix4 0 0 a d) = Ideal.exp (b (ix2 ⟨64 * 6 + 63, by omega⟩ a)) * st (ix4 0 0 a d)
      + ∑ j : Fin 64, kd (ix2 ⟨64 * 6 + j.val, by omega⟩ a) * v (ix2 ⟨64 * 6 + j.val, by omega⟩ d) := by
  pointwise [k0_pay181, k0_pay176, k0_pay180]
  refine congrArg₂ _ (congrArg (· * _) ?_) rfl
  split_ifs <;> rfl

theorem second_7 (b : FVec Ideal S512x256 .f32) (kd : FVec Ideal S512x256 .bf16) (v : FVec Ideal S512x512 .bf16) (st : FVec Ideal S1x1x256x512 .f32) (a : Fin 256) (d : Fin 512) :
    k0_pay187 b kd v (k0_pay183 st) (ix4 0 0 a d) = Ideal.exp (b (ix2 ⟨64 * 7 + 63, by omega⟩ a)) * st (ix4 0 0 a d)
      + ∑ j : Fin 64, kd (ix2 ⟨64 * 7 + j.val, by omega⟩ a) * v (ix2 ⟨64 * 7 + j.val, by omega⟩ d) := by
  pointwise [k0_pay187, k0_pay183, k0_pay186]
  refine congrArg₂ _ (congrArg (· * _) ?_) rfl
  split_ifs <;> rfl

end State

end
-- ==== Proof.StateFirst.lean ====
/-
  The body of the call that continues the short sequences, at the first half of the streams: what the run of its operations
  leaves.
-/
module

public import proofs.«01_k».proof.Proof.Gen.StateIdeal.Frame
public import proofs.«01_k».proof.Proof.Gen.StateIdeal.Skeleton
public import Idealize.ShloMosaic.Lib.Claim

@[expose] public section

set_option maxRecDepth 16384

noncomputable section

namespace State.Exact

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.StateIdeal Cert.StateIdeal.Gen

/-- The logic's resources for this program. -/
abbrev Res (F : FTy → Type) [FloatOps F] := MT nD τ sig Unit (Elt F) ℕ (UR sig nD τ) ℕ

variable {F : FTy → Type} [FloatOps F]

set_option maxHeartbeats 4000000 in
set_option maxRecDepth 65536 in
/-- The body at the first half of the streams (`half = 0`): the head's projections are computed first.  What it
    leaves of the streams' states and of the projections is found by the run; the other buffers it writes are handed back at anything. -/
noncomputable def runFirst (c : Dev nD) (i : grid0.Coords) (arg2 : Memref sig .tc .vmem S512x2048 .bf16) (harg2 : arg2.IsWhole) (arg3 : Memref sig .tc .vmem S1x256x2048 .f32) (harg3 : arg3.IsWhole) (arg4 : Memref sig .tc .vmem S1x256x2048 .f32) (harg4 : arg4.IsWhole) (arg5 : Memref sig .tc .vmem S1x512x2048 .f32) (harg5 : arg5.IsWhole) (arg6 : Memref sig .tc .vmem S1x512x2048 .f32) (harg6 : arg6.IsWhole) (arg7 : Memref sig .tc .vmem S512x256 .f32) (harg7 : arg7.IsWhole) (arg8 : Memref sig .tc .vmem S1x512 .f32) (harg8 : arg8.IsWhole) (arg9 : Memref sig .tc .vmem S8x1x256x512 .f32) (harg9 : arg9.IsWhole) (arg10 : Memref sig .tc .vmem S512x512 .f32) (harg10 : arg10.IsWhole) (arg11 : Memref sig .tc .vmem S1x256x512 .f32) (harg11 : arg11.IsWhole) (arg12 : Memref sig .tc .vmem S8x1x256x512 .f32) (harg12 : arg12.IsWhole) (arg13 : Memref sig .tc .vmem S1536x2048 .bf16) (harg13 : arg13.IsWhole) (arg14 : Memref sig .tc .vmem S512x1536 .f32) (harg14 : arg14.IsWhole) (h1 : Scalar.cmpi .ne (Scalar.extui (Scalar.cmpi .eq (BitVec.ofNat 32 (i 1).val) 0#32)) 0#32 = 1#1) (h2 : k0_cond2 i = 1#1) (h3 : ¬k0_cond3 i = 1#1)
    (x0 : Vec F S512x2048 .bf16) (x1 : Vec F S1x256x2048 .f32) (x2 : Vec F S1x256x2048 .f32) (x3 : Vec F S1x512x2048 .f32) (x4 : Vec F S1x512x2048 .f32) (x5 : Vec F S512x256 .f32) (x6 : Vec F S1x512 .f32) (x7 : Vec F S8x1x256x512 .f32) :
    Σ' (L : List (View.Piece (Elt F) S8x1x256x512 .f32)), { U : List (View.Piece (Elt F) S512x1536 .f32) //
      ∀ (E : Set ℕ) (K : PUnit → sProp (Res F)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} f) ∗ (∃ f, arg11.view.loc (c : Thread nD τ) ↦[arg11.view.set]{fullShare} f) ∗ (∃ f, arg12.view.loc (c : Thread nD τ) ↦[arg12.view.set]{fullShare} arg12.view.writes (Elt F) f L) ∗ (∃ f, arg13.view.loc (c : Thread nD τ) ↦[arg13.view.set]{fullShare} f) ∗ (∃ f, arg14.view.loc (c : Thread nD τ) ↦[arg14.view.set]{fullShare} arg14.view.writes (Elt F) f U)) -∗ K ⟨⟩))
          ⊢ wp frame (wpE (defs₀ (F := F)) Variants.none c none) E (cc0_gla_tail i arg2 harg2 arg3 harg3 arg4 harg4 arg5 harg5 arg6 harg6 arg7 harg7 arg8 harg8 arg9 harg9 arg10 harg10 arg11 harg11 arg12 harg12 arg13 harg13 arg14 harg14) K } := by
  refine ⟨?_, ?_, fun E K => ?run⟩
  case run =>
    simp only [cc0_gla_tail_eq_skeleton]; unfold cc0_gla_tail_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | sl_exact h1 | sl_exact h2 | sl_exact h3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    isplitl [H10]; · iexists _; iexact H10
    isplitl [H11]; · iexists _; iexact H11
    iexists _; iexact H12

end State.Exact

end
-- ==== Proof.StateSecond.lean ====
/-
  The body of the call that continues the short sequences, at the second half of the streams: what the run of its operations
  leaves.
-/
module

public import proofs.«01_k».proof.Proof.Gen.StateIdeal.Frame
public import proofs.«01_k».proof.Proof.Gen.StateIdeal.Skeleton
public import proofs.«01_k».proof.Proof.StateFirst
public import Idealize.ShloMosaic.Lib.Claim

@[expose] public section

set_option maxRecDepth 16384

noncomputable section

namespace State.Exact

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.StateIdeal Cert.StateIdeal.Gen

variable {F : FTy → Type} [FloatOps F]

set_option maxHeartbeats 4000000 in
set_option maxRecDepth 65536 in
/-- The body at the second half of the streams (`half = 1`): the head's projections are the ones the first half left.  What it
    leaves of the streams' states is found by the run; the other buffers it writes are handed back at anything. -/
noncomputable def runSecond (c : Dev nD) (i : grid0.Coords) (arg2 : Memref sig .tc .vmem S512x2048 .bf16) (harg2 : arg2.IsWhole) (arg3 : Memref sig .tc .vmem S1x256x2048 .f32) (harg3 : arg3.IsWhole) (arg4 : Memref sig .tc .vmem S1x256x2048 .f32) (harg4 : arg4.IsWhole) (arg5 : Memref sig .tc .vmem S1x512x2048 .f32) (harg5 : arg5.IsWhole) (arg6 : Memref sig .tc .vmem S1x512x2048 .f32) (harg6 : arg6.IsWhole) (arg7 : Memref sig .tc .vmem S512x256 .f32) (harg7 : arg7.IsWhole) (arg8 : Memref sig .tc .vmem S1x512 .f32) (harg8 : arg8.IsWhole) (arg9 : Memref sig .tc .vmem S8x1x256x512 .f32) (harg9 : arg9.IsWhole) (arg10 : Memref sig .tc .vmem S512x512 .f32) (harg10 : arg10.IsWhole) (arg11 : Memref sig .tc .vmem S1x256x512 .f32) (harg11 : arg11.IsWhole) (arg12 : Memref sig .tc .vmem S8x1x256x512 .f32) (harg12 : arg12.IsWhole) (arg13 : Memref sig .tc .vmem S1536x2048 .bf16) (harg13 : arg13.IsWhole) (arg14 : Memref sig .tc .vmem S512x1536 .f32) (harg14 : arg14.IsWhole) (h1 : ¬Scalar.cmpi .ne (Scalar.extui (Scalar.cmpi .eq (BitVec.ofNat 32 (i 1).val) 0#32)) 0#32 = 1#1) (h2 : ¬k0_cond2 i = 1#1) (h3 : k0_cond3 i = 1#1)
    (x0 : Vec F S512x2048 .bf16) (x1 : Vec F S1x256x2048 .f32) (x2 : Vec F S1x256x2048 .f32) (x3 : Vec F S1x512x2048 .f32) (x4 : Vec F S1x512x2048 .f32) (x5 : Vec F S512x256 .f32) (x6 : Vec F S1x512 .f32) (x7 : Vec F S8x1x256x512 .f32) (u : Vec F S512x1536 .f32) :
    { L : List (View.Piece (Elt F) S8x1x256x512 .f32) //
      ∀ (E : Set ℕ) (K : PUnit → sProp (Res F)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare u
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} f) ∗ (∃ f, arg11.view.loc (c : Thread nD τ) ↦[arg11.view.set]{fullShare} f) ∗ (∃ f, arg12.view.loc (c : Thread nD τ) ↦[arg12.view.set]{fullShare} arg12.view.writes (Elt F) f L) ∗ (∃ f, arg13.view.loc (c : Thread nD τ) ↦[arg13.view.set]{fullShare} f) ∗ owns (c : Thread nD τ) arg14 fullShare u) -∗ K ⟨⟩))
          ⊢ wp frame (wpE (defs₀ (F := F)) Variants.none c none) E (cc0_gla_tail i arg2 harg2 arg3 harg3 arg4 harg4 arg5 harg5 arg6 harg6 arg7 harg7 arg8 harg8 arg9 harg9 arg10 harg10 arg11 harg11 arg12 harg12 arg13 harg13 arg14 harg14) K } := by
  refine ⟨?_, fun E K => ?run⟩
  case run =>
    simp only [cc0_gla_tail_eq_skeleton]; unfold cc0_gla_tail_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%f12, %hf12, H12⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg14.eq_unread hf12
    sl_exec (disch := first | sl_exact h1 | sl_exact h2 | sl_exact h3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    isplitl [H10]; · iexists _; iexact H10
    isplitl [H11]; · iexists _; iexact H11
    iexists _; isplitr; · ipureintro; exact harg14.read_unread _
    iexact H12

end State.Exact

end
-- ==== Proof.StateIdealRun.lean ====
/-
  The call that continues the short sequences, over any floats: what its body leaves at a grid point, and the
  run of the whole call.  A head has two points; the first computes the head's projections, which the second reads
  again, and each point continues the states of half the streams.  Of the call's three results only the
  streams' states are followed.
-/
module

public import proofs.«01_k».proof.Proof.Gen.StateIdeal.Frame
public import proofs.«01_k».proof.Proof.Gen.StateIdeal.Skeleton
public import proofs.«01_k».proof.Proof.StateFirst
public import proofs.«01_k».proof.Proof.StateSecond
public import Idealize.ShloMosaic.Lib.Claim

@[expose] public section

set_option maxRecDepth 16384

noncomputable section

namespace State.Exact

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.StateIdeal Cert.StateIdeal.Gen

variable {F : FTy → Type} [FloatOps F]

variable (m : (ℓ : Loc nD τ sig) → Buf (Elt F) ℓ) (ρ : Dev nD → PrngReg)

/-! ## The two scratch buffers -/

/-- The scratch with the head's weights and the one with its projections. -/
abbrev scratchBf : Memref sig .tc .vmem S1536x2048 .bf16 := Memref.whole cc0_scratch0
abbrev scratchU : Memref sig .tc .vmem S512x1536 .f32 := Memref.whole cc0_scratch1

theorem whole_bf : scratchBf.IsWhole := Memref.isWhole_whole cc0_scratch0
theorem whole_u : scratchU.IsWhole := Memref.isWhole_whole cc0_scratch1

/-- What the region starts from, with the scratch buffers as operands. -/
theorem scratch_eq (c : Dev nD) : (Pipeline.ΦA spec0 c : sProp (Res F))
    = iprop(iprop((∃ d, owns (c : Thread nD τ) scratchBf fullShare d) ∗ (∃ d, owns (c : Thread nD τ) scratchU fullShare d)) ∗ (∃ r, prngReg c r)) := by
  unfold Pipeline.ΦA; rw [scopedRest0_eq]; simp only [scratchBf, scratchU, owns_whole]; try rfl

/-! ## Which half a point runs -/

theorem start_iff : ∀ t : Fin cfg0.N, Scalar.cmpi .ne (Scalar.extui (Scalar.cmpi .eq (BitVec.ofNat 32 ((grid0.coords t) 1).val) 0#32)) 0#32 = 1#1 ↔ t.val % 2 = 0 :=
  (by decide +kernel : ∀ t : Fin grid0.N, Scalar.cmpi .ne (Scalar.extui (Scalar.cmpi .eq (BitVec.ofNat 32 ((grid0.coords t) 1).val) 0#32)) 0#32 = 1#1 ↔ t.val % 2 = 0)
theorem first_iff : ∀ t : Fin cfg0.N, k0_cond2 (grid0.coords t) = 1#1 ↔ t.val % 2 = 0 :=
  (by decide +kernel : ∀ t : Fin grid0.N, k0_cond2 (grid0.coords t) = 1#1 ↔ t.val % 2 = 0)
theorem second_iff : ∀ t : Fin cfg0.N, k0_cond3 (grid0.coords t) = 1#1 ↔ t.val % 2 = 1 :=
  (by decide +kernel : ∀ t : Fin grid0.N, k0_cond3 (grid0.coords t) = 1#1 ↔ t.val % 2 = 1)

/-! ## The contents point by point -/

/-- A head's projections, as the first half of its points leaves them. -/
def projAt (c : Dev nD) (t : Fin cfg0.N) (h : t.val % 2 = 0) : Vec F S512x1536 .f32 :=
  View.canon (runFirst c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) scratchBf (whole_bf) scratchU (whole_u) ((start_iff t).mpr h) ((first_iff t).mpr h) (fun h' => absurd ((second_iff t).mp h') (by omega)) (iblk m c 0 t) (X0_1 m c t) (X0_2 m c t) (X0_3 m c t) (X0_4 m c t) (iblk m c 5 t) (iblk m c 6 t) (iblk m c 7 t)).2.1

/-- The states the first half of the streams leaves, -/
def statesFirst (c : Dev nD) (t : Fin cfg0.N) (h : t.val % 2 = 0) : Vec F S8x1x256x512 .f32 :=
  View.canon (runFirst c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) scratchBf (whole_bf) scratchU (whole_u) ((start_iff t).mpr h) ((first_iff t).mpr h) (fun h' => absurd ((second_iff t).mp h') (by omega)) (iblk m c 0 t) (X0_1 m c t) (X0_2 m c t) (X0_3 m c t) (X0_4 m c t) (iblk m c 5 t) (iblk m c 6 t) (iblk m c 7 t)).1

/-- and the second half, over the projections `u`. -/
def statesSecond (c : Dev nD) (t : Fin cfg0.N) (h : ¬t.val % 2 = 0) (u : Vec F S512x1536 .f32) : Vec F S8x1x256x512 .f32 :=
  View.canon (runSecond c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) scratchBf (whole_bf) scratchU (whole_u) (fun h' => h ((start_iff t).mp h')) (fun h' => h ((first_iff t).mp h')) ((second_iff t).mpr (by omega)) (iblk m c 0 t) (X0_1 m c t) (X0_2 m c t) (X0_3 m c t) (X0_4 m c t) (iblk m c 5 t) (iblk m c 6 t) (iblk m c 7 t) u).1

/-- The point before. -/
abbrev prev (t : Fin cfg0.N) : Fin cfg0.N := ⟨t.val - 1, Nat.lt_of_le_of_lt (Nat.sub_le _ _) t.isLt⟩

/-- The states a point leaves. -/
def statesAt (c : Dev nD) (t : Fin cfg0.N) : Vec F S8x1x256x512 .f32 :=
  if h : t.val % 2 = 0 then statesFirst m c t h else statesSecond m c t h (projAt m c (prev t) (by dsimp only; omega))

/-- What the scratch buffers hold between two points: the projections after a first half, nothing in particular after a second. -/
def between (c : Dev nD) (n : ℕ) (hn : n ≤ cfg0.N) : sProp (Res F) :=
  if h : n % 2 = 1 then iprop(iprop((∃ d, owns (c : Thread nD τ) scratchBf fullShare d) ∗ owns (c : Thread nD τ) scratchU fullShare (projAt m c ⟨n - 1, by omega⟩ (by dsimp only; omega))) ∗ (∃ r, prngReg c r))
  else Pipeline.ΦA spec0 c

/-- What the windows' buffers hold after each point: an input's its block, the states' the states of the point's streams. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => X0_1 m c t
    | ⟨2, _⟩ => X0_2 m c t
    | ⟨3, _⟩ => X0_3 m c t
    | ⟨4, _⟩ => X0_4 m c t
    | ⟨5, _⟩ => iblk m c 5 t
    | ⟨6, _⟩ => iblk m c 6 t
    | ⟨7, _⟩ => iblk m c 7 t
    | ⟨8, _⟩ => fun _ => Classical.choice inferInstance
    | ⟨9, _⟩ => fun _ => Classical.choice inferInstance
    | ⟨10, _⟩ => statesAt m c t
  Φ t := between m c t.val (Nat.le_of_lt_succ t.isLt)
  q w := Pipeline.shareOf spec0 w
  owed _ := 0

/-- The two results that nothing is said of: the attention's outputs and the meta tokens' states. -/
def untold : Fin cfg0.W → Bool
  | ⟨8, _⟩ => true
  | ⟨9, _⟩ => true
  | _ => false

theorem entry_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = X0_1 m c t := by dsimp only [dats]
theorem after_2 (c : Dev nD) (t : Fin cfg0.N) : (dats m 0 c).after 2 t = X0_2 m c t := by dsimp only [dats]
theorem after_3 (c : Dev nD) (t : Fin cfg0.N) : (dats m 0 c).after 3 t = X0_3 m c t := by dsimp only [dats]
theorem after_4 (c : Dev nD) (t : Fin cfg0.N) : (dats m 0 c).after 4 t = X0_4 m c t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_10 (c : Dev nD) (t : Fin cfg0.N) : (dats m 0 c).after 10 t = statesAt m c t := by dsimp only [dats]
theorem before_0 (c : Dev nD) (t : Fin cfg0.N) (d) : (dats m 0 c).before 0 t d = iblk m c 0 t :=
  before0_0_of m (dats m 0 c) (entry_eq m c 0) (after_0 m c) t d
theorem before_1 (c : Dev nD) (t : Fin cfg0.N) (d) : (dats m 0 c).before 1 t d = X0_1 m c t :=
  before0_1_of m (dats m 0 c) (entry_eq m c 1) (after_1 m c) t d
theorem before_2 (c : Dev nD) (t : Fin cfg0.N) (d) : (dats m 0 c).before 2 t d = X0_2 m c t :=
  before0_2_of m (dats m 0 c) (entry_eq m c 2) (after_2 m c) t d
theorem before_3 (c : Dev nD) (t : Fin cfg0.N) (d) : (dats m 0 c).before 3 t d = X0_3 m c t :=
  before0_3_of m (dats m 0 c) (entry_eq m c 3) (after_3 m c) t d
theorem before_4 (c : Dev nD) (t : Fin cfg0.N) (d) : (dats m 0 c).before 4 t d = X0_4 m c t :=
  before0_4_of m (dats m 0 c) (entry_eq m c 4) (after_4 m c) t d
theorem before_5 (c : Dev nD) (t : Fin cfg0.N) (d) : (dats m 0 c).before 5 t d = iblk m c 5 t :=
  before0_5_of m (dats m 0 c) (entry_eq m c 5) (after_5 m c) t d
theorem before_6 (c : Dev nD) (t : Fin cfg0.N) (d) : (dats m 0 c).before 6 t d = iblk m c 6 t :=
  before0_6_of m (dats m 0 c) (entry_eq m c 6) (after_6 m c) t d
theorem before_7 (c : Dev nD) (t : Fin cfg0.N) (d) : (dats m 0 c).before 7 t d = iblk m c 7 t :=
  before0_7_of m (dats m 0 c) (entry_eq m c 7) (after_7 m c) t d

/-! ## The body's obligation -/

/-- What the body starts from. -/
def bodyPre (c : Dev nD) (t : Fin cfg0.N) : sProp (Res F) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ X, owns (c : Thread nD τ) (st0_8 t) fullShare X)
    ∗ (∃ X, owns (c : Thread nD τ) (st0_9 t) fullShare X)
    ∗ (∃ d, owns (c : Thread nD τ) (st0_10 t) fullShare ((dats m 0 c).before 10 t d)))

/-- What it must leave. -/
def bodyPost (c : Dev nD) (t : Fin cfg0.N) : sProp (Res F) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ (∃ X, owns (c : Thread nD τ) (st0_8 t) fullShare X)
    ∗ (∃ X, owns (c : Thread nD τ) (st0_9 t) fullShare X)
    ∗ owns (c : Thread nD τ) (st0_10 t) fullShare ((dats m 0 c).after 10 t))

/-- A buffer held whole at some contents is an operand at some contents. -/
theorem held {s : Shape} {e : EltTy} (c : Dev nD) (a : Memref sig .tc .vmem s e) :
    iprop(∃ f, a.view.loc (c : Thread nD τ) ↦[a.view.set]{fullShare} f) ⊢ (iprop(∃ X, owns (c : Thread nD τ) a fullShare X) : sProp (Res F)) := by
  iintro ⟨%f, H⟩
  unfold owns
  iexists (a.view.read (Elt F) f), f
  isplitr
  · ipureintro; rfl
  iexact H

theorem cover_first (c : Dev nD) (t : Fin cfg0.N) (h : t.val % 2 = 0) : ∀ y, ∃ p ∈ (runFirst c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) scratchBf (whole_bf) scratchU (whole_u) ((start_iff t).mpr h) ((first_iff t).mpr h) (fun h' => absurd ((second_iff t).mp h') (by omega)) (iblk m c 0 t) (X0_1 m c t) (X0_2 m c t) (X0_3 m c t) (X0_4 m c t) (iblk m c 5 t) (iblk m c 6 t) (iblk m c 7 t)).1, y ∈ p.1.set :=
  View.cover_of_tiledL _ S1x1x256x512.size (by sl_kernel_rfl)
theorem cover_proj (c : Dev nD) (t : Fin cfg0.N) (h : t.val % 2 = 0) : ∀ y, ∃ p ∈ (runFirst c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) scratchBf (whole_bf) scratchU (whole_u) ((start_iff t).mpr h) ((first_iff t).mpr h) (fun h' => absurd ((second_iff t).mp h') (by omega)) (iblk m c 0 t) (X0_1 m c t) (X0_2 m c t) (X0_3 m c t) (X0_4 m c t) (iblk m c 5 t) (iblk m c 6 t) (iblk m c 7 t)).2.1, y ∈ p.1.set :=
  View.cover_of_tiledL _ S512x1536.size (by sl_kernel_rfl)
theorem cover_second (c : Dev nD) (t : Fin cfg0.N) (h : ¬t.val % 2 = 0) (u : Vec F S512x1536 .f32) : ∀ y, ∃ p ∈ (runSecond c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) scratchBf (whole_bf) scratchU (whole_u) (fun h' => h ((start_iff t).mp h')) (fun h' => h ((first_iff t).mp h')) ((second_iff t).mpr (by omega)) (iblk m c 0 t) (X0_1 m c t) (X0_2 m c t) (X0_3 m c t) (X0_4 m c t) (iblk m c 5 t) (iblk m c 6 t) (iblk m c 7 t) u).1, y ∈ p.1.set :=
  View.cover_of_tiledL _ S1x1x256x512.size (by sl_kernel_rfl)

theorem between_even (c : Dev nD) (n : ℕ) (hn : n ≤ cfg0.N) (h : n % 2 = 0) : between m c n hn = Pipeline.ΦA spec0 c := by
  unfold between; rw [dif_neg (by omega)]

theorem between_odd (c : Dev nD) (n : ℕ) (hn : n ≤ cfg0.N) (h : n % 2 = 1) : between m c n hn
    = iprop(iprop((∃ d, owns (c : Thread nD τ) scratchBf fullShare d) ∗ owns (c : Thread nD τ) scratchU fullShare (projAt m c ⟨n - 1, by omega⟩ (by dsimp only; omega))) ∗ (∃ r, prngReg c r)) := by
  unfold between; rw [dif_pos h]

set_option maxHeartbeats 1600000 in
/-- The body meets its obligation at every point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).owesAt () t.succ = (dats m 0 c).owesAt () t.castSucc from rfl,
    show (dats m 0 c).Φ t.castSucc = between m c t.val (Nat.le_of_lt t.isLt) from rfl,
    show (dats m 0 c).Φ t.succ = between m c (t.val + 1) t.isLt from rfl,
    after_0, after_1, after_2, after_3, after_4, after_5, after_6, after_7, after_10]
  by_cases h : t.val % 2 = 0
  · rw [between_even m c _ _ h, between_odd m c _ _ (by omega), scratch_eq]
    rw [show statesAt m c t = statesFirst m c t h from dif_pos h]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8, H9, ⟨%d10, H10⟩⟩
    iapply ((runFirst c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) scratchBf (whole_bf) scratchU (whole_u) ((start_iff t).mpr h) ((first_iff t).mpr h) (fun h' => absurd ((second_iff t).mp h') (by omega)) (iblk m c 0 t) (X0_1 m c t) (X0_2 m c t) (X0_3 m c t) (X0_4 m c t) (iblk m c 5 t) (iblk m c 6 t) (iblk m c 7 t)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [HS0]; · iexact HS0
    isplitl [HS1]; · iexact HS1
    iintro ⟨H0, H1, H2, H3, H4, H5, H6, H7, H8, H9, ⟨%f10, H10⟩, HS0, ⟨%fu, HS1⟩⟩
    isplitl [HS0 HS1 Hg]
    · isplitl [HS0 HS1]
      · isplitl [HS0]
        · iapply (held c scratchBf); iexact HS0
        unfold owns; iexists _; isplitr
        swap; · iexact HS1
        ipureintro; exact View.read_writes_eq_canon _ _ _ (cover_proj m c t h)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iapply (held c (st0_8 t)); iexact H8
    isplitl [H9]; · iapply (held c (st0_9 t)); iexact H9
    unfold owns; iexists _; isplitr
    swap; · iexact H10
    ipureintro; exact View.read_writes_eq_canon _ _ _ (cover_first m c t h)
  · rw [between_odd m c _ _ (by omega), between_even m c _ _ (by omega), scratch_eq]
    rw [show statesAt m c t = statesSecond m c t h (projAt m c (prev t) (by dsimp only; omega)) from dif_neg h]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8, H9, ⟨%d10, H10⟩⟩
    iapply ((runSecond c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) scratchBf (whole_bf) scratchU (whole_u) (fun h' => h ((start_iff t).mp h')) (fun h' => h ((first_iff t).mp h')) ((second_iff t).mpr (by omega)) (iblk m c 0 t) (X0_1 m c t) (X0_2 m c t) (X0_3 m c t) (X0_4 m c t) (iblk m c 5 t) (iblk m c 6 t) (iblk m c 7 t) (projAt m c (prev t) (by dsimp only; omega))).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [HS0]; · iexact HS0
    isplitl [HS1]; · iexact HS1
    iintro ⟨H0, H1, H2, H3, H4, H5, H6, H7, H8, H9, ⟨%f10, H10⟩, HS0, HS1⟩
    isplitl [HS0 HS1 Hg]
    · isplitl [HS0 HS1]
      · isplitl [HS0]
        · iapply (held c scratchBf); iexact HS0
        iexists _; iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iapply (held c (st0_8 t)); iexact H8
    isplitl [H9]; · iapply (held c (st0_9 t)); iexact H9
    unfold owns; iexists _; isplitr
    swap; · iexact H10
    ipureintro; exact View.read_writes_eq_canon _ _ _ (cover_second m c t h _)

/-- Every point stores the states of its streams. -/
theorem live : ∀ t : Fin cfg0.N, cfg0.idle 10 (cfg0.grid.coords t) = false :=
  (by decide +kernel : ∀ t : Fin grid0.N, idle0 10 (grid0.coords t) = false)

theorem body_row (t : Fin cfg0.N) :
    defs₀ (F := F) .tc cfg0.body (cfg0.bodyArgs t (cfg0.slots t)) = bodyAt0 t := by
  unfold defs₀; rw [Defs.onTc_tc]

set_option maxHeartbeats 3200000 in
theorem body_obligation (c : Dev nD) : BodyObligation (dats (F := F) m 0 c) (defs₀ (F := F)) Variants.none () Set.univ untold := fun t => by
  rw [bigSep_W0, bigSep_W0, body_row]
  simp only [show untold 0 = false from rfl, show untold 1 = false from rfl, show untold 2 = false from rfl, show untold 3 = false from rfl, show untold 4 = false from rfl, show untold 5 = false from rfl, show untold 6 = false from rfl, show untold 7 = false from rfl, show untold 8 = true from rfl, show untold 9 = true from rfl, show untold 10 = false from rfl, live t, show idle0 10 (grid0.coords t) = false from live t]
  exact triple_restated (sound_body m c t) rfl .rfl fun _ => by unfold bodyPost; exact .rfl

/-! ## The whole call -/

set_option backward.isDefEq.respectTransparency.types false in
set_option maxHeartbeats 800000 in
/-- The call ends with its arrays at the contents above, the two untold ones at any, and no signal left over. -/
theorem run_quiet : θ_run defs (onTc (τ := τ) (main (F := F))) (s₀ m ρ)
    (fun r => (Pipeline.RDat.FramePost cfg0 (fun c => (dats m 0 c).toRForget untold) (V m)) r ∧ r.2.sem = fun _ => 0) :=
  Pipeline.θ_run_frame_track_forget_shared (Q' := _) cfgs (dats m) (0 : Fin 1) launch₀0 defs₀ Variants.none untold m ρ main
    (hbody := fun c => (body_obligation m c).loose) (hq := fun _ _ _ => rfl)
    (howed := fun _ _ => rfl) (V := V m) (hmain := hmain m Variants.none) (hA := entry_eq m)
    (hin := fun c => (between_even m c 0 (Nat.zero_le _) rfl).symm ▸ .rfl)
    (hout := fun c => (between_even m c cfg0.N le_rfl (by rw [show cfg0.N = 8 from N_0])) ▸ .rfl) (hQ' := fun _ h => h)

/-- The call leaves its arguments as they were. -/
theorem run_frame : θ_run defs (onTc (τ := τ) (main (F := F))) ⟨m, fun _ => 0, ρ⟩ (fun r => (∀ c : Dev nD,
        r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨((h.1 c).2 main_arg0 (Pipeline.mem_restRefs_of main_arg0 (by decide) (by decide))).trans (V_main_arg0 m c), ((h.1 c).2 main_arg1 (Pipeline.mem_restRefs_of main_arg1 (by decide) (by decide))).trans (V_main_arg1 m c), ((h.1 c).2 main_arg2 (Pipeline.mem_restRefs_of main_arg2 (by decide) (by decide))).trans (V_main_arg2 m c), ((h.1 c).2 main_arg3 (Pipeline.mem_restRefs_of main_arg3 (by decide) (by decide))).trans (V_main_arg3 m c), ((h.1 c).2 main_arg4 (Pipeline.mem_restRefs_of main_arg4 (by decide) (by decide))).trans (V_main_arg4 m c), (((dats m 0 c).toRForget_arrAt_iff (fgt := untold) (w := 6) rfl _ _).mp ((h.1 c).1 6)).trans (((dats m 0 c).arrAt_in 6 rfl _).trans ((entry_eq m c 6).trans (V_main_arg5 m c))), ((h.1 c).2 main_arg6 (Pipeline.mem_restRefs_of main_arg6 (by decide) (by decide))).trans (V_main_arg6 m c)⟩, h.2⟩) (run_quiet m ρ)

/-- The call's states, written back point by point. -/
theorem run_states : θ_run defs (onTc (τ := τ) (main (F := F))) (s₀ m ρ)
    (fun r => ∀ c : Dev nD, r.2.mem ((c.tc : Thread nD τ).loc (Pipeline.arrRef spec0 10)) = (dats m 0 c).arrAt 10 cfg0.N) :=
  (θ_run defs _ _).mono (fun _ h c => ((dats m 0 c).toRForget_arrAt_iff (fgt := untold) (w := 10) rfl _ _).mp ((h.1 c).1 10)) (run_quiet m ρ)

end State.Exact

end
-- ==== Proof.StatePoint.lean ====
/-
  What a grid point of the call that continues the short sequences leaves of its streams' states, from the head's projections
  and the blocks it reads; and the projections themselves.
-/
module

public import proofs.«01_k».proof.Proof.StateStored
public import proofs.«01_k».proof.Proof.StateIdealRun
public import Idealize.ShloMosaic.Lib.Pipeline.CanonAppend
public import Idealize.ShloMosaic.Lib.Pointwise

@[expose] public section

noncomputable section

namespace State

open Idealize.ShloMosaic Idealize.ShloMosaic.TcCoe Cert.StateIdeal Cert.StateIdeal.Gen
open Idealize.ShloMosaic.Tactic

set_option maxRecDepth 16384

theorem origin2 : (![0, 0] : Fin 2 → Nat) = fun _ => 0 := by funext i; fin_cases i <;> rfl

/-! ## Loads -/

theorem at2 {N W n w : ℕ} (r0 c0 : ℕ) (inb) (p : Fin n) (a : Fin w) (hr : r0 + p.val < N) (hc : c0 + a.val < W) :
    (Rect.unit (s := ⟨2, ![N, W]⟩) ![r0, c0] ![n, w] inb).emb (ix2 p a : (⟨2, ![n, w]⟩ : Shape).Idx) = (ix2 ⟨r0 + p.val, hr⟩ ⟨c0 + a.val, hc⟩ : (⟨2, ![N, W]⟩ : Shape).Idx) := by
  funext b
  apply Fin.ext
  match b with
  | ⟨0, _⟩ =>
    show r0 + 1 * p.val = r0 + p.val
    omega
  | ⟨1, _⟩ =>
    show c0 + 1 * a.val = c0 + a.val
    omega

/-- A load of some rows and columns of an operand, entry by entry. -/
theorem load2 {κ : Kind} {sp : Space} {N W n w : ℕ} {e : EltTy} (arg : Memref sig κ sp ⟨2, ![N, W]⟩ e) (h : arg.IsWhole)
    (x : (⟨2, ![N, W]⟩ : Shape).Idx → Elt Ideal e) (r0 c0 : ℕ) (inb) (p : Fin n) (a : Fin w) (hr : r0 + p.val < N) (hc : c0 + a.val < W) :
    View.readAt (Elt Ideal) arg.view (Rect.unit (s := ⟨2, ![N, W]⟩) ![r0, c0] ![n, w] inb).toLoadRect (h.unread x) (ix2 p a : (⟨2, ![n, w]⟩ : Shape).Idx)
      = x (ix2 ⟨r0 + p.val, hr⟩ ⟨c0 + a.val, hc⟩) := by
  rw [View.readAt_eq_ld, h.read_unread]
  exact congrArg x (at2 r0 c0 inb p a hr hc)

/-- A load after stores that cover the buffer. -/
theorem loadCov {κ : Kind} {sp : Space} {N W n w : ℕ} {e : EltTy} (v : View sig κ sp ⟨2, ![N, W]⟩ e)
    (L : List (View.Piece (Elt Ideal) ⟨2, ![N, W]⟩ e)) (hL : ∀ y, ∃ p ∈ L, y ∈ p.1.set) (r0 c0 : ℕ) (inb) (p : Fin n) (a : Fin w)
    (hr : r0 + p.val < N) (hc : c0 + a.val < W) :
    v.readCov L (Rect.unit (s := ⟨2, ![N, W]⟩) ![r0, c0] ![n, w] inb).toLoadRect (ix2 p a : (⟨2, ![n, w]⟩ : Shape).Idx)
      = View.canon L (ix2 ⟨r0 + p.val, hr⟩ ⟨c0 + a.val, hc⟩) := by
  rw [View.readCov_eq_canon_ld v L _ hL]
  exact congrArg (View.canon L) (at2 r0 c0 inb p a hr hc)

/-- A load of one stream's state. -/
theorem load4 {κ : Kind} {sp : Space} (arg : Memref sig κ sp S8x1x256x512 .f32) (h : arg.IsWhole)
    (x : FVec Ideal S8x1x256x512 .f32) (s : Fin 8) (inb) (a : Fin 256) (d : Fin 512) :
    View.readAt (Elt Ideal) arg.view (Rect.unit (s := S8x1x256x512) ![s.val, 0, 0, 0] S1x1x256x512.size inb).toLoadRect (h.unread x) (ix4 0 0 a d)
      = x (ix4 s 0 a d) := by
  rw [View.readAt_eq_ld, h.read_unread]
  refine congrArg x ?_
  funext b
  apply Fin.ext
  match b with
  | ⟨0, _⟩ => rfl
  | ⟨1, _⟩ => rfl
  | ⟨2, _⟩ =>
    show 0 + 1 * a.val = a.val
    omega
  | ⟨3, _⟩ =>
    show 0 + 1 * d.val = d.val
    omega

/-- A load of some of the rows of a block of weights. -/
theorem load3 {κ : Kind} {sp : Space} {n w W : ℕ} {e : EltTy} (arg : Memref sig κ sp ⟨3, ![1, n, W]⟩ e) (h : arg.IsWhole)
    (x : (⟨3, ![1, n, W]⟩ : Shape).Idx → Elt Ideal e) (r0 : ℕ) (inb) (j : Fin w) (d : Fin W) (hr : r0 + j.val < n) :
    View.readAt (Elt Ideal) arg.view (Rect.unit (s := ⟨3, ![1, n, W]⟩) ![0, r0, 0] ![1, w, W] inb).toLoadRect (h.unread x) (ix3 0 j d : (⟨3, ![1, w, W]⟩ : Shape).Idx)
      = x (ix3 0 ⟨r0 + j.val, hr⟩ d) := by
  rw [View.readAt_eq_ld, h.read_unread]
  refine congrArg x ?_
  funext b
  apply Fin.ext
  match b with
  | ⟨0, _⟩ => rfl
  | ⟨1, _⟩ =>
    show r0 + 1 * j.val = r0 + j.val
    omega
  | ⟨2, _⟩ =>
    show 0 + 1 * d.val = d.val
    omega

/-! ## The states -/

/-- A stream's state after its rows, from the projections' rows and the gates' rows from row `o` on. -/
def leftAt (o : ℕ) (ho : o + 128 ≤ 512) (u : FVec Ideal S512x1536 .f32) (g : FVec Ideal S512x256 .f32) (x : FVec Ideal S8x1x256x512 .f32)
    (s : Fin 8) (a : Fin 256) (d : Fin 512) : EReal :=
  left (fun n => u (ix2 ⟨o + 16 * s.val + n % 16, by omega⟩ ⟨256 + a.val, by omega⟩)) (fun n => g (ix2 ⟨o + 16 * s.val + n % 16, by omega⟩ a))
    (fun n => u (ix2 ⟨o + 16 * s.val + n % 16, by omega⟩ ⟨512 + d.val, by omega⟩)) (x (ix4 s 0 a d))

theorem trunc512 (v : FVec Ideal S512x512 .f32) (r : Fin 512) (d : Fin 512) : k0_pay138 v (ix2 r d) = v (ix2 r d) := by
  pointwise [k0_pay138]

theorem trunc576 (v : FVec Ideal S576x512 .f32) (r : Fin 576) (d : Fin 512) : k0_pay49 v (ix2 r d) = v (ix2 r d) := by
  pointwise [k0_pay49]

theorem row_mod (o : ℕ) (s : Fin 8) (p : Fin 16) (ho : o + 128 ≤ 512) :
    (⟨o + 16 * s.val + p.val, by omega⟩ : Fin 512) = ⟨o + 16 * s.val + p.val % 16, by omega⟩ := Fin.ext (by
  have := Nat.mod_eq_of_lt p.isLt
  dsimp only
  omega)

theorem place (o : ℕ) (ho : o + 128 ≤ 512) (u : FVec Ideal S512x1536 .f32) (g : FVec Ideal S512x256 .f32) (x : FVec Ideal S8x1x256x512 .f32)
    (s : Fin 8) (inb) (a : Fin 256) (d : Fin 512) :
    leftAt o ho u g x s a d = (fun y : S8x1x256x512.Idx => leftAt o ho u g x (y 0) (y 2) (y 3))
      ((Rect.unit (s := S8x1x256x512) ![s.val, 0, 0, 0] S1x1x256x512.size inb).emb (ix4 0 0 a d)) := by
  have e0 : ((Rect.unit (s := S8x1x256x512) ![s.val, 0, 0, 0] S1x1x256x512.size inb).emb (ix4 0 0 a d)) 0 = s := Fin.ext (by
    show s.val + 1 * 0 = s.val
    omega)
  have e2 : ((Rect.unit (s := S8x1x256x512) ![s.val, 0, 0, 0] S1x1x256x512.size inb).emb (ix4 0 0 a d)) 2 = a := Fin.ext (by
    show 0 + 1 * a.val = a.val
    omega)
  have e3 : ((Rect.unit (s := S8x1x256x512) ![s.val, 0, 0, 0] S1x1x256x512.size inb).emb (ix4 0 0 a d)) 3 = d := Fin.ext (by
    show 0 + 1 * d.val = d.val
    omega)
  dsimp only
  rw [e0, e2, e3]

/-- The pieces a point stores of its streams' states, the last first. -/
def secondPieces (b : FVec Ideal S512x256 .f32) (kd : FVec Ideal S512x256 .bf16) (v : FVec Ideal S512x512 .bf16) (t0 t1 t2 t3 t4 t5 t6 t7 : FVec Ideal S1x1x256x512 .f32) :
    List (View.Piece (Elt Ideal) S8x1x256x512 .f32) :=
  [⟨Rect.unit (s := S8x1x256x512) ![7, 0, 0, 0] S1x1x256x512.size inb_S8x1x256x512_S1x1x256x512_7_0_0_0, k0_pay187 b kd v (k0_pay183 t7)⟩,
    ⟨Rect.unit (s := S8x1x256x512) ![6, 0, 0, 0] S1x1x256x512.size inb_S8x1x256x512_S1x1x256x512_6_0_0_0, k0_pay181 b kd v (k0_pay176 t6)⟩,
    ⟨Rect.unit (s := S8x1x256x512) ![5, 0, 0, 0] S1x1x256x512.size inb_S8x1x256x512_S1x1x256x512_5_0_0_0, k0_pay174 b kd v (k0_pay171 t5)⟩,
    ⟨Rect.unit (s := S8x1x256x512) ![4, 0, 0, 0] S1x1x256x512.size inb_S8x1x256x512_S1x1x256x512_4_0_0_0, k0_pay169 b kd (k0_pay164 t4) (k0_pay165 v)⟩,
    ⟨Rect.unit (s := S8x1x256x512) ![3, 0, 0, 0] S1x1x256x512.size inb_S8x1x256x512_S1x1x256x512_3_0_0_0, k0_pay162 (k0_pay160 kd v) (k0_pay161 b t3)⟩,
    ⟨Rect.unit (s := S8x1x256x512) ![2, 0, 0, 0] S1x1x256x512.size inb_S8x1x256x512_S1x1x256x512_2_0_0_0, k0_pay155 b kd v (k0_pay151 t2)⟩,
    ⟨Rect.unit (s := S8x1x256x512) ![1, 0, 0, 0] S1x1x256x512.size inb_S8x1x256x512_S1x1x256x512_1_0_0_0, k0_pay149 b kd v (k0_pay144 t1)⟩,
    ⟨Rect.unit (s := S8x1x256x512) ![0, 0, 0, 0] S1x1x256x512.size inb_S8x1x256x512_S1x1x256x512_0_0_0_0, k0_pay142 b kd v (k0_pay139 t0)⟩]

set_option maxHeartbeats 1600000 in
/-- The states they leave. -/
theorem second_states (k0 k1 k2 k3 k4 k5 k6 k7 g0 g1 g2 g3 g4 g5 g6 g7 : FVec Ideal S16x256 .f32) (v0 v1 v2 v3 v4 v5 v6 v7 : FVec Ideal S16x512 .f32) (t0 t1 t2 t3 t4 t5 t6 t7 : FVec Ideal S1x1x256x512 .f32)
    (u : FVec Ideal S512x1536 .f32) (g : FVec Ideal S512x256 .f32) (x : FVec Ideal S8x1x256x512 .f32)
    (hk : ∀ (s : Fin 8) (p : Fin 16) (a : Fin 256), (![k0, k1, k2, k3, k4, k5, k6, k7] s) (ix2 p a) = u (ix2 ⟨192 + 16 * s.val + p.val, by omega⟩ ⟨256 + a.val, by omega⟩))
    (hg : ∀ (s : Fin 8) (p : Fin 16) (a : Fin 256), (![g0, g1, g2, g3, g4, g5, g6, g7] s) (ix2 p a) = g (ix2 ⟨192 + 16 * s.val + p.val, by omega⟩ a))
    (hv : ∀ (s : Fin 8) (p : Fin 16) (d : Fin 512), (![v0, v1, v2, v3, v4, v5, v6, v7] s) (ix2 p d) = u (ix2 ⟨192 + 16 * s.val + p.val, by omega⟩ ⟨512 + d.val, by omega⟩))
    (ht : ∀ (s : Fin 8) (a : Fin 256) (d : Fin 512), (![t0, t1, t2, t3, t4, t5, t6, t7] s) (ix4 0 0 a d) = x (ix4 s 0 a d))
    (s : Fin 8) (a : Fin 256) (d : Fin 512) :
    View.canon (Val := Elt Ideal) (secondPieces (rolled512 (k0_pay110 g0 g1 g2 g3 g4 g5 g6 g7)) (decayed512 (k0_pay107 k0 k1 k2 k3 k4 k5 k6 k7) (k0_pay110 g0 g1 g2 g3 g4 g5 g6 g7)) (k0_pay138 (k0_pay109 k0_pay108 v0 v1 v2 v3 v4 v5 v6 v7)) t0 t1 t2 t3 t4 t5 t6 t7) (ix4 s 0 a d)
      = leftAt 192 (by omega) u g x s a d := by
  have K : ∀ (s : Fin 8) (a : Fin 256) (d : Fin 512) (st : EReal), st = x (ix4 s 0 a d) →
      Ideal.exp (rolled512 (k0_pay110 g0 g1 g2 g3 g4 g5 g6 g7) (ix2 ⟨64 * s.val + 63, by omega⟩ a)) * st
        + ∑ j : Fin 64, decayed512 (k0_pay107 k0 k1 k2 k3 k4 k5 k6 k7) (k0_pay110 g0 g1 g2 g3 g4 g5 g6 g7) (ix2 ⟨64 * s.val + j.val, by omega⟩ a)
            * (k0_pay138 (k0_pay109 k0_pay108 v0 v1 v2 v3 v4 v5 v6 v7)) (ix2 ⟨64 * s.val + j.val, by omega⟩ d)
        = leftAt 192 (by omega) u g x s a d := by
    intro s a d st hst
    rw [hst]
    refine left512 (k0_pay107 k0 k1 k2 k3 k4 k5 k6 k7) (k0_pay110 g0 g1 g2 g3 g4 g5 g6 g7) (k0_pay138 (k0_pay109 k0_pay108 v0 v1 v2 v3 v4 v5 v6 v7)) s _ a d _ _ _ ?_ ?_ ?_
    · intro p
      exact (keys512 k0 k1 k2 k3 k4 k5 k6 k7 s p a).trans ((hk s p a).trans (congrArg (fun r => u (ix2 r _)) (row_mod 192 s p (by omega))))
    · intro p
      exact (gates512 g0 g1 g2 g3 g4 g5 g6 g7 s p a).trans ((hg s p a).trans (congrArg (fun r => g (ix2 r _)) (row_mod 192 s p (by omega))))
    · intro p
      exact (trunc512 _ _ _).trans (values512 v0 v1 v2 v3 v4 v5 v6 v7 s p d |>.trans ((hv s p d).trans (congrArg (fun r => u (ix2 r _)) (row_mod 192 s p (by omega)))))
  refine View.canon_apply_of_pieces (Val := Elt Ideal) (e := .f32) (fun y : S8x1x256x512.Idx => leftAt 192 (by omega) u g x (y 0) (y 2) (y 3))
    _ ?_ (ix4 s 0 a d) (View.cover_of_tiledL (s := S8x1x256x512) _ S1x1x256x512.size (by sl_kernel_rfl) _)
  unfold secondPieces
  intro p hp
  simp only [List.mem_cons, List.not_mem_nil, or_false] at hp
  rcases hp with rfl | rfl | rfl | rfl | rfl | rfl | rfl | rfl
  · intro z
    obtain ⟨a, d, rfl⟩ : ∃ (a : Fin 256) (d : Fin 512), z = ix4 0 0 a d := ⟨z 2, z 3, by funext b; fin_cases b <;> first | rfl | exact Subsingleton.elim (α := Fin 1) _ _⟩
    refine (second_7 _ _ _ _ a d).trans ((K 7 a d _ (ht 7 a d)).trans ?_)
    exact place 192 (by omega) u g x 7 inb_S8x1x256x512_S1x1x256x512_7_0_0_0 a d
  · intro z
    obtain ⟨a, d, rfl⟩ : ∃ (a : Fin 256) (d : Fin 512), z = ix4 0 0 a d := ⟨z 2, z 3, by funext b; fin_cases b <;> first | rfl | exact Subsingleton.elim (α := Fin 1) _ _⟩
    refine (second_6 _ _ _ _ a d).trans ((K 6 a d _ (ht 6 a d)).trans ?_)
    exact place 192 (by omega) u g x 6 inb_S8x1x256x512_S1x1x256x512_6_0_0_0 a d
  · intro z
    obtain ⟨a, d, rfl⟩ : ∃ (a : Fin 256) (d : Fin 512), z = ix4 0 0 a d := ⟨z 2, z 3, by funext b; fin_cases b <;> first | rfl | exact Subsingleton.elim (α := Fin 1) _ _⟩
    refine (second_5 _ _ _ _ a d).trans ((K 5 a d _ (ht 5 a d)).trans ?_)
    exact place 192 (by omega) u g x 5 inb_S8x1x256x512_S1x1x256x512_5_0_0_0 a d
  · intro z
    obtain ⟨a, d, rfl⟩ : ∃ (a : Fin 256) (d : Fin 512), z = ix4 0 0 a d := ⟨z 2, z 3, by funext b; fin_cases b <;> first | rfl | exact Subsingleton.elim (α := Fin 1) _ _⟩
    refine (second_4 _ _ _ _ a d).trans ((K 4 a d _ (ht 4 a d)).trans ?_)
    exact place 192 (by omega) u g x 4 inb_S8x1x256x512_S1x1x256x512_4_0_0_0 a d
  · intro z
    obtain ⟨a, d, rfl⟩ : ∃ (a : Fin 256) (d : Fin 512), z = ix4 0 0 a d := ⟨z 2, z 3, by funext b; fin_cases b <;> first | rfl | exact Subsingleton.elim (α := Fin 1) _ _⟩
    refine (second_3 _ _ _ _ a d).trans ((K 3 a d _ (ht 3 a d)).trans ?_)
    exact place 192 (by omega) u g x 3 inb_S8x1x256x512_S1x1x256x512_3_0_0_0 a d
  · intro z
    obtain ⟨a, d, rfl⟩ : ∃ (a : Fin 256) (d : Fin 512), z = ix4 0 0 a d := ⟨z 2, z 3, by funext b; fin_cases b <;> first | rfl | exact Subsingleton.elim (α := Fin 1) _ _⟩
    refine (second_2 _ _ _ _ a d).trans ((K 2 a d _ (ht 2 a d)).trans ?_)
    exact place 192 (by omega) u g x 2 inb_S8x1x256x512_S1x1x256x512_2_0_0_0 a d
  · intro z
    obtain ⟨a, d, rfl⟩ : ∃ (a : Fin 256) (d : Fin 512), z = ix4 0 0 a d := ⟨z 2, z 3, by funext b; fin_cases b <;> first | rfl | exact Subsingleton.elim (α := Fin 1) _ _⟩
    refine (second_1 _ _ _ _ a d).trans ((K 1 a d _ (ht 1 a d)).trans ?_)
    exact place 192 (by omega) u g x 1 inb_S8x1x256x512_S1x1x256x512_1_0_0_0 a d
  · intro z
    obtain ⟨a, d, rfl⟩ : ∃ (a : Fin 256) (d : Fin 512), z = ix4 0 0 a d := ⟨z 2, z 3, by funext b; fin_cases b <;> first | rfl | exact Subsingleton.elim (α := Fin 1) _ _⟩
    refine (second_0 _ _ _ _ a d).trans ((K 0 a d _ (ht 0 a d)).trans ?_)
    exact place 192 (by omega) u g x 0 inb_S8x1x256x512_S1x1x256x512_0_0_0_0 a d

/-- The pieces a point stores of its streams' states, the last first. -/
def firstPieces (b : FVec Ideal S576x256 .f32) (kd : FVec Ideal S576x256 .bf16) (v : FVec Ideal S576x512 .bf16) (t0 t1 t2 t3 t4 t5 t6 t7 : FVec Ideal S1x1x256x512 .f32) :
    List (View.Piece (Elt Ideal) S8x1x256x512 .f32) :=
  [⟨Rect.unit (s := S8x1x256x512) ![7, 0, 0, 0] S1x1x256x512.size inb_S8x1x256x512_S1x1x256x512_7_0_0_0, k0_pay103 b kd (k0_pay100 t7) (k0_pay101 v)⟩,
    ⟨Rect.unit (s := S8x1x256x512) ![6, 0, 0, 0] S1x1x256x512.size inb_S8x1x256x512_S1x1x256x512_6_0_0_0, k0_pay98 (k0_pay97 b kd v t6)⟩,
    ⟨Rect.unit (s := S8x1x256x512) ![5, 0, 0, 0] S1x1x256x512.size inb_S8x1x256x512_S1x1x256x512_5_0_0_0, k0_pay92 b kd v (k0_pay87 t5)⟩,
    ⟨Rect.unit (s := S8x1x256x512) ![4, 0, 0, 0] S1x1x256x512.size inb_S8x1x256x512_S1x1x256x512_4_0_0_0, k0_pay85 b kd v (k0_pay82 t4)⟩,
    ⟨Rect.unit (s := S8x1x256x512) ![3, 0, 0, 0] S1x1x256x512.size inb_S8x1x256x512_S1x1x256x512_3_0_0_0, k0_pay80 b kd v (k0_pay75 t3)⟩,
    ⟨Rect.unit (s := S8x1x256x512) ![2, 0, 0, 0] S1x1x256x512.size inb_S8x1x256x512_S1x1x256x512_2_0_0_0, k0_pay73 b kd (k0_pay70 t2) (k0_pay71 v)⟩,
    ⟨Rect.unit (s := S8x1x256x512) ![1, 0, 0, 0] S1x1x256x512.size inb_S8x1x256x512_S1x1x256x512_1_0_0_0, k0_pay68 (k0_pay67 b kd v t1)⟩,
    ⟨Rect.unit (s := S8x1x256x512) ![0, 0, 0, 0] S1x1x256x512.size inb_S8x1x256x512_S1x1x256x512_0_0_0_0, k0_pay62 b kd v (k0_pay57 t0)⟩]

set_option maxHeartbeats 1600000 in
/-- The states they leave. -/
theorem first_states (mk mg : FVec Ideal S64x256 .f32) (mv : FVec Ideal S64x512 .f32) (k0 k1 k2 k3 k4 k5 k6 k7 g0 g1 g2 g3 g4 g5 g6 g7 : FVec Ideal S16x256 .f32) (v0 v1 v2 v3 v4 v5 v6 v7 : FVec Ideal S16x512 .f32) (t0 t1 t2 t3 t4 t5 t6 t7 : FVec Ideal S1x1x256x512 .f32)
    (u : FVec Ideal S512x1536 .f32) (g : FVec Ideal S512x256 .f32) (x : FVec Ideal S8x1x256x512 .f32)
    (hk : ∀ (s : Fin 8) (p : Fin 16) (a : Fin 256), (![k0, k1, k2, k3, k4, k5, k6, k7] s) (ix2 p a) = u (ix2 ⟨64 + 16 * s.val + p.val, by omega⟩ ⟨256 + a.val, by omega⟩))
    (hg : ∀ (s : Fin 8) (p : Fin 16) (a : Fin 256), (![g0, g1, g2, g3, g4, g5, g6, g7] s) (ix2 p a) = g (ix2 ⟨64 + 16 * s.val + p.val, by omega⟩ a))
    (hv : ∀ (s : Fin 8) (p : Fin 16) (d : Fin 512), (![v0, v1, v2, v3, v4, v5, v6, v7] s) (ix2 p d) = u (ix2 ⟨64 + 16 * s.val + p.val, by omega⟩ ⟨512 + d.val, by omega⟩))
    (ht : ∀ (s : Fin 8) (a : Fin 256) (d : Fin 512), (![t0, t1, t2, t3, t4, t5, t6, t7] s) (ix4 0 0 a d) = x (ix4 s 0 a d))
    (s : Fin 8) (a : Fin 256) (d : Fin 512) :
    View.canon (Val := Elt Ideal) (firstPieces (rolled576 (k0_pay13 mg g0 g1 g2 g3 g4 g5 g6 g7)) (decayed576 (k0_pay13 mk k0 k1 k2 k3 k4 k5 k6 k7) (k0_pay13 mg g0 g1 g2 g3 g4 g5 g6 g7)) (k0_pay49 (k0_pay14 mv v0 v1 v2 v3 v4 v5 v6 v7)) t0 t1 t2 t3 t4 t5 t6 t7) (ix4 s 0 a d)
      = leftAt 64 (by omega) u g x s a d := by
  have K : ∀ (s : Fin 8) (a : Fin 256) (d : Fin 512) (st : EReal), st = x (ix4 s 0 a d) →
      Ideal.exp (rolled576 (k0_pay13 mg g0 g1 g2 g3 g4 g5 g6 g7) (ix2 ⟨64 * (s.val + 1) + 63, by omega⟩ a)) * st
        + ∑ j : Fin 64, decayed576 (k0_pay13 mk k0 k1 k2 k3 k4 k5 k6 k7) (k0_pay13 mg g0 g1 g2 g3 g4 g5 g6 g7) (ix2 ⟨64 * (s.val + 1) + j.val, by omega⟩ a)
            * (k0_pay49 (k0_pay14 mv v0 v1 v2 v3 v4 v5 v6 v7)) (ix2 ⟨64 * (s.val + 1) + j.val, by omega⟩ d)
        = leftAt 64 (by omega) u g x s a d := by
    intro s a d st hst
    rw [hst]
    refine left576 (k0_pay13 mk k0 k1 k2 k3 k4 k5 k6 k7) (k0_pay13 mg g0 g1 g2 g3 g4 g5 g6 g7) (k0_pay49 (k0_pay14 mv v0 v1 v2 v3 v4 v5 v6 v7)) ⟨s.val + 1, by omega⟩ _ a d _ _ _ ?_ ?_ ?_
    · intro p
      exact (keys576 mk k0 k1 k2 k3 k4 k5 k6 k7 s p a).trans ((hk s p a).trans (congrArg (fun r => u (ix2 r _)) (row_mod 64 s p (by omega))))
    · intro p
      exact (keys576 mg g0 g1 g2 g3 g4 g5 g6 g7 s p a).trans ((hg s p a).trans (congrArg (fun r => g (ix2 r _)) (row_mod 64 s p (by omega))))
    · intro p
      exact (trunc576 _ _ _).trans (values576 mv v0 v1 v2 v3 v4 v5 v6 v7 s p d |>.trans ((hv s p d).trans (congrArg (fun r => u (ix2 r _)) (row_mod 64 s p (by omega)))))
  refine View.canon_apply_of_pieces (Val := Elt Ideal) (e := .f32) (fun y : S8x1x256x512.Idx => leftAt 64 (by omega) u g x (y 0) (y 2) (y 3))
    _ ?_ (ix4 s 0 a d) (View.cover_of_tiledL (s := S8x1x256x512) _ S1x1x256x512.size (by sl_kernel_rfl) _)
  unfold firstPieces
  intro p hp
  simp only [List.mem_cons, List.not_mem_nil, or_false] at hp
  rcases hp with rfl | rfl | rfl | rfl | rfl | rfl | rfl | rfl
  · intro z
    obtain ⟨a, d, rfl⟩ : ∃ (a : Fin 256) (d : Fin 512), z = ix4 0 0 a d := ⟨z 2, z 3, by funext b; fin_cases b <;> first | rfl | exact Subsingleton.elim (α := Fin 1) _ _⟩
    refine (first_7 _ _ _ _ a d).trans ((K 7 a d _ (ht 7 a d)).trans ?_)
    exact place 64 (by omega) u g x 7 inb_S8x1x256x512_S1x1x256x512_7_0_0_0 a d
  · intro z
    obtain ⟨a, d, rfl⟩ : ∃ (a : Fin 256) (d : Fin 512), z = ix4 0 0 a d := ⟨z 2, z 3, by funext b; fin_cases b <;> first | rfl | exact Subsingleton.elim (α := Fin 1) _ _⟩
    refine (first_6 _ _ _ _ a d).trans ((K 6 a d _ (ht 6 a d)).trans ?_)
    exact place 64 (by omega) u g x 6 inb_S8x1x256x512_S1x1x256x512_6_0_0_0 a d
  · intro z
    obtain ⟨a, d, rfl⟩ : ∃ (a : Fin 256) (d : Fin 512), z = ix4 0 0 a d := ⟨z 2, z 3, by funext b; fin_cases b <;> first | rfl | exact Subsingleton.elim (α := Fin 1) _ _⟩
    refine (first_5 _ _ _ _ a d).trans ((K 5 a d _ (ht 5 a d)).trans ?_)
    exact place 64 (by omega) u g x 5 inb_S8x1x256x512_S1x1x256x512_5_0_0_0 a d
  · intro z
    obtain ⟨a, d, rfl⟩ : ∃ (a : Fin 256) (d : Fin 512), z = ix4 0 0 a d := ⟨z 2, z 3, by funext b; fin_cases b <;> first | rfl | exact Subsingleton.elim (α := Fin 1) _ _⟩
    refine (first_4 _ _ _ _ a d).trans ((K 4 a d _ (ht 4 a d)).trans ?_)
    exact place 64 (by omega) u g x 4 inb_S8x1x256x512_S1x1x256x512_4_0_0_0 a d
  · intro z
    obtain ⟨a, d, rfl⟩ : ∃ (a : Fin 256) (d : Fin 512), z = ix4 0 0 a d := ⟨z 2, z 3, by funext b; fin_cases b <;> first | rfl | exact Subsingleton.elim (α := Fin 1) _ _⟩
    refine (first_3 _ _ _ _ a d).trans ((K 3 a d _ (ht 3 a d)).trans ?_)
    exact place 64 (by omega) u g x 3 inb_S8x1x256x512_S1x1x256x512_3_0_0_0 a d
  · intro z
    obtain ⟨a, d, rfl⟩ : ∃ (a : Fin 256) (d : Fin 512), z = ix4 0 0 a d := ⟨z 2, z 3, by funext b; fin_cases b <;> first | rfl | exact Subsingleton.elim (α := Fin 1) _ _⟩
    refine (first_2 _ _ _ _ a d).trans ((K 2 a d _ (ht 2 a d)).trans ?_)
    exact place 64 (by omega) u g x 2 inb_S8x1x256x512_S1x1x256x512_2_0_0_0 a d
  · intro z
    obtain ⟨a, d, rfl⟩ : ∃ (a : Fin 256) (d : Fin 512), z = ix4 0 0 a d := ⟨z 2, z 3, by funext b; fin_cases b <;> first | rfl | exact Subsingleton.elim (α := Fin 1) _ _⟩
    refine (first_1 _ _ _ _ a d).trans ((K 1 a d _ (ht 1 a d)).trans ?_)
    exact place 64 (by omega) u g x 1 inb_S8x1x256x512_S1x1x256x512_1_0_0_0 a d
  · intro z
    obtain ⟨a, d, rfl⟩ : ∃ (a : Fin 256) (d : Fin 512), z = ix4 0 0 a d := ⟨z 2, z 3, by funext b; fin_cases b <;> first | rfl | exact Subsingleton.elim (α := Fin 1) _ _⟩
    refine (first_0 _ _ _ _ a d).trans ((K 0 a d _ (ht 0 a d)).trans ?_)
    exact place 64 (by omega) u g x 0 inb_S8x1x256x512_S1x1x256x512_0_0_0_0 a d

/-! ## The second half -/

section
variable (c : Dev nD) (i : grid0.Coords) (arg2 : Memref sig .tc .vmem S512x2048 .bf16) (harg2 : arg2.IsWhole) (arg3 : Memref sig .tc .vmem S1x256x2048 .f32) (harg3 : arg3.IsWhole) (arg4 : Memref sig .tc .vmem S1x256x2048 .f32) (harg4 : arg4.IsWhole) (arg5 : Memref sig .tc .vmem S1x512x2048 .f32) (harg5 : arg5.IsWhole) (arg6 : Memref sig .tc .vmem S1x512x2048 .f32) (harg6 : arg6.IsWhole) (arg7 : Memref sig .tc .vmem S512x256 .f32) (harg7 : arg7.IsWhole) (arg8 : Memref sig .tc .vmem S1x512 .f32) (harg8 : arg8.IsWhole) (arg9 : Memref sig .tc .vmem S8x1x256x512 .f32) (harg9 : arg9.IsWhole) (arg10 : Memref sig .tc .vmem S512x512 .f32) (harg10 : arg10.IsWhole) (arg11 : Memref sig .tc .vmem S1x256x512 .f32) (harg11 : arg11.IsWhole) (arg12 : Memref sig .tc .vmem S8x1x256x512 .f32) (harg12 : arg12.IsWhole) (arg13 : Memref sig .tc .vmem S1536x2048 .bf16) (harg13 : arg13.IsWhole) (arg14 : Memref sig .tc .vmem S512x1536 .f32) (harg14 : arg14.IsWhole) (h1 : ¬Scalar.cmpi .ne (Scalar.extui (Scalar.cmpi .eq (BitVec.ofNat 32 (i 1).val) 0#32)) 0#32 = 1#1) (h2 : ¬k0_cond2 i = 1#1) (h3 : k0_cond3 i = 1#1)
    (x0 : Vec Ideal S512x2048 .bf16) (x1 : Vec Ideal S1x256x2048 .f32) (x2 : Vec Ideal S1x256x2048 .f32) (x3 : Vec Ideal S1x512x2048 .f32) (x4 : Vec Ideal S1x512x2048 .f32) (x5 : Vec Ideal S512x256 .f32) (x6 : Vec Ideal S1x512 .f32) (x7 : Vec Ideal S8x1x256x512 .f32) (u : Vec Ideal S512x1536 .f32)

set_option maxHeartbeats 3200000 in
theorem second_apply (s : Fin 8) (a : Fin 256) (d : Fin 512) :
    View.canon (Val := Elt Ideal) (State.Exact.runSecond (F := Ideal) c i arg2 harg2 arg3 harg3 arg4 harg4 arg5 harg5 arg6 harg6 arg7 harg7 arg8 harg8 arg9 harg9 arg10 harg10 arg11 harg11 arg12 harg12 arg13 harg13 arg14 harg14 h1 h2 h3 x0 x1 x2 x3 x4 x5 x6 x7 u).1 (ix4 s 0 a d) = leftAt 192 (by omega) u x5 x7 s a d := by
  refine Eq.trans ?_ (second_states
    (View.readAt (Elt Ideal) arg14.view (Rect.unit (s := S512x1536) ![192, 256] S16x256.size (by decide)).toLoadRect (harg14.unread u))
    (View.readAt (Elt Ideal) arg14.view (Rect.unit (s := S512x1536) ![208, 256] S16x256.size (by decide)).toLoadRect (harg14.unread u))
    (View.readAt (Elt Ideal) arg14.view (Rect.unit (s := S512x1536) ![224, 256] S16x256.size (by decide)).toLoadRect (harg14.unread u))
    (View.readAt (Elt Ideal) arg14.view (Rect.unit (s := S512x1536) ![240, 256] S16x256.size (by decide)).toLoadRect (harg14.unread u))
    (View.readAt (Elt Ideal) arg14.view (Rect.unit (s := S512x1536) ![256, 256] S16x256.size (by decide)).toLoadRect (harg14.unread u))
    (View.readAt (Elt Ideal) arg14.view (Rect.unit (s := S512x1536) ![272, 256] S16x256.size (by decide)).toLoadRect (harg14.unread u))
    (View.readAt (Elt Ideal) arg14.view (Rect.unit (s := S512x1536) ![288, 256] S16x256.size (by decide)).toLoadRect (harg14.unread u))
    (View.readAt (Elt Ideal) arg14.view (Rect.unit (s := S512x1536) ![304, 256] S16x256.size (by decide)).toLoadRect (harg14.unread u))
    (View.readAt (Elt Ideal) arg7.view (Rect.unit (s := S512x256) ![192, 0] S16x256.size (by decide)).toLoadRect (harg7.unread x5))
    (View.readAt (Elt Ideal) arg7.view (Rect.unit (s := S512x256) ![208, 0] S16x256.size (by decide)).toLoadRect (harg7.unread x5))
    (View.readAt (Elt Ideal) arg7.view (Rect.unit (s := S512x256) ![224, 0] S16x256.size (by decide)).toLoadRect (harg7.unread x5))
    (View.readAt (Elt Ideal) arg7.view (Rect.unit (s := S512x256) ![240, 0] S16x256.size (by decide)).toLoadRect (harg7.unread x5))
    (View.readAt (Elt Ideal) arg7.view (Rect.unit (s := S512x256) ![256, 0] S16x256.size (by decide)).toLoadRect (harg7.unread x5))
    (View.readAt (Elt Ideal) arg7.view (Rect.unit (s := S512x256) ![272, 0] S16x256.size (by decide)).toLoadRect (harg7.unread x5))
    (View.readAt (Elt Ideal) arg7.view (Rect.unit (s := S512x256) ![288, 0] S16x256.size (by decide)).toLoadRect (harg7.unread x5))
    (View.readAt (Elt Ideal) arg7.view (Rect.unit (s := S512x256) ![304, 0] S16x256.size (by decide)).toLoadRect (harg7.unread x5))
    (View.readAt (Elt Ideal) arg14.view (Rect.unit (s := S512x1536) ![192, 512] S16x512.size (by decide)).toLoadRect (harg14.unread u))
    (View.readAt (Elt Ideal) arg14.view (Rect.unit (s := S512x1536) ![208, 512] S16x512.size (by decide)).toLoadRect (harg14.unread u))
    (View.readAt (Elt Ideal) arg14.view (Rect.unit (s := S512x1536) ![224, 512] S16x512.size (by decide)).toLoadRect (harg14.unread u))
    (View.readAt (Elt Ideal) arg14.view (Rect.unit (s := S512x1536) ![240, 512] S16x512.size (by decide)).toLoadRect (harg14.unread u))
    (View.readAt (Elt Ideal) arg14.view (Rect.unit (s := S512x1536) ![256, 512] S16x512.size (by decide)).toLoadRect (harg14.unread u))
    (View.readAt (Elt Ideal) arg14.view (Rect.unit (s := S512x1536) ![272, 512] S16x512.size (by decide)).toLoadRect (harg14.unread u))
    (View.readAt (Elt Ideal) arg14.view (Rect.unit (s := S512x1536) ![288, 512] S16x512.size (by decide)).toLoadRect (harg14.unread u))
    (View.readAt (Elt Ideal) arg14.view (Rect.unit (s := S512x1536) ![304, 512] S16x512.size (by decide)).toLoadRect (harg14.unread u))
    (View.readAt (Elt Ideal) arg9.view (Rect.unit (s := S8x1x256x512) ![0, 0, 0, 0] S1x1x256x512.size (by decide)).toLoadRect (harg9.unread x7))
    (View.readAt (Elt Ideal) arg9.view (Rect.unit (s := S8x1x256x512) ![1, 0, 0, 0] S1x1x256x512.size (by decide)).toLoadRect (harg9.unread x7))
    (View.readAt (Elt Ideal) arg9.view (Rect.unit (s := S8x1x256x512) ![2, 0, 0, 0] S1x1x256x512.size (by decide)).toLoadRect (harg9.unread x7))
    (View.readAt (Elt Ideal) arg9.view (Rect.unit (s := S8x1x256x512) ![3, 0, 0, 0] S1x1x256x512.size (by decide)).toLoadRect (harg9.unread x7))
    (View.readAt (Elt Ideal) arg9.view (Rect.unit (s := S8x1x256x512) ![4, 0, 0, 0] S1x1x256x512.size (by decide)).toLoadRect (harg9.unread x7))
    (View.readAt (Elt Ideal) arg9.view (Rect.unit (s := S8x1x256x512) ![5, 0, 0, 0] S1x1x256x512.size (by decide)).toLoadRect (harg9.unread x7))
    (View.readAt (Elt Ideal) arg9.view (Rect.unit (s := S8x1x256x512) ![6, 0, 0, 0] S1x1x256x512.size (by decide)).toLoadRect (harg9.unread x7))
    (View.readAt (Elt Ideal) arg9.view (Rect.unit (s := S8x1x256x512) ![7, 0, 0, 0] S1x1x256x512.size (by decide)).toLoadRect (harg9.unread x7))
    u x5 x7 ?_ ?_ ?_ ?_ s a d)
  · rfl
  · intro s p a
    match s with
    | ⟨0, _⟩ => exact load2 arg14 harg14 u 192 256 _ p a (by omega) (by omega)
    | ⟨1, _⟩ => exact load2 arg14 harg14 u 208 256 _ p a (by omega) (by omega)
    | ⟨2, _⟩ => exact load2 arg14 harg14 u 224 256 _ p a (by omega) (by omega)
    | ⟨3, _⟩ => exact load2 arg14 harg14 u 240 256 _ p a (by omega) (by omega)
    | ⟨4, _⟩ => exact load2 arg14 harg14 u 256 256 _ p a (by omega) (by omega)
    | ⟨5, _⟩ => exact load2 arg14 harg14 u 272 256 _ p a (by omega) (by omega)
    | ⟨6, _⟩ => exact load2 arg14 harg14 u 288 256 _ p a (by omega) (by omega)
    | ⟨7, _⟩ => exact load2 arg14 harg14 u 304 256 _ p a (by omega) (by omega)

  · intro s p a
    match s with
    | ⟨0, _⟩ => exact (load2 arg7 harg7 x5 192 0 _ p a (by omega) (by omega)).trans (congrArg (fun r => x5 (ix2 _ r)) (Fin.ext (Nat.zero_add _)))
    | ⟨1, _⟩ => exact (load2 arg7 harg7 x5 208 0 _ p a (by omega) (by omega)).trans (congrArg (fun r => x5 (ix2 _ r)) (Fin.ext (Nat.zero_add _)))
    | ⟨2, _⟩ => exact (load2 arg7 harg7 x5 224 0 _ p a (by omega) (by omega)).trans (congrArg (fun r => x5 (ix2 _ r)) (Fin.ext (Nat.zero_add _)))
    | ⟨3, _⟩ => exact (load2 arg7 harg7 x5 240 0 _ p a (by omega) (by omega)).trans (congrArg (fun r => x5 (ix2 _ r)) (Fin.ext (Nat.zero_add _)))
    | ⟨4, _⟩ => exact (load2 arg7 harg7 x5 256 0 _ p a (by omega) (by omega)).trans (congrArg (fun r => x5 (ix2 _ r)) (Fin.ext (Nat.zero_add _)))
    | ⟨5, _⟩ => exact (load2 arg7 harg7 x5 272 0 _ p a (by omega) (by omega)).trans (congrArg (fun r => x5 (ix2 _ r)) (Fin.ext (Nat.zero_add _)))
    | ⟨6, _⟩ => exact (load2 arg7 harg7 x5 288 0 _ p a (by omega) (by omega)).trans (congrArg (fun r => x5 (ix2 _ r)) (Fin.ext (Nat.zero_add _)))
    | ⟨7, _⟩ => exact (load2 arg7 harg7 x5 304 0 _ p a (by omega) (by omega)).trans (congrArg (fun r => x5 (ix2 _ r)) (Fin.ext (Nat.zero_add _)))

  · intro s p a
    match s with
    | ⟨0, _⟩ => exact load2 arg14 harg14 u 192 512 _ p a (by omega) (by omega)
    | ⟨1, _⟩ => exact load2 arg14 harg14 u 208 512 _ p a (by omega) (by omega)
    | ⟨2, _⟩ => exact load2 arg14 harg14 u 224 512 _ p a (by omega) (by omega)
    | ⟨3, _⟩ => exact load2 arg14 harg14 u 240 512 _ p a (by omega) (by omega)
    | ⟨4, _⟩ => exact load2 arg14 harg14 u 256 512 _ p a (by omega) (by omega)
    | ⟨5, _⟩ => exact load2 arg14 harg14 u 272 512 _ p a (by omega) (by omega)
    | ⟨6, _⟩ => exact load2 arg14 harg14 u 288 512 _ p a (by omega) (by omega)
    | ⟨7, _⟩ => exact load2 arg14 harg14 u 304 512 _ p a (by omega) (by omega)

  · intro s p a
    match s with
    | ⟨0, _⟩ => exact load4 arg9 harg9 x7 0 _ p a
    | ⟨1, _⟩ => exact load4 arg9 harg9 x7 1 _ p a
    | ⟨2, _⟩ => exact load4 arg9 harg9 x7 2 _ p a
    | ⟨3, _⟩ => exact load4 arg9 harg9 x7 3 _ p a
    | ⟨4, _⟩ => exact load4 arg9 harg9 x7 4 _ p a
    | ⟨5, _⟩ => exact load4 arg9 harg9 x7 5 _ p a
    | ⟨6, _⟩ => exact load4 arg9 harg9 x7 6 _ p a
    | ⟨7, _⟩ => exact load4 arg9 harg9 x7 7 _ p a

end

/-! ## The projections -/

theorem keys_col (x w : FVec Ideal S512x2048 .bf16) (v : FVec Ideal S1024x2048 .bf16) (r : Fin 512) (a : Fin 256) :
    (k0_pay4 (F := Ideal) x w v (ix2 r ⟨256 + a.val, by omega⟩) : EReal) = ∑ d : Fin 2048, x (ix2 r d) * w (ix2 ⟨256 + a.val, by omega⟩ d) := by
  pointwise [k0_pay4]

theorem values_col (x w : FVec Ideal S512x2048 .bf16) (v : FVec Ideal S1024x2048 .bf16) (r : Fin 512) (a : Fin 512) :
    (k0_pay4 (F := Ideal) x w v (ix2 r ⟨512 + a.val, by omega⟩) : EReal) = ∑ d : Fin 2048, x (ix2 r d) * v (ix2 ⟨a.val, by omega⟩ d) := by
  pointwise [k0_pay4]
  rw [dif_neg (by omega), dif_neg (by omega), dif_pos (by omega)]
  have e : (⟨512 + a.val - 256 - 256, by omega⟩ : Fin 1024) = ⟨a.val, by omega⟩ := Fin.ext (by dsimp only; omega)
  rw [e]

/-- A row of a head's weights, from the four blocks of weights. -/
def weightRow (x1 x2 : FVec Ideal S1x256x2048 .f32) (x3 x4 : FVec Ideal S1x512x2048 .f32) (j : Fin 1536) (d : Fin 2048) : EReal :=
  if h : j.val < 256 then x1 (ix3 0 ⟨j.val, h⟩ d) else if h' : j.val < 512 then x2 (ix3 0 ⟨j.val - 256, by omega⟩ d)
  else if h'' : j.val < 1024 then x3 (ix3 0 ⟨j.val - 512, by omega⟩ d) else x4 (ix3 0 ⟨j.val - 1024, by omega⟩ d)

section
variable (c : Dev nD) (i : grid0.Coords) (arg2 : Memref sig .tc .vmem S512x2048 .bf16) (harg2 : arg2.IsWhole) (arg3 : Memref sig .tc .vmem S1x256x2048 .f32) (harg3 : arg3.IsWhole) (arg4 : Memref sig .tc .vmem S1x256x2048 .f32) (harg4 : arg4.IsWhole) (arg5 : Memref sig .tc .vmem S1x512x2048 .f32) (harg5 : arg5.IsWhole) (arg6 : Memref sig .tc .vmem S1x512x2048 .f32) (harg6 : arg6.IsWhole) (arg7 : Memref sig .tc .vmem S512x256 .f32) (harg7 : arg7.IsWhole) (arg8 : Memref sig .tc .vmem S1x512 .f32) (harg8 : arg8.IsWhole) (arg9 : Memref sig .tc .vmem S8x1x256x512 .f32) (harg9 : arg9.IsWhole) (arg10 : Memref sig .tc .vmem S512x512 .f32) (harg10 : arg10.IsWhole) (arg11 : Memref sig .tc .vmem S1x256x512 .f32) (harg11 : arg11.IsWhole) (arg12 : Memref sig .tc .vmem S8x1x256x512 .f32) (harg12 : arg12.IsWhole) (arg13 : Memref sig .tc .vmem S1536x2048 .bf16) (harg13 : arg13.IsWhole) (arg14 : Memref sig .tc .vmem S512x1536 .f32) (harg14 : arg14.IsWhole) (h1 : Scalar.cmpi .ne (Scalar.extui (Scalar.cmpi .eq (BitVec.ofNat 32 (i 1).val) 0#32)) 0#32 = 1#1) (h2 : k0_cond2 i = 1#1) (h3 : ¬k0_cond3 i = 1#1)
    (x0 : Vec Ideal S512x2048 .bf16) (x1 : Vec Ideal S1x256x2048 .f32) (x2 : Vec Ideal S1x256x2048 .f32) (x3 : Vec Ideal S1x512x2048 .f32) (x4 : Vec Ideal S1x512x2048 .f32) (x5 : Vec Ideal S512x256 .f32) (x6 : Vec Ideal S1x512 .f32) (x7 : Vec Ideal S8x1x256x512 .f32)

/-- The pieces in which a head's weights are cast. -/
def castList : List (View.Piece (Elt Ideal) S1536x2048 .bf16) :=
  [⟨Rect.unit (s := S1536x2048) ![1280, 0] S256x2048.size inb_S1536x2048_S256x2048_1280_0, k0_pay3 (View.readAt (Elt Ideal) arg6.view (Rect.unit (s := S1x512x2048) ![0, 256, 0] S1x256x2048.size (by decide)).toLoadRect (harg6.unread x4))⟩,
    ⟨Rect.unit (s := S1536x2048) ![1024, 0] S256x2048.size inb_S1536x2048_S256x2048_1024_0, k0_pay11 (View.readAt (Elt Ideal) arg6.view (Rect.unit (s := S1x512x2048) ![0, 0, 0] S1x256x2048.size (by decide)).toLoadRect (harg6.unread x4))⟩,
    ⟨Rect.unit (s := S1536x2048) ![768, 0] S256x2048.size inb_S1536x2048_S256x2048_768_0, k0_pay10 (View.readAt (Elt Ideal) arg5.view (Rect.unit (s := S1x512x2048) ![0, 256, 0] S1x256x2048.size (by decide)).toLoadRect (harg5.unread x3))⟩,
    ⟨Rect.unit (s := S1536x2048) ![512, 0] S256x2048.size inb_S1536x2048_S256x2048_512_0, k0_pay9 (View.readAt (Elt Ideal) arg5.view (Rect.unit (s := S1x512x2048) ![0, 0, 0] S1x256x2048.size (by decide)).toLoadRect (harg5.unread x3))⟩,
    ⟨Rect.unit (s := S1536x2048) ![256, 0] S256x2048.size inb_S1536x2048_S256x2048_256_0, k0_pay8 (View.readAt (Elt Ideal) arg4.view (Rect.unit (s := S1x256x2048) ![0, 0, 0] S1x256x2048.size (by decide)).toLoadRect (harg4.unread x2))⟩,
    ⟨Rect.unit (s := S1536x2048) ![0, 0] S256x2048.size inb_S1536x2048_S256x2048_0_0, k0_pay7 (View.readAt (Elt Ideal) arg3.view (Rect.unit (s := S1x256x2048) ![0, 0, 0] S1x256x2048.size (by decide)).toLoadRect (harg3.unread x1))⟩]

theorem castList_cover : ∀ y, ∃ p ∈ (castList arg3 harg3 arg4 harg4 arg5 harg5 arg6 harg6 x1 x2 x3 x4), y ∈ p.1.set :=
  View.cover_of_tiledL _ S256x2048.size (by sl_kernel_rfl)

set_option maxHeartbeats 1600000 in
theorem castList_apply (j : Fin 1536) (d : Fin 2048) : View.canon (Val := Elt Ideal) (castList arg3 harg3 arg4 harg4 arg5 harg5 arg6 harg6 x1 x2 x3 x4) (ix2 j d) = weightRow x1 x2 x3 x4 j d := by
  refine View.canon_apply_of_pieces (Val := Elt Ideal) (fun y : S1536x2048.Idx => weightRow x1 x2 x3 x4 (y 0) (y 1))
    _ ?_ (ix2 j d) (castList_cover arg3 harg3 arg4 harg4 arg5 harg5 arg6 harg6 x1 x2 x3 x4 _)
  unfold castList
  intro p hp
  simp only [List.mem_cons, List.not_mem_nil, or_false] at hp
  rcases hp with rfl | rfl | rfl | rfl | rfl | rfl
  · intro z
    obtain ⟨j, d, rfl⟩ : ∃ (j : Fin 256) (d : Fin 2048), z = ix2 j d := ⟨z 0, z 1, by funext b; fin_cases b <;> rfl⟩
    refine Eq.trans (b := x4 (ix3 0 ⟨256 + j.val, by omega⟩ d)) ?_ (Eq.symm ?_)
    · refine Eq.trans ?_ (load3 arg6 harg6 x4 256 (by decide) j d (by omega))
      pointwise [k0_pay3]
    dsimp only
    refine (congrArg (fun y : S1536x2048.Idx => weightRow x1 x2 x3 x4 (y 0) (y 1)) (at2 1280 0 _ j d (by omega) (by omega))).trans ?_
    show weightRow x1 x2 x3 x4 ⟨1280 + j.val, _⟩ ⟨0 + d.val, _⟩ = _
    unfold weightRow
    rw [dif_neg (by dsimp only; omega)]
    rw [dif_neg (by dsimp only; omega)]
    rw [dif_neg (by dsimp only; omega)]
    exact congrArg x4 (by
      refine congrArg₂ (ix3 0) (Fin.ext ?_) (Fin.ext (Nat.zero_add _))
      dsimp only
      omega)
  · intro z
    obtain ⟨j, d, rfl⟩ : ∃ (j : Fin 256) (d : Fin 2048), z = ix2 j d := ⟨z 0, z 1, by funext b; fin_cases b <;> rfl⟩
    refine Eq.trans (b := x4 (ix3 0 ⟨0 + j.val, by omega⟩ d)) ?_ (Eq.symm ?_)
    · refine Eq.trans ?_ (load3 arg6 harg6 x4 0 (by decide) j d (by omega))
      pointwise [k0_pay11]
    dsimp only
    refine (congrArg (fun y : S1536x2048.Idx => weightRow x1 x2 x3 x4 (y 0) (y 1)) (at2 1024 0 _ j d (by omega) (by omega))).trans ?_
    show weightRow x1 x2 x3 x4 ⟨1024 + j.val, _⟩ ⟨0 + d.val, _⟩ = _
    unfold weightRow
    rw [dif_neg (by dsimp only; omega)]
    rw [dif_neg (by dsimp only; omega)]
    rw [dif_neg (by dsimp only; omega)]
    exact congrArg x4 (by
      refine congrArg₂ (ix3 0) (Fin.ext ?_) (Fin.ext (Nat.zero_add _))
      dsimp only
      omega)
  · intro z
    obtain ⟨j, d, rfl⟩ : ∃ (j : Fin 256) (d : Fin 2048), z = ix2 j d := ⟨z 0, z 1, by funext b; fin_cases b <;> rfl⟩
    refine Eq.trans (b := x3 (ix3 0 ⟨256 + j.val, by omega⟩ d)) ?_ (Eq.symm ?_)
    · refine Eq.trans ?_ (load3 arg5 harg5 x3 256 (by decide) j d (by omega))
      pointwise [k0_pay10]
    dsimp only
    refine (congrArg (fun y : S1536x2048.Idx => weightRow x1 x2 x3 x4 (y 0) (y 1)) (at2 768 0 _ j d (by omega) (by omega))).trans ?_
    show weightRow x1 x2 x3 x4 ⟨768 + j.val, _⟩ ⟨0 + d.val, _⟩ = _
    unfold weightRow
    rw [dif_neg (by dsimp only; omega)]
    rw [dif_neg (by dsimp only; omega)]
    rw [dif_pos (by dsimp only; omega)]
    exact congrArg x3 (by
      refine congrArg₂ (ix3 0) (Fin.ext ?_) (Fin.ext (Nat.zero_add _))
      dsimp only
      omega)
  · intro z
    obtain ⟨j, d, rfl⟩ : ∃ (j : Fin 256) (d : Fin 2048), z = ix2 j d := ⟨z 0, z 1, by funext b; fin_cases b <;> rfl⟩
    refine Eq.trans (b := x3 (ix3 0 ⟨0 + j.val, by omega⟩ d)) ?_ (Eq.symm ?_)
    · refine Eq.trans ?_ (load3 arg5 harg5 x3 0 (by decide) j d (by omega))
      pointwise [k0_pay9]
    dsimp only
    refine (congrArg (fun y : S1536x2048.Idx => weightRow x1 x2 x3 x4 (y 0) (y 1)) (at2 512 0 _ j d (by omega) (by omega))).trans ?_
    show weightRow x1 x2 x3 x4 ⟨512 + j.val, _⟩ ⟨0 + d.val, _⟩ = _
    unfold weightRow
    rw [dif_neg (by dsimp only; omega)]
    rw [dif_neg (by dsimp only; omega)]
    rw [dif_pos (by dsimp only; omega)]
    exact congrArg x3 (by
      refine congrArg₂ (ix3 0) (Fin.ext ?_) (Fin.ext (Nat.zero_add _))
      dsimp only
      omega)
  · intro z
    obtain ⟨j, d, rfl⟩ : ∃ (j : Fin 256) (d : Fin 2048), z = ix2 j d := ⟨z 0, z 1, by funext b; fin_cases b <;> rfl⟩
    refine Eq.trans (b := x2 (ix3 0 ⟨0 + j.val, by omega⟩ d)) ?_ (Eq.symm ?_)
    · refine Eq.trans ?_ (load3 arg4 harg4 x2 0 (by decide) j d (by omega))
      pointwise [k0_pay8]
    dsimp only
    refine (congrArg (fun y : S1536x2048.Idx => weightRow x1 x2 x3 x4 (y 0) (y 1)) (at2 256 0 _ j d (by omega) (by omega))).trans ?_
    show weightRow x1 x2 x3 x4 ⟨256 + j.val, _⟩ ⟨0 + d.val, _⟩ = _
    unfold weightRow
    rw [dif_neg (by dsimp only; omega)]
    rw [dif_pos (by dsimp only; omega)]
    exact congrArg x2 (by
      refine congrArg₂ (ix3 0) (Fin.ext ?_) (Fin.ext (Nat.zero_add _))
      dsimp only
      omega)
  · intro z
    obtain ⟨j, d, rfl⟩ : ∃ (j : Fin 256) (d : Fin 2048), z = ix2 j d := ⟨z 0, z 1, by funext b; fin_cases b <;> rfl⟩
    refine Eq.trans (b := x1 (ix3 0 ⟨0 + j.val, by omega⟩ d)) ?_ (Eq.symm ?_)
    · refine Eq.trans ?_ (load3 arg3 harg3 x1 0 (by decide) j d (by omega))
      pointwise [k0_pay7]
    dsimp only
    refine (congrArg (fun y : S1536x2048.Idx => weightRow x1 x2 x3 x4 (y 0) (y 1)) (at2 0 0 _ j d (by omega) (by omega))).trans ?_
    show weightRow x1 x2 x3 x4 ⟨0 + j.val, _⟩ ⟨0 + d.val, _⟩ = _
    unfold weightRow
    rw [dif_pos (by dsimp only; omega)]
    exact congrArg x1 (by
      refine congrArg₂ (ix3 0) (Fin.ext ?_) (Fin.ext (Nat.zero_add _))
      dsimp only)

theorem proj_eq : (Exact.runFirst (F := Ideal) c i arg2 harg2 arg3 harg3 arg4 harg4 arg5 harg5 arg6 harg6 arg7 harg7 arg8 harg8 arg9 harg9 arg10 harg10 arg11 harg11 arg12 harg12 arg13 harg13 arg14 harg14 h1 h2 h3 x0 x1 x2 x3 x4 x5 x6 x7).2.1 = [⟨Rect.unit (s := S512x1536) ![0, 0] S512x1536.size (by decide),
    k0_pay4 (View.readAt (Elt Ideal) arg2.view (Rect.unit (s := S512x2048) ![0, 0] S512x2048.size (by decide)).toLoadRect (harg2.unread x0)) (arg13.view.readCov (castList arg3 harg3 arg4 harg4 arg5 harg5 arg6 harg6 x1 x2 x3 x4) (Rect.unit (s := S1536x2048) ![0, 0] S512x2048.size (by decide)).toLoadRect) (arg13.view.readCov (castList arg3 harg3 arg4 harg4 arg5 harg5 arg6 harg6 x1 x2 x3 x4) (Rect.unit (s := S1536x2048) ![512, 0] S1024x2048.size (by decide)).toLoadRect)⟩] := rfl

theorem proj_keys (r : Fin 512) (a : Fin 256) : View.canon (Val := Elt Ideal) ((Exact.runFirst (F := Ideal) c i arg2 harg2 arg3 harg3 arg4 harg4 arg5 harg5 arg6 harg6 arg7 harg7 arg8 harg8 arg9 harg9 arg10 harg10 arg11 harg11 arg12 harg12 arg13 harg13 arg14 harg14 h1 h2 h3 x0 x1 x2 x3 x4 x5 x6 x7).2.1) (ix2 r ⟨256 + a.val, by omega⟩)
    = ∑ d : Fin 2048, x0 (ix2 r d) * x2 (ix3 0 a d) := by
  rw [proj_eq, View.canon_unit_zero origin2, keys_col]
  refine Finset.sum_congr rfl fun d _ => congrArg₂ (· * ·) ?_ ?_
  · refine (load2 arg2 harg2 x0 0 0 _ r d (by omega) (by omega)).trans (congrArg x0 (congrArg₂ ix2 (Fin.ext (Nat.zero_add _)) (Fin.ext (Nat.zero_add _))))
  · refine (loadCov arg13.view _ (castList_cover arg3 harg3 arg4 harg4 arg5 harg5 arg6 harg6 x1 x2 x3 x4) 0 0 _ _ d (by dsimp only; omega) (by omega)).trans ?_
    rw [castList_apply]
    unfold weightRow
    rw [dif_neg (by dsimp only; omega), dif_pos (by dsimp only; omega)]
    refine congrArg x2 (congrArg₂ (ix3 0) (Fin.ext ?_) (Fin.ext (Nat.zero_add _)))
    dsimp only
    omega

theorem proj_values (r : Fin 512) (a : Fin 512) : View.canon (Val := Elt Ideal) ((Exact.runFirst (F := Ideal) c i arg2 harg2 arg3 harg3 arg4 harg4 arg5 harg5 arg6 harg6 arg7 harg7 arg8 harg8 arg9 harg9 arg10 harg10 arg11 harg11 arg12 harg12 arg13 harg13 arg14 harg14 h1 h2 h3 x0 x1 x2 x3 x4 x5 x6 x7).2.1) (ix2 r ⟨512 + a.val, by omega⟩)
    = ∑ d : Fin 2048, x0 (ix2 r d) * x3 (ix3 0 a d) := by
  rw [proj_eq, View.canon_unit_zero origin2, values_col]
  refine Finset.sum_congr rfl fun d _ => congrArg₂ (· * ·) ?_ ?_
  · refine (load2 arg2 harg2 x0 0 0 _ r d (by omega) (by omega)).trans (congrArg x0 (congrArg₂ ix2 (Fin.ext (Nat.zero_add _)) (Fin.ext (Nat.zero_add _))))
  · refine (loadCov arg13.view _ (castList_cover arg3 harg3 arg4 harg4 arg5 harg5 arg6 harg6 x1 x2 x3 x4) 512 0 _ _ d (by dsimp only; omega) (by omega)).trans ?_
    rw [castList_apply]
    unfold weightRow
    rw [dif_neg (by dsimp only; omega), dif_neg (by dsimp only; omega), dif_pos (by dsimp only; omega)]
    refine congrArg x3 (congrArg₂ (ix3 0) (Fin.ext ?_) (Fin.ext (Nat.zero_add _)))
    dsimp only
    omega

/-! ## The first half -/

set_option maxHeartbeats 3200000 in
theorem first_apply (s : Fin 8) (a : Fin 256) (d : Fin 512) :
    View.canon (Val := Elt Ideal) (State.Exact.runFirst (F := Ideal) c i arg2 harg2 arg3 harg3 arg4 harg4 arg5 harg5 arg6 harg6 arg7 harg7 arg8 harg8 arg9 harg9 arg10 harg10 arg11 harg11 arg12 harg12 arg13 harg13 arg14 harg14 h1 h2 h3 x0 x1 x2 x3 x4 x5 x6 x7).1 (ix4 s 0 a d) = leftAt 64 (by omega) (View.canon (Val := Elt Ideal) ((Exact.runFirst (F := Ideal) c i arg2 harg2 arg3 harg3 arg4 harg4 arg5 harg5 arg6 harg6 arg7 harg7 arg8 harg8 arg9 harg9 arg10 harg10 arg11 harg11 arg12 harg12 arg13 harg13 arg14 harg14 h1 h2 h3 x0 x1 x2 x3 x4 x5 x6 x7).2.1)) x5 x7 s a d := by
  refine Eq.trans ?_ (first_states
        (arg14.view.readCov ((Exact.runFirst (F := Ideal) c i arg2 harg2 arg3 harg3 arg4 harg4 arg5 harg5 arg6 harg6 arg7 harg7 arg8 harg8 arg9 harg9 arg10 harg10 arg11 harg11 arg12 harg12 arg13 harg13 arg14 harg14 h1 h2 h3 x0 x1 x2 x3 x4 x5 x6 x7).2.1) (Rect.unit (s := S512x1536) ![0, 256] S64x256.size (by decide)).toLoadRect)
    (View.readAt (Elt Ideal) arg7.view (Rect.unit (s := S512x256) ![0, 0] S64x256.size (by decide)).toLoadRect (harg7.unread x5))
    (arg14.view.readCov ((Exact.runFirst (F := Ideal) c i arg2 harg2 arg3 harg3 arg4 harg4 arg5 harg5 arg6 harg6 arg7 harg7 arg8 harg8 arg9 harg9 arg10 harg10 arg11 harg11 arg12 harg12 arg13 harg13 arg14 harg14 h1 h2 h3 x0 x1 x2 x3 x4 x5 x6 x7).2.1) (Rect.unit (s := S512x1536) ![0, 512] S64x512.size (by decide)).toLoadRect)
    (arg14.view.readCov ((Exact.runFirst (F := Ideal) c i arg2 harg2 arg3 harg3 arg4 harg4 arg5 harg5 arg6 harg6 arg7 harg7 arg8 harg8 arg9 harg9 arg10 harg10 arg11 harg11 arg12 harg12 arg13 harg13 arg14 harg14 h1 h2 h3 x0 x1 x2 x3 x4 x5 x6 x7).2.1) (Rect.unit (s := S512x1536) ![64, 256] S16x256.size (by decide)).toLoadRect)
    (arg14.view.readCov ((Exact.runFirst (F := Ideal) c i arg2 harg2 arg3 harg3 arg4 harg4 arg5 harg5 arg6 harg6 arg7 harg7 arg8 harg8 arg9 harg9 arg10 harg10 arg11 harg11 arg12 harg12 arg13 harg13 arg14 harg14 h1 h2 h3 x0 x1 x2 x3 x4 x5 x6 x7).2.1) (Rect.unit (s := S512x1536) ![80, 256] S16x256.size (by decide)).toLoadRect)
    (arg14.view.readCov ((Exact.runFirst (F := Ideal) c i arg2 harg2 arg3 harg3 arg4 harg4 arg5 harg5 arg6 harg6 arg7 harg7 arg8 harg8 arg9 harg9 arg10 harg10 arg11 harg11 arg12 harg12 arg13 harg13 arg14 harg14 h1 h2 h3 x0 x1 x2 x3 x4 x5 x6 x7).2.1) (Rect.unit (s := S512x1536) ![96, 256] S16x256.size (by decide)).toLoadRect)
    (arg14.view.readCov ((Exact.runFirst (F := Ideal) c i arg2 harg2 arg3 harg3 arg4 harg4 arg5 harg5 arg6 harg6 arg7 harg7 arg8 harg8 arg9 harg9 arg10 harg10 arg11 harg11 arg12 harg12 arg13 harg13 arg14 harg14 h1 h2 h3 x0 x1 x2 x3 x4 x5 x6 x7).2.1) (Rect.unit (s := S512x1536) ![112, 256] S16x256.size (by decide)).toLoadRect)
    (arg14.view.readCov ((Exact.runFirst (F := Ideal) c i arg2 harg2 arg3 harg3 arg4 harg4 arg5 harg5 arg6 harg6 arg7 harg7 arg8 harg8 arg9 harg9 arg10 harg10 arg11 harg11 arg12 harg12 arg13 harg13 arg14 harg14 h1 h2 h3 x0 x1 x2 x3 x4 x5 x6 x7).2.1) (Rect.unit (s := S512x1536) ![128, 256] S16x256.size (by decide)).toLoadRect)
    (arg14.view.readCov ((Exact.runFirst (F := Ideal) c i arg2 harg2 arg3 harg3 arg4 harg4 arg5 harg5 arg6 harg6 arg7 harg7 arg8 harg8 arg9 harg9 arg10 harg10 arg11 harg11 arg12 harg12 arg13 harg13 arg14 harg14 h1 h2 h3 x0 x1 x2 x3 x4 x5 x6 x7).2.1) (Rect.unit (s := S512x1536) ![144, 256] S16x256.size (by decide)).toLoadRect)
    (arg14.view.readCov ((Exact.runFirst (F := Ideal) c i arg2 harg2 arg3 harg3 arg4 harg4 arg5 harg5 arg6 harg6 arg7 harg7 arg8 harg8 arg9 harg9 arg10 harg10 arg11 harg11 arg12 harg12 arg13 harg13 arg14 harg14 h1 h2 h3 x0 x1 x2 x3 x4 x5 x6 x7).2.1) (Rect.unit (s := S512x1536) ![160, 256] S16x256.size (by decide)).toLoadRect)
    (arg14.view.readCov ((Exact.runFirst (F := Ideal) c i arg2 harg2 arg3 harg3 arg4 harg4 arg5 harg5 arg6 harg6 arg7 harg7 arg8 harg8 arg9 harg9 arg10 harg10 arg11 harg11 arg12 harg12 arg13 harg13 arg14 harg14 h1 h2 h3 x0 x1 x2 x3 x4 x5 x6 x7).2.1) (Rect.unit (s := S512x1536) ![176, 256] S16x256.size (by decide)).toLoadRect)
    (View.readAt (Elt Ideal) arg7.view (Rect.unit (s := S512x256) ![64, 0] S16x256.size (by decide)).toLoadRect (harg7.unread x5))
    (View.readAt (Elt Ideal) arg7.view (Rect.unit (s := S512x256) ![80, 0] S16x256.size (by decide)).toLoadRect (harg7.unread x5))
    (View.readAt (Elt Ideal) arg7.view (Rect.unit (s := S512x256) ![96, 0] S16x256.size (by decide)).toLoadRect (harg7.unread x5))
    (View.readAt (Elt Ideal) arg7.view (Rect.unit (s := S512x256) ![112, 0] S16x256.size (by decide)).toLoadRect (harg7.unread x5))
    (View.readAt (Elt Ideal) arg7.view (Rect.unit (s := S512x256) ![128, 0] S16x256.size (by decide)).toLoadRect (harg7.unread x5))
    (View.readAt (Elt Ideal) arg7.view (Rect.unit (s := S512x256) ![144, 0] S16x256.size (by decide)).toLoadRect (harg7.unread x5))
    (View.readAt (Elt Ideal) arg7.view (Rect.unit (s := S512x256) ![160, 0] S16x256.size (by decide)).toLoadRect (harg7.unread x5))
    (View.readAt (Elt Ideal) arg7.view (Rect.unit (s := S512x256) ![176, 0] S16x256.size (by decide)).toLoadRect (harg7.unread x5))
    (arg14.view.readCov ((Exact.runFirst (F := Ideal) c i arg2 harg2 arg3 harg3 arg4 harg4 arg5 harg5 arg6 harg6 arg7 harg7 arg8 harg8 arg9 harg9 arg10 harg10 arg11 harg11 arg12 harg12 arg13 harg13 arg14 harg14 h1 h2 h3 x0 x1 x2 x3 x4 x5 x6 x7).2.1) (Rect.unit (s := S512x1536) ![64, 512] S16x512.size (by decide)).toLoadRect)
    (arg14.view.readCov ((Exact.runFirst (F := Ideal) c i arg2 harg2 arg3 harg3 arg4 harg4 arg5 harg5 arg6 harg6 arg7 harg7 arg8 harg8 arg9 harg9 arg10 harg10 arg11 harg11 arg12 harg12 arg13 harg13 arg14 harg14 h1 h2 h3 x0 x1 x2 x3 x4 x5 x6 x7).2.1) (Rect.unit (s := S512x1536) ![80, 512] S16x512.size (by decide)).toLoadRect)
    (arg14.view.readCov ((Exact.runFirst (F := Ideal) c i arg2 harg2 arg3 harg3 arg4 harg4 arg5 harg5 arg6 harg6 arg7 harg7 arg8 harg8 arg9 harg9 arg10 harg10 arg11 harg11 arg12 harg12 arg13 harg13 arg14 harg14 h1 h2 h3 x0 x1 x2 x3 x4 x5 x6 x7).2.1) (Rect.unit (s := S512x1536) ![96, 512] S16x512.size (by decide)).toLoadRect)
    (arg14.view.readCov ((Exact.runFirst (F := Ideal) c i arg2 harg2 arg3 harg3 arg4 harg4 arg5 harg5 arg6 harg6 arg7 harg7 arg8 harg8 arg9 harg9 arg10 harg10 arg11 harg11 arg12 harg12 arg13 harg13 arg14 harg14 h1 h2 h3 x0 x1 x2 x3 x4 x5 x6 x7).2.1) (Rect.unit (s := S512x1536) ![112, 512] S16x512.size (by decide)).toLoadRect)
    (arg14.view.readCov ((Exact.runFirst (F := Ideal) c i arg2 harg2 arg3 harg3 arg4 harg4 arg5 harg5 arg6 harg6 arg7 harg7 arg8 harg8 arg9 harg9 arg10 harg10 arg11 harg11 arg12 harg12 arg13 harg13 arg14 harg14 h1 h2 h3 x0 x1 x2 x3 x4 x5 x6 x7).2.1) (Rect.unit (s := S512x1536) ![128, 512] S16x512.size (by decide)).toLoadRect)
    (arg14.view.readCov ((Exact.runFirst (F := Ideal) c i arg2 harg2 arg3 harg3 arg4 harg4 arg5 harg5 arg6 harg6 arg7 harg7 arg8 harg8 arg9 harg9 arg10 harg10 arg11 harg11 arg12 harg12 arg13 harg13 arg14 harg14 h1 h2 h3 x0 x1 x2 x3 x4 x5 x6 x7).2.1) (Rect.unit (s := S512x1536) ![144, 512] S16x512.size (by decide)).toLoadRect)
    (arg14.view.readCov ((Exact.runFirst (F := Ideal) c i arg2 harg2 arg3 harg3 arg4 harg4 arg5 harg5 arg6 harg6 arg7 harg7 arg8 harg8 arg9 harg9 arg10 harg10 arg11 harg11 arg12 harg12 arg13 harg13 arg14 harg14 h1 h2 h3 x0 x1 x2 x3 x4 x5 x6 x7).2.1) (Rect.unit (s := S512x1536) ![160, 512] S16x512.size (by decide)).toLoadRect)
    (arg14.view.readCov ((Exact.runFirst (F := Ideal) c i arg2 harg2 arg3 harg3 arg4 harg4 arg5 harg5 arg6 harg6 arg7 harg7 arg8 harg8 arg9 harg9 arg10 harg10 arg11 harg11 arg12 harg12 arg13 harg13 arg14 harg14 h1 h2 h3 x0 x1 x2 x3 x4 x5 x6 x7).2.1) (Rect.unit (s := S512x1536) ![176, 512] S16x512.size (by decide)).toLoadRect)
    (View.readAt (Elt Ideal) arg9.view (Rect.unit (s := S8x1x256x512) ![0, 0, 0, 0] S1x1x256x512.size (by decide)).toLoadRect (harg9.unread x7))
    (View.readAt (Elt Ideal) arg9.view (Rect.unit (s := S8x1x256x512) ![1, 0, 0, 0] S1x1x256x512.size (by decide)).toLoadRect (harg9.unread x7))
    (View.readAt (Elt Ideal) arg9.view (Rect.unit (s := S8x1x256x512) ![2, 0, 0, 0] S1x1x256x512.size (by decide)).toLoadRect (harg9.unread x7))
    (View.readAt (Elt Ideal) arg9.view (Rect.unit (s := S8x1x256x512) ![3, 0, 0, 0] S1x1x256x512.size (by decide)).toLoadRect (harg9.unread x7))
    (View.readAt (Elt Ideal) arg9.view (Rect.unit (s := S8x1x256x512) ![4, 0, 0, 0] S1x1x256x512.size (by decide)).toLoadRect (harg9.unread x7))
    (View.readAt (Elt Ideal) arg9.view (Rect.unit (s := S8x1x256x512) ![5, 0, 0, 0] S1x1x256x512.size (by decide)).toLoadRect (harg9.unread x7))
    (View.readAt (Elt Ideal) arg9.view (Rect.unit (s := S8x1x256x512) ![6, 0, 0, 0] S1x1x256x512.size (by decide)).toLoadRect (harg9.unread x7))
    (View.readAt (Elt Ideal) arg9.view (Rect.unit (s := S8x1x256x512) ![7, 0, 0, 0] S1x1x256x512.size (by decide)).toLoadRect (harg9.unread x7))
    (View.canon (Val := Elt Ideal) ((Exact.runFirst (F := Ideal) c i arg2 harg2 arg3 harg3 arg4 harg4 arg5 harg5 arg6 harg6 arg7 harg7 arg8 harg8 arg9 harg9 arg10 harg10 arg11 harg11 arg12 harg12 arg13 harg13 arg14 harg14 h1 h2 h3 x0 x1 x2 x3 x4 x5 x6 x7).2.1)) x5 x7 ?_ ?_ ?_ ?_ s a d)
  · rw [← rolled_first, ← decayed_first]
    rfl
  · intro s p a
    match s with
    | ⟨0, _⟩ => exact loadCov arg14.view _ (View.cover_of_tiledL _ S512x1536.size (by sl_kernel_rfl)) 64 256 _ p a (by omega) (by omega)
    | ⟨1, _⟩ => exact loadCov arg14.view _ (View.cover_of_tiledL _ S512x1536.size (by sl_kernel_rfl)) 80 256 _ p a (by omega) (by omega)
    | ⟨2, _⟩ => exact loadCov arg14.view _ (View.cover_of_tiledL _ S512x1536.size (by sl_kernel_rfl)) 96 256 _ p a (by omega) (by omega)
    | ⟨3, _⟩ => exact loadCov arg14.view _ (View.cover_of_tiledL _ S512x1536.size (by sl_kernel_rfl)) 112 256 _ p a (by omega) (by omega)
    | ⟨4, _⟩ => exact loadCov arg14.view _ (View.cover_of_tiledL _ S512x1536.size (by sl_kernel_rfl)) 128 256 _ p a (by omega) (by omega)
    | ⟨5, _⟩ => exact loadCov arg14.view _ (View.cover_of_tiledL _ S512x1536.size (by sl_kernel_rfl)) 144 256 _ p a (by omega) (by omega)
    | ⟨6, _⟩ => exact loadCov arg14.view _ (View.cover_of_tiledL _ S512x1536.size (by sl_kernel_rfl)) 160 256 _ p a (by omega) (by omega)
    | ⟨7, _⟩ => exact loadCov arg14.view _ (View.cover_of_tiledL _ S512x1536.size (by sl_kernel_rfl)) 176 256 _ p a (by omega) (by omega)

  · intro s p a
    match s with
    | ⟨0, _⟩ => exact (load2 arg7 harg7 x5 64 0 _ p a (by omega) (by omega)).trans (congrArg (fun r => x5 (ix2 _ r)) (Fin.ext (Nat.zero_add _)))
    | ⟨1, _⟩ => exact (load2 arg7 harg7 x5 80 0 _ p a (by omega) (by omega)).trans (congrArg (fun r => x5 (ix2 _ r)) (Fin.ext (Nat.zero_add _)))
    | ⟨2, _⟩ => exact (load2 arg7 harg7 x5 96 0 _ p a (by omega) (by omega)).trans (congrArg (fun r => x5 (ix2 _ r)) (Fin.ext (Nat.zero_add _)))
    | ⟨3, _⟩ => exact (load2 arg7 harg7 x5 112 0 _ p a (by omega) (by omega)).trans (congrArg (fun r => x5 (ix2 _ r)) (Fin.ext (Nat.zero_add _)))
    | ⟨4, _⟩ => exact (load2 arg7 harg7 x5 128 0 _ p a (by omega) (by omega)).trans (congrArg (fun r => x5 (ix2 _ r)) (Fin.ext (Nat.zero_add _)))
    | ⟨5, _⟩ => exact (load2 arg7 harg7 x5 144 0 _ p a (by omega) (by omega)).trans (congrArg (fun r => x5 (ix2 _ r)) (Fin.ext (Nat.zero_add _)))
    | ⟨6, _⟩ => exact (load2 arg7 harg7 x5 160 0 _ p a (by omega) (by omega)).trans (congrArg (fun r => x5 (ix2 _ r)) (Fin.ext (Nat.zero_add _)))
    | ⟨7, _⟩ => exact (load2 arg7 harg7 x5 176 0 _ p a (by omega) (by omega)).trans (congrArg (fun r => x5 (ix2 _ r)) (Fin.ext (Nat.zero_add _)))

  · intro s p a
    match s with
    | ⟨0, _⟩ => exact loadCov arg14.view _ (View.cover_of_tiledL _ S512x1536.size (by sl_kernel_rfl)) 64 512 _ p a (by omega) (by omega)
    | ⟨1, _⟩ => exact loadCov arg14.view _ (View.cover_of_tiledL _ S512x1536.size (by sl_kernel_rfl)) 80 512 _ p a (by omega) (by omega)
    | ⟨2, _⟩ => exact loadCov arg14.view _ (View.cover_of_tiledL _ S512x1536.size (by sl_kernel_rfl)) 96 512 _ p a (by omega) (by omega)
    | ⟨3, _⟩ => exact loadCov arg14.view _ (View.cover_of_tiledL _ S512x1536.size (by sl_kernel_rfl)) 112 512 _ p a (by omega) (by omega)
    | ⟨4, _⟩ => exact loadCov arg14.view _ (View.cover_of_tiledL _ S512x1536.size (by sl_kernel_rfl)) 128 512 _ p a (by omega) (by omega)
    | ⟨5, _⟩ => exact loadCov arg14.view _ (View.cover_of_tiledL _ S512x1536.size (by sl_kernel_rfl)) 144 512 _ p a (by omega) (by omega)
    | ⟨6, _⟩ => exact loadCov arg14.view _ (View.cover_of_tiledL _ S512x1536.size (by sl_kernel_rfl)) 160 512 _ p a (by omega) (by omega)
    | ⟨7, _⟩ => exact loadCov arg14.view _ (View.cover_of_tiledL _ S512x1536.size (by sl_kernel_rfl)) 176 512 _ p a (by omega) (by omega)

  · intro s p a
    match s with
    | ⟨0, _⟩ => exact load4 arg9 harg9 x7 0 _ p a
    | ⟨1, _⟩ => exact load4 arg9 harg9 x7 1 _ p a
    | ⟨2, _⟩ => exact load4 arg9 harg9 x7 2 _ p a
    | ⟨3, _⟩ => exact load4 arg9 harg9 x7 3 _ p a
    | ⟨4, _⟩ => exact load4 arg9 harg9 x7 4 _ p a
    | ⟨5, _⟩ => exact load4 arg9 harg9 x7 5 _ p a
    | ⟨6, _⟩ => exact load4 arg9 harg9 x7 6 _ p a
    | ⟨7, _⟩ => exact load4 arg9 harg9 x7 7 _ p a

end

end State

end
-- ==== Proof.StateBlocks.lean ====
/-
  The call that continues the short sequences: the blocks its points read, from the arguments, and the states they leave.
-/
module

public import proofs.«01_k».proof.Proof.StatePoint
public import Idealize.ShloMosaic.Lib.Claim
public import Idealize.ShloMosaic.Lib.Pipeline.Value
public import Idealize.ShloMosaic.Lib.Pipeline.ValueKit.Point

@[expose] public section

noncomputable section

namespace State

open Idealize.ShloMosaic Idealize.ShloMosaic.TcCoe Idealize.SL.Sem Cert.StateIdeal Cert.StateIdeal.Gen
open Idealize.ShloMosaic.Tactic

set_option maxRecDepth 16384

/-- A stream's state of a head after its sixteen rows, from the call's arguments. -/
def after (x : FVec Ideal S16x16x2048 .f32) (g : FVec Ideal S16x16x1024 .f32) (w : FVec Ideal S1x2048x16400 .f32)
    (S : FVec Ideal S1x16x4x256x512 .f32) (s : Fin 16) (h : Fin 4) (a : Fin 256) (b : Fin 512) : EReal :=
  left (fun n => ∑ d : Fin 2048, x (ix3 s ⟨n % 16, Nat.mod_lt _ (by omega)⟩ d) * w (ix3 0 d ⟨1024 + 256 * h.val + a.val, by omega⟩))
    (fun n => g (ix3 s ⟨n % 16, Nat.mod_lt _ (by omega)⟩ ⟨256 * h.val + a.val, by omega⟩))
    (fun n => ∑ d : Fin 2048, x (ix3 s ⟨n % 16, Nat.mod_lt _ (by omega)⟩ d) * w (ix3 0 d ⟨2048 + 512 * h.val + b.val, by omega⟩))
    (S (ix5 0 s h a b))

/-- There are eight points. -/
theorem points (t : Fin cfg0.N) : t.val < 8 := lt_of_lt_of_eq t.isLt N_0

/-- Where the blocks of a point lie. -/
theorem places : ∀ t : Fin cfg0.N, win0_0.index t = ![16, 0] ∧ win0_5.index t = ![16, t.val / 2]
    ∧ win0_7.index t = ![t.val % 2, t.val / 2, 0, 0] ∧ win0_10.index t = ![t.val % 2, t.val / 2, 0, 0] :=
  (by decide +kernel : ∀ t : Fin grid0.N, _)

/-- Where the head's weights lie, at the point that casts them. -/
theorem weight_places : ∀ t : Fin cfg0.N, t.val % 2 = 0 → win0_2.index t = ![0, 4 + t.val / 2, 0] ∧ win0_3.index t = ![0, 4 + t.val / 2, 0] :=
  (by decide +kernel : ∀ t : Fin grid0.N, _)

variable (m : (ℓ : Loc nD τ sig) → Buf (Elt Ideal) ℓ) (c : Dev nD)

/-- The arguments' contents. -/
abbrev argXm : FVec Ideal S16x2048 .f32 := m ((c : Thread nD τ).loc main_arg0)
abbrev argXs : FVec Ideal S16x16x2048 .f32 := m ((c : Thread nD τ).loc main_arg1)
abbrev argGm : FVec Ideal S16x1024 .f32 := m ((c : Thread nD τ).loc main_arg2)
abbrev argGs : FVec Ideal S16x16x1024 .f32 := m ((c : Thread nD τ).loc main_arg3)
abbrev argW : FVec Ideal S1x2048x16400 .f32 := m ((c : Thread nD τ).loc main_arg4)
abbrev argS : FVec Ideal S1x16x4x256x512 .f32 := m ((c : Thread nD τ).loc main_arg6)

/-- The rows as the host lays them out: the activations' -/
def rowsX (a : FVec Ideal S16x2048 .f32) (b : FVec Ideal S16x16x2048 .f32) : FVec Ideal S512x2048 .f32 :=
  concatenate S512x2048 0 [⟨S48x2048, broadcastInDim S48x2048 ![] bcast_S_S48x2048 (constant (F := Ideal) S_ .f32 0x00000000#32)⟩, ⟨S16x2048, a⟩,
    ⟨S256x2048, shapeCast S256x2048 b shapeCasts_S16x16x2048_S256x2048⟩, ⟨S192x2048, broadcastInDim S192x2048 ![] bcast_S_S192x2048 (constant (F := Ideal) S_ .f32 0x00000000#32)⟩]
    concatenates_S48x2048_S16x2048_S256x2048_S192x2048_S512x2048_d0

/-- and the gates'. -/
def rowsG (a : FVec Ideal S16x1024 .f32) (b : FVec Ideal S16x16x1024 .f32) : FVec Ideal S512x1024 .f32 :=
  concatenate S512x1024 0 [⟨S48x1024, broadcastInDim S48x1024 ![] bcast_S_S48x1024 (constant (F := Ideal) S_ .f32 0x00000000#32)⟩, ⟨S16x1024, a⟩,
    ⟨S256x1024, shapeCast S256x1024 b shapeCasts_S16x16x1024_S256x1024⟩, ⟨S192x1024, broadcastInDim S192x1024 ![] bcast_S_S192x1024 (constant (F := Ideal) S_ .f32 0x00000000#32)⟩]
    concatenates_S48x1024_S16x1024_S256x1024_S192x1024_S512x1024_d0

theorem rowsX_sample (a : FVec Ideal S16x2048 .f32) (b : FVec Ideal S16x16x2048 .f32) (s p : Fin 16) (d : Fin 2048) :
    rowsX a b (ix2 ⟨64 + 16 * s.val + p.val, by omega⟩ d) = b (ix3 s p d) := by
  pointwise [rowsX]
  rw [dif_neg (by omega), dif_neg (by omega), dif_pos (by omega)]
  have e : (⟨(64 + 16 * s.val + p.val - 48 - 16) / 16, by omega⟩ : Fin 16) = s := Fin.ext (by dsimp only; omega)
  have f : (⟨(64 + 16 * s.val + p.val - 48 - 16) % 16, by omega⟩ : Fin 16) = p := Fin.ext (by dsimp only; omega)
  rw [e, f]

theorem rowsG_sample (a : FVec Ideal S16x1024 .f32) (b : FVec Ideal S16x16x1024 .f32) (s p : Fin 16) (d : Fin 1024) :
    rowsG a b (ix2 ⟨64 + 16 * s.val + p.val, by omega⟩ d) = b (ix3 s p d) := by
  pointwise [rowsG]
  rw [dif_neg (by omega), dif_neg (by omega), dif_pos (by omega)]
  have e : (⟨(64 + 16 * s.val + p.val - 48 - 16) / 16, by omega⟩ : Fin 16) = s := Fin.ext (by dsimp only; omega)
  have f : (⟨(64 + 16 * s.val + p.val - 48 - 16) % 16, by omega⟩ : Fin 16) = p := Fin.ext (by dsimp only; omega)
  rw [e, f]

/-- The contents the call finds in each array it reads. -/
theorem host_x : V m c main_v5 = truncf (F := Ideal) .bf16 (pad S8704x2048 ![8192, 0] ![0, 0] ![0, 0] (rowsX (argXm m c) (argXs m c))
    (sitofp (F := Ideal) .f32 (constantI S_ 32 0#32)) pads_S512x2048_S8704x2048_819200_000 h_S_) bitsLt_bf16_f32 := by
  rfl

theorem host_g : V m c main_v11 = pad S8704x1024 ![8192, 0] ![0, 0] ![0, 0] (rowsG (argGm m c) (argGs m c))
    (sitofp (F := Ideal) .f32 (constantI S_ 32 0#32)) pads_S512x1024_S8704x1024_819200_000 h_S_ := by
  rfl

theorem host_w : V m c main_v6 = transpose S1x16400x2048 [0, 2, 1] (argW m c) transposes_S1x2048x16400_S1x16400x2048_0_2_1 := by
  rfl

theorem host_s : V m c main_v12 = shapeCast S16x4x256x512 (argS m c) shapeCasts_S1x16x4x256x512_S16x4x256x512 := by
  rfl

/-- A stream's row of the activations. -/
theorem block_x (t : Fin cfg0.N) (s p : Fin 16) (d : Fin 2048) :
    (iblk m c 0 t : FVec Ideal S512x2048 .bf16) (ix2 ⟨64 + 16 * s.val + p.val, by omega⟩ d) = argXs m c (ix3 s p d) := by
  have hp := (places t).1
  have e : ((cfg0.win 0).blk t).view.emb (ix2 ⟨64 + 16 * s.val + p.val, by omega⟩ d) = (ix2 ⟨8192 + (64 + 16 * s.val + p.val), by omega⟩ d : S8704x2048.Idx) := by
    blk_ext! [hp]
  show (V m c main_v5 : FVec Ideal S8704x2048 .bf16) (((cfg0.win 0).blk t).view.emb (ix2 ⟨64 + 16 * s.val + p.val, by omega⟩ d)) = _
  rw [e, host_x, ← rowsX_sample (argXm m c) (argXs m c)]
  generalize rowsX (argXm m c) (argXs m c) = f
  pointwise
  exact dif_pos (by omega)

/-- A stream's row of the gates, of the point's head. -/
theorem block_g (t : Fin cfg0.N) (s p : Fin 16) (a : Fin 256) :
    (iblk m c 5 t : FVec Ideal S512x256 .f32) (ix2 ⟨64 + 16 * s.val + p.val, by omega⟩ a)
      = argGs m c (ix3 s p ⟨256 * (t.val / 2) + a.val, by have := points t; omega⟩) := by
  have hp := (places t).2.1
  have ht := points t
  have e : ((cfg0.win 5).blk t).view.emb (ix2 ⟨64 + 16 * s.val + p.val, by omega⟩ a)
      = (ix2 ⟨8192 + (64 + 16 * s.val + p.val), by omega⟩ ⟨256 * (t.val / 2) + a.val, by omega⟩ : S8704x1024.Idx) := by
    blk_ext! [hp]
  show (V m c main_v11 : FVec Ideal S8704x1024 .f32) (((cfg0.win 5).blk t).view.emb (ix2 ⟨64 + 16 * s.val + p.val, by omega⟩ a)) = _
  rw [e, host_g, ← rowsG_sample (argGm m c) (argGs m c)]
  generalize rowsG (argGm m c) (argGs m c) = f
  pointwise
  exact dif_pos (by omega)

/-- The states of the point's streams and head. -/
theorem block_s (t : Fin cfg0.N) (s : Fin 8) (a : Fin 256) (b : Fin 512) :
    (iblk m c 7 t : FVec Ideal S8x1x256x512 .f32) (ix4 s 0 a b)
      = argS m c (ix5 0 ⟨8 * (t.val % 2) + s.val, by omega⟩ ⟨t.val / 2, by have := points t; omega⟩ a b) := by
  have hp := (places t).2.2.1
  have ht := points t
  have e : ((cfg0.win 7).blk t).view.emb (ix4 s 0 a b)
      = (ix4 ⟨8 * (t.val % 2) + s.val, by omega⟩ ⟨t.val / 2, by omega⟩ a b : S16x4x256x512.Idx) := by
    blk_ext! [hp]
  show (V m c main_v12 : FVec Ideal S16x4x256x512 .f32) (((cfg0.win 7).blk t).view.emb (ix4 s 0 a b)) = _
  rw [e, host_s]
  pointwise

/-- The head's key weights. -/
theorem block_k (t : Fin cfg0.N) (h : t.val % 2 = 0) (j : Fin 256) (d : Fin 2048) :
    (X0_2 m c t : FVec Ideal S1x256x2048 .f32) (ix3 0 j d) = argW m c (ix3 0 d ⟨1024 + 256 * (t.val / 2) + j.val, by have := points t; omega⟩) := by
  have hp := (weight_places t h).1
  have ht := points t
  have e : ∀ y : ((cfg0.win 2).xblock (cfg0.grid.coords t)).Idx, (y 1).val = j.val → (y 2).val = d.val →
      ((cfg0.win 2).blk t).view.emb y = (ix3 0 ⟨1024 + 256 * (t.val / 2) + j.val, by omega⟩ d : S1x16400x2048.Idx) := by
    intro y e1 e2
    have h1 : win0_2.index t (1 : Fin 3) = 4 + t.val / 2 := congrFun hp 1
    have h2 : win0_2.index t (2 : Fin 3) = 0 := congrFun hp 2
    funext a
    apply Fin.ext
    match a with
    | ⟨0, _⟩ => exact (Nat.lt_one_iff.mp (Fin.isLt _)).trans (Nat.lt_one_iff.mp (Fin.isLt _)).symm
    | ⟨1, _⟩ =>
      show win0_2.index t (1 : Fin 3) * 256 + 1 * (y 1).val = 1024 + 256 * (t.val / 2) + j.val
      omega
    | ⟨2, _⟩ =>
      show win0_2.index t (2 : Fin 3) * 2048 + 1 * (y 2).val = d.val
      omega
  unfold X0_2 Pipeline.Window.fill
  rw [dif_pos (moved0_2 t _)]
  show (V m c main_v6 : FVec Ideal S1x16400x2048 .f32) (((cfg0.win 2).blk t).view.emb _) = _
  rw [e _ rfl rfl, host_w]
  pointwise

/-- The head's value weights. -/
theorem block_v (t : Fin cfg0.N) (h : t.val % 2 = 0) (j : Fin 512) (d : Fin 2048) :
    (X0_3 m c t : FVec Ideal S1x512x2048 .f32) (ix3 0 j d) = argW m c (ix3 0 d ⟨2048 + 512 * (t.val / 2) + j.val, by have := points t; omega⟩) := by
  have hp := (weight_places t h).2
  have ht := points t
  have e : ∀ y : ((cfg0.win 3).xblock (cfg0.grid.coords t)).Idx, (y 1).val = j.val → (y 2).val = d.val →
      ((cfg0.win 3).blk t).view.emb y = (ix3 0 ⟨2048 + 512 * (t.val / 2) + j.val, by omega⟩ d : S1x16400x2048.Idx) := by
    intro y e1 e2
    have h1 : win0_3.index t (1 : Fin 3) = 4 + t.val / 2 := congrFun hp 1
    have h2 : win0_3.index t (2 : Fin 3) = 0 := congrFun hp 2
    funext a
    apply Fin.ext
    match a with
    | ⟨0, _⟩ => exact (Nat.lt_one_iff.mp (Fin.isLt _)).trans (Nat.lt_one_iff.mp (Fin.isLt _)).symm
    | ⟨1, _⟩ =>
      show win0_3.index t (1 : Fin 3) * 512 + 1 * (y 1).val = 2048 + 512 * (t.val / 2) + j.val
      omega
    | ⟨2, _⟩ =>
      show win0_3.index t (2 : Fin 3) * 2048 + 1 * (y 2).val = d.val
      omega
  unfold X0_3 Pipeline.Window.fill
  rw [dif_pos (moved0_3 t _)]
  show (V m c main_v6 : FVec Ideal S1x16400x2048 .f32) (((cfg0.win 3).blk t).view.emb _) = _
  rw [e _ rfl rfl, host_w]
  pointwise

/-! ## A point's projections and states -/

theorem projAt_keys (t : Fin cfg0.N) (h : t.val % 2 = 0) (s p : Fin 16) (a : Fin 256) :
    (Exact.projAt (F := Ideal) m c t h : FVec Ideal S512x1536 .f32) (ix2 ⟨64 + 16 * s.val + p.val, by omega⟩ ⟨256 + a.val, by omega⟩)
      = ∑ d : Fin 2048, argXs m c (ix3 s p d) * argW m c (ix3 0 d ⟨1024 + 256 * (t.val / 2) + a.val, by have := points t; omega⟩) := by
  unfold Exact.projAt
  rw [proj_keys]
  exact Finset.sum_congr rfl fun d _ => congrArg₂ (· * ·) (block_x m c t s p d) (block_k m c t h a d)

theorem projAt_values (t : Fin cfg0.N) (h : t.val % 2 = 0) (s p : Fin 16) (b : Fin 512) :
    (Exact.projAt (F := Ideal) m c t h : FVec Ideal S512x1536 .f32) (ix2 ⟨64 + 16 * s.val + p.val, by omega⟩ ⟨512 + b.val, by omega⟩)
      = ∑ d : Fin 2048, argXs m c (ix3 s p d) * argW m c (ix3 0 d ⟨2048 + 512 * (t.val / 2) + b.val, by have := points t; omega⟩) := by
  unfold Exact.projAt
  rw [proj_values]
  exact Finset.sum_congr rfl fun d _ => congrArg₂ (· * ·) (block_x m c t s p d) (block_v m c t h b d)

/-- The states a first half leaves, -/
theorem states_even (t : Fin cfg0.N) (h : t.val % 2 = 0) (s : Fin 8) (a : Fin 256) (b : Fin 512) :
    (Exact.statesAt (F := Ideal) m c t : FVec Ideal S8x1x256x512 .f32) (ix4 s 0 a b)
      = after (argXs m c) (argGs m c) (argW m c) (argS m c) ⟨8 * (t.val % 2) + s.val, by omega⟩ ⟨t.val / 2, by have := points t; omega⟩ a b := by
  have ht := points t
  have e : (⟨8 * (t.val % 2) + s.val, by omega⟩ : Fin 16) = ⟨s.val, by omega⟩ := Fin.ext (by dsimp only; omega)
  rw [show Exact.statesAt (F := Ideal) m c t = Exact.statesFirst m c t h from dif_pos h]
  unfold Exact.statesFirst
  rw [first_apply]
  unfold leftAt after
  rw [block_s, e]
  have K : (fun n => (Exact.projAt (F := Ideal) m c t h : FVec Ideal S512x1536 .f32) (ix2 ⟨64 + 16 * s.val + n % 16, by omega⟩ ⟨256 + a.val, by omega⟩)) = _ :=
    funext fun n => projAt_keys m c t h ⟨s.val, by omega⟩ ⟨n % 16, Nat.mod_lt _ (by omega)⟩ a
  have W : (fun n => (Exact.projAt (F := Ideal) m c t h : FVec Ideal S512x1536 .f32) (ix2 ⟨64 + 16 * s.val + n % 16, by omega⟩ ⟨512 + b.val, by omega⟩)) = _ :=
    funext fun n => projAt_values m c t h ⟨s.val, by omega⟩ ⟨n % 16, Nat.mod_lt _ (by omega)⟩ b
  have Y : (fun n => (iblk m c 5 t : FVec Ideal S512x256 .f32) (ix2 ⟨64 + 16 * s.val + n % 16, by omega⟩ a)) = _ :=
    funext fun n => block_g m c t ⟨s.val, by omega⟩ ⟨n % 16, Nat.mod_lt _ (by omega)⟩ a
  unfold Exact.projAt at K W
  rw [K, W, Y]

theorem row_second (s : Fin 8) (n : ℕ) : (⟨192 + 16 * s.val + n % 16, by omega⟩ : Fin 512) = ⟨64 + 16 * (8 + s.val) + n % 16, by omega⟩ :=
  Fin.ext (by dsimp only; omega)

/-- and a second half. -/
theorem states_odd (t : Fin cfg0.N) (h : ¬t.val % 2 = 0) (s : Fin 8) (a : Fin 256) (b : Fin 512) :
    (Exact.statesAt (F := Ideal) m c t : FVec Ideal S8x1x256x512 .f32) (ix4 s 0 a b)
      = after (argXs m c) (argGs m c) (argW m c) (argS m c) ⟨8 * (t.val % 2) + s.val, by omega⟩ ⟨t.val / 2, by have := points t; omega⟩ a b := by
  have ht := points t
  have e : (⟨8 * (t.val % 2) + s.val, by omega⟩ : Fin 16) = ⟨8 + s.val, by omega⟩ := Fin.ext (by dsimp only; omega)
  have hq : (Exact.prev t).val % 2 = 0 := by
    dsimp only
    omega
  have hh : (Exact.prev t).val / 2 = t.val / 2 := by
    dsimp only
    omega
  rw [show Exact.statesAt (F := Ideal) m c t = Exact.statesSecond m c t h (Exact.projAt m c (Exact.prev t) hq) from dif_neg h]
  unfold Exact.statesSecond
  rw [second_apply]
  unfold leftAt after
  rw [block_s, e]
  have K : (fun n => (Exact.projAt (F := Ideal) m c (Exact.prev t) hq : FVec Ideal S512x1536 .f32) (ix2 ⟨192 + 16 * s.val + n % 16, by omega⟩ ⟨256 + a.val, by omega⟩))
      = fun n => ∑ d : Fin 2048, argXs m c (ix3 ⟨8 + s.val, by omega⟩ ⟨n % 16, Nat.mod_lt _ (by omega)⟩ d)
          * argW m c (ix3 0 d ⟨1024 + 256 * (t.val / 2) + a.val, by omega⟩) := by
    funext n
    rw [row_second]
    refine (projAt_keys m c (Exact.prev t) hq ⟨8 + s.val, by omega⟩ ⟨n % 16, Nat.mod_lt _ (by omega)⟩ a).trans ?_
    simp only [hh]
  have W : (fun n => (Exact.projAt (F := Ideal) m c (Exact.prev t) hq : FVec Ideal S512x1536 .f32) (ix2 ⟨192 + 16 * s.val + n % 16, by omega⟩ ⟨512 + b.val, by omega⟩))
      = fun n => ∑ d : Fin 2048, argXs m c (ix3 ⟨8 + s.val, by omega⟩ ⟨n % 16, Nat.mod_lt _ (by omega)⟩ d)
          * argW m c (ix3 0 d ⟨2048 + 512 * (t.val / 2) + b.val, by omega⟩) := by
    funext n
    rw [row_second]
    refine (projAt_values m c (Exact.prev t) hq ⟨8 + s.val, by omega⟩ ⟨n % 16, Nat.mod_lt _ (by omega)⟩ b).trans ?_
    simp only [hh]
  have Y : (fun n => (iblk m c 5 t : FVec Ideal S512x256 .f32) (ix2 ⟨192 + 16 * s.val + n % 16, by omega⟩ a))
      = fun n => argGs m c (ix3 ⟨8 + s.val, by omega⟩ ⟨n % 16, Nat.mod_lt _ (by omega)⟩ ⟨256 * (t.val / 2) + a.val, by omega⟩) := by
    funext n
    rw [row_second]
    exact block_g m c t ⟨8 + s.val, by omega⟩ ⟨n % 16, Nat.mod_lt _ (by omega)⟩ a
  rw [K, W, Y]

/-- The array of the states, block by block. -/
theorem disjoint10 : ∀ t t' : Fin cfg0.N, (cfg0.win 10).flush t = true → (cfg0.win 10).flush t' = true → t ≠ t' →
    Disjoint ((cfg0.win 10).blk t).view.set ((cfg0.win 10).blk t').view.set :=
  fun t t' _ _ hne => (cfg0.win 10).disjoint_blk fun h =>
    hne ((by decide +kernel : ∀ t t' : Fin grid0.N, win0_10.index t = win0_10.index t' → t = t') t t' h)

theorem flushed : ∀ t : Fin cfg0.N, (cfg0.win 10).flush t = true :=
  (by decide +kernel : ∀ t : Fin grid0.N, (cfg0.win 10).flush t = true)

theorem array10 (s : Fin 16) (h : Fin 4) (a : Fin 256) (b : Fin 512) :
    (Exact.dats (F := Ideal) m 0 c).arrAt 10 cfg0.N (ix4 s h a b) = after (argXs m c) (argGs m c) (argW m c) (argS m c) s h a b := by
  obtain ⟨t, ht⟩ : ∃ t : Fin cfg0.N, t.val = 2 * h.val + s.val / 8 := ⟨⟨2 * h.val + s.val / 8, lt_of_lt_of_eq (by omega) N_0.symm⟩, rfl⟩
  have k := congrFun ((Exact.dats (F := Ideal) m 0 c).read_blk_arrAt_eq_flushed 10 disjoint10 cfg0.N t t.isLt (flushed t)) (ix4 ⟨s.val % 8, by omega⟩ 0 a b)
  have e : ((cfg0.win 10).blk t).view.emb (ix4 ⟨s.val % 8, by omega⟩ 0 a b) = (ix4 s h a b : S16x4x256x512.Idx) := by
    have hp := (places t).2.2.2
    blk_ext! [hp]
  refine Eq.trans (congrArg _ e.symm) (k.trans ?_)
  show (cfg0.win 10).cut (grid0.coords t) ((Exact.dats (F := Ideal) m 0 c).after 10 t) _ = _
  rw [Exact.after_10]
  show (Exact.statesAt (F := Ideal) m c t : FVec Ideal S8x1x256x512 .f32) (ix4 ⟨s.val % 8, by omega⟩ 0 a b) = _
  have es : (⟨8 * (t.val % 2) + s.val % 8, by omega⟩ : Fin 16) = s := Fin.ext (by dsimp only; omega)
  have eh : (⟨t.val / 2, by omega⟩ : Fin 4) = h := Fin.ext (by dsimp only; omega)
  by_cases hc : t.val % 2 = 0
  · rw [states_even m c t hc]
    dsimp only
    rw [es, eh]
  · rw [states_odd m c t hc]
    dsimp only
    rw [es, eh]

end State

end
-- ==== Proof.StateClaims.lean ====
/-
  The call that continues the short sequences leaves the states its reference names.
-/
module

public import proofs.«01_k».proof.Proof.StateBlocks
public import proofs.«01_k».proof.Proof.Running
public import proofs.«01_k».proof.Proof.Gen.StateReferenceIdeal.Run
public import proofs.«01_k».proof.Defs

@[expose] public section

noncomputable section

namespace State

open Idealize.ShloMosaic Idealize.ShloMosaic.TcCoe Idealize.SL.Sem

set_option maxRecDepth 16384

section Reference

open Cert.StateReferenceIdeal Cert.StateReferenceIdeal.Gen

/-- The last `i + 1` of sixteen places are the first `i + 1` numbers. -/
theorem last_places (f : ℕ → EReal) (i : Fin 16) :
    ∑ k : Fin 16, (if 15 ≤ i.val + k.val then f (i.val + k.val - 15) else 0) = acc f i.val := by
  unfold acc
  rw [Fin.sum_univ_eq_sum_range (fun k => if 15 ≤ i.val + k then f (i.val + k - 15) else 0) 16,
    Fin.sum_univ_eq_sum_range (fun k => if k ≤ i.val then f k else 0) 16]
  have e : 16 = (15 - i.val) + (i.val + 1) := by omega
  have e' : 16 = (i.val + 1) + (15 - i.val) := by omega
  refine Eq.trans (congrArg (fun n => ∑ k ∈ Finset.range n, (if 15 ≤ i.val + k then f (i.val + k - 15) else 0)) e)
    (Eq.trans ?_ (congrArg (fun n => ∑ k ∈ Finset.range n, (if k ≤ i.val then f k else 0)) e').symm)
  rw [Finset.sum_range_add _ (15 - i.val) (i.val + 1), Finset.sum_range_add _ (i.val + 1) (15 - i.val)]
  have z : ∑ k ∈ Finset.range (15 - i.val), (if 15 ≤ i.val + k then f (i.val + k - 15) else 0) = 0 := by
    apply Finset.sum_eq_zero
    intro k hk
    rw [Finset.mem_range] at hk
    rw [if_neg (by omega)]
  have z' : ∑ k ∈ Finset.range (15 - i.val), (if i.val + 1 + k ≤ i.val then f (i.val + 1 + k) else 0) = 0 := by
    apply Finset.sum_eq_zero
    intro k hk
    rw [if_neg (by omega)]
  rw [z, z', zero_add, add_zero]
  apply Finset.sum_congr rfl
  intro k hk
  rw [Finset.mem_range] at hk
  rw [if_pos (by omega), if_pos (by omega)]
  congr 1
  omega

/-- The running sum along sixteen rows. -/
theorem summed_rows (x : FVec Ideal S16x4x16x256 .f32) (init : FVec Ideal S_ .f32) (hu : 0 < S_.numel) (h0 : init (Shape.Idx.first hu) = 0)
    (h : S16x4x16x256.ReduceWindows ![1, 1, 16, 1] ![1, 1, 1, 1] ![0, 0, 15, 0] ![0, 0, 0, 0] S16x4x16x256)
    (s : Fin 16) (d : Fin 4) (a : Fin 256) (i : Fin 16) :
    Host.reduceWindowAdd ![1, 1, 16, 1] ![1, 1, 1, 1] ![0, 0, 15, 0] ![0, 0, 0, 0] x init h hu (ix4 s d i a)
      = acc (fun n => x (ix4 s d ⟨n % 16, Nat.mod_lt _ (by omega)⟩ a)) i.val := by
  show Host.reduceWindow (· + ·) ![1, 1, 16, 1] ![1, 1, 1, 1] ![0, 0, 15, 0] ![0, 0, 0, 0] x
    (fun _ : (⟨0, ![]⟩ : Shape).Idx => init (Shape.Idx.first hu)) h hu (ix4 s d i a) = _
  unfold Host.reduceWindow
  dsimp only
  rw [Gla.fold_add, h0, zero_add, ← Fin.sum_univ_def]
  refine (Equiv.sum_comp (Shape.rowMajor ⟨4, ![1, 1, 16, 1]⟩) _).symm.trans ?_
  simp only [Equiv.symm_apply_apply]
  refine (sum_idx4 _).trans ?_
  rw [Fin.sum_univ_one, Fin.sum_univ_one, ← last_places]
  apply Finset.sum_congr rfl
  intro k _
  rw [Fin.sum_univ_one]
  split
  · next hin =>
    have h2 := hin 2
    change 15 ≤ i.val * 1 + k.val ∧ i.val * 1 + k.val - 15 < 16 at h2
    rw [if_pos (by omega)]
    refine congrArg x (funext fun b => Fin.ext ?_)
    match b with
    | ⟨0, _⟩ => show s.val * 1 + 0 - 0 = s.val; omega
    | ⟨1, _⟩ => show d.val * 1 + 0 - 0 = d.val; omega
    | ⟨2, _⟩ => show i.val * 1 + k.val - 15 = (i.val + k.val - 15) % 16; omega
    | ⟨3, _⟩ => show a.val * 1 + 0 - 0 = a.val; omega
  · next hin =>
    rw [if_neg]
    intro hc
    apply hin
    intro b
    have hi := i.isLt
    have hk := k.isLt
    have hs := s.isLt
    have hd := d.isLt
    have ha := a.isLt
    match b with
    | ⟨0, _⟩ => show 0 ≤ s.val * 1 + 0 ∧ s.val * 1 + 0 - 0 < 16; omega
    | ⟨1, _⟩ => show 0 ≤ d.val * 1 + 0 ∧ d.val * 1 + 0 - 0 < 4; omega
    | ⟨2, _⟩ => show 15 ≤ i.val * 1 + k.val ∧ i.val * 1 + k.val - 15 < 16; omega
    | ⟨3, _⟩ => show 0 ≤ a.val * 1 + 0 ∧ a.val * 1 + 0 - 0 < 256; omega

/-- The reference's terms: the gates' running sum, -/
def sums (g : FVec Ideal S16x16x1024 .f32) : FVec Ideal S16x4x16x256 .f32 :=
  Host.reduceWindowAdd ![1, 1, 16, 1] ![1, 1, 1, 1] ![0, 0, 15, 0] ![0, 0, 0, 0] (transpose S16x4x16x256 [0, 2, 1, 3] (shapeCast S16x16x4x256 g shapeCasts_S16x16x1024_S16x16x4x256) transposes_S16x16x4x256_S16x4x16x256_0_2_1_3)
    (broadcastInDim S_ ![] bcast_S_S_ (constant S_ .f32 0x00000000#32)) reduceWindows_S16x4x16x256_S16x4x16x256_w1s1p0_0_w1s1p0_0_w16s1p15_0_w1s1p0_0 h_S_

/-- the keys and values, side by side, -/
def product (x : FVec Ideal S16x16x2048 .f32) (w : FVec Ideal S1x2048x16400 .f32) : FVec Ideal S16x16x3072 .f32 :=
  Host.dotGeneral dot_S16x16x2048_S2048x3072_S16x16x3072_2_0_01_1_n_n none x (shapeCast S2048x3072 (extractStridedSlice S1x2048x3072 ![0, 0, 1024] w slices_S1x2048x16400_S1x2048x3072_0_0_1024) shapeCasts_S1x2048x3072_S2048x3072)

/-- a head's keys -/
def keys (D : FVec Ideal S16x16x3072 .f32) : FVec Ideal S16x4x16x256 .f32 :=
  transpose S16x4x16x256 [0, 2, 1, 3] (shapeCast S16x16x4x256 (extractStridedSlice S16x16x1024 ![0, 0, 0] D slices_S16x16x3072_S16x16x1024_0_0_0) shapeCasts_S16x16x1024_S16x16x4x256) transposes_S16x16x4x256_S16x4x16x256_0_2_1_3

/-- and values, -/
def vals (D : FVec Ideal S16x16x3072 .f32) : FVec Ideal S16x4x16x512 .f32 :=
  transpose S16x4x16x512 [0, 2, 1, 3] (shapeCast S16x16x4x512 (extractStridedSlice S16x16x2048 ![0, 0, 1024] D slices_S16x16x3072_S16x16x2048_0_0_1024) shapeCasts_S16x16x2048_S16x16x4x512) transposes_S16x16x4x512_S16x4x16x512_0_2_1_3

/-- and the states it leaves. -/
def states (B K : FVec Ideal S16x4x16x256 .f32) (Z : FVec Ideal S16x4x16x512 .f32) (S : FVec Ideal S1x16x4x256x512 .f32) : FVec Ideal S16x4x256x512 .f32 :=
  addf (mulf (broadcastInDim S16x4x256x512 ![0, 1, 2, 3] bcast_S16x4x256x1_S16x4x256x512_0_1_2_3 (broadcastInDim S16x4x256x1 ![0, 1, 2] bcast_S16x4x256_S16x4x256x1_0_1_2
      (Host.exp (shapeCast S16x4x256 (extractStridedSlice S16x4x1x256 ![0, 0, 15, 0] B slices_S16x4x16x256_S16x4x1x256_0_0_15_0) shapeCasts_S16x4x1x256_S16x4x256))))
      (shapeCast S16x4x256x512 S shapeCasts_S1x16x4x256x512_S16x4x256x512))
    (Host.dotGeneral dot_S16x4x16x256_S16x4x16x512_S16x4x256x512_2_2_3_3_01_01 none
      (mulf K (Host.exp (subf (broadcastInDim S16x4x16x256 ![0, 1, 2, 3] bcast_S16x4x1x256_S16x4x16x256_0_1_2_3 (extractStridedSlice S16x4x1x256 ![0, 0, 15, 0] B slices_S16x4x16x256_S16x4x1x256_0_0_15_0)) B))) Z)

theorem turned (g : FVec Ideal S16x16x1024 .f32) (s : Fin 16) (h : Fin 4) (p : Fin 16) (a : Fin 256) :
    (transpose S16x4x16x256 [0, 2, 1, 3] (shapeCast S16x16x4x256 g shapeCasts_S16x16x1024_S16x16x4x256) transposes_S16x16x4x256_S16x4x16x256_0_2_1_3 : FVec Ideal S16x4x16x256 .f32) (ix4 s h p a)
      = g (ix3 s p ⟨256 * h.val + a.val, by omega⟩) := by
  have e : (⟨h.val * 256 + a.val, by omega⟩ : Fin 1024) = ⟨256 * h.val + a.val, by omega⟩ := Fin.ext (by dsimp only; omega)
  rw [← e]
  pointwise

theorem turned_values (g : FVec Ideal S16x16x2048 .f32) (s : Fin 16) (h : Fin 4) (p : Fin 16) (b : Fin 512) :
    (transpose S16x4x16x512 [0, 2, 1, 3] (shapeCast S16x16x4x512 g shapeCasts_S16x16x2048_S16x16x4x512) transposes_S16x16x4x512_S16x4x16x512_0_2_1_3 : FVec Ideal S16x4x16x512 .f32) (ix4 s h p b)
      = g (ix3 s p ⟨512 * h.val + b.val, by omega⟩) := by
  have e : (⟨h.val * 512 + b.val, by omega⟩ : Fin 2048) = ⟨512 * h.val + b.val, by omega⟩ := Fin.ext (by dsimp only; omega)
  rw [← e]
  pointwise

theorem product_apply (x : FVec Ideal S16x16x2048 .f32) (w : FVec Ideal S1x2048x16400 .f32) (s p : Fin 16) (k : Fin 3072) :
    product x w (ix3 s p k) = ∑ d : Fin 2048, x (ix3 s p d) * w (ix3 0 d ⟨1024 + k.val, by omega⟩) := by
  pointwise [product]

theorem keys_apply (x : FVec Ideal S16x16x2048 .f32) (w : FVec Ideal S1x2048x16400 .f32) (s : Fin 16) (h : Fin 4) (p : Fin 16) (a : Fin 256) :
    keys (product x w) (ix4 s h p a) = ∑ d : Fin 2048, x (ix3 s p d) * w (ix3 0 d ⟨1024 + 256 * h.val + a.val, by omega⟩) := by
  unfold keys
  rw [turned]
  have k : (extractStridedSlice S16x16x1024 ![0, 0, 0] (product x w) slices_S16x16x3072_S16x16x1024_0_0_0 : FVec Ideal S16x16x1024 .f32) (ix3 s p ⟨256 * h.val + a.val, by omega⟩)
      = product x w (ix3 s p ⟨256 * h.val + a.val, by omega⟩) := by
    generalize product x w = f
    pointwise
  rw [k, product_apply]
  refine Finset.sum_congr rfl fun d _ => congrArg (fun r => x (ix3 s p d) * w (ix3 0 d r)) (Fin.ext ?_)
  dsimp only
  omega

theorem vals_apply (x : FVec Ideal S16x16x2048 .f32) (w : FVec Ideal S1x2048x16400 .f32) (s : Fin 16) (h : Fin 4) (p : Fin 16) (b : Fin 512) :
    vals (product x w) (ix4 s h p b) = ∑ d : Fin 2048, x (ix3 s p d) * w (ix3 0 d ⟨2048 + 512 * h.val + b.val, by omega⟩) := by
  unfold vals
  rw [turned_values]
  have k : (extractStridedSlice S16x16x2048 ![0, 0, 1024] (product x w) slices_S16x16x3072_S16x16x2048_0_0_1024 : FVec Ideal S16x16x2048 .f32) (ix3 s p ⟨512 * h.val + b.val, by omega⟩)
      = product x w (ix3 s p ⟨1024 + (512 * h.val + b.val), by omega⟩) := by
    generalize product x w = f
    pointwise
  rw [k, product_apply]
  refine Finset.sum_congr rfl fun d _ => congrArg (fun r => x (ix3 s p d) * w (ix3 0 d r)) (Fin.ext ?_)
  dsimp only
  omega

theorem sums_apply (g : FVec Ideal S16x16x1024 .f32) (s : Fin 16) (h : Fin 4) (p : Fin 16) (a : Fin 256) :
    sums g (ix4 s h p a) = acc (fun n => g (ix3 s ⟨n % 16, Nat.mod_lt _ (by omega)⟩ ⟨256 * h.val + a.val, by omega⟩)) p.val := by
  unfold sums
  refine (summed_rows _ _ _ ?_ _ s h a p).trans (congrArg (fun f => acc f p.val) (funext fun n => turned g s h _ a))
  pointwise [Ideal.ofBits_zero_f32]

theorem states_apply (B K : FVec Ideal S16x4x16x256 .f32) (Z : FVec Ideal S16x4x16x512 .f32) (S : FVec Ideal S1x16x4x256x512 .f32)
    (s : Fin 16) (h : Fin 4) (a : Fin 256) (b : Fin 512) :
    states B K Z S (ix4 s h a b) = Ideal.exp (B (ix4 s h 15 a)) * S (ix5 0 s h a b)
      + ∑ p : Fin 16, (K (ix4 s h p a) * Ideal.exp (B (ix4 s h 15 a) - B (ix4 s h p a))) * Z (ix4 s h p b) := by
  pointwise [states]

/-- The reference's states, entry by entry. -/
theorem reference_states (x : FVec Ideal S16x16x2048 .f32) (g : FVec Ideal S16x16x1024 .f32) (w : FVec Ideal S1x2048x16400 .f32)
    (S : FVec Ideal S1x16x4x256x512 .f32) (s : Fin 16) (h : Fin 4) (a : Fin 256) (b : Fin 512) :
    states (sums g) (keys (product x w)) (vals (product x w)) S (ix4 s h a b) = after x g w S s h a b := by
  rw [states_apply]
  unfold after left
  rw [sums_apply]
  refine congrArg₂ (· + ·) rfl (Finset.sum_congr rfl fun p _ => ?_)
  have e : (⟨p.val % 16, Nat.mod_lt _ (by omega)⟩ : Fin 16) = p := Fin.ext (Nat.mod_eq_of_lt p.isLt)
  dsimp only
  rw [sums_apply, keys_apply, vals_apply, e]
  rfl

end Reference

section Run

open Cert.StateIdeal Cert.StateIdeal.Gen

/-- The kernel's run: the states, and its arguments as they were. -/
theorem state_computes : Cert.algebraic_StateIdeal_StateReferenceIdeal := by
  intro m g m' g' _ hargs
  refine ⟨fun c => (Exact.dats (F := Ideal) m 0 c).arrAt 10 cfg0.N, ?_, ?_⟩
  · refine (θ_run _ _ _).mono (fun r h c => ?_) (θ_run_and (Exact.run_states m g) (Exact.run_frame m g))
    exact ⟨h.1 c, h.2.1 c⟩
  · refine (θ_run _ _ _).mono (fun r h c => ?_) (Cert.StateReferenceIdeal.Value.run m' g')
    obtain ⟨h0, h1, h2, h3, h4, h5, h6⟩ := hargs c
    obtain ⟨r0, rest⟩ := h c
    refine ⟨r0.trans ?_, rest⟩
    rw [h1, h3, h4, h6]
    funext i
    obtain ⟨s, d, a, b, rfl⟩ : ∃ (s : Fin 16) (d : Fin 4) (a : Fin 256) (b : Fin 512), i = ix4 s d a b := ⟨i 0, i 1, i 2, i 3, eq_ix4 i⟩
    exact (reference_states (argXs m c) (argGs m c) (argW m c) (argS m c) s d a b).trans (array10 m c s d a b).symm

end Run

/-- The reference runs and leaves its arguments as they were. -/
theorem state_reference_runs : Cert.quiescent_StateReferenceIdeal := fun m g _ =>
  (θ_run Cert.StateReferenceIdeal.defs _ _).mono (fun r h => ⟨fun c => (h c).2, sem_eq_zero_of_no_sems (by decide) r.2⟩)
    (Cert.StateReferenceIdeal.Value.run m g)

end State

end
-- ==== Proof.Frames.lean ====
/-
  Two calls as they run on the machine: their program is the idealization's text, so its run, over any floats, is theirs.
-/
module

public import proofs.«01_k».proof.Defs
public import proofs.«01_k».proof.Proof.StateIdealRun
public import proofs.«01_k».proof.Proof.DownIdealRun
public import proofs.«01_k».proof.Proof.Gen.State
public import proofs.«01_k».proof.Proof.Gen.Down

@[expose] public section

noncomputable section

namespace Machine

open Idealize.ShloMosaic Idealize.SL.Sem

/-- The call of the streams' states: the body table, -/
theorem state_bodies : Cert.State.defs₀ (F := Bits) = Cert.StateIdeal.defs₀ (F := Bits) :=
  congrArg Defs.onTc (funext fun l => match l with
    | ⟨0, _⟩ => rfl
    | ⟨_ + 1, h⟩ => absurd h (Nat.not_lt.2 (Nat.le_add_left _ _)))

/-- the definitions, -/
theorem state_defs : Cert.State.defs (F := Bits) = Cert.StateIdeal.defs (F := Bits) :=
  congrArg (Pipeline.defs (Cert.State.pcfgs (F := Bits))) state_bodies

/-- and the frame. -/
theorem state_frame : Cert.quiescent_State := fun m g _ =>
  ((congrArg (fun d => θ_run d (onTc (τ := Cert.State.τ) (Cert.State.main (F := Bits))) ⟨m, fun _ => 0, g⟩ _) state_defs).symm).mp
    (State.Exact.run_frame (F := Bits) m g)

/-- The call of the projection back: the body table, -/
theorem down_bodies : Cert.Down.defs₀ (F := Bits) = Cert.DownIdeal.defs₀ (F := Bits) :=
  congrArg Defs.onTc (funext fun l => match l with
    | ⟨0, _⟩ => rfl
    | ⟨_ + 1, h⟩ => absurd h (Nat.not_lt.2 (Nat.le_add_left _ _)))

/-- the definitions, -/
theorem down_defs : Cert.Down.defs (F := Bits) = Cert.DownIdeal.defs (F := Bits) :=
  congrArg (Pipeline.defs (Cert.Down.pcfgs (F := Bits))) down_bodies

/-- and the frame. -/
theorem down_frame : Cert.quiescent_Down := fun m g _ =>
  ((congrArg (fun d => θ_run d (onTc (τ := Cert.Down.τ) (Cert.Down.main (F := Bits))) ⟨m, fun _ => 0, g⟩ _) down_defs).symm).mp
    (Down.Exact.run_frame (F := Bits) m g)

end Machine

end
-- ==== Proof.lean ====
/-
  The proof of the certificate: the programs run and leave their arguments as they were, the idealizations change nothing,
  and each call computes its reference's function, the attention's of finite arguments.
-/
module

public import proofs.«01_k».proof.Defs
public import proofs.«01_k».proof.Proof.Claims
public import proofs.«01_k».proof.Proof.UpClaims
public import proofs.«01_k».proof.Proof.MixClaims
public import proofs.«01_k».proof.Proof.DownClaims
public import proofs.«01_k».proof.Proof.OutClaims
public import proofs.«01_k».proof.Proof.TailClaims
public import proofs.«01_k».proof.Proof.StateClaims
public import proofs.«01_k».proof.Proof.Frames
public import proofs.«01_k».proof.Proof.Gen.Up.Frame
public import proofs.«01_k».proof.Proof.Gen.Mix.Frame
public import proofs.«01_k».proof.Proof.Gen.Out.Frame
public import proofs.«01_k».proof.Proof.Gen.Tail.Frame

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.Up.Gen.facts, Cert.UpIdeal.Gen.facts, Cert.UpReferenceIdeal.Gen.facts,
    Cert.Down.Gen.facts, Cert.DownIdeal.Gen.facts, Cert.DownReferenceIdeal.Gen.facts,
    Cert.Mix.Gen.facts, Cert.MixIdeal.Gen.facts, Cert.MixReferenceIdeal.Gen.facts,
    Cert.Out.Gen.facts, Cert.OutIdeal.Gen.facts, Cert.OutReferenceIdeal.Gen.facts,
    Cert.Tail.Gen.facts, Cert.TailIdeal.Gen.facts, Cert.TailReferenceIdeal.Gen.facts,
    Cert.State.Gen.facts, Cert.StateIdeal.Gen.facts, Cert.StateReferenceIdeal.Gen.facts, Cert.Pre_finite.Gen.facts,
    fun m g _ => Cert.Kernel.Gen.frame m g, fun m g _ => Cert.KernelIdeal.Gen.frame m g, fun m g _ => Cert.KernelIdeal.Gen.frame m g,
    Gla.reference_runs, fun m g _ => Gla.reference_runs m g trivial,
    fun m g _ => Cert.Up.Gen.frame m g, fun m g _ => Cert.UpIdeal.Gen.frame m g, Ffn.up_reference_runs,
    Machine.down_frame, fun m g _ => Down.Exact.run_frame m g, Down.down_reference_runs,
    fun m g _ => Cert.Mix.Gen.frame m g, fun m g _ => Cert.MixIdeal.Gen.frame m g, Mix.mix_reference_runs,
    fun m g _ => Cert.Out.Gen.frame m g, fun m g _ => Cert.OutIdeal.Gen.frame m g, Out.out_reference_runs,
    fun m g _ => Cert.Tail.Gen.frame m g, fun m g _ => Cert.TailIdeal.Gen.frame m g, Tail.tail_reference_runs,
    Machine.state_frame, fun m g _ => State.Exact.run_frame m g, State.state_reference_runs,
    trivial, Gla.computes, trivial, Ffn.up_computes, trivial, Down.down_computes, trivial, Mix.mix_computes,
    trivial, Out.out_computes, trivial, Tail.tail_computes, trivial, State.state_computes⟩

end Cert.Proof

end
